-- ==== Defs.lean ====
def Pre_Kernel [hPre_counts_fit : Cert.Pre_counts_fit.Facts] (m : (ℓ : Loc Cert.Kernel.nD Cert.Kernel.τ Cert.Kernel.sig) → Buf (Elt Bits) ℓ) : Prop :=
  ∀ c : Dev Cert.Kernel.nD,
    (Cert.Pre_counts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_counts_fit : Cert.Pre_counts_fit.Facts] (m : (ℓ : Loc Cert.KernelIdeal.nD Cert.KernelIdeal.τ Cert.KernelIdeal.sig) → Buf (Elt Ideal) ℓ) : Prop :=
  ∀ c : Dev Cert.KernelIdeal.nD,
    (Cert.Pre_counts_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_blocks_valid [hPre_blocks_valid : Cert.Pre_blocks_valid.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_blocks_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_valid [hPre_blocks_valid : Cert.Pre_blocks_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_blocks_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2 = (fun _ => 1#1)

def quiescent_Kernel [hKernel : Cert.Kernel.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_blocks_valid [hKernelIdeal : Cert.KernelIdeal.Facts] [hPre_blocks_valid : Cert.Pre_blocks_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_blocks_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_blocks_valid [hReferenceIdeal : Cert.ReferenceIdeal.Facts] [hPre_blocks_valid : Cert.Pre_blocks_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_entries_counted_pre_blocks_valid [hKernelIdeal : Cert.KernelIdeal.Facts] [hReferenceIdeal : Cert.ReferenceIdeal.Facts] [hPre_blocks_valid : Cert.Pre_blocks_valid.Facts] [hOn_entries_counted : Cert.On_entries_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_blocks_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![675, 9, 40, 128]⟩ : Shape).Idx, (Cert.On_entries_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![675, 9, 40, 128]⟩ : Shape).Idx, (Cert.On_entries_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v237) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_counts_fit : Cert.Pre_counts_fit.Facts) (hPre_blocks_valid : Cert.Pre_blocks_valid.Facts) (hOn_entries_counted : Cert.On_entries_counted.Facts),
    quiescent_Kernel (hKernel := hKernel) (hPre_counts_fit := hPre_counts_fit)
    ∧ quiescent_KernelIdeal (hKernelIdeal := hKernelIdeal) (hPre_counts_fit := hPre_counts_fit)
    ∧ quiescent_KernelIdeal_pre_blocks_valid (hKernelIdeal := hKernelIdeal) (hPre_blocks_valid := hPre_blocks_valid)
    ∧ quiescent_ReferenceIdeal (hReferenceIdeal := hReferenceIdeal)
    ∧ quiescent_ReferenceIdeal_pre_blocks_valid (hReferenceIdeal := hReferenceIdeal) (hPre_blocks_valid := hPre_blocks_valid)
    ∧ preserves_Kernel_KernelIdeal
    ∧ algebraic_KernelIdeal_ReferenceIdeal_on_entries_counted_pre_blocks_valid (hKernelIdeal := hKernelIdeal) (hReferenceIdeal := hReferenceIdeal) (hPre_blocks_valid := hPre_blocks_valid) (hOn_entries_counted := hOn_entries_counted)
-- ==== On_entries_counted.lean ====
abbrev S720 : Shape := ⟨1, ![720]⟩
abbrev S9x3 : Shape := ⟨2, ![9, 3]⟩
abbrev S9 : Shape := ⟨1, ![9]⟩
abbrev S675x8x40x128 : Shape := ⟨4, ![675, 8, 40, 128]⟩
abbrev S675x2x128 : Shape := ⟨3, ![675, 2, 128]⟩
abbrev S675x3x64x128 : Shape := ⟨4, ![675, 3, 64, 128]⟩
abbrev S675x256x128 : Shape := ⟨3, ![675, 256, 128]⟩
abbrev S45x16 : Shape := ⟨2, ![45, 16]⟩
abbrev S45x15 : Shape := ⟨2, ![45, 15]⟩
abbrev S675x1x1x1 : Shape := ⟨4, ![675, 1, 1, 1]⟩
abbrev S40 : Shape := ⟨1, ![40]⟩
abbrev S40x1 : Shape := ⟨2, ![40, 1]⟩
abbrev S1x1x40x1 : Shape := ⟨4, ![1, 1, 40, 1]⟩
abbrev S675x1x40x1 : Shape := ⟨4, ![675, 1, 40, 1]⟩
abbrev S675x9x40x128 : Shape := ⟨4, ![675, 9, 40, 128]⟩

class Facts : Prop where
  shapeCasts_S720_S45x16 : S720.ShapeCasts S45x16
  slices_S45x16_S45x15_0_0 : S45x16.Slices ![0, 0] S45x15
  shapeCasts_S45x15_S675x1x1x1 : S45x15.ShapeCasts S675x1x1x1
  bcast_S40_S40x1_0 : S40.BroadcastsInDim S40x1 (![0] : Fin 1 → Fin S40x1.rank)
  bcast_S40x1_S1x1x40x1_2_3 : S40x1.BroadcastsInDim S1x1x40x1 (![2, 3] : Fin 2 → Fin S1x1x40x1.rank)
  bcast_S1x1x40x1_S675x1x40x1_0_1_2_3 : S1x1x40x1.BroadcastsInDim S675x1x40x1 (![0, 1, 2, 3] : Fin 4 → Fin S675x1x40x1.rank)
  bcast_S675x1x1x1_S675x1x40x1_0_1_2_3 : S675x1x1x1.BroadcastsInDim S675x1x40x1 (![0, 1, 2, 3] : Fin 4 → Fin S675x1x40x1.rank)
  bcast_S675x1x40x1_S675x9x40x128_0_1_2_3 : S675x1x40x1.BroadcastsInDim S675x9x40x128 (![0, 1, 2, 3] : Fin 4 → Fin S675x9x40x128.rank)

variable [Facts]

def fn {F : FTy → Type} [FloatOps F] (main_arg0 : IVec S720 32) (main_arg1 : FVec F S9x3 .f32) (main_arg2 : FVec F S9 .f32) (main_arg3 : IVec S675x8x40x128 32) (main_arg4 : FVec F S675x2x128 .f32) (main_arg5 : IVec S675x3x64x128 32) (main_arg6 : IVec S675x256x128 32) : IVec S675x9x40x128 1 :=
  let main_v0 : IVec S45x16 32 := shapeCast S45x16 main_arg0 shapeCasts_S720_S45x16
  let main_v1 : IVec S45x15 32 := (extractStridedSlice S45x15 ![0, 0] · slices_S45x16_S45x15_0_0) main_v0
  let main_v2 : IVec S675x1x1x1 32 := shapeCast S675x1x1x1 main_v1 shapeCasts_S45x15_S675x1x1x1
  let main_v3 : IVec S40 32 := iotaInDim S40 32 0
  let main_v4 : IVec S40x1 32 := broadcastInDim S40x1 ![0] bcast_S40_S40x1_0 main_v3
  let main_v5 : IVec S1x1x40x1 32 := broadcastInDim S1x1x40x1 ![2, 3] bcast_S40x1_S1x1x40x1_2_3 main_v4
  let main_v6 : IVec S675x1x40x1 32 := broadcastInDim S675x1x40x1 ![0, 1, 2, 3] bcast_S1x1x40x1_S675x1x40x1_0_1_2_3 main_v5
  let main_v7 : IVec S675x1x40x1 32 := broadcastInDim S675x1x40x1 ![0, 1, 2, 3] bcast_S675x1x1x1_S675x1x40x1_0_1_2_3 main_v2
  let main_v8 : IVec S675x1x40x1 1 := cmpi .slt main_v6 main_v7
  let main_v9 : IVec S675x9x40x128 1 := broadcastInDim S675x9x40x128 ![0, 1, 2, 3] bcast_S675x1x40x1_S675x9x40x128_0_1_2_3 main_v8
  main_v9
-- ==== Pre_blocks_valid.lean ====
abbrev S720 : Shape := ⟨1, ![720]⟩
abbrev S9x3 : Shape := ⟨2, ![9, 3]⟩
abbrev S9 : Shape := ⟨1, ![9]⟩
abbrev S675x8x40x128 : Shape := ⟨4, ![675, 8, 40, 128]⟩
abbrev S675x2x128 : Shape := ⟨3, ![675, 2, 128]⟩
abbrev S675x3x64x128 : Shape := ⟨4, ![675, 3, 64, 128]⟩
abbrev S675x256x128 : Shape := ⟨3, ![675, 256, 128]⟩
abbrev S45x16 : Shape := ⟨2, ![45, 16]⟩
abbrev S45x15 : Shape := ⟨2, ![45, 15]⟩
abbrev S40 : Shape := ⟨1, ![40]⟩
abbrev S40x1 : Shape := ⟨2, ![40, 1]⟩
abbrev S675x1x1 : Shape := ⟨3, ![675, 1, 1]⟩
abbrev S1x40x1 : Shape := ⟨3, ![1, 40, 1]⟩
abbrev S675x40x1 : Shape := ⟨3, ![675, 40, 1]⟩
abbrev S675x7x40x128 : Shape := ⟨4, ![675, 7, 40, 128]⟩
abbrev S675x1x40x128 : Shape := ⟨4, ![675, 1, 40, 128]⟩
abbrev S675x40x128 : Shape := ⟨3, ![675, 40, 128]⟩
abbrev S_ : Shape := ⟨0, ![]⟩
abbrev S675x1x40x1 : Shape := ⟨4, ![675, 1, 40, 1]⟩

class Facts : Prop where
  shapeCasts_S720_S45x16 : S720.ShapeCasts S45x16
  slices_S45x16_S45x15_0_0 : S45x16.Slices ![0, 0] S45x15
  bcast_S40_S40x1_0 : S40.BroadcastsInDim S40x1 (![0] : Fin 1 → Fin S40x1.rank)
  shapeCasts_S45x15_S675x1x1 : S45x15.ShapeCasts S675x1x1
  bcast_S40x1_S1x40x1_1_2 : S40x1.BroadcastsInDim S1x40x1 (![1, 2] : Fin 2 → Fin S1x40x1.rank)
  bcast_S1x40x1_S675x40x1_0_1_2 : S1x40x1.BroadcastsInDim S675x40x1 (![0, 1, 2] : Fin 3 → Fin S675x40x1.rank)
  bcast_S675x1x1_S675x40x1_0_1_2 : S675x1x1.BroadcastsInDim S675x40x1 (![0, 1, 2] : Fin 3 → Fin S675x40x1.rank)
  slices_S675x8x40x128_S675x7x40x128_0_0_0_0 : S675x8x40x128.Slices ![0, 0, 0, 0] S675x7x40x128
  slices_S675x7x40x128_S675x1x40x128_0_2_0_0 : S675x7x40x128.Slices ![0, 2, 0, 0] S675x1x40x128
  shapeCasts_S675x1x40x128_S675x40x128 : S675x1x40x128.ShapeCasts S675x40x128
  slices_S675x7x40x128_S675x1x40x128_0_3_0_0 : S675x7x40x128.Slices ![0, 3, 0, 0] S675x1x40x128
  slices_S675x7x40x128_S675x1x40x128_0_4_0_0 : S675x7x40x128.Slices ![0, 4, 0, 0] S675x1x40x128
  slices_S675x7x40x128_S675x1x40x128_0_5_0_0 : S675x7x40x128.Slices ![0, 5, 0, 0] S675x1x40x128
  bcast_S_S45x15 : S_.BroadcastsInDim S45x15 (![] : Fin 0 → Fin S45x15.rank)
  bcast_S_S9x3 : S_.BroadcastsInDim S9x3 (![] : Fin 0 → Fin S9x3.rank)
  bcast_S_S9 : S_.BroadcastsInDim S9 (![] : Fin 0 → Fin S9.rank)
  bcast_S_S675x2x128 : S_.BroadcastsInDim S675x2x128 (![] : Fin 0 → Fin S675x2x128.rank)
  bcast_S_S675x256x128 : S_.BroadcastsInDim S675x256x128 (![] : Fin 0 → Fin S675x256x128.rank)
  bcast_S_S675x3x64x128 : S_.BroadcastsInDim S675x3x64x128 (![] : Fin 0 → Fin S675x3x64x128.rank)
  bcast_S675x40x1_S675x1x40x1_0_2_3 : S675x40x1.BroadcastsInDim S675x1x40x1 (![0, 2, 3] : Fin 3 → Fin S675x1x40x1.rank)
  bcast_S_S675x7x40x128 : S_.BroadcastsInDim S675x7x40x128 (![] : Fin 0 → Fin S675x7x40x128.rank)
  bcast_S675x1x40x1_S675x7x40x128_0_1_2_3 : S675x1x40x1.BroadcastsInDim S675x7x40x128 (![0, 1, 2, 3] : Fin 4 → Fin S675x7x40x128.rank)
  slices_S675x8x40x128_S675x1x40x128_0_7_0_0 : S675x8x40x128.Slices ![0, 7, 0, 0] S675x1x40x128
  bcast_S_S675x40x128 : S_.BroadcastsInDim S675x40x128 (![] : Fin 0 → Fin S675x40x128.rank)
  bcast_S675x40x1_S675x40x128_0_1_2 : S675x40x1.BroadcastsInDim S675x40x128 (![0, 1, 2] : Fin 3 → Fin S675x40x128.rank)

variable [Facts]

def fn_part5 {F : FTy → Type} [FloatOps F] (main_v8 : IVec S675x40x1 1) (main_v23 : IVec S45x15 1) (main_v26 : IVec S9x3 1) (main_v29 : IVec S9 1) (main_v32 : IVec S675x2x128 1) (main_v36 : IVec S675x256x128 1) (main_v55 : IVec S675x3x64x128 1) (main_v61 : IVec S675x7x40x128 1) (main_v83 : IVec S675x40x128 1) (main_v95 : IVec S675x40x128 1) : IVec S45x15 1 × IVec S9x3 1 × IVec S9 1 × IVec S675x2x128 1 × IVec S675x256x128 1 × IVec S675x3x64x128 1 × IVec S675x7x40x128 1 × IVec S675x40x128 1 × IVec S675x40x128 1 :=
  let main_v96 : IVec S675x40x128 1 := broadcastInDim S675x40x128 ![0, 1, 2] bcast_S675x40x1_S675x40x128_0_1_2 main_v8
  let main_v97 : IVec S675x40x128 1 := ori main_v96 main_v95
  (main_v23, main_v26, main_v29, main_v32, main_v36, main_v55, main_v61, main_v83, main_v97)

def fn_part4 {F : FTy → Type} [FloatOps F] (main_v8 : IVec S675x40x1 1) (main_v12 : FVec F S675x40x128 .f32) (main_v14 : FVec F S675x40x128 .f32) (main_v16 : FVec F S675x40x128 .f32) (main_v18 : FVec F S675x40x128 .f32) (main_v23 : IVec S45x15 1) (main_v26 : IVec S9x3 1) (main_v29 : IVec S9 1) (main_v32 : IVec S675x2x128 1) (main_v36 : IVec S675x256x128 1) (main_v55 : IVec S675x3x64x128 1) (main_v61 : IVec S675x7x40x128 1) (main_v74 : IVec S675x40x128 1) (main_v76 : IVec S675x40x128 32) : IVec S45x15 1 × IVec S9x3 1 × IVec S9 1 × IVec S675x2x128 1 × IVec S675x256x128 1 × IVec S675x3x64x128 1 × IVec S675x7x40x128 1 × IVec S675x40x128 1 × IVec S675x40x128 1 :=
  let main_c_17 : IVec S_ 32 := constantI S_ 32 8323072#32
  let main_v77 : IVec S675x40x128 32 := broadcastInDim S675x40x128 ![] bcast_S_S675x40x128 main_c_17
  let main_v78 : IVec S675x40x128 32 := andi main_v76 main_v77
  let main_c_18 : IVec S_ 32 := constantI S_ 32 8323072#32
  let main_v79 : IVec S675x40x128 32 := broadcastInDim S675x40x128 ![] bcast_S_S675x40x128 main_c_18
  let main_v80 : IVec S675x40x128 1 := cmpi .ne main_v78 main_v79
  let main_v81 : IVec S675x40x128 1 := andi main_v74 main_v80
  let main_v82 : IVec S675x40x128 1 := broadcastInDim S675x40x128 ![0, 1, 2] bcast_S675x40x1_S675x40x128_0_1_2 main_v8
  let main_v83 : IVec S675x40x128 1 := ori main_v82 main_v81
  let main_cst_19 : FVec F S_ .f32 := constant S_ .f32 0x3F800000#32
  let main_v84 : FVec F S675x40x128 .f32 := broadcastInDim S675x40x128 ![] bcast_S_S675x40x128 main_cst_19
  let main_v85 : IVec S675x40x128 1 := cmpf .olt main_v18 main_v84
  let main_cst_20 : FVec F S_ .f32 := constant S_ .f32 0x00000000#32
  let main_v86 : FVec F S675x40x128 .f32 := broadcastInDim S675x40x128 ![] bcast_S_S675x40x128 main_cst_20
  let main_v87 : IVec S675x40x128 1 := cmpf .oge main_v12 main_v86
  let main_v88 : IVec S675x40x128 1 := andi main_v85 main_v87
  let main_cst_21 : FVec F S_ .f32 := constant S_ .f32 0x00000000#32
  let main_v89 : FVec F S675x40x128 .f32 := broadcastInDim S675x40x128 ![] bcast_S_S675x40x128 main_cst_21
  let main_v90 : IVec S675x40x128 1 := cmpf .oge main_v16 main_v89
  let main_v91 : IVec S675x40x128 1 := andi main_v88 main_v90
  let main_v92 : FVec F S675x40x128 .f32 := mulf main_v14 main_v14
  let main_v93 : FVec F S675x40x128 .f32 := mulf main_v12 main_v16
  let main_v94 : IVec S675x40x128 1 := cmpf .ole main_v92 main_v93
  let main_v95 : IVec S675x40x128 1 := andi main_v91 main_v94
  fn_part5 (F := F) main_v8 main_v23 main_v26 main_v29 main_v32 main_v36 main_v55 main_v61 main_v83 main_v95

def fn_part3 {F : FTy → Type} [FloatOps F] (main_arg3 : IVec S675x8x40x128 32) (main_v8 : IVec S675x40x1 1) (main_v12 : FVec F S675x40x128 .f32) (main_v14 : FVec F S675x40x128 .f32) (main_v16 : FVec F S675x40x128 .f32) (main_v18 : FVec F S675x40x128 .f32) (main_v23 : IVec S45x15 1) (main_v26 : IVec S9x3 1) (main_v29 : IVec S9 1) (main_v32 : IVec S675x2x128 1) (main_v36 : IVec S675x256x128 1) (main_v55 : IVec S675x3x64x128 1) (main_v56 : IVec S675x1x40x1 1) (main_v57 : FVec F S675x7x40x128 .f32) : IVec S45x15 1 × IVec S9x3 1 × IVec S9 1 × IVec S675x2x128 1 × IVec S675x256x128 1 × IVec S675x3x64x128 1 × IVec S675x7x40x128 1 × IVec S675x40x128 1 × IVec S675x40x128 1 :=
  let main_cst_12 : FVec F S_ .f32 := constant S_ .f32 0x7F800000#32
  let main_v58 : FVec F S675x7x40x128 .f32 := broadcastInDim S675x7x40x128 ![] bcast_S_S675x7x40x128 main_cst_12
  let main_v59 : IVec S675x7x40x128 1 := cmpf .olt main_v57 main_v58
  let main_v60 : IVec S675x7x40x128 1 := broadcastInDim S675x7x40x128 ![0, 1, 2, 3] bcast_S675x1x40x1_S675x7x40x128_0_1_2_3 main_v56
  let main_v61 : IVec S675x7x40x128 1 := ori main_v60 main_v59
  let main_v62 : IVec S675x1x40x128 32 := (extractStridedSlice S675x1x40x128 ![0, 7, 0, 0] · slices_S675x8x40x128_S675x1x40x128_0_7_0_0) main_arg3
  let main_v63 : IVec S675x40x128 32 := shapeCast S675x40x128 main_v62 shapeCasts_S675x1x40x128_S675x40x128
  let main_c_13 : IVec S_ 32 := constantI S_ 32 127#32
  let main_v64 : IVec S675x40x128 32 := broadcastInDim S675x40x128 ![] bcast_S_S675x40x128 main_c_13
  let main_v65 : IVec S675x40x128 32 := andi main_v63 main_v64
  let main_c_14 : IVec S_ 32 := constantI S_ 32 127#32
  let main_v66 : IVec S675x40x128 32 := broadcastInDim S675x40x128 ![] bcast_S_S675x40x128 main_c_14
  let main_v67 : IVec S675x40x128 1 := cmpi .ne main_v65 main_v66
  let main_v68 : IVec S675x1x40x128 32 := (extractStridedSlice S675x1x40x128 ![0, 7, 0, 0] · slices_S675x8x40x128_S675x1x40x128_0_7_0_0) main_arg3
  let main_v69 : IVec S675x40x128 32 := shapeCast S675x40x128 main_v68 shapeCasts_S675x1x40x128_S675x40x128
  let main_c_15 : IVec S_ 32 := constantI S_ 32 32512#32
  let main_v70 : IVec S675x40x128 32 := broadcastInDim S675x40x128 ![] bcast_S_S675x40x128 main_c_15
  let main_v71 : IVec S675x40x128 32 := andi main_v69 main_v70
  let main_c_16 : IVec S_ 32 := constantI S_ 32 32512#32
  let main_v72 : IVec S675x40x128 32 := broadcastInDim S675x40x128 ![] bcast_S_S675x40x128 main_c_16
  let main_v73 : IVec S675x40x128 1 := cmpi .ne main_v71 main_v72
  let main_v74 : IVec S675x40x128 1 := andi main_v67 main_v73
  let main_v75 : IVec S675x1x40x128 32 := (extractStridedSlice S675x1x40x128 ![0, 7, 0, 0] · slices_S675x8x40x128_S675x1x40x128_0_7_0_0) main_arg3
  let main_v76 : IVec S675x40x128 32 := shapeCast S675x40x128 main_v75 shapeCasts_S675x1x40x128_S675x40x128
  fn_part4 (F := F) main_v8 main_v12 main_v14 main_v16 main_v18 main_v23 main_v26 main_v29 main_v32 main_v36 main_v55 main_v61 main_v74 main_v76

def fn_part2 {F : FTy → Type} [FloatOps F] (main_arg3 : IVec S675x8x40x128 32) (main_arg5 : IVec S675x3x64x128 32) (main_v8 : IVec S675x40x1 1) (main_v10 : FVec F S675x7x40x128 .f32) (main_v12 : FVec F S675x40x128 .f32) (main_v14 : FVec F S675x40x128 .f32) (main_v16 : FVec F S675x40x128 .f32) (main_v18 : FVec F S675x40x128 .f32) (main_v23 : IVec S45x15 1) (main_v26 : IVec S9x3 1) (main_v29 : IVec S9 1) (main_v32 : IVec S675x2x128 1) (main_v36 : IVec S675x256x128 1) (main_v38 : IVec S675x3x64x128 32) (main_v39 : IVec S675x3x64x128 32) : IVec S45x15 1 × IVec S9x3 1 × IVec S9 1 × IVec S675x2x128 1 × IVec S675x256x128 1 × IVec S675x3x64x128 1 × IVec S675x7x40x128 1 × IVec S675x40x128 1 × IVec S675x40x128 1 :=
  let main_v40 : IVec S675x3x64x128 1 := cmpi .ne main_v38 main_v39
  let main_c_6 : IVec S_ 32 := constantI S_ 32 31744#32
  let main_v41 : IVec S675x3x64x128 32 := broadcastInDim S675x3x64x128 ![] bcast_S_S675x3x64x128 main_c_6
  let main_v42 : IVec S675x3x64x128 32 := andi main_arg5 main_v41
  let main_c_7 : IVec S_ 32 := constantI S_ 32 31744#32
  let main_v43 : IVec S675x3x64x128 32 := broadcastInDim S675x3x64x128 ![] bcast_S_S675x3x64x128 main_c_7
  let main_v44 : IVec S675x3x64x128 1 := cmpi .ne main_v42 main_v43
  let main_v45 : IVec S675x3x64x128 1 := andi main_v40 main_v44
  let main_c_8 : IVec S_ 32 := constantI S_ 32 8126464#32
  let main_v46 : IVec S675x3x64x128 32 := broadcastInDim S675x3x64x128 ![] bcast_S_S675x3x64x128 main_c_8
  let main_v47 : IVec S675x3x64x128 32 := andi main_arg5 main_v46
  let main_c_9 : IVec S_ 32 := constantI S_ 32 8126464#32
  let main_v48 : IVec S675x3x64x128 32 := broadcastInDim S675x3x64x128 ![] bcast_S_S675x3x64x128 main_c_9
  let main_v49 : IVec S675x3x64x128 1 := cmpi .ne main_v47 main_v48
  let main_v50 : IVec S675x3x64x128 1 := andi main_v45 main_v49
  let main_c_10 : IVec S_ 32 := constantI S_ 32 2080374784#32
  let main_v51 : IVec S675x3x64x128 32 := broadcastInDim S675x3x64x128 ![] bcast_S_S675x3x64x128 main_c_10
  let main_v52 : IVec S675x3x64x128 32 := andi main_arg5 main_v51
  let main_c_11 : IVec S_ 32 := constantI S_ 32 2080374784#32
  let main_v53 : IVec S675x3x64x128 32 := broadcastInDim S675x3x64x128 ![] bcast_S_S675x3x64x128 main_c_11
  let main_v54 : IVec S675x3x64x128 1 := cmpi .ne main_v52 main_v53
  let main_v55 : IVec S675x3x64x128 1 := andi main_v50 main_v54
  let main_v56 : IVec S675x1x40x1 1 := broadcastInDim S675x1x40x1 ![0, 2, 3] bcast_S675x40x1_S675x1x40x1_0_2_3 main_v8
  let main_v57 : FVec F S675x7x40x128 .f32 := Host.absf main_v10
  fn_part3 (F := F) main_arg3 main_v8 main_v12 main_v14 main_v16 main_v18 main_v23 main_v26 main_v29 main_v32 main_v36 main_v55 main_v56 main_v57

def fn_part1 {F : FTy → Type} [FloatOps F] (main_arg1 : FVec F S9x3 .f32) (main_arg2 : FVec F S9 .f32) (main_arg3 : IVec S675x8x40x128 32) (main_arg4 : FVec F S675x2x128 .f32) (main_arg5 : IVec S675x3x64x128 32) (main_arg6 : IVec S675x256x128 32) (main_v1 : IVec S45x15 32) (main_v8 : IVec S675x40x1 1) (main_v10 : FVec F S675x7x40x128 .f32) (main_v12 : FVec F S675x40x128 .f32) (main_v14 : FVec F S675x40x128 .f32) (main_v16 : FVec F S675x40x128 .f32) (main_v18 : FVec F S675x40x128 .f32) (main_v20 : IVec S45x15 1) (main_v21 : IVec S45x15 32) : IVec S45x15 1 × IVec S9x3 1 × IVec S9 1 × IVec S675x2x128 1 × IVec S675x256x128 1 × IVec S675x3x64x128 1 × IVec S675x7x40x128 1 × IVec S675x40x128 1 × IVec S675x40x128 1 :=
  let main_v22 : IVec S45x15 1 := cmpi .sle main_v1 main_v21
  let main_v23 : IVec S45x15 1 := andi main_v20 main_v22
  let main_v24 : FVec F S9x3 .f32 := Host.absf main_arg1
  let main_cst : FVec F S_ .f32 := constant S_ .f32 0x7F800000#32
  let main_v25 : FVec F S9x3 .f32 := broadcastInDim S9x3 ![] bcast_S_S9x3 main_cst
  let main_v26 : IVec S9x3 1 := cmpf .olt main_v24 main_v25
  let main_v27 : FVec F S9 .f32 := Host.absf main_arg2
  let main_cst_1 : FVec F S_ .f32 := constant S_ .f32 0x7F800000#32
  let main_v28 : FVec F S9 .f32 := broadcastInDim S9 ![] bcast_S_S9 main_cst_1
  let main_v29 : IVec S9 1 := cmpf .olt main_v27 main_v28
  let main_v30 : FVec F S675x2x128 .f32 := Host.absf main_arg4
  let main_cst_2 : FVec F S_ .f32 := constant S_ .f32 0x7F800000#32
  let main_v31 : FVec F S675x2x128 .f32 := broadcastInDim S675x2x128 ![] bcast_S_S675x2x128 main_cst_2
  let main_v32 : IVec S675x2x128 1 := cmpf .olt main_v30 main_v31
  let main_v33 : FVec F S675x256x128 .f32 := bitcastToFloat .f32 main_arg6
  let main_v34 : FVec F S675x256x128 .f32 := Host.absf main_v33
  let main_cst_3 : FVec F S_ .f32 := constant S_ .f32 0x7F800000#32
  let main_v35 : FVec F S675x256x128 .f32 := broadcastInDim S675x256x128 ![] bcast_S_S675x256x128 main_cst_3
  let main_v36 : IVec S675x256x128 1 := cmpf .olt main_v34 main_v35
  let main_c_4 : IVec S_ 32 := constantI S_ 32 124#32
  let main_v37 : IVec S675x3x64x128 32 := broadcastInDim S675x3x64x128 ![] bcast_S_S675x3x64x128 main_c_4
  let main_v38 : IVec S675x3x64x128 32 := andi main_arg5 main_v37
  let main_c_5 : IVec S_ 32 := constantI S_ 32 124#32
  let main_v39 : IVec S675x3x64x128 32 := broadcastInDim S675x3x64x128 ![] bcast_S_S675x3x64x128 main_c_5
  fn_part2 (F := F) main_arg3 main_arg5 main_v8 main_v10 main_v12 main_v14 main_v16 main_v18 main_v23 main_v26 main_v29 main_v32 main_v36 main_v38 main_v39

def fn {F : FTy → Type} [FloatOps F] (main_arg0 : IVec S720 32) (main_arg1 : FVec F S9x3 .f32) (main_arg2 : FVec F S9 .f32) (main_arg3 : IVec S675x8x40x128 32) (main_arg4 : FVec F S675x2x128 .f32) (main_arg5 : IVec S675x3x64x128 32) (main_arg6 : IVec S675x256x128 32) : IVec S45x15 1 × IVec S9x3 1 × IVec S9 1 × IVec S675x2x128 1 × IVec S675x256x128 1 × IVec S675x3x64x128 1 × IVec S675x7x40x128 1 × IVec S675x40x128 1 × IVec S675x40x128 1 :=
  let main_v0 : IVec S45x16 32 := shapeCast S45x16 main_arg0 shapeCasts_S720_S45x16
  let main_v1 : IVec S45x15 32 := (extractStridedSlice S45x15 ![0, 0] · slices_S45x16_S45x15_0_0) main_v0
  let main_v2 : IVec S40 32 := iotaInDim S40 32 0
  let main_v3 : IVec S40x1 32 := broadcastInDim S40x1 ![0] bcast_S40_S40x1_0 main_v2
  let main_v4 : IVec S675x1x1 32 := shapeCast S675x1x1 main_v1 shapeCasts_S45x15_S675x1x1
  let main_v5 : IVec S1x40x1 32 := broadcastInDim S1x40x1 ![1, 2] bcast_S40x1_S1x40x1_1_2 main_v3
  let main_v6 : IVec S675x40x1 32 := broadcastInDim S675x40x1 ![0, 1, 2] bcast_S1x40x1_S675x40x1_0_1_2 main_v5
  let main_v7 : IVec S675x40x1 32 := broadcastInDim S675x40x1 ![0, 1, 2] bcast_S675x1x1_S675x40x1_0_1_2 main_v4
  let main_v8 : IVec S675x40x1 1 := cmpi .sge main_v6 main_v7
  let main_v9 : IVec S675x7x40x128 32 := (extractStridedSlice S675x7x40x128 ![0, 0, 0, 0] · slices_S675x8x40x128_S675x7x40x128_0_0_0_0) main_arg3
  let main_v10 : FVec F S675x7x40x128 .f32 := bitcastToFloat .f32 main_v9
  let main_v11 : FVec F S675x1x40x128 .f32 := (extractStridedSlice S675x1x40x128 ![0, 2, 0, 0] · slices_S675x7x40x128_S675x1x40x128_0_2_0_0) main_v10
  let main_v12 : FVec F S675x40x128 .f32 := shapeCast S675x40x128 main_v11 shapeCasts_S675x1x40x128_S675x40x128
  let main_v13 : FVec F S675x1x40x128 .f32 := (extractStridedSlice S675x1x40x128 ![0, 3, 0, 0] · slices_S675x7x40x128_S675x1x40x128_0_3_0_0) main_v10
  let main_v14 : FVec F S675x40x128 .f32 := shapeCast S675x40x128 main_v13 shapeCasts_S675x1x40x128_S675x40x128
  let main_v15 : FVec F S675x1x40x128 .f32 := (extractStridedSlice S675x1x40x128 ![0, 4, 0, 0] · slices_S675x7x40x128_S675x1x40x128_0_4_0_0) main_v10
  let main_v16 : FVec F S675x40x128 .f32 := shapeCast S675x40x128 main_v15 shapeCasts_S675x1x40x128_S675x40x128
  let main_v17 : FVec F S675x1x40x128 .f32 := (extractStridedSlice S675x1x40x128 ![0, 5, 0, 0] · slices_S675x7x40x128_S675x1x40x128_0_5_0_0) main_v10
  let main_v18 : FVec F S675x40x128 .f32 := shapeCast S675x40x128 main_v17 shapeCasts_S675x1x40x128_S675x40x128
  let main_c : IVec S_ 32 := constantI S_ 32 0#32
  let main_v19 : IVec S45x15 32 := broadcastInDim S45x15 ![] bcast_S_S45x15 main_c
  let main_v20 : IVec S45x15 1 := cmpi .sge main_v1 main_v19
  let main_c_0 : IVec S_ 32 := constantI S_ 32 40#32
  let main_v21 : IVec S45x15 32 := broadcastInDim S45x15 ![] bcast_S_S45x15 main_c_0
  fn_part1 (F := F) main_arg1 main_arg2 main_arg3 main_arg4 main_arg5 main_arg6 main_v1 main_v8 main_v10 main_v12 main_v14 main_v16 main_v18 main_v20 main_v21
-- ==== Pre_counts_fit.lean ====
abbrev S720 : Shape := ⟨1, ![720]⟩
abbrev S9x3 : Shape := ⟨2, ![9, 3]⟩
abbrev S9 : Shape := ⟨1, ![9]⟩
abbrev S675x8x40x128 : Shape := ⟨4, ![675, 8, 40, 128]⟩
abbrev S675x2x128 : Shape := ⟨3, ![675, 2, 128]⟩
abbrev S675x3x64x128 : Shape := ⟨4, ![675, 3, 64, 128]⟩
abbrev S675x256x128 : Shape := ⟨3, ![675, 256, 128]⟩
abbrev S45x16 : Shape := ⟨2, ![45, 16]⟩
abbrev S45x15 : Shape := ⟨2, ![45, 15]⟩
abbrev S_ : Shape := ⟨0, ![]⟩

class Facts : Prop where
  shapeCasts_S720_S45x16 : S720.ShapeCasts S45x16
  slices_S45x16_S45x15_0_0 : S45x16.Slices ![0, 0] S45x15
  bcast_S_S45x15 : S_.BroadcastsInDim S45x15 (![] : Fin 0 → Fin S45x15.rank)

variable [Facts]

def fn {F : FTy → Type} [FloatOps F] (main_arg0 : IVec S720 32) (main_arg1 : FVec F S9x3 .f32) (main_arg2 : FVec F S9 .f32) (main_arg3 : IVec S675x8x40x128 32) (main_arg4 : FVec F S675x2x128 .f32) (main_arg5 : IVec S675x3x64x128 32) (main_arg6 : IVec S675x256x128 32) : IVec S45x15 1 :=
  let main_v0 : IVec S45x16 32 := shapeCast S45x16 main_arg0 shapeCasts_S720_S45x16
  let main_v1 : IVec S45x15 32 := (extractStridedSlice S45x15 ![0, 0] · slices_S45x16_S45x15_0_0) main_v0
  let main_c : IVec S_ 32 := constantI S_ 32 0#32
  let main_v2 : IVec S45x15 32 := broadcastInDim S45x15 ![] bcast_S_S45x15 main_c
  let main_v3 : IVec S45x15 1 := cmpi .sge main_v1 main_v2
  let main_c_0 : IVec S_ 32 := constantI S_ 32 40#32
  let main_v4 : IVec S45x15 32 := broadcastInDim S45x15 ![] bcast_S_S45x15 main_c_0
  let main_v5 : IVec S45x15 1 := cmpi .sle main_v1 main_v4
  let main_v6 : IVec S45x15 1 := andi main_v3 main_v5
  main_v6
-- ==== Kernel.lean ====
abbrev S720 : Shape := ⟨1, ![720]⟩
abbrev S9x3 : Shape := ⟨2, ![9, 3]⟩
abbrev S9 : Shape := ⟨1, ![9]⟩
abbrev S675x8x40x128 : Shape := ⟨4, ![675, 8, 40, 128]⟩
abbrev S675x2x128 : Shape := ⟨3, ![675, 2, 128]⟩
abbrev S675x3x64x128 : Shape := ⟨4, ![675, 3, 64, 128]⟩
abbrev S675x256x128 : Shape := ⟨3, ![675, 256, 128]⟩
abbrev S675x9x40x128 : Shape := ⟨4, ![675, 9, 40, 128]⟩
abbrev S1x8x40x128 : Shape := ⟨4, ![1, 8, 40, 128]⟩
abbrev S1x2x128 : Shape := ⟨3, ![1, 2, 128]⟩
abbrev S1x3x64x128 : Shape := ⟨4, ![1, 3, 64, 128]⟩
abbrev S1x256x128 : Shape := ⟨3, ![1, 256, 128]⟩
abbrev S1x9x40x128 : Shape := ⟨4, ![1, 9, 40, 128]⟩
abbrev S3x256x128 : Shape := ⟨3, ![3, 256, 128]⟩
abbrev S256x128 : Shape := ⟨2, ![256, 128]⟩
abbrev S2x16x128 : Shape := ⟨3, ![2, 16, 128]⟩
abbrev S32x128 : Shape := ⟨2, ![32, 128]⟩
abbrev S9x64x128 : Shape := ⟨3, ![9, 64, 128]⟩
abbrev S1 : Shape := ⟨1, ![1]⟩
abbrev S1x1x8x128 : Shape := ⟨4, ![1, 1, 8, 128]⟩
abbrev S8x128 : Shape := ⟨2, ![8, 128]⟩
abbrev S1x32x128 : Shape := ⟨3, ![1, 32, 128]⟩
abbrev S1x1 : Shape := ⟨2, ![1, 1]⟩
abbrev S1x1x128 : Shape := ⟨3, ![1, 1, 128]⟩
abbrev S1x128 : Shape := ⟨2, ![1, 128]⟩
abbrev S1x1x1x128 : Shape := ⟨4, ![1, 1, 1, 128]⟩
abbrev S1x8x128 : Shape := ⟨3, ![1, 8, 128]⟩

abbrev nBuf : Space → Nat
  | .hbm => 8
  | .vmem => 16
  | .smem => 3
  | _ => 0

abbrev bufTy : (tb : Table) → Fin (tcTables nBuf tb) → BufTy
  | .hbm, ⟨0, _⟩ => ⟨S720, .i32⟩
  | .hbm, ⟨1, _⟩ => ⟨S9x3, .f32⟩
  | .hbm, ⟨2, _⟩ => ⟨S9, .f32⟩
  | .hbm, ⟨3, _⟩ => ⟨S675x8x40x128, .i32⟩
  | .hbm, ⟨4, _⟩ => ⟨S675x2x128, .f32⟩
  | .hbm, ⟨5, _⟩ => ⟨S675x3x64x128, .i32⟩
  | .hbm, ⟨6, _⟩ => ⟨S675x256x128, .i32⟩
  | .hbm, ⟨7, _⟩ => ⟨S675x9x40x128, .f32⟩
  | .local _ .vmem, ⟨0, _⟩ => ⟨S1x8x40x128, .i32⟩
  | .local _ .vmem, ⟨1, _⟩ => ⟨S1x8x40x128, .i32⟩
  | .local _ .vmem, ⟨2, _⟩ => ⟨S1x2x128, .f32⟩
  | .local _ .vmem, ⟨3, _⟩ => ⟨S1x2x128, .f32⟩
  | .local _ .vmem, ⟨4, _⟩ => ⟨S1x3x64x128, .i32⟩
  | .local _ .vmem, ⟨5, _⟩ => ⟨S1x3x64x128, .i32⟩
  | .local _ .vmem, ⟨6, _⟩ => ⟨S1x256x128, .i32⟩
  | .local _ .vmem, ⟨7, _⟩ => ⟨S1x256x128, .i32⟩
  | .local _ .vmem, ⟨8, _⟩ => ⟨S1x9x40x128, .f32⟩
  | .local _ .vmem, ⟨9, _⟩ => ⟨S1x9x40x128, .f32⟩
  | .local _ .vmem, ⟨10, _⟩ => ⟨S3x256x128, .f32⟩
  | .local _ .vmem, ⟨11, _⟩ => ⟨S256x128, .f32⟩
  | .local _ .vmem, ⟨12, _⟩ => ⟨S256x128, .f32⟩
  | .local _ .vmem, ⟨13, _⟩ => ⟨S2x16x128, .f32⟩
  | .local _ .vmem, ⟨14, _⟩ => ⟨S32x128, .f32⟩
  | .local _ .vmem, ⟨15, _⟩ => ⟨S9x64x128, .f32⟩
  | .local _ .smem, ⟨0, _⟩ => ⟨S720, .i32⟩
  | .local _ .smem, ⟨1, _⟩ => ⟨S9x3, .f32⟩
  | .local _ .smem, ⟨2, _⟩ => ⟨S9, .f32⟩
  | _, _ => ⟨S720, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![675], ![false]⟩

def k0_off1 (i : grid0.Coords) : Fin 1 → Nat :=
  let arg0 : BitVec 32 := BitVec.ofNat 32 (i 0).val
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c15_i32 : BitVec 32 := 15#32
  let c0_i32_6 : BitVec 32 := 0#32
  let v23 : BitVec 1 := Scalar.cmpi .sgt c15_i32 c0_i32_6
  let v24 : BitVec 32 := Scalar.extui v23
  let c0_i32_7 : BitVec 32 := 0#32
  let v25 : BitVec 1 := Scalar.cmpi .slt c15_i32 c0_i32_7
  let v26 : BitVec 32 := Scalar.extui v25
  let v27 : BitVec 32 := Scalar.subi v24 v26
  let v28 : BitVec 1 := Scalar.cmpi .ne v22 v27
  let v29 : BitVec 32 := Scalar.remsi arg0 c15_i32
  let c0_i32_8 : BitVec 32 := 0#32
  let v30 : BitVec 1 := Scalar.cmpi .ne v29 c0_i32_8
  let v31 : BitVec 1 := Scalar.andi v28 v30
  let v17 : BitVec 32 := Scalar.divsi arg0 c15_i32
  let c1_i32_9 : BitVec 32 := 1#32
  let v32 : BitVec 32 := Scalar.subi v17 c1_i32_9
  let v33 : BitVec 32 := Scalar.select v31 v32 v17
  let c16_i32 : BitVec 32 := 16#32
  let v34 : BitVec 32 := Scalar.muli v33 c16_i32
  let c15_i32_10 : BitVec 32 := 15#32
  let c0_i32_11 : BitVec 32 := 0#32
  let v35 : BitVec 1 := Scalar.cmpi .eq c15_i32_10 c0_i32_11
  let c1_i32_12 : BitVec 32 := 1#32
  let v36 : BitVec 32 := Scalar.select v35 c1_i32_12 c15_i32_10
  let v37 : BitVec 32 := Scalar.remsi arg0 v36
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let c0_i32_13 : BitVec 32 := 0#32
  let v38 : BitVec 1 := Scalar.cmpi .ne v37 c0_i32_13
  let v42 : BitVec 1 := Scalar.andi v41 v38
  let v43 : BitVec 32 := Scalar.addi v37 v36
  let v44 : BitVec 32 := Scalar.select v42 v43 v37
  let v45 : BitVec 32 := Scalar.addi v34 v44
  let v46 : Index := Scalar.indexCast v45
  ![v46.toNat]
def k0_off2 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c75_i32 : BitVec 32 := 75#32
  let c0_i32_1 : BitVec 32 := 0#32
  let v6 : BitVec 1 := Scalar.cmpi .sgt c75_i32 c0_i32_1
  let v7 : BitVec 32 := Scalar.extui v6
  let c0_i32_2 : BitVec 32 := 0#32
  let v8 : BitVec 1 := Scalar.cmpi .slt c75_i32 c0_i32_2
  let v9 : BitVec 32 := Scalar.extui v8
  let v10 : BitVec 32 := Scalar.subi v7 v9
  let v11 : BitVec 1 := Scalar.cmpi .ne v5 v10
  let v12 : BitVec 32 := Scalar.remsi arg0 c75_i32
  let c0_i32_3 : BitVec 32 := 0#32
  let v13 : BitVec 1 := Scalar.cmpi .ne v12 c0_i32_3
  let v14 : BitVec 1 := Scalar.andi v11 v13
  let v0 : BitVec 32 := Scalar.divsi arg0 c75_i32
  let c1_i32 : BitVec 32 := 1#32
  let v15 : BitVec 32 := Scalar.subi v0 c1_i32
  let v16 : BitVec 32 := Scalar.select v14 v15 v0
  let v48 : Index := Scalar.indexCast v16
  ![v48.toNat]
def k0_off3 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c75_i32 : BitVec 32 := 75#32
  let c0_i32_1 : BitVec 32 := 0#32
  let v6 : BitVec 1 := Scalar.cmpi .sgt c75_i32 c0_i32_1
  let v7 : BitVec 32 := Scalar.extui v6
  let c0_i32_2 : BitVec 32 := 0#32
  let v8 : BitVec 1 := Scalar.cmpi .slt c75_i32 c0_i32_2
  let v9 : BitVec 32 := Scalar.extui v8
  let v10 : BitVec 32 := Scalar.subi v7 v9
  let v11 : BitVec 1 := Scalar.cmpi .ne v5 v10
  let v12 : BitVec 32 := Scalar.remsi arg0 c75_i32
  let c0_i32_3 : BitVec 32 := 0#32
  let v13 : BitVec 1 := Scalar.cmpi .ne v12 c0_i32_3
  let v14 : BitVec 1 := Scalar.andi v11 v13
  let v0 : BitVec 32 := Scalar.divsi arg0 c75_i32
  let c1_i32 : BitVec 32 := 1#32
  let v15 : BitVec 32 := Scalar.subi v0 c1_i32
  let v16 : BitVec 32 := Scalar.select v14 v15 v0
  let v57 : Index := Scalar.indexCast v16
  let c0_22 : Index := 0#32
  ![v57.toNat, 0]
def k0_off4 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c75_i32 : BitVec 32 := 75#32
  let c0_i32_1 : BitVec 32 := 0#32
  let v6 : BitVec 1 := Scalar.cmpi .sgt c75_i32 c0_i32_1
  let v7 : BitVec 32 := Scalar.extui v6
  let c0_i32_2 : BitVec 32 := 0#32
  let v8 : BitVec 1 := Scalar.cmpi .slt c75_i32 c0_i32_2
  let v9 : BitVec 32 := Scalar.extui v8
  let v10 : BitVec 32 := Scalar.subi v7 v9
  let v11 : BitVec 1 := Scalar.cmpi .ne v5 v10
  let v12 : BitVec 32 := Scalar.remsi arg0 c75_i32
  let c0_i32_3 : BitVec 32 := 0#32
  let v13 : BitVec 1 := Scalar.cmpi .ne v12 c0_i32_3
  let v14 : BitVec 1 := Scalar.andi v11 v13
  let v0 : BitVec 32 := Scalar.divsi arg0 c75_i32
  let c1_i32 : BitVec 32 := 1#32
  let v15 : BitVec 32 := Scalar.subi v0 c1_i32
  let v16 : BitVec 32 := Scalar.select v14 v15 v0
  let v68 : Index := Scalar.indexCast v16
  let c1_29 : Index := 1#32
  ![v68.toNat, 1]
def k0_off5 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c75_i32 : BitVec 32 := 75#32
  let c0_i32_1 : BitVec 32 := 0#32
  let v6 : BitVec 1 := Scalar.cmpi .sgt c75_i32 c0_i32_1
  let v7 : BitVec 32 := Scalar.extui v6
  let c0_i32_2 : BitVec 32 := 0#32
  let v8 : BitVec 1 := Scalar.cmpi .slt c75_i32 c0_i32_2
  let v9 : BitVec 32 := Scalar.extui v8
  let v10 : BitVec 32 := Scalar.subi v7 v9
  let v11 : BitVec 1 := Scalar.cmpi .ne v5 v10
  let v12 : BitVec 32 := Scalar.remsi arg0 c75_i32
  let c0_i32_3 : BitVec 32 := 0#32
  let v13 : BitVec 1 := Scalar.cmpi .ne v12 c0_i32_3
  let v14 : BitVec 1 := Scalar.andi v11 v13
  let v0 : BitVec 32 := Scalar.divsi arg0 c75_i32
  let c1_i32 : BitVec 32 := 1#32
  let v15 : BitVec 32 := Scalar.subi v0 c1_i32
  let v16 : BitVec 32 := Scalar.select v14 v15 v0
  let v80 : Index := Scalar.indexCast v16
  let c2_36 : Index := 2#32
  ![v80.toNat, 2]
@[reducible] def k0_t1_loop (v47 : BitVec 32) : Scf.Loop 32 :=
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_271 : BitVec 32 := 1#32
  ⟨c0_i32_268, v460, c1_i32_271⟩

def k0_mult1 (v47 : BitVec 32) (k0_t1 : Fin (k0_t1_loop v47).trips) : BitVec 32 :=
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  v482
def k0_off6 (v47 : BitVec 32) (k0_t1 : Fin (k0_t1_loop v47).trips) : Fin 4 → Nat :=
  let c0_283 : Index := 0#32
  let c7 : Index := 7#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v486 : Index := Scalar.indexCast v483
  let c0_284 : Index := 0#32
  ![0, 7, v486.toNat, 0]
@[reducible] def k0_t2_loop (v47 : BitVec 32) (k0_t1 : Fin (k0_t1_loop v47).trips) : Scf.Loop 32 :=
  let c0_i32_287 : BitVec 32 := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_290 : BitVec 32 := 1#32
  ⟨c0_i32_287, v498, c1_i32_290⟩
def k0_off7 (v47 : BitVec 32) (k0_t1 : Fin (k0_t1_loop v47).trips) (k0_t2 : Fin (k0_t2_loop v47 k0_t1).trips) : Fin 4 → Nat :=
  let c0_548 : Index := 0#32
  let c0_549 : Index := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v789 : Index := Scalar.indexCast v788
  let c0_550 : Index := 0#32
  ![0, 0, v789.toNat, 0]
def k0_off8 (v47 : BitVec 32) (k0_t1 : Fin (k0_t1_loop v47).trips) (k0_t2 : Fin (k0_t2_loop v47 k0_t1).trips) : Fin 4 → Nat :=
  let c0_551 : Index := 0#32
  let c1_552 : Index := 1#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v795 : Index := Scalar.indexCast v788
  let c0_553 : Index := 0#32
  ![0, 1, v795.toNat, 0]
def k0_off9 (v47 : BitVec 32) (k0_t1 : Fin (k0_t1_loop v47).trips) (k0_t2 : Fin (k0_t2_loop v47 k0_t1).trips) : Fin 4 → Nat :=
  let c0_554 : Index := 0#32
  let c2_555 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v801 : Index := Scalar.indexCast v788
  let c0_556 : Index := 0#32
  ![0, 2, v801.toNat, 0]
def k0_off10 (v47 : BitVec 32) (k0_t1 : Fin (k0_t1_loop v47).trips) (k0_t2 : Fin (k0_t2_loop v47 k0_t1).trips) : Fin 4 → Nat :=
  let c0_557 : Index := 0#32
  let c3_558 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v807 : Index := Scalar.indexCast v788
  let c0_559 : Index := 0#32
  ![0, 3, v807.toNat, 0]
def k0_off11 (v47 : BitVec 32) (k0_t1 : Fin (k0_t1_loop v47).trips) (k0_t2 : Fin (k0_t2_loop v47 k0_t1).trips) : Fin 4 → Nat :=
  let c0_560 : Index := 0#32
  let c4_561 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v813 : Index := Scalar.indexCast v788
  let c0_562 : Index := 0#32
  ![0, 4, v813.toNat, 0]
def k0_off12 (v47 : BitVec 32) (k0_t1 : Fin (k0_t1_loop v47).trips) (k0_t2 : Fin (k0_t2_loop v47 k0_t1).trips) : Fin 4 → Nat :=
  let c0_563 : Index := 0#32
  let c5_564 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v819 : Index := Scalar.indexCast v788
  let c0_565 : Index := 0#32
  ![0, 5, v819.toNat, 0]
def k0_off13 (v47 : BitVec 32) (k0_t1 : Fin (k0_t1_loop v47).trips) (k0_t2 : Fin (k0_t2_loop v47 k0_t1).trips) : Fin 4 → Nat :=
  let c0_566 : Index := 0#32
  let c6_567 : Index := 6#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v788 : BitVec 32 := Scalar.addi v483 v787
  let v825 : Index := Scalar.indexCast v788
  let c0_568 : Index := 0#32
  ![0, 6, v825.toNat, 0]
def k0_off14 (v47 : BitVec 32) (k0_t1 : Fin (k0_t1_loop v47).trips) (k0_t2 : Fin (k0_t2_loop v47 k0_t1).trips) (c0_i32_584 : BitVec 32) : Fin 2 → Nat :=
  let c4_i32 : BitVec 32 := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v863 : BitVec 32 := Scalar.muli c4_i32 v787
  let v864 : BitVec 32 := Scalar.addi v863 c0_i32_584
  let v865 : Index := Scalar.indexCast v864
  let c0_585 : Index := 0#32
  ![v865.toNat, 0]
def k0_mult2 (v47 : BitVec 32) (k0_t1 : Fin (k0_t1_loop v47).trips) (k0_t2 : Fin (k0_t2_loop v47 k0_t1).trips) : BitVec 32 :=
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  v2511
def k0_off15 (v47 : BitVec 32) (k0_t1 : Fin (k0_t1_loop v47).trips) (k0_t2 : Fin (k0_t2_loop v47 k0_t1).trips) : Fin 3 → Nat :=
  let c0_1278 : Index := 0#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2513 : Index := Scalar.indexCast v2512
  let c0_1279 : Index := 0#32
  ![0, v2513.toNat, 0]
def k0_off16 (v47 : BitVec 32) (k0_t1 : Fin (k0_t1_loop v47).trips) (k0_t2 : Fin (k0_t2_loop v47 k0_t1).trips) : Fin 3 → Nat :=
  let c1_1280 : Index := 1#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2517 : Index := Scalar.indexCast v2512
  let c0_1281 : Index := 0#32
  ![1, v2517.toNat, 0]
def k0_off17 (v47 : BitVec 32) (k0_t1 : Fin (k0_t1_loop v47).trips) (k0_t2 : Fin (k0_t2_loop v47 k0_t1).trips) : Fin 3 → Nat :=
  let c2_1282 : Index := 2#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2521 : Index := Scalar.indexCast v2512
  let c0_1283 : Index := 0#32
  ![2, v2521.toNat, 0]
def k0_off18 (v47 : BitVec 32) (k0_t1 : Fin (k0_t1_loop v47).trips) (k0_t2 : Fin (k0_t2_loop v47 k0_t1).trips) : Fin 3 → Nat :=
  let c3_1284 : Index := 3#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2525 : Index := Scalar.indexCast v2512
  let c0_1285 : Index := 0#32
  ![3, v2525.toNat, 0]
def k0_off19 (v47 : BitVec 32) (k0_t1 : Fin (k0_t1_loop v47).trips) (k0_t2 : Fin (k0_t2_loop v47 k0_t1).trips) : Fin 3 → Nat :=
  let c4_1286 : Index := 4#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2529 : Index := Scalar.indexCast v2512
  let c0_1287 : Index := 0#32
  ![4, v2529.toNat, 0]
def k0_off20 (v47 : BitVec 32) (k0_t1 : Fin (k0_t1_loop v47).trips) (k0_t2 : Fin (k0_t2_loop v47 k0_t1).trips) : Fin 3 → Nat :=
  let c5_1288 : Index := 5#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2533 : Index := Scalar.indexCast v2512
  let c0_1289 : Index := 0#32
  ![5, v2533.toNat, 0]
def k0_off21 (v47 : BitVec 32) (k0_t1 : Fin (k0_t1_loop v47).trips) (k0_t2 : Fin (k0_t2_loop v47 k0_t1).trips) : Fin 3 → Nat :=
  let c6_1290 : Index := 6#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2537 : Index := Scalar.indexCast v2512
  let c0_1291 : Index := 0#32
  ![6, v2537.toNat, 0]
def k0_off22 (v47 : BitVec 32) (k0_t1 : Fin (k0_t1_loop v47).trips) (k0_t2 : Fin (k0_t2_loop v47 k0_t1).trips) : Fin 3 → Nat :=
  let c7_1292 : Index := 7#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2541 : Index := Scalar.indexCast v2512
  let c0_1293 : Index := 0#32
  ![7, v2541.toNat, 0]
def k0_off23 (v47 : BitVec 32) (k0_t1 : Fin (k0_t1_loop v47).trips) (k0_t2 : Fin (k0_t2_loop v47 k0_t1).trips) : Fin 3 → Nat :=
  let c8_1294 : Index := 8#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t2
  let v787 : BitVec 32 := Scalar.subi v786 arg17
  let v2511 : BitVec 32 := Scalar.muli c8_i32_1277 v787
  let v2512 : BitVec 32 := v2511
  let v2545 : Index := Scalar.indexCast v2512
  let c0_1295 : Index := 0#32
  ![8, v2545.toNat, 0]
@[reducible] def k0_t3_loop (v47 : BitVec 32) (k0_t1 : Fin (k0_t1_loop v47).trips) : Scf.Loop 32 :=
  let c0_i32_287 : BitVec 32 := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let v495 : BitVec 32 := Scalar.addi c0_i32_287 v494
  let c1_i32_291 : BitVec 32 := 1#32
  ⟨v498, v495, c1_i32_291⟩
def k0_off24 (v47 : BitVec 32) (k0_t1 : Fin (k0_t1_loop v47).trips) (k0_t3 : Fin (k0_t3_loop v47 k0_t1).trips) : Fin 4 → Nat :=
  let c0_548 : Index := 0#32
  let c0_549 : Index := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v789 : Index := Scalar.indexCast v788
  let c0_550 : Index := 0#32
  ![0, 0, v789.toNat, 0]
def k0_off25 (v47 : BitVec 32) (k0_t1 : Fin (k0_t1_loop v47).trips) (k0_t3 : Fin (k0_t3_loop v47 k0_t1).trips) : Fin 4 → Nat :=
  let c0_551 : Index := 0#32
  let c1_552 : Index := 1#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v795 : Index := Scalar.indexCast v788
  let c0_553 : Index := 0#32
  ![0, 1, v795.toNat, 0]
def k0_off26 (v47 : BitVec 32) (k0_t1 : Fin (k0_t1_loop v47).trips) (k0_t3 : Fin (k0_t3_loop v47 k0_t1).trips) : Fin 4 → Nat :=
  let c0_554 : Index := 0#32
  let c2_555 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v801 : Index := Scalar.indexCast v788
  let c0_556 : Index := 0#32
  ![0, 2, v801.toNat, 0]
def k0_off27 (v47 : BitVec 32) (k0_t1 : Fin (k0_t1_loop v47).trips) (k0_t3 : Fin (k0_t3_loop v47 k0_t1).trips) : Fin 4 → Nat :=
  let c0_557 : Index := 0#32
  let c3_558 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v807 : Index := Scalar.indexCast v788
  let c0_559 : Index := 0#32
  ![0, 3, v807.toNat, 0]
def k0_off28 (v47 : BitVec 32) (k0_t1 : Fin (k0_t1_loop v47).trips) (k0_t3 : Fin (k0_t3_loop v47 k0_t1).trips) : Fin 4 → Nat :=
  let c0_560 : Index := 0#32
  let c4_561 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v813 : Index := Scalar.indexCast v788
  let c0_562 : Index := 0#32
  ![0, 4, v813.toNat, 0]
def k0_off29 (v47 : BitVec 32) (k0_t1 : Fin (k0_t1_loop v47).trips) (k0_t3 : Fin (k0_t3_loop v47 k0_t1).trips) : Fin 4 → Nat :=
  let c0_563 : Index := 0#32
  let c5_564 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v819 : Index := Scalar.indexCast v788
  let c0_565 : Index := 0#32
  ![0, 5, v819.toNat, 0]
def k0_off30 (v47 : BitVec 32) (k0_t1 : Fin (k0_t1_loop v47).trips) (k0_t3 : Fin (k0_t3_loop v47 k0_t1).trips) : Fin 4 → Nat :=
  let c0_566 : Index := 0#32
  let c6_567 : Index := 6#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v788 : BitVec 32 := Scalar.addi v483 v787
  let v825 : Index := Scalar.indexCast v788
  let c0_568 : Index := 0#32
  ![0, 6, v825.toNat, 0]
def k0_off31 (v47 : BitVec 32) (k0_t1 : Fin (k0_t1_loop v47).trips) (k0_t3 : Fin (k0_t3_loop v47 k0_t1).trips) (c0_i32_584 : BitVec 32) : Fin 2 → Nat :=
  let c4_i32 : BitVec 32 := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v863 : BitVec 32 := Scalar.muli c4_i32 v787
  let v864 : BitVec 32 := Scalar.addi v863 c0_i32_584
  let v865 : Index := Scalar.indexCast v864
  let c0_585 : Index := 0#32
  ![v865.toNat, 0]
def k0_mult3 (v47 : BitVec 32) (k0_t1 : Fin (k0_t1_loop v47).trips) (k0_t3 : Fin (k0_t3_loop v47 k0_t1).trips) : BitVec 32 :=
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  v2511
def k0_off32 (v47 : BitVec 32) (k0_t1 : Fin (k0_t1_loop v47).trips) (k0_t3 : Fin (k0_t3_loop v47 k0_t1).trips) : Fin 3 → Nat :=
  let c0_1278 : Index := 0#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2513 : Index := Scalar.indexCast v2512
  let c0_1279 : Index := 0#32
  ![0, v2513.toNat, 0]
def k0_off33 (v47 : BitVec 32) (k0_t1 : Fin (k0_t1_loop v47).trips) (k0_t3 : Fin (k0_t3_loop v47 k0_t1).trips) : Fin 3 → Nat :=
  let c1_1280 : Index := 1#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2517 : Index := Scalar.indexCast v2512
  let c0_1281 : Index := 0#32
  ![1, v2517.toNat, 0]
def k0_off34 (v47 : BitVec 32) (k0_t1 : Fin (k0_t1_loop v47).trips) (k0_t3 : Fin (k0_t3_loop v47 k0_t1).trips) : Fin 3 → Nat :=
  let c2_1282 : Index := 2#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2521 : Index := Scalar.indexCast v2512
  let c0_1283 : Index := 0#32
  ![2, v2521.toNat, 0]
def k0_off35 (v47 : BitVec 32) (k0_t1 : Fin (k0_t1_loop v47).trips) (k0_t3 : Fin (k0_t3_loop v47 k0_t1).trips) : Fin 3 → Nat :=
  let c3_1284 : Index := 3#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2525 : Index := Scalar.indexCast v2512
  let c0_1285 : Index := 0#32
  ![3, v2525.toNat, 0]
def k0_off36 (v47 : BitVec 32) (k0_t1 : Fin (k0_t1_loop v47).trips) (k0_t3 : Fin (k0_t3_loop v47 k0_t1).trips) : Fin 3 → Nat :=
  let c4_1286 : Index := 4#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2529 : Index := Scalar.indexCast v2512
  let c0_1287 : Index := 0#32
  ![4, v2529.toNat, 0]
def k0_off37 (v47 : BitVec 32) (k0_t1 : Fin (k0_t1_loop v47).trips) (k0_t3 : Fin (k0_t3_loop v47 k0_t1).trips) : Fin 3 → Nat :=
  let c5_1288 : Index := 5#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2533 : Index := Scalar.indexCast v2512
  let c0_1289 : Index := 0#32
  ![5, v2533.toNat, 0]
def k0_off38 (v47 : BitVec 32) (k0_t1 : Fin (k0_t1_loop v47).trips) (k0_t3 : Fin (k0_t3_loop v47 k0_t1).trips) : Fin 3 → Nat :=
  let c6_1290 : Index := 6#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2537 : Index := Scalar.indexCast v2512
  let c0_1291 : Index := 0#32
  ![6, v2537.toNat, 0]
def k0_off39 (v47 : BitVec 32) (k0_t1 : Fin (k0_t1_loop v47).trips) (k0_t3 : Fin (k0_t3_loop v47 k0_t1).trips) : Fin 3 → Nat :=
  let c7_1292 : Index := 7#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2541 : Index := Scalar.indexCast v2512
  let c0_1293 : Index := 0#32
  ![7, v2541.toNat, 0]
def k0_off40 (v47 : BitVec 32) (k0_t1 : Fin (k0_t1_loop v47).trips) (k0_t3 : Fin (k0_t3_loop v47 k0_t1).trips) : Fin 3 → Nat :=
  let c8_1294 : Index := 8#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t3
  let v787 : BitVec 32 := Scalar.subi v786 arg17
  let v2511 : BitVec 32 := Scalar.muli c8_i32_1277 v787
  let v2512 : BitVec 32 := v2511
  let v2545 : Index := Scalar.indexCast v2512
  let c0_1295 : Index := 0#32
  ![8, v2545.toNat, 0]
def k0_off41 (v47 : BitVec 32) (k0_t1 : Fin (k0_t1_loop v47).trips) : Fin 4 → Nat :=
  let c0_432 : Index := 0#32
  let c2_433 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v639 : Index := Scalar.indexCast v483
  let c0_434 : Index := 0#32
  ![0, 2, v639.toNat, 0]
def k0_off42 (v47 : BitVec 32) (k0_t1 : Fin (k0_t1_loop v47).trips) : Fin 4 → Nat :=
  let c0_435 : Index := 0#32
  let c3_436 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v643 : Index := Scalar.indexCast v483
  let c0_437 : Index := 0#32
  ![0, 3, v643.toNat, 0]
def k0_off43 (v47 : BitVec 32) (k0_t1 : Fin (k0_t1_loop v47).trips) : Fin 4 → Nat :=
  let c0_438 : Index := 0#32
  let c4_439 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v647 : Index := Scalar.indexCast v483
  let c0_440 : Index := 0#32
  ![0, 4, v647.toNat, 0]
def k0_off44 (v47 : BitVec 32) (k0_t1 : Fin (k0_t1_loop v47).trips) : Fin 4 → Nat :=
  let c0_441 : Index := 0#32
  let c5_442 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v651 : Index := Scalar.indexCast v483
  let c0_443 : Index := 0#32
  ![0, 5, v651.toNat, 0]
def k0_off45 (v47 : BitVec 32) (k0_t1 : Fin (k0_t1_loop v47).trips) : Fin 4 → Nat :=
  let c0_445 : Index := 0#32
  let c0_446 : Index := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v662 : Index := Scalar.indexCast v483
  let c0_447 : Index := 0#32
  ![0, 0, v662.toNat, 0]
def k0_off46 (v47 : BitVec 32) (k0_t1 : Fin (k0_t1_loop v47).trips) : Fin 4 → Nat :=
  let c0_448 : Index := 0#32
  let c1_449 : Index := 1#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v670 : Index := Scalar.indexCast v483
  let c0_450 : Index := 0#32
  ![0, 1, v670.toNat, 0]
def k0_off47 (v47 : BitVec 32) (k0_t1 : Fin (k0_t1_loop v47).trips) : Fin 4 → Nat :=
  let c0_451 : Index := 0#32
  let c2_452 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v676 : Index := Scalar.indexCast v483
  let c0_453 : Index := 0#32
  ![0, 2, v676.toNat, 0]
def k0_off48 (v47 : BitVec 32) (k0_t1 : Fin (k0_t1_loop v47).trips) : Fin 4 → Nat :=
  let c0_455 : Index := 0#32
  let c3_456 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v683 : Index := Scalar.indexCast v483
  let c0_457 : Index := 0#32
  ![0, 3, v683.toNat, 0]
def k0_off49 (v47 : BitVec 32) (k0_t1 : Fin (k0_t1_loop v47).trips) : Fin 4 → Nat :=
  let c0_458 : Index := 0#32
  let c4_459 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v688 : Index := Scalar.indexCast v483
  let c0_460 : Index := 0#32
  ![0, 4, v688.toNat, 0]
def k0_off50 (v47 : BitVec 32) (k0_t1 : Fin (k0_t1_loop v47).trips) : Fin 4 → Nat :=
  let c0_462 : Index := 0#32
  let c5_463 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v695 : Index := Scalar.indexCast v483
  let c0_464 : Index := 0#32
  ![0, 5, v695.toNat, 0]
def k0_off51 (v47 : BitVec 32) (k0_t1 : Fin (k0_t1_loop v47).trips) : Fin 4 → Nat :=
  let c0_489 : Index := 0#32
  let c6_490 : Index := 6#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v724 : Index := Scalar.indexCast v483
  let c0_491 : Index := 0#32
  ![0, 6, v724.toNat, 0]
def k0_off52 (v47 : BitVec 32) (k0_t1 : Fin (k0_t1_loop v47).trips) : Fin 4 → Nat :=
  let c0_516 : Index := 0#32
  let c7_517 : Index := 7#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v753 : Index := Scalar.indexCast v483
  let c0_518 : Index := 0#32
  ![0, 7, v753.toNat, 0]
def k0_off53 (v47 : BitVec 32) (k0_t1 : Fin (k0_t1_loop v47).trips) : Fin 4 → Nat :=
  let c0_543 : Index := 0#32
  let c8_544 : Index := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c1_i32_271 : BitVec 32 := 1#32
  let arg15 : BitVec 32 := Scf.iv c0_i32_268 c1_i32_271 k0_t1
  let v481 : BitVec 32 := Scalar.subi v480 arg15
  let c8_i32_281 : BitVec 32 := 8#32
  let v482 : BitVec 32 := Scalar.muli v481 c8_i32_281
  let v483 : BitVec 32 := v482
  let v782 : Index := Scalar.indexCast v483
  let c0_545 : Index := 0#32
  ![0, 8, v782.toNat, 0]
@[reducible] def k0_t4_loop (v47 : BitVec 32) : Scf.Loop 32 :=
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let v457 : BitVec 32 := Scalar.addi c0_i32_268 v456
  let c1_i32_272 : BitVec 32 := 1#32
  ⟨v460, v457, c1_i32_272⟩
def k0_mult4 (v47 : BitVec 32) (k0_t4 : Fin (k0_t4_loop v47).trips) : BitVec 32 :=
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  v482
def k0_off54 (v47 : BitVec 32) (k0_t4 : Fin (k0_t4_loop v47).trips) : Fin 4 → Nat :=
  let c0_283 : Index := 0#32
  let c7 : Index := 7#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v486 : Index := Scalar.indexCast v483
  let c0_284 : Index := 0#32
  ![0, 7, v486.toNat, 0]
@[reducible] def k0_t5_loop (v47 : BitVec 32) (k0_t4 : Fin (k0_t4_loop v47).trips) : Scf.Loop 32 :=
  let c0_i32_287 : BitVec 32 := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_290 : BitVec 32 := 1#32
  ⟨c0_i32_287, v498, c1_i32_290⟩
def k0_off55 (v47 : BitVec 32) (k0_t4 : Fin (k0_t4_loop v47).trips) (k0_t5 : Fin (k0_t5_loop v47 k0_t4).trips) : Fin 4 → Nat :=
  let c0_548 : Index := 0#32
  let c0_549 : Index := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v789 : Index := Scalar.indexCast v788
  let c0_550 : Index := 0#32
  ![0, 0, v789.toNat, 0]
def k0_off56 (v47 : BitVec 32) (k0_t4 : Fin (k0_t4_loop v47).trips) (k0_t5 : Fin (k0_t5_loop v47 k0_t4).trips) : Fin 4 → Nat :=
  let c0_551 : Index := 0#32
  let c1_552 : Index := 1#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v795 : Index := Scalar.indexCast v788
  let c0_553 : Index := 0#32
  ![0, 1, v795.toNat, 0]
def k0_off57 (v47 : BitVec 32) (k0_t4 : Fin (k0_t4_loop v47).trips) (k0_t5 : Fin (k0_t5_loop v47 k0_t4).trips) : Fin 4 → Nat :=
  let c0_554 : Index := 0#32
  let c2_555 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v801 : Index := Scalar.indexCast v788
  let c0_556 : Index := 0#32
  ![0, 2, v801.toNat, 0]
def k0_off58 (v47 : BitVec 32) (k0_t4 : Fin (k0_t4_loop v47).trips) (k0_t5 : Fin (k0_t5_loop v47 k0_t4).trips) : Fin 4 → Nat :=
  let c0_557 : Index := 0#32
  let c3_558 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v807 : Index := Scalar.indexCast v788
  let c0_559 : Index := 0#32
  ![0, 3, v807.toNat, 0]
def k0_off59 (v47 : BitVec 32) (k0_t4 : Fin (k0_t4_loop v47).trips) (k0_t5 : Fin (k0_t5_loop v47 k0_t4).trips) : Fin 4 → Nat :=
  let c0_560 : Index := 0#32
  let c4_561 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v813 : Index := Scalar.indexCast v788
  let c0_562 : Index := 0#32
  ![0, 4, v813.toNat, 0]
def k0_off60 (v47 : BitVec 32) (k0_t4 : Fin (k0_t4_loop v47).trips) (k0_t5 : Fin (k0_t5_loop v47 k0_t4).trips) : Fin 4 → Nat :=
  let c0_563 : Index := 0#32
  let c5_564 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v819 : Index := Scalar.indexCast v788
  let c0_565 : Index := 0#32
  ![0, 5, v819.toNat, 0]
def k0_off61 (v47 : BitVec 32) (k0_t4 : Fin (k0_t4_loop v47).trips) (k0_t5 : Fin (k0_t5_loop v47 k0_t4).trips) : Fin 4 → Nat :=
  let c0_566 : Index := 0#32
  let c6_567 : Index := 6#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v788 : BitVec 32 := Scalar.addi v483 v787
  let v825 : Index := Scalar.indexCast v788
  let c0_568 : Index := 0#32
  ![0, 6, v825.toNat, 0]
def k0_off62 (v47 : BitVec 32) (k0_t4 : Fin (k0_t4_loop v47).trips) (k0_t5 : Fin (k0_t5_loop v47 k0_t4).trips) (c0_i32_584 : BitVec 32) : Fin 2 → Nat :=
  let c4_i32 : BitVec 32 := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v863 : BitVec 32 := Scalar.muli c4_i32 v787
  let v864 : BitVec 32 := Scalar.addi v863 c0_i32_584
  let v865 : Index := Scalar.indexCast v864
  let c0_585 : Index := 0#32
  ![v865.toNat, 0]
def k0_mult5 (v47 : BitVec 32) (k0_t4 : Fin (k0_t4_loop v47).trips) (k0_t5 : Fin (k0_t5_loop v47 k0_t4).trips) : BitVec 32 :=
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  v2511
def k0_off63 (v47 : BitVec 32) (k0_t4 : Fin (k0_t4_loop v47).trips) (k0_t5 : Fin (k0_t5_loop v47 k0_t4).trips) : Fin 3 → Nat :=
  let c0_1278 : Index := 0#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2513 : Index := Scalar.indexCast v2512
  let c0_1279 : Index := 0#32
  ![0, v2513.toNat, 0]
def k0_off64 (v47 : BitVec 32) (k0_t4 : Fin (k0_t4_loop v47).trips) (k0_t5 : Fin (k0_t5_loop v47 k0_t4).trips) : Fin 3 → Nat :=
  let c1_1280 : Index := 1#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2517 : Index := Scalar.indexCast v2512
  let c0_1281 : Index := 0#32
  ![1, v2517.toNat, 0]
def k0_off65 (v47 : BitVec 32) (k0_t4 : Fin (k0_t4_loop v47).trips) (k0_t5 : Fin (k0_t5_loop v47 k0_t4).trips) : Fin 3 → Nat :=
  let c2_1282 : Index := 2#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2521 : Index := Scalar.indexCast v2512
  let c0_1283 : Index := 0#32
  ![2, v2521.toNat, 0]
def k0_off66 (v47 : BitVec 32) (k0_t4 : Fin (k0_t4_loop v47).trips) (k0_t5 : Fin (k0_t5_loop v47 k0_t4).trips) : Fin 3 → Nat :=
  let c3_1284 : Index := 3#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2525 : Index := Scalar.indexCast v2512
  let c0_1285 : Index := 0#32
  ![3, v2525.toNat, 0]
def k0_off67 (v47 : BitVec 32) (k0_t4 : Fin (k0_t4_loop v47).trips) (k0_t5 : Fin (k0_t5_loop v47 k0_t4).trips) : Fin 3 → Nat :=
  let c4_1286 : Index := 4#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2529 : Index := Scalar.indexCast v2512
  let c0_1287 : Index := 0#32
  ![4, v2529.toNat, 0]
def k0_off68 (v47 : BitVec 32) (k0_t4 : Fin (k0_t4_loop v47).trips) (k0_t5 : Fin (k0_t5_loop v47 k0_t4).trips) : Fin 3 → Nat :=
  let c5_1288 : Index := 5#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2533 : Index := Scalar.indexCast v2512
  let c0_1289 : Index := 0#32
  ![5, v2533.toNat, 0]
def k0_off69 (v47 : BitVec 32) (k0_t4 : Fin (k0_t4_loop v47).trips) (k0_t5 : Fin (k0_t5_loop v47 k0_t4).trips) : Fin 3 → Nat :=
  let c6_1290 : Index := 6#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2537 : Index := Scalar.indexCast v2512
  let c0_1291 : Index := 0#32
  ![6, v2537.toNat, 0]
def k0_off70 (v47 : BitVec 32) (k0_t4 : Fin (k0_t4_loop v47).trips) (k0_t5 : Fin (k0_t5_loop v47 k0_t4).trips) : Fin 3 → Nat :=
  let c7_1292 : Index := 7#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2541 : Index := Scalar.indexCast v2512
  let c0_1293 : Index := 0#32
  ![7, v2541.toNat, 0]
def k0_off71 (v47 : BitVec 32) (k0_t4 : Fin (k0_t4_loop v47).trips) (k0_t5 : Fin (k0_t5_loop v47 k0_t4).trips) : Fin 3 → Nat :=
  let c8_1294 : Index := 8#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let c1_i32_290 : BitVec 32 := 1#32
  let arg17 : BitVec 32 := Scf.iv c0_i32_287 c1_i32_290 k0_t5
  let v787 : BitVec 32 := Scalar.subi v786 arg17
  let v2511 : BitVec 32 := Scalar.muli c8_i32_1277 v787
  let v2512 : BitVec 32 := v2511
  let v2545 : Index := Scalar.indexCast v2512
  let c0_1295 : Index := 0#32
  ![8, v2545.toNat, 0]
@[reducible] def k0_t6_loop (v47 : BitVec 32) (k0_t4 : Fin (k0_t4_loop v47).trips) : Scf.Loop 32 :=
  let c0_i32_287 : BitVec 32 := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let v495 : BitVec 32 := Scalar.addi c0_i32_287 v494
  let c1_i32_291 : BitVec 32 := 1#32
  ⟨v498, v495, c1_i32_291⟩
def k0_off72 (v47 : BitVec 32) (k0_t4 : Fin (k0_t4_loop v47).trips) (k0_t6 : Fin (k0_t6_loop v47 k0_t4).trips) : Fin 4 → Nat :=
  let c0_548 : Index := 0#32
  let c0_549 : Index := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v789 : Index := Scalar.indexCast v788
  let c0_550 : Index := 0#32
  ![0, 0, v789.toNat, 0]
def k0_off73 (v47 : BitVec 32) (k0_t4 : Fin (k0_t4_loop v47).trips) (k0_t6 : Fin (k0_t6_loop v47 k0_t4).trips) : Fin 4 → Nat :=
  let c0_551 : Index := 0#32
  let c1_552 : Index := 1#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v795 : Index := Scalar.indexCast v788
  let c0_553 : Index := 0#32
  ![0, 1, v795.toNat, 0]
def k0_off74 (v47 : BitVec 32) (k0_t4 : Fin (k0_t4_loop v47).trips) (k0_t6 : Fin (k0_t6_loop v47 k0_t4).trips) : Fin 4 → Nat :=
  let c0_554 : Index := 0#32
  let c2_555 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v801 : Index := Scalar.indexCast v788
  let c0_556 : Index := 0#32
  ![0, 2, v801.toNat, 0]
def k0_off75 (v47 : BitVec 32) (k0_t4 : Fin (k0_t4_loop v47).trips) (k0_t6 : Fin (k0_t6_loop v47 k0_t4).trips) : Fin 4 → Nat :=
  let c0_557 : Index := 0#32
  let c3_558 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v807 : Index := Scalar.indexCast v788
  let c0_559 : Index := 0#32
  ![0, 3, v807.toNat, 0]
def k0_off76 (v47 : BitVec 32) (k0_t4 : Fin (k0_t4_loop v47).trips) (k0_t6 : Fin (k0_t6_loop v47 k0_t4).trips) : Fin 4 → Nat :=
  let c0_560 : Index := 0#32
  let c4_561 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v813 : Index := Scalar.indexCast v788
  let c0_562 : Index := 0#32
  ![0, 4, v813.toNat, 0]
def k0_off77 (v47 : BitVec 32) (k0_t4 : Fin (k0_t4_loop v47).trips) (k0_t6 : Fin (k0_t6_loop v47 k0_t4).trips) : Fin 4 → Nat :=
  let c0_563 : Index := 0#32
  let c5_564 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v819 : Index := Scalar.indexCast v788
  let c0_565 : Index := 0#32
  ![0, 5, v819.toNat, 0]
def k0_off78 (v47 : BitVec 32) (k0_t4 : Fin (k0_t4_loop v47).trips) (k0_t6 : Fin (k0_t6_loop v47 k0_t4).trips) : Fin 4 → Nat :=
  let c0_566 : Index := 0#32
  let c6_567 : Index := 6#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v788 : BitVec 32 := Scalar.addi v483 v787
  let v825 : Index := Scalar.indexCast v788
  let c0_568 : Index := 0#32
  ![0, 6, v825.toNat, 0]
def k0_off79 (v47 : BitVec 32) (k0_t4 : Fin (k0_t4_loop v47).trips) (k0_t6 : Fin (k0_t6_loop v47 k0_t4).trips) (c0_i32_584 : BitVec 32) : Fin 2 → Nat :=
  let c4_i32 : BitVec 32 := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v863 : BitVec 32 := Scalar.muli c4_i32 v787
  let v864 : BitVec 32 := Scalar.addi v863 c0_i32_584
  let v865 : Index := Scalar.indexCast v864
  let c0_585 : Index := 0#32
  ![v865.toNat, 0]
def k0_mult6 (v47 : BitVec 32) (k0_t4 : Fin (k0_t4_loop v47).trips) (k0_t6 : Fin (k0_t6_loop v47 k0_t4).trips) : BitVec 32 :=
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  v2511
def k0_off80 (v47 : BitVec 32) (k0_t4 : Fin (k0_t4_loop v47).trips) (k0_t6 : Fin (k0_t6_loop v47 k0_t4).trips) : Fin 3 → Nat :=
  let c0_1278 : Index := 0#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2513 : Index := Scalar.indexCast v2512
  let c0_1279 : Index := 0#32
  ![0, v2513.toNat, 0]
def k0_off81 (v47 : BitVec 32) (k0_t4 : Fin (k0_t4_loop v47).trips) (k0_t6 : Fin (k0_t6_loop v47 k0_t4).trips) : Fin 3 → Nat :=
  let c1_1280 : Index := 1#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2517 : Index := Scalar.indexCast v2512
  let c0_1281 : Index := 0#32
  ![1, v2517.toNat, 0]
def k0_off82 (v47 : BitVec 32) (k0_t4 : Fin (k0_t4_loop v47).trips) (k0_t6 : Fin (k0_t6_loop v47 k0_t4).trips) : Fin 3 → Nat :=
  let c2_1282 : Index := 2#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2521 : Index := Scalar.indexCast v2512
  let c0_1283 : Index := 0#32
  ![2, v2521.toNat, 0]
def k0_off83 (v47 : BitVec 32) (k0_t4 : Fin (k0_t4_loop v47).trips) (k0_t6 : Fin (k0_t6_loop v47 k0_t4).trips) : Fin 3 → Nat :=
  let c3_1284 : Index := 3#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2525 : Index := Scalar.indexCast v2512
  let c0_1285 : Index := 0#32
  ![3, v2525.toNat, 0]
def k0_off84 (v47 : BitVec 32) (k0_t4 : Fin (k0_t4_loop v47).trips) (k0_t6 : Fin (k0_t6_loop v47 k0_t4).trips) : Fin 3 → Nat :=
  let c4_1286 : Index := 4#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2529 : Index := Scalar.indexCast v2512
  let c0_1287 : Index := 0#32
  ![4, v2529.toNat, 0]
def k0_off85 (v47 : BitVec 32) (k0_t4 : Fin (k0_t4_loop v47).trips) (k0_t6 : Fin (k0_t6_loop v47 k0_t4).trips) : Fin 3 → Nat :=
  let c5_1288 : Index := 5#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2533 : Index := Scalar.indexCast v2512
  let c0_1289 : Index := 0#32
  ![5, v2533.toNat, 0]
def k0_off86 (v47 : BitVec 32) (k0_t4 : Fin (k0_t4_loop v47).trips) (k0_t6 : Fin (k0_t6_loop v47 k0_t4).trips) : Fin 3 → Nat :=
  let c6_1290 : Index := 6#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2537 : Index := Scalar.indexCast v2512
  let c0_1291 : Index := 0#32
  ![6, v2537.toNat, 0]
def k0_off87 (v47 : BitVec 32) (k0_t4 : Fin (k0_t4_loop v47).trips) (k0_t6 : Fin (k0_t6_loop v47 k0_t4).trips) : Fin 3 → Nat :=
  let c7_1292 : Index := 7#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2541 : Index := Scalar.indexCast v2512
  let c0_1293 : Index := 0#32
  ![7, v2541.toNat, 0]
def k0_off88 (v47 : BitVec 32) (k0_t4 : Fin (k0_t4_loop v47).trips) (k0_t6 : Fin (k0_t6_loop v47 k0_t4).trips) : Fin 3 → Nat :=
  let c8_1294 : Index := 8#32
  let c8_i32_1277 : BitVec 32 := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v484 : BitVec 32 := Scalar.subi v47 v483
  let c8_i32_282 : BitVec 32 := 8#32
  let v485 : BitVec 32 := Scalar.minsi v484 c8_i32_282
  let c1_i32_547 : BitVec 32 := 1#32
  let v786 : BitVec 32 := Scalar.subi v485 c1_i32_547
  let c0_i32_287 : BitVec 32 := 0#32
  let v494 : BitVec 32 := Scalar.subi v485 c0_i32_287
  let c1_i32_289 : BitVec 32 := 1#32
  let v496 : BitVec 32 := Scalar.divsi v494 c1_i32_289
  let v497 : BitVec 32 := Scalar.muli v496 c1_i32_289
  let v498 : BitVec 32 := Scalar.addi c0_i32_287 v497
  let c1_i32_291 : BitVec 32 := 1#32
  let arg17 : BitVec 32 := Scf.iv v498 c1_i32_291 k0_t6
  let v787 : BitVec 32 := Scalar.subi v786 arg17
  let v2511 : BitVec 32 := Scalar.muli c8_i32_1277 v787
  let v2512 : BitVec 32 := v2511
  let v2545 : Index := Scalar.indexCast v2512
  let c0_1295 : Index := 0#32
  ![8, v2545.toNat, 0]
def k0_off89 (v47 : BitVec 32) (k0_t4 : Fin (k0_t4_loop v47).trips) : Fin 4 → Nat :=
  let c0_432 : Index := 0#32
  let c2_433 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v639 : Index := Scalar.indexCast v483
  let c0_434 : Index := 0#32
  ![0, 2, v639.toNat, 0]
def k0_off90 (v47 : BitVec 32) (k0_t4 : Fin (k0_t4_loop v47).trips) : Fin 4 → Nat :=
  let c0_435 : Index := 0#32
  let c3_436 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v643 : Index := Scalar.indexCast v483
  let c0_437 : Index := 0#32
  ![0, 3, v643.toNat, 0]
def k0_off91 (v47 : BitVec 32) (k0_t4 : Fin (k0_t4_loop v47).trips) : Fin 4 → Nat :=
  let c0_438 : Index := 0#32
  let c4_439 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v647 : Index := Scalar.indexCast v483
  let c0_440 : Index := 0#32
  ![0, 4, v647.toNat, 0]
def k0_off92 (v47 : BitVec 32) (k0_t4 : Fin (k0_t4_loop v47).trips) : Fin 4 → Nat :=
  let c0_441 : Index := 0#32
  let c5_442 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v651 : Index := Scalar.indexCast v483
  let c0_443 : Index := 0#32
  ![0, 5, v651.toNat, 0]
def k0_off93 (v47 : BitVec 32) (k0_t4 : Fin (k0_t4_loop v47).trips) : Fin 4 → Nat :=
  let c0_445 : Index := 0#32
  let c0_446 : Index := 0#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v662 : Index := Scalar.indexCast v483
  let c0_447 : Index := 0#32
  ![0, 0, v662.toNat, 0]
def k0_off94 (v47 : BitVec 32) (k0_t4 : Fin (k0_t4_loop v47).trips) : Fin 4 → Nat :=
  let c0_448 : Index := 0#32
  let c1_449 : Index := 1#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v670 : Index := Scalar.indexCast v483
  let c0_450 : Index := 0#32
  ![0, 1, v670.toNat, 0]
def k0_off95 (v47 : BitVec 32) (k0_t4 : Fin (k0_t4_loop v47).trips) : Fin 4 → Nat :=
  let c0_451 : Index := 0#32
  let c2_452 : Index := 2#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v676 : Index := Scalar.indexCast v483
  let c0_453 : Index := 0#32
  ![0, 2, v676.toNat, 0]
def k0_off96 (v47 : BitVec 32) (k0_t4 : Fin (k0_t4_loop v47).trips) : Fin 4 → Nat :=
  let c0_455 : Index := 0#32
  let c3_456 : Index := 3#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v683 : Index := Scalar.indexCast v483
  let c0_457 : Index := 0#32
  ![0, 3, v683.toNat, 0]
def k0_off97 (v47 : BitVec 32) (k0_t4 : Fin (k0_t4_loop v47).trips) : Fin 4 → Nat :=
  let c0_458 : Index := 0#32
  let c4_459 : Index := 4#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v688 : Index := Scalar.indexCast v483
  let c0_460 : Index := 0#32
  ![0, 4, v688.toNat, 0]
def k0_off98 (v47 : BitVec 32) (k0_t4 : Fin (k0_t4_loop v47).trips) : Fin 4 → Nat :=
  let c0_462 : Index := 0#32
  let c5_463 : Index := 5#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v695 : Index := Scalar.indexCast v483
  let c0_464 : Index := 0#32
  ![0, 5, v695.toNat, 0]
def k0_off99 (v47 : BitVec 32) (k0_t4 : Fin (k0_t4_loop v47).trips) : Fin 4 → Nat :=
  let c0_489 : Index := 0#32
  let c6_490 : Index := 6#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v724 : Index := Scalar.indexCast v483
  let c0_491 : Index := 0#32
  ![0, 6, v724.toNat, 0]
def k0_off100 (v47 : BitVec 32) (k0_t4 : Fin (k0_t4_loop v47).trips) : Fin 4 → Nat :=
  let c0_516 : Index := 0#32
  let c7_517 : Index := 7#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v753 : Index := Scalar.indexCast v483
  let c0_518 : Index := 0#32
  ![0, 7, v753.toNat, 0]
def k0_off101 (v47 : BitVec 32) (k0_t4 : Fin (k0_t4_loop v47).trips) : Fin 4 → Nat :=
  let c0_543 : Index := 0#32
  let c8_544 : Index := 8#32
  let c1_i32_273 : BitVec 32 := 1#32
  let v463 : BitVec 32 := Scalar.subi v47 c1_i32_273
  let c0_i32_275 : BitVec 32 := 0#32
  let v465 : BitVec 1 := Scalar.cmpi .sgt v463 c0_i32_275
  let v466 : BitVec 32 := Scalar.extui v465
  let c0_i32_276 : BitVec 32 := 0#32
  let v467 : BitVec 1 := Scalar.cmpi .slt v463 c0_i32_276
  let v468 : BitVec 32 := Scalar.extui v467
  let v469 : BitVec 32 := Scalar.subi v466 v468
  let c8_i32_274 : BitVec 32 := 8#32
  let c0_i32_277 : BitVec 32 := 0#32
  let v470 : BitVec 1 := Scalar.cmpi .sgt c8_i32_274 c0_i32_277
  let v471 : BitVec 32 := Scalar.extui v470
  let c0_i32_278 : BitVec 32 := 0#32
  let v472 : BitVec 1 := Scalar.cmpi .slt c8_i32_274 c0_i32_278
  let v473 : BitVec 32 := Scalar.extui v472
  let v474 : BitVec 32 := Scalar.subi v471 v473
  let v475 : BitVec 1 := Scalar.cmpi .ne v469 v474
  let v476 : BitVec 32 := Scalar.remsi v463 c8_i32_274
  let c0_i32_279 : BitVec 32 := 0#32
  let v477 : BitVec 1 := Scalar.cmpi .ne v476 c0_i32_279
  let v478 : BitVec 1 := Scalar.andi v475 v477
  let v464 : BitVec 32 := Scalar.divsi v463 c8_i32_274
  let c1_i32_280 : BitVec 32 := 1#32
  let v479 : BitVec 32 := Scalar.subi v464 c1_i32_280
  let v480 : BitVec 32 := Scalar.select v478 v479 v464
  let c0_i32_268 : BitVec 32 := 0#32
  let c8_i32 : BitVec 32 := 8#32
  let v437 : BitVec 32 := Scalar.addi v47 c8_i32
  let c1_i32_260 : BitVec 32 := 1#32
  let v438 : BitVec 32 := Scalar.subi v437 c1_i32_260
  let c0_i32_262 : BitVec 32 := 0#32
  let v440 : BitVec 1 := Scalar.cmpi .sgt v438 c0_i32_262
  let v441 : BitVec 32 := Scalar.extui v440
  let c0_i32_263 : BitVec 32 := 0#32
  let v442 : BitVec 1 := Scalar.cmpi .slt v438 c0_i32_263
  let v443 : BitVec 32 := Scalar.extui v442
  let v444 : BitVec 32 := Scalar.subi v441 v443
  let c8_i32_261 : BitVec 32 := 8#32
  let c0_i32_264 : BitVec 32 := 0#32
  let v445 : BitVec 1 := Scalar.cmpi .sgt c8_i32_261 c0_i32_264
  let v446 : BitVec 32 := Scalar.extui v445
  let c0_i32_265 : BitVec 32 := 0#32
  let v447 : BitVec 1 := Scalar.cmpi .slt c8_i32_261 c0_i32_265
  let v448 : BitVec 32 := Scalar.extui v447
  let v449 : BitVec 32 := Scalar.subi v446 v448
  let v450 : BitVec 1 := Scalar.cmpi .ne v444 v449
  let v451 : BitVec 32 := Scalar.remsi v438 c8_i32_261
  let c0_i32_266 : BitVec 32 := 0#32
  let v452 : BitVec 1 := Scalar.cmpi .ne v451 c0_i32_266
  let v453 : BitVec 1 := Scalar.andi v450 v452
  let v439 : BitVec 32 := Scalar.divsi v438 c8_i32_261
  let c1_i32_267 : BitVec 32 := 1#32
  let v454 : BitVec 32 := Scalar.subi v439 c1_i32_267
  let v455 : BitVec 32 := Scalar.select v453 v454 v439
  let v456 : BitVec 32 := Scalar.subi v455 c0_i32_268
  let c1_i32_270 : BitVec 32 := 1#32
  let v458 : BitVec 32 := Scalar.divsi v456 c1_i32_270
  let v459 : BitVec 32 := Scalar.muli v458 c1_i32_270
  let v460 : BitVec 32 := Scalar.addi c0_i32_268 v459
  let c1_i32_272 : BitVec 32 := 1#32
  let arg15 : BitVec 32 := Scf.iv v460 c1_i32_272 k0_t4
  let v481 : BitVec 32 := Scalar.subi v480 arg15
  let c8_i32_281 : BitVec 32 := 8#32
  let v482 : BitVec 32 := Scalar.muli v481 c8_i32_281
  let v483 : BitVec 32 := v482
  let v782 : Index := Scalar.indexCast v483
  let c0_545 : Index := 0#32
  ![0, 8, v782.toNat, 0]

def k0_chk1_0 (v47 : BitVec 32) : Prop :=
  ((k0_t1_loop v47).OK) ∧
  (∀ k0_t1 : Fin (k0_t1_loop v47).trips, 8 ∣ (k0_mult1 v47 k0_t1).toNat) ∧
  (∀ k0_t1 : Fin (k0_t1_loop v47).trips, ∀ a, (k0_off6 v47 k0_t1) a + S1x1x8x128.size a ≤ S1x8x40x128.size a) ∧
  (∀ k0_t1 : Fin (k0_t1_loop v47).trips, (k0_t2_loop v47 k0_t1).OK) ∧
  (∀ (k0_t1 : Fin (k0_t1_loop v47).trips) (k0_t2 : Fin (k0_t2_loop v47 k0_t1).trips), ∀ a, (k0_off7 v47 k0_t1 k0_t2) a + S1x1x1x128.size a ≤ S1x8x40x128.size a) ∧
  (∀ (k0_t1 : Fin (k0_t1_loop v47).trips) (k0_t2 : Fin (k0_t2_loop v47 k0_t1).trips), ∀ a, (k0_off8 v47 k0_t1 k0_t2) a + S1x1x1x128.size a ≤ S1x8x40x128.size a) ∧
  (∀ (k0_t1 : Fin (k0_t1_loop v47).trips) (k0_t2 : Fin (k0_t2_loop v47 k0_t1).trips), ∀ a, (k0_off9 v47 k0_t1 k0_t2) a + S1x1x1x128.size a ≤ S1x8x40x128.size a) ∧
  (∀ (k0_t1 : Fin (k0_t1_loop v47).trips) (k0_t2 : Fin (k0_t2_loop v47 k0_t1).trips), ∀ a, (k0_off10 v47 k0_t1 k0_t2) a + S1x1x1x128.size a ≤ S1x8x40x128.size a) ∧
  (∀ (k0_t1 : Fin (k0_t1_loop v47).trips) (k0_t2 : Fin (k0_t2_loop v47 k0_t1).trips), ∀ a, (k0_off11 v47 k0_t1 k0_t2) a + S1x1x1x128.size a ≤ S1x8x40x128.size a) ∧
  (∀ (k0_t1 : Fin (k0_t1_loop v47).trips) (k0_t2 : Fin (k0_t2_loop v47 k0_t1).trips), ∀ a, (k0_off12 v47 k0_t1 k0_t2) a + S1x1x1x128.size a ≤ S1x8x40x128.size a) ∧
  (∀ (k0_t1 : Fin (k0_t1_loop v47).trips) (k0_t2 : Fin (k0_t2_loop v47 k0_t1).trips), ∀ a, (k0_off13 v47 k0_t1 k0_t2) a + S1x1x1x128.size a ≤ S1x8x40x128.size a) ∧
  (∀ (k0_t1 : Fin (k0_t1_loop v47).trips) (k0_t2 : Fin (k0_t2_loop v47 k0_t1).trips), ∀ (r : Fin 3), ∀ a, (k0_off14 v47 k0_t1 k0_t2 (BitVec.ofNat 32 r.val)) a + S1x128.size a ≤ S32x128.size a) ∧
  (∀ (k0_t1 : Fin (k0_t1_loop v47).trips) (k0_t2 : Fin (k0_t2_loop v47 k0_t1).trips), 8 ∣ (k0_mult2 v47 k0_t1 k0_t2).toNat) ∧
  (∀ (k0_t1 : Fin (k0_t1_loop v47).trips) (k0_t2 : Fin (k0_t2_loop v47 k0_t1).trips), ∀ a, (k0_off15 v47 k0_t1 k0_t2) a + S1x8x128.size a ≤ S9x64x128.size a) ∧
  (∀ (k0_t1 : Fin (k0_t1_loop v47).trips) (k0_t2 : Fin (k0_t2_loop v47 k0_t1).trips), ∀ a, (k0_off16 v47 k0_t1 k0_t2) a + S1x8x128.size a ≤ S9x64x128.size a) ∧
  (∀ (k0_t1 : Fin (k0_t1_loop v47).trips) (k0_t2 : Fin (k0_t2_loop v47 k0_t1).trips), ∀ a, (k0_off17 v47 k0_t1 k0_t2) a + S1x8x128.size a ≤ S9x64x128.size a) ∧
  (∀ (k0_t1 : Fin (k0_t1_loop v47).trips) (k0_t2 : Fin (k0_t2_loop v47 k0_t1).trips), ∀ a, (k0_off18 v47 k0_t1 k0_t2) a + S1x8x128.size a ≤ S9x64x128.size a) ∧
  (∀ (k0_t1 : Fin (k0_t1_loop v47).trips) (k0_t2 : Fin (k0_t2_loop v47 k0_t1).trips), ∀ a, (k0_off19 v47 k0_t1 k0_t2) a + S1x8x128.size a ≤ S9x64x128.size a) ∧
  (∀ (k0_t1 : Fin (k0_t1_loop v47).trips) (k0_t2 : Fin (k0_t2_loop v47 k0_t1).trips), ∀ a, (k0_off20 v47 k0_t1 k0_t2) a + S1x8x128.size a ≤ S9x64x128.size a) ∧
  (∀ (k0_t1 : Fin (k0_t1_loop v47).trips) (k0_t2 : Fin (k0_t2_loop v47 k0_t1).trips), ∀ a, (k0_off21 v47 k0_t1 k0_t2) a + S1x8x128.size a ≤ S9x64x128.size a) ∧
  (∀ (k0_t1 : Fin (k0_t1_loop v47).trips) (k0_t2 : Fin (k0_t2_loop v47 k0_t1).trips), ∀ a, (k0_off22 v47 k0_t1 k0_t2) a + S1x8x128.size a ≤ S9x64x128.size a) ∧
  (∀ (k0_t1 : Fin (k0_t1_loop v47).trips) (k0_t2 : Fin (k0_t2_loop v47 k0_t1).trips), ∀ a, (k0_off23 v47 k0_t1 k0_t2) a + S1x8x128.size a ≤ S9x64x128.size a) ∧
  (∀ k0_t1 : Fin (k0_t1_loop v47).trips, (k0_t3_loop v47 k0_t1).OK) ∧
  (∀ (k0_t1 : Fin (k0_t1_loop v47).trips) (k0_t3 : Fin (k0_t3_loop v47 k0_t1).trips), ∀ a, (k0_off24 v47 k0_t1 k0_t3) a + S1x1x1x128.size a ≤ S1x8x40x128.size a) ∧
  (∀ (k0_t1 : Fin (k0_t1_loop v47).trips) (k0_t3 : Fin (k0_t3_loop v47 k0_t1).trips), ∀ a, (k0_off25 v47 k0_t1 k0_t3) a + S1x1x1x128.size a ≤ S1x8x40x128.size a) ∧
  (∀ (k0_t1 : Fin (k0_t1_loop v47).trips) (k0_t3 : Fin (k0_t3_loop v47 k0_t1).trips), ∀ a, (k0_off26 v47 k0_t1 k0_t3) a + S1x1x1x128.size a ≤ S1x8x40x128.size a) ∧
  (∀ (k0_t1 : Fin (k0_t1_loop v47).trips) (k0_t3 : Fin (k0_t3_loop v47 k0_t1).trips), ∀ a, (k0_off27 v47 k0_t1 k0_t3) a + S1x1x1x128.size a ≤ S1x8x40x128.size a) ∧
  (∀ (k0_t1 : Fin (k0_t1_loop v47).trips) (k0_t3 : Fin (k0_t3_loop v47 k0_t1).trips), ∀ a, (k0_off28 v47 k0_t1 k0_t3) a + S1x1x1x128.size a ≤ S1x8x40x128.size a) ∧
  (∀ (k0_t1 : Fin (k0_t1_loop v47).trips) (k0_t3 : Fin (k0_t3_loop v47 k0_t1).trips), ∀ a, (k0_off29 v47 k0_t1 k0_t3) a + S1x1x1x128.size a ≤ S1x8x40x128.size a) ∧
  (∀ (k0_t1 : Fin (k0_t1_loop v47).trips) (k0_t3 : Fin (k0_t3_loop v47 k0_t1).trips), ∀ a, (k0_off30 v47 k0_t1 k0_t3) a + S1x1x1x128.size a ≤ S1x8x40x128.size a) ∧
  (∀ (k0_t1 : Fin (k0_t1_loop v47).trips) (k0_t3 : Fin (k0_t3_loop v47 k0_t1).trips), ∀ (r : Fin 3), ∀ a, (k0_off31 v47 k0_t1 k0_t3 (BitVec.ofNat 32 r.val)) a + S1x128.size a ≤ S32x128.size a) ∧
  (∀ (k0_t1 : Fin (k0_t1_loop v47).trips) (k0_t3 : Fin (k0_t3_loop v47 k0_t1).trips), 8 ∣ (k0_mult3 v47 k0_t1 k0_t3).toNat)
def k0_chk1_1 (v47 : BitVec 32) : Prop :=
  (∀ (k0_t1 : Fin (k0_t1_loop v47).trips) (k0_t3 : Fin (k0_t3_loop v47 k0_t1).trips), ∀ a, (k0_off32 v47 k0_t1 k0_t3) a + S1x8x128.size a ≤ S9x64x128.size a) ∧
  (∀ (k0_t1 : Fin (k0_t1_loop v47).trips) (k0_t3 : Fin (k0_t3_loop v47 k0_t1).trips), ∀ a, (k0_off33 v47 k0_t1 k0_t3) a + S1x8x128.size a ≤ S9x64x128.size a) ∧
  (∀ (k0_t1 : Fin (k0_t1_loop v47).trips) (k0_t3 : Fin (k0_t3_loop v47 k0_t1).trips), ∀ a, (k0_off34 v47 k0_t1 k0_t3) a + S1x8x128.size a ≤ S9x64x128.size a) ∧
  (∀ (k0_t1 : Fin (k0_t1_loop v47).trips) (k0_t3 : Fin (k0_t3_loop v47 k0_t1).trips), ∀ a, (k0_off35 v47 k0_t1 k0_t3) a + S1x8x128.size a ≤ S9x64x128.size a) ∧
  (∀ (k0_t1 : Fin (k0_t1_loop v47).trips) (k0_t3 : Fin (k0_t3_loop v47 k0_t1).trips), ∀ a, (k0_off36 v47 k0_t1 k0_t3) a + S1x8x128.size a ≤ S9x64x128.size a) ∧
  (∀ (k0_t1 : Fin (k0_t1_loop v47).trips) (k0_t3 : Fin (k0_t3_loop v47 k0_t1).trips), ∀ a, (k0_off37 v47 k0_t1 k0_t3) a + S1x8x128.size a ≤ S9x64x128.size a) ∧
  (∀ (k0_t1 : Fin (k0_t1_loop v47).trips) (k0_t3 : Fin (k0_t3_loop v47 k0_t1).trips), ∀ a, (k0_off38 v47 k0_t1 k0_t3) a + S1x8x128.size a ≤ S9x64x128.size a) ∧
  (∀ (k0_t1 : Fin (k0_t1_loop v47).trips) (k0_t3 : Fin (k0_t3_loop v47 k0_t1).trips), ∀ a, (k0_off39 v47 k0_t1 k0_t3) a + S1x8x128.size a ≤ S9x64x128.size a) ∧
  (∀ (k0_t1 : Fin (k0_t1_loop v47).trips) (k0_t3 : Fin (k0_t3_loop v47 k0_t1).trips), ∀ a, (k0_off40 v47 k0_t1 k0_t3) a + S1x8x128.size a ≤ S9x64x128.size a) ∧
  (∀ k0_t1 : Fin (k0_t1_loop v47).trips, ∀ a, (k0_off41 v47 k0_t1) a + S1x1x8x128.size a ≤ S1x8x40x128.size a) ∧
  (∀ k0_t1 : Fin (k0_t1_loop v47).trips, ∀ a, (k0_off42 v47 k0_t1) a + S1x1x8x128.size a ≤ S1x8x40x128.size a) ∧
  (∀ k0_t1 : Fin (k0_t1_loop v47).trips, ∀ a, (k0_off43 v47 k0_t1) a + S1x1x8x128.size a ≤ S1x8x40x128.size a) ∧
  (∀ k0_t1 : Fin (k0_t1_loop v47).trips, ∀ a, (k0_off44 v47 k0_t1) a + S1x1x8x128.size a ≤ S1x8x40x128.size a) ∧
  (∀ k0_t1 : Fin (k0_t1_loop v47).trips, ∀ a, (k0_off45 v47 k0_t1) a + S1x1x8x128.size a ≤ S1x9x40x128.size a) ∧
  (∀ k0_t1 : Fin (k0_t1_loop v47).trips, ∀ a, (k0_off46 v47 k0_t1) a + S1x1x8x128.size a ≤ S1x9x40x128.size a) ∧
  (∀ k0_t1 : Fin (k0_t1_loop v47).trips, ∀ a, (k0_off47 v47 k0_t1) a + S1x1x8x128.size a ≤ S1x9x40x128.size a) ∧
  (∀ k0_t1 : Fin (k0_t1_loop v47).trips, ∀ a, (k0_off48 v47 k0_t1) a + S1x1x8x128.size a ≤ S1x9x40x128.size a) ∧
  (∀ k0_t1 : Fin (k0_t1_loop v47).trips, ∀ a, (k0_off49 v47 k0_t1) a + S1x1x8x128.size a ≤ S1x9x40x128.size a) ∧
  (∀ k0_t1 : Fin (k0_t1_loop v47).trips, ∀ a, (k0_off50 v47 k0_t1) a + S1x1x8x128.size a ≤ S1x9x40x128.size a) ∧
  (∀ k0_t1 : Fin (k0_t1_loop v47).trips, ∀ a, (k0_off51 v47 k0_t1) a + S1x1x8x128.size a ≤ S1x9x40x128.size a) ∧
  (∀ k0_t1 : Fin (k0_t1_loop v47).trips, ∀ a, (k0_off52 v47 k0_t1) a + S1x1x8x128.size a ≤ S1x9x40x128.size a) ∧
  (∀ k0_t1 : Fin (k0_t1_loop v47).trips, ∀ a, (k0_off53 v47 k0_t1) a + S1x1x8x128.size a ≤ S1x9x40x128.size a) ∧
  ((k0_t4_loop v47).OK) ∧
  (∀ k0_t4 : Fin (k0_t4_loop v47).trips, 8 ∣ (k0_mult4 v47 k0_t4).toNat) ∧
  (∀ k0_t4 : Fin (k0_t4_loop v47).trips, ∀ a, (k0_off54 v47 k0_t4) a + S1x1x8x128.size a ≤ S1x8x40x128.size a) ∧
  (∀ k0_t4 : Fin (k0_t4_loop v47).trips, (k0_t5_loop v47 k0_t4).OK) ∧
  (∀ (k0_t4 : Fin (k0_t4_loop v47).trips) (k0_t5 : Fin (k0_t5_loop v47 k0_t4).trips), ∀ a, (k0_off55 v47 k0_t4 k0_t5) a + S1x1x1x128.size a ≤ S1x8x40x128.size a) ∧
  (∀ (k0_t4 : Fin (k0_t4_loop v47).trips) (k0_t5 : Fin (k0_t5_loop v47 k0_t4).trips), ∀ a, (k0_off56 v47 k0_t4 k0_t5) a + S1x1x1x128.size a ≤ S1x8x40x128.size a) ∧
  (∀ (k0_t4 : Fin (k0_t4_loop v47).trips) (k0_t5 : Fin (k0_t5_loop v47 k0_t4).trips), ∀ a, (k0_off57 v47 k0_t4 k0_t5) a + S1x1x1x128.size a ≤ S1x8x40x128.size a) ∧
  (∀ (k0_t4 : Fin (k0_t4_loop v47).trips) (k0_t5 : Fin (k0_t5_loop v47 k0_t4).trips), ∀ a, (k0_off58 v47 k0_t4 k0_t5) a + S1x1x1x128.size a ≤ S1x8x40x128.size a) ∧
  (∀ (k0_t4 : Fin (k0_t4_loop v47).trips) (k0_t5 : Fin (k0_t5_loop v47 k0_t4).trips), ∀ a, (k0_off59 v47 k0_t4 k0_t5) a + S1x1x1x128.size a ≤ S1x8x40x128.size a) ∧
  (∀ (k0_t4 : Fin (k0_t4_loop v47).trips) (k0_t5 : Fin (k0_t5_loop v47 k0_t4).trips), ∀ a, (k0_off60 v47 k0_t4 k0_t5) a + S1x1x1x128.size a ≤ S1x8x40x128.size a)
def k0_chk1_2 (v47 : BitVec 32) : Prop :=
  (∀ (k0_t4 : Fin (k0_t4_loop v47).trips) (k0_t5 : Fin (k0_t5_loop v47 k0_t4).trips), ∀ a, (k0_off61 v47 k0_t4 k0_t5) a + S1x1x1x128.size a ≤ S1x8x40x128.size a) ∧
  (∀ (k0_t4 : Fin (k0_t4_loop v47).trips) (k0_t5 : Fin (k0_t5_loop v47 k0_t4).trips), ∀ (r : Fin 3), ∀ a, (k0_off62 v47 k0_t4 k0_t5 (BitVec.ofNat 32 r.val)) a + S1x128.size a ≤ S32x128.size a) ∧
  (∀ (k0_t4 : Fin (k0_t4_loop v47).trips) (k0_t5 : Fin (k0_t5_loop v47 k0_t4).trips), 8 ∣ (k0_mult5 v47 k0_t4 k0_t5).toNat) ∧
  (∀ (k0_t4 : Fin (k0_t4_loop v47).trips) (k0_t5 : Fin (k0_t5_loop v47 k0_t4).trips), ∀ a, (k0_off63 v47 k0_t4 k0_t5) a + S1x8x128.size a ≤ S9x64x128.size a) ∧
  (∀ (k0_t4 : Fin (k0_t4_loop v47).trips) (k0_t5 : Fin (k0_t5_loop v47 k0_t4).trips), ∀ a, (k0_off64 v47 k0_t4 k0_t5) a + S1x8x128.size a ≤ S9x64x128.size a) ∧
  (∀ (k0_t4 : Fin (k0_t4_loop v47).trips) (k0_t5 : Fin (k0_t5_loop v47 k0_t4).trips), ∀ a, (k0_off65 v47 k0_t4 k0_t5) a + S1x8x128.size a ≤ S9x64x128.size a) ∧
  (∀ (k0_t4 : Fin (k0_t4_loop v47).trips) (k0_t5 : Fin (k0_t5_loop v47 k0_t4).trips), ∀ a, (k0_off66 v47 k0_t4 k0_t5) a + S1x8x128.size a ≤ S9x64x128.size a) ∧
  (∀ (k0_t4 : Fin (k0_t4_loop v47).trips) (k0_t5 : Fin (k0_t5_loop v47 k0_t4).trips), ∀ a, (k0_off67 v47 k0_t4 k0_t5) a + S1x8x128.size a ≤ S9x64x128.size a) ∧
  (∀ (k0_t4 : Fin (k0_t4_loop v47).trips) (k0_t5 : Fin (k0_t5_loop v47 k0_t4).trips), ∀ a, (k0_off68 v47 k0_t4 k0_t5) a + S1x8x128.size a ≤ S9x64x128.size a) ∧
  (∀ (k0_t4 : Fin (k0_t4_loop v47).trips) (k0_t5 : Fin (k0_t5_loop v47 k0_t4).trips), ∀ a, (k0_off69 v47 k0_t4 k0_t5) a + S1x8x128.size a ≤ S9x64x128.size a) ∧
  (∀ (k0_t4 : Fin (k0_t4_loop v47).trips) (k0_t5 : Fin (k0_t5_loop v47 k0_t4).trips), ∀ a, (k0_off70 v47 k0_t4 k0_t5) a + S1x8x128.size a ≤ S9x64x128.size a) ∧
  (∀ (k0_t4 : Fin (k0_t4_loop v47).trips) (k0_t5 : Fin (k0_t5_loop v47 k0_t4).trips), ∀ a, (k0_off71 v47 k0_t4 k0_t5) a + S1x8x128.size a ≤ S9x64x128.size a) ∧
  (∀ k0_t4 : Fin (k0_t4_loop v47).trips, (k0_t6_loop v47 k0_t4).OK) ∧
  (∀ (k0_t4 : Fin (k0_t4_loop v47).trips) (k0_t6 : Fin (k0_t6_loop v47 k0_t4).trips), ∀ a, (k0_off72 v47 k0_t4 k0_t6) a + S1x1x1x128.size a ≤ S1x8x40x128.size a) ∧
  (∀ (k0_t4 : Fin (k0_t4_loop v47).trips) (k0_t6 : Fin (k0_t6_loop v47 k0_t4).trips), ∀ a, (k0_off73 v47 k0_t4 k0_t6) a + S1x1x1x128.size a ≤ S1x8x40x128.size a) ∧
  (∀ (k0_t4 : Fin (k0_t4_loop v47).trips) (k0_t6 : Fin (k0_t6_loop v47 k0_t4).trips), ∀ a, (k0_off74 v47 k0_t4 k0_t6) a + S1x1x1x128.size a ≤ S1x8x40x128.size a) ∧
  (∀ (k0_t4 : Fin (k0_t4_loop v47).trips) (k0_t6 : Fin (k0_t6_loop v47 k0_t4).trips), ∀ a, (k0_off75 v47 k0_t4 k0_t6) a + S1x1x1x128.size a ≤ S1x8x40x128.size a) ∧
  (∀ (k0_t4 : Fin (k0_t4_loop v47).trips) (k0_t6 : Fin (k0_t6_loop v47 k0_t4).trips), ∀ a, (k0_off76 v47 k0_t4 k0_t6) a + S1x1x1x128.size a ≤ S1x8x40x128.size a) ∧
  (∀ (k0_t4 : Fin (k0_t4_loop v47).trips) (k0_t6 : Fin (k0_t6_loop v47 k0_t4).trips), ∀ a, (k0_off77 v47 k0_t4 k0_t6) a + S1x1x1x128.size a ≤ S1x8x40x128.size a) ∧
  (∀ (k0_t4 : Fin (k0_t4_loop v47).trips) (k0_t6 : Fin (k0_t6_loop v47 k0_t4).trips), ∀ a, (k0_off78 v47 k0_t4 k0_t6) a + S1x1x1x128.size a ≤ S1x8x40x128.size a) ∧
  (∀ (k0_t4 : Fin (k0_t4_loop v47).trips) (k0_t6 : Fin (k0_t6_loop v47 k0_t4).trips), ∀ (r : Fin 3), ∀ a, (k0_off79 v47 k0_t4 k0_t6 (BitVec.ofNat 32 r.val)) a + S1x128.size a ≤ S32x128.size a) ∧
  (∀ (k0_t4 : Fin (k0_t4_loop v47).trips) (k0_t6 : Fin (k0_t6_loop v47 k0_t4).trips), 8 ∣ (k0_mult6 v47 k0_t4 k0_t6).toNat) ∧
  (∀ (k0_t4 : Fin (k0_t4_loop v47).trips) (k0_t6 : Fin (k0_t6_loop v47 k0_t4).trips), ∀ a, (k0_off80 v47 k0_t4 k0_t6) a + S1x8x128.size a ≤ S9x64x128.size a) ∧
  (∀ (k0_t4 : Fin (k0_t4_loop v47).trips) (k0_t6 : Fin (k0_t6_loop v47 k0_t4).trips), ∀ a, (k0_off81 v47 k0_t4 k0_t6) a + S1x8x128.size a ≤ S9x64x128.size a) ∧
  (∀ (k0_t4 : Fin (k0_t4_loop v47).trips) (k0_t6 : Fin (k0_t6_loop v47 k0_t4).trips), ∀ a, (k0_off82 v47 k0_t4 k0_t6) a + S1x8x128.size a ≤ S9x64x128.size a) ∧
  (∀ (k0_t4 : Fin (k0_t4_loop v47).trips) (k0_t6 : Fin (k0_t6_loop v47 k0_t4).trips), ∀ a, (k0_off83 v47 k0_t4 k0_t6) a + S1x8x128.size a ≤ S9x64x128.size a) ∧
  (∀ (k0_t4 : Fin (k0_t4_loop v47).trips) (k0_t6 : Fin (k0_t6_loop v47 k0_t4).trips), ∀ a, (k0_off84 v47 k0_t4 k0_t6) a + S1x8x128.size a ≤ S9x64x128.size a) ∧
  (∀ (k0_t4 : Fin (k0_t4_loop v47).trips) (k0_t6 : Fin (k0_t6_loop v47 k0_t4).trips), ∀ a, (k0_off85 v47 k0_t4 k0_t6) a + S1x8x128.size a ≤ S9x64x128.size a) ∧
  (∀ (k0_t4 : Fin (k0_t4_loop v47).trips) (k0_t6 : Fin (k0_t6_loop v47 k0_t4).trips), ∀ a, (k0_off86 v47 k0_t4 k0_t6) a + S1x8x128.size a ≤ S9x64x128.size a) ∧
  (∀ (k0_t4 : Fin (k0_t4_loop v47).trips) (k0_t6 : Fin (k0_t6_loop v47 k0_t4).trips), ∀ a, (k0_off87 v47 k0_t4 k0_t6) a + S1x8x128.size a ≤ S9x64x128.size a) ∧
  (∀ (k0_t4 : Fin (k0_t4_loop v47).trips) (k0_t6 : Fin (k0_t6_loop v47 k0_t4).trips), ∀ a, (k0_off88 v47 k0_t4 k0_t6) a + S1x8x128.size a ≤ S9x64x128.size a) ∧
  (∀ k0_t4 : Fin (k0_t4_loop v47).trips, ∀ a, (k0_off89 v47 k0_t4) a + S1x1x8x128.size a ≤ S1x8x40x128.size a)
def k0_chk1_3 (v47 : BitVec 32) : Prop :=
  (∀ k0_t4 : Fin (k0_t4_loop v47).trips, ∀ a, (k0_off90 v47 k0_t4) a + S1x1x8x128.size a ≤ S1x8x40x128.size a) ∧
  (∀ k0_t4 : Fin (k0_t4_loop v47).trips, ∀ a, (k0_off91 v47 k0_t4) a + S1x1x8x128.size a ≤ S1x8x40x128.size a) ∧
  (∀ k0_t4 : Fin (k0_t4_loop v47).trips, ∀ a, (k0_off92 v47 k0_t4) a + S1x1x8x128.size a ≤ S1x8x40x128.size a) ∧
  (∀ k0_t4 : Fin (k0_t4_loop v47).trips, ∀ a, (k0_off93 v47 k0_t4) a + S1x1x8x128.size a ≤ S1x9x40x128.size a) ∧
  (∀ k0_t4 : Fin (k0_t4_loop v47).trips, ∀ a, (k0_off94 v47 k0_t4) a + S1x1x8x128.size a ≤ S1x9x40x128.size a) ∧
  (∀ k0_t4 : Fin (k0_t4_loop v47).trips, ∀ a, (k0_off95 v47 k0_t4) a + S1x1x8x128.size a ≤ S1x9x40x128.size a) ∧
  (∀ k0_t4 : Fin (k0_t4_loop v47).trips, ∀ a, (k0_off96 v47 k0_t4) a + S1x1x8x128.size a ≤ S1x9x40x128.size a) ∧
  (∀ k0_t4 : Fin (k0_t4_loop v47).trips, ∀ a, (k0_off97 v47 k0_t4) a + S1x1x8x128.size a ≤ S1x9x40x128.size a) ∧
  (∀ k0_t4 : Fin (k0_t4_loop v47).trips, ∀ a, (k0_off98 v47 k0_t4) a + S1x1x8x128.size a ≤ S1x9x40x128.size a) ∧
  (∀ k0_t4 : Fin (k0_t4_loop v47).trips, ∀ a, (k0_off99 v47 k0_t4) a + S1x1x8x128.size a ≤ S1x9x40x128.size a) ∧
  (∀ k0_t4 : Fin (k0_t4_loop v47).trips, ∀ a, (k0_off100 v47 k0_t4) a + S1x1x8x128.size a ≤ S1x9x40x128.size a) ∧
  (∀ k0_t4 : Fin (k0_t4_loop v47).trips, ∀ a, (k0_off101 v47 k0_t4) a + S1x1x8x128.size a ≤ S1x9x40x128.size a)
def k0_chk1 (v47 : BitVec 32) : Prop :=
  k0_chk1_0 v47 ∧
  k0_chk1_1 v47 ∧
  k0_chk1_2 v47 ∧
  k0_chk1_3 v47
theorem k0_t1_ok : ∀ (v47 : BitVec 32) (k0_hw1 : k0_chk1 v47), (k0_t1_loop v47).OK := fun v47 k0_hw1 => k0_hw1.1.1
theorem k0_mult1_dvd : ∀ (v47 : BitVec 32) (k0_hw1 : k0_chk1 v47) (k0_t1 : Fin (k0_t1_loop v47).trips), 8 ∣ (k0_mult1 v47 k0_t1).toNat := fun v47 k0_hw1 k0_t1 => k0_hw1.1.2.1 k0_t1
theorem k0_off6_inb : ∀ (v47 : BitVec 32) (k0_hw1 : k0_chk1 v47) (k0_t1 : Fin (k0_t1_loop v47).trips), ∀ a, (k0_off6 v47 k0_t1) a + S1x1x8x128.size a ≤ S1x8x40x128.size a := fun v47 k0_hw1 k0_t1 => k0_hw1.1.2.2.1 k0_t1
theorem k0_t2_ok : ∀ (v47 : BitVec 32) (k0_hw1 : k0_chk1 v47) (k0_t1 : Fin (k0_t1_loop v47).trips), (k0_t2_loop v47 k0_t1).OK := fun v47 k0_hw1 k0_t1 => k0_hw1.1.2.2.2.1 k0_t1
theorem k0_off7_inb : ∀ (v47 : BitVec 32) (k0_hw1 : k0_chk1 v47) (k0_t1 : Fin (k0_t1_loop v47).trips) (k0_t2 : Fin (k0_t2_loop v47 k0_t1).trips), ∀ a, (k0_off7 v47 k0_t1 k0_t2) a + S1x1x1x128.size a ≤ S1x8x40x128.size a := fun v47 k0_hw1 k0_t1 k0_t2 => k0_hw1.1.2.2.2.2.1 k0_t1 k0_t2
theorem k0_off8_inb : ∀ (v47 : BitVec 32) (k0_hw1 : k0_chk1 v47) (k0_t1 : Fin (k0_t1_loop v47).trips) (k0_t2 : Fin (k0_t2_loop v47 k0_t1).trips), ∀ a, (k0_off8 v47 k0_t1 k0_t2) a + S1x1x1x128.size a ≤ S1x8x40x128.size a := fun v47 k0_hw1 k0_t1 k0_t2 => k0_hw1.1.2.2.2.2.2.1 k0_t1 k0_t2
theorem k0_off9_inb : ∀ (v47 : BitVec 32) (k0_hw1 : k0_chk1 v47) (k0_t1 : Fin (k0_t1_loop v47).trips) (k0_t2 : Fin (k0_t2_loop v47 k0_t1).trips), ∀ a, (k0_off9 v47 k0_t1 k0_t2) a + S1x1x1x128.size a ≤ S1x8x40x128.size a := fun v47 k0_hw1 k0_t1 k0_t2 => k0_hw1.1.2.2.2.2.2.2.1 k0_t1 k0_t2
theorem k0_off10_inb : ∀ (v47 : BitVec 32) (k0_hw1 : k0_chk1 v47) (k0_t1 : Fin (k0_t1_loop v47).trips) (k0_t2 : Fin (k0_t2_loop v47 k0_t1).trips), ∀ a, (k0_off10 v47 k0_t1 k0_t2) a + S1x1x1x128.size a ≤ S1x8x40x128.size a := fun v47 k0_hw1 k0_t1 k0_t2 => k0_hw1.1.2.2.2.2.2.2.2.1 k0_t1 k0_t2
theorem k0_off11_inb : ∀ (v47 : BitVec 32) (k0_hw1 : k0_chk1 v47) (k0_t1 : Fin (k0_t1_loop v47).trips) (k0_t2 : Fin (k0_t2_loop v47 k0_t1).trips), ∀ a, (k0_off11 v47 k0_t1 k0_t2) a + S1x1x1x128.size a ≤ S1x8x40x128.size a := fun v47 k0_hw1 k0_t1 k0_t2 => k0_hw1.1.2.2.2.2.2.2.2.2.1 k0_t1 k0_t2
theorem k0_off12_inb : ∀ (v47 : BitVec 32) (k0_hw1 : k0_chk1 v47) (k0_t1 : Fin (k0_t1_loop v47).trips) (k0_t2 : Fin (k0_t2_loop v47 k0_t1).trips), ∀ a, (k0_off12 v47 k0_t1 k0_t2) a + S1x1x1x128.size a ≤ S1x8x40x128.size a := fun v47 k0_hw1 k0_t1 k0_t2 => k0_hw1.1.2.2.2.2.2.2.2.2.2.1 k0_t1 k0_t2
theorem k0_off13_inb : ∀ (v47 : BitVec 32) (k0_hw1 : k0_chk1 v47) (k0_t1 : Fin (k0_t1_loop v47).trips) (k0_t2 : Fin (k0_t2_loop v47 k0_t1).trips), ∀ a, (k0_off13 v47 k0_t1 k0_t2) a + S1x1x1x128.size a ≤ S1x8x40x128.size a := fun v47 k0_hw1 k0_t1 k0_t2 => k0_hw1.1.2.2.2.2.2.2.2.2.2.2.1 k0_t1 k0_t2
theorem k0_off14_inb : ∀ (v47 : BitVec 32) (k0_hw1 : k0_chk1 v47) (k0_t1 : Fin (k0_t1_loop v47).trips) (k0_t2 : Fin (k0_t2_loop v47 k0_t1).trips), ∀ (r : Fin 3), ∀ a, (k0_off14 v47 k0_t1 k0_t2 (BitVec.ofNat 32 r.val)) a + S1x128.size a ≤ S32x128.size a := fun v47 k0_hw1 k0_t1 k0_t2 r => k0_hw1.1.2.2.2.2.2.2.2.2.2.2.2.1 k0_t1 k0_t2 r
theorem k0_mult2_dvd : ∀ (v47 : BitVec 32) (k0_hw1 : k0_chk1 v47) (k0_t1 : Fin (k0_t1_loop v47).trips) (k0_t2 : Fin (k0_t2_loop v47 k0_t1).trips), 8 ∣ (k0_mult2 v47 k0_t1 k0_t2).toNat := fun v47 k0_hw1 k0_t1 k0_t2 => k0_hw1.1.2.2.2.2.2.2.2.2.2.2.2.2.1 k0_t1 k0_t2
theorem k0_off15_inb : ∀ (v47 : BitVec 32) (k0_hw1 : k0_chk1 v47) (k0_t1 : Fin (k0_t1_loop v47).trips) (k0_t2 : Fin (k0_t2_loop v47 k0_t1).trips), ∀ a, (k0_off15 v47 k0_t1 k0_t2) a + S1x8x128.size a ≤ S9x64x128.size a := fun v47 k0_hw1 k0_t1 k0_t2 => k0_hw1.1.2.2.2.2.2.2.2.2.2.2.2.2.2.1 k0_t1 k0_t2
theorem k0_off16_inb : ∀ (v47 : BitVec 32) (k0_hw1 : k0_chk1 v47) (k0_t1 : Fin (k0_t1_loop v47).trips) (k0_t2 : Fin (k0_t2_loop v47 k0_t1).trips), ∀ a, (k0_off16 v47 k0_t1 k0_t2) a + S1x8x128.size a ≤ S9x64x128.size a := fun v47 k0_hw1 k0_t1 k0_t2 => k0_hw1.1.2.2.2.2.2.2.2.2.2.2.2.2.2.2.1 k0_t1 k0_t2
theorem k0_off17_inb : ∀ (v47 : BitVec 32) (k0_hw1 : k0_chk1 v47) (k0_t1 : Fin (k0_t1_loop v47).trips) (k0_t2 : Fin (k0_t2_loop v47 k0_t1).trips), ∀ a, (k0_off17 v47 k0_t1 k0_t2) a + S1x8x128.size a ≤ S9x64x128.size a := fun v47 k0_hw1 k0_t1 k0_t2 => k0_hw1.1.2.2.2.2.2.2.2.2.2.2.2.2.2.2.2.1 k0_t1 k0_t2
theorem k0_off18_inb : ∀ (v47 : BitVec 32) (k0_hw1 : k0_chk1 v47) (k0_t1 : Fin (k0_t1_loop v47).trips) (k0_t2 : Fin (k0_t2_loop v47 k0_t1).trips), ∀ a, (k0_off18 v47 k0_t1 k0_t2) a + S1x8x128.size a ≤ S9x64x128.size a := fun v47 k0_hw1 k0_t1 k0_t2 => k0_hw1.1.2.2.2.2.2.2.2.2.2.2.2.2.2.2.2.2.1 k0_t1 k0_t2
theorem k0_off19_inb : ∀ (v47 : BitVec 32) (k0_hw1 : k0_chk1 v47) (k0_t1 : Fin (k0_t1_loop v47).trips) (k0_t2 : Fin (k0_t2_loop v47 k0_t1).trips), ∀ a, (k0_off19 v47 k0_t1 k0_t2) a + S1x8x128.size a ≤ S9x64x128.size a := fun v47 k0_hw1 k0_t1 k0_t2 => k0_hw1.1.2.2.2.2.2.2.2.2.2.2.2.2.2.2.2.2.2.1 k0_t1 k0_t2
theorem k0_off20_inb : ∀ (v47 : BitVec 32) (k0_hw1 : k0_chk1 v47) (k0_t1 : Fin (k0_t1_loop v47).trips) (k0_t2 : Fin (k0_t2_loop v47 k0_t1).trips), ∀ a, (k0_off20 v47 k0_t1 k0_t2) a + S1x8x128.size a ≤ S9x64x128.size a := fun v47 k0_hw1 k0_t1 k0_t2 => k0_hw1.1.2.2.2.2.2.2.2.2.2.2.2.2.2.2.2.2.2.2.1 k0_t1 k0_t2
theorem k0_off21_inb : ∀ (v47 : BitVec 32) (k0_hw1 : k0_chk1 v47) (k0_t1 : Fin (k0_t1_loop v47).trips) (k0_t2 : Fin (k0_t2_loop v47 k0_t1).trips), ∀ a, (k0_off21 v47 k0_t1 k0_t2) a + S1x8x128.size a ≤ S9x64x128.size a := fun v47 k0_hw1 k0_t1 k0_t2 => k0_hw1.1.2.2.2.2.2.2.2.2.2.2.2.2.2.2.2.2.2.2.2.1 k0_t1 k0_t2
theorem k0_off22_inb : ∀ (v47 : BitVec 32) (k0_hw1 : k0_chk1 v47) (k0_t1 : Fin (k0_t1_loop v47).trips) (k0_t2 : Fin (k0_t2_loop v47 k0_t1).trips), ∀ a, (k0_off22 v47 k0_t1 k0_t2) a + S1x8x128.size a ≤ S9x64x128.size a := fun v47 k0_hw1 k0_t1 k0_t2 => k0_hw1.1.2.2.2.2.2.2.2.2.2.2.2.2.2.2.2.2.2.2.2.2.1 k0_t1 k0_t2
theorem k0_off23_inb : ∀ (v47 : BitVec 32) (k0_hw1 : k0_chk1 v47) (k0_t1 : Fin (k0_t1_loop v47).trips) (k0_t2 : Fin (k0_t2_loop v47 k0_t1).trips), ∀ a, (k0_off23 v47 k0_t1 k0_t2) a + S1x8x128.size a ≤ S9x64x128.size a := fun v47 k0_hw1 k0_t1 k0_t2 => k0_hw1.1.2.2.2.2.2.2.2.2.2.2.2.2.2.2.2.2.2.2.2.2.2.1 k0_t1 k0_t2
theorem k0_t3_ok : ∀ (v47 : BitVec 32) (k0_hw1 : k0_chk1 v47) (k0_t1 : Fin (k0_t1_loop v47).trips), (k0_t3_loop v47 k0_t1).OK := fun v47 k0_hw1 k0_t1 => k0_hw1.1.2.2.2.2.2.2.2.2.2.2.2.2.2.2.2.2.2.2.2.2.2.2.1 k0_t1
theorem k0_off24_inb : ∀ (v47 : BitVec 32) (k0_hw1 : k0_chk1 v47) (k0_t1 : Fin (k0_t1_loop v47).trips) (k0_t3 : Fin (k0_t3_loop v47 k0_t1).trips), ∀ a, (k0_off24 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.1 k0_t1 k0_t3
theorem k0_off25_inb : ∀ (v47 : BitVec 32) (k0_hw1 : k0_chk1 v47) (k0_t1 : Fin (k0_t1_loop v47).trips) (k0_t3 : Fin (k0_t3_loop v47 k0_t1).trips), ∀ a, (k0_off25 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.2.1 k0_t1 k0_t3
theorem k0_off26_inb : ∀ (v47 : BitVec 32) (k0_hw1 : k0_chk1 v47) (k0_t1 : Fin (k0_t1_loop v47).trips) (k0_t3 : Fin (k0_t3_loop v47 k0_t1).trips), ∀ a, (k0_off26 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.2.2.1 k0_t1 k0_t3
theorem k0_off27_inb : ∀ (v47 : BitVec 32) (k0_hw1 : k0_chk1 v47) (k0_t1 : Fin (k0_t1_loop v47).trips) (k0_t3 : Fin (k0_t3_loop v47 k0_t1).trips), ∀ a, (k0_off27 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.2.2.2.1 k0_t1 k0_t3
theorem k0_off28_inb : ∀ (v47 : BitVec 32) (k0_hw1 : k0_chk1 v47) (k0_t1 : Fin (k0_t1_loop v47).trips) (k0_t3 : Fin (k0_t3_loop v47 k0_t1).trips), ∀ a, (k0_off28 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.2.2.2.2.1 k0_t1 k0_t3
theorem k0_off29_inb : ∀ (v47 : BitVec 32) (k0_hw1 : k0_chk1 v47) (k0_t1 : Fin (k0_t1_loop v47).trips) (k0_t3 : Fin (k0_t3_loop v47 k0_t1).trips), ∀ a, (k0_off29 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.2.2.2.2.2.1 k0_t1 k0_t3
theorem k0_off30_inb : ∀ (v47 : BitVec 32) (k0_hw1 : k0_chk1 v47) (k0_t1 : Fin (k0_t1_loop v47).trips) (k0_t3 : Fin (k0_t3_loop v47 k0_t1).trips), ∀ a, (k0_off30 v47 k0_t1 k0_t3) a + S1x1x1x128.size a ≤ S1x8x40x128.size a := fun v47 k0_hw1 k0_t1 k0_t3 => k0_hw1.1.2.2.2.2.2.2.2.2.2.2.2.2.2.2.2.2.2.2.2.2.2.2.2.2.2.2.2.2.2.1 k0_t1 k0_t3
theorem k0_off31_inb : ∀ (v47 : BitVec 32) (k0_hw1 : k0_chk1 v47) (k0_t1 : Fin (k0_t1_loop v47).trips) (k0_t3 : Fin (k0_t3_loop v47 k0_t1).trips), ∀ (r : Fin 3), ∀ a, (k0_off31 v47 k0_t1 k0_t3 (BitVec.ofNat 32 r.val)) a + S1x128.size a ≤ S32x128.size a := fun v47 k0_hw1 k0_t1 k0_t3 r => k0_hw1.1.2.2.2.2.2.2.2.2.2.2.2.2.2.2.2.2.2.2.2.2.2.2.2.2.2.2.2.2.2.2.1 k0_t1 k0_t3 r
theorem k0_mult3_dvd : ∀ (v47 : BitVec 32) (k0_hw1 : k0_chk1 v47) (k0_t1 : Fin (k0_t1_loop v47).trips) (k0_t3 : Fin (k0_t3_loop v47 k0_t1).trips), 8 ∣ (k0_mult3 v47 k0_t1 k0_t3).toNat := fun v47 k0_hw1 k0_t1 k0_t3 => k0_hw1.1.2.2.2.2.2.2.2.2.2.2.2.2.2.2.2.2.2.2.2.2.2.2.2.2.2.2.2.2.2.2.2 k0_t1 k0_t3
theorem k0_off32_inb : ∀ (v47 : BitVec 32) (k0_hw1 : k0_chk1 v47) (k0_t1 : Fin (k0_t1_loop v47).trips) (k0_t3 : Fin (k0_t3_loop v47 k0_t1).trips), ∀ a, (k0_off32 v47 k0_t1 k0_t3) a + S1x8x128.size a ≤ S9x64x128.size a := fun v47 k0_hw1 k0_t1 k0_t3 => k0_hw1.2.1.1 k0_t1 k0_t3
theorem k0_off33_inb : ∀ (v47 : BitVec 32) (k0_hw1 : k0_chk1 v47) (k0_t1 : Fin (k0_t1_loop v47).trips) (k0_t3 : Fin (k0_t3_loop v47 k0_t1).trips), ∀ a, (k0_off33 v47 k0_t1 k0_t3) a + S1x8x128.size a ≤ S9x64x128.size a := fun v47 k0_hw1 k0_t1 k0_t3 => k0_hw1.2.1.2.1 k0_t1 k0_t3
theorem k0_off34_inb : ∀ (v47 : BitVec 32) (k0_hw1 : k0_chk1 v47) (k0_t1 : Fin (k0_t1_loop v47).trips) (k0_t3 : Fin (k0_t3_loop v47 k0_t1).trips), ∀ a, (k0_off34 v47 k0_t1 k0_t3) a + S1x8x128.size a ≤ S9x64x128.size a := fun v47 k0_hw1 k0_t1 k0_t3 => k0_hw1.2.1.2.2.1 k0_t1 k0_t3
theorem k0_off35_inb : ∀ (v47 : BitVec 32) (k0_hw1 : k0_chk1 v47) (k0_t1 : Fin (k0_t1_loop v47).trips) (k0_t3 : Fin (k0_t3_loop v47 k0_t1).trips), ∀ a, (k0_off35 v47 k0_t1 k0_t3) a + S1x8x128.size a ≤ S9x64x128.size a := fun v47 k0_hw1 k0_t1 k0_t3 => k0_hw1.2.1.2.2.2.1 k0_t1 k0_t3
theorem k0_off36_inb : ∀ (v47 : BitVec 32) (k0_hw1 : k0_chk1 v47) (k0_t1 : Fin (k0_t1_loop v47).trips) (k0_t3 : Fin (k0_t3_loop v47 k0_t1).trips), ∀ a, (k0_off36 v47 k0_t1 k0_t3) a + S1x8x128.size a ≤ S9x64x128.size a := fun v47 k0_hw1 k0_t1 k0_t3 => k0_hw1.2.1.2.2.2.2.1 k0_t1 k0_t3
theorem k0_off37_inb : ∀ (v47 : BitVec 32) (k0_hw1 : k0_chk1 v47) (k0_t1 : Fin (k0_t1_loop v47).trips) (k0_t3 : Fin (k0_t3_loop v47 k0_t1).trips), ∀ a, (k0_off37 v47 k0_t1 k0_t3) a + S1x8x128.size a ≤ S9x64x128.size a := fun v47 k0_hw1 k0_t1 k0_t3 => k0_hw1.2.1.2.2.2.2.2.1 k0_t1 k0_t3
theorem k0_off38_inb : ∀ (v47 : BitVec 32) (k0_hw1 : k0_chk1 v47) (k0_t1 : Fin (k0_t1_loop v47).trips) (k0_t3 : Fin (k0_t3_loop v47 k0_t1).trips), ∀ a, (k0_off38 v47 k0_t1 k0_t3) a + S1x8x128.size a ≤ S9x64x128.size a := fun v47 k0_hw1 k0_t1 k0_t3 => k0_hw1.2.1.2.2.2.2.2.2.1 k0_t1 k0_t3
theorem k0_off39_inb : ∀ (v47 : BitVec 32) (k0_hw1 : k0_chk1 v47) (k0_t1 : Fin (k0_t1_loop v47).trips) (k0_t3 : Fin (k0_t3_loop v47 k0_t1).trips), ∀ a, (k0_off39 v47 k0_t1 k0_t3) a + S1x8x128.size a ≤ S9x64x128.size a := fun v47 k0_hw1 k0_t1 k0_t3 => k0_hw1.2.1.2.2.2.2.2.2.2.1 k0_t1 k0_t3
theorem k0_off40_inb : ∀ (v47 : BitVec 32) (k0_hw1 : k0_chk1 v47) (k0_t1 : Fin (k0_t1_loop v47).trips) (k0_t3 : Fin (k0_t3_loop v47 k0_t1).trips), ∀ a, (k0_off40 v47 k0_t1 k0_t3) a + S1x8x128.size a ≤ S9x64x128.size a := fun v47 k0_hw1 k0_t1 k0_t3 => k0_hw1.2.1.2.2.2.2.2.2.2.2.1 k0_t1 k0_t3
theorem k0_off41_inb : ∀ (v47 : BitVec 32) (k0_hw1 : k0_chk1 v47) (k0_t1 : Fin (k0_t1_loop v47).trips), ∀ a, (k0_off41 v47 k0_t1) a + S1x1x8x128.size a ≤ S1x8x40x128.size a := fun v47 k0_hw1 k0_t1 => k0_hw1.2.1.2.2.2.2.2.2.2.2.2.1 k0_t1
theorem k0_off42_inb : ∀ (v47 : BitVec 32) (k0_hw1 : k0_chk1 v47) (k0_t1 : Fin (k0_t1_loop v47).trips), ∀ a, (k0_off42 v47 k0_t1) a + S1x1x8x128.size a ≤ S1x8x40x128.size a := fun v47 k0_hw1 k0_t1 => k0_hw1.2.1.2.2.2.2.2.2.2.2.2.2.1 k0_t1
theorem k0_off43_inb : ∀ (v47 : BitVec 32) (k0_hw1 : k0_chk1 v47) (k0_t1 : Fin (k0_t1_loop v47).trips), ∀ a, (k0_off43 v47 k0_t1) a + S1x1x8x128.size a ≤ S1x8x40x128.size a := fun v47 k0_hw1 k0_t1 => k0_hw1.2.1.2.2.2.2.2.2.2.2.2.2.2.1 k0_t1
theorem k0_off44_inb : ∀ (v47 : BitVec 32) (k0_hw1 : k0_chk1 v47) (k0_t1 : Fin (k0_t1_loop v47).trips), ∀ a, (k0_off44 v47 k0_t1) a + S1x1x8x128.size a ≤ S1x8x40x128.size a := fun v47 k0_hw1 k0_t1 => k0_hw1.2.1.2.2.2.2.2.2.2.2.2.2.2.2.1 k0_t1
theorem k0_off45_inb : ∀ (v47 : BitVec 32) (k0_hw1 : k0_chk1 v47) (k0_t1 : Fin (k0_t1_loop v47).trips), ∀ a, (k0_off45 v47 k0_t1) a + S1x1x8x128.size a ≤ S1x9x40x128.size a := fun v47 k0_hw1 k0_t1 => k0_hw1.2.1.2.2.2.2.2.2.2.2.2.2.2.2.2.1 k0_t1
theorem k0_off46_inb : ∀ (v47 : BitVec 32) (k0_hw1 : k0_chk1 v47) (k0_t1 : Fin (k0_t1_loop v47).trips), ∀ a, (k0_off46 v47 k0_t1) a + S1x1x8x128.size a ≤ S1x9x40x128.size a := fun v47 k0_hw1 k0_t1 => k0_hw1.2.1.2.2.2.2.2.2.2.2.2.2.2.2.2.2.1 k0_t1
theorem k0_off47_inb : ∀ (v47 : BitVec 32) (k0_hw1 : k0_chk1 v47) (k0_t1 : Fin (k0_t1_loop v47).trips), ∀ a, (k0_off47 v47 k0_t1) a + S1x1x8x128.size a ≤ S1x9x40x128.size a := fun v47 k0_hw1 k0_t1 => k0_hw1.2.1.2.2.2.2.2.2.2.2.2.2.2.2.2.2.2.1 k0_t1
theorem k0_off48_inb : ∀ (v47 : BitVec 32) (k0_hw1 : k0_chk1 v47) (k0_t1 : Fin (k0_t1_loop v47).trips), ∀ a, (k0_off48 v47 k0_t1) a + S1x1x8x128.size a ≤ S1x9x40x128.size a := fun v47 k0_hw1 k0_t1 => k0_hw1.2.1.2.2.2.2.2.2.2.2.2.2.2.2.2.2.2.2.1 k0_t1
theorem k0_off49_inb : ∀ (v47 : BitVec 32) (k0_hw1 : k0_chk1 v47) (k0_t1 : Fin (k0_t1_loop v47).trips), ∀ a, (k0_off49 v47 k0_t1) a + S1x1x8x128.size a ≤ S1x9x40x128.size a := fun v47 k0_hw1 k0_t1 => k0_hw1.2.1.2.2.2.2.2.2.2.2.2.2.2.2.2.2.2.2.2.1 k0_t1
theorem k0_off50_inb : ∀ (v47 : BitVec 32) (k0_hw1 : k0_chk1 v47) (k0_t1 : Fin (k0_t1_loop v47).trips), ∀ a, (k0_off50 v47 k0_t1) a + S1x1x8x128.size a ≤ S1x9x40x128.size a := fun v47 k0_hw1 k0_t1 => k0_hw1.2.1.2.2.2.2.2.2.2.2.2.2.2.2.2.2.2.2.2.2.1 k0_t1
theorem k0_off51_inb : ∀ (v47 : BitVec 32) (k0_hw1 : k0_chk1 v47) (k0_t1 : Fin (k0_t1_loop v47).trips), ∀ a, (k0_off51 v47 k0_t1) a + S1x1x8x128.size a ≤ S1x9x40x128.size a := fun v47 k0_hw1 k0_t1 => k0_hw1.2.1.2.2.2.2.2.2.2.2.2.2.2.2.2.2.2.2.2.2.2.1 k0_t1
theorem k0_off52_inb : ∀ (v47 : BitVec 32) (k0_hw1 : k0_chk1 v47) (k0_t1 : Fin (k0_t1_loop v47).trips), ∀ a, (k0_off52 v47 k0_t1) a + S1x1x8x128.size a ≤ S1x9x40x128.size a := fun v47 k0_hw1 k0_t1 => k0_hw1.2.1.2.2.2.2.2.2.2.2.2.2.2.2.2.2.2.2.2.2.2.2.1 k0_t1
theorem k0_off53_inb : ∀ (v47 : BitVec 32) (k0_hw1 : k0_chk1 v47) (k0_t1 : Fin (k0_t1_loop v47).trips), ∀ a, (k0_off53 v47 k0_t1) a + S1x1x8x128.size a ≤ S1x9x40x128.size a := fun v47 k0_hw1 k0_t1 => k0_hw1.2.1.2.2.2.2.2.2.2.2.2.2.2.2.2.2.2.2.2.2.2.2.2.1 k0_t1
theorem k0_t4_ok : ∀ (v47 : BitVec 32) (k0_hw1 : k0_chk1 v47), (k0_t4_loop v47).OK := fun v47 k0_hw1 => k0_hw1.2.1.2.2.2.2.2.2.2.2.2.2.2.2.2.2.2.2.2.2.2.2.2.2.1
theorem k0_mult4_dvd : ∀ (v47 : BitVec 32) (k0_hw1 : k0_chk1 v47) (k0_t4 : Fin (k0_t4_loop v47).trips), 8 ∣ (k0_mult4 v47 k0_t4).toNat := fun v47 k0_hw1 k0_t4 => k0_hw1.2.1.2.2.2.2.2.2.2.2.2.2.2.2.2.2.2.2.2.2.2.2.2.2.2.1 k0_t4
theorem k0_off54_inb : ∀ (v47 : BitVec 32) (k0_hw1 : k0_chk1 v47) (k0_t4 : Fin (k0_t4_loop v47).trips), ∀ a, (k0_off54 v47 k0_t4) a + S1x1x8x128.size a ≤ S1x8x40x128.size a := fun v47 k0_hw1 k0_t4 => k0_hw1.2.1.2.2.2.2.2.2.2.2.2.2.2.2.2.2.2.2.2.2.2.2.2.2.2.2.1 k0_t4
theorem k0_t5_ok : ∀ (v47 : BitVec 32) (k0_hw1 : k0_chk1 v47) (k0_t4 : Fin (k0_t4_loop v47).trips), (k0_t5_loop v47 k0_t4).OK := fun v47 k0_hw1 k0_t4 => k0_hw1.2.1.2.2.2.2.2.2.2.2.2.2.2.2.2.2.2.2.2.2.2.2.2.2.2.2.2.1 k0_t4
theorem k0_off55_inb : ∀ (v47 : BitVec 32) (k0_hw1 : k0_chk1 v47) (k0_t4 : Fin (k0_t4_loop v47).trips) (k0_t5 : Fin (k0_t5_loop v47 k0_t4).trips), ∀ a, (k0_off55 v47 k0_t4 k0_t5) a + S1x1x1x128.size a ≤ S1x8x40x128.size a := fun v47 k0_hw1 k0_t4 k0_t5 => k0_hw1.2.1.2.2.2.2.2.2.2.2.2.2.2.2.2.2.2.2.2.2.2.2.2.2.2.2.2.2.1 k0_t4 k0_t5
theorem k0_off56_inb : ∀ (v47 : BitVec 32) (k0_hw1 : k0_chk1 v47) (k0_t4 : Fin (k0_t4_loop v47).trips) (k0_t5 : Fin (k0_t5_loop v47 k0_t4).trips), ∀ a, (k0_off56 v47 k0_t4 k0_t5) a + S1x1x1x128.size a ≤ S1x8x40x128.size a := fun v47 k0_hw1 k0_t4 k0_t5 => k0_hw1.2.1.2.2.2.2.2.2.2.2.2.2.2.2.2.2.2.2.2.2.2.2.2.2.2.2.2.2.2.1 k0_t4 k0_t5
theorem k0_off57_inb : ∀ (v47 : BitVec 32) (k0_hw1 : k0_chk1 v47) (k0_t4 : Fin (k0_t4_loop v47).trips) (k0_t5 : Fin (k0_t5_loop v47 k0_t4).trips), ∀ a, (k0_off57 v47 k0_t4 k0_t5) a + S1x1x1x128.size a ≤ S1x8x40x128.size a := fun v47 k0_hw1 k0_t4 k0_t5 => k0_hw1.2.1.2.2.2.2.2.2.2.2.2.2.2.2.2.2.2.2.2.2.2.2.2.2.2.2.2.2.2.2.1 k0_t4 k0_t5
theorem k0_off58_inb : ∀ (v47 : BitVec 32) (k0_hw1 : k0_chk1 v47) (k0_t4 : Fin (k0_t4_loop v47).trips) (k0_t5 : Fin (k0_t5_loop v47 k0_t4).trips), ∀ a, (k0_off58 v47 k0_t4 k0_t5) a + S1x1x1x128.size a ≤ S1x8x40x128.size a := fun v47 k0_hw1 k0_t4 k0_t5 => k0_hw1.2.1.2.2.2.2.2.2.2.2.2.2.2.2.2.2.2.2.2.2.2.2.2.2.2.2.2.2.2.2.2.1 k0_t4 k0_t5
theorem k0_off59_inb : ∀ (v47 : BitVec 32) (k0_hw1 : k0_chk1 v47) (k0_t4 : Fin (k0_t4_loop v47).trips) (k0_t5 : Fin (k0_t5_loop v47 k0_t4).trips), ∀ a, (k0_off59 v47 k0_t4 k0_t5) a + S1x1x1x128.size a ≤ S1x8x40x128.size a := fun v47 k0_hw1 k0_t4 k0_t5 => k0_hw1.2.1.2.2.2.2.2.2.2.2.2.2.2.2.2.2.2.2.2.2.2.2.2.2.2.2.2.2.2.2.2.2.1 k0_t4 k0_t5
theorem k0_off60_inb : ∀ (v47 : BitVec 32) (k0_hw1 : k0_chk1 v47) (k0_t4 : Fin (k0_t4_loop v47).trips) (k0_t5 : Fin (k0_t5_loop v47 k0_t4).trips), ∀ a, (k0_off60 v47 k0_t4 k0_t5) a + S1x1x1x128.size a ≤ S1x8x40x128.size a := fun v47 k0_hw1 k0_t4 k0_t5 => k0_hw1.2.1.2.2.2.2.2.2.2.2.2.2.2.2.2.2.2.2.2.2.2.2.2.2.2.2.2.2.2.2.2.2.2 k0_t4 k0_t5
theorem k0_off61_inb : ∀ (v47 : BitVec 32) (k0_hw1 : k0_chk1 v47) (k0_t4 : Fin (k0_t4_loop v47).trips) (k0_t5 : Fin (k0_t5_loop v47 k0_t4).trips), ∀ a, (k0_off61 v47 k0_t4 k0_t5) a + S1x1x1x128.size a ≤ S1x8x40x128.size a := fun v47 k0_hw1 k0_t4 k0_t5 => k0_hw1.2.2.1.1 k0_t4 k0_t5
theorem k0_off62_inb : ∀ (v47 : BitVec 32) (k0_hw1 : k0_chk1 v47) (k0_t4 : Fin (k0_t4_loop v47).trips) (k0_t5 : Fin (k0_t5_loop v47 k0_t4).trips), ∀ (r : Fin 3), ∀ a, (k0_off62 v47 k0_t4 k0_t5 (BitVec.ofNat 32 r.val)) a + S1x128.size a ≤ S32x128.size a := fun v47 k0_hw1 k0_t4 k0_t5 r => k0_hw1.2.2.1.2.1 k0_t4 k0_t5 r
theorem k0_mult5_dvd : ∀ (v47 : BitVec 32) (k0_hw1 : k0_chk1 v47) (k0_t4 : Fin (k0_t4_loop v47).trips) (k0_t5 : Fin (k0_t5_loop v47 k0_t4).trips), 8 ∣ (k0_mult5 v47 k0_t4 k0_t5).toNat := fun v47 k0_hw1 k0_t4 k0_t5 => k0_hw1.2.2.1.2.2.1 k0_t4 k0_t5
theorem k0_off63_inb : ∀ (v47 : BitVec 32) (k0_hw1 : k0_chk1 v47) (k0_t4 : Fin (k0_t4_loop v47).trips) (k0_t5 : Fin (k0_t5_loop v47 k0_t4).trips), ∀ a, (k0_off63 v47 k0_t4 k0_t5) a + S1x8x128.size a ≤ S9x64x128.size a := fun v47 k0_hw1 k0_t4 k0_t5 => k0_hw1.2.2.1.2.2.2.1 k0_t4 k0_t5
theorem k0_off64_inb : ∀ (v47 : BitVec 32) (k0_hw1 : k0_chk1 v47) (k0_t4 : Fin (k0_t4_loop v47).trips) (k0_t5 : Fin (k0_t5_loop v47 k0_t4).trips), ∀ a, (k0_off64 v47 k0_t4 k0_t5) a + S1x8x128.size a ≤ S9x64x128.size a := fun v47 k0_hw1 k0_t4 k0_t5 => k0_hw1.2.2.1.2.2.2.2.1 k0_t4 k0_t5
theorem k0_off65_inb : ∀ (v47 : BitVec 32) (k0_hw1 : k0_chk1 v47) (k0_t4 : Fin (k0_t4_loop v47).trips) (k0_t5 : Fin (k0_t5_loop v47 k0_t4).trips), ∀ a, (k0_off65 v47 k0_t4 k0_t5) a + S1x8x128.size a ≤ S9x64x128.size a := fun v47 k0_hw1 k0_t4 k0_t5 => k0_hw1.2.2.1.2.2.2.2.2.1 k0_t4 k0_t5
theorem k0_off66_inb : ∀ (v47 : BitVec 32) (k0_hw1 : k0_chk1 v47) (k0_t4 : Fin (k0_t4_loop v47).trips) (k0_t5 : Fin (k0_t5_loop v47 k0_t4).trips), ∀ a, (k0_off66 v47 k0_t4 k0_t5) a + S1x8x128.size a ≤ S9x64x128.size a := fun v47 k0_hw1 k0_t4 k0_t5 => k0_hw1.2.2.1.2.2.2.2.2.2.1 k0_t4 k0_t5
theorem k0_off67_inb : ∀ (v47 : BitVec 32) (k0_hw1 : k0_chk1 v47) (k0_t4 : Fin (k0_t4_loop v47).trips) (k0_t5 : Fin (k0_t5_loop v47 k0_t4).trips), ∀ a, (k0_off67 v47 k0_t4 k0_t5) a + S1x8x128.size a ≤ S9x64x128.size a := fun v47 k0_hw1 k0_t4 k0_t5 => k0_hw1.2.2.1.2.2.2.2.2.2.2.1 k0_t4 k0_t5
theorem k0_off68_inb : ∀ (v47 : BitVec 32) (k0_hw1 : k0_chk1 v47) (k0_t4 : Fin (k0_t4_loop v47).trips) (k0_t5 : Fin (k0_t5_loop v47 k0_t4).trips), ∀ a, (k0_off68 v47 k0_t4 k0_t5) a + S1x8x128.size a ≤ S9x64x128.size a := fun v47 k0_hw1 k0_t4 k0_t5 => k0_hw1.2.2.1.2.2.2.2.2.2.2.2.1 k0_t4 k0_t5
theorem k0_off69_inb : ∀ (v47 : BitVec 32) (k0_hw1 : k0_chk1 v47) (k0_t4 : Fin (k0_t4_loop v47).trips) (k0_t5 : Fin (k0_t5_loop v47 k0_t4).trips), ∀ a, (k0_off69 v47 k0_t4 k0_t5) a + S1x8x128.size a ≤ S9x64x128.size a := fun v47 k0_hw1 k0_t4 k0_t5 => k0_hw1.2.2.1.2.2.2.2.2.2.2.2.2.1 k0_t4 k0_t5
theorem k0_off70_inb : ∀ (v47 : BitVec 32) (k0_hw1 : k0_chk1 v47) (k0_t4 : Fin (k0_t4_loop v47).trips) (k0_t5 : Fin (k0_t5_loop v47 k0_t4).trips), ∀ a, (k0_off70 v47 k0_t4 k0_t5) a + S1x8x128.size a ≤ S9x64x128.size a := fun v47 k0_hw1 k0_t4 k0_t5 => k0_hw1.2.2.1.2.2.2.2.2.2.2.2.2.2.1 k0_t4 k0_t5
theorem k0_off71_inb : ∀ (v47 : BitVec 32) (k0_hw1 : k0_chk1 v47) (k0_t4 : Fin (k0_t4_loop v47).trips) (k0_t5 : Fin (k0_t5_loop v47 k0_t4).trips), ∀ a, (k0_off71 v47 k0_t4 k0_t5) a + S1x8x128.size a ≤ S9x64x128.size a := fun v47 k0_hw1 k0_t4 k0_t5 => k0_hw1.2.2.1.2.2.2.2.2.2.2.2.2.2.2.1 k0_t4 k0_t5
theorem k0_t6_ok : ∀ (v47 : BitVec 32) (k0_hw1 : k0_chk1 v47) (k0_t4 : Fin (k0_t4_loop v47).trips), (k0_t6_loop v47 k0_t4).OK := fun v47 k0_hw1 k0_t4 => k0_hw1.2.2.1.2.2.2.2.2.2.2.2.2.2.2.2.1 k0_t4
theorem k0_off72_inb : ∀ (v47 : BitVec 32) (k0_hw1 : k0_chk1 v47) (k0_t4 : Fin (k0_t4_loop v47).trips) (k0_t6 : Fin (k0_t6_loop v47 k0_t4).trips), ∀ a, (k0_off72 v47 k0_t4 k0_t6) a + S1x1x1x128.size a ≤ S1x8x40x128.size a := fun v47 k0_hw1 k0_t4 k0_t6 => k0_hw1.2.2.1.2.2.2.2.2.2.2.2.2.2.2.2.2.1 k0_t4 k0_t6
theorem k0_off73_inb : ∀ (v47 : BitVec 32) (k0_hw1 : k0_chk1 v47) (k0_t4 : Fin (k0_t4_loop v47).trips) (k0_t6 : Fin (k0_t6_loop v47 k0_t4).trips), ∀ a, (k0_off73 v47 k0_t4 k0_t6) a + S1x1x1x128.size a ≤ S1x8x40x128.size a := fun v47 k0_hw1 k0_t4 k0_t6 => k0_hw1.2.2.1.2.2.2.2.2.2.2.2.2.2.2.2.2.2.1 k0_t4 k0_t6
theorem k0_off74_inb : ∀ (v47 : BitVec 32) (k0_hw1 : k0_chk1 v47) (k0_t4 : Fin (k0_t4_loop v47).trips) (k0_t6 : Fin (k0_t6_loop v47 k0_t4).trips), ∀ a, (k0_off74 v47 k0_t4 k0_t6) a + S1x1x1x128.size a ≤ S1x8x40x128.size a := fun v47 k0_hw1 k0_t4 k0_t6 => k0_hw1.2.2.1.2.2.2.2.2.2.2.2.2.2.2.2.2.2.2.1 k0_t4 k0_t6
theorem k0_off75_inb : ∀ (v47 : BitVec 32) (k0_hw1 : k0_chk1 v47) (k0_t4 : Fin (k0_t4_loop v47).trips) (k0_t6 : Fin (k0_t6_loop v47 k0_t4).trips), ∀ a, (k0_off75 v47 k0_t4 k0_t6) a + S1x1x1x128.size a ≤ S1x8x40x128.size a := fun v47 k0_hw1 k0_t4 k0_t6 => k0_hw1.2.2.1.2.2.2.2.2.2.2.2.2.2.2.2.2.2.2.2.1 k0_t4 k0_t6
theorem k0_off76_inb : ∀ (v47 : BitVec 32) (k0_hw1 : k0_chk1 v47) (k0_t4 : Fin (k0_t4_loop v47).trips) (k0_t6 : Fin (k0_t6_loop v47 k0_t4).trips), ∀ a, (k0_off76 v47 k0_t4 k0_t6) a + S1x1x1x128.size a ≤ S1x8x40x128.size a := fun v47 k0_hw1 k0_t4 k0_t6 => k0_hw1.2.2.1.2.2.2.2.2.2.2.2.2.2.2.2.2.2.2.2.2.1 k0_t4 k0_t6
theorem k0_off77_inb : ∀ (v47 : BitVec 32) (k0_hw1 : k0_chk1 v47) (k0_t4 : Fin (k0_t4_loop v47).trips) (k0_t6 : Fin (k0_t6_loop v47 k0_t4).trips), ∀ a, (k0_off77 v47 k0_t4 k0_t6) a + S1x1x1x128.size a ≤ S1x8x40x128.size a := fun v47 k0_hw1 k0_t4 k0_t6 => k0_hw1.2.2.1.2.2.2.2.2.2.2.2.2.2.2.2.2.2.2.2.2.2.1 k0_t4 k0_t6
theorem k0_off78_inb : ∀ (v47 : BitVec 32) (k0_hw1 : k0_chk1 v47) (k0_t4 : Fin (k0_t4_loop v47).trips) (k0_t6 : Fin (k0_t6_loop v47 k0_t4).trips), ∀ a, (k0_off78 v47 k0_t4 k0_t6) a + S1x1x1x128.size a ≤ S1x8x40x128.size a := fun v47 k0_hw1 k0_t4 k0_t6 => k0_hw1.2.2.1.2.2.2.2.2.2.2.2.2.2.2.2.2.2.2.2.2.2.2.1 k0_t4 k0_t6
theorem k0_off79_inb : ∀ (v47 : BitVec 32) (k0_hw1 : k0_chk1 v47) (k0_t4 : Fin (k0_t4_loop v47).trips) (k0_t6 : Fin (k0_t6_loop v47 k0_t4).trips), ∀ (r : Fin 3), ∀ a, (k0_off79 v47 k0_t4 k0_t6 (BitVec.ofNat 32 r.val)) a + S1x128.size a ≤ S32x128.size a := fun v47 k0_hw1 k0_t4 k0_t6 r => k0_hw1.2.2.1.2.2.2.2.2.2.2.2.2.2.2.2.2.2.2.2.2.2.2.2.1 k0_t4 k0_t6 r
theorem k0_mult6_dvd : ∀ (v47 : BitVec 32) (k0_hw1 : k0_chk1 v47) (k0_t4 : Fin (k0_t4_loop v47).trips) (k0_t6 : Fin (k0_t6_loop v47 k0_t4).trips), 8 ∣ (k0_mult6 v47 k0_t4 k0_t6).toNat := fun v47 k0_hw1 k0_t4 k0_t6 => k0_hw1.2.2.1.2.2.2.2.2.2.2.2.2.2.2.2.2.2.2.2.2.2.2.2.2.1 k0_t4 k0_t6
theorem k0_off80_inb : ∀ (v47 : BitVec 32) (k0_hw1 : k0_chk1 v47) (k0_t4 : Fin (k0_t4_loop v47).trips) (k0_t6 : Fin (k0_t6_loop v47 k0_t4).trips), ∀ a, (k0_off80 v47 k0_t4 k0_t6) a + S1x8x128.size a ≤ S9x64x128.size a := fun v47 k0_hw1 k0_t4 k0_t6 => k0_hw1.2.2.1.2.2.2.2.2.2.2.2.2.2.2.2.2.2.2.2.2.2.2.2.2.2.1 k0_t4 k0_t6
theorem k0_off81_inb : ∀ (v47 : BitVec 32) (k0_hw1 : k0_chk1 v47) (k0_t4 : Fin (k0_t4_loop v47).trips) (k0_t6 : Fin (k0_t6_loop v47 k0_t4).trips), ∀ a, (k0_off81 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.1 k0_t4 k0_t6
theorem k0_off82_inb : ∀ (v47 : BitVec 32) (k0_hw1 : k0_chk1 v47) (k0_t4 : Fin (k0_t4_loop v47).trips) (k0_t6 : Fin (k0_t6_loop v47 k0_t4).trips), ∀ a, (k0_off82 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.1 k0_t4 k0_t6
theorem k0_off83_inb : ∀ (v47 : BitVec 32) (k0_hw1 : k0_chk1 v47) (k0_t4 : Fin (k0_t4_loop v47).trips) (k0_t6 : Fin (k0_t6_loop v47 k0_t4).trips), ∀ a, (k0_off83 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.2.1 k0_t4 k0_t6
theorem k0_off84_inb : ∀ (v47 : BitVec 32) (k0_hw1 : k0_chk1 v47) (k0_t4 : Fin (k0_t4_loop v47).trips) (k0_t6 : Fin (k0_t6_loop v47 k0_t4).trips), ∀ a, (k0_off84 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.2.2.1 k0_t4 k0_t6
theorem k0_off85_inb : ∀ (v47 : BitVec 32) (k0_hw1 : k0_chk1 v47) (k0_t4 : Fin (k0_t4_loop v47).trips) (k0_t6 : Fin (k0_t6_loop v47 k0_t4).trips), ∀ a, (k0_off85 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.2.2.2.1 k0_t4 k0_t6
theorem k0_off86_inb : ∀ (v47 : BitVec 32) (k0_hw1 : k0_chk1 v47) (k0_t4 : Fin (k0_t4_loop v47).trips) (k0_t6 : Fin (k0_t6_loop v47 k0_t4).trips), ∀ a, (k0_off86 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.2.2.2.2.1 k0_t4 k0_t6
theorem k0_off87_inb : ∀ (v47 : BitVec 32) (k0_hw1 : k0_chk1 v47) (k0_t4 : Fin (k0_t4_loop v47).trips) (k0_t6 : Fin (k0_t6_loop v47 k0_t4).trips), ∀ a, (k0_off87 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.2.2.2.2.2.1 k0_t4 k0_t6
theorem k0_off88_inb : ∀ (v47 : BitVec 32) (k0_hw1 : k0_chk1 v47) (k0_t4 : Fin (k0_t4_loop v47).trips) (k0_t6 : Fin (k0_t6_loop v47 k0_t4).trips), ∀ a, (k0_off88 v47 k0_t4 k0_t6) a + S1x8x128.size a ≤ S9x64x128.size a := fun v47 k0_hw1 k0_t4 k0_t6 => k0_hw1.2.2.1.2.2.2.2.2.2.2.2.2.2.2.2.2.2.2.2.2.2.2.2.2.2.2.2.2.2.2.2.2.2.1 k0_t4 k0_t6
theorem k0_off89_inb : ∀ (v47 : BitVec 32) (k0_hw1 : k0_chk1 v47) (k0_t4 : Fin (k0_t4_loop v47).trips), ∀ a, (k0_off89 v47 k0_t4) a + S1x1x8x128.size a ≤ S1x8x40x128.size a := fun v47 k0_hw1 k0_t4 => k0_hw1.2.2.1.2.2.2.2.2.2.2.2.2.2.2.2.2.2.2.2.2.2.2.2.2.2.2.2.2.2.2.2.2.2.2 k0_t4
theorem k0_off90_inb : ∀ (v47 : BitVec 32) (k0_hw1 : k0_chk1 v47) (k0_t4 : Fin (k0_t4_loop v47).trips), ∀ a, (k0_off90 v47 k0_t4) a + S1x1x8x128.size a ≤ S1x8x40x128.size a := fun v47 k0_hw1 k0_t4 => k0_hw1.2.2.2.1 k0_t4
theorem k0_off91_inb : ∀ (v47 : BitVec 32) (k0_hw1 : k0_chk1 v47) (k0_t4 : Fin (k0_t4_loop v47).trips), ∀ a, (k0_off91 v47 k0_t4) a + S1x1x8x128.size a ≤ S1x8x40x128.size a := fun v47 k0_hw1 k0_t4 => k0_hw1.2.2.2.2.1 k0_t4
theorem k0_off92_inb : ∀ (v47 : BitVec 32) (k0_hw1 : k0_chk1 v47) (k0_t4 : Fin (k0_t4_loop v47).trips), ∀ a, (k0_off92 v47 k0_t4) a + S1x1x8x128.size a ≤ S1x8x40x128.size a := fun v47 k0_hw1 k0_t4 => k0_hw1.2.2.2.2.2.1 k0_t4
theorem k0_off93_inb : ∀ (v47 : BitVec 32) (k0_hw1 : k0_chk1 v47) (k0_t4 : Fin (k0_t4_loop v47).trips), ∀ a, (k0_off93 v47 k0_t4) a + S1x1x8x128.size a ≤ S1x9x40x128.size a := fun v47 k0_hw1 k0_t4 => k0_hw1.2.2.2.2.2.2.1 k0_t4
theorem k0_off94_inb : ∀ (v47 : BitVec 32) (k0_hw1 : k0_chk1 v47) (k0_t4 : Fin (k0_t4_loop v47).trips), ∀ a, (k0_off94 v47 k0_t4) a + S1x1x8x128.size a ≤ S1x9x40x128.size a := fun v47 k0_hw1 k0_t4 => k0_hw1.2.2.2.2.2.2.2.1 k0_t4
theorem k0_off95_inb : ∀ (v47 : BitVec 32) (k0_hw1 : k0_chk1 v47) (k0_t4 : Fin (k0_t4_loop v47).trips), ∀ a, (k0_off95 v47 k0_t4) a + S1x1x8x128.size a ≤ S1x9x40x128.size a := fun v47 k0_hw1 k0_t4 => k0_hw1.2.2.2.2.2.2.2.2.1 k0_t4
theorem k0_off96_inb : ∀ (v47 : BitVec 32) (k0_hw1 : k0_chk1 v47) (k0_t4 : Fin (k0_t4_loop v47).trips), ∀ a, (k0_off96 v47 k0_t4) a + S1x1x8x128.size a ≤ S1x9x40x128.size a := fun v47 k0_hw1 k0_t4 => k0_hw1.2.2.2.2.2.2.2.2.2.1 k0_t4
theorem k0_off97_inb : ∀ (v47 : BitVec 32) (k0_hw1 : k0_chk1 v47) (k0_t4 : Fin (k0_t4_loop v47).trips), ∀ a, (k0_off97 v47 k0_t4) a + S1x1x8x128.size a ≤ S1x9x40x128.size a := fun v47 k0_hw1 k0_t4 => k0_hw1.2.2.2.2.2.2.2.2.2.2.1 k0_t4
theorem k0_off98_inb : ∀ (v47 : BitVec 32) (k0_hw1 : k0_chk1 v47) (k0_t4 : Fin (k0_t4_loop v47).trips), ∀ a, (k0_off98 v47 k0_t4) a + S1x1x8x128.size a ≤ S1x9x40x128.size a := fun v47 k0_hw1 k0_t4 => k0_hw1.2.2.2.2.2.2.2.2.2.2.2.1 k0_t4
theorem k0_off99_inb : ∀ (v47 : BitVec 32) (k0_hw1 : k0_chk1 v47) (k0_t4 : Fin (k0_t4_loop v47).trips), ∀ a, (k0_off99 v47 k0_t4) a + S1x1x8x128.size a ≤ S1x9x40x128.size a := fun v47 k0_hw1 k0_t4 => k0_hw1.2.2.2.2.2.2.2.2.2.2.2.2.1 k0_t4
theorem k0_off100_inb : ∀ (v47 : BitVec 32) (k0_hw1 : k0_chk1 v47) (k0_t4 : Fin (k0_t4_loop v47).trips), ∀ a, (k0_off100 v47 k0_t4) a + S1x1x8x128.size a ≤ S1x9x40x128.size a := fun v47 k0_hw1 k0_t4 => k0_hw1.2.2.2.2.2.2.2.2.2.2.2.2.2.1 k0_t4
theorem k0_off101_inb : ∀ (v47 : BitVec 32) (k0_hw1 : k0_chk1 v47) (k0_t4 : Fin (k0_t4_loop v47).trips), ∀ a, (k0_off101 v47 k0_t4) a + S1x1x8x128.size a ≤ S1x9x40x128.size a := fun v47 k0_hw1 k0_t4 => k0_hw1.2.2.2.2.2.2.2.2.2.2.2.2.2.2 k0_t4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S720 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S9x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x40x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x64x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x9x40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S720 : Shape := ⟨1, ![720]⟩
abbrev S9x3 : Shape := ⟨2, ![9, 3]⟩
abbrev S9 : Shape := ⟨1, ![9]⟩
abbrev S675x8x40x128 : Shape := ⟨4, ![675, 8, 40, 128]⟩
abbrev S675x2x128 : Shape := ⟨3, ![675, 2, 128]⟩
abbrev S675x3x64x128 : Shape := ⟨4, ![675, 3, 64, 128]⟩
abbrev S675x256x128 : Shape := ⟨3, ![675, 256, 128]⟩
abbrev S40 : Shape := ⟨1, ![40]⟩
abbrev S45x16 : Shape := ⟨2, ![45, 16]⟩
abbrev S45x15 : Shape := ⟨2, ![45, 15]⟩
abbrev S675x1 : Shape := ⟨2, ![675, 1]⟩
abbrev S1x40 : Shape := ⟨2, ![1, 40]⟩
abbrev S675x40 : Shape := ⟨2, ![675, 40]⟩
abbrev S9x1x3 : Shape := ⟨3, ![9, 1, 3]⟩
abbrev S9x75x3 : Shape := ⟨3, ![9, 75, 3]⟩
abbrev S675x3x1x1 : Shape := ⟨4, ![675, 3, 1, 1]⟩
abbrev S9x1 : Shape := ⟨2, ![9, 1]⟩
abbrev S9x75 : Shape := ⟨2, ![9, 75]⟩
abbrev S675x1x1x1 : Shape := ⟨4, ![675, 1, 1, 1]⟩
abbrev S675x1x40x128 : Shape := ⟨4, ![675, 1, 40, 128]⟩
abbrev S675x40x128 : Shape := ⟨3, ![675, 40, 128]⟩
abbrev S675x40x1x128 : Shape := ⟨4, ![675, 40, 1, 128]⟩
abbrev S675x3x256x128 : Shape := ⟨4, ![675, 3, 256, 128]⟩
abbrev S675x160x128 : Shape := ⟨3, ![675, 160, 128]⟩
abbrev S675x1x3x256x128 : Shape := ⟨5, ![675, 1, 3, 256, 128]⟩
abbrev S675x40x4x128 : Shape := ⟨4, ![675, 40, 4, 128]⟩
abbrev S675x40x3x128 : Shape := ⟨4, ![675, 40, 3, 128]⟩
abbrev S675x40x3x1x128 : Shape := ⟨5, ![675, 40, 3, 1, 128]⟩
abbrev S256 : Shape := ⟨1, ![256]⟩
abbrev S_ : Shape := ⟨0, ![]⟩
abbrev S675x1x128 : Shape := ⟨3, ![675, 1, 128]⟩
abbrev S675x128 : Shape := ⟨2, ![675, 128]⟩
abbrev S256x1 : Shape := ⟨2, ![256, 1]⟩
abbrev S1x256x1 : Shape := ⟨3, ![1, 256, 1]⟩
abbrev S675x1x256x128 : Shape := ⟨4, ![675, 1, 256, 128]⟩
abbrev S675x40x256x128 : Shape := ⟨4, ![675, 40, 256, 128]⟩
abbrev S675x40x1x1 : Shape := ⟨4, ![675, 40, 1, 1]⟩
abbrev S675x39x256x128 : Shape := ⟨4, ![675, 39, 256, 128]⟩
abbrev S675x38x256x128 : Shape := ⟨4, ![675, 38, 256, 128]⟩
abbrev S675x2x256x128 : Shape := ⟨4, ![675, 2, 256, 128]⟩
abbrev S675x36x256x128 : Shape := ⟨4, ![675, 36, 256, 128]⟩
abbrev S675x4x256x128 : Shape := ⟨4, ![675, 4, 256, 128]⟩
abbrev S675x32x256x128 : Shape := ⟨4, ![675, 32, 256, 128]⟩
abbrev S675x8x256x128 : Shape := ⟨4, ![675, 8, 256, 128]⟩
abbrev S675x24x256x128 : Shape := ⟨4, ![675, 24, 256, 128]⟩
abbrev S675x16x256x128 : Shape := ⟨4, ![675, 16, 256, 128]⟩
abbrev S675x39x1x256x128 : Shape := ⟨5, ![675, 39, 1, 256, 128]⟩
abbrev S675x39x3x1x128 : Shape := ⟨5, ![675, 39, 3, 1, 128]⟩
abbrev S675x39x3x256x128 : Shape := ⟨5, ![675, 39, 3, 256, 128]⟩
abbrev S675x40x3x256x128 : Shape := ⟨5, ![675, 40, 3, 256, 128]⟩
abbrev S675x38x3x256x128 : Shape := ⟨5, ![675, 38, 3, 256, 128]⟩
abbrev S675x2x3x256x128 : Shape := ⟨5, ![675, 2, 3, 256, 128]⟩
abbrev S675x36x3x256x128 : Shape := ⟨5, ![675, 36, 3, 256, 128]⟩
abbrev S675x4x3x256x128 : Shape := ⟨5, ![675, 4, 3, 256, 128]⟩
abbrev S675x32x3x256x128 : Shape := ⟨5, ![675, 32, 3, 256, 128]⟩
abbrev S675x8x3x256x128 : Shape := ⟨5, ![675, 8, 3, 256, 128]⟩
abbrev S675x24x3x256x128 : Shape := ⟨5, ![675, 24, 3, 256, 128]⟩
abbrev S675x16x3x256x128 : Shape := ⟨5, ![675, 16, 3, 256, 128]⟩
abbrev S675x40x1x256x128 : Shape := ⟨5, ![675, 40, 1, 256, 128]⟩
abbrev S675x3x40x128 : Shape := ⟨4, ![675, 3, 40, 128]⟩
abbrev S675x2x40x128 : Shape := ⟨4, ![675, 2, 40, 128]⟩
abbrev S675x9x40x128 : Shape := ⟨4, ![675, 9, 40, 128]⟩

abbrev nBuf : Space → Nat
  | .hbm => 311
  | .vmem => 4
  | .smem => 0
  | _ => 0

abbrev hbmTy0_0 (i : Nat) : BufTy := match i % 128 with
  | 0 => ⟨S720, .i32⟩
  | 1 => ⟨S9x3, .f32⟩
  | 2 => ⟨S9, .f32⟩
  | 3 => ⟨S675x8x40x128, .i32⟩
  | 4 => ⟨S675x2x128, .f32⟩
  | 5 => ⟨S675x3x64x128, .i32⟩
  | 6 => ⟨S675x256x128, .i32⟩
  | 7 => ⟨S40, .i32⟩
  | 8 => ⟨S45x16, .i32⟩
  | 9 => ⟨S45x15, .i32⟩
  | 10 => ⟨S675x1, .i32⟩
  | 11 => ⟨S1x40, .i32⟩
  | 12 => ⟨S675x40, .i32⟩
  | 13 => ⟨S675x40, .i32⟩
  | 14 => ⟨S675x40, .i1⟩
  | 15 => ⟨S9x1x3, .f32⟩
  | 16 => ⟨S9x75x3, .f32⟩
  | 17 => ⟨S675x3x1x1, .f32⟩
  | 18 => ⟨S9x1, .f32⟩
  | 19 => ⟨S9x75, .f32⟩
  | 20 => ⟨S675x1x1x1, .f32⟩
  | 21 => ⟨S675x8x40x128, .f32⟩
  | 22 => ⟨S675x1x40x128, .f32⟩
  | 23 => ⟨S675x40x128, .f32⟩
  | 24 => ⟨S675x40x1x128, .f32⟩
  | 25 => ⟨S675x1x40x128, .f32⟩
  | 26 => ⟨S675x40x128, .f32⟩
  | 27 => ⟨S675x40x1x128, .f32⟩
  | 28 => ⟨S675x1x40x128, .f32⟩
  | 29 => ⟨S675x40x128, .f32⟩
  | 30 => ⟨S675x40x1x128, .f32⟩
  | 31 => ⟨S675x1x40x128, .f32⟩
  | 32 => ⟨S675x40x128, .f32⟩
  | 33 => ⟨S675x40x1x128, .f32⟩
  | 34 => ⟨S675x1x40x128, .f32⟩
  | 35 => ⟨S675x40x128, .f32⟩
  | 36 => ⟨S675x40x1x128, .f32⟩
  | 37 => ⟨S675x1x40x128, .f32⟩
  | 38 => ⟨S675x40x128, .f32⟩
  | 39 => ⟨S675x40x1x128, .f32⟩
  | 40 => ⟨S675x1x40x128, .f32⟩
  | 41 => ⟨S675x40x128, .f32⟩
  | 42 => ⟨S675x40x1x128, .f32⟩
  | 43 => ⟨S675x1x40x128, .i32⟩
  | 44 => ⟨S675x40x128, .i32⟩
  | 45 => ⟨S675x3x256x128, .f32⟩
  | 46 => ⟨S675x160x128, .f32⟩
  | 47 => ⟨S675x3x256x128, .f32⟩
  | 48 => ⟨S675x3x256x128, .f32⟩
  | 49 => ⟨S675x1x3x256x128, .f32⟩
  | 50 => ⟨S675x40x4x128, .f32⟩
  | 51 => ⟨S675x40x3x128, .f32⟩
  | 52 => ⟨S675x40x3x128, .f32⟩
  | 53 => ⟨S675x40x3x128, .f32⟩
  | 54 => ⟨S675x40x3x1x128, .f32⟩
  | 55 => ⟨S675x256x128, .f32⟩
  | 56 => ⟨S256, .i32⟩
  | 57 => ⟨S_, .i32⟩
  | 58 => ⟨S_, .i32⟩
  | 59 => ⟨S256, .i32⟩
  | 60 => ⟨S256, .i32⟩
  | 61 => ⟨S256, .i32⟩
  | 62 => ⟨S_, .i32⟩
  | 63 => ⟨S256, .i32⟩
  | 64 => ⟨S256, .i1⟩
  | 65 => ⟨S256, .i32⟩
  | 66 => ⟨S256, .i32⟩
  | 67 => ⟨S_, .i32⟩
  | 68 => ⟨S256, .i32⟩
  | 69 => ⟨S256, .i1⟩
  | 70 => ⟨S256, .i1⟩
  | 71 => ⟨S_, .i32⟩
  | 72 => ⟨S256, .i32⟩
  | 73 => ⟨S256, .i32⟩
  | 74 => ⟨S256, .i32⟩
  | 75 => ⟨S256, .f32⟩
  | 76 => ⟨S_, .f32⟩
  | 77 => ⟨S256, .f32⟩
  | 78 => ⟨S256, .f32⟩
  | 79 => ⟨S256, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S256, .i32⟩
  | 93 => ⟨S256, .i1⟩
  | 94 => ⟨S_, .i32⟩
  | 95 => ⟨S_, .i1⟩
  | 96 => ⟨S256, .i1⟩
  | 97 => ⟨S256, .i1⟩
  | 98 => ⟨S256, .i1⟩
  | 99 => ⟨S256, .i32⟩
  | 100 => ⟨S256, .i32⟩
  | 101 => ⟨S256, .i32⟩
  | 102 => ⟨S256, .f32⟩
  | 103 => ⟨S_, .f32⟩
  | 104 => ⟨S256, .f32⟩
  | 105 => ⟨S256, .f32⟩
  | 106 => ⟨S675x1x128, .f32⟩
  | 107 => ⟨S675x128, .f32⟩
  | 108 => ⟨S675x1x128, .f32⟩
  | 109 => ⟨S256x1, .f32⟩
  | 110 => ⟨S1x256x1, .f32⟩
  | 111 => ⟨S675x256x128, .f32⟩
  | 112 => ⟨S675x256x128, .f32⟩
  | 113 => ⟨S675x256x128, .f32⟩
  | 114 => ⟨S675x1x128, .f32⟩
  | 115 => ⟨S675x128, .f32⟩
  | 116 => ⟨S675x1x128, .f32⟩
  | 117 => ⟨S256x1, .f32⟩
  | 118 => ⟨S1x256x1, .f32⟩
  | 119 => ⟨S675x256x128, .f32⟩
  | 120 => ⟨S675x256x128, .f32⟩
  | 121 => ⟨S675x256x128, .f32⟩
  | 122 => ⟨S675x1x256x128, .f32⟩
  | 123 => ⟨S675x40x256x128, .f32⟩
  | 124 => ⟨S675x40x256x128, .f32⟩
  | 125 => ⟨S675x40x256x128, .f32⟩
  | 126 => ⟨S675x1x256x128, .f32⟩
  | 127 => ⟨S675x40x256x128, .f32⟩
  | _ => ⟨S720, .i32⟩

abbrev hbmTy0_1 (i : Nat) : BufTy := match i % 128 with
  | 0 => ⟨S675x40x256x128, .f32⟩
  | 1 => ⟨S675x40x256x128, .f32⟩
  | 2 => ⟨S675x40x256x128, .f32⟩
  | 3 => ⟨S675x40x256x128, .f32⟩
  | 4 => ⟨S675x40x256x128, .f32⟩
  | 5 => ⟨S675x40x256x128, .f32⟩
  | 6 => ⟨S675x40x256x128, .f32⟩
  | 7 => ⟨S675x40x256x128, .f32⟩
  | 8 => ⟨S675x40x256x128, .f32⟩
  | 9 => ⟨S_, .f32⟩
  | 10 => ⟨S675x40x256x128, .f32⟩
  | 11 => ⟨S675x40x256x128, .f32⟩
  | 12 => ⟨S675x40x256x128, .f32⟩
  | 13 => ⟨S675x40x256x128, .f32⟩
  | 14 => ⟨S675x40x256x128, .f32⟩
  | 15 => ⟨S675x40x256x128, .f32⟩
  | 16 => ⟨S675x40x256x128, .f32⟩
  | 17 => ⟨S675x40x256x128, .f32⟩
  | 18 => ⟨S675x40x1x1, .i1⟩
  | 19 => ⟨S675x40x256x128, .i1⟩
  | 20 => ⟨S675x40x256x128, .f32⟩
  | 21 => ⟨S675x40x256x128, .f32⟩
  | 22 => ⟨S_, .f32⟩
  | 23 => ⟨S675x40x256x128, .f32⟩
  | 24 => ⟨S675x40x256x128, .f32⟩
  | 25 => ⟨S_, .f32⟩
  | 26 => ⟨S675x40x256x128, .f32⟩
  | 27 => ⟨S675x40x256x128, .f32⟩
  | 28 => ⟨S675x1x256x128, .f32⟩
  | 29 => ⟨S675x39x256x128, .f32⟩
  | 30 => ⟨S675x1x256x128, .f32⟩
  | 31 => ⟨S_, .f32⟩
  | 32 => ⟨S675x1x256x128, .f32⟩
  | 33 => ⟨S675x40x256x128, .f32⟩
  | 34 => ⟨S675x40x256x128, .f32⟩
  | 35 => ⟨S675x38x256x128, .f32⟩
  | 36 => ⟨S675x2x256x128, .f32⟩
  | 37 => ⟨S_, .f32⟩
  | 38 => ⟨S675x2x256x128, .f32⟩
  | 39 => ⟨S675x40x256x128, .f32⟩
  | 40 => ⟨S675x40x256x128, .f32⟩
  | 41 => ⟨S675x36x256x128, .f32⟩
  | 42 => ⟨S675x4x256x128, .f32⟩
  | 43 => ⟨S_, .f32⟩
  | 44 => ⟨S675x4x256x128, .f32⟩
  | 45 => ⟨S675x40x256x128, .f32⟩
  | 46 => ⟨S675x40x256x128, .f32⟩
  | 47 => ⟨S675x32x256x128, .f32⟩
  | 48 => ⟨S675x8x256x128, .f32⟩
  | 49 => ⟨S_, .f32⟩
  | 50 => ⟨S675x8x256x128, .f32⟩
  | 51 => ⟨S675x40x256x128, .f32⟩
  | 52 => ⟨S675x40x256x128, .f32⟩
  | 53 => ⟨S675x24x256x128, .f32⟩
  | 54 => ⟨S675x16x256x128, .f32⟩
  | 55 => ⟨S_, .f32⟩
  | 56 => ⟨S675x16x256x128, .f32⟩
  | 57 => ⟨S675x40x256x128, .f32⟩
  | 58 => ⟨S675x40x256x128, .f32⟩
  | 59 => ⟨S675x8x256x128, .f32⟩
  | 60 => ⟨S675x32x256x128, .f32⟩
  | 61 => ⟨S_, .f32⟩
  | 62 => ⟨S675x32x256x128, .f32⟩
  | 63 => ⟨S675x40x256x128, .f32⟩
  | 64 => ⟨S675x40x256x128, .f32⟩
  | 65 => ⟨S675x40x256x128, .f32⟩
  | 66 => ⟨S675x40x256x128, .f32⟩
  | 67 => ⟨S675x40x256x128, .f32⟩
  | 68 => ⟨S675x39x256x128, .f32⟩
  | 69 => ⟨S675x39x1x256x128, .f32⟩
  | 70 => ⟨S675x39x3x1x128, .f32⟩
  | 71 => ⟨S675x39x3x256x128, .f32⟩
  | 72 => ⟨S675x39x3x256x128, .f32⟩
  | 73 => ⟨S675x39x3x256x128, .f32⟩
  | 74 => ⟨S675x1x256x128, .f32⟩
  | 75 => ⟨S675x3x256x128, .f32⟩
  | 76 => ⟨S675x3x256x128, .f32⟩
  | 77 => ⟨S675x3x256x128, .f32⟩
  | 78 => ⟨S675x1x3x256x128, .f32⟩
  | 79 => ⟨S675x40x3x256x128, .f32⟩
  | 80 => ⟨S675x39x3x256x128, .f32⟩
  | 81 => ⟨S675x1x3x256x128, .f32⟩
  | 82 => ⟨S_, .f32⟩
  | 83 => ⟨S675x1x3x256x128, .f32⟩
  | 84 => ⟨S675x40x3x256x128, .f32⟩
  | 85 => ⟨S675x40x3x256x128, .f32⟩
  | 86 => ⟨S675x38x3x256x128, .f32⟩
  | 87 => ⟨S675x2x3x256x128, .f32⟩
  | 88 => ⟨S_, .f32⟩
  | 89 => ⟨S675x2x3x256x128, .f32⟩
  | 90 => ⟨S675x40x3x256x128, .f32⟩
  | 91 => ⟨S675x40x3x256x128, .f32⟩
  | 92 => ⟨S675x36x3x256x128, .f32⟩
  | 93 => ⟨S675x4x3x256x128, .f32⟩
  | 94 => ⟨S_, .f32⟩
  | 95 => ⟨S675x4x3x256x128, .f32⟩
  | 96 => ⟨S675x40x3x256x128, .f32⟩
  | 97 => ⟨S675x40x3x256x128, .f32⟩
  | 98 => ⟨S675x32x3x256x128, .f32⟩
  | 99 => ⟨S675x8x3x256x128, .f32⟩
  | 100 => ⟨S_, .f32⟩
  | 101 => ⟨S675x8x3x256x128, .f32⟩
  | 102 => ⟨S675x40x3x256x128, .f32⟩
  | 103 => ⟨S675x40x3x256x128, .f32⟩
  | 104 => ⟨S675x24x3x256x128, .f32⟩
  | 105 => ⟨S675x16x3x256x128, .f32⟩
  | 106 => ⟨S_, .f32⟩
  | 107 => ⟨S675x16x3x256x128, .f32⟩
  | 108 => ⟨S675x40x3x256x128, .f32⟩
  | 109 => ⟨S675x40x3x256x128, .f32⟩
  | 110 => ⟨S675x8x3x256x128, .f32⟩
  | 111 => ⟨S675x32x3x256x128, .f32⟩
  | 112 => ⟨S_, .f32⟩
  | 113 => ⟨S675x32x3x256x128, .f32⟩
  | 114 => ⟨S675x40x3x256x128, .f32⟩
  | 115 => ⟨S675x40x3x256x128, .f32⟩
  | 116 => ⟨S675x40x1x256x128, .f32⟩
  | 117 => ⟨S675x40x3x256x128, .f32⟩
  | 118 => ⟨S675x40x3x256x128, .f32⟩
  | 119 => ⟨S675x40x3x256x128, .f32⟩
  | 120 => ⟨S675x40x1x256x128, .f32⟩
  | 121 => ⟨S675x40x3x256x128, .f32⟩
  | 122 => ⟨S675x40x3x256x128, .f32⟩
  | 123 => ⟨S675x40x3x256x128, .f32⟩
  | 124 => ⟨S675x40x3x256x128, .f32⟩
  | 125 => ⟨S675x40x3x256x128, .f32⟩
  | 126 => ⟨S_, .f32⟩
  | 127 => ⟨S675x40x256x128, .f32⟩
  | _ => ⟨S720, .i32⟩

abbrev hbmTy0_2 (i : Nat) : BufTy := match i % 128 with
  | 0 => ⟨S675x40x256x128, .f32⟩
  | 1 => ⟨S675x40x256x128, .f32⟩
  | 2 => ⟨S675x40x256x128, .f32⟩
  | 3 => ⟨S_, .f32⟩
  | 4 => ⟨S675x40x128, .f32⟩
  | 5 => ⟨S675x40x1x256x128, .f32⟩
  | 6 => ⟨S675x40x3x256x128, .f32⟩
  | 7 => ⟨S675x40x3x256x128, .f32⟩
  | 8 => ⟨S675x40x3x256x128, .f32⟩
  | 9 => ⟨S_, .f32⟩
  | 10 => ⟨S675x40x3x128, .f32⟩
  | 11 => ⟨S_, .f32⟩
  | 12 => ⟨S675x40x256x128, .f32⟩
  | 13 => ⟨S675x40x256x128, .f32⟩
  | 14 => ⟨S675x40x256x128, .f32⟩
  | 15 => ⟨S675x40x256x128, .f32⟩
  | 16 => ⟨S_, .f32⟩
  | 17 => ⟨S675x40x128, .f32⟩
  | 18 => ⟨S675x40x256x128, .f32⟩
  | 19 => ⟨S675x40x256x128, .f32⟩
  | 20 => ⟨S_, .f32⟩
  | 21 => ⟨S675x40x128, .f32⟩
  | 22 => ⟨S_, .f32⟩
  | 23 => ⟨S675x40x256x128, .f32⟩
  | 24 => ⟨S675x40x256x128, .f32⟩
  | 25 => ⟨S675x40x256x128, .f32⟩
  | 26 => ⟨S675x40x256x128, .f32⟩
  | 27 => ⟨S_, .f32⟩
  | 28 => ⟨S675x40x128, .f32⟩
  | 29 => ⟨S675x1x40x128, .f32⟩
  | 30 => ⟨S675x1x40x128, .f32⟩
  | 31 => ⟨S675x1x40x128, .f32⟩
  | 32 => ⟨S675x3x40x128, .f32⟩
  | 33 => ⟨S675x40x256x128, .f32⟩
  | 34 => ⟨S675x40x256x128, .f32⟩
  | 35 => ⟨S675x40x256x128, .f32⟩
  | 36 => ⟨S675x40x256x128, .f32⟩
  | 37 => ⟨S675x40x256x128, .f32⟩
  | 38 => ⟨S675x40x256x128, .f32⟩
  | 39 => ⟨S_, .f32⟩
  | 40 => ⟨S675x40x128, .f32⟩
  | 41 => ⟨S675x40x256x128, .f32⟩
  | 42 => ⟨S675x40x256x128, .f32⟩
  | 43 => ⟨S675x40x256x128, .f32⟩
  | 44 => ⟨S675x40x256x128, .f32⟩
  | 45 => ⟨S675x40x256x128, .f32⟩
  | 46 => ⟨S675x40x256x128, .f32⟩
  | 47 => ⟨S_, .f32⟩
  | 48 => ⟨S675x40x128, .f32⟩
  | 49 => ⟨S675x1x40x128, .f32⟩
  | 50 => ⟨S675x1x40x128, .f32⟩
  | 51 => ⟨S675x2x40x128, .f32⟩
  | 52 => ⟨S675x1x40x128, .f32⟩
  | 53 => ⟨S675x3x40x128, .f32⟩
  | 54 => ⟨S675x9x40x128, .f32⟩
  | _ => ⟨S720, .i32⟩

abbrev hbmTy (i : Nat) : BufTy := match i / 128 with
  | 0 => hbmTy0_0 i
  | 1 => hbmTy0_1 i
  | 2 => hbmTy0_2 i
  | _ => ⟨S720, .i32⟩

abbrev bufTy : (tb : Table) → Fin (tcTables nBuf tb) → BufTy
  | .hbm, ⟨i, _⟩ => hbmTy i
  | .local _ .vmem, ⟨0, _⟩ => ⟨S675x3x64x128, .i32⟩
  | .local _ .vmem, ⟨1, _⟩ => ⟨S675x40x128, .i32⟩
  | .local _ .vmem, ⟨2, _⟩ => ⟨S675x3x256x128, .f32⟩
  | .local _ .vmem, ⟨3, _⟩ => ⟨S675x160x128, .f32⟩
  | _, _ => ⟨S720, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_0 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_c_1 : Ref sig .tc := ⟨.hbm, 88, rfl⟩
abbrev main_call1_v5 : Ref sig .tc := ⟨.hbm, 89, rfl⟩
abbrev main_call1_v6 : Ref sig .tc := ⟨.hbm, 90, rfl⟩
abbrev main_call1_c_2 : Ref sig .tc := ⟨.hbm, 91, rfl⟩
abbrev main_call1_v7 : Ref sig .tc := ⟨.hbm, 92, rfl⟩
abbrev main_call1_v8 : Ref sig .tc := ⟨.hbm, 93, rfl⟩
abbrev main_call1_c_3 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_v54 : Ref sig .tc := ⟨.hbm, 101, rfl⟩
abbrev main_v55 : Ref sig .tc := ⟨.hbm, 102, rfl⟩
abbrev main_cst_1 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_2 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_3 : Ref sig .tc := ⟨.hbm, 150, rfl⟩
abbrev main_v101 : Ref sig .tc := ⟨.hbm, 151, rfl⟩
abbrev main_v102 : Ref sig .tc := ⟨.hbm, 152, rfl⟩
abbrev main_cst_4 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_5 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_6 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_7 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_8 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_9 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_10 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_11 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_12 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_13 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_14 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_15 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_16 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_cst_17 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_cst_18 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_cst_19 : Ref sig .tc := ⟨.hbm, 265, rfl⟩
abbrev main_v200 : Ref sig .tc := ⟨.hbm, 266, rfl⟩
abbrev main_cst_20 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_cst_21 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_cst_22 : Ref sig .tc := ⟨.hbm, 276, rfl⟩
abbrev main_v208 : Ref sig .tc := ⟨.hbm, 277, rfl⟩
abbrev main_cst_23 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_24 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_cst_25 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_cst_26 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S675x3x64x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S675x40x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S675x3x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S675x160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Inner.lean ====
/- The inner counted loop of the kernel, run by its invariant: before each trip the buffers the loop writes hold
   contents computed from those at its entry by iterating what one trip does. -/
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.LoopEntry
public import Lean

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ

/-- A value given apart at zero. -/
theorem sel_eq {C : Type} (f : ℕ → C) (g : C) (h : g = f 0) (k : ℕ) :
    Nat.casesOn (motive := fun _ => C) k g (fun n => f (n + 1)) = f k := by
  cases k
  · exact h
  · rfl

/-- What one trip of the inner loop holds: the buffers it reads, at their contents, and the buffers it
   writes, at any. -/
abbrev Trip2 (c : Dev nD) (arg4 : Memref sig .tc .vmem S1x8x40x128 .i32) (arg9 : Memref sig .tc .vmem S3x256x128 .f32) (arg10 : Memref sig .tc .vmem S256x128 .f32) (arg11 : Memref sig .tc .vmem S256x128 .f32) (arg12 : Memref sig .tc .vmem S2x16x128 .f32) (arg13 : Memref sig .tc .vmem S32x128 .f32) (arg14 : Memref sig .tc .vmem S9x64x128 .f32) (X_arg4 : BufTy.Contents (Elt F) arg4.view.ty) (X_arg9 : BufTy.Contents (Elt F) arg9.view.ty) (X_arg13 : BufTy.Contents (Elt F) arg13.view.ty) (f_arg10 : BufTy.Contents (Elt F) arg10.view.ty) (f_arg11 : BufTy.Contents (Elt F) arg11.view.ty) (f_arg12 : BufTy.Contents (Elt F) arg12.view.ty) (f_arg14 : BufTy.Contents (Elt F) arg14.view.ty) : sProp 𝕄G :=
  iprop((arg4.view.loc (c : Thread nD τ) ↦[arg4.view.set]{fullShare} X_arg4) ∗ (arg9.view.loc (c : Thread nD τ) ↦[arg9.view.set]{fullShare} X_arg9) ∗ (arg13.view.loc (c : Thread nD τ) ↦[arg13.view.set]{fullShare} X_arg13) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg14.view.loc (c : Thread nD τ) ↦[arg14.view.set]{fullShare} f_arg14))

/-- ONE TRIP of the inner loop, at a symbolic trip number: what it leaves in the buffers it writes, as
   functions of the contents it finds there, found by the run. -/
@[irreducible] def trip2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) :
    Σ' (N_arg10 : BufTy.Contents (Elt F) arg10.view.ty → BufTy.Contents (Elt F) arg11.view.ty → BufTy.Contents (Elt F) arg12.view.ty → BufTy.Contents (Elt F) arg14.view.ty → BufTy.Contents (Elt F) arg10.view.ty) (N_arg11 : BufTy.Contents (Elt F) arg10.view.ty → BufTy.Contents (Elt F) arg11.view.ty → BufTy.Contents (Elt F) arg12.view.ty → BufTy.Contents (Elt F) arg14.view.ty → BufTy.Contents (Elt F) arg11.view.ty) (N_arg12 : BufTy.Contents (Elt F) arg10.view.ty → BufTy.Contents (Elt F) arg11.view.ty → BufTy.Contents (Elt F) arg12.view.ty → BufTy.Contents (Elt F) arg14.view.ty → BufTy.Contents (Elt F) arg12.view.ty) (N_arg14 : BufTy.Contents (Elt F) arg10.view.ty → BufTy.Contents (Elt F) arg11.view.ty → BufTy.Contents (Elt F) arg12.view.ty → BufTy.Contents (Elt F) arg14.view.ty → BufTy.Contents (Elt F) arg14.view.ty), PLift (∀ (E : Set ℕ) (acc : BitVec 32) (f_arg10 : BufTy.Contents (Elt F) arg10.view.ty) (f_arg11 : BufTy.Contents (Elt F) arg11.view.ty) (f_arg12 : BufTy.Contents (Elt F) arg12.view.ty) (f_arg14 : BufTy.Contents (Elt F) arg14.view.ty),
      Trip2 (F := F) c arg4 arg9 arg10 arg11 arg12 arg13 arg14 X_arg4 X_arg9 X_arg13 f_arg10 f_arg11 f_arg12 f_arg14
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 k acc)
          (fun _ => iprop(Trip2 (F := F) c arg4 arg9 arg10 arg11 arg12 arg13 arg14 X_arg4 X_arg9 X_arg13 (N_arg10 f_arg10 f_arg11 f_arg12 f_arg14) (N_arg11 f_arg10 f_arg11 f_arg12 f_arg14) (N_arg12 f_arg10 f_arg11 f_arg12 f_arg14) (N_arg14 f_arg10 f_arg11 f_arg12 f_arg14)))) := by
  refine ⟨?_, ?_, ?_, ?_, ⟨fun E acc f_arg10 f_arg11 f_arg12 f_arg14 => ?run⟩⟩
  case run =>
    unfold k0_t2_body
    iintro ⟨HR_arg4, HR_arg9, HR_arg13, HW_arg10, HW_arg11, HW_arg12, HW_arg14⟩
    sl_exec
    sl_step
    sl_close

/-- The contents one trip of the inner loop leaves, from those it finds. -/
def next2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) (s : BufTy.Contents (Elt F) arg10.view.ty × BufTy.Contents (Elt F) arg11.view.ty × BufTy.Contents (Elt F) arg12.view.ty × BufTy.Contents (Elt F) arg14.view.ty) : BufTy.Contents (Elt F) arg10.view.ty × BufTy.Contents (Elt F) arg11.view.ty × BufTy.Contents (Elt F) arg12.view.ty × BufTy.Contents (Elt F) arg14.view.ty :=
  ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).1 s.1 s.2.1 s.2.2.1 s.2.2.2, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.1 s.1 s.2.1 s.2.2.1 s.2.2.2, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.1 s.1 s.2.1 s.2.2.1 s.2.2.2, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.2.1 s.1 s.2.1 s.2.2.1 s.2.2.2)

/-- The contents before trip `k` of the inner loop, from those at its entry. -/
def st2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G : BufTy.Contents (Elt F) arg10.view.ty × BufTy.Contents (Elt F) arg11.view.ty × BufTy.Contents (Elt F) arg12.view.ty × BufTy.Contents (Elt F) arg14.view.ty) : ℕ → BufTy.Contents (Elt F) arg10.view.ty × BufTy.Contents (Elt F) arg11.view.ty × BufTy.Contents (Elt F) arg12.view.ty × BufTy.Contents (Elt F) arg14.view.ty
  | 0 => G
  | k + 1 => if h : k < (k0_t2_loop v47 k0_t1).trips then next2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 ⟨k, h⟩ (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G k) else st2 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G k

theorem st2_succ (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G : BufTy.Contents (Elt F) arg10.view.ty × BufTy.Contents (Elt F) arg11.view.ty × BufTy.Contents (Elt F) arg12.view.ty × BufTy.Contents (Elt F) arg14.view.ty) (k : Fin (k0_t2_loop v47 k0_t1).trips) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G (k.val + 1) = next2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G k.val) := by
  rw [st2, dif_pos k.isLt]

/-- The invariant before trip `k` of the inner loop. -/
abbrev inv2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G_arg10 : BufTy.Contents (Elt F) arg10.view.ty) (G_arg11 : BufTy.Contents (Elt F) arg11.view.ty) (G_arg12 : BufTy.Contents (Elt F) arg12.view.ty) (G_arg14 : BufTy.Contents (Elt F) arg14.view.ty) (k : ℕ) (acc : BitVec 32) : sProp 𝕄G :=
  iprop((arg4.view.loc (c : Thread nD τ) ↦[arg4.view.set]{fullShare} X_arg4) ∗ (arg9.view.loc (c : Thread nD τ) ↦[arg9.view.set]{fullShare} X_arg9) ∗ (arg13.view.loc (c : Thread nD τ) ↦[arg13.view.set]{fullShare} X_arg13) ∗ (∃ f, (arg10.view.loc (c : Thread nD τ) ↦[arg10.view.set]{fullShare} f) ∗ ⌜f = Nat.casesOn (motive := fun _ => BufTy.Contents (Elt F) arg10.view.ty) k G_arg10 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).1)⌝) ∗ (∃ f, (arg11.view.loc (c : Thread nD τ) ↦[arg11.view.set]{fullShare} f) ∗ ⌜f = Nat.casesOn (motive := fun _ => BufTy.Contents (Elt F) arg11.view.ty) k G_arg11 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).2.1)⌝) ∗ (∃ f, (arg12.view.loc (c : Thread nD τ) ↦[arg12.view.set]{fullShare} f) ∗ ⌜f = Nat.casesOn (motive := fun _ => BufTy.Contents (Elt F) arg12.view.ty) k G_arg12 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).2.2.1)⌝) ∗ (∃ f, (arg14.view.loc (c : Thread nD τ) ↦[arg14.view.set]{fullShare} f) ∗ ⌜f = Nat.casesOn (motive := fun _ => BufTy.Contents (Elt F) arg14.view.ty) k G_arg14 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).2.2.2)⌝))

set_option warn.classDefReducibility false in
/-- The inner loop by its invariant. -/
@[sl_loop] def loopInv2 (𝒱 : Variants) (c : Dev nD) (bd : Option 𝒱.V) (E : Set ℕ) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G_arg10 : BufTy.Contents (Elt F) arg10.view.ty) (G_arg11 : BufTy.Contents (Elt F) arg11.view.ty) (G_arg12 : BufTy.Contents (Elt F) arg12.view.ty) (G_arg14 : BufTy.Contents (Elt F) arg14.view.ty) (init : BitVec 32) :
    Idealize.ShloMosaic.LoopInv (M := 𝕄G) Idealize.ShloMosaic.frame (wpE defs₀ 𝒱 (c : Thread nD τ) bd) E
      (k0_t2_loop v47 k0_t1).lb (k0_t2_loop v47 k0_t1).ub (k0_t2_loop v47 k0_t1).st (k0_t2_ok v47 k0_hw1 k0_t1) init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485) where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G_arg10 G_arg11 G_arg12 G_arg14
  step k acc := by
    iintro ⟨HR_arg4, HR_arg9, HR_arg13, ⟨%f_arg10, HW_arg10, %h_arg10⟩, ⟨%f_arg11, HW_arg11, %h_arg11⟩, ⟨%f_arg12, HW_arg12, %h_arg12⟩, ⟨%f_arg14, HW_arg14, %h_arg14⟩⟩
    rw [sel_eq (C := BufTy.Contents (Elt F) arg10.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).1) G_arg10 rfl] at h_arg10; rw [sel_eq (C := BufTy.Contents (Elt F) arg11.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).2.1) G_arg11 rfl] at h_arg11; rw [sel_eq (C := BufTy.Contents (Elt F) arg12.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).2.2.1) G_arg12 rfl] at h_arg12; rw [sel_eq (C := BufTy.Contents (Elt F) arg14.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).2.2.2) G_arg14 rfl] at h_arg14
    subst h_arg10; subst h_arg11; subst h_arg12; subst h_arg14
    iapply (wp_wand_r Idealize.ShloMosaic.frame (wpE (defs₀ (F := F)) 𝒱 (c : Thread nD τ) bd) E)
    isplitl [HR_arg4 HR_arg9 HR_arg13 HW_arg10 HW_arg11 HW_arg12 HW_arg14]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.2.2.down E acc _ _ _ _)
      isplitl [HR_arg4]; · iexact HR_arg4
      isplitl [HR_arg9]; · iexact HR_arg9
      isplitl [HR_arg13]; · iexact HR_arg13
      isplitl [HW_arg10]; · iexact HW_arg10
      isplitl [HW_arg11]; · iexact HW_arg11
      isplitl [HW_arg12]; · iexact HW_arg12
      iexact HW_arg14
    · iintro %yld ⟨HR_arg4, HR_arg9, HR_arg13, HW_arg10, HW_arg11, HW_arg12, HW_arg14⟩
      isplitl [HR_arg4]; · iexact HR_arg4
      isplitl [HR_arg9]; · iexact HR_arg9
      isplitl [HR_arg13]; · iexact HR_arg13
      isplitl [HW_arg10]
      · iexists _; isplitl [HW_arg10]; · iexact HW_arg10
        ipureintro; exact (congrArg (fun s => s.1) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm
      isplitl [HW_arg11]
      · iexists _; isplitl [HW_arg11]; · iexact HW_arg11
        ipureintro; exact (congrArg (fun s => s.2.1) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm
      isplitl [HW_arg12]
      · iexists _; isplitl [HW_arg12]; · iexact HW_arg12
        ipureintro; exact (congrArg (fun s => s.2.2.1) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm
      iexists _; isplitl [HW_arg14]; · iexact HW_arg14
      ipureintro; exact (congrArg (fun s => s.2.2.2) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm

end Cert.KernelIdeal.Run
-- ==== Proof.Outer.lean ====
/- The outer counted loop of the kernel, run by its invariant, through the inner loop's. -/
module

public import proofs.«01_k».proof.Proof.Inner
public import Idealize.ShloMosaic.Lib.LoopRemainder

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ
/-- What one trip of the outer loop holds: the buffers it reads, at their contents, and the buffers it
   writes, at any. -/
abbrev Trip1 (c : Dev nD) (arg4 : Memref sig .tc .vmem S1x8x40x128 .i32) (arg8 : Memref sig .tc .vmem S1x9x40x128 .f32) (arg9 : Memref sig .tc .vmem S3x256x128 .f32) (arg10 : Memref sig .tc .vmem S256x128 .f32) (arg11 : Memref sig .tc .vmem S256x128 .f32) (arg12 : Memref sig .tc .vmem S2x16x128 .f32) (arg13 : Memref sig .tc .vmem S32x128 .f32) (arg14 : Memref sig .tc .vmem S9x64x128 .f32) (X_arg4 : BufTy.Contents (Elt F) arg4.view.ty) (X_arg9 : BufTy.Contents (Elt F) arg9.view.ty) (f_arg8 : BufTy.Contents (Elt F) arg8.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄G :=
  iprop((arg4.view.loc (c : Thread nD τ) ↦[arg4.view.set]{fullShare} X_arg4) ∗ (arg9.view.loc (c : Thread nD τ) ↦[arg9.view.set]{fullShare} X_arg9) ∗ (arg8.view.loc (c : Thread nD τ) ↦[arg8.view.set]{fullShare} f_arg8) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- ONE TRIP of the outer loop, at a symbolic trip number: what it leaves in the buffers it writes, as
   functions of the contents it finds there, found by the run. -/
@[irreducible] def trip1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) :
    Σ' (N_arg8 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg8.view.ty) (N_arg10 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty) (N_arg11 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty) (N_arg12 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg12.view.ty) (N_arg13 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg13.view.ty) (N_arg14 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty), PLift (∀ (E : Set ℕ) (acc : BitVec 32) (f_arg8 : BufTy.Contents (Elt F) arg8.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip1 (F := F) c arg4 arg8 arg9 arg10 arg11 arg12 arg13 arg14 X_arg4 X_arg9 f_arg8 f_arg10 f_arg11 f_arg12 f_arg13 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 k acc)
          (fun _ => iprop(Trip1 (F := F) c arg4 arg8 arg9 arg10 arg11 arg12 arg13 arg14 X_arg4 X_arg9 (N_arg8 f_arg8 f_arg10 f_arg11 f_arg12 f_arg13 f_arg14) (N_arg10 f_arg8 f_arg10 f_arg11 f_arg12 f_arg13 f_arg14) (N_arg11 f_arg8 f_arg10 f_arg11 f_arg12 f_arg13 f_arg14) (N_arg12 f_arg8 f_arg10 f_arg11 f_arg12 f_arg13 f_arg14) (N_arg13 f_arg8 f_arg10 f_arg11 f_arg12 f_arg13 f_arg14) (N_arg14 f_arg8 f_arg10 f_arg11 f_arg12 f_arg13 f_arg14)))) := by
  refine ⟨?_, ?_, ?_, ?_, ?_, ?_, ⟨fun E acc f_arg8 f_arg10 f_arg11 f_arg12 f_arg13 f_arg14 => ?run⟩⟩
  case run =>
    unfold k0_t1_body
    iintro ⟨HR_arg4, HR_arg9, HW_arg8, HW_arg10, HW_arg11, HW_arg12, HW_arg13, HW_arg14⟩
    sl_exec
    sl_step
    sl_close

/-- The contents one trip of the outer loop leaves, from those it finds. -/
def next1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (s : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty) : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty :=
  ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.2.2.1 s.1 s.2.1 s.2.2.1 s.2.2.2.1 s.2.2.2.2.1 s.2.2.2.2.2)

/-- The contents before trip `k` of the outer loop, from those at its entry. -/
def st1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty) : ℕ → BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty
  | 0 => G
  | k + 1 => if h : k < (k0_t1_loop v47).trips then next1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 ⟨k, h⟩ (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G k) else st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G k

theorem st1_succ (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty) (k : Fin (k0_t1_loop v47).trips) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G (k.val + 1) = next1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G k.val) := by
  rw [st1, dif_pos k.isLt]

/-- The invariant before trip `k` of the outer loop. -/
abbrev inv1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G_arg8 : BufTy.Contents (Elt F) arg8.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (acc : BitVec 32) : sProp 𝕄G :=
  iprop((arg4.view.loc (c : Thread nD τ) ↦[arg4.view.set]{fullShare} X_arg4) ∗ (arg9.view.loc (c : Thread nD τ) ↦[arg9.view.set]{fullShare} X_arg9) ∗ (∃ f, (arg8.view.loc (c : Thread nD τ) ↦[arg8.view.set]{fullShare} f) ∗ ⌜f = Nat.casesOn (motive := fun _ => BufTy.Contents (Elt F) arg8.view.ty) k G_arg8 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).1)⌝) ∗ (∃ f, (arg10.view.loc (c : Thread nD τ) ↦[arg10.view.set]{fullShare} f) ∗ ⌜f = Nat.casesOn (motive := fun _ => BufTy.Contents (Elt F) arg10.view.ty) k G_arg10 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.1)⌝) ∗ (∃ f, (arg11.view.loc (c : Thread nD τ) ↦[arg11.view.set]{fullShare} f) ∗ ⌜f = Nat.casesOn (motive := fun _ => BufTy.Contents (Elt F) arg11.view.ty) k G_arg11 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.1)⌝) ∗ (∃ f, (arg12.view.loc (c : Thread nD τ) ↦[arg12.view.set]{fullShare} f) ∗ ⌜f = Nat.casesOn (motive := fun _ => BufTy.Contents (Elt F) arg12.view.ty) k G_arg12 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.2.1)⌝) ∗ (∃ f, (arg13.view.loc (c : Thread nD τ) ↦[arg13.view.set]{fullShare} f) ∗ ⌜f = Nat.casesOn (motive := fun _ => BufTy.Contents (Elt F) arg13.view.ty) k G_arg13 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.2.2.1)⌝) ∗ (∃ f, (arg14.view.loc (c : Thread nD τ) ↦[arg14.view.set]{fullShare} f) ∗ ⌜f = Nat.casesOn (motive := fun _ => BufTy.Contents (Elt F) arg14.view.ty) k G_arg14 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.2.2.2)⌝))

set_option warn.classDefReducibility false in
/-- The outer loop by its invariant. -/
@[sl_loop] def loopInv1 (𝒱 : Variants) (c : Dev nD) (bd : Option 𝒱.V) (E : Set ℕ) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G_arg8 : BufTy.Contents (Elt F) arg8.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (init : BitVec 32) :
    Idealize.ShloMosaic.LoopInv (M := 𝕄G) Idealize.ShloMosaic.frame (wpE defs₀ 𝒱 (c : Thread nD τ) bd) E
      (k0_t1_loop v47).lb (k0_t1_loop v47).ub (k0_t1_loop v47).st (k0_t1_ok v47 k0_hw1) init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433) where
  inv := inv1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G_arg8 G_arg10 G_arg11 G_arg12 G_arg13 G_arg14
  step k acc := by
    iintro ⟨HR_arg4, HR_arg9, ⟨%f_arg8, HW_arg8, %h_arg8⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩⟩
    rw [sel_eq (C := BufTy.Contents (Elt F) arg8.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).1) G_arg8 rfl] at h_arg8; rw [sel_eq (C := BufTy.Contents (Elt F) arg10.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.1) G_arg10 rfl] at h_arg10; rw [sel_eq (C := BufTy.Contents (Elt F) arg11.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.1) G_arg11 rfl] at h_arg11; rw [sel_eq (C := BufTy.Contents (Elt F) arg12.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.2.1) G_arg12 rfl] at h_arg12; rw [sel_eq (C := BufTy.Contents (Elt F) arg13.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.2.2.1) G_arg13 rfl] at h_arg13; rw [sel_eq (C := BufTy.Contents (Elt F) arg14.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.2.2.2) G_arg14 rfl] at h_arg14
    subst h_arg8; subst h_arg10; subst h_arg11; subst h_arg12; subst h_arg13; subst h_arg14
    iapply (wp_wand_r Idealize.ShloMosaic.frame (wpE (defs₀ (F := F)) 𝒱 (c : Thread nD τ) bd) E)
    isplitl [HR_arg4 HR_arg9 HW_arg8 HW_arg10 HW_arg11 HW_arg12 HW_arg13 HW_arg14]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.2.2.2.down E acc _ _ _ _ _ _)
      isplitl [HR_arg4]; · iexact HR_arg4
      isplitl [HR_arg9]; · iexact HR_arg9
      isplitl [HW_arg8]; · iexact HW_arg8
      isplitl [HW_arg10]; · iexact HW_arg10
      isplitl [HW_arg11]; · iexact HW_arg11
      isplitl [HW_arg12]; · iexact HW_arg12
      isplitl [HW_arg13]; · iexact HW_arg13
      iexact HW_arg14
    · iintro %yld ⟨HR_arg4, HR_arg9, HW_arg8, HW_arg10, HW_arg11, HW_arg12, HW_arg13, HW_arg14⟩
      isplitl [HR_arg4]; · iexact HR_arg4
      isplitl [HR_arg9]; · iexact HR_arg9
      isplitl [HW_arg8]
      · iexists _; isplitl [HW_arg8]; · iexact HW_arg8
        ipureintro; exact (congrArg (fun s => s.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg10]
      · iexists _; isplitl [HW_arg10]; · iexact HW_arg10
        ipureintro; exact (congrArg (fun s => s.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg11]
      · iexists _; isplitl [HW_arg11]; · iexact HW_arg11
        ipureintro; exact (congrArg (fun s => s.2.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg12]
      · iexists _; isplitl [HW_arg12]; · iexact HW_arg12
        ipureintro; exact (congrArg (fun s => s.2.2.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg13]
      · iexists _; isplitl [HW_arg13]; · iexact HW_arg13
        ipureintro; exact (congrArg (fun s => s.2.2.2.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      iexists _; isplitl [HW_arg14]; · iexact HW_arg14
      ipureintro; exact (congrArg (fun s => s.2.2.2.2.2) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm

end Cert.KernelIdeal.Run
-- ==== Proof.Run.lean ====
/- The kernel's body on any staging buffers, run once: through its prologue, the check of the entry count it reads, and
   the outer loop by its invariant. -/
module

public import proofs.«01_k».proof.Proof.Outer
public import Idealize.ShloMosaic.Lib.LoopRemainder

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ

/-- What the body leaves in the output block, from what the buffers it writes held, found by the run: the inputs are handed
   back as they were, the scratch buffers at some contents. The entry counts must satisfy the side condition the body assumes. -/
@[irreducible] def body (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (hchk : ∀ h, k0_chk1 (arg1.view.readAt (Elt F) (Rect.unit (s := S720) (k0_off1 i) S1.size (k0_off1_inb i)).toLoadRect X_arg1 (Shape.Idx.first h))) :
    Σ' (N : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg8.view.ty), PLift (∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (K : PUnit → sProp 𝕄G),
      iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} (N f_arg8 f_arg9 f_arg10 f_arg11 f_arg12 f_arg13 f_arg14)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K ⟨⟩))
      ⊢ wp frame (wpE (defs₀ (F := F)) 𝒱 (c : Thread nD τ) bd) E (cc0_raster (F := F) i arg1 harg1 arg2 harg2 arg3 harg3 arg4 harg4 arg5 harg5 arg6 harg6 arg7 harg7 arg8 harg8 arg9 harg9 arg10 harg10 arg11 harg11 arg12 harg12 arg13 harg13 arg14 harg14) K) := by
  refine ⟨?_, ⟨fun E f_arg8 f_arg9 f_arg10 f_arg11 f_arg12 f_arg13 f_arg14 K => ?run⟩⟩
  case run =>
    iintro ⟨Harg1, Harg2, Harg3, Harg4, Harg5, Harg6, Harg7, Harg8, Harg9, Harg10, Harg11, Harg12, Harg13, Harg14, Hk⟩
    sl_unfold [cc0_raster]
    sl_exec (disch := exact hchk _)
    sl_step
    iapply Hk
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    iexists _; iexact Harg14

end Cert.KernelIdeal.Run
-- ==== Proof.Data.lean ====
/- The proof data of the kernel's pipeline and its run: the inputs stay as they were, and what the body leaves in the output
   block at a grid point is the body's function of the input blocks there and of what the written buffers held. -/
module

public import proofs.«01_k».proof.Proof.Run
public import Idealize.ShloMosaic.Lib.Pipeline.Frame
public import Idealize.ShloMosaic.Lib.Pipeline.DatRel
public import Idealize.ShloMosaic.Lib.Pipeline.ArrRel

@[expose] public section

set_option maxRecDepth 16384
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ

variable (m : (ℓ : Loc nD τ sig) → Buf (Elt F) ℓ) (ρ : Dev nD → PrngReg)

/-- The proof's variants: none. -/
abbrev 𝒱₀ : Variants := Variants.none

/-- Window 0's staging memref at a point, and its wholeness. -/
abbrev ms0 (t : Fin cfg0.N) : Memref sig .tc .smem S720 .i32 := win0_0.stage (cfg0.slots t 0)
theorem hs0 (t : Fin cfg0.N) : (ms0 t).IsWhole := hstage0_0 _
/-- Window 1's staging memref at a point, and its wholeness. -/
abbrev ms1 (t : Fin cfg0.N) : Memref sig .tc .smem S9x3 .f32 := win0_1.stage (cfg0.slots t 1)
theorem hs1 (t : Fin cfg0.N) : (ms1 t).IsWhole := hstage0_1 _
/-- Window 2's staging memref at a point, and its wholeness. -/
abbrev ms2 (t : Fin cfg0.N) : Memref sig .tc .smem S9 .f32 := win0_2.stage (cfg0.slots t 2)
theorem hs2 (t : Fin cfg0.N) : (ms2 t).IsWhole := hstage0_2 _
/-- Window 3's staging memref at a point, and its wholeness. -/
abbrev ms3 (t : Fin cfg0.N) : Memref sig .tc .vmem S1x8x40x128 .i32 := win0_3.stage (cfg0.slots t 3)
theorem hs3 (t : Fin cfg0.N) : (ms3 t).IsWhole := hstage0_3 _
/-- Window 4's staging memref at a point, and its wholeness. -/
abbrev ms4 (t : Fin cfg0.N) : Memref sig .tc .vmem S1x2x128 .f32 := win0_4.stage (cfg0.slots t 4)
theorem hs4 (t : Fin cfg0.N) : (ms4 t).IsWhole := hstage0_4 _
/-- Window 5's staging memref at a point, and its wholeness. -/
abbrev ms5 (t : Fin cfg0.N) : Memref sig .tc .vmem S1x3x64x128 .i32 := win0_5.stage (cfg0.slots t 5)
theorem hs5 (t : Fin cfg0.N) : (ms5 t).IsWhole := hstage0_5 _
/-- Window 6's staging memref at a point, and its wholeness. -/
abbrev ms6 (t : Fin cfg0.N) : Memref sig .tc .vmem S1x256x128 .i32 := win0_6.stage (cfg0.slots t 6)
theorem hs6 (t : Fin cfg0.N) : (ms6 t).IsWhole := hstage0_6 _
/-- Window 7's staging memref at a point, and its wholeness. -/
abbrev ms7 (t : Fin cfg0.N) : Memref sig .tc .vmem S1x9x40x128 .f32 := win0_7.stage (cfg0.slots t 7)
theorem hs7 (t : Fin cfg0.N) : (ms7 t).IsWhole := hstage0_7 _
/-- Scratch buffer 0, whole. -/
abbrev sc0 : Memref sig .tc .vmem S3x256x128 .f32 := Memref.whole cc0_scratch0
/-- Scratch buffer 1, whole. -/
abbrev sc1 : Memref sig .tc .vmem S256x128 .f32 := Memref.whole cc0_scratch1
/-- Scratch buffer 2, whole. -/
abbrev sc2 : Memref sig .tc .vmem S256x128 .f32 := Memref.whole cc0_scratch2
/-- Scratch buffer 3, whole. -/
abbrev sc3 : Memref sig .tc .vmem S2x16x128 .f32 := Memref.whole cc0_scratch3
/-- Scratch buffer 4, whole. -/
abbrev sc4 : Memref sig .tc .vmem S32x128 .f32 := Memref.whole cc0_scratch4
/-- Scratch buffer 5, whole. -/
abbrev sc5 : Memref sig .tc .vmem S9x64x128 .f32 := Memref.whole cc0_scratch5

/-- The side condition at every entry count the body loads. -/
def Counts : Prop := ∀ (c : Dev nD) (t : Fin cfg0.N) (j : S720.Idx), (j 0).val = k0_off1 (grid0.coords t) 0 → k0_chk1 (iblk m c 0 t j)

variable {m} in
theorem Counts.at (h : Counts m) (c : Dev nD) (t : Fin cfg0.N) : ∀ h, k0_chk1 ((ms0 t).view.readAt (Elt F)
    (Rect.unit (s := S720) (k0_off1 (grid0.coords t)) S1.size (k0_off1_inb (grid0.coords t))).toLoadRect ((hs0 t).unread (iblk m c 0 t)) (Shape.Idx.first h)) := by
  intro hp
  change k0_chk1 ((ms0 t).view.read (Elt F) ((hs0 t).unread (iblk m c 0 t)) _)
  rw [(hs0 t).read_unread]
  exact h c t _ (by simp [Rect.toLoadRect, Rect.unit, Shape.Idx.first])

/-- The body at a point. -/
def bodyAt (hC : Counts m) (c : Dev nD) (t : Fin cfg0.N) :=
  body (F := F) 𝒱₀ c none (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) (hC.at c t)

/-- What the body may leave in the output block at point `t`. -/
def Left (hC : Counts m) (c : Dev nD) (t : Fin cfg0.N) (Y : Vec F S1x9x40x128 .f32) : Prop :=
  ∃ f0 : BufTy.Contents (Elt F) (ms7 t).view.ty, ∃ f1 : BufTy.Contents (Elt F) sc0.view.ty, ∃ f2 : BufTy.Contents (Elt F) sc1.view.ty, ∃ f3 : BufTy.Contents (Elt F) sc2.view.ty, ∃ f4 : BufTy.Contents (Elt F) sc3.view.ty, ∃ f5 : BufTy.Contents (Elt F) sc4.view.ty, ∃ f6 : BufTy.Contents (Elt F) sc5.view.ty,
    Y = (ms7 t).view.read (Elt F) ((bodyAt m hC c t).1 f0 f1 f2 f3 f4 f5 f6)

/-- Only the output is held to a relation. -/
def fgt : Fin cfg0.W → Bool := fun w => decide (w = 7)

/-- The relation a window is held to. -/
def Rl (hC : Counts m) (c : Dev nD) : (w : Fin cfg0.W) → Fin cfg0.N → ((cfg0.win w).block.Idx → Elt F (cfg0.win w).elt) → Prop
  | ⟨7, _⟩ => fun t Y => Left m hC c t Y
  | _ => fun _ _ => True

variable [∀ e, Nonempty (Elt F e)]

/-- The proof data: the arrays as launched, the input blocks left in place. -/
def dats (_ : Fin 1) (c : Dev nD) : Dat τ (Elt F) Unit ℕ (UR sig nD τ) ℕ cfg0 c where
  A w := V m c (Pipeline.arrRef spec0 w)
  after w t := match w with
    | ⟨7, _⟩ => Pipeline.Dat.unnamed (cfg := cfg0) 7 t
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) : (Pipeline.ΦA spec0 c : sProp 𝕄G)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA
  rw [scopedRest0_eq]; simp only [owns_whole]; try rfl

/-- What the body is called with at point `t`, and what it returns. -/
def bodyPre (hC : Counts m) (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d))
    ∗ (∃ Y, ⌜((dats m 0 c).toRRel fgt (Rl m hC c)).Finds 7 t Y⌝ ∗ owns (c : Thread nD τ) (ms7 t) fullShare Y))
def bodyPost (hC : Counts m) (c : Dev nD) (t : Fin cfg0.N) : sProp 𝕄G :=
  iprop((dats m 0 c).Φ t.succ ∗ (dats m 0 c).owesAt () t.succ
    ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
    ∗ (∃ X, ⌜Left m hC c t X⌝ ∗ owns (c : Thread nD τ) (ms7 t) fullShare X))

theorem sound_body (hC : Counts m) (c : Dev nD) (t : Fin cfg0.N) :
    bodyPre m hC c t ⊢ wp frame (wpE (defs₀ (F := F)) 𝒱₀ c none) Set.univ (bodyAt0 t) (fun _ => bodyPost m hC c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  unfold owns
  iintro ⟨⟨⟨⟨%d0, %g0, -, S0⟩, ⟨%d1, %g1, -, S1⟩, ⟨%d2, %g2, -, S2⟩, ⟨%d3, %g3, -, S3⟩, ⟨%d4, %g4, -, S4⟩, ⟨%d5, %g5, -, S5⟩⟩, Hg⟩, HO, ⟨%_e0, %x0, %hx0, H0⟩, ⟨%_e1, %x1, %hx1, H1⟩, ⟨%_e2, %x2, %hx2, H2⟩, ⟨%_e3, %x3, %hx3, H3⟩, ⟨%_e4, %x4, %hx4, H4⟩, ⟨%_e5, %x5, %hx5, H5⟩, ⟨%_e6, %x6, %hx6, H6⟩, ⟨%Y, -, %y, -, H7⟩⟩
  obtain rfl := (hs0 t).eq_unread hx0
  obtain rfl := (hs1 t).eq_unread hx1
  obtain rfl := (hs2 t).eq_unread hx2
  obtain rfl := (hs3 t).eq_unread hx3
  obtain rfl := (hs4 t).eq_unread hx4
  obtain rfl := (hs5 t).eq_unread hx5
  obtain rfl := (hs6 t).eq_unread hx6
  iapply ((bodyAt m hC c t).2.down Set.univ y g0 g1 g2 g3 g4 g5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, ⟨%s0, S0⟩, ⟨%s1, S1⟩, ⟨%s2, S2⟩, ⟨%s3, S3⟩, ⟨%s4, S4⟩, ⟨%s5, S5⟩⟩
  isplitl [S0 S1 S2 S3 S4 S5 Hg]
  · isplitl [S0 S1 S2 S3 S4 S5]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      isplitl [S4]
      · iexists _, _; isplitr; swap; · iexact S4
        ipureintro; rfl
      iexists _, _; isplitr; swap; · iexact S5
      ipureintro; rfl
    · iexact Hg
  isplitl [HO]; · iexact HO
  isplitl [H0]
  · iexists _; isplitr; · ipureintro; exact (hs0 t).read_unread _
    iexact H0
  isplitl [H1]
  · iexists _; isplitr; · ipureintro; exact (hs1 t).read_unread _
    iexact H1
  isplitl [H2]
  · iexists _; isplitr; · ipureintro; exact (hs2 t).read_unread _
    iexact H2
  isplitl [H3]
  · iexists _; isplitr; · ipureintro; exact (hs3 t).read_unread _
    iexact H3
  isplitl [H4]
  · iexists _; isplitr; · ipureintro; exact (hs4 t).read_unread _
    iexact H4
  isplitl [H5]
  · iexists _; isplitr; · ipureintro; exact (hs5 t).read_unread _
    iexact H5
  isplitl [H6]
  · iexists _; isplitr; · ipureintro; exact (hs6 t).read_unread _
    iexact H6
  iexists _; isplitr; · ipureintro; exact ⟨y, g0, g1, g2, g3, g4, g5, rfl⟩
  iexists _; isplitr; swap; · iexact H7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (hC : Counts m) (c : Dev nD) :
    Pipeline.BodyObligationRel (dats (F := F) m 0 c) (defs₀ (F := F)) 𝒱₀ () Set.univ fgt (Rl m hC c) := fun t => by
  rw [bigSep_W0, bigSep_W0, defs₀_row]
  exact triple_restated (sound_body m hC c t) rfl .rfl fun _ => .rfl

/-- The proof data read relationally. -/
def rdat (hC : Counts m) (c : Dev nD) := (dats (F := F) m 0 c).toRRel fgt (Rl m hC c)

set_option backward.isDefEq.respectTransparency.types false in
/-- The run: every argument array ends as launched, the output's array holds blocks that the body may leave, and every
   semaphore is at zero. -/
theorem run_main (hC : Counts m) :
    θ_run defs (onTc (τ := τ) (main (F := F))) (s₀ m ρ)
      (fun r => Pipeline.RDat.FramePost (cfgs 0) (rdat m hC) (V m) r ∧ r.2.sem = fun _ => 0) :=
  Pipeline.RDat.θ_run_frame_track (Q' := fun r => Pipeline.RDat.FramePost (cfgs 0) (rdat m hC) (V m) r ∧ r.2.sem = fun _ => 0) cfgs (0 : Fin 1) launch0 defs₀ 𝒱₀ (rdat m hC) m ρ main
    (hbody := fun c => (body_obligation m hC c).toRRel)
    (hshare := fun c => (dats m 0 c).share_full fun _ => rfl)
    (howed := fun _ _ => rfl) (V := V m) (hmain := hmain m 𝒱₀) (hA := A_eq m)
    (hin := fun _ => .rfl) (hout := fun _ => .rfl) (hQ' := fun _ h => h)

end Cert.KernelIdeal.Run
-- ==== Proof.Count.lean ====
/- The entry counts: a precondition on the counts array gives the side condition that the kernel's body assumes of the
   one count it loads. -/
module

public import proofs.«01_k».proof.Proof.Data
public import Idealize.ShloMosaic.Lib.Pipeline.Value
public import Idealize.ShloMosaic.Lib.ValueIdx

@[expose] public section

set_option maxRecDepth 16384

noncomputable section

namespace Cert.KernelIdeal.Run

open Cert.KernelIdeal Cert.KernelIdeal.Gen
open Idealize.ShloMosaic Idealize.ShloMosaic.TcCoe Idealize.SL Idealize.SL.Sem

variable {F : FTy → Type} [FloatOps F]

/-- Every count up to forty satisfies the body's side condition. -/
theorem chk_of_fin : ∀ n : Fin 41, k0_chk1 (BitVec.ofNat 32 n.val) := by decide +kernel

theorem chk_of_le (v : BitVec 32) (h : v.toNat ≤ 40) : k0_chk1 v := by
  have e := chk_of_fin ⟨v.toNat, by omega⟩
  simpa using e

/-- The place of the count that a grid point loads. -/
theorem off1_eq : ∀ t : Fin cfg0.N, k0_off1 (grid0.coords t) 0 = t.val / 15 * 16 + t.val % 15 := by decide +kernel

/-- Every count of the first fifteen columns of the 45 rows of sixteen is at most forty. -/
def Fits (k : IVec S720 32) : Prop := ∀ j : S720.Idx, (j 0).val % 16 < 15 → (k j).toNat ≤ 40

theorem iblk0_apply (m : (ℓ : Loc nD τ sig) → Buf (Elt F) ℓ) (c : Dev nD) (t : Fin cfg0.N) (j : S720.Idx) :
    iblk m c 0 t j = m ((c : Thread nD τ).loc main_arg0) j := by
  unfold iblk
  rw [View.read_apply]
  refine congrArg (m ((c : Thread nD τ).loc main_arg0)) (funext fun a => Fin.ext ?_)
  fin_cases a
  show 0 * 720 + 1 * (j 0).val = (j 0).val
  omega

theorem counts_of_fits (m : (ℓ : Loc nD τ sig) → Buf (Elt F) ℓ)
    (h : ∀ c : Dev nD, Fits (m ((c : Thread nD τ).loc main_arg0))) : Counts m := by
  intro c t j hj
  rw [iblk0_apply]
  refine chk_of_le _ (h c j ?_)
  rw [hj, off1_eq]
  omega

/-- The arguments' arrays end as they were launched. -/
theorem unchanged [∀ e, Nonempty (Elt F e)] (m : (ℓ : Loc nD τ sig) → Buf (Elt F) ℓ) (hC : Counts m)
    (r : PUnit × MemSt nD τ sig (Elt F)) (h : Pipeline.RDat.FramePost (cfgs 0) (rdat m hC) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c), (h.arr_in c 1 rfl).trans (V_main_arg1 m c),
    (h.arr_in c 2 rfl).trans (V_main_arg2 m c), (h.arr_in c 3 rfl).trans (V_main_arg3 m c),
    (h.arr_in c 4 rfl).trans (V_main_arg4 m c), (h.arr_in c 5 rfl).trans (V_main_arg5 m c),
    (h.arr_in c 6 rfl).trans (V_main_arg6 m c)⟩

/-- The kernel runs, leaves its arguments as they were, and every semaphore ends at zero. -/
theorem frame_run [∀ e, Nonempty (Elt F e)] (m : (ℓ : Loc nD τ sig) → Buf (Elt F) ℓ) (ρ : Dev nD → PrngReg) (hC : Counts m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => unchanged m hC r h.1 c, h.2⟩) (run_main m ρ hC)

end Cert.KernelIdeal.Run
-- ==== Proof.BitsInner.lean ====
/- The inner counted loop of the kernel, run by its invariant: before each trip the buffers the loop writes hold
   contents computed from those at its entry by iterating what one trip does. -/
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.Pipeline.Kit
public import Idealize.ShloMosaic.Lib.LoopEntry
public import Lean

@[expose] public section

set_option maxRecDepth 16384
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ

/-- A value given apart at zero. -/
theorem sel_eq {C : Type} (f : ℕ → C) (g : C) (h : g = f 0) (k : ℕ) :
    Nat.casesOn (motive := fun _ => C) k g (fun n => f (n + 1)) = f k := by
  cases k
  · exact h
  · rfl

/-- What one trip of the inner loop holds: the buffers it reads, at their contents, and the buffers it
   writes, at any. -/
abbrev Trip2 (c : Dev nD) (arg4 : Memref sig .tc .vmem S1x8x40x128 .i32) (arg9 : Memref sig .tc .vmem S3x256x128 .f32) (arg10 : Memref sig .tc .vmem S256x128 .f32) (arg11 : Memref sig .tc .vmem S256x128 .f32) (arg12 : Memref sig .tc .vmem S2x16x128 .f32) (arg13 : Memref sig .tc .vmem S32x128 .f32) (arg14 : Memref sig .tc .vmem S9x64x128 .f32) (X_arg4 : BufTy.Contents (Elt F) arg4.view.ty) (X_arg9 : BufTy.Contents (Elt F) arg9.view.ty) (X_arg13 : BufTy.Contents (Elt F) arg13.view.ty) (f_arg10 : BufTy.Contents (Elt F) arg10.view.ty) (f_arg11 : BufTy.Contents (Elt F) arg11.view.ty) (f_arg12 : BufTy.Contents (Elt F) arg12.view.ty) (f_arg14 : BufTy.Contents (Elt F) arg14.view.ty) : sProp 𝕄G :=
  iprop((arg4.view.loc (c : Thread nD τ) ↦[arg4.view.set]{fullShare} X_arg4) ∗ (arg9.view.loc (c : Thread nD τ) ↦[arg9.view.set]{fullShare} X_arg9) ∗ (arg13.view.loc (c : Thread nD τ) ↦[arg13.view.set]{fullShare} X_arg13) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg14.view.loc (c : Thread nD τ) ↦[arg14.view.set]{fullShare} f_arg14))

/-- ONE TRIP of the inner loop, at a symbolic trip number: what it leaves in the buffers it writes, as
   functions of the contents it finds there, found by the run. -/
@[irreducible] def trip2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) :
    Σ' (N_arg10 : BufTy.Contents (Elt F) arg10.view.ty → BufTy.Contents (Elt F) arg11.view.ty → BufTy.Contents (Elt F) arg12.view.ty → BufTy.Contents (Elt F) arg14.view.ty → BufTy.Contents (Elt F) arg10.view.ty) (N_arg11 : BufTy.Contents (Elt F) arg10.view.ty → BufTy.Contents (Elt F) arg11.view.ty → BufTy.Contents (Elt F) arg12.view.ty → BufTy.Contents (Elt F) arg14.view.ty → BufTy.Contents (Elt F) arg11.view.ty) (N_arg12 : BufTy.Contents (Elt F) arg10.view.ty → BufTy.Contents (Elt F) arg11.view.ty → BufTy.Contents (Elt F) arg12.view.ty → BufTy.Contents (Elt F) arg14.view.ty → BufTy.Contents (Elt F) arg12.view.ty) (N_arg14 : BufTy.Contents (Elt F) arg10.view.ty → BufTy.Contents (Elt F) arg11.view.ty → BufTy.Contents (Elt F) arg12.view.ty → BufTy.Contents (Elt F) arg14.view.ty → BufTy.Contents (Elt F) arg14.view.ty), PLift (∀ (E : Set ℕ) (acc : BitVec 32) (f_arg10 : BufTy.Contents (Elt F) arg10.view.ty) (f_arg11 : BufTy.Contents (Elt F) arg11.view.ty) (f_arg12 : BufTy.Contents (Elt F) arg12.view.ty) (f_arg14 : BufTy.Contents (Elt F) arg14.view.ty),
      Trip2 (F := F) c arg4 arg9 arg10 arg11 arg12 arg13 arg14 X_arg4 X_arg9 X_arg13 f_arg10 f_arg11 f_arg12 f_arg14
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 k acc)
          (fun _ => iprop(Trip2 (F := F) c arg4 arg9 arg10 arg11 arg12 arg13 arg14 X_arg4 X_arg9 X_arg13 (N_arg10 f_arg10 f_arg11 f_arg12 f_arg14) (N_arg11 f_arg10 f_arg11 f_arg12 f_arg14) (N_arg12 f_arg10 f_arg11 f_arg12 f_arg14) (N_arg14 f_arg10 f_arg11 f_arg12 f_arg14)))) := by
  refine ⟨?_, ?_, ?_, ?_, ⟨fun E acc f_arg10 f_arg11 f_arg12 f_arg14 => ?run⟩⟩
  case run =>
    unfold k0_t2_body
    iintro ⟨HR_arg4, HR_arg9, HR_arg13, HW_arg10, HW_arg11, HW_arg12, HW_arg14⟩
    sl_exec
    sl_step
    sl_close

/-- The contents one trip of the inner loop leaves, from those it finds. -/
def next2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) (s : BufTy.Contents (Elt F) arg10.view.ty × BufTy.Contents (Elt F) arg11.view.ty × BufTy.Contents (Elt F) arg12.view.ty × BufTy.Contents (Elt F) arg14.view.ty) : BufTy.Contents (Elt F) arg10.view.ty × BufTy.Contents (Elt F) arg11.view.ty × BufTy.Contents (Elt F) arg12.view.ty × BufTy.Contents (Elt F) arg14.view.ty :=
  ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).1 s.1 s.2.1 s.2.2.1 s.2.2.2, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.1 s.1 s.2.1 s.2.2.1 s.2.2.2, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.1 s.1 s.2.1 s.2.2.1 s.2.2.2, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.2.1 s.1 s.2.1 s.2.2.1 s.2.2.2)

/-- The contents before trip `k` of the inner loop, from those at its entry. -/
def st2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G : BufTy.Contents (Elt F) arg10.view.ty × BufTy.Contents (Elt F) arg11.view.ty × BufTy.Contents (Elt F) arg12.view.ty × BufTy.Contents (Elt F) arg14.view.ty) : ℕ → BufTy.Contents (Elt F) arg10.view.ty × BufTy.Contents (Elt F) arg11.view.ty × BufTy.Contents (Elt F) arg12.view.ty × BufTy.Contents (Elt F) arg14.view.ty
  | 0 => G
  | k + 1 => if h : k < (k0_t2_loop v47 k0_t1).trips then next2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 ⟨k, h⟩ (st2 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G k) else st2 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G k

theorem st2_succ (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G : BufTy.Contents (Elt F) arg10.view.ty × BufTy.Contents (Elt F) arg11.view.ty × BufTy.Contents (Elt F) arg12.view.ty × BufTy.Contents (Elt F) arg14.view.ty) (k : Fin (k0_t2_loop v47 k0_t1).trips) :
    st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G (k.val + 1) = next2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G k.val) := by
  rw [st2, dif_pos k.isLt]

/-- The invariant before trip `k` of the inner loop. -/
abbrev inv2 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G_arg10 : BufTy.Contents (Elt F) arg10.view.ty) (G_arg11 : BufTy.Contents (Elt F) arg11.view.ty) (G_arg12 : BufTy.Contents (Elt F) arg12.view.ty) (G_arg14 : BufTy.Contents (Elt F) arg14.view.ty) (k : ℕ) (acc : BitVec 32) : sProp 𝕄G :=
  iprop((arg4.view.loc (c : Thread nD τ) ↦[arg4.view.set]{fullShare} X_arg4) ∗ (arg9.view.loc (c : Thread nD τ) ↦[arg9.view.set]{fullShare} X_arg9) ∗ (arg13.view.loc (c : Thread nD τ) ↦[arg13.view.set]{fullShare} X_arg13) ∗ (∃ f, (arg10.view.loc (c : Thread nD τ) ↦[arg10.view.set]{fullShare} f) ∗ ⌜f = Nat.casesOn (motive := fun _ => BufTy.Contents (Elt F) arg10.view.ty) k G_arg10 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).1)⌝) ∗ (∃ f, (arg11.view.loc (c : Thread nD τ) ↦[arg11.view.set]{fullShare} f) ∗ ⌜f = Nat.casesOn (motive := fun _ => BufTy.Contents (Elt F) arg11.view.ty) k G_arg11 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).2.1)⌝) ∗ (∃ f, (arg12.view.loc (c : Thread nD τ) ↦[arg12.view.set]{fullShare} f) ∗ ⌜f = Nat.casesOn (motive := fun _ => BufTy.Contents (Elt F) arg12.view.ty) k G_arg12 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).2.2.1)⌝) ∗ (∃ f, (arg14.view.loc (c : Thread nD τ) ↦[arg14.view.set]{fullShare} f) ∗ ⌜f = Nat.casesOn (motive := fun _ => BufTy.Contents (Elt F) arg14.view.ty) k G_arg14 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) (n + 1)).2.2.2)⌝))

set_option warn.classDefReducibility false in
/-- The inner loop by its invariant. -/
@[sl_loop] def loopInv2 (𝒱 : Variants) (c : Dev nD) (bd : Option 𝒱.V) (E : Set ℕ) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (G_arg10 : BufTy.Contents (Elt F) arg10.view.ty) (G_arg11 : BufTy.Contents (Elt F) arg11.view.ty) (G_arg12 : BufTy.Contents (Elt F) arg12.view.ty) (G_arg14 : BufTy.Contents (Elt F) arg14.view.ty) (init : BitVec 32) :
    Idealize.ShloMosaic.LoopInv (M := 𝕄G) Idealize.ShloMosaic.frame (wpE defs₀ 𝒱 (c : Thread nD τ) bd) E
      (k0_t2_loop v47 k0_t1).lb (k0_t2_loop v47 k0_t1).ub (k0_t2_loop v47 k0_t1).st (k0_t2_ok v47 k0_hw1 k0_t1) init (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485) where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 G_arg10 G_arg11 G_arg12 G_arg14
  step k acc := by
    iintro ⟨HR_arg4, HR_arg9, HR_arg13, ⟨%f_arg10, HW_arg10, %h_arg10⟩, ⟨%f_arg11, HW_arg11, %h_arg11⟩, ⟨%f_arg12, HW_arg12, %h_arg12⟩, ⟨%f_arg14, HW_arg14, %h_arg14⟩⟩
    rw [sel_eq (C := BufTy.Contents (Elt F) arg10.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).1) G_arg10 rfl] at h_arg10; rw [sel_eq (C := BufTy.Contents (Elt F) arg11.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).2.1) G_arg11 rfl] at h_arg11; rw [sel_eq (C := BufTy.Contents (Elt F) arg12.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).2.2.1) G_arg12 rfl] at h_arg12; rw [sel_eq (C := BufTy.Contents (Elt F) arg14.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (G_arg10, G_arg11, G_arg12, G_arg14) n).2.2.2) G_arg14 rfl] at h_arg14
    subst h_arg10; subst h_arg11; subst h_arg12; subst h_arg14
    iapply (wp_wand_r Idealize.ShloMosaic.frame (wpE (defs₀ (F := F)) 𝒱 (c : Thread nD τ) bd) E)
    isplitl [HR_arg4 HR_arg9 HR_arg13 HW_arg10 HW_arg11 HW_arg12 HW_arg14]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.2.2.down E acc _ _ _ _)
      isplitl [HR_arg4]; · iexact HR_arg4
      isplitl [HR_arg9]; · iexact HR_arg9
      isplitl [HR_arg13]; · iexact HR_arg13
      isplitl [HW_arg10]; · iexact HW_arg10
      isplitl [HW_arg11]; · iexact HW_arg11
      isplitl [HW_arg12]; · iexact HW_arg12
      iexact HW_arg14
    · iintro %yld ⟨HR_arg4, HR_arg9, HR_arg13, HW_arg10, HW_arg11, HW_arg12, HW_arg14⟩
      isplitl [HR_arg4]; · iexact HR_arg4
      isplitl [HR_arg9]; · iexact HR_arg9
      isplitl [HR_arg13]; · iexact HR_arg13
      isplitl [HW_arg10]
      · iexists _; isplitl [HW_arg10]; · iexact HW_arg10
        ipureintro; exact (congrArg (fun s => s.1) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm
      isplitl [HW_arg11]
      · iexists _; isplitl [HW_arg11]; · iexact HW_arg11
        ipureintro; exact (congrArg (fun s => s.2.1) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm
      isplitl [HW_arg12]
      · iexists _; isplitl [HW_arg12]; · iexact HW_arg12
        ipureintro; exact (congrArg (fun s => s.2.2.1) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm
      iexists _; isplitl [HW_arg14]; · iexact HW_arg14
      ipureintro; exact (congrArg (fun s => s.2.2.2) (st2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 _ k)).symm

end Cert.Kernel.Run
-- ==== Proof.BitsOuter.lean ====
/- The outer counted loop of the kernel, run by its invariant, through the inner loop's. -/
module

public import proofs.«01_k».proof.Proof.BitsInner
public import Idealize.ShloMosaic.Lib.LoopRemainder

@[expose] public section

set_option maxRecDepth 16384
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ
/-- What one trip of the outer loop holds: the buffers it reads, at their contents, and the buffers it
   writes, at any. -/
abbrev Trip1 (c : Dev nD) (arg4 : Memref sig .tc .vmem S1x8x40x128 .i32) (arg8 : Memref sig .tc .vmem S1x9x40x128 .f32) (arg9 : Memref sig .tc .vmem S3x256x128 .f32) (arg10 : Memref sig .tc .vmem S256x128 .f32) (arg11 : Memref sig .tc .vmem S256x128 .f32) (arg12 : Memref sig .tc .vmem S2x16x128 .f32) (arg13 : Memref sig .tc .vmem S32x128 .f32) (arg14 : Memref sig .tc .vmem S9x64x128 .f32) (X_arg4 : BufTy.Contents (Elt F) arg4.view.ty) (X_arg9 : BufTy.Contents (Elt F) arg9.view.ty) (f_arg8 : BufTy.Contents (Elt F) arg8.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄G :=
  iprop((arg4.view.loc (c : Thread nD τ) ↦[arg4.view.set]{fullShare} X_arg4) ∗ (arg9.view.loc (c : Thread nD τ) ↦[arg9.view.set]{fullShare} X_arg9) ∗ (arg8.view.loc (c : Thread nD τ) ↦[arg8.view.set]{fullShare} f_arg8) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- ONE TRIP of the outer loop, at a symbolic trip number: what it leaves in the buffers it writes, as
   functions of the contents it finds there, found by the run. -/
@[irreducible] def trip1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) :
    Σ' (N_arg8 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg8.view.ty) (N_arg10 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty) (N_arg11 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty) (N_arg12 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg12.view.ty) (N_arg13 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg13.view.ty) (N_arg14 : BufTy.Contents (Elt F) arg8.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty), PLift (∀ (E : Set ℕ) (acc : BitVec 32) (f_arg8 : BufTy.Contents (Elt F) arg8.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip1 (F := F) c arg4 arg8 arg9 arg10 arg11 arg12 arg13 arg14 X_arg4 X_arg9 f_arg8 f_arg10 f_arg11 f_arg12 f_arg13 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 k acc)
          (fun _ => iprop(Trip1 (F := F) c arg4 arg8 arg9 arg10 arg11 arg12 arg13 arg14 X_arg4 X_arg9 (N_arg8 f_arg8 f_arg10 f_arg11 f_arg12 f_arg13 f_arg14) (N_arg10 f_arg8 f_arg10 f_arg11 f_arg12 f_arg13 f_arg14) (N_arg11 f_arg8 f_arg10 f_arg11 f_arg12 f_arg13 f_arg14) (N_arg12 f_arg8 f_arg10 f_arg11 f_arg12 f_arg13 f_arg14) (N_arg13 f_arg8 f_arg10 f_arg11 f_arg12 f_arg13 f_arg14) (N_arg14 f_arg8 f_arg10 f_arg11 f_arg12 f_arg13 f_arg14)))) := by
  refine ⟨?_, ?_, ?_, ?_, ?_, ?_, ⟨fun E acc f_arg8 f_arg10 f_arg11 f_arg12 f_arg13 f_arg14 => ?run⟩⟩
  case run =>
    unfold k0_t1_body
    iintro ⟨HR_arg4, HR_arg9, HW_arg8, HW_arg10, HW_arg11, HW_arg12, HW_arg13, HW_arg14⟩
    sl_exec
    sl_step
    sl_close

/-- The contents one trip of the outer loop leaves, from those it finds. -/
def next1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (s : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty) : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty :=
  ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.2.1 s.1 s.2.1 s.2.2.1 s.2.2.2.1 s.2.2.2.2.1 s.2.2.2.2.2, (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.2.2.1 s.1 s.2.1 s.2.2.1 s.2.2.2.1 s.2.2.2.2.1 s.2.2.2.2.2)

/-- The contents before trip `k` of the outer loop, from those at its entry. -/
def st1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty) : ℕ → BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty
  | 0 => G
  | k + 1 => if h : k < (k0_t1_loop v47).trips then next1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 ⟨k, h⟩ (st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G k) else st1 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G k

theorem st1_succ (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G : BufTy.Contents (Elt F) arg8.view.ty × BufTy.Contents (Elt F) arg10.view.ty × BufTy.Contents (Elt F) arg11.view.ty × BufTy.Contents (Elt F) arg12.view.ty × BufTy.Contents (Elt F) arg13.view.ty × BufTy.Contents (Elt F) arg14.view.ty) (k : Fin (k0_t1_loop v47).trips) :
    st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G (k.val + 1) = next1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G k.val) := by
  rw [st1, dif_pos k.isLt]

/-- The invariant before trip `k` of the outer loop. -/
abbrev inv1 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G_arg8 : BufTy.Contents (Elt F) arg8.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (acc : BitVec 32) : sProp 𝕄G :=
  iprop((arg4.view.loc (c : Thread nD τ) ↦[arg4.view.set]{fullShare} X_arg4) ∗ (arg9.view.loc (c : Thread nD τ) ↦[arg9.view.set]{fullShare} X_arg9) ∗ (∃ f, (arg8.view.loc (c : Thread nD τ) ↦[arg8.view.set]{fullShare} f) ∗ ⌜f = Nat.casesOn (motive := fun _ => BufTy.Contents (Elt F) arg8.view.ty) k G_arg8 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).1)⌝) ∗ (∃ f, (arg10.view.loc (c : Thread nD τ) ↦[arg10.view.set]{fullShare} f) ∗ ⌜f = Nat.casesOn (motive := fun _ => BufTy.Contents (Elt F) arg10.view.ty) k G_arg10 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.1)⌝) ∗ (∃ f, (arg11.view.loc (c : Thread nD τ) ↦[arg11.view.set]{fullShare} f) ∗ ⌜f = Nat.casesOn (motive := fun _ => BufTy.Contents (Elt F) arg11.view.ty) k G_arg11 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.1)⌝) ∗ (∃ f, (arg12.view.loc (c : Thread nD τ) ↦[arg12.view.set]{fullShare} f) ∗ ⌜f = Nat.casesOn (motive := fun _ => BufTy.Contents (Elt F) arg12.view.ty) k G_arg12 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.2.1)⌝) ∗ (∃ f, (arg13.view.loc (c : Thread nD τ) ↦[arg13.view.set]{fullShare} f) ∗ ⌜f = Nat.casesOn (motive := fun _ => BufTy.Contents (Elt F) arg13.view.ty) k G_arg13 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.2.2.1)⌝) ∗ (∃ f, (arg14.view.loc (c : Thread nD τ) ↦[arg14.view.set]{fullShare} f) ∗ ⌜f = Nat.casesOn (motive := fun _ => BufTy.Contents (Elt F) arg14.view.ty) k G_arg14 (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) (n + 1)).2.2.2.2.2)⌝))

set_option warn.classDefReducibility false in
/-- The outer loop by its invariant. -/
@[sl_loop] def loopInv1 (𝒱 : Variants) (c : Dev nD) (bd : Option 𝒱.V) (E : Set ℕ) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (G_arg8 : BufTy.Contents (Elt F) arg8.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (init : BitVec 32) :
    Idealize.ShloMosaic.LoopInv (M := 𝕄G) Idealize.ShloMosaic.frame (wpE defs₀ 𝒱 (c : Thread nD τ) bd) E
      (k0_t1_loop v47).lb (k0_t1_loop v47).ub (k0_t1_loop v47).st (k0_t1_ok v47 k0_hw1) init (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433) where
  inv := inv1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G_arg8 G_arg10 G_arg11 G_arg12 G_arg13 G_arg14
  step k acc := by
    iintro ⟨HR_arg4, HR_arg9, ⟨%f_arg8, HW_arg8, %h_arg8⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩⟩
    rw [sel_eq (C := BufTy.Contents (Elt F) arg8.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).1) G_arg8 rfl] at h_arg8; rw [sel_eq (C := BufTy.Contents (Elt F) arg10.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.1) G_arg10 rfl] at h_arg10; rw [sel_eq (C := BufTy.Contents (Elt F) arg11.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.1) G_arg11 rfl] at h_arg11; rw [sel_eq (C := BufTy.Contents (Elt F) arg12.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.2.1) G_arg12 rfl] at h_arg12; rw [sel_eq (C := BufTy.Contents (Elt F) arg13.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.2.2.1) G_arg13 rfl] at h_arg13; rw [sel_eq (C := BufTy.Contents (Elt F) arg14.view.ty) (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 (G_arg8, G_arg10, G_arg11, G_arg12, G_arg13, G_arg14) n).2.2.2.2.2) G_arg14 rfl] at h_arg14
    subst h_arg8; subst h_arg10; subst h_arg11; subst h_arg12; subst h_arg13; subst h_arg14
    iapply (wp_wand_r Idealize.ShloMosaic.frame (wpE (defs₀ (F := F)) 𝒱 (c : Thread nD τ) bd) E)
    isplitl [HR_arg4 HR_arg9 HW_arg8 HW_arg10 HW_arg11 HW_arg12 HW_arg13 HW_arg14]
    · iapply ((trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.2.2.2.2.down E acc _ _ _ _ _ _)
      isplitl [HR_arg4]; · iexact HR_arg4
      isplitl [HR_arg9]; · iexact HR_arg9
      isplitl [HW_arg8]; · iexact HW_arg8
      isplitl [HW_arg10]; · iexact HW_arg10
      isplitl [HW_arg11]; · iexact HW_arg11
      isplitl [HW_arg12]; · iexact HW_arg12
      isplitl [HW_arg13]; · iexact HW_arg13
      iexact HW_arg14
    · iintro %yld ⟨HR_arg4, HR_arg9, HW_arg8, HW_arg10, HW_arg11, HW_arg12, HW_arg13, HW_arg14⟩
      isplitl [HR_arg4]; · iexact HR_arg4
      isplitl [HR_arg9]; · iexact HR_arg9
      isplitl [HW_arg8]
      · iexists _; isplitl [HW_arg8]; · iexact HW_arg8
        ipureintro; exact (congrArg (fun s => s.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg10]
      · iexists _; isplitl [HW_arg10]; · iexact HW_arg10
        ipureintro; exact (congrArg (fun s => s.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg11]
      · iexists _; isplitl [HW_arg11]; · iexact HW_arg11
        ipureintro; exact (congrArg (fun s => s.2.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg12]
      · iexists _; isplitl [HW_arg12]; · iexact HW_arg12
        ipureintro; exact (congrArg (fun s => s.2.2.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      isplitl [HW_arg13]
      · iexists _; isplitl [HW_arg13]; · iexact HW_arg13
        ipureintro; exact (congrArg (fun s => s.2.2.2.2.1) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm
      iexists _; isplitl [HW_arg14]; · iexact HW_arg14
      ipureintro; exact (congrArg (fun s => s.2.2.2.2.2) (st1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 _ k)).symm

end Cert.Kernel.Run
-- ==== Proof.BitsRun.lean ====
/- The kernel's body on any staging buffers, run once: through its prologue, the check of the entry count it reads, and
   the outer loop by its invariant. -/
module

public import proofs.«01_k».proof.Proof.BitsOuter
public import Idealize.ShloMosaic.Lib.LoopRemainder

@[expose] public section

set_option maxRecDepth 16384
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ

/-- What the body leaves in the output block, from what the buffers it writes held, found by the run: the inputs are handed
   back as they were, the scratch buffers at some contents. The entry counts must satisfy the side condition the body assumes. -/
@[irreducible] def body (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (hchk : ∀ h, k0_chk1 (arg1.view.readAt (Elt F) (Rect.unit (s := S720) (k0_off1 i) S1.size (k0_off1_inb i)).toLoadRect X_arg1 (Shape.Idx.first h))) :
    Σ' (N : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg8.view.ty), PLift (∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (K : PUnit → sProp 𝕄G),
      iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} (N f_arg8 f_arg9 f_arg10 f_arg11 f_arg12 f_arg13 f_arg14)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K ⟨⟩))
      ⊢ wp frame (wpE (defs₀ (F := F)) 𝒱 (c : Thread nD τ) bd) E (cc0_raster (F := F) i arg1 harg1 arg2 harg2 arg3 harg3 arg4 harg4 arg5 harg5 arg6 harg6 arg7 harg7 arg8 harg8 arg9 harg9 arg10 harg10 arg11 harg11 arg12 harg12 arg13 harg13 arg14 harg14) K) := by
  refine ⟨?_, ⟨fun E f_arg8 f_arg9 f_arg10 f_arg11 f_arg12 f_arg13 f_arg14 K => ?run⟩⟩
  case run =>
    iintro ⟨Harg1, Harg2, Harg3, Harg4, Harg5, Harg6, Harg7, Harg8, Harg9, Harg10, Harg11, Harg12, Harg13, Harg14, Hk⟩
    sl_unfold [cc0_raster]
    sl_exec (disch := exact hchk _)
    sl_step
    iapply Hk
    isplitl [Harg1]; · iexact Harg1
    isplitl [Harg2]; · iexact Harg2
    isplitl [Harg3]; · iexact Harg3
    isplitl [Harg4]; · iexact Harg4
    isplitl [Harg5]; · iexact Harg5
    isplitl [Harg6]; · iexact Harg6
    isplitl [Harg7]; · iexact Harg7
    isplitl [Harg8]; · iexact Harg8
    isplitl [Harg9]; · iexists _; iexact Harg9
    isplitl [Harg10]; · iexists _; iexact Harg10
    isplitl [Harg11]; · iexists _; iexact Harg11
    isplitl [Harg12]; · iexists _; iexact Harg12
    isplitl [Harg13]; · iexists _; iexact Harg13
    iexists _; iexact Harg14

end Cert.Kernel.Run
-- ==== Proof.BitsData.lean ====
/- The proof data of the kernel's pipeline and its run: the inputs stay as they were, and what the body leaves in the output
   block at a grid point is the body's function of the input blocks there and of what the written buffers held. -/
module

public import proofs.«01_k».proof.Proof.BitsRun
public import Idealize.ShloMosaic.Lib.Pipeline.Frame
public import Idealize.ShloMosaic.Lib.Pipeline.DatRel
public import Idealize.ShloMosaic.Lib.Pipeline.ArrRel

@[expose] public section

set_option maxRecDepth 16384
set_option maxHeartbeats 4000000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

/-- The resource algebra of the proof. -/
local notation "𝕄G" => MT nD τ sig Unit (Elt F) ℕ (UR sig nD τ) ℕ

variable (m : (ℓ : Loc nD τ sig) → Buf (Elt F) ℓ) (ρ : Dev nD → PrngReg)

/-- The proof's variants: none. -/
abbrev 𝒱₀ : Variants := Variants.none

/-- Window 0's staging memref at a point, and its wholeness. -/
abbrev ms0 (t : Fin cfg0.N) : Memref sig .tc .smem S720 .i32 := win0_0.stage (cfg0.slots t 0)
theorem hs0 (t : Fin cfg0.N) : (ms0 t).IsWhole := hstage0_0 _
/-- Window 1's staging memref at a point, and its wholeness. -/
abbrev ms1 (t : Fin cfg0.N) : Memref sig .tc .smem S9x3 .f32 := win0_1.stage (cfg0.slots t 1)
theorem hs1 (t : Fin cfg0.N) : (ms1 t).IsWhole := hstage0_1 _
/-- Window 2's staging memref at a point, and its wholeness. -/
abbrev ms2 (t : Fin cfg0.N) : Memref sig .tc .smem S9 .f32 := win0_2.stage (cfg0.slots t 2)
theorem hs2 (t : Fin cfg0.N) : (ms2 t).IsWhole := hstage0_2 _
/-- Window 3's staging memref at a point, and its wholeness. -/
abbrev ms3 (t : Fin cfg0.N) : Memref sig .tc .vmem S1x8x40x128 .i32 := win0_3.stage (cfg0.slots t 3)
theorem hs3 (t : Fin cfg0.N) : (ms3 t).IsWhole := hstage0_3 _
/-- Window 4's staging memref at a point, and its wholeness. -/
abbrev ms4 (t : Fin cfg0.N) : Memref sig .tc .vmem S1x2x128 .f32 := win0_4.stage (cfg0.slots t 4)
theorem hs4 (t : Fin cfg0.N) : (ms4 t).IsWhole := hstage0_4 _
/-- Window 5's staging memref at a point, and its wholeness. -/
abbrev ms5 (t : Fin cfg0.N) : Memref sig .tc .vmem S1x3x64x128 .i32 := win0_5.stage (cfg0.slots t 5)
theorem hs5 (t : Fin cfg0.N) : (ms5 t).IsWhole := hstage0_5 _
/-- Window 6's staging memref at a point, and its wholeness. -/
abbrev ms6 (t : Fin cfg0.N) : Memref sig .tc .vmem S1x256x128 .i32 := win0_6.stage (cfg0.slots t 6)
theorem hs6 (t : Fin cfg0.N) : (ms6 t).IsWhole := hstage0_6 _
/-- Window 7's staging memref at a point, and its wholeness. -/
abbrev ms7 (t : Fin cfg0.N) : Memref sig .tc .vmem S1x9x40x128 .f32 := win0_7.stage (cfg0.slots t 7)
theorem hs7 (t : Fin cfg0.N) : (ms7 t).IsWhole := hstage0_7 _
/-- Scratch buffer 0, whole. -/
abbrev sc0 : Memref sig .tc .vmem S3x256x128 .f32 := Memref.whole cc0_scratch0
/-- Scratch buffer 1, whole. -/
abbrev sc1 : Memref sig .tc .vmem S256x128 .f32 := Memref.whole cc0_scratch1
/-- Scratch buffer 2, whole. -/
abbrev sc2 : Memref sig .tc .vmem S256x128 .f32 := Memref.whole cc0_scratch2
/-- Scratch buffer 3, whole. -/
abbrev sc3 : Memref sig .tc .vmem S2x16x128 .f32 := Memref.whole cc0_scratch3
/-- Scratch buffer 4, whole. -/
abbrev sc4 : Memref sig .tc .vmem S32x128 .f32 := Memref.whole cc0_scratch4
/-- Scratch buffer 5, whole. -/
abbrev sc5 : Memref sig .tc .vmem S9x64x128 .f32 := Memref.whole cc0_scratch5

/-- The side condition at every entry count the body loads. -/
def Counts : Prop := ∀ (c : Dev nD) (t : Fin cfg0.N) (j : S720.Idx), (j 0).val = k0_off1 (grid0.coords t) 0 → k0_chk1 (iblk m c 0 t j)

variable {m} in
theorem Counts.at (h : Counts m) (c : Dev nD) (t : Fin cfg0.N) : ∀ h, k0_chk1 ((ms0 t).view.readAt (Elt F)
    (Rect.unit (s := S720) (k0_off1 (grid0.coords t)) S1.size (k0_off1_inb (grid0.coords t))).toLoadRect ((hs0 t).unread (iblk m c 0 t)) (Shape.Idx.first h)) := by
  intro hp
  change k0_chk1 ((ms0 t).view.read (Elt F) ((hs0 t).unread (iblk m c 0 t)) _)
  rw [(hs0 t).read_unread]
  exact h c t _ (by simp [Rect.toLoadRect, Rect.unit, Shape.Idx.first])

/-- The body at a point. -/
def bodyAt (hC : Counts m) (c : Dev nD) (t : Fin cfg0.N) :=
  body (F := F) 𝒱₀ c none (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _) ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) (hC.at c t)

/-- What the body may leave in the output block at point `t`. -/
def Left (hC : Counts m) (c : Dev nD) (t : Fin cfg0.N) (Y : Vec F S1x9x40x128 .f32) : Prop :=
  ∃ f0 : BufTy.Contents (Elt F) (ms7 t).view.ty, ∃ f1 : BufTy.Contents (Elt F) sc0.view.ty, ∃ f2 : BufTy.Contents (Elt F) sc1.view.ty, ∃ f3 : BufTy.Contents (Elt F) sc2.view.ty, ∃ f4 : BufTy.Contents (Elt F) sc3.view.ty, ∃ f5 : BufTy.Contents (Elt F) sc4.view.ty, ∃ f6 : BufTy.Contents (Elt F) sc5.view.ty,
    Y = (ms7 t).view.read (Elt F) ((bodyAt m hC c t).1 f0 f1 f2 f3 f4 f5 f6)

/-- Only the output is held to a relation. -/
def fgt : Fin cfg0.W → Bool := fun w => decide (w = 7)

/-- The relation a window is held to. -/
def Rl (hC : Counts m) (c : Dev nD) : (w : Fin cfg0.W) → Fin cfg0.N → ((cfg0.win w).block.Idx → Elt F (cfg0.win w).elt) → Prop
  | ⟨7, _⟩ => fun t Y => Left m hC c t Y
  | _ => fun _ _ => True

variable [∀ e, Nonempty (Elt F e)]

/-- The proof data: the arrays as launched, the input blocks left in place. -/
def dats (_ : Fin 1) (c : Dev nD) : Dat τ (Elt F) Unit ℕ (UR sig nD τ) ℕ cfg0 c where
  A w := V m c (Pipeline.arrRef spec0 w)
  after w t := match w with
    | ⟨7, _⟩ => Pipeline.Dat.unnamed (cfg := cfg0) 7 t
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) : (Pipeline.ΦA spec0 c : sProp 𝕄G)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA
  rw [scopedRest0_eq]; simp only [owns_whole]; try rfl

/-- What the body is called with at point `t`, and what it returns. -/
def bodyPre (hC : Counts m) (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d))
    ∗ (∃ Y, ⌜((dats m 0 c).toRRel fgt (Rl m hC c)).Finds 7 t Y⌝ ∗ owns (c : Thread nD τ) (ms7 t) fullShare Y))
def bodyPost (hC : Counts m) (c : Dev nD) (t : Fin cfg0.N) : sProp 𝕄G :=
  iprop((dats m 0 c).Φ t.succ ∗ (dats m 0 c).owesAt () t.succ
    ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t)
    ∗ (∃ X, ⌜Left m hC c t X⌝ ∗ owns (c : Thread nD τ) (ms7 t) fullShare X))

theorem sound_body (hC : Counts m) (c : Dev nD) (t : Fin cfg0.N) :
    bodyPre m hC c t ⊢ wp frame (wpE (defs₀ (F := F)) 𝒱₀ c none) Set.univ (bodyAt0 t) (fun _ => bodyPost m hC c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  unfold owns
  iintro ⟨⟨⟨⟨%d0, %g0, -, S0⟩, ⟨%d1, %g1, -, S1⟩, ⟨%d2, %g2, -, S2⟩, ⟨%d3, %g3, -, S3⟩, ⟨%d4, %g4, -, S4⟩, ⟨%d5, %g5, -, S5⟩⟩, Hg⟩, HO, ⟨%_e0, %x0, %hx0, H0⟩, ⟨%_e1, %x1, %hx1, H1⟩, ⟨%_e2, %x2, %hx2, H2⟩, ⟨%_e3, %x3, %hx3, H3⟩, ⟨%_e4, %x4, %hx4, H4⟩, ⟨%_e5, %x5, %hx5, H5⟩, ⟨%_e6, %x6, %hx6, H6⟩, ⟨%Y, -, %y, -, H7⟩⟩
  obtain rfl := (hs0 t).eq_unread hx0
  obtain rfl := (hs1 t).eq_unread hx1
  obtain rfl := (hs2 t).eq_unread hx2
  obtain rfl := (hs3 t).eq_unread hx3
  obtain rfl := (hs4 t).eq_unread hx4
  obtain rfl := (hs5 t).eq_unread hx5
  obtain rfl := (hs6 t).eq_unread hx6
  iapply ((bodyAt m hC c t).2.down Set.univ y g0 g1 g2 g3 g4 g5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, ⟨%s0, S0⟩, ⟨%s1, S1⟩, ⟨%s2, S2⟩, ⟨%s3, S3⟩, ⟨%s4, S4⟩, ⟨%s5, S5⟩⟩
  isplitl [S0 S1 S2 S3 S4 S5 Hg]
  · isplitl [S0 S1 S2 S3 S4 S5]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      isplitl [S4]
      · iexists _, _; isplitr; swap; · iexact S4
        ipureintro; rfl
      iexists _, _; isplitr; swap; · iexact S5
      ipureintro; rfl
    · iexact Hg
  isplitl [HO]; · iexact HO
  isplitl [H0]
  · iexists _; isplitr; · ipureintro; exact (hs0 t).read_unread _
    iexact H0
  isplitl [H1]
  · iexists _; isplitr; · ipureintro; exact (hs1 t).read_unread _
    iexact H1
  isplitl [H2]
  · iexists _; isplitr; · ipureintro; exact (hs2 t).read_unread _
    iexact H2
  isplitl [H3]
  · iexists _; isplitr; · ipureintro; exact (hs3 t).read_unread _
    iexact H3
  isplitl [H4]
  · iexists _; isplitr; · ipureintro; exact (hs4 t).read_unread _
    iexact H4
  isplitl [H5]
  · iexists _; isplitr; · ipureintro; exact (hs5 t).read_unread _
    iexact H5
  isplitl [H6]
  · iexists _; isplitr; · ipureintro; exact (hs6 t).read_unread _
    iexact H6
  iexists _; isplitr; · ipureintro; exact ⟨y, g0, g1, g2, g3, g4, g5, rfl⟩
  iexists _; isplitr; swap; · iexact H7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (hC : Counts m) (c : Dev nD) :
    Pipeline.BodyObligationRel (dats (F := F) m 0 c) (defs₀ (F := F)) 𝒱₀ () Set.univ fgt (Rl m hC c) := fun t => by
  rw [bigSep_W0, bigSep_W0, defs₀_row]
  exact triple_restated (sound_body m hC c t) rfl .rfl fun _ => .rfl

/-- The proof data read relationally. -/
def rdat (hC : Counts m) (c : Dev nD) := (dats (F := F) m 0 c).toRRel fgt (Rl m hC c)

set_option backward.isDefEq.respectTransparency.types false in
/-- The run: every argument array ends as launched, the output's array holds blocks that the body may leave, and every
   semaphore is at zero. -/
theorem run_main (hC : Counts m) :
    θ_run defs (onTc (τ := τ) (main (F := F))) (s₀ m ρ)
      (fun r => Pipeline.RDat.FramePost (cfgs 0) (rdat m hC) (V m) r ∧ r.2.sem = fun _ => 0) :=
  Pipeline.RDat.θ_run_frame_track (Q' := fun r => Pipeline.RDat.FramePost (cfgs 0) (rdat m hC) (V m) r ∧ r.2.sem = fun _ => 0) cfgs (0 : Fin 1) launch0 defs₀ 𝒱₀ (rdat m hC) m ρ main
    (hbody := fun c => (body_obligation m hC c).toRRel)
    (hshare := fun c => (dats m 0 c).share_full fun _ => rfl)
    (howed := fun _ _ => rfl) (V := V m) (hmain := hmain m 𝒱₀) (hA := A_eq m)
    (hin := fun _ => .rfl) (hout := fun _ => .rfl) (hQ' := fun _ h => h)

end Cert.Kernel.Run
-- ==== Proof.BitsCount.lean ====
/- The entry counts: a precondition on the counts array gives the side condition that the kernel's body assumes of the
   one count it loads. -/
module

public import proofs.«01_k».proof.Proof.BitsData
public import Idealize.ShloMosaic.Lib.Pipeline.Value
public import Idealize.ShloMosaic.Lib.ValueIdx

@[expose] public section

set_option maxRecDepth 16384

noncomputable section

namespace Cert.Kernel.Run

open Cert.Kernel Cert.Kernel.Gen
open Idealize.ShloMosaic Idealize.ShloMosaic.TcCoe Idealize.SL Idealize.SL.Sem

variable {F : FTy → Type} [FloatOps F]

/-- Every count up to forty satisfies the body's side condition. -/
theorem chk_of_fin : ∀ n : Fin 41, k0_chk1 (BitVec.ofNat 32 n.val) := by decide +kernel

theorem chk_of_le (v : BitVec 32) (h : v.toNat ≤ 40) : k0_chk1 v := by
  have e := chk_of_fin ⟨v.toNat, by omega⟩
  simpa using e

/-- The place of the count that a grid point loads. -/
theorem off1_eq : ∀ t : Fin cfg0.N, k0_off1 (grid0.coords t) 0 = t.val / 15 * 16 + t.val % 15 := by decide +kernel

/-- Every count of the first fifteen columns of the 45 rows of sixteen is at most forty. -/
def Fits (k : IVec S720 32) : Prop := ∀ j : S720.Idx, (j 0).val % 16 < 15 → (k j).toNat ≤ 40

theorem iblk0_apply (m : (ℓ : Loc nD τ sig) → Buf (Elt F) ℓ) (c : Dev nD) (t : Fin cfg0.N) (j : S720.Idx) :
    iblk m c 0 t j = m ((c : Thread nD τ).loc main_arg0) j := by
  unfold iblk
  rw [View.read_apply]
  refine congrArg (m ((c : Thread nD τ).loc main_arg0)) (funext fun a => Fin.ext ?_)
  fin_cases a
  show 0 * 720 + 1 * (j 0).val = (j 0).val
  omega

theorem counts_of_fits (m : (ℓ : Loc nD τ sig) → Buf (Elt F) ℓ)
    (h : ∀ c : Dev nD, Fits (m ((c : Thread nD τ).loc main_arg0))) : Counts m := by
  intro c t j hj
  rw [iblk0_apply]
  refine chk_of_le _ (h c j ?_)
  rw [hj, off1_eq]
  omega

/-- The arguments' arrays end as they were launched. -/
theorem unchanged [∀ e, Nonempty (Elt F e)] (m : (ℓ : Loc nD τ sig) → Buf (Elt F) ℓ) (hC : Counts m)
    (r : PUnit × MemSt nD τ sig (Elt F)) (h : Pipeline.RDat.FramePost (cfgs 0) (rdat m hC) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c), (h.arr_in c 1 rfl).trans (V_main_arg1 m c),
    (h.arr_in c 2 rfl).trans (V_main_arg2 m c), (h.arr_in c 3 rfl).trans (V_main_arg3 m c),
    (h.arr_in c 4 rfl).trans (V_main_arg4 m c), (h.arr_in c 5 rfl).trans (V_main_arg5 m c),
    (h.arr_in c 6 rfl).trans (V_main_arg6 m c)⟩

/-- The kernel runs, leaves its arguments as they were, and every semaphore ends at zero. -/
theorem frame_run [∀ e, Nonempty (Elt F e)] (m : (ℓ : Loc nD τ sig) → Buf (Elt F) ℓ) (ρ : Dev nD → PrngReg) (hC : Counts m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => unchanged m hC r h.1 c, h.2⟩) (run_main m ρ hC)

end Cert.Kernel.Run
-- ==== Proof.Fits.lean ====
/- The preconditions read: the counts array's words are at most forty where a group loads them. -/
module

public import proofs.«01_k».proof.Defs
public import proofs.«01_k».proof.Proof.Count
public import proofs.«01_k».proof.Proof.BitsCount
public import proofs.«01_k».proof.Proof.Gen.Pre_counts_fit
public import Idealize.ShloMosaic.Lib.Pipeline.Value
public import Idealize.ShloMosaic.Lib.ValueIdx

@[expose] public section

set_option maxRecDepth 16384

noncomputable section

namespace Cert.Proof

open Idealize.ShloMosaic Idealize.ShloMosaic.ValueIdx Idealize.SL.Sem

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A count between zero and forty, as the predicates spell it, is at most forty as a natural number. -/
theorem le_of_words (v : BitVec 32) (h : IntOp.andi (IntOp.cmpi .sge v 0#32) (IntOp.cmpi .sle v 40#32) = 1#1) : v.toNat ≤ 40 := by
  simp only [IntOp.cmpi, andi_ofBool, ofBool_eq_one, Bool.and_eq_true] at h
  obtain ⟨hge, hle⟩ := h
  simp only [BitVec.sle, decide_eq_true_eq, BitVec.toInt, BitVec.toNat_ofNat] at hge hle
  have := v.isLt
  omega

/-- The column and row of a count that a group loads. -/
def cell (j : Cert.Pre_counts_fit.S720.Idx) (h : (j 0).val % 16 < 15) : Cert.Pre_counts_fit.S45x15.Idx :=
  ix2 ⟨(j 0).val / 16, by have : (j 0).val < 720 := (j 0).isLt; omega⟩ ⟨(j 0).val % 16, h⟩

theorem slice_at (hc : Cert.Pre_counts_fit.S720.ShapeCasts Cert.Pre_counts_fit.S45x16)
    (hs : Cert.Pre_counts_fit.S45x16.Slices ![0, 0] Cert.Pre_counts_fit.S45x15) (k : IVec Cert.Pre_counts_fit.S720 32)
    (j : Cert.Pre_counts_fit.S720.Idx) (h : (j 0).val % 16 < 15) :
    extractStridedSlice Cert.Pre_counts_fit.S45x15 ![0, 0] (shapeCast Cert.Pre_counts_fit.S45x16 k hc) hs (cell j h) = k j := by
  rw [extractStridedSlice_apply (k := (ix2 ⟨(j 0).val / 16, by have : (j 0).val < 720 := (j 0).isLt; omega⟩ ⟨(j 0).val % 16, by omega⟩ : Cert.Pre_counts_fit.S45x16.Idx))]
  · rw [shapeCast_apply (k := j)]
    rw [Shape.rowMajor_val_one, Shape.rowMajor_val_two]
    show (j 0).val = (j 0).val / 16 * 16 + (j 0).val % 16
    omega
  · intro a; fin_cases a <;> simp [cell]

theorem fits_of_pre {F : FTy → Type} [FloatOps F] [Cert.Pre_counts_fit.Facts] (k : IVec Cert.Pre_counts_fit.S720 32)
    (b g p o w f) (h : Cert.Pre_counts_fit.fn (F := F) k b g p o w f = (fun _ => 1#1)) :
    ∀ j : Cert.Pre_counts_fit.S720.Idx, (j 0).val % 16 < 15 → (k j).toNat ≤ 40 := by
  intro j hj
  have e := congrFun h (cell j hj)
  simp only [Pre_counts_fit.fn, andi, cmpi] at e
  rw [slice_at _ _ k j hj] at e
  exact le_of_words _ e

end Cert.Proof
-- ==== Proof.Model.lean ====
/- What one entry does to the buffers, block by block: the vector arithmetic of one trip of the inner loop,
   written once for a block, and the trip read as it. -/
module

public import proofs.«01_k».proof.Proof.Inner

@[expose] public section

set_option maxRecDepth 65536
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F]

/-- What an entry is composed of over the blocks of eight pixels: the opacity, the offsets down the rows and their
   square terms for the two halves, the colours, the offset from the middle, the column terms, and the block's
   gradient, transmittance and what lies behind. -/
structure Ld (F : FTy → Type) [FloatOps F] where
  op : FVec F S8x128 .f32
  dy : ℕ → FVec F S8x128 .f32
  cy : ℕ → FVec F S8x128 .f32
  c0 : FVec F S8x128 .f32
  c1 : FVec F S8x128 .f32
  c2 : FVec F S8x128 .f32
  hx : FVec F S8x128 .f32
  row : ℕ → ℕ → Vec F S1x1x128 .f32
  g : ℕ → ℕ → Vec F S1x8x128 .f32
  t : ℕ → Vec F S8x128 .f32
  r : ℕ → Vec F S8x128 .f32

namespace Ld

variable (L : Ld F)

/-- One everywhere. -/
def one : FVec F S8x128 .f32 := broadcast S8x128 (Scalar.ofBits .f32 0x3F800000#32)

/-- The gradient of a channel over a block. -/
def gv (c b : ℕ) : FVec F S8x128 .f32 := k0_pay32 (L.g c b)

/-- The entry's falloff over a block. -/
def vis (b : ℕ) : FVec F S8x128 .f32 :=
  exp (addf (addf (k0_pay27 (L.row 0 (b / 2))) (L.cy (b % 2))) (mulf (k0_pay28 (L.row 1 (b / 2))) (L.dy (b % 2))))

/-- The entry's opacity over a block. -/
def al (b : ℕ) : FVec F S8x128 .f32 := mulf L.op (L.vis b)

/-- One over what the entry lets through. -/
def inv (b : ℕ) : FVec F S8x128 .f32 := divf one (subf one (L.al b))

/-- The colour against the gradient. -/
def q (b : ℕ) : FVec F S8x128 .f32 :=
  addf (addf (mulf (L.gv 0 b) L.c0) (mulf (L.gv 1 b) L.c1)) (mulf (L.gv 2 b) L.c2)

/-- The transmittance in front of the entry. -/
def tn (b : ℕ) : FVec F S8x128 .f32 := mulf (L.t b) (L.inv b)

/-- The transmitted colour against the gradient. -/
def tq (b : ℕ) : FVec F S8x128 .f32 := mulf (L.tn b) (L.q b)

/-- What lies behind, the entry taken in. -/
def rn (b : ℕ) : FVec F S8x128 .f32 := addf (L.r b) (mulf (L.al b) (L.tq b))

/-- The entry's weight. -/
def w (b : ℕ) : FVec F S8x128 .f32 := mulf (L.al b) (L.tn b)

/-- The falloff against the opacity's derivative. -/
def u (b : ℕ) : FVec F S8x128 .f32 := mulf (L.vis b) (subf (L.tq b) (mulf (L.r b) (L.inv b)))

/-- The block taken in step `i` of the walk over the blocks. -/
def blk (i : ℕ) : ℕ := if i / 2 % 2 = 0 then 2 * (i / 4) + i % 2 else 2 * (15 - i / 4) + i % 2

/-- A channel's weighted gradient, summed over the first `i` blocks of the walk. -/
def d (c : ℕ) : ℕ → FVec F S8x128 .f32
  | 0 => k0_pay26
  | i + 1 => addf (d c i) (mulf (L.w (blk i)) (L.gv c (blk i)))

/-- The column of step `j` on a side. -/
def col (side j : ℕ) : ℕ := if side = 0 then j else 15 - j

/-- The sum over the first `j` columns of a side, in a half. -/
def b0 (h side : ℕ) : ℕ → FVec F S8x128 .f32
  | 0 => k0_pay26
  | j + 1 => addf (b0 h side j) (L.u (2 * col side j + h))

/-- The sum of those sums. -/
def b1 (h side : ℕ) : ℕ → FVec F S8x128 .f32
  | 0 => k0_pay26
  | j + 1 => addf (b1 h side j) (L.b0 h side (j + 1))

/-- The sum of those again. -/
def b2 (h side : ℕ) : ℕ → FVec F S8x128 .f32
  | 0 => k0_pay26
  | j + 1 => addf (b2 h side j) (L.b1 h side (j + 1))

/-- A half's sum. -/
def s0 (h : ℕ) : FVec F S8x128 .f32 := addf (L.b0 h 0 8) (L.b0 h 1 8)

/-- A half's first moment about the middle. -/
def s1 (h : ℕ) : FVec F S8x128 .f32 :=
  subf (subf (L.b1 h 1 8) (L.b1 h 0 8))
    (mulf (broadcast S8x128 (Scalar.ofBits .f32 0x3F000000#32)) (subf (L.b0 h 1 8) (L.b0 h 0 8)))

/-- A half's second moment about the middle. -/
def s2 (h : ℕ) : FVec F S8x128 .f32 :=
  addf (mulf (broadcast S8x128 (Scalar.ofBits .f32 0x40000000#32))
      (subf (addf (L.b2 h 0 8) (L.b2 h 1 8)) (addf (L.b1 h 0 8) (L.b1 h 1 8))))
    (mulf (broadcast S8x128 (Scalar.ofBits .f32 0x3E800000#32)) (L.s0 h))

/-- The first moment about the entry. -/
def m1 (h : ℕ) : FVec F S8x128 .f32 := subf (mulf L.hx (L.s0 h)) (L.s1 h)

/-- The second moment about the entry. -/
def m2 (h : ℕ) : FVec F S8x128 .f32 := addf (mulf L.hx (subf (L.m1 h) (L.s1 h))) (L.s2 h)

/-- The six moments of a half. -/
def mom (n h : ℕ) : FVec F S8x128 .f32 :=
  match n with
  | 0 => L.s0 h
  | 1 => L.m1 h
  | 2 => L.m2 h
  | 3 => mulf (L.s0 h) (L.dy h)
  | 4 => mulf (L.m1 h) (L.dy h)
  | _ => mulf (mulf (L.s0 h) (L.dy h)) (L.dy h)

/-- The nine sums an entry leaves. -/
def res (n : ℕ) : FVec F S8x128 .f32 :=
  match n with
  | 6 => L.d 0 32
  | 7 => L.d 1 32
  | 8 => L.d 2 32
  | n => addf (addf k0_pay26 (L.mom n 0)) (L.mom n 1)

end Ld

theorem inb_t (b : ℕ) (a : Fin 2) : ![8 * (b % 32), 0] a + S8x128.size a ≤ S256x128.size a := by
  have := Nat.mod_lt b (show 0 < 32 by decide)
  match a with
  | 0 => show 8 * (b % 32) + 8 ≤ 256; omega
  | 1 => show 0 + 128 ≤ 128; omega

theorem inb_g (c b : ℕ) (a : Fin 3) : ![c % 3, 8 * (b % 32), 0] a + S1x8x128.size a ≤ S3x256x128.size a := by
  have := Nat.mod_lt b (show 0 < 32 by decide)
  have := Nat.mod_lt c (show 0 < 3 by decide)
  match a with
  | 0 => show c % 3 + 1 ≤ 3; omega
  | 1 => show 8 * (b % 32) + 8 ≤ 256; omega
  | 2 => show 0 + 128 ≤ 128; omega

theorem inb_row (p x : ℕ) (a : Fin 3) : ![p % 2, x % 16, 0] a + S1x1x128.size a ≤ S2x16x128.size a := by
  have := Nat.mod_lt p (show 0 < 2 by decide)
  have := Nat.mod_lt x (show 0 < 16 by decide)
  match a with
  | 0 => show p % 2 + 1 ≤ 2; omega
  | 1 => show x % 16 + 1 ≤ 16; omega
  | 2 => show 0 + 128 ≤ 128; omega

/-- A row of the parameters, as read by a trip. -/
abbrev prow (arg4 : Memref sig .tc .vmem S1x8x40x128 .i32) (X_arg4 : BufTy.Contents (Elt F) arg4.view.ty)
    (o : Fin 4 → ℕ) (h : ∀ a, o a + S1x1x1x128.size a ≤ S1x8x40x128.size a) : FVec F S8x128 .f32 :=
  k0_pay3 (View.readAt (Elt F) arg4.view (Rect.unit (s := S1x8x40x128) o S1x1x1x128.size h).toLoadRect X_arg4)

/-- The column terms a trip leaves in the row buffer. -/
abbrev rowPieces (px0 px1 mx ca cb : FVec F S8x128 .f32) : List (View.Piece (Elt F) S2x16x128 .f32) :=
  [⟨Rect.unit ![1, 8, 0] S1x8x128.size inb_S2x16x128_S1x8x128_1_8_0, k0_pay20 px1 mx cb⟩,
   ⟨Rect.unit ![0, 8, 0] S1x8x128.size inb_S2x16x128_S1x8x128_0_8_0, k0_pay19 px1 mx ca⟩,
   ⟨Rect.unit ![1, 0, 0] S1x8x128.size inb_S2x16x128_S1x8x128_1_0_0, k0_pay18 px0 mx cb⟩,
   ⟨Rect.unit ![0, 0, 0] S1x8x128.size inb_S2x16x128_S1x8x128_0_0_0, k0_pay17 px0 mx ca⟩]

/-- What a trip composes its sums of. -/
def ld (arg4 : Memref sig .tc .vmem S1x8x40x128 .i32) (arg9 : Memref sig .tc .vmem S3x256x128 .f32)
    (arg10 : Memref sig .tc .vmem S256x128 .f32) (arg11 : Memref sig .tc .vmem S256x128 .f32)
    (arg12 : Memref sig .tc .vmem S2x16x128 .f32) (arg13 : Memref sig .tc .vmem S32x128 .f32)
    (v47 : Elt F .i32) (k0_hw1 : k0_chk1 v47) (v419 v423 v427 v431 : FVec F S8x128 .f32) (v433 : FVec F S1x128 .f32)
    (k0_t1 : Fin (k0_t1_loop v47).trips) (X_arg4 : BufTy.Contents (Elt F) arg4.view.ty)
    (X_arg9 : BufTy.Contents (Elt F) arg9.view.ty) (X_arg13 : BufTy.Contents (Elt F) arg13.view.ty)
    (k : Fin (k0_t2_loop v47 k0_t1).trips) (f_arg10 : BufTy.Contents (Elt F) arg10.view.ty)
    (f_arg11 : BufTy.Contents (Elt F) arg11.view.ty) : Ld F :=
  let mx := prow arg4 X_arg4 (k0_off7 v47 k0_t1 k) (k0_off7_inb v47 k0_hw1 k0_t1 k)
  let my := prow arg4 X_arg4 (k0_off8 v47 k0_t1 k) (k0_off8_inb v47 k0_hw1 k0_t1 k)
  let ca := prow arg4 X_arg4 (k0_off9 v47 k0_t1 k) (k0_off9_inb v47 k0_hw1 k0_t1 k)
  let cb := prow arg4 X_arg4 (k0_off10 v47 k0_t1 k) (k0_off10_inb v47 k0_hw1 k0_t1 k)
  let cc := prow arg4 X_arg4 (k0_off11 v47 k0_t1 k) (k0_off11_inb v47 k0_hw1 k0_t1 k)
  let sc := prow arg4 X_arg4 (k0_off13 v47 k0_t1 k) (k0_off13_inb v47 k0_hw1 k0_t1 k)
  { op := prow arg4 X_arg4 (k0_off12 v47 k0_t1 k) (k0_off12_inb v47 k0_hw1 k0_t1 k)
    dy := fun h => match h with
      | 0 => subf my v427
      | _ => subf my v431
    cy := fun h => match h with
      | 0 => k0_pay21 v427 my cc
      | _ => k0_pay22 v431 my cc
    c0 := k0_pay23 sc (View.readAt (Elt F) arg13.view (Rect.unit (s := S32x128) (k0_off14 v47 k0_t1 k 0#32) S1x128.size
      (k0_off14_inb v47 k0_hw1 k0_t1 k 0)).toLoadRect X_arg13)
    c1 := k0_pay23 sc (View.readAt (Elt F) arg13.view (Rect.unit (s := S32x128) (k0_off14 v47 k0_t1 k 1#32) S1x128.size
      (k0_off14_inb v47 k0_hw1 k0_t1 k 1)).toLoadRect X_arg13)
    c2 := k0_pay23 sc (View.readAt (Elt F) arg13.view (Rect.unit (s := S32x128) (k0_off14 v47 k0_t1 k 2#32) S1x128.size
      (k0_off14_inb v47 k0_hw1 k0_t1 k 2)).toLoadRect X_arg13)
    hx := subf mx (broadcastTo S8x128 v433 broadcasts_S1x128_S8x128)
    row := fun p x => arg12.view.readCov (rowPieces v419 v423 mx ca cb)
      (Rect.unit (s := S2x16x128) ![p % 2, x % 16, 0] S1x1x128.size (inb_row p x)).toLoadRect
    g := fun c b => View.readAt (Elt F) arg9.view
      (Rect.unit (s := S3x256x128) ![c % 3, 8 * (b % 32), 0] S1x8x128.size (inb_g c b)).toLoadRect X_arg9
    t := fun b => View.readAt (Elt F) arg10.view
      (Rect.unit (s := S256x128) ![8 * (b % 32), 0] S8x128.size (inb_t b)).toLoadRect f_arg10
    r := fun b => View.readAt (Elt F) arg11.view
      (Rect.unit (s := S256x128) ![8 * (b % 32), 0] S8x128.size (inb_t b)).toLoadRect f_arg11 }

/-- The blocks in the order they are written, the last first. -/
abbrev order : List ℕ := [17, 16, 15, 14, 19, 18, 13, 12, 21, 20, 11, 10, 23, 22, 9, 8, 25, 24, 7, 6, 27, 26, 5, 4, 29, 28, 3, 2, 31, 30, 1, 0]

/-- A value per block, as pieces of a buffer of all pixels. -/
def pieces (f : ℕ → FVec F S8x128 .f32) : List (View.Piece (Elt F) S256x128 .f32) :=
  order.map fun b => ⟨Rect.unit (s := S256x128) ![8 * (b % 32), 0] S8x128.size (inb_t b),
    shapeCast S8x128 (f b) shapeCasts_S8x128_S8x128⟩

/-- The transmittance a trip leaves. -/
theorem trip2_arg10 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) (f10 : BufTy.Contents (Elt F) arg10.view.ty) (f11 : BufTy.Contents (Elt F) arg11.view.ty) (f12 : BufTy.Contents (Elt F) arg12.view.ty) (f14 : BufTy.Contents (Elt F) arg14.view.ty) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).1 f10 f11 f12 f14 = arg10.view.writes (Elt F) f10 (pieces (ld arg4 arg9 arg10 arg11 arg12 arg13 v47 k0_hw1 v419 v423 v427 v431 v433 k0_t1 X_arg4 X_arg9 X_arg13 k f10 f11).tn) := by
  unfold trip2
  sl_kernel_rfl

/-- What lies behind, as a trip leaves it. -/
theorem trip2_arg11 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) (f10 : BufTy.Contents (Elt F) arg10.view.ty) (f11 : BufTy.Contents (Elt F) arg11.view.ty) (f12 : BufTy.Contents (Elt F) arg12.view.ty) (f14 : BufTy.Contents (Elt F) arg14.view.ty) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.1 f10 f11 f12 f14 = arg11.view.writes (Elt F) f11 (pieces (ld arg4 arg9 arg10 arg11 arg12 arg13 v47 k0_hw1 v419 v423 v427 v431 v433 k0_t1 X_arg4 X_arg9 X_arg13 k f10 f11).rn) := by
  unfold trip2
  sl_kernel_rfl

/-- The sums a trip leaves. -/
theorem trip2_arg14 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v419 : FVec F S8x128 .f32) (v423 : FVec F S8x128 .f32) (v427 : FVec F S8x128 .f32) (v431 : FVec F S8x128 .f32) (v433 : FVec F S1x128 .f32) (c0_i32_268 : BitVec 32) (c1_i32_271 : BitVec 32) (k0_t1 : Fin (k0_t1_loop v47).trips) (v483 : BitVec 32) (v485 : BitVec 32) (X_arg4 : BufTy.Contents (Elt F) arg4.view.ty) (X_arg9 : BufTy.Contents (Elt F) arg9.view.ty) (X_arg13 : BufTy.Contents (Elt F) arg13.view.ty) (k : Fin (k0_t2_loop v47 k0_t1).trips) (f10 : BufTy.Contents (Elt F) arg10.view.ty) (f11 : BufTy.Contents (Elt F) arg11.view.ty) (f12 : BufTy.Contents (Elt F) arg12.view.ty) (f14 : BufTy.Contents (Elt F) arg14.view.ty) :
    (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 k).2.2.2.1 f10 f11 f12 f14 = arg14.view.writes (Elt F) f14 [⟨Rect.unit (s := S9x64x128) (k0_off23 v47 k0_t1 k) S1x8x128.size (k0_off23_inb v47 k0_hw1 k0_t1 k), shapeCast S1x8x128 ((ld arg4 arg9 arg10 arg11 arg12 arg13 v47 k0_hw1 v419 v423 v427 v431 v433 k0_t1 X_arg4 X_arg9 X_arg13 k f10 f11).res 8) shapeCasts_S8x128_S1x8x128⟩, ⟨Rect.unit (s := S9x64x128) (k0_off22 v47 k0_t1 k) S1x8x128.size (k0_off22_inb v47 k0_hw1 k0_t1 k), shapeCast S1x8x128 ((ld arg4 arg9 arg10 arg11 arg12 arg13 v47 k0_hw1 v419 v423 v427 v431 v433 k0_t1 X_arg4 X_arg9 X_arg13 k f10 f11).res 7) shapeCasts_S8x128_S1x8x128⟩, ⟨Rect.unit (s := S9x64x128) (k0_off21 v47 k0_t1 k) S1x8x128.size (k0_off21_inb v47 k0_hw1 k0_t1 k), shapeCast S1x8x128 ((ld arg4 arg9 arg10 arg11 arg12 arg13 v47 k0_hw1 v419 v423 v427 v431 v433 k0_t1 X_arg4 X_arg9 X_arg13 k f10 f11).res 6) shapeCasts_S8x128_S1x8x128⟩, ⟨Rect.unit (s := S9x64x128) (k0_off20 v47 k0_t1 k) S1x8x128.size (k0_off20_inb v47 k0_hw1 k0_t1 k), shapeCast S1x8x128 ((ld arg4 arg9 arg10 arg11 arg12 arg13 v47 k0_hw1 v419 v423 v427 v431 v433 k0_t1 X_arg4 X_arg9 X_arg13 k f10 f11).res 5) shapeCasts_S8x128_S1x8x128⟩, ⟨Rect.unit (s := S9x64x128) (k0_off19 v47 k0_t1 k) S1x8x128.size (k0_off19_inb v47 k0_hw1 k0_t1 k), shapeCast S1x8x128 ((ld arg4 arg9 arg10 arg11 arg12 arg13 v47 k0_hw1 v419 v423 v427 v431 v433 k0_t1 X_arg4 X_arg9 X_arg13 k f10 f11).res 4) shapeCasts_S8x128_S1x8x128⟩, ⟨Rect.unit (s := S9x64x128) (k0_off18 v47 k0_t1 k) S1x8x128.size (k0_off18_inb v47 k0_hw1 k0_t1 k), shapeCast S1x8x128 ((ld arg4 arg9 arg10 arg11 arg12 arg13 v47 k0_hw1 v419 v423 v427 v431 v433 k0_t1 X_arg4 X_arg9 X_arg13 k f10 f11).res 3) shapeCasts_S8x128_S1x8x128⟩, ⟨Rect.unit (s := S9x64x128) (k0_off17 v47 k0_t1 k) S1x8x128.size (k0_off17_inb v47 k0_hw1 k0_t1 k), shapeCast S1x8x128 ((ld arg4 arg9 arg10 arg11 arg12 arg13 v47 k0_hw1 v419 v423 v427 v431 v433 k0_t1 X_arg4 X_arg9 X_arg13 k f10 f11).res 2) shapeCasts_S8x128_S1x8x128⟩, ⟨Rect.unit (s := S9x64x128) (k0_off16 v47 k0_t1 k) S1x8x128.size (k0_off16_inb v47 k0_hw1 k0_t1 k), shapeCast S1x8x128 ((ld arg4 arg9 arg10 arg11 arg12 arg13 v47 k0_hw1 v419 v423 v427 v431 v433 k0_t1 X_arg4 X_arg9 X_arg13 k f10 f11).res 1) shapeCasts_S8x128_S1x8x128⟩, ⟨Rect.unit (s := S9x64x128) (k0_off15 v47 k0_t1 k) S1x8x128.size (k0_off15_inb v47 k0_hw1 k0_t1 k), shapeCast S1x8x128 ((ld arg4 arg9 arg10 arg11 arg12 arg13 v47 k0_hw1 v419 v423 v427 v431 v433 k0_t1 X_arg4 X_arg9 X_arg13 k f10 f11).res 0) shapeCasts_S8x128_S1x8x128⟩] := by
  unfold trip2
  sl_kernel_rfl

end Cert.KernelIdeal.Run
-- ==== Proof.Real.lean ====
/- One entry over the pixels of a block, in the reals: what it lets through, what lies behind it, the derivative of its
   opacity, and the sums of these over the pixels, taken in the order the kernel takes them. -/
module

public import Mathlib.Analysis.SpecialFunctions.Exp
public import Mathlib.Algebra.BigOperators.Intervals

@[expose] public section

noncomputable section

namespace Cert.Splat

open Finset

/-- An entry at one lane: its opacity, conic, mean, the block's corner, its colours, and over the pixels the
   gradient, the transmittance behind it and the light from behind it. -/
structure Ent where
  op : ℝ
  ca : ℝ
  cb : ℝ
  cc : ℝ
  mx : ℝ
  my : ℝ
  x0 : ℝ
  y0 : ℝ
  col : ℕ → ℝ
  g : ℕ → ℕ → ℝ
  t : ℕ → ℝ
  r : ℕ → ℝ

namespace Ent

variable (E : Ent)

/-- The offset from column `x`. -/
def dx (x : ℕ) : ℝ := E.mx - (E.x0 + ((x : ℝ) + 1 / 2))

/-- The offset from row `y`. -/
def dy (y : ℕ) : ℝ := E.my - (E.y0 + ((y : ℝ) + 1 / 2))

/-- The falloff at a pixel. -/
def vis (p : ℕ) : ℝ :=
  Real.exp (-(1 / 2 * (E.ca * E.dx (p / 16) * E.dx (p / 16) + E.cc * E.dy (p % 16) * E.dy (p % 16))
    + E.cb * E.dx (p / 16) * E.dy (p % 16)))

/-- The opacity at a pixel. -/
def al (p : ℕ) : ℝ := E.op * E.vis p

/-- One over what is let through. -/
def inv (p : ℕ) : ℝ := (1 - E.al p)⁻¹

/-- The colour against the gradient. -/
def q (p : ℕ) : ℝ := E.g 0 p * E.col 0 + E.g 1 p * E.col 1 + E.g 2 p * E.col 2

/-- The transmittance in front of the entry. -/
def tn (p : ℕ) : ℝ := E.t p * E.inv p

/-- The light from behind, the entry taken in. -/
def rn (p : ℕ) : ℝ := E.r p + E.al p * (E.tn p * E.q p)

/-- The weight. -/
def w (p : ℕ) : ℝ := E.al p * E.tn p

/-- The falloff against the derivative of the opacity. -/
def u (p : ℕ) : ℝ := E.vis p * (E.tn p * E.q p - E.r p * E.inv p)

/-- The nine quantities summed over the pixels. -/
def term (n p : ℕ) : ℝ :=
  match n with
  | 0 => E.u p
  | 1 => E.u p * E.dx (p / 16)
  | 2 => E.u p * E.dx (p / 16) * E.dx (p / 16)
  | 3 => E.u p * E.dy (p % 16)
  | 4 => E.u p * E.dx (p / 16) * E.dy (p % 16)
  | 5 => E.u p * E.dy (p % 16) * E.dy (p % 16)
  | 6 => E.w p * E.g 0 p
  | 7 => E.w p * E.g 1 p
  | _ => E.w p * E.g 2 p

/-- Sublane `s`'s share of a sum. -/
def part (n s : ℕ) : ℝ := ∑ b ∈ range 32, E.term n (8 * b + s)

end Ent

/-- The share of a half: over the columns. -/
theorem half_split (f : ℕ → ℝ) (s : ℕ) :
    ∑ b ∈ range 32, f (8 * b + s)
      = ∑ x ∈ range 16, f (8 * (2 * x + 0) + s) + ∑ x ∈ range 16, f (8 * (2 * x + 1) + s) := by
  simp only [sum_range_succ, sum_range_zero]
  norm_num
  ring

/-- The nine sums over the pixels are the shares summed. -/
theorem sum_parts (f : ℕ → ℝ) :
    ∑ p ∈ range 256, f p = ∑ s ∈ range 8, ∑ b ∈ range 32, f (8 * b + s) := by
  rw [sum_comm]
  have h : ∀ n, ∑ p ∈ range (8 * n), f p = ∑ b ∈ range n, ∑ s ∈ range 8, f (8 * b + s) := by
    intro n
    induction n with
    | zero => simp
    | succ n ih =>
      rw [sum_range_succ, ← ih, Nat.mul_succ, sum_range_add]
  exact h 32

/-- A sum, and the sums of its partial sums, from the left. -/
def ps0 (f : ℕ → ℝ) : ℕ → ℝ
  | 0 => 0
  | j + 1 => ps0 f j + f j

@[inherit_doc ps0] def ps1 (f : ℕ → ℝ) : ℕ → ℝ
  | 0 => 0
  | j + 1 => ps1 f j + ps0 f (j + 1)

@[inherit_doc ps0] def ps2 (f : ℕ → ℝ) : ℕ → ℝ
  | 0 => 0
  | j + 1 => ps2 f j + ps1 f (j + 1)

/-- A half's sum from the two sides. -/
theorem side_s0 (v : ℕ → ℝ) :
    ps0 (fun j => v j) 8 + ps0 (fun j => v (15 - j)) 8 = ∑ x ∈ range 16, v x := by
  simp only [ps0, sum_range_succ, sum_range_zero]; norm_num; ring

/-- A half's first moment from the two sides. -/
theorem side_m1 (v : ℕ → ℝ) (m c : ℝ) :
    (m - (c + 8)) * (ps0 (fun j => v j) 8 + ps0 (fun j => v (15 - j)) 8)
      - ((ps1 (fun j => v (15 - j)) 8 - ps1 (fun j => v j) 8)
        - 1 / 2 * (ps0 (fun j => v (15 - j)) 8 - ps0 (fun j => v j) 8))
      = ∑ x ∈ range 16, v x * (m - (c + ((x : ℝ) + 1 / 2))) := by
  simp only [ps0, ps1, sum_range_succ, sum_range_zero]; norm_num; ring

/-- A half's second moment from the two sides. -/
theorem side_m2 (v : ℕ → ℝ) (m c : ℝ) :
    (m - (c + 8)) * (((m - (c + 8)) * (ps0 (fun j => v j) 8 + ps0 (fun j => v (15 - j)) 8)
      - ((ps1 (fun j => v (15 - j)) 8 - ps1 (fun j => v j) 8)
        - 1 / 2 * (ps0 (fun j => v (15 - j)) 8 - ps0 (fun j => v j) 8)))
      - ((ps1 (fun j => v (15 - j)) 8 - ps1 (fun j => v j) 8)
        - 1 / 2 * (ps0 (fun j => v (15 - j)) 8 - ps0 (fun j => v j) 8)))
      + (2 * ((ps2 (fun j => v j) 8 + ps2 (fun j => v (15 - j)) 8) - (ps1 (fun j => v j) 8 + ps1 (fun j => v (15 - j)) 8))
        + 1 / 4 * (ps0 (fun j => v j) 8 + ps0 (fun j => v (15 - j)) 8))
      = ∑ x ∈ range 16, v x * (m - (c + ((x : ℝ) + 1 / 2))) * (m - (c + ((x : ℝ) + 1 / 2))) := by
  simp only [ps0, ps1, ps2, sum_range_succ, sum_range_zero]; norm_num; ring

/-- The block of step `i` of the walk. -/
def walk (i : ℕ) : ℕ := if i / 2 % 2 = 0 then 2 * (i / 4) + i % 2 else 2 * (15 - i / 4) + i % 2

/-- The walk takes every block once. -/
theorem sum_walk (f : ℕ → ℝ) : ∑ i ∈ range 32, f (walk i) = ∑ b ∈ range 32, f b := by
  simp only [sum_range_succ, sum_range_zero, walk]
  norm_num
  ring

end Cert.Splat
-- ==== Proof.Scalar.lean ====
/- What one trip of the inner loop leaves at a pixel and a lane, in the extended reals: the vectors of the trip, read at
   a sublane and a lane, are the real quantities of the entry. -/
module

public import proofs.«01_k».proof.Proof.Model
public import proofs.«01_k».proof.Proof.Real
public import Idealize.ShloMosaic.Lib.Pointwise
public import Idealize.ShloMosaic.Lib.IdealHost

@[expose] public section

noncomputable section

namespace Cert.KernelIdeal.Run

open Cert.KernelIdeal Cert.KernelIdeal.Gen Cert.Splat
open Idealize.ShloMosaic Idealize.ShloMosaic.TcCoe
open Idealize.SL.Sem

/-- The quotient of two reals, the divisor not zero. -/
theorem div_real (a b : ℝ) (h : b ≠ 0) : Ideal.div (a : EReal) (b : EReal) = ((a * b⁻¹ : ℝ) : EReal) := by
  unfold Ideal.div
  rw [if_neg (by exact_mod_cast h), EReal.coe_mul, EReal.coe_inv]

theorem half_f32 : Ideal.ofBits .f32 0x3F000000#32 = ((1 / 2 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem quarter_f32 : Ideal.ofBits .f32 0x3E800000#32 = ((1 / 4 : ℝ) : EReal) := by
  simp [Ideal.ofBits, Ideal.ieee, -EReal.coe_mul]; norm_num

theorem one_f32 : Ideal.ofBits .f32 0x3F800000#32 = ((1 : ℝ) : EReal) := by
  rw [Ideal.ofBits_one_f32]; norm_cast

theorem zero_f32 : Ideal.ofBits .f32 0x00000000#32 = ((0 : ℝ) : EReal) := by
  rw [Ideal.ofBits_zero_f32]; norm_cast

/-- The vectors a trip starts from, at a lane, are an entry's. -/
structure Reads (L : Ld Ideal) (l : Fin 128) (E : Ent) : Prop where
  op : ∀ s : Fin 8, L.op (ix2 s l) = (E.op : EReal)
  dy : ∀ h < 2, ∀ s : Fin 8, L.dy h (ix2 s l) = (E.dy (8 * h + s.val) : EReal)
  cy : ∀ h < 2, ∀ s : Fin 8, L.cy h (ix2 s l)
    = ((-(1 / 2) * E.cc * E.dy (8 * h + s.val) * E.dy (8 * h + s.val) : ℝ) : EReal)
  c0 : ∀ s : Fin 8, L.c0 (ix2 s l) = (E.col 0 : EReal)
  c1 : ∀ s : Fin 8, L.c1 (ix2 s l) = (E.col 1 : EReal)
  c2 : ∀ s : Fin 8, L.c2 (ix2 s l) = (E.col 2 : EReal)
  hx : ∀ s : Fin 8, L.hx (ix2 s l) = ((E.mx - (E.x0 + 8) : ℝ) : EReal)
  row0 : ∀ x < 16, L.row 0 x (ix3 0 0 l) = ((-(1 / 2) * E.ca * E.dx x * E.dx x : ℝ) : EReal)
  row1 : ∀ x < 16, L.row 1 x (ix3 0 0 l) = ((-E.cb * E.dx x : ℝ) : EReal)
  g : ∀ c < 3, ∀ b < 32, ∀ s : Fin 8, L.g c b (ix3 0 s l) = (E.g c (8 * b + s.val) : EReal)
  t : ∀ b < 32, ∀ s : Fin 8, L.t b (ix2 s l) = (E.t (8 * b + s.val) : EReal)
  r : ∀ b < 32, ∀ s : Fin 8, L.r b (ix2 s l) = (E.r (8 * b + s.val) : EReal)

namespace Reads

variable {L : Ld Ideal} {l : Fin 128} {E : Ent} (H : Reads L l E)
include H

theorem gv {c b : ℕ} (hc : c < 3) (hb : b < 32) (s : Fin 8) : L.gv c b (ix2 s l) = (E.g c (8 * b + s.val) : EReal) := by
  rw [← H.g c hc b hb s]
  unfold Ld.gv
  pointwise [k0_pay32]

theorem vis {b : ℕ} (hb : b < 32) (s : Fin 8) : L.vis b (ix2 s l) = (E.vis (8 * b + s.val) : EReal) := by
  have e : L.vis b (ix2 s l) = Ideal.exp ((L.row 0 (b / 2) (ix3 0 0 l) + L.cy (b % 2) (ix2 s l))
      + L.row 1 (b / 2) (ix3 0 0 l) * L.dy (b % 2) (ix2 s l)) := by
    unfold Ld.vis
    pointwise [k0_pay27, k0_pay28]
  have hm : b % 2 < 2 := Nat.mod_lt _ (by decide)
  have hx : (8 * b + s.val) / 16 = b / 2 := by omega
  have hy : (8 * b + s.val) % 16 = 8 * (b % 2) + s.val := by omega
  rw [e, H.row0 _ (by omega), H.row1 _ (by omega), H.cy _ hm, H.dy _ hm, ← EReal.coe_add, ← EReal.coe_mul, ← EReal.coe_add]
  show ((Real.exp _ : ℝ) : EReal) = _
  unfold Ent.vis
  rw [hx, hy]
  congr 2
  ring

theorem al {b : ℕ} (hb : b < 32) (s : Fin 8) : L.al b (ix2 s l) = (E.al (8 * b + s.val) : EReal) := by
  have e : L.al b (ix2 s l) = L.op (ix2 s l) * L.vis b (ix2 s l) := rfl
  rw [e, H.op, H.vis hb, ← EReal.coe_mul]; rfl

variable (hlt : ∀ p < 256, 1 - E.al p ≠ 0)
include hlt

theorem inv {b : ℕ} (hb : b < 32) (s : Fin 8) : L.inv b (ix2 s l) = (E.inv (8 * b + s.val) : EReal) := by
  have e : L.inv b (ix2 s l) = Ideal.div (Ideal.ofBits .f32 0x3F800000#32)
      (Ideal.ofBits .f32 0x3F800000#32 - L.al b (ix2 s l)) := rfl
  rw [e, H.al hb, one_f32, ← EReal.coe_sub, div_real _ _ (hlt _ (by omega)), one_mul]; rfl

omit hlt in
theorem q {b : ℕ} (hb : b < 32) (s : Fin 8) : L.q b (ix2 s l) = (E.q (8 * b + s.val) : EReal) := by
  have e : L.q b (ix2 s l) = (L.gv 0 b (ix2 s l) * L.c0 (ix2 s l) + L.gv 1 b (ix2 s l) * L.c1 (ix2 s l))
      + L.gv 2 b (ix2 s l) * L.c2 (ix2 s l) := rfl
  rw [e, H.gv (by decide) hb, H.gv (by decide) hb, H.gv (by decide) hb, H.c0, H.c1, H.c2]
  simp only [← EReal.coe_mul, ← EReal.coe_add]; rfl

theorem tn {b : ℕ} (hb : b < 32) (s : Fin 8) : L.tn b (ix2 s l) = (E.tn (8 * b + s.val) : EReal) := by
  have e : L.tn b (ix2 s l) = L.t b (ix2 s l) * L.inv b (ix2 s l) := rfl
  rw [e, H.t _ hb, H.inv hlt hb, ← EReal.coe_mul]; rfl

theorem rn {b : ℕ} (hb : b < 32) (s : Fin 8) : L.rn b (ix2 s l) = (E.rn (8 * b + s.val) : EReal) := by
  have e : L.rn b (ix2 s l) = L.r b (ix2 s l) + L.al b (ix2 s l) * (L.tn b (ix2 s l) * L.q b (ix2 s l)) := rfl
  rw [e, H.r _ hb, H.al hb, H.tn hlt hb, H.q hb]
  simp only [← EReal.coe_mul, ← EReal.coe_add]; rfl

theorem w {b : ℕ} (hb : b < 32) (s : Fin 8) : L.w b (ix2 s l) = (E.w (8 * b + s.val) : EReal) := by
  have e : L.w b (ix2 s l) = L.al b (ix2 s l) * L.tn b (ix2 s l) := rfl
  rw [e, H.al hb, H.tn hlt hb, ← EReal.coe_mul]; rfl

theorem u {b : ℕ} (hb : b < 32) (s : Fin 8) : L.u b (ix2 s l) = (E.u (8 * b + s.val) : EReal) := by
  have e : L.u b (ix2 s l) = L.vis b (ix2 s l) * (L.tn b (ix2 s l) * L.q b (ix2 s l) - L.r b (ix2 s l) * L.inv b (ix2 s l)) := rfl
  rw [e, H.r _ hb, H.vis hb, H.tn hlt hb, H.q hb, H.inv hlt hb]
  simp only [← EReal.coe_mul, ← EReal.coe_add, ← EReal.coe_sub]; rfl

omit H hlt in
theorem zero (s : Fin 8) : (k0_pay26 : FVec Ideal S8x128 .f32) (ix2 s l) = ((0 : ℝ) : EReal) := zero_f32

theorem d {c : ℕ} (hc : c < 3) (s : Fin 8) : ∀ i ≤ 32, L.d c i (ix2 s l)
    = ((∑ j ∈ Finset.range i, E.w (8 * walk j + s.val) * E.g c (8 * walk j + s.val) : ℝ) : EReal) := by
  intro i
  induction i with
  | zero => intro _; rw [Finset.sum_range_zero]; exact zero s
  | succ i ih =>
    intro hi
    have e : L.d c (i + 1) (ix2 s l) = L.d c i (ix2 s l) + L.w (walk i) (ix2 s l) * L.gv c (walk i) (ix2 s l) := rfl
    have hb : walk i < 32 := by unfold walk; split <;> omega
    rw [e, ih (by omega), H.w hlt hb, H.gv hc hb, Finset.sum_range_succ, ← EReal.coe_mul, ← EReal.coe_add]

/-- The columns of a side. -/
theorem b0 {h side : ℕ} (hh : h < 2) (s : Fin 8) : ∀ j ≤ 8, L.b0 h side j (ix2 s l)
    = ((ps0 (fun j => E.u (8 * (2 * Ld.col side j + h) + s.val)) j : ℝ) : EReal) := by
  intro j
  induction j with
  | zero => intro _; exact zero s
  | succ j ih =>
    intro hj
    have e : L.b0 h side (j + 1) (ix2 s l) = L.b0 h side j (ix2 s l) + L.u (2 * Ld.col side j + h) (ix2 s l) := rfl
    have hb : 2 * Ld.col side j + h < 32 := by unfold Ld.col; split <;> omega
    rw [e, ih (by omega), H.u hlt hb, ← EReal.coe_add]; rfl

theorem b1 {h side : ℕ} (hh : h < 2) (s : Fin 8) : ∀ j ≤ 8, L.b1 h side j (ix2 s l)
    = ((ps1 (fun j => E.u (8 * (2 * Ld.col side j + h) + s.val)) j : ℝ) : EReal) := by
  intro j
  induction j with
  | zero => intro _; exact zero s
  | succ j ih =>
    intro hj
    have e : L.b1 h side (j + 1) (ix2 s l) = L.b1 h side j (ix2 s l) + L.b0 h side (j + 1) (ix2 s l) := rfl
    rw [e, ih (by omega), H.b0 hlt hh s _ hj, ← EReal.coe_add]; rfl

theorem b2 {h side : ℕ} (hh : h < 2) (s : Fin 8) : ∀ j ≤ 8, L.b2 h side j (ix2 s l)
    = ((ps2 (fun j => E.u (8 * (2 * Ld.col side j + h) + s.val)) j : ℝ) : EReal) := by
  intro j
  induction j with
  | zero => intro _; exact zero s
  | succ j ih =>
    intro hj
    have e : L.b2 h side (j + 1) (ix2 s l) = L.b2 h side j (ix2 s l) + L.b1 h side (j + 1) (ix2 s l) := rfl
    rw [e, ih (by omega), H.b1 hlt hh s _ hj, ← EReal.coe_add]; rfl

/-- Column `x` of a half, at a sublane. -/
abbrev cell (E : Ent) (h : ℕ) (s : Fin 8) (x : ℕ) : ℝ := E.u (8 * (2 * x + h) + s.val)

theorem s0 {h : ℕ} (hh : h < 2) (s : Fin 8) : L.s0 h (ix2 s l) = ((∑ x ∈ Finset.range 16, cell E h s x : ℝ) : EReal) := by
  have e : L.s0 h (ix2 s l) = L.b0 h 0 8 (ix2 s l) + L.b0 h 1 8 (ix2 s l) := rfl
  rw [e, H.b0 hlt hh s 8 le_rfl, H.b0 hlt hh s 8 le_rfl, ← EReal.coe_add, ← side_s0 (cell E h s)]; rfl

theorem s1 {h : ℕ} (hh : h < 2) (s : Fin 8) : L.s1 h (ix2 s l)
    = (((ps1 (fun j => cell E h s (15 - j)) 8 - ps1 (fun j => cell E h s j) 8)
        - 1 / 2 * (ps0 (fun j => cell E h s (15 - j)) 8 - ps0 (fun j => cell E h s j) 8) : ℝ) : EReal) := by
  have e : L.s1 h (ix2 s l) = (L.b1 h 1 8 (ix2 s l) - L.b1 h 0 8 (ix2 s l))
      - Ideal.ofBits .f32 0x3F000000#32 * (L.b0 h 1 8 (ix2 s l) - L.b0 h 0 8 (ix2 s l)) := rfl
  rw [e, half_f32, H.b0 hlt hh s 8 le_rfl, H.b0 hlt hh s 8 le_rfl, H.b1 hlt hh s 8 le_rfl, H.b1 hlt hh s 8 le_rfl]
  simp only [← EReal.coe_mul, ← EReal.coe_add, ← EReal.coe_sub]; rfl

theorem m1r {h : ℕ} (hh : h < 2) (s : Fin 8) : L.m1 h (ix2 s l)
    = (((E.mx - (E.x0 + 8)) * (ps0 (fun j => cell E h s j) 8 + ps0 (fun j => cell E h s (15 - j)) 8)
      - ((ps1 (fun j => cell E h s (15 - j)) 8 - ps1 (fun j => cell E h s j) 8)
        - 1 / 2 * (ps0 (fun j => cell E h s (15 - j)) 8 - ps0 (fun j => cell E h s j) 8)) : ℝ) : EReal) := by
  have e : L.m1 h (ix2 s l) = L.hx (ix2 s l) * L.s0 h (ix2 s l) - L.s1 h (ix2 s l) := rfl
  rw [e, H.hx, H.s1 hlt hh, H.s0 hlt hh, ← side_s0 (cell E h s)]
  simp only [← EReal.coe_mul, ← EReal.coe_add, ← EReal.coe_sub]

theorem m1 {h : ℕ} (hh : h < 2) (s : Fin 8) : L.m1 h (ix2 s l)
    = ((∑ x ∈ Finset.range 16, cell E h s x * E.dx x : ℝ) : EReal) := by
  rw [H.m1r hlt hh, side_m1 (cell E h s)]; rfl

theorem m2 {h : ℕ} (hh : h < 2) (s : Fin 8) : L.m2 h (ix2 s l)
    = ((∑ x ∈ Finset.range 16, cell E h s x * E.dx x * E.dx x : ℝ) : EReal) := by
  have e : L.m2 h (ix2 s l) = L.hx (ix2 s l) * (L.m1 h (ix2 s l) - L.s1 h (ix2 s l))
      + (Ideal.ofBits .f32 0x40000000#32 * ((L.b2 h 0 8 (ix2 s l) + L.b2 h 1 8 (ix2 s l)) - (L.b1 h 0 8 (ix2 s l) + L.b1 h 1 8 (ix2 s l)))
        + Ideal.ofBits .f32 0x3E800000#32 * L.s0 h (ix2 s l)) := rfl
  have k := side_m2 (cell E h s) E.mx E.x0
  refine Eq.trans ?_ (congrArg (fun x : ℝ => (x : EReal)) k)
  rw [e, two_f32, quarter_f32, H.hx, H.m1r hlt hh, H.s1 hlt hh, H.s0 hlt hh, ← side_s0 (cell E h s),
    H.b1 hlt hh s 8 le_rfl, H.b1 hlt hh s 8 le_rfl, H.b2 hlt hh s 8 le_rfl, H.b2 hlt hh s 8 le_rfl]
  simp only [← EReal.coe_mul, ← EReal.coe_add, ← EReal.coe_sub]; rfl

omit H hlt in
theorem at_pixel {h x : ℕ} (hh : h < 2) (s : Fin 8) :
    (8 * (2 * x + h) + s.val) / 16 = x ∧ (8 * (2 * x + h) + s.val) % 16 = 8 * h + s.val := by omega

/-- A moment over a half. -/
theorem mom {n h : ℕ} (hn : n < 6) (hh : h < 2) (s : Fin 8) : L.mom n h (ix2 s l)
    = ((∑ x ∈ Finset.range 16, E.term n (8 * (2 * x + h) + s.val) : ℝ) : EReal) := by
  match n, hn with
  | 0, _ => exact H.s0 hlt hh s
  | 1, _ =>
    refine (H.m1 hlt hh s).trans ?_
    simp only [Ent.term, (at_pixel hh s).1]
  | 2, _ =>
    refine (H.m2 hlt hh s).trans ?_
    simp only [Ent.term, (at_pixel hh s).1]
  | 3, _ =>
    have e : L.mom 3 h (ix2 s l) = L.s0 h (ix2 s l) * L.dy h (ix2 s l) := rfl
    rw [e, H.s0 hlt hh, H.dy _ hh, ← EReal.coe_mul, Finset.sum_mul]
    simp only [Ent.term, (at_pixel hh s).2]
  | 4, _ =>
    have e : L.mom 4 h (ix2 s l) = L.m1 h (ix2 s l) * L.dy h (ix2 s l) := rfl
    rw [e, H.m1 hlt hh, H.dy _ hh, ← EReal.coe_mul, Finset.sum_mul]
    simp only [Ent.term, (at_pixel hh s).1, (at_pixel hh s).2]
  | 5, _ =>
    have e : L.mom 5 h (ix2 s l) = (L.s0 h (ix2 s l) * L.dy h (ix2 s l)) * L.dy h (ix2 s l) := rfl
    rw [e, H.s0 hlt hh, H.dy _ hh, ← EReal.coe_mul, ← EReal.coe_mul, Finset.sum_mul, Finset.sum_mul]
    simp only [Ent.term, (at_pixel hh s).2]

/-- THE NINE SUMS a trip leaves, at a sublane and a lane. -/
theorem res {n : ℕ} (hn : n < 9) (s : Fin 8) : L.res n (ix2 s l) = (E.part n s.val : EReal) := by
  have hlow : ∀ n < 6, (addf (addf k0_pay26 (L.mom n 0)) (L.mom n 1) : FVec Ideal S8x128 .f32) (ix2 s l)
      = (E.part n s.val : EReal) := by
    intro n hn
    have e : (addf (addf k0_pay26 (L.mom n 0)) (L.mom n 1) : FVec Ideal S8x128 .f32) (ix2 s l)
      = (k0_pay26 : FVec Ideal S8x128 .f32) (ix2 s l) + L.mom n 0 (ix2 s l) + L.mom n 1 (ix2 s l) := rfl
    rw [e, zero, H.mom hlt hn (by decide), H.mom hlt hn (by decide), ← EReal.coe_add, ← EReal.coe_add, zero_add]
    unfold Ent.part
    rw [half_split]
  have hd : ∀ c < 3, L.d c 32 (ix2 s l)
      = ((∑ b ∈ Finset.range 32, E.w (8 * b + s.val) * E.g c (8 * b + s.val) : ℝ) : EReal) := by
    intro c hc
    rw [H.d hlt hc s 32 le_rfl, sum_walk (fun b => E.w (8 * b + s.val) * E.g c (8 * b + s.val))]
  match n, hn with
  | 0, _ => exact hlow 0 (by decide)
  | 1, _ => exact hlow 1 (by decide)
  | 2, _ => exact hlow 2 (by decide)
  | 3, _ => exact hlow 3 (by decide)
  | 4, _ => exact hlow 4 (by decide)
  | 5, _ => exact hlow 5 (by decide)
  | 6, _ => exact hd 0 (by decide)
  | 7, _ => exact hd 1 (by decide)
  | 8, _ => exact hd 2 (by decide)

end Reads

end Cert.KernelIdeal.Run
-- ==== Proof.Offs.lean ====
/- Where the loops read and write: the trip counts and the offsets of the two loops, in closed form in the block's entry
   count, the chunk and the trip. -/
module

public import proofs.«01_k».proof.Proof.Gen.KernelIdeal

@[expose] public section

set_option maxRecDepth 16384

noncomputable section

namespace Cert.KernelIdeal.Run

open Cert.KernelIdeal
open Idealize.ShloMosaic Idealize.ShloMosaic.TcCoe

/-- The first entry of a chunk: the chunks go from the last entries to the first. -/
def k0 (kg ci : ℕ) : ℕ := ((kg - 1) / 8 - ci) * 8

/-- How many entries a chunk holds. -/
def nk (kg ci : ℕ) : ℕ := min (kg - k0 kg ci) 8

/-- The place in its chunk of the entry that a trip of the inner loop takes. -/
def kk (kg ci i : ℕ) : ℕ := nk kg ci - 1 - i

theorem trips1_fin : ∀ kg : Fin 41, (k0_t1_loop (BitVec.ofNat 32 kg.val)).trips = (kg.val + 7) / 8 := by decide +kernel

theorem trips1 {v : BitVec 32} {kg : Fin 41} (hv : v = BitVec.ofNat 32 kg.val) :
    (k0_t1_loop v).trips = (kg.val + 7) / 8 := by subst hv; exact trips1_fin kg

theorem trips2_fin : ∀ kg : Fin 41, ∀ a : Fin (k0_t1_loop (BitVec.ofNat 32 kg.val)).trips,
    (k0_t2_loop (BitVec.ofNat 32 kg.val) a).trips = nk kg.val a.val := by decide +kernel

theorem trips2 {v : BitVec 32} {kg : Fin 41} (hv : v = BitVec.ofNat 32 kg.val) (a : Fin (k0_t1_loop v).trips) :
    (k0_t2_loop v a).trips = nk kg.val a.val := by subst hv; exact trips2_fin kg a

theorem off6_fin : ∀ kg : Fin 41, ∀ a : Fin (k0_t1_loop (BitVec.ofNat 32 kg.val)).trips,
    k0_off6 (BitVec.ofNat 32 kg.val) a = ![0, 7, k0 kg.val a.val, 0] := by decide +kernel

theorem off6 {v : BitVec 32} {kg : Fin 41} (hv : v = BitVec.ofNat 32 kg.val) (a : Fin (k0_t1_loop v).trips) :
    k0_off6 v a = ![0, 7, k0 kg.val a.val, 0] := by subst hv; exact off6_fin kg a

theorem off7_fin : ∀ kg : Fin 41, ∀ a : Fin (k0_t1_loop (BitVec.ofNat 32 kg.val)).trips,
    ∀ b : Fin (k0_t2_loop (BitVec.ofNat 32 kg.val) a).trips,
    k0_off7 (BitVec.ofNat 32 kg.val) a b = ![0, 0, k0 kg.val a.val + kk kg.val a.val b.val, 0] := by decide +kernel

theorem off7 {v : BitVec 32} {kg : Fin 41} (hv : v = BitVec.ofNat 32 kg.val) (a : Fin (k0_t1_loop v).trips)
    (b : Fin (k0_t2_loop v a).trips) : k0_off7 v a b = ![0, 0, k0 kg.val a.val + kk kg.val a.val b.val, 0] := by
  subst hv; exact off7_fin kg a b

theorem off8_fin : ∀ kg : Fin 41, ∀ a : Fin (k0_t1_loop (BitVec.ofNat 32 kg.val)).trips,
    ∀ b : Fin (k0_t2_loop (BitVec.ofNat 32 kg.val) a).trips,
    k0_off8 (BitVec.ofNat 32 kg.val) a b = ![0, 1, k0 kg.val a.val + kk kg.val a.val b.val, 0] := by decide +kernel

theorem off8 {v : BitVec 32} {kg : Fin 41} (hv : v = BitVec.ofNat 32 kg.val) (a : Fin (k0_t1_loop v).trips)
    (b : Fin (k0_t2_loop v a).trips) : k0_off8 v a b = ![0, 1, k0 kg.val a.val + kk kg.val a.val b.val, 0] := by
  subst hv; exact off8_fin kg a b

theorem off9_fin : ∀ kg : Fin 41, ∀ a : Fin (k0_t1_loop (BitVec.ofNat 32 kg.val)).trips,
    ∀ b : Fin (k0_t2_loop (BitVec.ofNat 32 kg.val) a).trips,
    k0_off9 (BitVec.ofNat 32 kg.val) a b = ![0, 2, k0 kg.val a.val + kk kg.val a.val b.val, 0] := by decide +kernel

theorem off9 {v : BitVec 32} {kg : Fin 41} (hv : v = BitVec.ofNat 32 kg.val) (a : Fin (k0_t1_loop v).trips)
    (b : Fin (k0_t2_loop v a).trips) : k0_off9 v a b = ![0, 2, k0 kg.val a.val + kk kg.val a.val b.val, 0] := by
  subst hv; exact off9_fin kg a b

theorem off10_fin : ∀ kg : Fin 41, ∀ a : Fin (k0_t1_loop (BitVec.ofNat 32 kg.val)).trips,
    ∀ b : Fin (k0_t2_loop (BitVec.ofNat 32 kg.val) a).trips,
    k0_off10 (BitVec.ofNat 32 kg.val) a b = ![0, 3, k0 kg.val a.val + kk kg.val a.val b.val, 0] := by decide +kernel

theorem off10 {v : BitVec 32} {kg : Fin 41} (hv : v = BitVec.ofNat 32 kg.val) (a : Fin (k0_t1_loop v).trips)
    (b : Fin (k0_t2_loop v a).trips) : k0_off10 v a b = ![0, 3, k0 kg.val a.val + kk kg.val a.val b.val, 0] := by
  subst hv; exact off10_fin kg a b

theorem off11_fin : ∀ kg : Fin 41, ∀ a : Fin (k0_t1_loop (BitVec.ofNat 32 kg.val)).trips,
    ∀ b : Fin (k0_t2_loop (BitVec.ofNat 32 kg.val) a).trips,
    k0_off11 (BitVec.ofNat 32 kg.val) a b = ![0, 4, k0 kg.val a.val + kk kg.val a.val b.val, 0] := by decide +kernel

theorem off11 {v : BitVec 32} {kg : Fin 41} (hv : v = BitVec.ofNat 32 kg.val) (a : Fin (k0_t1_loop v).trips)
    (b : Fin (k0_t2_loop v a).trips) : k0_off11 v a b = ![0, 4, k0 kg.val a.val + kk kg.val a.val b.val, 0] := by
  subst hv; exact off11_fin kg a b

theorem off12_fin : ∀ kg : Fin 41, ∀ a : Fin (k0_t1_loop (BitVec.ofNat 32 kg.val)).trips,
    ∀ b : Fin (k0_t2_loop (BitVec.ofNat 32 kg.val) a).trips,
    k0_off12 (BitVec.ofNat 32 kg.val) a b = ![0, 5, k0 kg.val a.val + kk kg.val a.val b.val, 0] := by decide +kernel

theorem off12 {v : BitVec 32} {kg : Fin 41} (hv : v = BitVec.ofNat 32 kg.val) (a : Fin (k0_t1_loop v).trips)
    (b : Fin (k0_t2_loop v a).trips) : k0_off12 v a b = ![0, 5, k0 kg.val a.val + kk kg.val a.val b.val, 0] := by
  subst hv; exact off12_fin kg a b

theorem off13_fin : ∀ kg : Fin 41, ∀ a : Fin (k0_t1_loop (BitVec.ofNat 32 kg.val)).trips,
    ∀ b : Fin (k0_t2_loop (BitVec.ofNat 32 kg.val) a).trips,
    k0_off13 (BitVec.ofNat 32 kg.val) a b = ![0, 6, k0 kg.val a.val + kk kg.val a.val b.val, 0] := by decide +kernel

theorem off13 {v : BitVec 32} {kg : Fin 41} (hv : v = BitVec.ofNat 32 kg.val) (a : Fin (k0_t1_loop v).trips)
    (b : Fin (k0_t2_loop v a).trips) : k0_off13 v a b = ![0, 6, k0 kg.val a.val + kk kg.val a.val b.val, 0] := by
  subst hv; exact off13_fin kg a b

theorem off14_fin : ∀ kg : Fin 41, ∀ a : Fin (k0_t1_loop (BitVec.ofNat 32 kg.val)).trips,
    ∀ b : Fin (k0_t2_loop (BitVec.ofNat 32 kg.val) a).trips, ∀ c : Fin 3,
    k0_off14 (BitVec.ofNat 32 kg.val) a b (BitVec.ofNat 32 c.val) = ![4 * kk kg.val a.val b.val + c.val, 0] := by decide +kernel

theorem off14 {v : BitVec 32} {kg : Fin 41} (hv : v = BitVec.ofNat 32 kg.val) (a : Fin (k0_t1_loop v).trips)
    (b : Fin (k0_t2_loop v a).trips) (c : Fin 3) :
    k0_off14 v a b (BitVec.ofNat 32 c.val) = ![4 * kk kg.val a.val b.val + c.val, 0] := by
  subst hv; exact off14_fin kg a b c

theorem off15_fin : ∀ kg : Fin 41, ∀ a : Fin (k0_t1_loop (BitVec.ofNat 32 kg.val)).trips,
    ∀ b : Fin (k0_t2_loop (BitVec.ofNat 32 kg.val) a).trips,
    k0_off15 (BitVec.ofNat 32 kg.val) a b = ![0, 8 * kk kg.val a.val b.val, 0] := by decide +kernel

theorem off15 {v : BitVec 32} {kg : Fin 41} (hv : v = BitVec.ofNat 32 kg.val) (a : Fin (k0_t1_loop v).trips)
    (b : Fin (k0_t2_loop v a).trips) : k0_off15 v a b = ![0, 8 * kk kg.val a.val b.val, 0] := by
  subst hv; exact off15_fin kg a b

theorem off16_fin : ∀ kg : Fin 41, ∀ a : Fin (k0_t1_loop (BitVec.ofNat 32 kg.val)).trips,
    ∀ b : Fin (k0_t2_loop (BitVec.ofNat 32 kg.val) a).trips,
    k0_off16 (BitVec.ofNat 32 kg.val) a b = ![1, 8 * kk kg.val a.val b.val, 0] := by decide +kernel

theorem off16 {v : BitVec 32} {kg : Fin 41} (hv : v = BitVec.ofNat 32 kg.val) (a : Fin (k0_t1_loop v).trips)
    (b : Fin (k0_t2_loop v a).trips) : k0_off16 v a b = ![1, 8 * kk kg.val a.val b.val, 0] := by
  subst hv; exact off16_fin kg a b

theorem off17_fin : ∀ kg : Fin 41, ∀ a : Fin (k0_t1_loop (BitVec.ofNat 32 kg.val)).trips,
    ∀ b : Fin (k0_t2_loop (BitVec.ofNat 32 kg.val) a).trips,
    k0_off17 (BitVec.ofNat 32 kg.val) a b = ![2, 8 * kk kg.val a.val b.val, 0] := by decide +kernel

theorem off17 {v : BitVec 32} {kg : Fin 41} (hv : v = BitVec.ofNat 32 kg.val) (a : Fin (k0_t1_loop v).trips)
    (b : Fin (k0_t2_loop v a).trips) : k0_off17 v a b = ![2, 8 * kk kg.val a.val b.val, 0] := by
  subst hv; exact off17_fin kg a b

theorem off18_fin : ∀ kg : Fin 41, ∀ a : Fin (k0_t1_loop (BitVec.ofNat 32 kg.val)).trips,
    ∀ b : Fin (k0_t2_loop (BitVec.ofNat 32 kg.val) a).trips,
    k0_off18 (BitVec.ofNat 32 kg.val) a b = ![3, 8 * kk kg.val a.val b.val, 0] := by decide +kernel

theorem off18 {v : BitVec 32} {kg : Fin 41} (hv : v = BitVec.ofNat 32 kg.val) (a : Fin (k0_t1_loop v).trips)
    (b : Fin (k0_t2_loop v a).trips) : k0_off18 v a b = ![3, 8 * kk kg.val a.val b.val, 0] := by
  subst hv; exact off18_fin kg a b

theorem off19_fin : ∀ kg : Fin 41, ∀ a : Fin (k0_t1_loop (BitVec.ofNat 32 kg.val)).trips,
    ∀ b : Fin (k0_t2_loop (BitVec.ofNat 32 kg.val) a).trips,
    k0_off19 (BitVec.ofNat 32 kg.val) a b = ![4, 8 * kk kg.val a.val b.val, 0] := by decide +kernel

theorem off19 {v : BitVec 32} {kg : Fin 41} (hv : v = BitVec.ofNat 32 kg.val) (a : Fin (k0_t1_loop v).trips)
    (b : Fin (k0_t2_loop v a).trips) : k0_off19 v a b = ![4, 8 * kk kg.val a.val b.val, 0] := by
  subst hv; exact off19_fin kg a b

theorem off20_fin : ∀ kg : Fin 41, ∀ a : Fin (k0_t1_loop (BitVec.ofNat 32 kg.val)).trips,
    ∀ b : Fin (k0_t2_loop (BitVec.ofNat 32 kg.val) a).trips,
    k0_off20 (BitVec.ofNat 32 kg.val) a b = ![5, 8 * kk kg.val a.val b.val, 0] := by decide +kernel

theorem off20 {v : BitVec 32} {kg : Fin 41} (hv : v = BitVec.ofNat 32 kg.val) (a : Fin (k0_t1_loop v).trips)
    (b : Fin (k0_t2_loop v a).trips) : k0_off20 v a b = ![5, 8 * kk kg.val a.val b.val, 0] := by
  subst hv; exact off20_fin kg a b

theorem off21_fin : ∀ kg : Fin 41, ∀ a : Fin (k0_t1_loop (BitVec.ofNat 32 kg.val)).trips,
    ∀ b : Fin (k0_t2_loop (BitVec.ofNat 32 kg.val) a).trips,
    k0_off21 (BitVec.ofNat 32 kg.val) a b = ![6, 8 * kk kg.val a.val b.val, 0] := by decide +kernel

theorem off21 {v : BitVec 32} {kg : Fin 41} (hv : v = BitVec.ofNat 32 kg.val) (a : Fin (k0_t1_loop v).trips)
    (b : Fin (k0_t2_loop v a).trips) : k0_off21 v a b = ![6, 8 * kk kg.val a.val b.val, 0] := by
  subst hv; exact off21_fin kg a b

theorem off22_fin : ∀ kg : Fin 41, ∀ a : Fin (k0_t1_loop (BitVec.ofNat 32 kg.val)).trips,
    ∀ b : Fin (k0_t2_loop (BitVec.ofNat 32 kg.val) a).trips,
    k0_off22 (BitVec.ofNat 32 kg.val) a b = ![7, 8 * kk kg.val a.val b.val, 0] := by decide +kernel

theorem off22 {v : BitVec 32} {kg : Fin 41} (hv : v = BitVec.ofNat 32 kg.val) (a : Fin (k0_t1_loop v).trips)
    (b : Fin (k0_t2_loop v a).trips) : k0_off22 v a b = ![7, 8 * kk kg.val a.val b.val, 0] := by
  subst hv; exact off22_fin kg a b

theorem off23_fin : ∀ kg : Fin 41, ∀ a : Fin (k0_t1_loop (BitVec.ofNat 32 kg.val)).trips,
    ∀ b : Fin (k0_t2_loop (BitVec.ofNat 32 kg.val) a).trips,
    k0_off23 (BitVec.ofNat 32 kg.val) a b = ![8, 8 * kk kg.val a.val b.val, 0] := by decide +kernel

theorem off23 {v : BitVec 32} {kg : Fin 41} (hv : v = BitVec.ofNat 32 kg.val) (a : Fin (k0_t1_loop v).trips)
    (b : Fin (k0_t2_loop v a).trips) : k0_off23 v a b = ![8, 8 * kk kg.val a.val b.val, 0] := by
  subst hv; exact off23_fin kg a b

theorem off41_fin : ∀ kg : Fin 41, ∀ a : Fin (k0_t1_loop (BitVec.ofNat 32 kg.val)).trips,
    k0_off41 (BitVec.ofNat 32 kg.val) a = ![0, 2, k0 kg.val a.val, 0] := by decide +kernel

theorem off41 {v : BitVec 32} {kg : Fin 41} (hv : v = BitVec.ofNat 32 kg.val) (a : Fin (k0_t1_loop v).trips) :
    k0_off41 v a = ![0, 2, k0 kg.val a.val, 0] := by subst hv; exact off41_fin kg a

theorem off42_fin : ∀ kg : Fin 41, ∀ a : Fin (k0_t1_loop (BitVec.ofNat 32 kg.val)).trips,
    k0_off42 (BitVec.ofNat 32 kg.val) a = ![0, 3, k0 kg.val a.val, 0] := by decide +kernel

theorem off42 {v : BitVec 32} {kg : Fin 41} (hv : v = BitVec.ofNat 32 kg.val) (a : Fin (k0_t1_loop v).trips) :
    k0_off42 v a = ![0, 3, k0 kg.val a.val, 0] := by subst hv; exact off42_fin kg a

theorem off43_fin : ∀ kg : Fin 41, ∀ a : Fin (k0_t1_loop (BitVec.ofNat 32 kg.val)).trips,
    k0_off43 (BitVec.ofNat 32 kg.val) a = ![0, 4, k0 kg.val a.val, 0] := by decide +kernel

theorem off43 {v : BitVec 32} {kg : Fin 41} (hv : v = BitVec.ofNat 32 kg.val) (a : Fin (k0_t1_loop v).trips) :
    k0_off43 v a = ![0, 4, k0 kg.val a.val, 0] := by subst hv; exact off43_fin kg a

theorem off44_fin : ∀ kg : Fin 41, ∀ a : Fin (k0_t1_loop (BitVec.ofNat 32 kg.val)).trips,
    k0_off44 (BitVec.ofNat 32 kg.val) a = ![0, 5, k0 kg.val a.val, 0] := by decide +kernel

theorem off44 {v : BitVec 32} {kg : Fin 41} (hv : v = BitVec.ofNat 32 kg.val) (a : Fin (k0_t1_loop v).trips) :
    k0_off44 v a = ![0, 5, k0 kg.val a.val, 0] := by subst hv; exact off44_fin kg a

theorem off45_fin : ∀ kg : Fin 41, ∀ a : Fin (k0_t1_loop (BitVec.ofNat 32 kg.val)).trips,
    k0_off45 (BitVec.ofNat 32 kg.val) a = ![0, 0, k0 kg.val a.val, 0] := by decide +kernel

theorem off45 {v : BitVec 32} {kg : Fin 41} (hv : v = BitVec.ofNat 32 kg.val) (a : Fin (k0_t1_loop v).trips) :
    k0_off45 v a = ![0, 0, k0 kg.val a.val, 0] := by subst hv; exact off45_fin kg a

theorem off46_fin : ∀ kg : Fin 41, ∀ a : Fin (k0_t1_loop (BitVec.ofNat 32 kg.val)).trips,
    k0_off46 (BitVec.ofNat 32 kg.val) a = ![0, 1, k0 kg.val a.val, 0] := by decide +kernel

theorem off46 {v : BitVec 32} {kg : Fin 41} (hv : v = BitVec.ofNat 32 kg.val) (a : Fin (k0_t1_loop v).trips) :
    k0_off46 v a = ![0, 1, k0 kg.val a.val, 0] := by subst hv; exact off46_fin kg a

theorem off47_fin : ∀ kg : Fin 41, ∀ a : Fin (k0_t1_loop (BitVec.ofNat 32 kg.val)).trips,
    k0_off47 (BitVec.ofNat 32 kg.val) a = ![0, 2, k0 kg.val a.val, 0] := by decide +kernel

theorem off47 {v : BitVec 32} {kg : Fin 41} (hv : v = BitVec.ofNat 32 kg.val) (a : Fin (k0_t1_loop v).trips) :
    k0_off47 v a = ![0, 2, k0 kg.val a.val, 0] := by subst hv; exact off47_fin kg a

theorem off48_fin : ∀ kg : Fin 41, ∀ a : Fin (k0_t1_loop (BitVec.ofNat 32 kg.val)).trips,
    k0_off48 (BitVec.ofNat 32 kg.val) a = ![0, 3, k0 kg.val a.val, 0] := by decide +kernel

theorem off48 {v : BitVec 32} {kg : Fin 41} (hv : v = BitVec.ofNat 32 kg.val) (a : Fin (k0_t1_loop v).trips) :
    k0_off48 v a = ![0, 3, k0 kg.val a.val, 0] := by subst hv; exact off48_fin kg a

theorem off49_fin : ∀ kg : Fin 41, ∀ a : Fin (k0_t1_loop (BitVec.ofNat 32 kg.val)).trips,
    k0_off49 (BitVec.ofNat 32 kg.val) a = ![0, 4, k0 kg.val a.val, 0] := by decide +kernel

theorem off49 {v : BitVec 32} {kg : Fin 41} (hv : v = BitVec.ofNat 32 kg.val) (a : Fin (k0_t1_loop v).trips) :
    k0_off49 v a = ![0, 4, k0 kg.val a.val, 0] := by subst hv; exact off49_fin kg a

theorem off50_fin : ∀ kg : Fin 41, ∀ a : Fin (k0_t1_loop (BitVec.ofNat 32 kg.val)).trips,
    k0_off50 (BitVec.ofNat 32 kg.val) a = ![0, 5, k0 kg.val a.val, 0] := by decide +kernel

theorem off50 {v : BitVec 32} {kg : Fin 41} (hv : v = BitVec.ofNat 32 kg.val) (a : Fin (k0_t1_loop v).trips) :
    k0_off50 v a = ![0, 5, k0 kg.val a.val, 0] := by subst hv; exact off50_fin kg a

theorem off51_fin : ∀ kg : Fin 41, ∀ a : Fin (k0_t1_loop (BitVec.ofNat 32 kg.val)).trips,
    k0_off51 (BitVec.ofNat 32 kg.val) a = ![0, 6, k0 kg.val a.val, 0] := by decide +kernel

theorem off51 {v : BitVec 32} {kg : Fin 41} (hv : v = BitVec.ofNat 32 kg.val) (a : Fin (k0_t1_loop v).trips) :
    k0_off51 v a = ![0, 6, k0 kg.val a.val, 0] := by subst hv; exact off51_fin kg a

theorem off52_fin : ∀ kg : Fin 41, ∀ a : Fin (k0_t1_loop (BitVec.ofNat 32 kg.val)).trips,
    k0_off52 (BitVec.ofNat 32 kg.val) a = ![0, 7, k0 kg.val a.val, 0] := by decide +kernel

theorem off52 {v : BitVec 32} {kg : Fin 41} (hv : v = BitVec.ofNat 32 kg.val) (a : Fin (k0_t1_loop v).trips) :
    k0_off52 v a = ![0, 7, k0 kg.val a.val, 0] := by subst hv; exact off52_fin kg a

theorem off53_fin : ∀ kg : Fin 41, ∀ a : Fin (k0_t1_loop (BitVec.ofNat 32 kg.val)).trips,
    k0_off53 (BitVec.ofNat 32 kg.val) a = ![0, 8, k0 kg.val a.val, 0] := by decide +kernel

theorem off53 {v : BitVec 32} {kg : Fin 41} (hv : v = BitVec.ofNat 32 kg.val) (a : Fin (k0_t1_loop v).trips) :
    k0_off53 v a = ![0, 8, k0 kg.val a.val, 0] := by subst hv; exact off53_fin kg a

end Cert.KernelIdeal.Run
-- ==== Proof.Trip.lean ====
/- What a trip of the inner loop reads, at a lane: the parameters of its entry, the decoded colour codes, the gradients,
   and the transmittance and the light from behind that the entries after it left. -/
module

public import proofs.«01_k».proof.Proof.Scalar
public import proofs.«01_k».proof.Proof.Offs
public import Idealize.ShloMosaic.Lib.BitcastPair
public import Idealize.ShloMosaic.Lib.Writes
public import Idealize.ShloMosaic.Lib.WritesUnit

@[expose] public section

noncomputable section

namespace Cert.Splat

/-- What a block holds, in the reals: its entries' parameters (a row of the seven and an entry), their colour codes, its
   corner, the gradient of a channel at a pixel, the last transmittance and the background against the gradient. -/
structure Lane where
  prm : ℕ → ℕ → ℝ
  code : ℕ → ℕ → ℝ
  x0 : ℝ
  y0 : ℝ
  g : ℕ → ℕ → ℝ
  ft : ℕ → ℝ
  gb : ℕ → ℝ

namespace Lane

variable (D : Lane)

/-- An entry over what the entries after it leave. -/
def ent (k : ℕ) (t r : ℕ → ℝ) : Ent where
  op := D.prm 5 k
  ca := D.prm 2 k
  cb := D.prm 3 k
  cc := D.prm 4 k
  mx := D.prm 0 k
  my := D.prm 1 k
  x0 := D.x0
  y0 := D.y0
  col := fun c => D.code k c * D.prm 6 k
  g := D.g
  t := t
  r := r

/-- The transmittance and the light from behind, the last `m` of `kg` entries taken in. -/
def st (kg : ℕ) : ℕ → (ℕ → ℝ) × (ℕ → ℝ)
  | 0 => (D.ft, fun p => D.ft p * D.gb p)
  | m + 1 => ((D.ent (kg - 1 - m) (st kg m).1 (st kg m).2).tn, (D.ent (kg - 1 - m) (st kg m).1 (st kg m).2).rn)

/-- Entry `k` of `kg`, over what the entries after it leave. -/
def entry (kg k : ℕ) : Ent := D.ent k (D.st kg (kg - 1 - k)).1 (D.st kg (kg - 1 - k)).2

end Lane

end Cert.Splat

namespace Cert.KernelIdeal.Run

open Cert.KernelIdeal Cert.KernelIdeal.Gen Cert.Splat
open Idealize.ShloMosaic Idealize.ShloMosaic.TcCoe
open Idealize.SL.Sem

/-- A parameter's row, read at a sublane and a lane. -/
theorem prow_apply (arg4 : Memref sig .tc .vmem S1x8x40x128 .i32) (X : BufTy.Contents (Elt Ideal) arg4.view.ty)
    (o : Fin 4 → ℕ) (h : ∀ a, o a + S1x1x1x128.size a ≤ S1x8x40x128.size a) (j : Fin 8) (k : Fin 40)
    (ho : o = ![0, j.val, k.val, 0]) (s : Fin 8) (l : Fin 128) :
    prow arg4 X o h (ix2 s l) = Ideal.ofBits .f32 (arg4.view.read (Elt Ideal) X (ix4 0 j k l)) := by
  subst ho
  pointwise [prow, k0_pay3]
  rw [View.readAt_apply]
  refine congrArg (Ideal.ofBits .f32) (congrArg (arg4.view.read (Elt Ideal) X) (funext fun a => Fin.ext ?_))
  fin_cases a <;> simp [LoadRect.idx, Rect.toLoadRect, Rect.unit, ix4]

/-- A word's rows of bytes. -/
theorem bitcast_bytes {R n : ℕ} (x : (⟨2, ![R, n]⟩ : Shape).Idx → BitVec 32)
    (h : (⟨2, ![R, n]⟩ : Shape).Bitcasts 32 ⟨2, ![4 * R, n]⟩ 8) (k : Fin R) (c : Fin 4) (l : Fin n) (i : Fin (4 * R))
    (hi : i.val = 4 * k.val + c.val) :
    bitcast ⟨2, ![4 * R, n]⟩ 8 x h (ix2 i l) = (x (ix2 k l)).extractLsb' (8 * c.val) 8 := by
  apply BitVec.eq_of_getLsbD_eq
  intro q hq
  have hr : (⟨2, ![4 * R, n]⟩ : Shape).row (ix2 i l) = i.val := rfl
  rw [bitcast_getLsbD x h _ q hq (by decide), BitVec.getLsbD_extractLsb']
  have ep : (i.val * 8 + q) / 32 = k.val := by omega
  have eq : (i.val * 8 + q) % 32 = 8 * c.val + q := by omega
  simp only [hr, eq, hq, decide_true, Bool.true_and]
  refine congrArg (fun j => (x j).getLsbD (8 * c.val + q)) (funext fun a => Fin.ext ?_)
  fin_cases a
  · rw [Shape.Bitcasts.srcIdx_row _ _ _ _ _ rfl]; exact ep
  · rw [Shape.Bitcasts.srcIdx_other _ _ _ _ _ (by show ¬ (1 + 2 = 2); decide)]; rfl

theorem read_row (arg10 : Memref sig .tc .vmem S256x128 .f32) (f : BufTy.Contents (Elt Ideal) arg10.view.ty) (b : ℕ)
    (hb : b < 32) (s : Fin 8) (l : Fin 128) :
    View.readAt (Elt Ideal) arg10.view (Rect.unit (s := S256x128) ![8 * (b % 32), 0] S8x128.size (inb_t b)).toLoadRect f (ix2 s l)
      = arg10.view.read (Elt Ideal) f (ix2 (⟨8 * b + s.val, by omega⟩ : Fin 256) l) := by
  rw [View.readAt_apply]
  refine congrArg (arg10.view.read (Elt Ideal) f) (funext fun a => Fin.ext ?_)
  fin_cases a <;> simp [LoadRect.idx, Rect.toLoadRect, Rect.unit, ix2, Nat.mod_eq_of_lt hb]

theorem read_g (arg9 : Memref sig .tc .vmem S3x256x128 .f32) (f : BufTy.Contents (Elt Ideal) arg9.view.ty) (c b : ℕ)
    (hc : c < 3) (hb : b < 32) (s : Fin 8) (l : Fin 128) :
    View.readAt (Elt Ideal) arg9.view (Rect.unit (s := S3x256x128) ![c % 3, 8 * (b % 32), 0] S1x8x128.size (inb_g c b)).toLoadRect f
        (ix3 0 s l)
      = arg9.view.read (Elt Ideal) f (ix3 (⟨c, hc⟩ : Fin 3) (⟨8 * b + s.val, by omega⟩ : Fin 256) l) := by
  rw [View.readAt_apply]
  refine congrArg (arg9.view.read (Elt Ideal) f) (funext fun a => Fin.ext ?_)
  fin_cases a <;> simp [LoadRect.idx, Rect.toLoadRect, Rect.unit, ix3, Nat.mod_eq_of_lt hb, Nat.mod_eq_of_lt hc]

theorem read_code (arg13 : Memref sig .tc .vmem S32x128 .f32) (f : BufTy.Contents (Elt Ideal) arg13.view.ty)
    (o : Fin 2 → ℕ) (h : ∀ a, o a + S1x128.size a ≤ S32x128.size a) (i : Fin 32) (ho : o = ![i.val, 0]) (l : Fin 128) :
    View.readAt (Elt Ideal) arg13.view (Rect.unit (s := S32x128) o S1x128.size h).toLoadRect f (ix2 0 l)
      = arg13.view.read (Elt Ideal) f (ix2 i l) := by
  subst ho
  rw [View.readAt_apply]
  refine congrArg (arg13.view.read (Elt Ideal) f) (funext fun a => Fin.ext ?_)
  fin_cases a <;> simp [LoadRect.idx, Rect.toLoadRect, Rect.unit, ix2]

theorem mhalf_f32 : Ideal.ofBits .f32 0xBF000000#32 = ((-(1 / 2) : ℝ) : EReal) := by
  simp [Ideal.ofBits, Ideal.ieee, -EReal.coe_mul]; norm_num

/-- The row buffer as a function of its index: the entry's column terms. -/
theorem readCov_row (arg12 : Memref sig .tc .vmem S2x16x128 .f32) (px0 px1 mx ca cb : FVec Ideal S8x128 .f32)
    (p x : ℕ) (hp : p < 2) (hx : x < 16) (l : Fin 128) :
    arg12.view.readCov (rowPieces px0 px1 mx ca cb)
        (Rect.unit (s := S2x16x128) ![p % 2, x % 16, 0] S1x1x128.size (inb_row p x)).toLoadRect (ix3 0 0 l)
      = (if p = 0 then (if x < 8 then k0_pay17 px0 mx ca else k0_pay19 px1 mx ca)
          else (if x < 8 then k0_pay18 px0 mx cb else k0_pay20 px1 mx cb)) (ix3 0 (⟨x % 8, by omega⟩ : Fin 8) l) := by
  unfold View.readCov
  rw [View.readAt_apply]
  have hi : (Rect.unit (s := S2x16x128) ![p % 2, x % 16, 0] S1x1x128.size (inb_row p x)).toLoadRect.idx (ix3 0 0 l)
      = ix3 (⟨p, hp⟩ : Fin 2) (⟨x, hx⟩ : Fin 16) l := funext fun a => Fin.ext (by
    fin_cases a <;> simp [LoadRect.idx, Rect.toLoadRect, Rect.unit, ix3, Nat.mod_eq_of_lt hp, Nat.mod_eq_of_lt hx])
  rw [hi]
  interval_cases p
  · by_cases h : x < 8
    · rw [View.read_writes_cons_unit_of_not_mem _ _ _ _ _ _ rfl 0 (by left; show 0 < 1; decide),
        View.read_writes_cons_unit_of_not_mem _ _ _ _ _ _ rfl 1 (by left; show x < 8; exact h),
        View.read_writes_cons_unit_of_not_mem _ _ _ _ _ _ rfl 0 (by left; show 0 < 1; decide),
        View.read_writes_cons_unit_of_mem _ _ _ _ _ _ (ix3 (0 : Fin 1) (⟨x % 8, by omega⟩ : Fin 8) l) rfl
          (fun a => by fin_cases a <;> simp [ix3] <;> omega)]
      simp [h]
    · rw [View.read_writes_cons_unit_of_not_mem _ _ _ _ _ _ rfl 0 (by left; show 0 < 1; decide),
        View.read_writes_cons_unit_of_mem _ _ _ _ _ _ (ix3 (0 : Fin 1) (⟨x % 8, by omega⟩ : Fin 8) l) rfl
          (fun a => by fin_cases a <;> simp [ix3] <;> omega)]
      simp [h]
  · by_cases h : x < 8
    · rw [View.read_writes_cons_unit_of_not_mem _ _ _ _ _ _ rfl 1 (by left; show x < 8; exact h),
        View.read_writes_cons_unit_of_not_mem _ _ _ _ _ _ rfl 0 (by right; show 0 + 1 ≤ 1; decide),
        View.read_writes_cons_unit_of_mem _ _ _ _ _ _ (ix3 (0 : Fin 1) (⟨x % 8, by omega⟩ : Fin 8) l) rfl
          (fun a => by fin_cases a <;> simp [ix3] <;> omega)]
      simp [h]
    · rw [View.read_writes_cons_unit_of_mem _ _ _ _ _ _ (ix3 (0 : Fin 1) (⟨x % 8, by omega⟩ : Fin 8) l) rfl
          (fun a => by fin_cases a <;> simp [ix3] <;> omega)]
      simp [h]

/-- A buffer of all pixels after every block is written. -/
theorem read_pieces (arg10 : Memref sig .tc .vmem S256x128 .f32) (f : BufTy.Contents (Elt Ideal) arg10.view.ty)
    (w : ℕ → FVec Ideal S8x128 .f32) (b : ℕ) (hb : b < 32) (s : Fin 8) (l : Fin 128) (p : Fin 256)
    (hp : p.val = 8 * b + s.val) :
    arg10.view.read (Elt Ideal) (arg10.view.writes (Elt Ideal) f (pieces w)) (ix2 p l) = w b (ix2 s l) := by
  rw [View.read_writes_apply_of_pieces (Val := Elt Ideal) arg10.view f
    (fun i => w ((i 0).val / 8) (ix2 (⟨(i 0).val % 8, Nat.mod_lt _ (by decide)⟩ : Fin 8) (⟨(i 1).val, (i 1).isLt⟩ : Fin 128)))]
  · have e1 : p.val / 8 = b := by omega
    have e2 : p.val % 8 = s.val := by omega
    simp only [ix2_0, ix2_1, e1, e2]
  · intro q hq x
    obtain ⟨b', hb', rfl⟩ := List.mem_map.mp hq
    have hlt : b' < 32 := by
      have : ∀ b ∈ order, b < 32 := by decide
      exact this b' hb'
    obtain ⟨s', l', rfl⟩ : ∃ (s' : Fin 8) (l' : Fin 128), x = ix2 s' l' := ⟨x 0, x 1, by funext a; fin_cases a <;> rfl⟩
    have e0 : ((Rect.unit (s := S256x128) ![8 * (b' % 32), 0] S8x128.size (inb_t b')).emb (ix2 s' l') 0).val = 8 * b' + s'.val := by
      show 8 * (b' % 32) + 1 * s'.val = _
      rw [Nat.mod_eq_of_lt hlt, Nat.one_mul]
    have e1 : ((Rect.unit (s := S256x128) ![8 * (b' % 32), 0] S8x128.size (inb_t b')).emb (ix2 s' l') 1).val = l'.val := by
      show 0 + 1 * l'.val = _
      omega
    have d1 : (8 * b' + s'.val) / 8 = b' := by omega
    have d2 : (8 * b' + s'.val) % 8 = s'.val := by omega
    simp only [e0, e1, d1, d2]
    pointwise
  · have hm : ∀ b < 32, b ∈ order := by decide
    refine ⟨_, List.mem_map.mpr ⟨b, hm b hb, rfl⟩, ?_⟩
    rw [Rect.mem_set_unit]
    intro a
    fin_cases a
    · simp [Nat.mod_eq_of_lt hb]; omega
    · simp

/-- What the loops read of a block, at a lane, is `D` up to `kg` entries. -/
structure Ins (D : Lane) (kg : ℕ) (l : Fin 128) (arg4 : Memref sig .tc .vmem S1x8x40x128 .i32)
    (arg9 : Memref sig .tc .vmem S3x256x128 .f32) (X_arg4 : BufTy.Contents (Elt Ideal) arg4.view.ty)
    (X_arg9 : BufTy.Contents (Elt Ideal) arg9.view.ty) (v419 v423 v427 v431 : FVec Ideal S8x128 .f32)
    (v433 : FVec Ideal S1x128 .f32) : Prop where
  prm : ∀ (j : Fin 8) (k : Fin 40), j.val < 7 → k.val < kg →
    Ideal.ofBits .f32 (arg4.view.read (Elt Ideal) X_arg4 (ix4 0 j k l)) = (D.prm j.val k.val : EReal)
  code : ∀ (k : Fin 40) (c : Fin 4), c.val < 3 → k.val < kg →
    Ideal.ofBits .fp8e4m3 ((arg4.view.read (Elt Ideal) X_arg4 (ix4 0 7 k l) : BitVec 32).extractLsb' (8 * c.val) 8)
      = (D.code k.val c.val : EReal)
  g : ∀ (c : Fin 3) (p : Fin 256), arg9.view.read (Elt Ideal) X_arg9 (ix3 c p l) = (D.g c.val p.val : EReal)
  px0 : ∀ s : Fin 8, v419 (ix2 s l) = ((D.x0 + ((s.val : ℝ) + 1 / 2) : ℝ) : EReal)
  px1 : ∀ s : Fin 8, v423 (ix2 s l) = ((D.x0 + (((8 + s.val : ℕ) : ℝ) + 1 / 2) : ℝ) : EReal)
  py0 : ∀ s : Fin 8, v427 (ix2 s l) = ((D.y0 + ((s.val : ℝ) + 1 / 2) : ℝ) : EReal)
  py1 : ∀ s : Fin 8, v431 (ix2 s l) = ((D.y0 + (((8 + s.val : ℕ) : ℝ) + 1 / 2) : ℝ) : EReal)
  xc : v433 (ix2 0 l) = ((D.x0 + 8 : ℝ) : EReal)

theorem k0_lt {kg ci : ℕ} (h : ci < (kg + 7) / 8) : k0 kg ci < kg := by unfold k0; omega

theorem kk_lt {kg ci i : ℕ} (hi : i < nk kg ci) : kk kg ci i < 8 ∧ k0 kg ci + kk kg ci i < kg := by
  unfold kk nk at *; omega

theorem reads (arg4 : Memref sig .tc .vmem S1x8x40x128 .i32) (arg9 : Memref sig .tc .vmem S3x256x128 .f32)
    (arg10 : Memref sig .tc .vmem S256x128 .f32) (arg11 : Memref sig .tc .vmem S256x128 .f32)
    (arg12 : Memref sig .tc .vmem S2x16x128 .f32) (arg13 : Memref sig .tc .vmem S32x128 .f32)
    (v47 : Elt Ideal .i32) (k0_hw1 : k0_chk1 v47) (v419 v423 v427 v431 : FVec Ideal S8x128 .f32)
    (v433 : FVec Ideal S1x128 .f32)
    (k0_t1 : Fin (k0_t1_loop v47).trips) (X_arg4 : BufTy.Contents (Elt Ideal) arg4.view.ty)
    (X_arg9 : BufTy.Contents (Elt Ideal) arg9.view.ty) (X_arg13 : BufTy.Contents (Elt Ideal) arg13.view.ty)
    (k : Fin (k0_t2_loop v47 k0_t1).trips) (f10 : BufTy.Contents (Elt Ideal) arg10.view.ty)
    (f11 : BufTy.Contents (Elt Ideal) arg11.view.ty)
    (D : Lane) (kg : Fin 41) (hv : v47 = BitVec.ofNat 32 kg.val) (l : Fin 128)
    (hI : Ins D kg.val l arg4 arg9 X_arg4 X_arg9 v419 v423 v427 v431 v433)
    (h13 : ∀ (i : Fin 32) (c : Fin 3), i.val = 4 * kk kg.val k0_t1.val k.val + c.val →
      arg13.view.read (Elt Ideal) X_arg13 (ix2 i l) = (D.code (k0 kg.val k0_t1.val + kk kg.val k0_t1.val k.val) c.val : EReal))
    (t r : ℕ → ℝ) (h10 : ∀ p : Fin 256, arg10.view.read (Elt Ideal) f10 (ix2 p l) = (t p.val : EReal))
    (h11 : ∀ p : Fin 256, arg11.view.read (Elt Ideal) f11 (ix2 p l) = (r p.val : EReal)) :
    Reads (ld arg4 arg9 arg10 arg11 arg12 arg13 v47 k0_hw1 v419 v423 v427 v431 v433 k0_t1 X_arg4 X_arg9 X_arg13 k f10 f11) l (D.ent (k0 kg.val k0_t1.val + kk kg.val k0_t1.val k.val) t r) := by
  have hk2 : k.val < nk kg.val k0_t1.val := by rw [← trips2 hv]; exact k.isLt
  obtain ⟨hkk, hke⟩ := kk_lt hk2
  have hkg : kg.val ≤ 40 := by omega
  set e := k0 kg.val k0_t1.val + kk kg.val k0_t1.val k.val with he
  have P : ∀ (j : Fin 8) (o : Fin 4 → ℕ) (h : ∀ a, o a + S1x1x1x128.size a ≤ S1x8x40x128.size a), j.val < 7 →
      o = ![0, j.val, e, 0] → ∀ s : Fin 8, prow arg4 X_arg4 o h (ix2 s l) = (D.prm j.val e : EReal) := fun j o h hj ho s => by
    rw [prow_apply arg4 X_arg4 o h j ⟨e, by omega⟩ ho s l, hI.prm j ⟨e, by omega⟩ hj hke]
  have mx := P 0 _ (k0_off7_inb v47 k0_hw1 k0_t1 k) (by decide) (off7 hv k0_t1 k)
  have my := P 1 _ (k0_off8_inb v47 k0_hw1 k0_t1 k) (by decide) (off8 hv k0_t1 k)
  have ca := P 2 _ (k0_off9_inb v47 k0_hw1 k0_t1 k) (by decide) (off9 hv k0_t1 k)
  have cb := P 3 _ (k0_off10_inb v47 k0_hw1 k0_t1 k) (by decide) (off10 hv k0_t1 k)
  have cc := P 4 _ (k0_off11_inb v47 k0_hw1 k0_t1 k) (by decide) (off11 hv k0_t1 k)
  have op := P 5 _ (k0_off12_inb v47 k0_hw1 k0_t1 k) (by decide) (off12 hv k0_t1 k)
  have cs := P 6 _ (k0_off13_inb v47 k0_hw1 k0_t1 k) (by decide) (off13 hv k0_t1 k)
  have C : ∀ (c : Fin 3) (o : Fin 2 → ℕ) (h : ∀ a, o a + S1x128.size a ≤ S32x128.size a),
      o = ![4 * kk kg.val k0_t1.val k.val + c.val, 0] → ∀ s : Fin 8,
      k0_pay23 (prow arg4 X_arg4 (k0_off13 v47 k0_t1 k) (k0_off13_inb v47 k0_hw1 k0_t1 k))
        (View.readAt (Elt Ideal) arg13.view (Rect.unit (s := S32x128) o S1x128.size h).toLoadRect X_arg13) (ix2 s l)
      = ((D.code e c.val * D.prm 6 e : ℝ) : EReal) := fun c o h ho s => by
    have hc : c.val < 3 := c.isLt
    have h1 := read_code arg13 X_arg13 o h ⟨4 * kk kg.val k0_t1.val k.val + c.val, by omega⟩ ho l
    rw [h13 _ c rfl] at h1
    have h2 : ∀ (v : FVec Ideal S8x128 .f32) (w : FVec Ideal S1x128 .f32), k0_pay23 v w (ix2 s l) = w (ix2 0 l) * v (ix2 s l) := fun v w => by pointwise [k0_pay23]
    refine (h2 _ _).trans ?_
    rw [cs s]
    refine (congrArg (· * (D.prm 6 e : EReal)) h1).trans ?_
    norm_cast
  refine
    { op := op
      dy := ?_, cy := ?_
      c0 := C 0 _ _ (off14 hv k0_t1 k 0)
      c1 := C 1 _ _ (off14 hv k0_t1 k 1)
      c2 := C 2 _ _ (off14 hv k0_t1 k 2)
      hx := ?_, row0 := ?_, row1 := ?_
      g := ?_, t := ?_, r := ?_ }
  · intro h hh s
    have h1 : ∀ v w : FVec Ideal S8x128 .f32, subf v w (ix2 s l) = v (ix2 s l) - w (ix2 s l) := fun v w => by pointwise
    interval_cases h
    · show subf _ _ _ = _
      rw [h1, my s, hI.py0 s]
      simp [Lane.ent, Ent.dy]
    · show subf _ _ _ = _
      rw [h1, my s, hI.py1 s]
      simp [Lane.ent, Ent.dy]
  · intro h hh s
    have h1 : ∀ v w u : FVec Ideal S8x128 .f32, k0_pay21 v w u (ix2 s l)
        = Ideal.ofBits .f32 0xBF000000#32 * u (ix2 s l) * (w (ix2 s l) - v (ix2 s l)) * (w (ix2 s l) - v (ix2 s l)) :=
      fun v w u => by pointwise [k0_pay21, k0_pay11, k0_pay15]
    interval_cases h
    · show k0_pay21 _ _ _ _ = _
      rw [h1, my s, cc s, hI.py0 s, mhalf_f32]
      norm_cast
      simp [Lane.ent, Ent.dy]
    · show k0_pay21 _ _ _ _ = _
      rw [h1, my s, cc s, hI.py1 s, mhalf_f32]
      norm_cast
  · intro s
    have h1 : ∀ (v : FVec Ideal S8x128 .f32) (w : FVec Ideal S1x128 .f32),
        subf v (broadcastTo S8x128 w broadcasts_S1x128_S8x128) (ix2 s l) = v (ix2 s l) - w (ix2 0 l) := fun v w => by pointwise
    show subf _ _ _ = _
    rw [h1, mx s, hI.xc]
    norm_cast
  · intro x hx
    show View.readCov _ _ _ _ = _
    rw [readCov_row arg12 _ _ _ _ _ 0 x (by decide) hx l]
    have h1 : ∀ (v w u : FVec Ideal S8x128 .f32) (s : Fin 8), k0_pay17 v w u (ix3 0 s l)
        = Ideal.ofBits .f32 0xBF000000#32 * u (ix2 s l) * (w (ix2 s l) - v (ix2 s l)) * (w (ix2 s l) - v (ix2 s l)) :=
      fun v w u s => by pointwise [k0_pay17, k0_pay10, k0_pay13]
    have h2 : ∀ (v w u : FVec Ideal S8x128 .f32), k0_pay19 v w u = k0_pay17 v w u := fun v w u => rfl
    rw [if_pos rfl]
    by_cases h : x < 8
    · rw [if_pos h, h1, mx, ca, hI.px0, mhalf_f32]
      simp only [Nat.mod_eq_of_lt h]
      norm_cast
    · rw [if_neg h, h2, h1, mx, ca, hI.px1, mhalf_f32]
      have hh : 8 + x % 8 = x := by omega
      simp only [hh]
      norm_cast
  · intro x hx
    show View.readCov _ _ _ _ = _
    rw [readCov_row arg12 _ _ _ _ _ 1 x (by decide) hx l]
    have h1 : ∀ (v w u : FVec Ideal S8x128 .f32) (s : Fin 8), k0_pay18 v w u (ix3 0 s l)
        = (0 - u (ix2 s l)) * (w (ix2 s l) - v (ix2 s l)) :=
      fun v w u s => by pointwise [k0_pay18, k0_pay12, k0_pay13]
    have h2 : ∀ (v w u : FVec Ideal S8x128 .f32), k0_pay20 v w u = k0_pay18 v w u := fun v w u => rfl
    rw [if_neg (by decide)]
    by_cases h : x < 8
    · rw [if_pos h, h1, mx, cb, hI.px0, zero_sub]
      simp only [Nat.mod_eq_of_lt h]
      norm_cast
    · rw [if_neg h, h2, h1, mx, cb, hI.px1, zero_sub]
      have hh : 8 + x % 8 = x := by omega
      simp only [hh]
      norm_cast
  · intro c hc b hb s
    show View.readAt _ _ _ _ _ = _
    rw [read_g arg9 X_arg9 c b hc hb s l, hI.g]
    rfl
  · intro b hb s
    show View.readAt _ _ _ _ _ = _
    rw [read_row arg10 f10 b hb s l, h10]
    rfl
  · intro b hb s
    show View.readAt _ _ _ _ _ = _
    rw [read_row arg11 f11 b hb s l, h11]
    rfl

-- MORE

end Cert.KernelIdeal.Run
-- ==== Proof.Start.lean ====
/- What the body starts its loops from: the decoded gradients, the last transmittances, the light from the background,
   and the columns and rows of the pixels. -/
module

public import proofs.«01_k».proof.Proof.Run
public import proofs.«01_k».proof.Proof.Trip

@[expose] public section

set_option maxRecDepth 65536
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F]

/-- The count of entries, as the body loads it. -/
abbrev count (i : grid0.Coords) (arg1 : Memref sig .tc .smem S720 .i32) (X_arg1 : BufTy.Contents (Elt F) arg1.view.ty) : Elt F .i32 :=
  View.readAt (Elt F) arg1.view (Rect.unit (s := S720) (k0_off1 i) S1.size (k0_off1_inb i)).toLoadRect X_arg1 (Shape.Idx.first (by show 0 < S1.numel; decide))

/-- The scale of the gradients. -/
abbrev scale (i : grid0.Coords) (arg3 : Memref sig .tc .smem S9 .f32) (X_arg3 : BufTy.Contents (Elt F) arg3.view.ty) : Elt F .f32 :=
  View.readAt (Elt F) arg3.view (Rect.unit (s := S9) (k0_off2 i) S1.size (k0_off2_inb i)).toLoadRect X_arg3 (Shape.Idx.first (by show 0 < S1.numel; decide))

/-- The background's three channels. -/
abbrev back0 (i : grid0.Coords) (arg2 : Memref sig .tc .smem S9x3 .f32) (X_arg2 : BufTy.Contents (Elt F) arg2.view.ty) : Elt F .f32 :=
  View.readAt (Elt F) arg2.view (Rect.unit (s := S9x3) (k0_off3 i) S1x1.size (k0_off3_inb i)).toLoadRect X_arg2 (Shape.Idx.first (by show 0 < S1x1.numel; decide))
@[inherit_doc back0]
abbrev back1 (i : grid0.Coords) (arg2 : Memref sig .tc .smem S9x3 .f32) (X_arg2 : BufTy.Contents (Elt F) arg2.view.ty) : Elt F .f32 :=
  View.readAt (Elt F) arg2.view (Rect.unit (s := S9x3) (k0_off4 i) S1x1.size (k0_off4_inb i)).toLoadRect X_arg2 (Shape.Idx.first (by show 0 < S1x1.numel; decide))
@[inherit_doc back0]
abbrev back2 (i : grid0.Coords) (arg2 : Memref sig .tc .smem S9x3 .f32) (X_arg2 : BufTy.Contents (Elt F) arg2.view.ty) : Elt F .f32 :=
  View.readAt (Elt F) arg2.view (Rect.unit (s := S9x3) (k0_off5 i) S1x1.size (k0_off5_inb i)).toLoadRect X_arg2 (Shape.Idx.first (by show 0 < S1x1.numel; decide))

/-- The corners of the blocks. -/
abbrev org0 (arg5 : Memref sig .tc .vmem S1x2x128 .f32) (X_arg5 : BufTy.Contents (Elt F) arg5.view.ty) : Vec F S1x1x128 .f32 :=
  View.readAt (Elt F) arg5.view (Rect.unit (s := S1x2x128) ![0, 0, 0] S1x1x128.size inb_S1x2x128_S1x1x128_0_0_0).toLoadRect X_arg5
@[inherit_doc org0]
abbrev org1 (arg5 : Memref sig .tc .vmem S1x2x128 .f32) (X_arg5 : BufTy.Contents (Elt F) arg5.view.ty) : Vec F S1x1x128 .f32 :=
  View.readAt (Elt F) arg5.view (Rect.unit (s := S1x2x128) ![0, 1, 0] S1x1x128.size inb_S1x2x128_S1x1x128_0_1_0).toLoadRect X_arg5

theorem inb6 (c n : ℕ) (a : Fin 4) : ![0, c % 3, 8 * (n % 8), 0] a + S1x1x8x128.size a ≤ S1x3x64x128.size a := by
  have := Nat.mod_lt n (show 0 < 8 by decide)
  have := Nat.mod_lt c (show 0 < 3 by decide)
  match a with
  | 0 => show 0 + 1 ≤ 1; omega
  | 1 => show c % 3 + 1 ≤ 3; omega
  | 2 => show 8 * (n % 8) + 8 ≤ 64; omega
  | 3 => show 0 + 128 ≤ 128; omega

theorem inb7 (n : ℕ) (a : Fin 3) : ![0, 32 * (n % 8), 0] a + S1x32x128.size a ≤ S1x256x128.size a := by
  have := Nat.mod_lt n (show 0 < 8 by decide)
  match a with
  | 0 => show 0 + 1 ≤ 1; omega
  | 1 => show 32 * (n % 8) + 32 ≤ 256; omega
  | 2 => show 0 + 128 ≤ 128; omega

theorem inb9 (c n : ℕ) (a : Fin 3) : ![c % 3, 32 * (n % 8), 0] a + S1x32x128.size a ≤ S3x256x128.size a := by
  have := Nat.mod_lt n (show 0 < 8 by decide)
  have := Nat.mod_lt c (show 0 < 3 by decide)
  match a with
  | 0 => show c % 3 + 1 ≤ 3; omega
  | 1 => show 32 * (n % 8) + 32 ≤ 256; omega
  | 2 => show 0 + 128 ≤ 128; omega

theorem inb10 (n : ℕ) (a : Fin 2) : ![32 * (n % 8), 0] a + S32x128.size a ≤ S256x128.size a := by
  have := Nat.mod_lt n (show 0 < 8 by decide)
  match a with
  | 0 => show 32 * (n % 8) + 32 ≤ 256; omega
  | 1 => show 0 + 128 ≤ 128; omega

/-- A channel's gradients over thirty-two pixels. -/
abbrev grad (arg6 : Memref sig .tc .vmem S1x3x64x128 .i32) (X_arg6 : BufTy.Contents (Elt F) arg6.view.ty) (c n : ℕ) : FVec F S32x128 .f32 :=
  k0_pay2705 (View.readAt (Elt F) arg6.view (Rect.unit (s := S1x3x64x128) ![0, c % 3, 8 * (n % 8), 0] S1x1x8x128.size (inb6 c n)).toLoadRect X_arg6)

/-- The last transmittances of thirty-two pixels. -/
abbrev last (arg7 : Memref sig .tc .vmem S1x256x128 .i32) (X_arg7 : BufTy.Contents (Elt F) arg7.view.ty) (n : ℕ) : FVec F S32x128 .f32 :=
  k0_pay2713 (View.readAt (Elt F) arg7.view (Rect.unit (s := S1x256x128) ![0, 32 * (n % 8), 0] S1x32x128.size (inb7 n)).toLoadRect X_arg7)

/-- The light from the background that reaches them. -/
abbrev lit (i : grid0.Coords) (arg2 : Memref sig .tc .smem S9x3 .f32) (arg6 : Memref sig .tc .vmem S1x3x64x128 .i32)
    (arg7 : Memref sig .tc .vmem S1x256x128 .i32) (X_arg2 : BufTy.Contents (Elt F) arg2.view.ty)
    (X_arg6 : BufTy.Contents (Elt F) arg6.view.ty) (X_arg7 : BufTy.Contents (Elt F) arg7.view.ty) (n : ℕ) : FVec F S32x128 .f32 :=
  mulf (last arg7 X_arg7 n) (addf (addf (mulf (grad arg6 X_arg6 0 n) (broadcast S32x128 (back0 i arg2 X_arg2)))
    (mulf (grad arg6 X_arg6 1 n) (broadcast S32x128 (back1 i arg2 X_arg2))))
    (mulf (grad arg6 X_arg6 2 n) (broadcast S32x128 (back2 i arg2 X_arg2))))

/-- The gradients, as pieces of their buffer. -/
def pieces9 (arg6 : Memref sig .tc .vmem S1x3x64x128 .i32) (X_arg6 : BufTy.Contents (Elt F) arg6.view.ty) :
    List (View.Piece (Elt F) S3x256x128 .f32) :=
  [(2, 7), (1, 7), (0, 7), (2, 6), (1, 6), (0, 6), (2, 5), (1, 5), (0, 5), (2, 4), (1, 4), (0, 4), (2, 3), (1, 3), (0, 3),
    (2, 2), (1, 2), (0, 2), (2, 1), (1, 1), (0, 1), (2, 0), (1, 0), (0, 0)].map fun (e : ℕ × ℕ) =>
    ⟨Rect.unit (s := S3x256x128) ![e.1 % 3, 32 * (e.2 % 8), 0] S1x32x128.size (inb9 e.1 e.2),
      shapeCast S1x32x128 (grad arg6 X_arg6 e.1 e.2) shapeCasts_S32x128_S1x32x128⟩

/-- A value per thirty-two pixels, as pieces of a buffer of all pixels. -/
def eighths (f : ℕ → FVec F S32x128 .f32) : List (View.Piece (Elt F) S256x128 .f32) :=
  [7, 6, 5, 4, 3, 2, 1, 0].map fun n => ⟨Rect.unit (s := S256x128) ![32 * (n % 8), 0] S32x128.size (inb10 n),
    shapeCast S32x128 (f n) shapeCasts_S32x128_S32x128⟩

/-- The sums buffer, cleared at the first point. -/
def sums0 (i : grid0.Coords) (arg14 : Memref sig .tc .vmem S9x64x128 .f32) (f14 : BufTy.Contents (Elt F) arg14.view.ty) :
    BufTy.Contents (Elt F) arg14.view.ty :=
  if Scalar.cmpi .ne (Scalar.extui (Scalar.cmpi .eq (BitVec.ofNat 32 (i 0).val) 0#32) : BitVec 32) 0#32 = 1#1 then
    arg14.view.writes (Elt F) f14 [⟨Rect.unit (s := S9x64x128) ![0, 0, 0] ![9, 64, 128] inb_S9x64x128_S9x64x128_0_0_0, k0_pay2795⟩]
  else f14

/-- The body's output block is the outer loop's, from these. -/
theorem body_out (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (hchk : ∀ h, k0_chk1 (arg1.view.readAt (Elt F) (Rect.unit (s := S720) (k0_off1 i) S1.size (k0_off1_inb i)).toLoadRect X_arg1 (Shape.Idx.first h))) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (body (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg1 X_arg2 X_arg3 X_arg4 X_arg5 X_arg6 X_arg7 hchk).1 f8 f9 f10 f11 f12 f13 f14 = (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (count i arg1 X_arg1) (hchk _) (scale i arg3 X_arg3) (k0_pay2790 (org0 arg5 X_arg5)) (k0_pay2791 (org0 arg5 X_arg5)) (k0_pay2792 (org1 arg5 X_arg5)) (k0_pay2793 (org1 arg5 X_arg5)) (k0_pay2794 (org0 arg5 X_arg5)) X_arg4 (arg9.view.writes (Elt F) arg9.view.junk (pieces9 arg6 X_arg6)) (f8, arg10.view.writes (Elt F) arg10.view.junk (eighths (last arg7 X_arg7)), arg11.view.writes (Elt F) arg11.view.junk (eighths (lit i arg2 arg6 arg7 X_arg2 X_arg6 X_arg7)), f12, f13, sums0 i arg14 f14) (k0_t1_loop (count i arg1 X_arg1)).trips).1 := by
  refine Eq.trans ?_ (sel_eq (fun n => (st1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 (count i arg1 X_arg1) (hchk _) (scale i arg3 X_arg3) (k0_pay2790 (org0 arg5 X_arg5)) (k0_pay2791 (org0 arg5 X_arg5)) (k0_pay2792 (org1 arg5 X_arg5)) (k0_pay2793 (org1 arg5 X_arg5)) (k0_pay2794 (org0 arg5 X_arg5)) X_arg4 (arg9.view.writes (Elt F) arg9.view.junk (pieces9 arg6 X_arg6)) (f8, arg10.view.writes (Elt F) arg10.view.junk (eighths (last arg7 X_arg7)), arg11.view.writes (Elt F) arg11.view.junk (eighths (lit i arg2 arg6 arg7 X_arg2 X_arg6 X_arg7)), f12, f13, sums0 i arg14 f14) n).1) f8 rfl _)
  unfold body
  sl_kernel_rfl

end Cert.KernelIdeal.Run
-- ==== Proof.Nine.lean ====
/- Nine pieces, one per result, all at one row of a buffer: what the buffer reads after them. -/
module

public import proofs.«01_k».proof.Proof.Trip

@[expose] public section

noncomputable section

namespace Cert.KernelIdeal.Run

open Cert.KernelIdeal Cert.KernelIdeal.Gen Cert.Splat
open Idealize.ShloMosaic Idealize.ShloMosaic.TcCoe
open Idealize.SL.Sem

/-- The sums buffer: a row the pieces cover. -/
theorem nine14_mem (arg : Memref sig .tc .vmem S9x64x128 .f32) (f : BufTy.Contents (Elt Ideal) arg.view.ty)
    (w : ℕ → FVec Ideal S8x128 .f32) (R : ℕ) (o0 o1 o2 o3 o4 o5 o6 o7 o8 : Fin 3 → ℕ)
    (i0 : ∀ a, o0 a + S1x8x128.size a ≤ S9x64x128.size a) (e0 : o0 = ![0, R, 0])
    (i1 : ∀ a, o1 a + S1x8x128.size a ≤ S9x64x128.size a) (e1 : o1 = ![1, R, 0])
    (i2 : ∀ a, o2 a + S1x8x128.size a ≤ S9x64x128.size a) (e2 : o2 = ![2, R, 0])
    (i3 : ∀ a, o3 a + S1x8x128.size a ≤ S9x64x128.size a) (e3 : o3 = ![3, R, 0])
    (i4 : ∀ a, o4 a + S1x8x128.size a ≤ S9x64x128.size a) (e4 : o4 = ![4, R, 0])
    (i5 : ∀ a, o5 a + S1x8x128.size a ≤ S9x64x128.size a) (e5 : o5 = ![5, R, 0])
    (i6 : ∀ a, o6 a + S1x8x128.size a ≤ S9x64x128.size a) (e6 : o6 = ![6, R, 0])
    (i7 : ∀ a, o7 a + S1x8x128.size a ≤ S9x64x128.size a) (e7 : o7 = ![7, R, 0])
    (i8 : ∀ a, o8 a + S1x8x128.size a ≤ S9x64x128.size a) (e8 : o8 = ![8, R, 0])
    (n : Fin 9) (p : Fin 64) (s : Fin 8) (hp : p.val = R + s.val) (l : Fin 128) :
    arg.view.read (Elt Ideal) (arg.view.writes (Elt Ideal) f [⟨Rect.unit (s := S9x64x128) o8 S1x8x128.size i8, shapeCast S1x8x128 (w 8) shapeCasts_S8x128_S1x8x128⟩,
      ⟨Rect.unit (s := S9x64x128) o7 S1x8x128.size i7, shapeCast S1x8x128 (w 7) shapeCasts_S8x128_S1x8x128⟩,
      ⟨Rect.unit (s := S9x64x128) o6 S1x8x128.size i6, shapeCast S1x8x128 (w 6) shapeCasts_S8x128_S1x8x128⟩,
      ⟨Rect.unit (s := S9x64x128) o5 S1x8x128.size i5, shapeCast S1x8x128 (w 5) shapeCasts_S8x128_S1x8x128⟩,
      ⟨Rect.unit (s := S9x64x128) o4 S1x8x128.size i4, shapeCast S1x8x128 (w 4) shapeCasts_S8x128_S1x8x128⟩,
      ⟨Rect.unit (s := S9x64x128) o3 S1x8x128.size i3, shapeCast S1x8x128 (w 3) shapeCasts_S8x128_S1x8x128⟩,
      ⟨Rect.unit (s := S9x64x128) o2 S1x8x128.size i2, shapeCast S1x8x128 (w 2) shapeCasts_S8x128_S1x8x128⟩,
      ⟨Rect.unit (s := S9x64x128) o1 S1x8x128.size i1, shapeCast S1x8x128 (w 1) shapeCasts_S8x128_S1x8x128⟩,
      ⟨Rect.unit (s := S9x64x128) o0 S1x8x128.size i0, shapeCast S1x8x128 (w 0) shapeCasts_S8x128_S1x8x128⟩]) (ix3 n p l) = w n.val (ix2 s l) := by
  have hx : ∀ v : FVec Ideal S8x128 .f32, shapeCast S1x8x128 v shapeCasts_S8x128_S1x8x128 (ix3 0 s l) = v (ix2 s l) :=
    fun v => by pointwise
  fin_cases n
  · rw [View.read_writes_cons_unit_of_not_mem _ _ _ _ _ _ e8 0 (by left; show 0 < 8; decide),
      View.read_writes_cons_unit_of_not_mem _ _ _ _ _ _ e7 0 (by left; show 0 < 7; decide),
      View.read_writes_cons_unit_of_not_mem _ _ _ _ _ _ e6 0 (by left; show 0 < 6; decide),
      View.read_writes_cons_unit_of_not_mem _ _ _ _ _ _ e5 0 (by left; show 0 < 5; decide),
      View.read_writes_cons_unit_of_not_mem _ _ _ _ _ _ e4 0 (by left; show 0 < 4; decide),
      View.read_writes_cons_unit_of_not_mem _ _ _ _ _ _ e3 0 (by left; show 0 < 3; decide),
      View.read_writes_cons_unit_of_not_mem _ _ _ _ _ _ e2 0 (by left; show 0 < 2; decide),
      View.read_writes_cons_unit_of_not_mem _ _ _ _ _ _ e1 0 (by left; show 0 < 1; decide),
      View.read_writes_cons_unit_of_mem _ _ _ _ _ _ (ix3 (0 : Fin 1) s l) e0
        (fun a => by fin_cases a <;> simp [ix3, hp])]
    exact hx _
  · rw [View.read_writes_cons_unit_of_not_mem _ _ _ _ _ _ e8 0 (by left; show 1 < 8; decide),
      View.read_writes_cons_unit_of_not_mem _ _ _ _ _ _ e7 0 (by left; show 1 < 7; decide),
      View.read_writes_cons_unit_of_not_mem _ _ _ _ _ _ e6 0 (by left; show 1 < 6; decide),
      View.read_writes_cons_unit_of_not_mem _ _ _ _ _ _ e5 0 (by left; show 1 < 5; decide),
      View.read_writes_cons_unit_of_not_mem _ _ _ _ _ _ e4 0 (by left; show 1 < 4; decide),
      View.read_writes_cons_unit_of_not_mem _ _ _ _ _ _ e3 0 (by left; show 1 < 3; decide),
      View.read_writes_cons_unit_of_not_mem _ _ _ _ _ _ e2 0 (by left; show 1 < 2; decide),
      View.read_writes_cons_unit_of_mem _ _ _ _ _ _ (ix3 (0 : Fin 1) s l) e1
        (fun a => by fin_cases a <;> simp [ix3, hp])]
    exact hx _
  · rw [View.read_writes_cons_unit_of_not_mem _ _ _ _ _ _ e8 0 (by left; show 2 < 8; decide),
      View.read_writes_cons_unit_of_not_mem _ _ _ _ _ _ e7 0 (by left; show 2 < 7; decide),
      View.read_writes_cons_unit_of_not_mem _ _ _ _ _ _ e6 0 (by left; show 2 < 6; decide),
      View.read_writes_cons_unit_of_not_mem _ _ _ _ _ _ e5 0 (by left; show 2 < 5; decide),
      View.read_writes_cons_unit_of_not_mem _ _ _ _ _ _ e4 0 (by left; show 2 < 4; decide),
      View.read_writes_cons_unit_of_not_mem _ _ _ _ _ _ e3 0 (by left; show 2 < 3; decide),
      View.read_writes_cons_unit_of_mem _ _ _ _ _ _ (ix3 (0 : Fin 1) s l) e2
        (fun a => by fin_cases a <;> simp [ix3, hp])]
    exact hx _
  · rw [View.read_writes_cons_unit_of_not_mem _ _ _ _ _ _ e8 0 (by left; show 3 < 8; decide),
      View.read_writes_cons_unit_of_not_mem _ _ _ _ _ _ e7 0 (by left; show 3 < 7; decide),
      View.read_writes_cons_unit_of_not_mem _ _ _ _ _ _ e6 0 (by left; show 3 < 6; decide),
      View.read_writes_cons_unit_of_not_mem _ _ _ _ _ _ e5 0 (by left; show 3 < 5; decide),
      View.read_writes_cons_unit_of_not_mem _ _ _ _ _ _ e4 0 (by left; show 3 < 4; decide),
      View.read_writes_cons_unit_of_mem _ _ _ _ _ _ (ix3 (0 : Fin 1) s l) e3
        (fun a => by fin_cases a <;> simp [ix3, hp])]
    exact hx _
  · rw [View.read_writes_cons_unit_of_not_mem _ _ _ _ _ _ e8 0 (by left; show 4 < 8; decide),
      View.read_writes_cons_unit_of_not_mem _ _ _ _ _ _ e7 0 (by left; show 4 < 7; decide),
      View.read_writes_cons_unit_of_not_mem _ _ _ _ _ _ e6 0 (by left; show 4 < 6; decide),
      View.read_writes_cons_unit_of_not_mem _ _ _ _ _ _ e5 0 (by left; show 4 < 5; decide),
      View.read_writes_cons_unit_of_mem _ _ _ _ _ _ (ix3 (0 : Fin 1) s l) e4
        (fun a => by fin_cases a <;> simp [ix3, hp])]
    exact hx _
  · rw [View.read_writes_cons_unit_of_not_mem _ _ _ _ _ _ e8 0 (by left; show 5 < 8; decide),
      View.read_writes_cons_unit_of_not_mem _ _ _ _ _ _ e7 0 (by left; show 5 < 7; decide),
      View.read_writes_cons_unit_of_not_mem _ _ _ _ _ _ e6 0 (by left; show 5 < 6; decide),
      View.read_writes_cons_unit_of_mem _ _ _ _ _ _ (ix3 (0 : Fin 1) s l) e5
        (fun a => by fin_cases a <;> simp [ix3, hp])]
    exact hx _
  · rw [View.read_writes_cons_unit_of_not_mem _ _ _ _ _ _ e8 0 (by left; show 6 < 8; decide),
      View.read_writes_cons_unit_of_not_mem _ _ _ _ _ _ e7 0 (by left; show 6 < 7; decide),
      View.read_writes_cons_unit_of_mem _ _ _ _ _ _ (ix3 (0 : Fin 1) s l) e6
        (fun a => by fin_cases a <;> simp [ix3, hp])]
    exact hx _
  · rw [View.read_writes_cons_unit_of_not_mem _ _ _ _ _ _ e8 0 (by left; show 7 < 8; decide),
      View.read_writes_cons_unit_of_mem _ _ _ _ _ _ (ix3 (0 : Fin 1) s l) e7
        (fun a => by fin_cases a <;> simp [ix3, hp])]
    exact hx _
  · rw [View.read_writes_cons_unit_of_mem _ _ _ _ _ _ (ix3 (0 : Fin 1) s l) e8
        (fun a => by fin_cases a <;> simp [ix3, hp])]
    exact hx _

/-- The sums buffer: a row they leave. -/
theorem nine14_not_mem (arg : Memref sig .tc .vmem S9x64x128 .f32) (f : BufTy.Contents (Elt Ideal) arg.view.ty)
    (w : ℕ → FVec Ideal S8x128 .f32) (R : ℕ) (o0 o1 o2 o3 o4 o5 o6 o7 o8 : Fin 3 → ℕ)
    (i0 : ∀ a, o0 a + S1x8x128.size a ≤ S9x64x128.size a) (e0 : o0 = ![0, R, 0])
    (i1 : ∀ a, o1 a + S1x8x128.size a ≤ S9x64x128.size a) (e1 : o1 = ![1, R, 0])
    (i2 : ∀ a, o2 a + S1x8x128.size a ≤ S9x64x128.size a) (e2 : o2 = ![2, R, 0])
    (i3 : ∀ a, o3 a + S1x8x128.size a ≤ S9x64x128.size a) (e3 : o3 = ![3, R, 0])
    (i4 : ∀ a, o4 a + S1x8x128.size a ≤ S9x64x128.size a) (e4 : o4 = ![4, R, 0])
    (i5 : ∀ a, o5 a + S1x8x128.size a ≤ S9x64x128.size a) (e5 : o5 = ![5, R, 0])
    (i6 : ∀ a, o6 a + S1x8x128.size a ≤ S9x64x128.size a) (e6 : o6 = ![6, R, 0])
    (i7 : ∀ a, o7 a + S1x8x128.size a ≤ S9x64x128.size a) (e7 : o7 = ![7, R, 0])
    (i8 : ∀ a, o8 a + S1x8x128.size a ≤ S9x64x128.size a) (e8 : o8 = ![8, R, 0])
    (n : Fin 9) (p : Fin 64) (hp : p.val < R ∨ R + 8 ≤ p.val) (l : Fin 128) :
    arg.view.read (Elt Ideal) (arg.view.writes (Elt Ideal) f [⟨Rect.unit (s := S9x64x128) o8 S1x8x128.size i8, shapeCast S1x8x128 (w 8) shapeCasts_S8x128_S1x8x128⟩,
      ⟨Rect.unit (s := S9x64x128) o7 S1x8x128.size i7, shapeCast S1x8x128 (w 7) shapeCasts_S8x128_S1x8x128⟩,
      ⟨Rect.unit (s := S9x64x128) o6 S1x8x128.size i6, shapeCast S1x8x128 (w 6) shapeCasts_S8x128_S1x8x128⟩,
      ⟨Rect.unit (s := S9x64x128) o5 S1x8x128.size i5, shapeCast S1x8x128 (w 5) shapeCasts_S8x128_S1x8x128⟩,
      ⟨Rect.unit (s := S9x64x128) o4 S1x8x128.size i4, shapeCast S1x8x128 (w 4) shapeCasts_S8x128_S1x8x128⟩,
      ⟨Rect.unit (s := S9x64x128) o3 S1x8x128.size i3, shapeCast S1x8x128 (w 3) shapeCasts_S8x128_S1x8x128⟩,
      ⟨Rect.unit (s := S9x64x128) o2 S1x8x128.size i2, shapeCast S1x8x128 (w 2) shapeCasts_S8x128_S1x8x128⟩,
      ⟨Rect.unit (s := S9x64x128) o1 S1x8x128.size i1, shapeCast S1x8x128 (w 1) shapeCasts_S8x128_S1x8x128⟩,
      ⟨Rect.unit (s := S9x64x128) o0 S1x8x128.size i0, shapeCast S1x8x128 (w 0) shapeCasts_S8x128_S1x8x128⟩]) (ix3 n p l) = arg.view.read (Elt Ideal) f (ix3 n p l) := by
  rw [View.read_writes_cons_unit_of_not_mem _ _ _ _ _ _ e8 1 hp,
    View.read_writes_cons_unit_of_not_mem _ _ _ _ _ _ e7 1 hp,
    View.read_writes_cons_unit_of_not_mem _ _ _ _ _ _ e6 1 hp,
    View.read_writes_cons_unit_of_not_mem _ _ _ _ _ _ e5 1 hp,
    View.read_writes_cons_unit_of_not_mem _ _ _ _ _ _ e4 1 hp,
    View.read_writes_cons_unit_of_not_mem _ _ _ _ _ _ e3 1 hp,
    View.read_writes_cons_unit_of_not_mem _ _ _ _ _ _ e2 1 hp,
    View.read_writes_cons_unit_of_not_mem _ _ _ _ _ _ e1 1 hp,
    View.read_writes_cons_unit_of_not_mem _ _ _ _ _ _ e0 1 hp]
  rfl

/-- The output block: a row the pieces cover. -/
theorem nine8_mem (arg : Memref sig .tc .vmem S1x9x40x128 .f32) (f : BufTy.Contents (Elt Ideal) arg.view.ty)
    (w : ℕ → FVec Ideal S8x128 .f32) (R : ℕ) (o0 o1 o2 o3 o4 o5 o6 o7 o8 : Fin 4 → ℕ)
    (i0 : ∀ a, o0 a + S1x1x8x128.size a ≤ S1x9x40x128.size a) (e0 : o0 = ![0, 0, R, 0])
    (i1 : ∀ a, o1 a + S1x1x8x128.size a ≤ S1x9x40x128.size a) (e1 : o1 = ![0, 1, R, 0])
    (i2 : ∀ a, o2 a + S1x1x8x128.size a ≤ S1x9x40x128.size a) (e2 : o2 = ![0, 2, R, 0])
    (i3 : ∀ a, o3 a + S1x1x8x128.size a ≤ S1x9x40x128.size a) (e3 : o3 = ![0, 3, R, 0])
    (i4 : ∀ a, o4 a + S1x1x8x128.size a ≤ S1x9x40x128.size a) (e4 : o4 = ![0, 4, R, 0])
    (i5 : ∀ a, o5 a + S1x1x8x128.size a ≤ S1x9x40x128.size a) (e5 : o5 = ![0, 5, R, 0])
    (i6 : ∀ a, o6 a + S1x1x8x128.size a ≤ S1x9x40x128.size a) (e6 : o6 = ![0, 6, R, 0])
    (i7 : ∀ a, o7 a + S1x1x8x128.size a ≤ S1x9x40x128.size a) (e7 : o7 = ![0, 7, R, 0])
    (i8 : ∀ a, o8 a + S1x1x8x128.size a ≤ S1x9x40x128.size a) (e8 : o8 = ![0, 8, R, 0])
    (n : Fin 9) (p : Fin 40) (s : Fin 8) (hp : p.val = R + s.val) (l : Fin 128) :
    arg.view.read (Elt Ideal) (arg.view.writes (Elt Ideal) f [⟨Rect.unit (s := S1x9x40x128) o8 S1x1x8x128.size i8, shapeCast S1x1x8x128 (w 8) shapeCasts_S8x128_S1x1x8x128⟩,
      ⟨Rect.unit (s := S1x9x40x128) o7 S1x1x8x128.size i7, shapeCast S1x1x8x128 (w 7) shapeCasts_S8x128_S1x1x8x128⟩,
      ⟨Rect.unit (s := S1x9x40x128) o6 S1x1x8x128.size i6, shapeCast S1x1x8x128 (w 6) shapeCasts_S8x128_S1x1x8x128⟩,
      ⟨Rect.unit (s := S1x9x40x128) o5 S1x1x8x128.size i5, shapeCast S1x1x8x128 (w 5) shapeCasts_S8x128_S1x1x8x128⟩,
      ⟨Rect.unit (s := S1x9x40x128) o4 S1x1x8x128.size i4, shapeCast S1x1x8x128 (w 4) shapeCasts_S8x128_S1x1x8x128⟩,
      ⟨Rect.unit (s := S1x9x40x128) o3 S1x1x8x128.size i3, shapeCast S1x1x8x128 (w 3) shapeCasts_S8x128_S1x1x8x128⟩,
      ⟨Rect.unit (s := S1x9x40x128) o2 S1x1x8x128.size i2, shapeCast S1x1x8x128 (w 2) shapeCasts_S8x128_S1x1x8x128⟩,
      ⟨Rect.unit (s := S1x9x40x128) o1 S1x1x8x128.size i1, shapeCast S1x1x8x128 (w 1) shapeCasts_S8x128_S1x1x8x128⟩,
      ⟨Rect.unit (s := S1x9x40x128) o0 S1x1x8x128.size i0, shapeCast S1x1x8x128 (w 0) shapeCasts_S8x128_S1x1x8x128⟩]) (ix4 0 n p l) = w n.val (ix2 s l) := by
  have hx : ∀ v : FVec Ideal S8x128 .f32, shapeCast S1x1x8x128 v shapeCasts_S8x128_S1x1x8x128 (ix4 0 0 s l) = v (ix2 s l) :=
    fun v => by pointwise
  fin_cases n
  · rw [View.read_writes_cons_unit_of_not_mem _ _ _ _ _ _ e8 1 (by left; show 0 < 8; decide),
      View.read_writes_cons_unit_of_not_mem _ _ _ _ _ _ e7 1 (by left; show 0 < 7; decide),
      View.read_writes_cons_unit_of_not_mem _ _ _ _ _ _ e6 1 (by left; show 0 < 6; decide),
      View.read_writes_cons_unit_of_not_mem _ _ _ _ _ _ e5 1 (by left; show 0 < 5; decide),
      View.read_writes_cons_unit_of_not_mem _ _ _ _ _ _ e4 1 (by left; show 0 < 4; decide),
      View.read_writes_cons_unit_of_not_mem _ _ _ _ _ _ e3 1 (by left; show 0 < 3; decide),
      View.read_writes_cons_unit_of_not_mem _ _ _ _ _ _ e2 1 (by left; show 0 < 2; decide),
      View.read_writes_cons_unit_of_not_mem _ _ _ _ _ _ e1 1 (by left; show 0 < 1; decide),
      View.read_writes_cons_unit_of_mem _ _ _ _ _ _ (ix4 0 (0 : Fin 1) s l) e0
        (fun a => by fin_cases a <;> simp [ix4, hp])]
    exact hx _
  · rw [View.read_writes_cons_unit_of_not_mem _ _ _ _ _ _ e8 1 (by left; show 1 < 8; decide),
      View.read_writes_cons_unit_of_not_mem _ _ _ _ _ _ e7 1 (by left; show 1 < 7; decide),
      View.read_writes_cons_unit_of_not_mem _ _ _ _ _ _ e6 1 (by left; show 1 < 6; decide),
      View.read_writes_cons_unit_of_not_mem _ _ _ _ _ _ e5 1 (by left; show 1 < 5; decide),
      View.read_writes_cons_unit_of_not_mem _ _ _ _ _ _ e4 1 (by left; show 1 < 4; decide),
      View.read_writes_cons_unit_of_not_mem _ _ _ _ _ _ e3 1 (by left; show 1 < 3; decide),
      View.read_writes_cons_unit_of_not_mem _ _ _ _ _ _ e2 1 (by left; show 1 < 2; decide),
      View.read_writes_cons_unit_of_mem _ _ _ _ _ _ (ix4 0 (0 : Fin 1) s l) e1
        (fun a => by fin_cases a <;> simp [ix4, hp])]
    exact hx _
  · rw [View.read_writes_cons_unit_of_not_mem _ _ _ _ _ _ e8 1 (by left; show 2 < 8; decide),
      View.read_writes_cons_unit_of_not_mem _ _ _ _ _ _ e7 1 (by left; show 2 < 7; decide),
      View.read_writes_cons_unit_of_not_mem _ _ _ _ _ _ e6 1 (by left; show 2 < 6; decide),
      View.read_writes_cons_unit_of_not_mem _ _ _ _ _ _ e5 1 (by left; show 2 < 5; decide),
      View.read_writes_cons_unit_of_not_mem _ _ _ _ _ _ e4 1 (by left; show 2 < 4; decide),
      View.read_writes_cons_unit_of_not_mem _ _ _ _ _ _ e3 1 (by left; show 2 < 3; decide),
      View.read_writes_cons_unit_of_mem _ _ _ _ _ _ (ix4 0 (0 : Fin 1) s l) e2
        (fun a => by fin_cases a <;> simp [ix4, hp])]
    exact hx _
  · rw [View.read_writes_cons_unit_of_not_mem _ _ _ _ _ _ e8 1 (by left; show 3 < 8; decide),
      View.read_writes_cons_unit_of_not_mem _ _ _ _ _ _ e7 1 (by left; show 3 < 7; decide),
      View.read_writes_cons_unit_of_not_mem _ _ _ _ _ _ e6 1 (by left; show 3 < 6; decide),
      View.read_writes_cons_unit_of_not_mem _ _ _ _ _ _ e5 1 (by left; show 3 < 5; decide),
      View.read_writes_cons_unit_of_not_mem _ _ _ _ _ _ e4 1 (by left; show 3 < 4; decide),
      View.read_writes_cons_unit_of_mem _ _ _ _ _ _ (ix4 0 (0 : Fin 1) s l) e3
        (fun a => by fin_cases a <;> simp [ix4, hp])]
    exact hx _
  · rw [View.read_writes_cons_unit_of_not_mem _ _ _ _ _ _ e8 1 (by left; show 4 < 8; decide),
      View.read_writes_cons_unit_of_not_mem _ _ _ _ _ _ e7 1 (by left; show 4 < 7; decide),
      View.read_writes_cons_unit_of_not_mem _ _ _ _ _ _ e6 1 (by left; show 4 < 6; decide),
      View.read_writes_cons_unit_of_not_mem _ _ _ _ _ _ e5 1 (by left; show 4 < 5; decide),
      View.read_writes_cons_unit_of_mem _ _ _ _ _ _ (ix4 0 (0 : Fin 1) s l) e4
        (fun a => by fin_cases a <;> simp [ix4, hp])]
    exact hx _
  · rw [View.read_writes_cons_unit_of_not_mem _ _ _ _ _ _ e8 1 (by left; show 5 < 8; decide),
      View.read_writes_cons_unit_of_not_mem _ _ _ _ _ _ e7 1 (by left; show 5 < 7; decide),
      View.read_writes_cons_unit_of_not_mem _ _ _ _ _ _ e6 1 (by left; show 5 < 6; decide),
      View.read_writes_cons_unit_of_mem _ _ _ _ _ _ (ix4 0 (0 : Fin 1) s l) e5
        (fun a => by fin_cases a <;> simp [ix4, hp])]
    exact hx _
  · rw [View.read_writes_cons_unit_of_not_mem _ _ _ _ _ _ e8 1 (by left; show 6 < 8; decide),
      View.read_writes_cons_unit_of_not_mem _ _ _ _ _ _ e7 1 (by left; show 6 < 7; decide),
      View.read_writes_cons_unit_of_mem _ _ _ _ _ _ (ix4 0 (0 : Fin 1) s l) e6
        (fun a => by fin_cases a <;> simp [ix4, hp])]
    exact hx _
  · rw [View.read_writes_cons_unit_of_not_mem _ _ _ _ _ _ e8 1 (by left; show 7 < 8; decide),
      View.read_writes_cons_unit_of_mem _ _ _ _ _ _ (ix4 0 (0 : Fin 1) s l) e7
        (fun a => by fin_cases a <;> simp [ix4, hp])]
    exact hx _
  · rw [View.read_writes_cons_unit_of_mem _ _ _ _ _ _ (ix4 0 (0 : Fin 1) s l) e8
        (fun a => by fin_cases a <;> simp [ix4, hp])]
    exact hx _

/-- The output block: a row they leave. -/
theorem nine8_not_mem (arg : Memref sig .tc .vmem S1x9x40x128 .f32) (f : BufTy.Contents (Elt Ideal) arg.view.ty)
    (w : ℕ → FVec Ideal S8x128 .f32) (R : ℕ) (o0 o1 o2 o3 o4 o5 o6 o7 o8 : Fin 4 → ℕ)
    (i0 : ∀ a, o0 a + S1x1x8x128.size a ≤ S1x9x40x128.size a) (e0 : o0 = ![0, 0, R, 0])
    (i1 : ∀ a, o1 a + S1x1x8x128.size a ≤ S1x9x40x128.size a) (e1 : o1 = ![0, 1, R, 0])
    (i2 : ∀ a, o2 a + S1x1x8x128.size a ≤ S1x9x40x128.size a) (e2 : o2 = ![0, 2, R, 0])
    (i3 : ∀ a, o3 a + S1x1x8x128.size a ≤ S1x9x40x128.size a) (e3 : o3 = ![0, 3, R, 0])
    (i4 : ∀ a, o4 a + S1x1x8x128.size a ≤ S1x9x40x128.size a) (e4 : o4 = ![0, 4, R, 0])
    (i5 : ∀ a, o5 a + S1x1x8x128.size a ≤ S1x9x40x128.size a) (e5 : o5 = ![0, 5, R, 0])
    (i6 : ∀ a, o6 a + S1x1x8x128.size a ≤ S1x9x40x128.size a) (e6 : o6 = ![0, 6, R, 0])
    (i7 : ∀ a, o7 a + S1x1x8x128.size a ≤ S1x9x40x128.size a) (e7 : o7 = ![0, 7, R, 0])
    (i8 : ∀ a, o8 a + S1x1x8x128.size a ≤ S1x9x40x128.size a) (e8 : o8 = ![0, 8, R, 0])
    (n : Fin 9) (p : Fin 40) (hp : p.val < R ∨ R + 8 ≤ p.val) (l : Fin 128) :
    arg.view.read (Elt Ideal) (arg.view.writes (Elt Ideal) f [⟨Rect.unit (s := S1x9x40x128) o8 S1x1x8x128.size i8, shapeCast S1x1x8x128 (w 8) shapeCasts_S8x128_S1x1x8x128⟩,
      ⟨Rect.unit (s := S1x9x40x128) o7 S1x1x8x128.size i7, shapeCast S1x1x8x128 (w 7) shapeCasts_S8x128_S1x1x8x128⟩,
      ⟨Rect.unit (s := S1x9x40x128) o6 S1x1x8x128.size i6, shapeCast S1x1x8x128 (w 6) shapeCasts_S8x128_S1x1x8x128⟩,
      ⟨Rect.unit (s := S1x9x40x128) o5 S1x1x8x128.size i5, shapeCast S1x1x8x128 (w 5) shapeCasts_S8x128_S1x1x8x128⟩,
      ⟨Rect.unit (s := S1x9x40x128) o4 S1x1x8x128.size i4, shapeCast S1x1x8x128 (w 4) shapeCasts_S8x128_S1x1x8x128⟩,
      ⟨Rect.unit (s := S1x9x40x128) o3 S1x1x8x128.size i3, shapeCast S1x1x8x128 (w 3) shapeCasts_S8x128_S1x1x8x128⟩,
      ⟨Rect.unit (s := S1x9x40x128) o2 S1x1x8x128.size i2, shapeCast S1x1x8x128 (w 2) shapeCasts_S8x128_S1x1x8x128⟩,
      ⟨Rect.unit (s := S1x9x40x128) o1 S1x1x8x128.size i1, shapeCast S1x1x8x128 (w 1) shapeCasts_S8x128_S1x1x8x128⟩,
      ⟨Rect.unit (s := S1x9x40x128) o0 S1x1x8x128.size i0, shapeCast S1x1x8x128 (w 0) shapeCasts_S8x128_S1x1x8x128⟩]) (ix4 0 n p l) = arg.view.read (Elt Ideal) f (ix4 0 n p l) := by
  rw [View.read_writes_cons_unit_of_not_mem _ _ _ _ _ _ e8 2 hp,
    View.read_writes_cons_unit_of_not_mem _ _ _ _ _ _ e7 2 hp,
    View.read_writes_cons_unit_of_not_mem _ _ _ _ _ _ e6 2 hp,
    View.read_writes_cons_unit_of_not_mem _ _ _ _ _ _ e5 2 hp,
    View.read_writes_cons_unit_of_not_mem _ _ _ _ _ _ e4 2 hp,
    View.read_writes_cons_unit_of_not_mem _ _ _ _ _ _ e3 2 hp,
    View.read_writes_cons_unit_of_not_mem _ _ _ _ _ _ e2 2 hp,
    View.read_writes_cons_unit_of_not_mem _ _ _ _ _ _ e1 2 hp,
    View.read_writes_cons_unit_of_not_mem _ _ _ _ _ _ e0 2 hp]
  rfl

end Cert.KernelIdeal.Run
-- ==== Proof.Loop.lean ====
/- The inner loop at a lane: after its trips the buffers hold the transmittance and the light from behind with the chunk's
   entries taken in, and every entry's nine sums. -/
module

public import proofs.«01_k».proof.Proof.Nine

@[expose] public section

set_option maxRecDepth 16384

noncomputable section

namespace Cert.KernelIdeal.Run

open Cert.KernelIdeal Cert.KernelIdeal.Gen Cert.Splat
open Idealize.ShloMosaic Idealize.ShloMosaic.TcCoe
open Idealize.SL.Sem

/-- No opacity of the entries below `kg` reaches one. -/
def Lets (D : Lane) (kg : ℕ) : Prop := ∀ k < kg, ∀ t r : ℕ → ℝ, ∀ p < 256, 1 - (D.ent k t r).al p ≠ 0

/-- The entries behind a chunk. -/
def m0 (kg ci : ℕ) : ℕ := kg - (k0 kg ci + nk kg ci)

theorem entry_idx {kg ci n : ℕ} (hc : ci < (kg + 7) / 8) (hn : n < nk kg ci) :
    kg - 1 - (m0 kg ci + n) = k0 kg ci + kk kg ci n ∧ kg - 1 - (k0 kg ci + kk kg ci n) = m0 kg ci + n := by
  unfold m0 kk nk k0 at *; omega

theorem rows_apart {j K k n s p : ℕ} (h1 : K - (n + 1) ≤ j) (hj : ¬ j = k) (hk : k = K - 1 - n) (hn : n < K)
    (hp : p = 8 * j + s) : (p < 8 * k ∨ 8 * k + 8 ≤ p) ∧ K - n ≤ j := by omega

theorem inner (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt Ideal .i32) (k0_hw1 : k0_chk1 v47) (v419 : FVec Ideal S8x128 .f32) (v423 : FVec Ideal S8x128 .f32) (v427 : FVec Ideal S8x128 .f32) (v431 : FVec Ideal S8x128 .f32) (v433 : FVec Ideal S1x128 .f32) (c0_i32_268 : BitVec 32) (c1_i32_271 : BitVec 32) (k0_t1 : Fin (k0_t1_loop v47).trips) (v483 : BitVec 32) (v485 : BitVec 32) (X_arg4 : BufTy.Contents (Elt Ideal) arg4.view.ty) (X_arg9 : BufTy.Contents (Elt Ideal) arg9.view.ty) (X_arg13 : BufTy.Contents (Elt Ideal) arg13.view.ty) (f10 : BufTy.Contents (Elt Ideal) arg10.view.ty) (f11 : BufTy.Contents (Elt Ideal) arg11.view.ty) (f12 : BufTy.Contents (Elt Ideal) arg12.view.ty) (f14 : BufTy.Contents (Elt Ideal) arg14.view.ty)
    (D : Lane) (kg : Fin 41) (hv : v47 = BitVec.ofNat 32 kg.val) (l : Fin 128) (hlt : Lets D kg.val)
    (hI : Ins D kg.val l arg4 arg9 X_arg4 X_arg9 v419 v423 v427 v431 v433)
    (h13 : ∀ (i : Fin 32) (j : ℕ) (c : Fin 3), i.val = 4 * j + c.val → k0 kg.val k0_t1.val + j < kg.val →
      arg13.view.read (Elt Ideal) X_arg13 (ix2 i l) = (D.code (k0 kg.val k0_t1.val + j) c.val : EReal))
    (h10 : ∀ p : Fin 256, arg10.view.read (Elt Ideal) f10 (ix2 p l) = ((D.st kg.val (m0 kg.val k0_t1.val)).1 p.val : EReal))
    (h11 : ∀ p : Fin 256, arg11.view.read (Elt Ideal) f11 (ix2 p l) = ((D.st kg.val (m0 kg.val k0_t1.val)).2 p.val : EReal))
    (n : ℕ) (hn : n ≤ nk kg.val k0_t1.val) :
    (∀ p : Fin 256, arg10.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (f10, f11, f12, f14) n).1 (ix2 p l) = ((D.st kg.val (m0 kg.val k0_t1.val + n)).1 p.val : EReal))
    ∧ (∀ p : Fin 256, arg11.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (f10, f11, f12, f14) n).2.1 (ix2 p l) = ((D.st kg.val (m0 kg.val k0_t1.val + n)).2 p.val : EReal))
    ∧ (∀ (q : Fin 9) (j : ℕ) (s : Fin 8) (p : Fin 64), nk kg.val k0_t1.val - n ≤ j → j < nk kg.val k0_t1.val → p.val = 8 * j + s.val →
        arg14.view.read (Elt Ideal) (st2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (f10, f11, f12, f14) n).2.2.2 (ix3 q p l)
          = ((D.entry kg.val (k0 kg.val k0_t1.val + j)).part q.val s.val : EReal)) := by
  induction n with
  | zero => exact ⟨h10, h11, fun q j s p h1 h2 => absurd h2 (by omega)⟩
  | succ n ih =>
    obtain ⟨i10, i11, i14⟩ := ih (by omega)
    have hk2 : n < (k0_t2_loop v47 k0_t1).trips := by rw [trips2 hv]; omega
    have hc : k0_t1.val < (kg.val + 7) / 8 := by rw [← trips1 hv]; exact k0_t1.isLt
    obtain ⟨ei, ej⟩ := entry_idx hc (show n < nk kg.val k0_t1.val by omega)
    obtain ⟨hkk, hke⟩ := kk_lt (show n < nk kg.val k0_t1.val by omega)
    have hs := st2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (f10, f11, f12, f14) ⟨n, hk2⟩
    rw [show n + 1 = (⟨n, hk2⟩ : Fin (k0_t2_loop v47 k0_t1).trips).val + 1 from rfl, hs]
    generalize (st2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 (f10, f11, f12, f14) (⟨n, hk2⟩ : Fin (k0_t2_loop v47 k0_t1).trips).val) = S at *
    have hR := reads arg4 arg9 arg10 arg11 arg12 arg13 v47 k0_hw1 v419 v423 v427 v431 v433 k0_t1 X_arg4 X_arg9 X_arg13
      ⟨n, hk2⟩ S.1 S.2.1 D kg hv l hI (fun i c hi => h13 i _ c hi hke) _ _ i10 i11
    rw [← ei] at hR
    have hl := hlt (kg.val - 1 - (m0 kg.val k0_t1.val + n)) (by omega) (D.st kg.val (m0 kg.val k0_t1.val + n)).1
      (D.st kg.val (m0 kg.val k0_t1.val + n)).2
    refine ⟨fun p => ?_, fun p => ?_, fun q j s p h1 h2 hp => ?_⟩
    · have e := trip2_arg10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 ⟨n, hk2⟩ S.1 S.2.1 S.2.2.1 S.2.2.2
      refine (congrArg (fun f => arg10.view.read (Elt Ideal) f (ix2 p l)) e).trans ?_
      rw [read_pieces arg10 _ _ (p.val / 8) (by omega) ⟨p.val % 8, Nat.mod_lt _ (by decide)⟩ l p (by simp; omega),
        hR.tn hl (by omega)]
      have hp : 8 * (p.val / 8) + p.val % 8 = p.val := by omega
      simp only [hp]
      rfl
    · have e := trip2_arg11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 ⟨n, hk2⟩ S.1 S.2.1 S.2.2.1 S.2.2.2
      refine (congrArg (fun f => arg11.view.read (Elt Ideal) f (ix2 p l)) e).trans ?_
      rw [read_pieces arg11 _ _ (p.val / 8) (by omega) ⟨p.val % 8, Nat.mod_lt _ (by decide)⟩ l p (by simp; omega),
        hR.rn hl (by omega)]
      have hp : 8 * (p.val / 8) + p.val % 8 = p.val := by omega
      simp only [hp]
      rfl
    · have h1' : nk kg.val k0_t1.val - (n + 1) ≤ j := h1
      have e := trip2_arg14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 c0_i32_268 c1_i32_271 k0_t1 v483 v485 X_arg4 X_arg9 X_arg13 ⟨n, hk2⟩ S.1 S.2.1 S.2.2.1 S.2.2.2
      refine (congrArg (fun f => arg14.view.read (Elt Ideal) f (ix3 q p l)) e).trans ?_
      by_cases hj : j = kk kg.val k0_t1.val n
      · subst hj
        refine (nine14_mem arg14 _ (Ld.res _) (8 * kk kg.val k0_t1.val n) _ _ _ _ _ _ _ _ _
          _ (off15 hv k0_t1 ⟨n, hk2⟩) _ (off16 hv k0_t1 ⟨n, hk2⟩) _ (off17 hv k0_t1 ⟨n, hk2⟩) _ (off18 hv k0_t1 ⟨n, hk2⟩) _ (off19 hv k0_t1 ⟨n, hk2⟩) _ (off20 hv k0_t1 ⟨n, hk2⟩) _ (off21 hv k0_t1 ⟨n, hk2⟩) _ (off22 hv k0_t1 ⟨n, hk2⟩) _ (off23 hv k0_t1 ⟨n, hk2⟩) q p s hp l).trans ?_
        rw [hR.res hl q.isLt s]
        unfold Lane.entry
        rw [ej, ei]
      · refine (nine14_not_mem arg14 _ (Ld.res _) (8 * kk kg.val k0_t1.val n) _ _ _ _ _ _ _ _ _
          _ (off15 hv k0_t1 ⟨n, hk2⟩) _ (off16 hv k0_t1 ⟨n, hk2⟩) _ (off17 hv k0_t1 ⟨n, hk2⟩) _ (off18 hv k0_t1 ⟨n, hk2⟩) _ (off19 hv k0_t1 ⟨n, hk2⟩) _ (off20 hv k0_t1 ⟨n, hk2⟩) _ (off21 hv k0_t1 ⟨n, hk2⟩) _ (off22 hv k0_t1 ⟨n, hk2⟩) _ (off23 hv k0_t1 ⟨n, hk2⟩) q p (rows_apart h1' hj rfl (by omega) hp).1 l).trans ?_
        exact i14 q j s p (rows_apart h1' hj rfl (by omega) hp).2 h2 hp

end Cert.KernelIdeal.Run
-- ==== Proof.Chunk.lean ====
/- What one chunk does to the buffers: it decodes its entries' colour codes, runs the inner loop, and writes the nine
   results of its entries from the sums over the pixels. -/
module

public import proofs.«01_k».proof.Proof.Outer
public import proofs.«01_k».proof.Proof.Model

@[expose] public section

set_option maxRecDepth 65536
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F]

/-- The chunk's first entry, as a word. -/
def c482 (v47 : BitVec 32) (k : Fin (k0_t1_loop v47).trips) : BitVec 32 :=
  Scalar.muli (Scalar.subi (Scalar.select
    (Scalar.andi
      (Scalar.cmpi .ne (Scalar.subi (Scalar.extui (Scalar.cmpi .sgt (Scalar.subi v47 1#32) 0#32) : BitVec 32)
        (Scalar.extui (Scalar.cmpi .slt (Scalar.subi v47 1#32) 0#32))) 1#32)
      (Scalar.cmpi .ne (Scalar.remsi (Scalar.subi v47 1#32) 8#32) 0#32))
    (Scalar.subi (Scalar.divsi (Scalar.subi v47 1#32) 8#32) 1#32)
    (Scalar.divsi (Scalar.subi v47 1#32) 8#32)) (Scf.iv 0#32 1#32 k.val)) 8#32

/-- The chunk's entries, as a word. -/
def c485 (v47 : BitVec 32) (k : Fin (k0_t1_loop v47).trips) : BitVec 32 :=
  Scalar.minsi (Scalar.subi v47 (c482 v47 k)) 8#32

/-- The decoded colour codes of a chunk. -/
def codes (arg4 : Memref sig .tc .vmem S1x8x40x128 .i32) (arg13 : Memref sig .tc .vmem S32x128 .f32) (v47 : Elt F .i32)
    (k0_hw1 : k0_chk1 v47) (X_arg4 : BufTy.Contents (Elt F) arg4.view.ty) (k : Fin (k0_t1_loop v47).trips) :
    BufTy.Contents (Elt F) arg13.view.ty :=
  arg13.view.writes (Elt F) arg13.view.junk
    [⟨Rect.unit ![0, 0] S32x128.size inb_S32x128_S32x128_0_0, k0_pay1299 (View.readAt (Elt F) arg4.view
      (Rect.unit (s := S1x8x40x128) (k0_off6 v47 k) S1x1x8x128.size (k0_off6_inb v47 k0_hw1 k)).toLoadRect X_arg4)⟩]

/-- Eight entries' rows of a parameter. -/
def prows (arg4 : Memref sig .tc .vmem S1x8x40x128 .i32) (X_arg4 : BufTy.Contents (Elt F) arg4.view.ty)
    (o : Fin 4 → ℕ) (h : ∀ a, o a + S1x1x8x128.size a ≤ S1x8x40x128.size a) : FVec F S8x128 .f32 :=
  k0_pay1327 (View.readAt (Elt F) arg4.view (Rect.unit (s := S1x8x40x128) o S1x1x8x128.size h).toLoadRect X_arg4)

theorem inb_tot (n s : ℕ) (a : Fin 3) : S1x8x128.size a = 0
    ∨ ![n % 9, s % 8, 0] a + ![1, 8, 1] a * (S1x8x128.size a - 1) < S9x64x128.size a := by
  have := Nat.mod_lt n (show 0 < 9 by decide)
  have := Nat.mod_lt s (show 0 < 8 by decide)
  right
  match a with
  | 0 => show n % 9 + 1 * (1 - 1) < 9; omega
  | 1 => show s % 8 + 8 * (8 - 1) < 64; omega
  | 2 => show 0 + 1 * (128 - 1) < 128; omega

/-- Every eighth row of a sum, from row `s` on. -/
def strip (arg14 : Memref sig .tc .vmem S9x64x128 .f32) (R : BufTy.Contents (Elt F) arg14.view.ty) (n s : ℕ) :
    FVec F S8x128 .f32 :=
  shapeCast S8x128 (View.readAt (Elt F) arg14.view (⟨![n % 9, s % 8, 0], S1x8x128.size, ![1, 8, 1], inb_tot n s⟩ : LoadRect S9x64x128) R :
    Vec F S1x8x128 .f32) shapeCasts_S1x8x128_S8x128

/-- A sum over the eight rows of every entry. -/
def tot (arg14 : Memref sig .tc .vmem S9x64x128 .f32) (R : BufTy.Contents (Elt F) arg14.view.ty) (n : ℕ) : FVec F S8x128 .f32 :=
  addf (addf (addf (strip arg14 R n 0) (strip arg14 R n 1)) (addf (strip arg14 R n 2) (strip arg14 R n 3)))
    (addf (addf (strip arg14 R n 4) (strip arg14 R n 5)) (addf (strip arg14 R n 6) (strip arg14 R n 7)))

/-- The nine results from the scale, the conic, the opacity and the sums. -/
def outs (gs : F .f32) (ca cb cc op : FVec F S8x128 .f32) (t : ℕ → FVec F S8x128 .f32) (n : ℕ) : FVec F S8x128 .f32 :=
  let sg := mulf (broadcast S8x128 (Scalar.subf (Scalar.ofBits .f32 0x00000000#32) gs)) op
  let half : FVec F S8x128 .f32 := broadcast S8x128 (Scalar.ofBits .f32 0x3F000000#32)
  match n with
  | 0 => mulf sg (addf (mulf ca (t 1)) (mulf cb (t 3)))
  | 1 => mulf sg (addf (mulf cb (t 1)) (mulf cc (t 3)))
  | 2 => mulf (broadcast S8x128 gs) (t 0)
  | 3 => mulf half (mulf sg (t 2))
  | 4 => mulf sg (t 4)
  | 5 => mulf half (mulf sg (t 5))
  | n => mulf (broadcast S8x128 gs) (t n)

/-- The contents of the sums buffer after a chunk's inner loop, as the chunk finds them. -/
def sums (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : BufTy.Contents (Elt F) arg14.view.ty :=
  Nat.casesOn (motive := fun _ => BufTy.Contents (Elt F) arg14.view.ty) (Scf.trips (k0_t2_loop v47 k).lb (k0_t2_loop v47 k).ub (k0_t2_loop v47 k).st) f14 (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) (n + 1)).2.2.2)

theorem sums_eq (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    sums (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k f8 f10 f11 f12 f13 f14 = (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) (k0_t2_loop v47 k).trips).2.2.2 :=
  sel_eq (C := BufTy.Contents (Elt F) arg14.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) n).2.2.2) f14 rfl _

theorem trip1_arg10 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.1 f8 f10 f11 f12 f13 f14 = (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) (k0_t2_loop v47 k).trips).1 := by
  refine Eq.trans ?_ (sel_eq (C := BufTy.Contents (Elt F) arg10.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) n).1) f10 rfl _)
  unfold trip1
  sl_kernel_rfl

theorem trip1_arg11 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).2.2.1 f8 f10 f11 f12 f13 f14 = (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) (k0_t2_loop v47 k).trips).2.1 := by
  refine Eq.trans ?_ (sel_eq (C := BufTy.Contents (Elt F) arg11.view.ty) (fun n => (st2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 k (c482 v47 k) (c485 v47 k) X_arg4 X_arg9 (codes arg4 arg13 v47 k0_hw1 X_arg4 k) (f10, f11, f12, f14) n).2.1) f11 rfl _)
  unfold trip1
  sl_kernel_rfl

/-- The results a chunk leaves. -/
theorem trip1_arg8 (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt F .i32) (k0_hw1 : k0_chk1 v47) (v49 : Elt F .f32) (v419 : FVec F S8x128 .f32) (v423 : FVec F S8x128 .f32) (v427 : FVec F S8x128 .f32) (v431 : FVec F S8x128 .f32) (v433 : FVec F S1x128 .f32) (X_arg4 : BufTy.Contents (Elt F) arg4.view.ty) (X_arg9 : BufTy.Contents (Elt F) arg9.view.ty) (k : Fin (k0_t1_loop v47).trips) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (R : BufTy.Contents (Elt F) arg14.view.ty)
    (hR : R = sums (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k f8 f10 f11 f12 f13 f14) :
    (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 k).1 f8 f10 f11 f12 f13 f14 = arg8.view.writes (Elt F) f8 [⟨Rect.unit (s := S1x9x40x128) (k0_off53 v47 k) S1x1x8x128.size (k0_off53_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 8) shapeCasts_S8x128_S1x1x8x128⟩,
      ⟨Rect.unit (s := S1x9x40x128) (k0_off52 v47 k) S1x1x8x128.size (k0_off52_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 7) shapeCasts_S8x128_S1x1x8x128⟩,
      ⟨Rect.unit (s := S1x9x40x128) (k0_off51 v47 k) S1x1x8x128.size (k0_off51_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 6) shapeCasts_S8x128_S1x1x8x128⟩,
      ⟨Rect.unit (s := S1x9x40x128) (k0_off50 v47 k) S1x1x8x128.size (k0_off50_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 5) shapeCasts_S8x128_S1x1x8x128⟩,
      ⟨Rect.unit (s := S1x9x40x128) (k0_off49 v47 k) S1x1x8x128.size (k0_off49_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 4) shapeCasts_S8x128_S1x1x8x128⟩,
      ⟨Rect.unit (s := S1x9x40x128) (k0_off48 v47 k) S1x1x8x128.size (k0_off48_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 3) shapeCasts_S8x128_S1x1x8x128⟩,
      ⟨Rect.unit (s := S1x9x40x128) (k0_off47 v47 k) S1x1x8x128.size (k0_off47_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 2) shapeCasts_S8x128_S1x1x8x128⟩,
      ⟨Rect.unit (s := S1x9x40x128) (k0_off46 v47 k) S1x1x8x128.size (k0_off46_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 1) shapeCasts_S8x128_S1x1x8x128⟩,
      ⟨Rect.unit (s := S1x9x40x128) (k0_off45 v47 k) S1x1x8x128.size (k0_off45_inb v47 k0_hw1 k), shapeCast S1x1x8x128 (outs v49 (prows arg4 X_arg4 (k0_off41 v47 k) (k0_off41_inb v47 k0_hw1 k)) (prows arg4 X_arg4 (k0_off42 v47 k) (k0_off42_inb v47 k0_hw1 k)) (prows arg4 X_arg4 (k0_off43 v47 k) (k0_off43_inb v47 k0_hw1 k)) (prows arg4 X_arg4 (k0_off44 v47 k) (k0_off44_inb v47 k0_hw1 k)) (tot arg14 R) 0) shapeCasts_S8x128_S1x1x8x128⟩] := by
  subst hR
  unfold trip1
  sl_kernel_rfl

end Cert.KernelIdeal.Run
-- ==== Proof.Chunks.lean ====
/- The outer loop at a lane: after its chunks the output block holds the nine results of every entry, from the sums over
   the pixels. -/
module

public import proofs.«01_k».proof.Proof.Loop
public import proofs.«01_k».proof.Proof.Chunk

@[expose] public section

set_option maxRecDepth 16384

noncomputable section

namespace Cert.Splat

/-- A quantity of an entry, summed over the pixels. -/
def Ent.sum (E : Ent) (n : ℕ) : ℝ := ∑ s ∈ Finset.range 8, E.part n s

/-- The nine results of an entry, from its sums. -/
def Ent.out (E : Ent) (gs : ℝ) (n : ℕ) : ℝ :=
  match n with
  | 0 => -gs * E.op * (E.ca * E.sum 1 + E.cb * E.sum 3)
  | 1 => -gs * E.op * (E.cb * E.sum 1 + E.cc * E.sum 3)
  | 2 => gs * E.sum 0
  | 3 => 1 / 2 * (-gs * E.op * E.sum 2)
  | 4 => -gs * E.op * E.sum 4
  | 5 => 1 / 2 * (-gs * E.op * E.sum 5)
  | n => gs * E.sum n

end Cert.Splat

namespace Cert.KernelIdeal.Run

open Cert.KernelIdeal Cert.KernelIdeal.Gen Cert.Splat
open Idealize.ShloMosaic Idealize.ShloMosaic.TcCoe
open Idealize.SL.Sem

theorem read_eight (arg4 : Memref sig .tc .vmem S1x8x40x128 .i32) (X : BufTy.Contents (Elt Ideal) arg4.view.ty)
    (o : Fin 4 → ℕ) (h : ∀ a, o a + S1x1x8x128.size a ≤ S1x8x40x128.size a) (r : Fin 8) (K : ℕ)
    (ho : o = ![0, r.val, K, 0]) (j : Fin 8) (k : Fin 40) (hk : k.val = K + j.val) (l : Fin 128) :
    View.readAt (Elt Ideal) arg4.view (Rect.unit (s := S1x8x40x128) o S1x1x8x128.size h).toLoadRect X (ix4 0 0 j l)
      = arg4.view.read (Elt Ideal) X (ix4 0 r k l) := by
  subst ho
  rw [View.readAt_apply]
  refine congrArg (arg4.view.read (Elt Ideal) X) (funext fun a => Fin.ext ?_)
  fin_cases a <;> simp [LoadRect.idx, Rect.toLoadRect, Rect.unit, ix4, hk]

theorem prows_apply (arg4 : Memref sig .tc .vmem S1x8x40x128 .i32) (X : BufTy.Contents (Elt Ideal) arg4.view.ty)
    (o : Fin 4 → ℕ) (h : ∀ a, o a + S1x1x8x128.size a ≤ S1x8x40x128.size a) (r : Fin 8) (K : ℕ)
    (ho : o = ![0, r.val, K, 0]) (j : Fin 8) (k : Fin 40) (hk : k.val = K + j.val) (l : Fin 128) :
    prows arg4 X o h (ix2 j l) = Ideal.ofBits .f32 (arg4.view.read (Elt Ideal) X (ix4 0 r k l)) := by
  have h1 : ∀ v : IVec S1x1x8x128 32, (k0_pay1327 (F := Ideal) v) (ix2 j l) = Ideal.ofBits .f32 (v (ix4 0 0 j l)) :=
    fun v => by pointwise [k0_pay1327]
  exact (h1 _).trans (congrArg (Ideal.ofBits .f32) (read_eight arg4 X o h r K ho j k hk l))

/-- The decoded codes, read at a row: the code of the row's entry and byte. -/
theorem codes_apply (arg4 : Memref sig .tc .vmem S1x8x40x128 .i32) (arg13 : Memref sig .tc .vmem S32x128 .f32)
    (v47 : Elt Ideal .i32) (k0_hw1 : k0_chk1 v47) (X : BufTy.Contents (Elt Ideal) arg4.view.ty)
    (k : Fin (k0_t1_loop v47).trips) (kg : Fin 41) (hv : v47 = BitVec.ofNat 32 kg.val) (i : Fin 32) (j : Fin 8) (c : Fin 4)
    (hi : i.val = 4 * j.val + c.val) (e : Fin 40) (he : e.val = k0 kg.val k.val + j.val) (l : Fin 128) :
    arg13.view.read (Elt Ideal) (codes (F := Ideal) arg4 arg13 v47 k0_hw1 X k) (ix2 i l)
      = Ideal.ofBits .fp8e4m3 ((arg4.view.read (Elt Ideal) X (ix4 0 7 e l) : BitVec 32).extractLsb' (8 * c.val) 8) := by
  unfold codes
  rw [View.read_writes_cons_unit_of_mem _ _ _ _ _ _ (ix2 i l) rfl (fun a => by fin_cases a <;> simp [ix2])]
  have h1 : ∀ v : IVec S1x1x8x128 32, (k0_pay1299 (F := Ideal) v) (ix2 i l)
      = Ideal.ofBits .fp8e4m3 ((v (ix4 0 0 j l) : BitVec 32).extractLsb' (8 * c.val) 8) := fun v => by
    have h2 : (k0_pay1299 (F := Ideal) v) (ix2 i l)
        = Ideal.ofBits .fp8e4m3 (bitcast S32x128 8 (shapeCast S8x128 v shapeCasts_S1x1x8x128_S8x128 : IVec S8x128 32)
            bitcasts_S8x128_w32_S32x128_w8 (ix2 i l)) := by
      unfold k0_pay1299
      pointwise
    rw [h2, bitcast_bytes (R := 8) (n := 128) _ bitcasts_S8x128_w32_S32x128_w8 j c l i hi]
    refine congrArg (fun w : BitVec 32 => Ideal.ofBits .fp8e4m3 (w.extractLsb' (8 * c.val) 8)) ?_
    pointwise
  exact (h1 _).trans (congrArg (fun w : BitVec 32 => Ideal.ofBits .fp8e4m3 (w.extractLsb' (8 * c.val) 8))
    (read_eight arg4 X _ _ 7 _ (off6 hv k) j e he l))

theorem strip_apply (arg14 : Memref sig .tc .vmem S9x64x128 .f32) (R : BufTy.Contents (Elt Ideal) arg14.view.ty) (n : Fin 9)
    (s j : Fin 8) (p : Fin 64) (hp : p.val = 8 * j.val + s.val) (l : Fin 128) :
    strip arg14 R n.val s.val (ix2 j l) = arg14.view.read (Elt Ideal) R (ix3 n p l) := by
  have h1 : ∀ v : FVec Ideal S1x8x128 .f32, shapeCast S8x128 v shapeCasts_S1x8x128_S8x128 (ix2 j l) = v (ix3 0 j l) :=
    fun v => by pointwise
  refine (h1 _).trans ?_
  rw [View.readAt_apply]
  refine congrArg (arg14.view.read (Elt Ideal) R) (funext fun a => Fin.ext ?_)
  fin_cases a
  · show n.val % 9 + 1 * 0 = n.val
    rw [Nat.mod_eq_of_lt n.isLt]; rfl
  · show s.val % 8 + 8 * j.val = p.val
    rw [Nat.mod_eq_of_lt s.isLt, hp]; omega
  · show 0 + 1 * l.val = l.val
    omega

theorem tot_apply (arg14 : Memref sig .tc .vmem S9x64x128 .f32) (R : BufTy.Contents (Elt Ideal) arg14.view.ty) (E : Ent)
    (j : Fin 8) (l : Fin 128)
    (h : ∀ (q : Fin 9) (s : Fin 8) (p : Fin 64), p.val = 8 * j.val + s.val →
      arg14.view.read (Elt Ideal) R (ix3 q p l) = (E.part q.val s.val : EReal)) (n : ℕ) (hn : n < 9) :
    tot arg14 R n (ix2 j l) = (E.sum n : EReal) := by
  have e : ∀ s : Fin 8, strip arg14 R n s.val (ix2 j l) = (E.part n s.val : EReal) := fun s => by
    rw [strip_apply arg14 R ⟨n, hn⟩ s j ⟨8 * j.val + s.val, by omega⟩ rfl l, h ⟨n, hn⟩ s _ rfl]
  have h1 : tot arg14 R n (ix2 j l)
      = ((strip arg14 R n 0 (ix2 j l) + strip arg14 R n 1 (ix2 j l)) + (strip arg14 R n 2 (ix2 j l) + strip arg14 R n 3 (ix2 j l)))
        + ((strip arg14 R n 4 (ix2 j l) + strip arg14 R n 5 (ix2 j l)) + (strip arg14 R n 6 (ix2 j l) + strip arg14 R n 7 (ix2 j l))) := by
    pointwise [tot]
  have e0 := e 0; have e1 := e 1; have e2 := e 2; have e3 := e 3; have e4 := e 4; have e5 := e 5; have e6 := e 6; have e7 := e 7
  rw [h1, show strip arg14 R n 0 (ix2 j l) = _ from e0, show strip arg14 R n 1 (ix2 j l) = _ from e1,
    show strip arg14 R n 2 (ix2 j l) = _ from e2, show strip arg14 R n 3 (ix2 j l) = _ from e3, show strip arg14 R n 4 (ix2 j l) = _ from e4,
    show strip arg14 R n 5 (ix2 j l) = _ from e5, show strip arg14 R n 6 (ix2 j l) = _ from e6,
    show strip arg14 R n 7 (ix2 j l) = _ from e7]
  unfold Ent.sum
  simp only [Finset.sum_range_succ, Finset.sum_range_zero]
  norm_cast
  simp only [Fin.isValue, Fin.coe_ofNat_eq_mod, Nat.reduceMod, Fin.val_zero, Fin.val_one, Fin.val_two]
  ring

theorem outs_apply (gs : ℝ) (v49 : Ideal .f32) (h49 : v49 = (gs : EReal)) (ca cb cc op : FVec Ideal S8x128 .f32)
    (t : ℕ → FVec Ideal S8x128 .f32) (E : Ent) (j : Fin 8) (l : Fin 128) (hca : ca (ix2 j l) = (E.ca : EReal))
    (hcb : cb (ix2 j l) = (E.cb : EReal)) (hcc : cc (ix2 j l) = (E.cc : EReal)) (hop : op (ix2 j l) = (E.op : EReal))
    (ht : ∀ n < 9, t n (ix2 j l) = (E.sum n : EReal)) (n : ℕ) (hn : n < 9) :
    outs v49 ca cb cc op t n (ix2 j l) = (E.out gs n : EReal) := by
  subst h49
  have hz : (Scalar.subf (Scalar.ofBits .f32 0x00000000#32) (gs : EReal) : Ideal .f32) = ((-gs : ℝ) : EReal) := by
    show Ideal.ofBits .f32 0x00000000#32 - (gs : EReal) = _
    rw [zero_f32]; norm_cast; simp
  have hh : (Scalar.ofBits .f32 0x3F000000#32 : Ideal .f32) = ((1 / 2 : ℝ) : EReal) := half_f32
  have m : ∀ (v w : FVec Ideal S8x128 .f32), mulf v w (ix2 j l) = v (ix2 j l) * w (ix2 j l) := fun v w => by pointwise
  have a : ∀ (v w : FVec Ideal S8x128 .f32), addf v w (ix2 j l) = v (ix2 j l) + w (ix2 j l) := fun v w => by pointwise
  have b : ∀ (v : Ideal .f32), broadcast S8x128 v (ix2 j l) = v := fun v => by pointwise
  interval_cases n
  all_goals
    simp only [outs, m, a, b, hz, hh, hca, hcb, hcc, hop, ht 0 (by decide), ht 1 (by decide), ht 2 (by decide),
      ht 3 (by decide), ht 4 (by decide), ht 5 (by decide), ht 6 (by decide), ht 7 (by decide), ht 8 (by decide)]
    norm_cast

theorem next_m0 {kg m : ℕ} (h : m + 1 < (kg + 7) / 8) : m0 kg m + nk kg m = m0 kg (m + 1) ∧ k0 kg (m + 1) + 8 = k0 kg m := by
  unfold m0 nk k0; omega

theorem outer (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (v47 : Elt Ideal .i32) (k0_hw1 : k0_chk1 v47) (v49 : Elt Ideal .f32) (v419 : FVec Ideal S8x128 .f32) (v423 : FVec Ideal S8x128 .f32) (v427 : FVec Ideal S8x128 .f32) (v431 : FVec Ideal S8x128 .f32) (v433 : FVec Ideal S1x128 .f32) (X_arg4 : BufTy.Contents (Elt Ideal) arg4.view.ty) (X_arg9 : BufTy.Contents (Elt Ideal) arg9.view.ty) (G : BufTy.Contents (Elt Ideal) arg8.view.ty × BufTy.Contents (Elt Ideal) arg10.view.ty × BufTy.Contents (Elt Ideal) arg11.view.ty × BufTy.Contents (Elt Ideal) arg12.view.ty × BufTy.Contents (Elt Ideal) arg13.view.ty × BufTy.Contents (Elt Ideal) arg14.view.ty)
    (D : Lane) (kg : Fin 41) (hv : v47 = BitVec.ofNat 32 kg.val) (l : Fin 128) (hlt : Lets D kg.val) (gs : ℝ)
    (h49 : v49 = (gs : EReal))
    (hI : Ins D kg.val l arg4 arg9 X_arg4 X_arg9 v419 v423 v427 v431 v433)
    (h10 : ∀ p : Fin 256, arg10.view.read (Elt Ideal) G.2.1 (ix2 p l) = (D.ft p.val : EReal))
    (h11 : ∀ p : Fin 256, arg11.view.read (Elt Ideal) G.2.2.1 (ix2 p l) = ((D.ft p.val * D.gb p.val : ℝ) : EReal))
    (m : ℕ) (hm : m ≤ (kg.val + 7) / 8) :
    (m < (kg.val + 7) / 8 → ∀ p : Fin 256, arg10.view.read (Elt Ideal) (st1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G m).2.1 (ix2 p l) = ((D.st kg.val (m0 kg.val m)).1 p.val : EReal))
    ∧ (m < (kg.val + 7) / 8 → ∀ p : Fin 256, arg11.view.read (Elt Ideal) (st1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G m).2.2.1 (ix2 p l) = ((D.st kg.val (m0 kg.val m)).2 p.val : EReal))
    ∧ (∀ (q : Fin 9) (k : Fin 40), 0 < m → k0 kg.val (m - 1) ≤ k.val → k.val < kg.val →
        arg8.view.read (Elt Ideal) (st1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G m).1 (ix4 0 q k l) = ((D.entry kg.val k.val).out gs q.val : EReal)) := by
  induction m with
  | zero =>
    have e : kg.val ≠ 0 → m0 kg.val 0 = 0 := fun h => by unfold m0 nk k0; omega
    refine ⟨fun h p => ?_, fun h p => ?_, fun q k h => absurd h (by decide)⟩
    · rw [e (by omega)]; exact h10 p
    · rw [e (by omega)]; exact h11 p
  | succ m ih =>
    obtain ⟨i10, i11, i8⟩ := ih (by omega)
    have hk : m < (k0_t1_loop v47).trips := by rw [trips1 hv]; omega
    have hs := st1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G ⟨m, hk⟩
    rw [show m + 1 = (⟨m, hk⟩ : Fin (k0_t1_loop v47).trips).val + 1 from rfl, hs]
    generalize (st1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 G (⟨m, hk⟩ : Fin (k0_t1_loop v47).trips).val) = S at *
    have i10 := i10 (by omega)
    have i11 := i11 (by omega)
    have ht := trips2 hv ⟨m, hk⟩
    have hin := inner 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v419 v423 v427 v431 v433 0#32 1#32 ⟨m, hk⟩ (c482 v47 ⟨m, hk⟩) (c485 v47 ⟨m, hk⟩) X_arg4 X_arg9
      (codes (F := Ideal) arg4 arg13 v47 k0_hw1 X_arg4 ⟨m, hk⟩) S.2.1 S.2.2.1 S.2.2.2.1 S.2.2.2.2.2 D kg hv l hlt hI
      (fun i j c hi hj => by
        have hkg : kg.val ≤ 40 := by omega
        have hj8 : j < 8 := by omega
        have hjk : k0 kg.val m + j < 40 := lt_of_lt_of_le hj hkg
        have hc4 : c.val < 4 := by omega
        rw [codes_apply arg4 arg13 v47 k0_hw1 X_arg4 ⟨m, hk⟩ kg hv i ⟨j, hj8⟩ ⟨c.val, hc4⟩ hi
          ⟨k0 kg.val m + j, hjk⟩ rfl l]
        exact hI.code ⟨k0 kg.val m + j, hjk⟩ ⟨c.val, hc4⟩ c.isLt hj)
      i10 i11 (nk kg.val m) le_rfl
    obtain ⟨j10, j11, j14⟩ := hin
    refine ⟨fun h p => ?_, fun h p => ?_, fun q k _ hk1 hk2 => ?_⟩
    · rw [← (next_m0 h).1, ← j10 p]
      refine congrArg (fun f => arg10.view.read (Elt Ideal) f (ix2 p l)) ?_
      refine (trip1_arg10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 ⟨m, hk⟩ S.1 S.2.1 S.2.2.1 S.2.2.2.1 S.2.2.2.2.1 S.2.2.2.2.2).trans ?_
      rw [ht]
    · rw [← (next_m0 h).1, ← j11 p]
      refine congrArg (fun f => arg11.view.read (Elt Ideal) f (ix2 p l)) ?_
      refine (trip1_arg11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 ⟨m, hk⟩ S.1 S.2.1 S.2.2.1 S.2.2.2.1 S.2.2.2.2.1 S.2.2.2.2.2).trans ?_
      rw [ht]
    · have e := trip1_arg8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 ⟨m, hk⟩ S.1 S.2.1 S.2.2.1 S.2.2.2.1 S.2.2.2.2.1 S.2.2.2.2.2 _ rfl
      refine (congrArg (fun f => arg8.view.read (Elt Ideal) f (ix4 0 q k l)) e).trans ?_
      have hk1' : k0 kg.val m ≤ k.val := hk1
      by_cases hj : k.val < k0 kg.val m + 8
      · obtain ⟨j, hj'⟩ : ∃ j : Fin 8, k.val = k0 kg.val m + j.val := ⟨⟨k.val - k0 kg.val m, by omega⟩, by simp; omega⟩
        refine (nine8_mem arg8 _ (fun n => outs v49 _ _ _ _ _ n) (k0 kg.val m) _ _ _ _ _ _ _ _ _
          _ (off45 hv ⟨m, hk⟩) _ (off46 hv ⟨m, hk⟩) _ (off47 hv ⟨m, hk⟩) _ (off48 hv ⟨m, hk⟩) _ (off49 hv ⟨m, hk⟩) _ (off50 hv ⟨m, hk⟩) _ (off51 hv ⟨m, hk⟩) _ (off52 hv ⟨m, hk⟩) _ (off53 hv ⟨m, hk⟩) q k j hj' l).trans ?_
        have P : ∀ (r : Fin 8) (o : Fin 4 → ℕ) (h : ∀ a, o a + S1x1x8x128.size a ≤ S1x8x40x128.size a), r.val < 7 →
            o = ![0, r.val, k0 kg.val m, 0] → prows (F := Ideal) arg4 X_arg4 o h (ix2 j l) = (D.prm r.val k.val : EReal) :=
          fun r o h hr ho => by
            rw [prows_apply arg4 X_arg4 o h r _ ho j k hj' l, hI.prm r k hr hk2]
        refine outs_apply gs v49 h49 _ _ _ _ _ (D.entry kg.val k.val) j l (P 2 _ _ (by decide) (off41 hv ⟨m, hk⟩))
          (P 3 _ _ (by decide) (off42 hv ⟨m, hk⟩)) (P 4 _ _ (by decide) (off43 hv ⟨m, hk⟩))
          (P 5 _ _ (by decide) (off44 hv ⟨m, hk⟩)) (fun n hn => ?_) q.val q.isLt
        refine tot_apply arg14 _ _ j l (fun q s p hp => ?_) n hn
        have hj2 : j.val < nk kg.val m := by unfold nk; omega
        have hh := j14 q j.val s p (by show nk kg.val m - nk kg.val m ≤ j.val; omega) hj2 hp
        rw [hj']
        rw [← hh]
        refine congrArg (fun f => arg14.view.read (Elt Ideal) f (ix3 q p l)) ?_
        refine (sums_eq (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v47 k0_hw1 v49 v419 v423 v427 v431 v433 X_arg4 X_arg9 ⟨m, hk⟩ S.1 S.2.1 S.2.2.1 S.2.2.2.1 S.2.2.2.2.1 S.2.2.2.2.2).trans ?_
        rw [ht]
      · refine (nine8_not_mem arg8 _ (fun n => outs v49 _ _ _ _ _ n) (k0 kg.val m) _ _ _ _ _ _ _ _ _
          _ (off45 hv ⟨m, hk⟩) _ (off46 hv ⟨m, hk⟩) _ (off47 hv ⟨m, hk⟩) _ (off48 hv ⟨m, hk⟩) _ (off49 hv ⟨m, hk⟩) _ (off50 hv ⟨m, hk⟩) _ (off51 hv ⟨m, hk⟩) _ (off52 hv ⟨m, hk⟩) _ (off53 hv ⟨m, hk⟩) q k (Or.inr (by omega)) l).trans ?_
        have hm0 : 0 < m := by
          rcases Nat.eq_zero_or_pos m with h0 | h0
          · subst h0; unfold k0 at hj; omega
          · exact h0
        refine i8 q k hm0 ?_ hk2
        have := (next_m0 (kg := kg.val) (m := m - 1) (by omega)).2
        rw [Nat.sub_add_cancel hm0] at this
        omega

end Cert.KernelIdeal.Run
-- ==== Proof.Block.lean ====
/- A block's output in the reals: at every entry its nine gradients, from what the block's inputs hold. -/
module

public import proofs.«01_k».proof.Proof.Start
public import proofs.«01_k».proof.Proof.Chunks

@[expose] public section

set_option maxRecDepth 65536
set_option maxHeartbeats 4000000

noncomputable section

namespace Cert.KernelIdeal.Run

open Cert.KernelIdeal Cert.KernelIdeal.Gen Cert.Splat
open Idealize.ShloMosaic Idealize.ShloMosaic.TcCoe
open Idealize.SL.Sem

theorem grad_apply (arg6 : Memref sig .tc .vmem S1x3x64x128 .i32) (X : BufTy.Contents (Elt Ideal) arg6.view.ty) (c : Fin 3) (n : Fin 8)
    (i : Fin 32) (p : Fin 256) (hp : p.val = 32 * n.val + i.val) (l : Fin 128) :
    grad arg6 X c.val n.val (ix2 i l) = Ideal.ofBits .fp8e5m2
      ((arg6.view.read (Elt Ideal) X (ix4 0 c (⟨p.val / 4, by omega⟩ : Fin 64) l) : BitVec 32).extractLsb' (8 * (p.val % 4)) 8) := by
  have h1 : ∀ v : Vec Ideal S1x1x8x128 .i32, k0_pay2705 (F := Ideal) v (ix2 i l)
      = Ideal.ofBits .fp8e5m2 ((shapeCast S8x128 v shapeCasts_S1x1x8x128_S8x128 (ix2 (⟨i.val / 4, by omega⟩ : Fin 8) l) : BitVec 32).extractLsb' (8 * (i.val % 4)) 8) := by
    intro v
    exact congrArg (Ideal.ofBits .fp8e5m2) (bitcast_bytes (R := 8) (n := 128) (shapeCast S8x128 v shapeCasts_S1x1x8x128_S8x128)
      bitcasts_S8x128_w32_S32x128_w8 (⟨i.val / 4, by omega⟩ : Fin 8) (⟨i.val % 4, by omega⟩ : Fin 4) l i (by show i.val = 4 * (i.val / 4) + i.val % 4; omega))
  have h2 : ∀ (v : Vec Ideal S1x1x8x128 .i32) (j : Fin 8), shapeCast S8x128 v shapeCasts_S1x1x8x128_S8x128 (ix2 j l) = v (ix4 0 0 j l) := by
    intro v j
    have : ∀ v : IVec S1x1x8x128 32, shapeCast S8x128 v shapeCasts_S1x1x8x128_S8x128 (ix2 j l) = v (ix4 0 0 j l) := by
      intro v; pointwise
    exact this v
  refine (h1 _).trans ?_
  rw [h2, View.readAt_apply]
  have em : i.val % 4 = p.val % 4 := by omega
  rw [em]
  refine congrArg (fun w : BitVec 32 => Ideal.ofBits .fp8e5m2 (w.extractLsb' (8 * (p.val % 4)) 8)) (congrArg (arg6.view.read (Elt Ideal) X) (funext fun a => Fin.ext ?_))
  have hn := n.isLt
  have hc := c.isLt
  fin_cases a <;> simp [LoadRect.idx, Rect.toLoadRect, Rect.unit, ix4, Nat.mod_eq_of_lt hn, Nat.mod_eq_of_lt hc]
  omega

theorem last_apply (arg7 : Memref sig .tc .vmem S1x256x128 .i32) (X : BufTy.Contents (Elt Ideal) arg7.view.ty) (n : Fin 8) (i : Fin 32)
    (p : Fin 256) (hp : p.val = 32 * n.val + i.val) (l : Fin 128) :
    last arg7 X n.val (ix2 i l) = Ideal.ofBits .f32 (arg7.view.read (Elt Ideal) X (ix3 0 p l)) := by
  have h1 : ∀ v : IVec S1x32x128 32, k0_pay2713 (F := Ideal) v (ix2 i l) = Ideal.ofBits .f32 (v (ix3 0 i l)) := by
    intro v; pointwise [k0_pay2713]
  refine (h1 _).trans ?_
  rw [View.readAt_apply]
  refine congrArg (Ideal.ofBits .f32) (congrArg (arg7.view.read (Elt Ideal) X) (funext fun a => Fin.ext ?_))
  have hn := n.isLt
  fin_cases a <;> simp [LoadRect.idx, Rect.toLoadRect, Rect.unit, ix3, Nat.mod_eq_of_lt hn]
  omega

theorem read_pieces9 (arg6 : Memref sig .tc .vmem S1x3x64x128 .i32) (X : BufTy.Contents (Elt Ideal) arg6.view.ty)
    (arg9 : Memref sig .tc .vmem S3x256x128 .f32) (f : BufTy.Contents (Elt Ideal) arg9.view.ty) (c : Fin 3) (p : Fin 256) (l : Fin 128) :
    arg9.view.read (Elt Ideal) (arg9.view.writes (Elt Ideal) f (pieces9 arg6 X)) (ix3 c p l) = Ideal.ofBits .fp8e5m2
      ((arg6.view.read (Elt Ideal) X (ix4 0 c (⟨p.val / 4, by omega⟩ : Fin 64) l) : BitVec 32).extractLsb' (8 * (p.val % 4)) 8) := by
  rw [View.read_writes_apply_of_pieces (Val := Elt Ideal) arg9.view f
    (fun i => grad arg6 X (i 0).val ((i 1).val / 32) (ix2 (⟨(i 1).val % 32, Nat.mod_lt _ (by decide)⟩ : Fin 32) (⟨(i 2).val, (i 2).isLt⟩ : Fin 128)))]
  · exact grad_apply arg6 X c (⟨p.val / 32, by omega⟩ : Fin 8) (⟨p.val % 32, by omega⟩ : Fin 32) p (by show p.val = 32 * (p.val / 32) + p.val % 32; omega) l
  · intro q hq x
    obtain ⟨⟨c', n'⟩, hb', rfl⟩ := List.mem_map.mp hq
    have hlt : c' < 3 ∧ n' < 8 := by
      have : ∀ e ∈ [((2 : ℕ), (7 : ℕ)), (1, 7), (0, 7), (2, 6), (1, 6), (0, 6), (2, 5), (1, 5), (0, 5), (2, 4), (1, 4), (0, 4), (2, 3), (1, 3), (0, 3),
        (2, 2), (1, 2), (0, 2), (2, 1), (1, 1), (0, 1), (2, 0), (1, 0), (0, 0)], e.1 < 3 ∧ e.2 < 8 := by decide
      exact this _ hb'
    obtain ⟨s', l', rfl⟩ : ∃ (s' : Fin 32) (l' : Fin 128), x = ix3 (0 : Fin 1) s' l' := ⟨x 1, x 2, by
      funext a; fin_cases a
      · exact Fin.ext (by have := (x 0).isLt; show (x 0).val = 0; have h : (x 0).val < 1 := this; omega)
      · rfl
      · rfl⟩
    have e0 : ((Rect.unit (s := S3x256x128) ![c' % 3, 32 * (n' % 8), 0] S1x32x128.size (inb9 c' n')).emb (ix3 0 s' l') 0).val = c' := by
      show c' % 3 + 1 * 0 = _
      rw [Nat.mod_eq_of_lt hlt.1, Nat.mul_zero, Nat.add_zero]
    have e1 : ((Rect.unit (s := S3x256x128) ![c' % 3, 32 * (n' % 8), 0] S1x32x128.size (inb9 c' n')).emb (ix3 0 s' l') 1).val = 32 * n' + s'.val := by
      show 32 * (n' % 8) + 1 * s'.val = _
      rw [Nat.mod_eq_of_lt hlt.2, Nat.one_mul]
    have e2 : ((Rect.unit (s := S3x256x128) ![c' % 3, 32 * (n' % 8), 0] S1x32x128.size (inb9 c' n')).emb (ix3 0 s' l') 2).val = l'.val := by
      show 0 + 1 * l'.val = _
      omega
    have d1 : (32 * n' + s'.val) / 32 = n' := by omega
    have d2 : (32 * n' + s'.val) % 32 = s'.val := by omega
    simp only [e0, e1, e2, d1, d2]
    have h2 : ∀ w : FVec Ideal S32x128 .f32, shapeCast S1x32x128 w shapeCasts_S32x128_S1x32x128 (ix3 0 s' l') = w (ix2 s' l') := by
      intro w; pointwise
    exact h2 _
  · have hm : ∀ (c : Fin 3) (n : Fin 8), (c.val, n.val) ∈ [((2 : ℕ), (7 : ℕ)), (1, 7), (0, 7), (2, 6), (1, 6), (0, 6), (2, 5), (1, 5), (0, 5), (2, 4), (1, 4), (0, 4), (2, 3), (1, 3), (0, 3),
        (2, 2), (1, 2), (0, 2), (2, 1), (1, 1), (0, 1), (2, 0), (1, 0), (0, 0)] := by decide
    refine ⟨_, List.mem_map.mpr ⟨(c.val, p.val / 32), hm c (⟨p.val / 32, by omega⟩ : Fin 8), rfl⟩, ?_⟩
    rw [Rect.mem_set_unit]
    have hc := c.isLt
    have hp : p.val / 32 < 8 := by omega
    intro a
    fin_cases a
    · simp [Nat.mod_eq_of_lt hc]
    · simp [Nat.mod_eq_of_lt hp]; omega
    · simp

theorem read_eighths (arg10 : Memref sig .tc .vmem S256x128 .f32) (f : BufTy.Contents (Elt Ideal) arg10.view.ty)
    (w : ℕ → FVec Ideal S32x128 .f32) (p : Fin 256) (l : Fin 128) :
    arg10.view.read (Elt Ideal) (arg10.view.writes (Elt Ideal) f (eighths w)) (ix2 p l)
      = w (p.val / 32) (ix2 (⟨p.val % 32, by omega⟩ : Fin 32) l) := by
  rw [View.read_writes_apply_of_pieces (Val := Elt Ideal) arg10.view f
    (fun i => w ((i 0).val / 32) (ix2 (⟨(i 0).val % 32, Nat.mod_lt _ (by decide)⟩ : Fin 32) (⟨(i 1).val, (i 1).isLt⟩ : Fin 128)))]
  · rfl
  · intro q hq x
    obtain ⟨n', hb', rfl⟩ := List.mem_map.mp hq
    have hlt : n' < 8 := by
      have : ∀ e ∈ [7, 6, 5, 4, 3, 2, 1, 0], e < 8 := by decide
      exact this _ hb'
    obtain ⟨s', l', rfl⟩ : ∃ (s' : Fin 32) (l' : Fin 128), x = ix2 s' l' := ⟨x 0, x 1, by funext a; fin_cases a <;> rfl⟩
    have e0 : ((Rect.unit (s := S256x128) ![32 * (n' % 8), 0] S32x128.size (inb10 n')).emb (ix2 s' l') 0).val = 32 * n' + s'.val := by
      show 32 * (n' % 8) + 1 * s'.val = _
      rw [Nat.mod_eq_of_lt hlt, Nat.one_mul]
    have e1 : ((Rect.unit (s := S256x128) ![32 * (n' % 8), 0] S32x128.size (inb10 n')).emb (ix2 s' l') 1).val = l'.val := by
      show 0 + 1 * l'.val = _
      omega
    have d1 : (32 * n' + s'.val) / 32 = n' := by omega
    have d2 : (32 * n' + s'.val) % 32 = s'.val := by omega
    simp only [e0, e1, d1, d2]
    have h2 : ∀ w : FVec Ideal S32x128 .f32, shapeCast S32x128 w shapeCasts_S32x128_S32x128 (ix2 s' l') = w (ix2 s' l') := by
      intro w; pointwise
    exact h2 _
  · have hm : ∀ n : Fin 8, n.val ∈ [7, 6, 5, 4, 3, 2, 1, 0] := by decide
    refine ⟨_, List.mem_map.mpr ⟨p.val / 32, hm (⟨p.val / 32, by omega⟩ : Fin 8), rfl⟩, ?_⟩
    rw [Rect.mem_set_unit]
    have hp : p.val / 32 < 8 := by omega
    intro a
    fin_cases a
    · simp [Nat.mod_eq_of_lt hp]; omega
    · simp

theorem eight_f32 : Ideal.ofBits .f32 0x41000000#32 = ((8 : ℝ) : EReal) := by
  simp [Ideal.ofBits, Ideal.ieee, -EReal.coe_mul]; norm_num
theorem eight_half_f32 : Ideal.ofBits .f32 0x41080000#32 = ((17 / 2 : ℝ) : EReal) := by
  simp [Ideal.ofBits, Ideal.ieee, -EReal.coe_mul]; norm_num

theorem near_apply (v : FVec Ideal S1x1x128 .f32) (s : Fin 8) (l : Fin 128) (x0 : ℝ) (h : v (ix3 0 0 l) = (x0 : EReal)) :
    k0_pay2790 (F := Ideal) v (ix2 s l) = ((x0 + ((s.val : ℝ) + 1 / 2) : ℝ) : EReal)
    ∧ k0_pay2791 (F := Ideal) v (ix2 s l) = ((x0 + (((8 + s.val : ℕ) : ℝ) + 1 / 2) : ℝ) : EReal)
    ∧ k0_pay2792 (F := Ideal) v (ix2 s l) = ((x0 + ((s.val : ℝ) + 1 / 2) : ℝ) : EReal)
    ∧ k0_pay2793 (F := Ideal) v (ix2 s l) = ((x0 + (((8 + s.val : ℕ) : ℝ) + 1 / 2) : ℝ) : EReal)
    ∧ k0_pay2794 (F := Ideal) v (ix2 0 l) = ((x0 + 8 : ℝ) : EReal) := by
  have hs : ((BitVec.ofNat 32 s.val).toInt : ℝ) = (s.val : ℝ) := by
    have : (BitVec.ofNat 32 s.val).toInt = (s.val : ℤ) := by
      have : ∀ s : Fin 8, (BitVec.ofNat 32 s.val).toInt = (s.val : ℤ) := by decide
      exact this s
    rw [this]; norm_cast
  have a0 : k0_pay2790 (F := Ideal) v (ix2 s l) = v (ix3 0 0 l) + ((((BitVec.ofNat 32 s.val).toInt : ℝ) : EReal) + Ideal.ofBits .f32 0x3F000000#32) := by
    pointwise [k0_pay2790, k0_pay2787, k0_pay2788]; rfl
  have a1 : k0_pay2791 (F := Ideal) v (ix2 s l) = v (ix3 0 0 l) + ((((BitVec.ofNat 32 s.val).toInt : ℝ) : EReal) + Ideal.ofBits .f32 0x41080000#32) := by
    pointwise [k0_pay2791, k0_pay2787, k0_pay2788]; rfl
  have a2 : k0_pay2792 (F := Ideal) v (ix2 s l) = v (ix3 0 0 l) + ((((BitVec.ofNat 32 s.val).toInt : ℝ) : EReal) + Ideal.ofBits .f32 0x3F000000#32) := by
    pointwise [k0_pay2792, k0_pay2787, k0_pay2789]; rfl
  have a3 : k0_pay2793 (F := Ideal) v (ix2 s l) = v (ix3 0 0 l) + ((((BitVec.ofNat 32 s.val).toInt : ℝ) : EReal) + Ideal.ofBits .f32 0x41080000#32) := by
    pointwise [k0_pay2793, k0_pay2787, k0_pay2789]; rfl
  have a4 : k0_pay2794 (F := Ideal) v (ix2 0 l) = v (ix3 0 0 l) + Ideal.ofBits .f32 0x41000000#32 := by
    pointwise [k0_pay2794, k0_pay2788]
  rw [a0, a1, a2, a3, a4, h, hs, half_f32, eight_half_f32, eight_f32]
  refine ⟨?_, ?_, ?_, ?_, ?_⟩ <;> norm_cast <;> push_cast <;> ring_nf

/-- What a block's inputs hold at a lane. -/
structure Holds (D : Lane) (kg : ℕ) (gs : ℝ) (l : Fin 128) (i : grid0.Coords) (arg1 : Memref sig .tc .smem S720 .i32) (arg2 : Memref sig .tc .smem S9x3 .f32) (arg3 : Memref sig .tc .smem S9 .f32)
    (arg4 : Memref sig .tc .vmem S1x8x40x128 .i32) (arg5 : Memref sig .tc .vmem S1x2x128 .f32) (arg6 : Memref sig .tc .vmem S1x3x64x128 .i32) (arg7 : Memref sig .tc .vmem S1x256x128 .i32)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) (X7 : BufTy.Contents (Elt Ideal) arg7.view.ty) (b0 b1 b2 : ℝ) : Prop where
  count : count i arg1 X1 = BitVec.ofNat 32 kg
  scale : scale i arg3 X3 = (gs : EReal)
  back0 : back0 i arg2 X2 = (b0 : EReal)
  back1 : back1 i arg2 X2 = (b1 : EReal)
  back2 : back2 i arg2 X2 = (b2 : EReal)
  prm : ∀ (j : Fin 8) (k : Fin 40), j.val < 7 → k.val < kg →
    Ideal.ofBits .f32 (arg4.view.read (Elt Ideal) X4 (ix4 0 j k l)) = (D.prm j.val k.val : EReal)
  code : ∀ (k : Fin 40) (c : Fin 4), c.val < 3 → k.val < kg →
    Ideal.ofBits .fp8e4m3 ((arg4.view.read (Elt Ideal) X4 (ix4 0 7 k l) : BitVec 32).extractLsb' (8 * c.val) 8)
      = (D.code k.val c.val : EReal)
  x0 : arg5.view.read (Elt Ideal) X5 (ix3 0 0 l) = (D.x0 : EReal)
  y0 : arg5.view.read (Elt Ideal) X5 (ix3 0 1 l) = (D.y0 : EReal)
  g : ∀ (c : Fin 3) (p : Fin 256), Ideal.ofBits .fp8e5m2
      ((arg6.view.read (Elt Ideal) X6 (ix4 0 c (⟨p.val / 4, by omega⟩ : Fin 64) l) : BitVec 32).extractLsb' (8 * (p.val % 4)) 8) = (D.g c.val p.val : EReal)
  ft : ∀ p : Fin 256, Ideal.ofBits .f32 (arg7.view.read (Elt Ideal) X7 (ix3 0 p l)) = (D.ft p.val : EReal)
  gb : ∀ p : Fin 256, D.gb p.val = (D.g 0 p.val * b0 + D.g 1 p.val * b1) + D.g 2 p.val * b2

theorem org_apply (arg5 : Memref sig .tc .vmem S1x2x128 .f32) (X : BufTy.Contents (Elt Ideal) arg5.view.ty) (l : Fin 128) :
    org0 arg5 X (ix3 0 0 l) = arg5.view.read (Elt Ideal) X (ix3 0 0 l) ∧ org1 arg5 X (ix3 0 0 l) = arg5.view.read (Elt Ideal) X (ix3 0 1 l) := by
  constructor <;> refine (View.readAt_apply ..).trans ?_ <;> refine congrArg (arg5.view.read (Elt Ideal) X) (funext fun a => Fin.ext ?_) <;>
    fin_cases a <;> simp [LoadRect.idx, Rect.toLoadRect, Rect.unit, ix3]

/-- The body's output block at an entry that counts. -/
theorem block (𝒱 : Variants) (c : Dev nD) (bd : Option 𝒱.V) (i : grid0.Coords) (arg1 : Memref sig .tc .smem S720 .i32) (harg1 : arg1.IsWhole) (arg2 : Memref sig .tc .smem S9x3 .f32) (harg2 : arg2.IsWhole) (arg3 : Memref sig .tc .smem S9 .f32) (harg3 : arg3.IsWhole) (arg4 : Memref sig .tc .vmem S1x8x40x128 .i32) (harg4 : arg4.IsWhole) (arg5 : Memref sig .tc .vmem S1x2x128 .f32) (harg5 : arg5.IsWhole) (arg6 : Memref sig .tc .vmem S1x3x64x128 .i32) (harg6 : arg6.IsWhole) (arg7 : Memref sig .tc .vmem S1x256x128 .i32) (harg7 : arg7.IsWhole) (arg8 : Memref sig .tc .vmem S1x9x40x128 .f32) (harg8 : arg8.IsWhole) (arg9 : Memref sig .tc .vmem S3x256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S2x16x128 .f32) (harg12 : arg12.IsWhole) (arg13 : Memref sig .tc .vmem S32x128 .f32) (harg13 : arg13.IsWhole) (arg14 : Memref sig .tc .vmem S9x64x128 .f32) (harg14 : arg14.IsWhole) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (hchk : ∀ h, k0_chk1 (arg1.view.readAt (Elt Ideal) (Rect.unit (s := S720) (k0_off1 i) S1.size (k0_off1_inb i)).toLoadRect X_arg1 (Shape.Idx.first h))) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    (D : Lane) (kg : Fin 41) (l : Fin 128) (hlt : Lets D kg.val) (gs b0 b1 b2 : ℝ)
    (H : Holds D kg.val gs l i arg1 arg2 arg3 arg4 arg5 arg6 arg7 X_arg1 X_arg2 X_arg3 X_arg4 X_arg5 X_arg6 X_arg7 b0 b1 b2)
    (q : Fin 9) (k : Fin 40) (hk : k.val < kg.val) :
    arg8.view.read (Elt Ideal) ((body (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg1 X_arg2 X_arg3 X_arg4 X_arg5 X_arg6 X_arg7 hchk).1 f8 f9 f10 f11 f12 f13 f14) (ix4 0 q k l)
      = ((D.entry kg.val k.val).out gs q.val : EReal) := by
  rw [body_out, trips1 H.count]
  obtain ⟨o0, o1⟩ := org_apply arg5 X_arg5 l
  have nx := fun s => near_apply (org0 arg5 X_arg5) s l D.x0 (o0.trans H.x0)
  have ny := fun s => near_apply (org1 arg5 X_arg5) s l D.y0 (o1.trans H.y0)
  have hl : ∀ p : Fin 256, last arg7 X_arg7 (p.val / 32) (ix2 (⟨p.val % 32, by omega⟩ : Fin 32) l) = (D.ft p.val : EReal) := fun p =>
    (last_apply arg7 X_arg7 (⟨p.val / 32, by omega⟩ : Fin 8) (⟨p.val % 32, by omega⟩ : Fin 32) p (by show p.val = 32 * (p.val / 32) + p.val % 32; omega) l).trans (H.ft p)
  have hg : ∀ (c : Fin 3) (p : Fin 256), grad arg6 X_arg6 c.val (p.val / 32) (ix2 (⟨p.val % 32, by omega⟩ : Fin 32) l) = (D.g c.val p.val : EReal) := fun c p =>
    (grad_apply arg6 X_arg6 c (⟨p.val / 32, by omega⟩ : Fin 8) (⟨p.val % 32, by omega⟩ : Fin 32) p (by show p.val = 32 * (p.val / 32) + p.val % 32; omega) l).trans (H.g c p)
  refine (outer 𝒱 c bd i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ D kg H.count l hlt gs H.scale
    ⟨H.prm, H.code, fun c p => (read_pieces9 arg6 X_arg6 arg9 _ c p l).trans (H.g c p), fun s => (nx s).1, fun s => (nx s).2.1, fun s => (ny s).2.2.1, fun s => (ny s).2.2.2.1, (nx 0).2.2.2.2⟩
    (fun p => (read_eighths arg10 _ _ p l).trans (hl p)) (fun p => (read_eighths arg11 _ _ p l).trans ?_) ((kg.val + 7) / 8) le_rfl).2.2 q k (by omega) (by unfold k0; omega) hk
  have h1 : ∀ (a g0 g1 g2 : FVec Ideal S32x128 .f32) (c0 c1 c2 : Ideal .f32) (j : Fin 32), mulf a (addf (addf (mulf g0 (broadcast S32x128 c0)) (mulf g1 (broadcast S32x128 c1))) (mulf g2 (broadcast S32x128 c2))) (ix2 j l)
      = a (ix2 j l) * ((g0 (ix2 j l) * c0 + g1 (ix2 j l) * c1) + g2 (ix2 j l) * c2) := by
    intro a g0 g1 g2 c0 c1 c2 j; pointwise
  refine (h1 _ _ _ _ _ _ _ _).trans ?_
  have g0 : grad arg6 X_arg6 0 (p.val / 32) (ix2 (⟨p.val % 32, by omega⟩ : Fin 32) l) = (D.g 0 p.val : EReal) := hg 0 p
  have g1 : grad arg6 X_arg6 1 (p.val / 32) (ix2 (⟨p.val % 32, by omega⟩ : Fin 32) l) = (D.g 1 p.val : EReal) := hg 1 p
  have g2 : grad arg6 X_arg6 2 (p.val / 32) (ix2 (⟨p.val % 32, by omega⟩ : Fin 32) l) = (D.g 2 p.val : EReal) := hg 2 p
  rw [hl p, g0, g1, g2, H.back0, H.back1, H.back2, H.gb p]
  norm_cast

end Cert.KernelIdeal.Run
-- ==== Proof.At.lean ====
/- What the words of the arguments hold for one block, in the reals. -/
module

public import proofs.«01_k».proof.Proof.Trip

@[expose] public section

noncomputable section

namespace Cert.Splat

open Idealize.ShloMosaic

/-- The arguments' words of one block: its count of entries, its image's scale and background, its entries' rows, its corner,
    its packed gradients and its last transmittances. -/
structure At (D : Lane) (kg : ℕ) (gs b0 b1 b2 : ℝ) (cnt : BitVec 32) (sw : EReal) (bw : Fin 3 → EReal)
    (pw : Fin 8 → Fin 40 → BitVec 32) (ow : Fin 2 → EReal) (gw : Fin 3 → Fin 64 → BitVec 32) (fw : Fin 256 → BitVec 32) : Prop where
  count : cnt = BitVec.ofNat 32 kg
  scale : sw = (gs : EReal)
  back0 : bw 0 = (b0 : EReal)
  back1 : bw 1 = (b1 : EReal)
  back2 : bw 2 = (b2 : EReal)
  prm : ∀ (j : Fin 8) (k : Fin 40), j.val < 7 → k.val < kg → Ideal.ofBits .f32 (pw j k) = (D.prm j.val k.val : EReal)
  code : ∀ (k : Fin 40) (c : Fin 4), c.val < 3 → k.val < kg →
    Ideal.ofBits .fp8e4m3 ((pw 7 k).extractLsb' (8 * c.val) 8) = (D.code k.val c.val : EReal)
  x0 : ow 0 = (D.x0 : EReal)
  y0 : ow 1 = (D.y0 : EReal)
  g : ∀ (c : Fin 3) (p : Fin 256),
    Ideal.ofBits .fp8e5m2 ((gw c (⟨p.val / 4, by omega⟩ : Fin 64)).extractLsb' (8 * (p.val % 4)) 8) = (D.g c.val p.val : EReal)
  ft : ∀ p : Fin 256, Ideal.ofBits .f32 (fw p) = (D.ft p.val : EReal)
  gb : ∀ p : Fin 256, D.gb p.val = (D.g 0 p.val * b0 + D.g 1 p.val * b1) + D.g 2 p.val * b2

end Cert.Splat
-- ==== Proof.Arr.lean ====
/- The kernel's output array in the reals: at every entry that counts, its nine gradients, from the arguments' words. -/
module

public import proofs.«01_k».proof.Proof.Block
public import proofs.«01_k».proof.Proof.Count
public import proofs.«01_k».proof.Proof.At
public import Idealize.ShloMosaic.Lib.Pipeline.ValueKit

@[expose] public section

set_option maxRecDepth 65536
set_option maxHeartbeats 4000000

noncomputable section

namespace Cert.KernelIdeal.Run

open Cert.KernelIdeal Cert.KernelIdeal.Gen Cert.Splat
open Idealize.ShloMosaic Idealize.ShloMosaic.TcCoe Idealize.SL Idealize.SL.Sem

variable (m : (ℓ : Loc nD τ sig) → Buf (Elt Ideal) ℓ)

theorem off2_eq : ∀ t : Fin cfg0.N, k0_off2 (grid0.coords t) 0 = t.val / 75 := by decide +kernel
theorem off3_eq : ∀ t : Fin cfg0.N, k0_off3 (grid0.coords t) 0 = t.val / 75 ∧ k0_off3 (grid0.coords t) 1 = 0 := by decide +kernel
theorem off4_eq : ∀ t : Fin cfg0.N, k0_off4 (grid0.coords t) 0 = t.val / 75 ∧ k0_off4 (grid0.coords t) 1 = 1 := by decide +kernel
theorem off5_eq : ∀ t : Fin cfg0.N, k0_off5 (grid0.coords t) 0 = t.val / 75 ∧ k0_off5 (grid0.coords t) 1 = 2 := by decide +kernel

theorem iblk1_apply (c : Dev nD) (t : Fin cfg0.N) (j : S9x3.Idx) : iblk m c 1 t j = m ((c : Thread nD τ).loc main_arg1) j := by
  unfold iblk
  rw [View.read_apply]
  refine congrArg (m ((c : Thread nD τ).loc main_arg1)) (funext fun a => Fin.ext ?_)
  fin_cases a
  · show 0 * 9 + 1 * (j 0).val = (j 0).val
    omega
  · show 0 * 3 + 1 * (j 1).val = (j 1).val
    omega

theorem iblk2_apply (c : Dev nD) (t : Fin cfg0.N) (j : S9.Idx) : iblk m c 2 t j = m ((c : Thread nD τ).loc main_arg2) j := by
  unfold iblk
  rw [View.read_apply]
  refine congrArg (m ((c : Thread nD τ).loc main_arg2)) (funext fun a => Fin.ext ?_)
  fin_cases a
  show 0 * 9 + 1 * (j 0).val = (j 0).val
  omega

theorem coord_eq : ∀ t : Fin cfg0.N, ((grid0.coords t) 0).val = t.val := by decide +kernel

theorem trans_eq : ∀ t : Fin cfg0.N, win0_3.index t = ![t.val, 0, 0, 0] ∧ win0_4.index t = ![t.val, 0, 0]
    ∧ win0_5.index t = ![t.val, 0, 0, 0] ∧ win0_6.index t = ![t.val, 0, 0] ∧ win0_7.index t = ![t.val, 0, 0, 0] := by
  decide +kernel

theorem iblk3_apply (c : Dev nD) (t : Fin cfg0.N) (j : S1x8x40x128.Idx) :
    iblk m c 3 t j = m ((c : Thread nD τ).loc main_arg3) (ix4 t (j 1) (j 2) (j 3)) := by
  unfold iblk
  rw [View.read_apply]
  refine congrArg (m ((c : Thread nD τ).loc main_arg3)) (funext fun a => Fin.ext ?_)
  have h := (trans_eq t).1
  have hj : (j 0).val < 1 := (j 0).isLt
  fin_cases a
  · show win0_3.index t 0 * 1 + 1 * (j 0).val = t.val
    rw [h]; show t.val * 1 + 1 * (j 0).val = t.val
    omega
  · show win0_3.index t 1 * 8 + 1 * (j 1).val = (j 1).val
    rw [h]; show 0 * 8 + 1 * (j 1).val = (j 1).val
    omega
  · show win0_3.index t 2 * 40 + 1 * (j 2).val = (j 2).val
    rw [h]; show 0 * 40 + 1 * (j 2).val = (j 2).val
    omega
  · show win0_3.index t 3 * 128 + 1 * (j 3).val = (j 3).val
    rw [h]; show 0 * 128 + 1 * (j 3).val = (j 3).val
    omega

theorem iblk4_apply (c : Dev nD) (t : Fin cfg0.N) (j : S1x2x128.Idx) :
    iblk m c 4 t j = m ((c : Thread nD τ).loc main_arg4) (ix3 t (j 1) (j 2)) := by
  unfold iblk
  rw [View.read_apply]
  refine congrArg (m ((c : Thread nD τ).loc main_arg4)) (funext fun a => Fin.ext ?_)
  have h := (trans_eq t).2.1
  have hj : (j 0).val < 1 := (j 0).isLt
  fin_cases a
  · show win0_4.index t 0 * 1 + 1 * (j 0).val = t.val
    rw [h]; show t.val * 1 + 1 * (j 0).val = t.val
    omega
  · show win0_4.index t 1 * 2 + 1 * (j 1).val = (j 1).val
    rw [h]; show 0 * 2 + 1 * (j 1).val = (j 1).val
    omega
  · show win0_4.index t 2 * 128 + 1 * (j 2).val = (j 2).val
    rw [h]; show 0 * 128 + 1 * (j 2).val = (j 2).val
    omega

theorem iblk5_apply (c : Dev nD) (t : Fin cfg0.N) (j : S1x3x64x128.Idx) :
    iblk m c 5 t j = m ((c : Thread nD τ).loc main_arg5) (ix4 t (j 1) (j 2) (j 3)) := by
  unfold iblk
  rw [View.read_apply]
  refine congrArg (m ((c : Thread nD τ).loc main_arg5)) (funext fun a => Fin.ext ?_)
  have h := (trans_eq t).2.2.1
  have hj : (j 0).val < 1 := (j 0).isLt
  fin_cases a
  · show win0_5.index t 0 * 1 + 1 * (j 0).val = t.val
    rw [h]; show t.val * 1 + 1 * (j 0).val = t.val
    omega
  · show win0_5.index t 1 * 3 + 1 * (j 1).val = (j 1).val
    rw [h]; show 0 * 3 + 1 * (j 1).val = (j 1).val
    omega
  · show win0_5.index t 2 * 64 + 1 * (j 2).val = (j 2).val
    rw [h]; show 0 * 64 + 1 * (j 2).val = (j 2).val
    omega
  · show win0_5.index t 3 * 128 + 1 * (j 3).val = (j 3).val
    rw [h]; show 0 * 128 + 1 * (j 3).val = (j 3).val
    omega

theorem iblk6_apply (c : Dev nD) (t : Fin cfg0.N) (j : S1x256x128.Idx) :
    iblk m c 6 t j = m ((c : Thread nD τ).loc main_arg6) (ix3 t (j 1) (j 2)) := by
  unfold iblk
  rw [View.read_apply]
  refine congrArg (m ((c : Thread nD τ).loc main_arg6)) (funext fun a => Fin.ext ?_)
  have h := (trans_eq t).2.2.2.1
  have hj : (j 0).val < 1 := (j 0).isLt
  fin_cases a
  · show win0_6.index t 0 * 1 + 1 * (j 0).val = t.val
    rw [h]; show t.val * 1 + 1 * (j 0).val = t.val
    omega
  · show win0_6.index t 1 * 256 + 1 * (j 1).val = (j 1).val
    rw [h]; show 0 * 256 + 1 * (j 1).val = (j 1).val
    omega
  · show win0_6.index t 2 * 128 + 1 * (j 2).val = (j 2).val
    rw [h]; show 0 * 128 + 1 * (j 2).val = (j 2).val
    omega

/-- The words of the block at point `t`, lane `l`, hold what `D` says. -/
abbrev AtK (c : Dev nD) (D : Lane) (kg : ℕ) (gs b0 b1 b2 : ℝ) (t : Fin 675) (l : Fin 128) : Prop :=
  At D kg gs b0 b1 b2 ((m ((c : Thread nD τ).loc main_arg0) : IVec S720 32) (ix1 ⟨t.val / 15 * 16 + t.val % 15, by omega⟩))
    ((m ((c : Thread nD τ).loc main_arg2) : FVec Ideal S9 .f32) (ix1 ⟨t.val / 75, by omega⟩))
    (fun j => (m ((c : Thread nD τ).loc main_arg1) : FVec Ideal S9x3 .f32) (ix2 ⟨t.val / 75, by omega⟩ j))
    (fun j k => (m ((c : Thread nD τ).loc main_arg3) : IVec S675x8x40x128 32) (ix4 t j k l))
    (fun j => (m ((c : Thread nD τ).loc main_arg4) : FVec Ideal S675x2x128 .f32) (ix3 t j l))
    (fun j w => (m ((c : Thread nD τ).loc main_arg5) : IVec S675x3x64x128 32) (ix4 t j w l))
    (fun p => (m ((c : Thread nD τ).loc main_arg6) : IVec S675x256x128 32) (ix3 t p l))

/-- What the body leaves in the output block, at an entry that counts. -/
theorem left_apply (hC : Counts m) (c : Dev nD) (t : Fin cfg0.N) (l : Fin 128) (D : Lane) (kg : Fin 41) (gs b0 b1 b2 : ℝ)
    (hA : AtK m c D kg.val gs b0 b1 b2 t l) (hlt : Lets D kg.val) (Y : Vec Ideal S1x9x40x128 .f32) (hY : Left m hC c t Y)
    (q : Fin 9) (k : Fin 40) (hk : k.val < kg.val) :
    (Y : FVec Ideal S1x9x40x128 .f32) (ix4 0 q k l) = ((D.entry kg.val k.val).out gs q.val : EReal) := by
  obtain ⟨f0, f1, f2, f3, f4, f5, f6, rfl⟩ := hY
  refine block 𝒱₀ c none (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) sc4 (Memref.isWhole_whole _) sc5 (Memref.isWhole_whole _)
    ((hs0 t).unread (iblk m c 0 t)) ((hs1 t).unread (iblk m c 1 t)) ((hs2 t).unread (iblk m c 2 t)) ((hs3 t).unread (iblk m c 3 t)) ((hs4 t).unread (iblk m c 4 t)) ((hs5 t).unread (iblk m c 5 t)) ((hs6 t).unread (iblk m c 6 t)) (hC.at c t)
    f0 f1 f2 f3 f4 f5 f6 D kg l hlt gs b0 b1 b2 ?_ q k hk
  constructor
  · refine ((View.readAt_apply ..).trans ?_).trans hA.count
    rw [(hs0 t).read_unread, iblk0_apply]
    refine congrArg (m ((c : Thread nD τ).loc main_arg0)) (funext fun a => Fin.ext ?_)
    fin_cases a
    show k0_off1 (grid0.coords t) 0 + 1 * 0 = t.val / 15 * 16 + t.val % 15
    rw [off1_eq]; omega
  · refine ((View.readAt_apply ..).trans ?_).trans hA.scale
    rw [(hs2 t).read_unread, iblk2_apply]
    refine congrArg (m ((c : Thread nD τ).loc main_arg2)) (funext fun a => Fin.ext ?_)
    fin_cases a
    show k0_off2 (grid0.coords t) 0 + 1 * 0 = t.val / 75
    rw [off2_eq]; omega
  · refine ((View.readAt_apply ..).trans ?_).trans hA.back0
    rw [(hs1 t).read_unread, iblk1_apply]
    refine congrArg (m ((c : Thread nD τ).loc main_arg1)) (funext fun a => Fin.ext ?_)
    fin_cases a
    · show k0_off3 (grid0.coords t) 0 + 1 * 0 = t.val / 75
      rw [(off3_eq t).1]; omega
    · show k0_off3 (grid0.coords t) 1 + 1 * 0 = 0
      rw [(off3_eq t).2]
  · refine ((View.readAt_apply ..).trans ?_).trans hA.back1
    rw [(hs1 t).read_unread, iblk1_apply]
    refine congrArg (m ((c : Thread nD τ).loc main_arg1)) (funext fun a => Fin.ext ?_)
    fin_cases a
    · show k0_off4 (grid0.coords t) 0 + 1 * 0 = t.val / 75
      rw [(off4_eq t).1]; omega
    · show k0_off4 (grid0.coords t) 1 + 1 * 0 = 1
      rw [(off4_eq t).2]
  · refine ((View.readAt_apply ..).trans ?_).trans hA.back2
    rw [(hs1 t).read_unread, iblk1_apply]
    refine congrArg (m ((c : Thread nD τ).loc main_arg1)) (funext fun a => Fin.ext ?_)
    fin_cases a
    · show k0_off5 (grid0.coords t) 0 + 1 * 0 = t.val / 75
      rw [(off5_eq t).1]; omega
    · show k0_off5 (grid0.coords t) 1 + 1 * 0 = 2
      rw [(off5_eq t).2]
  · intro j k hj hk
    rw [(hs3 t).read_unread, iblk3_apply]
    exact hA.prm j k hj hk
  · intro k c' hc hk
    rw [(hs3 t).read_unread, iblk3_apply]
    exact hA.code k c' hc hk
  · rw [(hs4 t).read_unread, iblk4_apply]
    exact hA.x0
  · rw [(hs4 t).read_unread, iblk4_apply]
    exact hA.y0
  · intro c' p
    rw [(hs5 t).read_unread, iblk5_apply]
    exact hA.g c' p
  · intro p
    rw [(hs6 t).read_unread, iblk6_apply]
    exact hA.ft p
  · exact hA.gb

/-- The output array after a run, at an entry that counts. -/
theorem array (hC : Counts m) {r : PUnit × MemSt nD τ sig (Elt Ideal)}
    (h : Pipeline.RDat.FramePost (cfgs 0) (rdat m hC) (V m) r) (c : Dev nD) (D : Fin 675 → Fin 128 → Lane) (kg : Fin 675 → Fin 41)
    (gs b0 b1 b2 : Fin 675 → ℝ)
    (hA : ∀ t l, AtK m c (D t l) (kg t).val (gs t) (b0 t) (b1 t) (b2 t) t l) (hlt : ∀ t l, Lets (D t l) (kg t).val)
    (t : Fin 675) (q : Fin 9) (k : Fin 40) (l : Fin 128) (hk : k.val < (kg t).val) :
    (r.2.mem ((c : Thread nD τ).loc main_v0) : FVec Ideal S675x9x40x128 .f32) (ix4 t q k l)
      = (((D t l).entry (kg t).val k.val).out (gs t) q.val : EReal) := by
  obtain ⟨after, hL, hM⟩ := h.exists_exact c
  have e : r.2.mem ((c : Thread nD τ).loc main_v0) = ((rdat m hC c).withAfter after).arrAt 7 cfg0.N := hM 7
  rw [e]
  refine Pipeline.Dat.arrAt_forall_of_covers ((rdat m hC c).withAfter after) 7
    (P := fun i v => (i 2).val < (kg (i 0)).val → v = (((D (i 0) (i 3)).entry (kg (i 0)).val (i 2).val).out (gs (i 0)) (i 1).val : EReal)) (by decide +kernel) ?_ (ix4 t q k l) (Memref.isWhole_whole _) hk
  intro u hu y
  have hl : Left m hC c u (after 7 u) := (dats m 0 c).toRRel_leaves (fgt := fgt) (Rl := Rl m hC c) (w := 7) (by decide) (hL 7 u hu)
  have he : ((cfg0.win 7).blk u).view.emb y = ix4 u (y 1) (y 2) (y 3) := by
    have h := (trans_eq u).2.2.2.2
    have hj : (y 0).val < 1 := (y 0).isLt
    refine funext fun a => Fin.ext ?_
    fin_cases a
    · show win0_7.index u 0 * 1 + 1 * (y 0).val = u.val
      rw [h]; show u.val * 1 + 1 * (y 0).val = u.val
      omega
    · show win0_7.index u 1 * 9 + 1 * (y 1).val = (y 1).val
      rw [h]; show 0 * 9 + 1 * (y 1).val = (y 1).val
      omega
    · show win0_7.index u 2 * 40 + 1 * (y 2).val = (y 2).val
      rw [h]; show 0 * 40 + 1 * (y 2).val = (y 2).val
      omega
    · show win0_7.index u 3 * 128 + 1 * (y 3).val = (y 3).val
      rw [h]; show 0 * 128 + 1 * (y 3).val = (y 3).val
      omega
  rw [he]
  intro hk
  refine Eq.trans ?_ (left_apply m hC c u (y 3) (D u (y 3)) (kg u) (gs u) (b0 u) (b1 u) (b2 u) (hA u (y 3)) (hlt u (y 3)) (after 7 u) hl (y 1) (y 2) hk)
  rw [Pipeline.RDat.withAfter_after]
  refine congrArg (after 7 u) (funext fun a => Fin.ext ?_)
  have hj : (y 0).val < 1 := (y 0).isLt
  fin_cases a
  · show (y 0).val = 0
    omega
  · rfl
  · rfl
  · rfl

end Cert.KernelIdeal.Run
-- ==== Proof.Fold.lean ====
/- The reference's closed forms in the reals, and that the kernel's recurrence over the entries computes them. -/
module

public import proofs.«01_k».proof.Proof.Chunks

@[expose] public section

noncomputable section

namespace Cert.Splat

open Finset

namespace Lane

variable (D : Lane) (kg : ℕ)

/-- An entry's own numbers. -/
def own (k : ℕ) : Ent := D.ent k (fun _ => 0) (fun _ => 0)

/-- An entry's colour. -/
def col (k c : ℕ) : ℝ := D.code k c * D.prm 6 k

/-- The opacity of entry `k` at a pixel, nothing past the `kg` entries that count. -/
def A (k p : ℕ) : ℝ := if k < kg then (D.own k).al p else 0

/-- The transmittance in front of entry `k`: the last one over what the entries from `k` on let through. -/
def T (k p : ℕ) : ℝ := D.ft p / ∏ j ∈ range 64, (1 - D.A kg (k + j) p)

/-- The weight of entry `k`. -/
def W (k p : ℕ) : ℝ := D.A kg k p * D.T kg k p

/-- The light from behind entry `j` alone: the next entry's, and the background's behind the last row. -/
def B (b : ℕ → ℝ) (c j p : ℕ) : ℝ :=
  if j < 39 then D.W kg (j + 1) p * D.col (j + 1) c else if j = 39 then D.ft p * b c else 0

/-- The light from behind entry `k`. -/
def S (b : ℕ → ℝ) (c k p : ℕ) : ℝ := ∑ j ∈ range 64, D.B kg b c (k + j) p

/-- The derivative by the opacity. -/
def L (gs : ℝ) (b : ℕ → ℝ) (k p : ℕ) : ℝ :=
  D.g 0 p * gs * (D.T kg k p * D.col k 0 - D.S kg b 0 k p / (1 - D.A kg k p))
    + D.g 1 p * gs * (D.T kg k p * D.col k 1 - D.S kg b 1 k p / (1 - D.A kg k p))
    + D.g 2 p * gs * (D.T kg k p * D.col k 2 - D.S kg b 2 k p / (1 - D.A kg k p))

/-- The derivative by the exponent. -/
def Z (gs : ℝ) (b : ℕ → ℝ) (k p : ℕ) : ℝ := -D.A kg k p * D.L kg gs b k p

/-- The summand of each of the nine results. -/
def summand (gs : ℝ) (b : ℕ → ℝ) (k n p : ℕ) : ℝ :=
  match n with
  | 0 => D.Z kg gs b k p * (D.prm 2 k * (D.own k).dx (p / 16) + D.prm 3 k * (D.own k).dy (p % 16))
  | 1 => D.Z kg gs b k p * (D.prm 3 k * (D.own k).dx (p / 16) + D.prm 4 k * (D.own k).dy (p % 16))
  | 2 => (D.own k).vis p * D.L kg gs b k p
  | 3 => 1 / 2 * D.Z kg gs b k p * (D.own k).dx (p / 16) * (D.own k).dx (p / 16)
  | 4 => D.Z kg gs b k p * (D.own k).dx (p / 16) * (D.own k).dy (p % 16)
  | 5 => 1 / 2 * D.Z kg gs b k p * (D.own k).dy (p % 16) * (D.own k).dy (p % 16)
  | n + 6 => D.W kg k p * (D.g n p * gs)

theorem A_of_le {k : ℕ} (h : kg ≤ k) (p : ℕ) : D.A kg k p = 0 := if_neg (by omega)

theorem A_of_lt {k : ℕ} (h : k < kg) (p : ℕ) : D.A kg k p = (D.own k).al p := if_pos h

variable {kg}

theorem T_step (h : kg ≤ 40) (k p : ℕ) : D.T kg k p = D.T kg (k + 1) p * (1 - D.A kg k p)⁻¹ := by
  unfold T
  have e : ∏ j ∈ range 64, (1 - D.A kg (k + j) p) = (1 - D.A kg k p) * ∏ j ∈ range 64, (1 - D.A kg (k + 1 + j) p) := by
    rw [prod_range_succ' _ 63, prod_range_succ (fun j => 1 - D.A kg (k + 1 + j) p) 63, D.A_of_le kg (k := k + 1 + 63) (by omega)]
    simp only [Nat.add_zero, sub_zero, mul_one]
    rw [mul_comm]
    exact congrArg _ (prod_congr rfl fun j _ => by rw [Nat.add_right_comm, Nat.add_assoc])
  rw [e, div_mul_eq_div_div_swap, div_eq_mul_inv (_ / _)]

theorem T_last (p : ℕ) : D.T kg kg p = D.ft p := by
  unfold T
  rw [prod_eq_one fun j _ => by rw [D.A_of_le kg (by omega), sub_zero], div_one]

theorem S_step (b : ℕ → ℝ) (c : ℕ) {k : ℕ} (hk : k < 39) (p : ℕ) :
    D.S kg b c k p = D.S kg b c (k + 1) p + D.W kg (k + 1) p * D.col (k + 1) c := by
  unfold S
  rw [sum_range_succ' _ 63, sum_range_succ (fun j => D.B kg b c (k + 1 + j) p) 63]
  have e0 : D.B kg b c (k + 1 + 63) p = 0 := by unfold B; rw [if_neg (by omega), if_neg (by omega)]
  have e1 : D.B kg b c (k + 0) p = D.W kg (k + 1) p * D.col (k + 1) c := by unfold B; rw [if_pos (by omega), Nat.add_zero]
  rw [e0, e1, add_zero]
  exact congrArg (· + _) (sum_congr rfl fun j _ => by rw [Nat.add_right_comm, Nat.add_assoc])

theorem S_last (h : kg ≤ 40) (h0 : 0 < kg) (b : ℕ → ℝ) (c p : ℕ) : D.S kg b c (kg - 1) p = D.ft p * b c := by
  unfold S
  rw [sum_eq_single (40 - kg)]
  · unfold B; rw [if_neg (by omega), if_pos (by omega)]
  · intro j _ hj
    unfold B
    by_cases h1 : kg - 1 + j < 39
    · rw [if_pos h1]; unfold W; rw [D.A_of_le kg (by omega), zero_mul, zero_mul]
    · rw [if_neg h1, if_neg (by omega)]
  · intro hj; exact absurd (mem_range.mpr (by omega)) hj

/-- What the recurrence holds after its last `m` entries. -/
theorem st_eq (h : kg ≤ 40) (b : ℕ → ℝ) (p : ℕ) (hgb : D.gb p = (D.g 0 p * b 0 + D.g 1 p * b 1) + D.g 2 p * b 2) (m : ℕ) (hm : m ≤ kg) :
    (D.st kg m).1 p = D.T kg (kg - m) p
      ∧ (m < kg → (D.st kg m).2 p = (D.g 0 p * D.S kg b 0 (kg - 1 - m) p + D.g 1 p * D.S kg b 1 (kg - 1 - m) p) + D.g 2 p * D.S kg b 2 (kg - 1 - m) p) := by
  induction m with
  | zero =>
    refine ⟨(D.T_last p).symm, fun h0 => ?_⟩
    rw [Nat.sub_zero, D.S_last h h0, D.S_last h h0, D.S_last h h0]
    show D.ft p * D.gb p = _
    rw [hgb]; ring
  | succ m ih =>
    obtain ⟨i1, i2⟩ := ih (by omega)
    have i2 := i2 (by omega)
    have e : kg - m = (kg - 1 - m) + 1 := by omega
    have tn : (D.ent (kg - 1 - m) (D.st kg m).1 (D.st kg m).2).tn p = D.T kg (kg - 1 - m) p := by
      rw [D.T_step h, D.A_of_lt kg (by omega), ← e, ← i1]; rfl
    refine ⟨?_, fun hl => ?_⟩
    · rw [show kg - (m + 1) = kg - 1 - m by omega]; exact tn
    · have e2 : kg - 1 - m = (kg - 1 - (m + 1)) + 1 := by omega
      rw [D.S_step b 0 (by omega), D.S_step b 1 (by omega), D.S_step b 2 (by omega), ← e2]
      show (D.st kg m).2 p + (D.own (kg - 1 - m)).al p * ((D.ent (kg - 1 - m) (D.st kg m).1 (D.st kg m).2).tn p
        * (D.g 0 p * D.col (kg - 1 - m) 0 + D.g 1 p * D.col (kg - 1 - m) 1 + D.g 2 p * D.col (kg - 1 - m) 2)) = _
      rw [tn, i2]
      unfold W
      rw [D.A_of_lt kg (k := kg - 1 - m) (by omega)]
      ring

/-- The recurrence's results are the sums of the reference's. -/
theorem out_eq (h : kg ≤ 40) (gs : ℝ) (b : ℕ → ℝ) (hgb : ∀ p < 256, D.gb p = (D.g 0 p * b 0 + D.g 1 p * b 1) + D.g 2 p * b 2)
    {k : ℕ} (hk : k < kg) (n : ℕ) (hn : n < 9) :
    (D.entry kg k).out gs n = ∑ p ∈ range 256, D.summand kg gs b k n p := by
  have ht : ∀ p < 256, (D.entry kg k).tn p = D.T kg k p := fun p hp => by
    rw [D.T_step h, D.A_of_lt kg hk, show k + 1 = kg - (kg - 1 - k) by omega, ← (D.st_eq h b p (hgb p hp) (kg - 1 - k) (by omega)).1]; rfl
  have hr : ∀ p < 256, (D.entry kg k).r p = (D.g 0 p * D.S kg b 0 k p + D.g 1 p * D.S kg b 1 k p) + D.g 2 p * D.S kg b 2 k p := fun p hp => by
    have := (D.st_eq h b p (hgb p hp) (kg - 1 - k) (by omega)).2 (by omega)
    rw [show kg - 1 - (kg - 1 - k) = k by omega] at this
    exact this
  have hw : ∀ p < 256, (D.entry kg k).w p = D.W kg k p := fun p hp => by
    unfold W; rw [← ht p hp, D.A_of_lt kg hk]; rfl
  have hu : ∀ p < 256, (D.own k).vis p * D.L kg gs b k p = gs * (D.entry kg k).u p := fun p hp => by
    show _ = gs * ((D.own k).vis p * ((D.entry kg k).tn p * (D.g 0 p * D.col k 0 + D.g 1 p * D.col k 1 + D.g 2 p * D.col k 2)
      - (D.entry kg k).r p * (1 - (D.own k).al p)⁻¹))
    rw [ht p hp, hr p hp]
    unfold L
    rw [D.A_of_lt kg hk]
    simp only [div_eq_mul_inv]
    ring
  have hz : ∀ p < 256, D.Z kg gs b k p = -gs * D.prm 5 k * (D.entry kg k).u p := fun p hp => by
    have e : (D.own k).al p = D.prm 5 k * (D.own k).vis p := rfl
    unfold Z
    rw [D.A_of_lt kg hk, e, neg_mul, mul_assoc, hu p hp]
    ring
  have hs : ∀ n, (D.entry kg k).sum n = ∑ p ∈ range 256, (D.entry kg k).term n p := fun n => (sum_parts _).symm
  have big : ∀ n', n = n' + 6 → n' < 3 → gs * (D.entry kg k).sum (n' + 6) = ∑ p ∈ range 256, D.summand kg gs b k (n' + 6) p := by
    intro n' _ hn'
    rw [hs, mul_sum]
    refine sum_congr rfl fun p hp => ?_
    show _ = D.W kg k p * (D.g n' p * gs)
    rw [← hw p (mem_range.mp hp)]
    have : n' = 0 ∨ n' = 1 ∨ n' = 2 := by omega
    rcases this with rfl | rfl | rfl
    · show gs * ((D.entry kg k).w p * D.g 0 p) = _
      ring
    · show gs * ((D.entry kg k).w p * D.g 1 p) = _
      ring
    · show gs * ((D.entry kg k).w p * D.g 2 p) = _
      ring
  match n, hn with
  | 0, _ =>
    show -gs * D.prm 5 k * (D.prm 2 k * (D.entry kg k).sum 1 + D.prm 3 k * (D.entry kg k).sum 3) = _
    rw [hs, hs, mul_sum, mul_sum, ← sum_add_distrib, mul_sum]
    refine sum_congr rfl fun p hp => ?_
    show -gs * D.prm 5 k * (D.prm 2 k * ((D.entry kg k).u p * (D.own k).dx (p / 16)) + D.prm 3 k * ((D.entry kg k).u p * (D.own k).dy (p % 16))) = D.Z kg gs b k p * (D.prm 2 k * (D.own k).dx (p / 16) + D.prm 3 k * (D.own k).dy (p % 16))
    rw [hz p (mem_range.mp hp)]; ring
  | 1, _ =>
    show -gs * D.prm 5 k * (D.prm 3 k * (D.entry kg k).sum 1 + D.prm 4 k * (D.entry kg k).sum 3) = _
    rw [hs, hs, mul_sum, mul_sum, ← sum_add_distrib, mul_sum]
    refine sum_congr rfl fun p hp => ?_
    show -gs * D.prm 5 k * (D.prm 3 k * ((D.entry kg k).u p * (D.own k).dx (p / 16)) + D.prm 4 k * ((D.entry kg k).u p * (D.own k).dy (p % 16))) = D.Z kg gs b k p * (D.prm 3 k * (D.own k).dx (p / 16) + D.prm 4 k * (D.own k).dy (p % 16))
    rw [hz p (mem_range.mp hp)]; ring
  | 2, _ =>
    show gs * (D.entry kg k).sum 0 = _
    rw [hs, mul_sum]
    exact sum_congr rfl fun p hp => (hu p (mem_range.mp hp)).symm
  | 3, _ =>
    show 1 / 2 * (-gs * D.prm 5 k * (D.entry kg k).sum 2) = _
    rw [hs, mul_sum, mul_sum]
    refine sum_congr rfl fun p hp => ?_
    show 1 / 2 * (-gs * D.prm 5 k * ((D.entry kg k).u p * (D.own k).dx (p / 16) * (D.own k).dx (p / 16))) = 1 / 2 * D.Z kg gs b k p * (D.own k).dx (p / 16) * (D.own k).dx (p / 16)
    rw [hz p (mem_range.mp hp)]; ring
  | 4, _ =>
    show -gs * D.prm 5 k * (D.entry kg k).sum 4 = _
    rw [hs, mul_sum]
    refine sum_congr rfl fun p hp => ?_
    show -gs * D.prm 5 k * ((D.entry kg k).u p * (D.own k).dx (p / 16) * (D.own k).dy (p % 16)) = D.Z kg gs b k p * (D.own k).dx (p / 16) * (D.own k).dy (p % 16)
    rw [hz p (mem_range.mp hp)]; ring
  | 5, _ =>
    show 1 / 2 * (-gs * D.prm 5 k * (D.entry kg k).sum 5) = _
    rw [hs, mul_sum, mul_sum]
    refine sum_congr rfl fun p hp => ?_
    show 1 / 2 * (-gs * D.prm 5 k * ((D.entry kg k).u p * (D.own k).dy (p % 16) * (D.own k).dy (p % 16))) = 1 / 2 * D.Z kg gs b k p * (D.own k).dy (p % 16) * (D.own k).dy (p % 16)
    rw [hz p (mem_range.mp hp)]; ring
  | 6, _ => exact big 0 rfl (by omega)
  | 7, _ => exact big 1 rfl (by omega)
  | 8, _ => exact big 2 rfl (by omega)

end Lane

end Cert.Splat
-- ==== Proof.Pre.lean ====
/- The precondition of the value claim, read: what it says of the words and floats of the arguments. -/
module

public import proofs.«01_k».proof.Proof.Fits
public import proofs.«01_k».proof.Proof.Gen.Pre_blocks_valid
public import proofs.«01_k».proof.Proof.Gen.On_entries_counted
public import Idealize.ShloMosaic.Lib.Pointwise

@[expose] public section

set_option maxRecDepth 16384

noncomputable section

namespace Cert.Pre_blocks_valid

open Idealize.ShloMosaic Idealize.ShloMosaic.Tactic

variable [Facts] (a0 : IVec S720 32) (a1 : FVec Ideal S9x3 .f32) (a2 : FVec Ideal S9 .f32) (a3 : IVec S675x8x40x128 32)
  (a4 : FVec Ideal S675x2x128 .f32) (a5 : IVec S675x3x64x128 32) (a6 : IVec S675x256x128 32)

/-- Whether a value is below infinity in size. -/
def fin1 (x : EReal) : BitVec 1 :=
  BitVec.ofBool (decide (FloatOps.absf (F := Ideal) (φ := .f32) x < Ideal.ofBits .f32 2139095040#32))

/-- Whether an entry is past its block's count. -/
def dead (n : IVec S720 32) (g : Fin 675) (k : Fin 40) : BitVec 1 :=
  IntOp.cmpi .sge (BitVec.ofNat 32 k.val) (n (ix1 ⟨g.val / 15 * 16 + g.val % 15, by omega⟩))

theorem c0 (u : Fin 45) (x : Fin 15) : (fn a0 a1 a2 a3 a4 a5 a6).1 (ix2 u x) =
    IntOp.andi (IntOp.cmpi CmpIPredicate.sge (a0 (ix1 ⟨u.val * 16 + x.val, by omega⟩)) 0#32)
      (IntOp.cmpi CmpIPredicate.sle (a0 (ix1 ⟨u.val * 16 + x.val, by omega⟩)) 40#32) := by
  pointwise [fin1, dead, fn, fn_part1, fn_part2, fn_part3, fn_part4, fn_part5]

theorem c1 (u : Fin 9) (x : Fin 3) : (fn a0 a1 a2 a3 a4 a5 a6).2.1 (ix2 u x) =
    fin1 (a1 (ix2 u x)) := by
  pointwise [fin1, dead, fn, fn_part1, fn_part2, fn_part3, fn_part4, fn_part5]

theorem c2 (u : Fin 9) : (fn a0 a1 a2 a3 a4 a5 a6).2.2.1 (ix1 u) =
    fin1 (a2 (ix1 u)) := by
  pointwise [fin1, dead, fn, fn_part1, fn_part2, fn_part3, fn_part4, fn_part5]

theorem c3 (g : Fin 675) (x : Fin 2) (l : Fin 128) : (fn a0 a1 a2 a3 a4 a5 a6).2.2.2.1 (ix3 g x l) =
    fin1 (a4 (ix3 g x l)) := by
  pointwise [fin1, dead, fn, fn_part1, fn_part2, fn_part3, fn_part4, fn_part5]

theorem c4 (g : Fin 675) (p : Fin 256) (l : Fin 128) : (fn a0 a1 a2 a3 a4 a5 a6).2.2.2.2.1 (ix3 g p l) =
    fin1 (Ideal.ofBits .f32 (a6 (ix3 g p l))) := by
  pointwise [fin1, dead, fn, fn_part1, fn_part2, fn_part3, fn_part4, fn_part5]

theorem c5 (g : Fin 675) (c : Fin 3) (w : Fin 64) (l : Fin 128) : (fn a0 a1 a2 a3 a4 a5 a6).2.2.2.2.2.1 (ix4 g c w l) =
    IntOp.andi (IntOp.andi (IntOp.andi (IntOp.cmpi CmpIPredicate.ne (IntOp.andi (a5 (ix4 g c w l)) 124#32) 124#32)
          (IntOp.cmpi CmpIPredicate.ne (IntOp.andi (a5 (ix4 g c w l)) 31744#32) 31744#32))
        (IntOp.cmpi CmpIPredicate.ne (IntOp.andi (a5 (ix4 g c w l)) 8126464#32) 8126464#32))
      (IntOp.cmpi CmpIPredicate.ne (IntOp.andi (a5 (ix4 g c w l)) 2080374784#32) 2080374784#32) := by
  pointwise [fin1, dead, fn, fn_part1, fn_part2, fn_part3, fn_part4, fn_part5]

theorem c6 (g : Fin 675) (j : Fin 7) (k : Fin 40) (l : Fin 128) : (fn a0 a1 a2 a3 a4 a5 a6).2.2.2.2.2.2.1 (ix4 g j k l) =
    IntOp.ori (dead a0 g k) (fin1 (Ideal.ofBits .f32 (a3 (ix4 g ⟨j.val, by omega⟩ k l)))) := by
  pointwise [fin1, dead, fn, fn_part1, fn_part2, fn_part3, fn_part4, fn_part5]

theorem c7 (g : Fin 675) (k : Fin 40) (l : Fin 128) : (fn a0 a1 a2 a3 a4 a5 a6).2.2.2.2.2.2.2.1 (ix3 g k l) =
    IntOp.ori (dead a0 g k)
      (IntOp.andi (IntOp.andi (IntOp.cmpi CmpIPredicate.ne (IntOp.andi (a3 (ix4 g 7 k l)) 127#32) 127#32)
          (IntOp.cmpi CmpIPredicate.ne (IntOp.andi (a3 (ix4 g 7 k l)) 32512#32) 32512#32))
        (IntOp.cmpi CmpIPredicate.ne (IntOp.andi (a3 (ix4 g 7 k l)) 8323072#32) 8323072#32)) := by
  pointwise [fin1, dead, fn, fn_part1, fn_part2, fn_part3, fn_part4, fn_part5]

theorem c8 (g : Fin 675) (k : Fin 40) (l : Fin 128) : (fn a0 a1 a2 a3 a4 a5 a6).2.2.2.2.2.2.2.2 (ix3 g k l) =
    IntOp.ori (dead a0 g k)
      (IntOp.andi (IntOp.andi (IntOp.andi (BitVec.ofBool (decide (Ideal.ofBits FTy.f32 (a3 (ix4 g 5 k l)) < 1)))
            (BitVec.ofBool (decide (0 ≤ Ideal.ofBits FTy.f32 (a3 (ix4 g 2 k l))))))
          (BitVec.ofBool (decide (0 ≤ Ideal.ofBits FTy.f32 (a3 (ix4 g 4 k l))))))
        (BitVec.ofBool (decide (Ideal.ofBits FTy.f32 (a3 (ix4 g 3 k l)) * Ideal.ofBits FTy.f32 (a3 (ix4 g 3 k l)) ≤
              Ideal.ofBits FTy.f32 (a3 (ix4 g 2 k l)) * Ideal.ofBits FTy.f32 (a3 (ix4 g 4 k l)))))) := by
  pointwise [fin1, dead, fn, fn_part1, fn_part2, fn_part3, fn_part4, fn_part5]

end Cert.Pre_blocks_valid

namespace Cert.On_entries_counted

open Idealize.ShloMosaic Idealize.ShloMosaic.Tactic

variable [Facts] (a0 : IVec S720 32) (a1 : FVec Ideal S9x3 .f32) (a2 : FVec Ideal S9 .f32) (a3 : IVec S675x8x40x128 32)
  (a4 : FVec Ideal S675x2x128 .f32) (a5 : IVec S675x3x64x128 32) (a6 : IVec S675x256x128 32)

theorem at_ix (g : Fin 675) (q : Fin 9) (k : Fin 40) (l : Fin 128) : fn a0 a1 a2 a3 a4 a5 a6 (ix4 g q k l) =
    IntOp.cmpi .slt (BitVec.ofNat 32 k.val) (a0 (ix1 ⟨g.val / 15 * 16 + g.val % 15, by omega⟩)) := by
  pointwise [fn]

end Cert.On_entries_counted
end
end
-- ==== Proof.Words.lean ====
/- One block's words, read as a block in the reals: what has to hold of the words for it, and that no entry's opacity reaches one. -/
module

public import proofs.«01_k».proof.Proof.At
public import proofs.«01_k».proof.Proof.Loop

@[expose] public section

noncomputable section

namespace Cert.Splat

open Idealize.ShloMosaic

/-- A pattern of eight bits set in a byte of a word is set in the word. -/
theorem byte_ne (w : BitVec 32) (m : BitVec 8) (s : ℕ) (h : IntOp.andi w (m.setWidth 32 <<< s) ≠ m.setWidth 32 <<< s) :
    w.extractLsb' s 8 &&& m ≠ m := by
  intro e
  apply h
  apply BitVec.eq_of_getLsbD_eq
  intro i hi
  have e' := congrArg (fun b : BitVec 8 => b.getLsbD (i - s)) e
  simp only [IntOp.andi, BitVec.getLsbD_and, BitVec.getLsbD_shiftLeft, BitVec.getLsbD_setWidth, BitVec.getLsbD_extractLsb'] at e' ⊢
  by_cases hs : i < s
  · simp [hs]
  · rw [show s + (i - s) = i by omega] at e'
    cases hm : m.getLsbD (i - s)
    · simp
    · rw [hm] at e'
      simp only [Bool.and_true, Bool.and_eq_true, decide_eq_true_eq] at e'
      simp [hs, hm, hi, e'.2]

theorem e5m2_real (b : BitVec 8) (h : b &&& 124#8 ≠ 124#8) : ∃ r : ℝ, Ideal.ofBits .fp8e5m2 b = (r : EReal) := by
  have h31 : ∀ b : BitVec 8, b &&& 124#8 ≠ 124#8 → (b.extractLsb' 2 5).toNat ≠ 2 ^ 5 - 1 := by decide +kernel
  simp only [Ideal.ofBits, Ideal.ieee]
  rw [if_neg (h31 b h)]
  split
  · exact ⟨_, rfl⟩
  · exact ⟨_, rfl⟩

theorem e4m3_real (b : BitVec 8) (h : b &&& 127#8 ≠ 127#8) : ∃ r : ℝ, Ideal.ofBits .fp8e4m3 b = (r : EReal) := by
  have h31 : ∀ b : BitVec 8, b &&& 127#8 ≠ 127#8 → ¬ ((b.extractLsb' 3 4).toNat = 15 ∧ (b.extractLsb' 0 3).toNat = 7) := by
    decide +kernel
  simp only [Ideal.ofBits, Ideal.e4m3fn]
  rw [if_neg (h31 b h)]
  split
  · exact ⟨_, rfl⟩
  · exact ⟨_, rfl⟩

theorem coe_toReal {x : EReal} (h : ∃ r : ℝ, x = (r : EReal)) : x = (x.toReal : EReal) := by
  obtain ⟨r, rfl⟩ := h; simp

/-- A value below infinity in size is a real. -/
theorem real_of_lt {x : EReal} (h : FloatOps.absf (F := Ideal) (φ := .f32) x < Ideal.ofBits .f32 2139095040#32) :
    ∃ r : ℝ, x = (r : EReal) := by
  have ht : Ideal.ofBits .f32 2139095040#32 = (⊤ : EReal) := by simp [Ideal.ofBits, Ideal.ieee]
  rw [ht, show FloatOps.absf (F := Ideal) (φ := .f32) x = max x (-x) from rfl] at h
  induction x with
  | bot => simp at h
  | top => simp at h
  | coe r => exact ⟨r, rfl⟩

variable (kg : ℕ) (sw : EReal) (bw : Fin 3 → EReal) (pw : Fin 8 → Fin 40 → BitVec 32) (ow : Fin 2 → EReal)
  (gw : Fin 3 → Fin 64 → BitVec 32) (fw : Fin 256 → BitVec 32)

/-- What holds of a block's words. -/
structure Ok : Prop where
  le : kg ≤ 40
  scale : ∃ r : ℝ, sw = (r : EReal)
  back : ∀ c, ∃ r : ℝ, bw c = (r : EReal)
  prm : ∀ (j : Fin 8) (k : Fin 40), j.val < 7 → k.val < kg → ∃ r : ℝ, Ideal.ofBits .f32 (pw j k) = (r : EReal)
  code : ∀ (k : Fin 40) (c : Fin 4), c.val < 3 → k.val < kg →
    ∃ r : ℝ, Ideal.ofBits .fp8e4m3 ((pw 7 k).extractLsb' (8 * c.val) 8) = (r : EReal)
  org : ∀ j, ∃ r : ℝ, ow j = (r : EReal)
  g : ∀ (c : Fin 3) (w : Fin 64) (b : Fin 4), ∃ r : ℝ, Ideal.ofBits .fp8e5m2 ((gw c w).extractLsb' (8 * b.val) 8) = (r : EReal)
  ft : ∀ p, ∃ r : ℝ, Ideal.ofBits .f32 (fw p) = (r : EReal)
  op : ∀ k : Fin 40, k.val < kg → Ideal.ofBits .f32 (pw 5 k) < 1
  ca : ∀ k : Fin 40, k.val < kg → 0 ≤ Ideal.ofBits .f32 (pw 2 k)
  cc : ∀ k : Fin 40, k.val < kg → 0 ≤ Ideal.ofBits .f32 (pw 4 k)
  det : ∀ k : Fin 40, k.val < kg → Ideal.ofBits .f32 (pw 3 k) * Ideal.ofBits .f32 (pw 3 k)
    ≤ Ideal.ofBits .f32 (pw 2 k) * Ideal.ofBits .f32 (pw 4 k)

/-- The gradient of a channel at a pixel, from the words. -/
def gOf (c p : ℕ) : ℝ :=
  (Ideal.ofBits .fp8e5m2 ((gw (Fin.ofNat 3 c) (Fin.ofNat 64 (p / 4))).extractLsb' (8 * (p % 4)) 8)).toReal

/-- The block that the words hold. -/
def lane : Lane where
  prm j k := (Ideal.ofBits .f32 (pw (Fin.ofNat 8 j) (Fin.ofNat 40 k))).toReal
  code k c := (Ideal.ofBits .fp8e4m3 ((pw 7 (Fin.ofNat 40 k)).extractLsb' (8 * c) 8)).toReal
  x0 := (ow 0).toReal
  y0 := (ow 1).toReal
  g := gOf gw
  ft p := (Ideal.ofBits .f32 (fw (Fin.ofNat 256 p))).toReal
  gb p := (gOf gw 0 p * (bw 0).toReal + gOf gw 1 p * (bw 1).toReal) + gOf gw 2 p * (bw 2).toReal

variable {kg sw bw pw ow gw fw} (H : Ok kg sw bw pw ow gw fw)

theorem fin_ofNat {n : ℕ} [NeZero n] (j : Fin n) : Fin.ofNat n j.val = j := Fin.ext (Nat.mod_eq_of_lt j.isLt)

include H

theorem Ok.at_ : At (lane bw pw ow gw fw) kg sw.toReal (bw 0).toReal (bw 1).toReal (bw 2).toReal (BitVec.ofNat 32 kg) sw bw pw ow gw fw where
  count := rfl
  scale := coe_toReal H.scale
  back0 := coe_toReal (H.back 0)
  back1 := coe_toReal (H.back 1)
  back2 := coe_toReal (H.back 2)
  prm j k hj hk := by
    show _ = (((Ideal.ofBits .f32 (pw (Fin.ofNat 8 j.val) (Fin.ofNat 40 k.val))).toReal : ℝ) : EReal)
    rw [fin_ofNat, fin_ofNat]; exact coe_toReal (H.prm j k hj hk)
  code k c hc hk := by
    show _ = (((Ideal.ofBits .fp8e4m3 ((pw 7 (Fin.ofNat 40 k.val)).extractLsb' (8 * c.val) 8)).toReal : ℝ) : EReal)
    rw [fin_ofNat]; exact coe_toReal (H.code k c hc hk)
  x0 := coe_toReal (H.org 0)
  y0 := coe_toReal (H.org 1)
  g c p := by
    show _ = ((gOf gw c.val p.val : ℝ) : EReal)
    unfold gOf
    have e : Fin.ofNat 64 (p.val / 4) = (⟨p.val / 4, by omega⟩ : Fin 64) :=
      Fin.ext (Nat.mod_eq_of_lt (by omega))
    rw [fin_ofNat, e]
    exact coe_toReal (H.g c _ ⟨p.val % 4, by omega⟩)
  ft p := by
    show _ = (((Ideal.ofBits .f32 (fw (Fin.ofNat 256 p.val))).toReal : ℝ) : EReal)
    rw [fin_ofNat]; exact coe_toReal (H.ft p)
  gb p := rfl

/-- No opacity reaches one: the falloff is at most one, as the quadratic form does not go below zero. -/
theorem Ok.lets : Cert.KernelIdeal.Run.Lets (lane bw pw ow gw fw) kg := by
  intro k hk t r p hp
  have A := H.at_
  set D := lane bw pw ow gw fw with hD
  have hk40 : k < 40 := lt_of_lt_of_le hk H.le
  have hop : D.prm 5 k < 1 := by
    have h := H.op ⟨k, hk40⟩ hk
    rw [A.prm 5 ⟨k, hk40⟩ (by decide) hk] at h; exact_mod_cast h
  have hca : 0 ≤ D.prm 2 k := by
    have h := H.ca ⟨k, hk40⟩ hk
    rw [A.prm 2 ⟨k, hk40⟩ (by decide) hk] at h; exact_mod_cast h
  have hcc : 0 ≤ D.prm 4 k := by
    have h := H.cc ⟨k, hk40⟩ hk
    rw [A.prm 4 ⟨k, hk40⟩ (by decide) hk] at h; exact_mod_cast h
  have hdet : D.prm 3 k * D.prm 3 k ≤ D.prm 2 k * D.prm 4 k := by
    have h := H.det ⟨k, hk40⟩ hk
    rw [A.prm 2 ⟨k, hk40⟩ (by decide) hk, A.prm 3 ⟨k, hk40⟩ (by decide) hk, A.prm 4 ⟨k, hk40⟩ (by decide) hk,
      ← EReal.coe_mul, ← EReal.coe_mul] at h
    exact_mod_cast h
  have hq : ∀ a b c x y : ℝ, 0 ≤ a → 0 ≤ c → b * b ≤ a * c → 0 ≤ 1 / 2 * (a * x * x + c * y * y) + b * x * y := by
    intro a b c x y ha hc hd
    rcases ha.eq_or_lt with h0 | h0
    · have hb : b = 0 := by rw [← h0] at hd; nlinarith
      rw [← h0, hb]; nlinarith [mul_nonneg hc (mul_self_nonneg y)]
    · have : 0 ≤ a * (2 * (1 / 2 * (a * x * x + c * y * y) + b * x * y)) := by
        nlinarith [mul_self_nonneg (a * x + b * y), mul_nonneg (sub_nonneg.2 hd) (mul_self_nonneg y)]
      have := nonneg_of_mul_nonneg_right this h0
      linarith
  have hv1 : (D.ent k t r).vis p ≤ 1 := by
    unfold Ent.vis
    rw [Real.exp_le_one_iff, neg_nonpos]
    exact hq _ _ _ _ _ hca hcc hdet
  have hv0 : 0 < (D.ent k t r).vis p := Real.exp_pos _
  have : (D.ent k t r).al p < 1 := by
    show D.prm 5 k * (D.ent k t r).vis p < 1
    rcases le_or_gt (D.prm 5 k) 0 with h | h
    · exact lt_of_le_of_lt (mul_nonpos_of_nonpos_of_nonneg h hv0.le) one_pos
    · exact lt_of_le_of_lt (mul_le_of_le_one_right h.le hv1) hop
  exact (sub_pos.2 this).ne'

end Cert.Splat
end
end
-- ==== Proof.OkPre.lean ====
/- The precondition of the value claim gives, of every block, what its words have to hold. -/
module

public import proofs.«01_k».proof.Proof.Pre
public import proofs.«01_k».proof.Proof.Words

@[expose] public section

set_option maxRecDepth 16384

noncomputable section

namespace Cert.Pre_blocks_valid

open Idealize.ShloMosaic Idealize.ShloMosaic.Tactic Cert.Splat Cert.Proof

theorem ori_ofBool (p q : Bool) : IntOp.ori (BitVec.ofBool p) (BitVec.ofBool q) = BitVec.ofBool (p || q) := by
  cases p <;> cases q <;> decide

theorem andi_one {a b : BitVec 1} (h : IntOp.andi a b = 1#1) : a = 1#1 ∧ b = 1#1 := by
  revert a b; decide

theorem ori_one {a b : BitVec 1} (h : IntOp.ori a b = 1#1) (ha : a = 0#1) : b = 1#1 := by
  revert a b; decide

theorem ne_of_cmpi {a b : BitVec 32} (h : IntOp.cmpi .ne a b = 1#1) : a ≠ b := by
  simpa only [IntOp.cmpi, ofBool_eq_one, bne_iff_ne] using h

theorem of_ofBool {p : Prop} [Decidable p] (h : BitVec.ofBool (decide p) = 1#1) : p := by
  rw [ofBool_eq_one] at h; exact of_decide_eq_true h

variable [Facts] (a0 : IVec S720 32) (a1 : FVec Ideal S9x3 .f32) (a2 : FVec Ideal S9 .f32) (a3 : IVec S675x8x40x128 32)
  (a4 : FVec Ideal S675x2x128 .f32) (a5 : IVec S675x3x64x128 32) (a6 : IVec S675x256x128 32)

/-- The precondition over the arguments. -/
def Holds : Prop :=
  (fn a0 a1 a2 a3 a4 a5 a6).1 = (fun _ => 1#1) ∧ (fn a0 a1 a2 a3 a4 a5 a6).2.1 = (fun _ => 1#1)
    ∧ (fn a0 a1 a2 a3 a4 a5 a6).2.2.1 = (fun _ => 1#1) ∧ (fn a0 a1 a2 a3 a4 a5 a6).2.2.2.1 = (fun _ => 1#1)
    ∧ (fn a0 a1 a2 a3 a4 a5 a6).2.2.2.2.1 = (fun _ => 1#1) ∧ (fn a0 a1 a2 a3 a4 a5 a6).2.2.2.2.2.1 = (fun _ => 1#1)
    ∧ (fn a0 a1 a2 a3 a4 a5 a6).2.2.2.2.2.2.1 = (fun _ => 1#1) ∧ (fn a0 a1 a2 a3 a4 a5 a6).2.2.2.2.2.2.2.1 = (fun _ => 1#1)
    ∧ (fn a0 a1 a2 a3 a4 a5 a6).2.2.2.2.2.2.2.2 = (fun _ => 1#1)

/-- A block's count. -/
def cnt (g : Fin 675) : ℕ := (a0 (ix1 ⟨g.val / 15 * 16 + g.val % 15, by omega⟩)).toNat

variable {a0 a1 a2 a3 a4 a5 a6} (H : Holds a0 a1 a2 a3 a4 a5 a6)

include H

theorem count_le (j : Fin 720) (h : j.val % 16 < 15) : (a0 (ix1 j)).toNat ≤ 40 := by
  have e := (c0 a0 a1 a2 a3 a4 a5 a6 ⟨j.val / 16, by omega⟩ ⟨j.val % 16, h⟩).symm.trans (congrFun H.1 _)
  have := le_of_words _ e
  rwa [show (⟨j.val / 16 * 16 + j.val % 16, by omega⟩ : Fin 720) = j from Fin.ext (by simp; omega)] at this

theorem cnt_le (g : Fin 675) : cnt a0 g ≤ 40 := count_le H _ (by simp; omega)

theorem live_iff (g : Fin 675) (k : Fin 40) :
    IntOp.cmpi .slt (BitVec.ofNat 32 k.val) (a0 (ix1 ⟨g.val / 15 * 16 + g.val % 15, by omega⟩))
      = BitVec.ofBool (decide (k.val < cnt a0 g)) := by
  have h := cnt_le H g
  unfold cnt at *
  generalize a0 (ix1 ⟨g.val / 15 * 16 + g.val % 15, by omega⟩) = v at *
  simp only [IntOp.cmpi]
  congr 1
  simp only [BitVec.slt, BitVec.toInt, BitVec.toNat_ofNat, decide_eq_decide]
  have := k.isLt
  omega

theorem dead_zero (g : Fin 675) (k : Fin 40) (hk : k.val < cnt a0 g) : dead a0 g k = 0#1 := by
  have h := cnt_le H g
  unfold cnt dead at *
  generalize a0 (ix1 ⟨g.val / 15 * 16 + g.val % 15, by omega⟩) = v at *
  simp only [IntOp.cmpi]
  have e : v.sle (BitVec.ofNat 32 k.val) = false := by
    simp only [BitVec.sle, BitVec.toInt, BitVec.toNat_ofNat, decide_eq_false_iff_not]
    have := k.isLt
    omega
  rw [e]; rfl

/-- Every block's words hold what they have to. -/
theorem ok (g : Fin 675) (l : Fin 128) (i : Fin 9) :
    Ok (cnt a0 g) (a2 (ix1 i)) (fun j => a1 (ix2 i j)) (fun j k => a3 (ix4 g j k l)) (fun j => a4 (ix3 g j l))
      (fun j w => a5 (ix4 g j w l)) (fun p => a6 (ix3 g p l)) := by
  obtain ⟨-, h1, h2, h3, h4, h5, h6, h7, h8⟩ := id H
  have z8 : ∀ k : Fin 40, k.val < cnt a0 g → _ := fun k hk =>
    andi_one (ori_one ((c8 a0 a1 a2 a3 a4 a5 a6 g k l).symm.trans (congrFun h8 _)) (dead_zero H g k hk))
  refine ⟨cnt_le H g, ?_, ?_, ?_, ?_, ?_, ?_, ?_, ?_, ?_, ?_, ?_⟩
  · exact real_of_lt (of_ofBool ((c2 a0 a1 a2 a3 a4 a5 a6 i).symm.trans (congrFun h2 _)))
  · exact fun c => real_of_lt (of_ofBool ((c1 a0 a1 a2 a3 a4 a5 a6 i c).symm.trans (congrFun h1 _)))
  · intro j k hj hk
    exact real_of_lt (of_ofBool (ori_one ((c6 a0 a1 a2 a3 a4 a5 a6 g ⟨j.val, hj⟩ k l).symm.trans (congrFun h6 _)) (dead_zero H g k hk)))
  · intro k c hc hk
    have e := ori_one ((c7 a0 a1 a2 a3 a4 a5 a6 g k l).symm.trans (congrFun h7 _)) (dead_zero H g k hk)
    obtain ⟨e, e2⟩ := andi_one e
    obtain ⟨e0, e1⟩ := andi_one e
    apply e4m3_real
    apply byte_ne
    obtain ⟨c, hc4⟩ := c
    obtain rfl | rfl | rfl : c = 0 ∨ c = 1 ∨ c = 2 := by simp at hc; omega
    · exact ne_of_cmpi e0
    · exact ne_of_cmpi e1
    · exact ne_of_cmpi e2
  · exact fun j => real_of_lt (of_ofBool ((c3 a0 a1 a2 a3 a4 a5 a6 g j l).symm.trans (congrFun h3 _)))
  · intro c w b
    have e := (c5 a0 a1 a2 a3 a4 a5 a6 g c w l).symm.trans (congrFun h5 _)
    obtain ⟨e, e3⟩ := andi_one e
    obtain ⟨e, e2⟩ := andi_one e
    obtain ⟨e0, e1⟩ := andi_one e
    apply e5m2_real
    apply byte_ne
    fin_cases b
    · exact ne_of_cmpi e0
    · exact ne_of_cmpi e1
    · exact ne_of_cmpi e2
    · exact ne_of_cmpi e3
  · exact fun p => real_of_lt (of_ofBool ((c4 a0 a1 a2 a3 a4 a5 a6 g p l).symm.trans (congrFun h4 _)))
  · exact fun k hk => of_ofBool (andi_one (andi_one (z8 k hk).1).1).1
  · exact fun k hk => of_ofBool (andi_one (andi_one (z8 k hk).1).1).2
  · exact fun k hk => of_ofBool (andi_one (z8 k hk).1).2
  · exact fun k hk => of_ofBool (z8 k hk).2

end Cert.Pre_blocks_valid
end
end
-- ==== Proof.Ssa.lean ====
/- A line of host operations that writes every buffer once: each buffer ends at its own operation of the final contents
   of the buffers that operation reads. -/
module

public import Idealize.ShloMosaic.Lib.StableHlo.RunRead

@[expose] public section

noncomputable section

namespace Cert.Splat

open Idealize.ShloMosaic Idealize.ShloMosaic.StableHlo

variable {τ : Topo} {sig : RefSig} {Val : EltTy → Type}

/-- The line `ops` writes the buffers `W` in order, no buffer twice. -/
structure Once (ops : List (HloOp τ sig Val)) (W : List (Ref sig .tc)) : Prop where
  writes : ops.map HloOp.writes = W.map fun w => {Proc.devRef (τ := τ) .tc w}
  nodup : W.Nodup

/-- A reference is not written at position `i` of the line or after. -/
def Settled (W : List (Ref sig .tc)) (i : ℕ) (a : Ref sig .tc) : Prop := a ∉ W.drop i

theorem Settled.of_get {W : List (Ref sig .tc)} {i : ℕ} (j : ℕ) {a : Ref sig .tc} (hn : W.Nodup) (h : W[j]? = some a)
    (hj : j < i) : Settled W i a := by
  intro hm
  obtain ⟨n, hn', he⟩ := List.getElem_of_mem hm
  obtain ⟨hj', hje⟩ := List.getElem?_eq_some_iff.mp h
  rw [List.getElem_drop] at he
  have := (List.Nodup.getElem_inj_iff hn).mp (he.trans hje.symm)
  omega

theorem Settled.of_not_mem {W : List (Ref sig .tc)} {i : ℕ} {a : Ref sig .tc} (h : a ∉ W) : Settled W i a :=
  fun hm => h (List.mem_of_mem_drop hm)

section
variable {ops : List (HloOp τ sig Val)} {W : List (Ref sig .tc)} (H : Once ops W) (V : Valuation τ sig Val)
include H

theorem Once.drop (i : ℕ) : (ops.drop i).map HloOp.writes = (W.drop i).map fun w => {Proc.devRef (τ := τ) .tc w} := by
  rw [List.map_drop, H.writes, List.map_drop]

theorem Once.after_split (i : ℕ) : after ops V = after (ops.drop i) (upto ops V i) := by
  have h : ∀ (l₁ l₂ : List (HloOp τ sig Val)) (V : Valuation τ sig Val), after (l₁ ++ l₂) V = after l₂ (after l₁ V) := by
    intro l₁ l₂
    induction l₁ with
    | nil => intro V; rfl
    | cons op l ih => intro V; exact ih _
  have := h (ops.take i) (ops.drop i) V
  rwa [List.take_append_drop] at this

/-- What an operation reads is final already. -/
theorem Once.settled {i : ℕ} {a : Ref sig .tc} (h : Settled W i a) :
    upto ops V i (Proc.devRef .tc a) = after ops V (Proc.devRef .tc a) := by
  rw [H.after_split V i]
  exact (after_unwritten (W.drop i) (H.drop i) h _).symm

theorem Once.input {a : Ref sig .tc} (h : a ∉ W) : after ops V (Proc.devRef .tc a) = V (Proc.devRef .tc a) :=
  after_unwritten W H.writes h V

theorem Once.write {i : ℕ} {op : HloOp τ sig Val} {y : Ref sig .tc} (h : ops[i]? = some op) (hy : W[i]? = some y) :
    after ops V (Proc.devRef .tc y) = op.result (upto ops V i) (Proc.devRef .tc y) := by
  obtain ⟨hi, hop⟩ := List.getElem?_eq_some_iff.mp h
  have hs : ops.drop i = op :: ops.drop (i + 1) := by rw [List.drop_eq_getElem_cons hi, hop]
  exact after_last_write (W.drop (i + 1)) hs (H.drop (i + 1)) (Settled.of_get i H.nodup hy (Nat.lt_succ_self i)) V

theorem Once.nullary (i : ℕ) {y : Ref sig .tc} {v : y.ty.Contents Val} {hy}
    (h : ops[i]? = some (nullary y v hy)) (hw : W[i]? = some y) : after ops V (Proc.devRef .tc y) = v :=
  (H.write V h hw).trans (nullary_result' ..)

theorem Once.unary (i : ℕ) {x y : Ref sig .tc} {f : x.ty.Contents Val → y.ty.Contents Val} {hx hy}
    (h : ops[i]? = some (unary x y f hx hy)) (hw : W[i]? = some y) (sx : Settled W i x) :
    after ops V (Proc.devRef .tc y) = f (after ops V (Proc.devRef .tc x)) :=
  (H.write V h hw).trans ((unary_result' ..).trans (congrArg f (H.settled V sx)))

theorem Once.binary (i : ℕ) {a b y : Ref sig .tc} {f : a.ty.Contents Val → b.ty.Contents Val → y.ty.Contents Val}
    {ha hb hy} (h : ops[i]? = some (binary a b y f ha hb hy)) (hw : W[i]? = some y) (sa : Settled W i a)
    (sb : Settled W i b) :
    after ops V (Proc.devRef .tc y) = f (after ops V (Proc.devRef .tc a)) (after ops V (Proc.devRef .tc b)) :=
  (H.write V h hw).trans ((binary_result' ..).trans (congrArg₂ f (H.settled V sa) (H.settled V sb)))

theorem Once.ternary (i : ℕ) {c a b y : Ref sig .tc}
    {f : c.ty.Contents Val → a.ty.Contents Val → b.ty.Contents Val → y.ty.Contents Val} {hc ha hb hy}
    (h : ops[i]? = some (ternary c a b y f hc ha hb hy)) (hw : W[i]? = some y) (sc : Settled W i c) (sa : Settled W i a)
    (sb : Settled W i b) :
    after ops V (Proc.devRef .tc y)
      = f (after ops V (Proc.devRef .tc c)) (after ops V (Proc.devRef .tc a)) (after ops V (Proc.devRef .tc b)) := by
  refine (H.write V h hw).trans ((ternary_result' ..).trans ?_)
  rw [H.settled V sc, H.settled V sa, H.settled V sb]

theorem Once.reshape (i : ℕ) {x y : Ref sig .tc} {he hn hx hy}
    (h : ops[i]? = some (reshape (Val := Val) x y he hn hx hy)) (hw : W[i]? = some y) (sx : Settled W i x) :
    after ops V (Proc.devRef .tc y) = fun j => he ▸ shapeCast y.ty.shape (after ops V (Proc.devRef .tc x)) hn j := by
  refine (H.write V h hw).trans ((reshape_result' ..).trans ?_)
  rw [H.settled V sx]

theorem Once.nary (i : ℕ) {n : ℕ} {xs : Fin n → Ref sig .tc} {y : Ref sig .tc}
    {f : ((k : Fin n) → (xs k).ty.Contents Val) → y.ty.Contents Val} {hxs hy}
    (h : ops[i]? = some (nary xs y f hxs hy)) (hw : W[i]? = some y) (sx : ∀ k, Settled W i (xs k)) :
    after ops V (Proc.devRef .tc y) = f (fun k => after ops V (Proc.devRef .tc (xs k))) := by
  refine (H.write V h hw).trans ((nary_result' ..).trans (congrArg f ?_))
  funext k
  exact H.settled V (sx k)

end

end Cert.Splat
end
-- ==== Proof.RefLines.lean ====
/- The reference's two host lines write each buffer once; names for what the buffers hold in the end. -/
module

public import proofs.«01_k».proof.Proof.Gen.ReferenceIdeal.Frame
public import proofs.«01_k».proof.Proof.Ssa
public import Idealize.ShloMosaic.Lib.Pointwise

@[expose] public section

set_option maxRecDepth 65536
set_option maxHeartbeats 4000000

noncomputable section

namespace Cert.ReferenceIdeal.Val

open Cert.ReferenceIdeal Cert.ReferenceIdeal.Gen Cert.Splat
open Idealize.ShloMosaic Idealize.ShloMosaic.TcCoe Idealize.ShloMosaic.Tactic

/-- The line after the launch. -/
abbrev tailOps : List (HloOp τ sig (Elt Ideal)) := hostOps1 ++ (hostOps1_1 ++ (hostOps1_2 ++ (hostOps1_3 ++ hostOps1_4)))

/-- What the line before the launch writes. -/
abbrev headW : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37]

/-- What the line after the launch writes. -/
abbrev tailW : List (Ref sig .tc) := [main_v39, main_v40, main_v41, main_v42, main_v43, main_v44, main_v45, main_v46, main_v47, main_v48, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v49, main_v50, main_cst, main_v51, main_v52, main_v53, main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v54, main_v55, main_cst_1, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_cst_2, main_v89, main_v90, main_v91, main_v92, main_v93, main_v94, main_v95, main_v96, main_v97, main_v98, main_v99, main_v100, main_cst_3, main_v101, main_v102, main_cst_4, main_v103, main_v104, main_v105, main_v106, main_v107, main_cst_5, main_v108, main_v109, main_v110, main_v111, main_v112, main_cst_6, main_v113, main_v114, main_v115, main_v116, main_v117, main_cst_7, main_v118, main_v119, main_v120, main_v121, main_v122, main_cst_8, main_v123, main_v124, main_v125, main_v126, main_v127, main_cst_9, main_v128, main_v129, main_v130, main_v131, main_v132, main_cst_10, main_v133, main_v134, main_v135, main_v136, main_v137, main_v138, main_v139, main_v140, main_v141, main_v142, main_v143, main_v144, main_v145, main_v146, main_v147, main_v148, main_v149, main_v150, main_v151, main_v152, main_cst_11, main_v153, main_v154, main_v155, main_v156, main_v157, main_cst_12, main_v158, main_v159, main_v160, main_v161, main_v162, main_cst_13, main_v163, main_v164, main_v165, main_v166, main_v167, main_cst_14, main_v168, main_v169, main_v170, main_v171, main_v172, main_cst_15, main_v173, main_v174, main_v175, main_v176, main_v177, main_cst_16, main_v178, main_v179, main_v180, main_v181, main_v182, main_v183, main_v184, main_v185, main_v186, main_v187, main_v188, main_v189, main_v190, main_cst_17, main_v191, main_v192, main_v193, main_v194, main_cst_18, main_v195, main_v196, main_v197, main_v198, main_v199, main_cst_19, main_v200, main_cst_20, main_v201, main_v202, main_v203, main_v204, main_cst_21, main_v205, main_v206, main_v207, main_cst_22, main_v208, main_cst_23, main_v209, main_v210, main_v211, main_v212, main_cst_24, main_v213, main_v214, main_v215, main_v216, main_v217, main_v218, main_v219, main_v220, main_v221, main_v222, main_v223, main_cst_25, main_v224, main_v225, main_v226, main_v227, main_v228, main_v229, main_v230, main_cst_26, main_v231, main_v232, main_v233, main_v234, main_v235, main_v236, main_v237]

theorem onceHead : Once (hostOps0 (F := Ideal)) headW := ⟨rfl, by decide +kernel⟩
theorem onceTail : Once tailOps tailW := ⟨rfl, by decide +kernel⟩

variable (V : Valuation τ sig (Elt Ideal))

/-- A buffer after the first line. -/
abbrev Hd (r : Ref sig .tc) : r.ty.Contents (Elt Ideal) := StableHlo.after (hostOps0 (F := Ideal)) V (Proc.devRef .tc r)

/-- A buffer after the second line. -/
abbrev Tl (r : Ref sig .tc) : r.ty.Contents (Elt Ideal) := StableHlo.after tailOps V (Proc.devRef .tc r)

def hv0 : IVec S40 32 := Hd V main_v0
def harg0 : IVec S720 32 := Hd V main_arg0
def hv1 : IVec S45x16 32 := Hd V main_v1
def hv2 : IVec S45x15 32 := Hd V main_v2
def hv3 : IVec S675x1 32 := Hd V main_v3
def hv4 : IVec S1x40 32 := Hd V main_v4
def hv5 : IVec S675x40 32 := Hd V main_v5
def hv6 : IVec S675x40 32 := Hd V main_v6
def hv7 : IVec S675x40 1 := Hd V main_v7
def harg1 : FVec Ideal S9x3 .f32 := Hd V main_arg1
def hv8 : FVec Ideal S9x1x3 .f32 := Hd V main_v8
def hv9 : FVec Ideal S9x75x3 .f32 := Hd V main_v9
def hv10 : FVec Ideal S675x3x1x1 .f32 := Hd V main_v10
def harg2 : FVec Ideal S9 .f32 := Hd V main_arg2
def hv11 : FVec Ideal S9x1 .f32 := Hd V main_v11
def hv12 : FVec Ideal S9x75 .f32 := Hd V main_v12
def hv13 : FVec Ideal S675x1x1x1 .f32 := Hd V main_v13
def harg3 : IVec S675x8x40x128 32 := Hd V main_arg3
def hv14 : FVec Ideal S675x8x40x128 .f32 := Hd V main_v14
def hv15 : FVec Ideal S675x1x40x128 .f32 := Hd V main_v15
def hv16 : FVec Ideal S675x40x128 .f32 := Hd V main_v16
def hv17 : FVec Ideal S675x40x1x128 .f32 := Hd V main_v17
def hv18 : FVec Ideal S675x1x40x128 .f32 := Hd V main_v18
def hv19 : FVec Ideal S675x40x128 .f32 := Hd V main_v19
def hv20 : FVec Ideal S675x40x1x128 .f32 := Hd V main_v20
def hv21 : FVec Ideal S675x1x40x128 .f32 := Hd V main_v21
def hv22 : FVec Ideal S675x40x128 .f32 := Hd V main_v22
def hv23 : FVec Ideal S675x40x1x128 .f32 := Hd V main_v23
def hv24 : FVec Ideal S675x1x40x128 .f32 := Hd V main_v24
def hv25 : FVec Ideal S675x40x128 .f32 := Hd V main_v25
def hv26 : FVec Ideal S675x40x1x128 .f32 := Hd V main_v26
def hv27 : FVec Ideal S675x1x40x128 .f32 := Hd V main_v27
def hv28 : FVec Ideal S675x40x128 .f32 := Hd V main_v28
def hv29 : FVec Ideal S675x40x1x128 .f32 := Hd V main_v29
def hv30 : FVec Ideal S675x1x40x128 .f32 := Hd V main_v30
def hv31 : FVec Ideal S675x40x128 .f32 := Hd V main_v31
def hv32 : FVec Ideal S675x40x1x128 .f32 := Hd V main_v32
def hv33 : FVec Ideal S675x1x40x128 .f32 := Hd V main_v33
def hv34 : FVec Ideal S675x40x128 .f32 := Hd V main_v34
def hv35 : FVec Ideal S675x40x1x128 .f32 := Hd V main_v35
def hv36 : IVec S675x1x40x128 32 := Hd V main_v36
def hv37 : IVec S675x40x128 32 := Hd V main_v37
def tv13 : FVec Ideal S675x1x1x1 .f32 := Tl V main_v13
def tv39 : FVec Ideal S675x3x256x128 .f32 := Tl V main_v39
def tv38_0 : FVec Ideal S675x3x256x128 .f32 := Tl V main_v38_0
def tv40 : FVec Ideal S675x3x256x128 .f32 := Tl V main_v40
def tv41 : FVec Ideal S675x1x3x256x128 .f32 := Tl V main_v41
def tv38_1 : FVec Ideal S675x160x128 .f32 := Tl V main_v38_1
def tv42 : FVec Ideal S675x40x4x128 .f32 := Tl V main_v42
def tv43 : FVec Ideal S675x40x3x128 .f32 := Tl V main_v43
def tv35 : FVec Ideal S675x40x1x128 .f32 := Tl V main_v35
def tv44 : FVec Ideal S675x40x3x128 .f32 := Tl V main_v44
def tv45 : FVec Ideal S675x40x3x128 .f32 := Tl V main_v45
def tv46 : FVec Ideal S675x40x3x1x128 .f32 := Tl V main_v46
def targ6 : IVec S675x256x128 32 := Tl V main_arg6
def tv47 : FVec Ideal S675x256x128 .f32 := Tl V main_v47
def tv48 : IVec S256 32 := Tl V main_v48
def tc : IVec S_ 32 := Tl V main_c
def tcall0_v0 : IVec S_ 32 := Tl V main_call0_v0
def tcall0_v1 : IVec S256 32 := Tl V main_call0_v1
def tcall0_v2 : IVec S256 32 := Tl V main_call0_v2
def tcall0_v3 : IVec S256 32 := Tl V main_call0_v3
def tcall0_v4 : IVec S_ 32 := Tl V main_call0_v4
def tcall0_v5 : IVec S256 32 := Tl V main_call0_v5
def tcall0_v6 : IVec S256 1 := Tl V main_call0_v6
def tcall0_v7 : IVec S256 32 := Tl V main_call0_v7
def tcall0_v8 : IVec S256 32 := Tl V main_call0_v8
def tcall0_c : IVec S_ 32 := Tl V main_call0_c
def tcall0_v9 : IVec S256 32 := Tl V main_call0_v9
def tcall0_v10 : IVec S256 1 := Tl V main_call0_v10
def tcall0_v11 : IVec S256 1 := Tl V main_call0_v11
def tcall0_c_0 : IVec S_ 32 := Tl V main_call0_c_0
def tcall0_v12 : IVec S256 32 := Tl V main_call0_v12
def tcall0_v13 : IVec S256 32 := Tl V main_call0_v13
def tv49 : IVec S256 32 := Tl V main_v49
def tv50 : FVec Ideal S256 .f32 := Tl V main_v50
def tcst : FVec Ideal S_ .f32 := Tl V main_cst
def tv51 : FVec Ideal S256 .f32 := Tl V main_v51
def tv52 : FVec Ideal S256 .f32 := Tl V main_v52
def tv53 : IVec S256 32 := Tl V main_v53
def tc_0 : IVec S_ 32 := Tl V main_c_0
def tcall1_v0 : IVec S_ 32 := Tl V main_call1_v0
def tcall1_c : IVec S_ 32 := Tl V main_call1_c
def tcall1_v1 : IVec S_ 1 := Tl V main_call1_v1
def tcall1_c_0 : IVec S_ 32 := Tl V main_call1_c_0
def tcall1_v2 : IVec S_ 32 := Tl V main_call1_v2
def tcall1_v3 : IVec S256 32 := Tl V main_call1_v3
def tcall1_v4 : IVec S256 32 := Tl V main_call1_v4
def tcall1_c_1 : IVec S_ 32 := Tl V main_call1_c_1
def tcall1_v5 : IVec S256 32 := Tl V main_call1_v5
def tcall1_v6 : IVec S256 1 := Tl V main_call1_v6
def tcall1_c_2 : IVec S_ 32 := Tl V main_call1_c_2
def tcall1_v7 : IVec S256 32 := Tl V main_call1_v7
def tcall1_v8 : IVec S256 1 := Tl V main_call1_v8
def tcall1_c_3 : IVec S_ 32 := Tl V main_call1_c_3
def tcall1_v9 : IVec S_ 1 := Tl V main_call1_v9
def tcall1_v10 : IVec S256 1 := Tl V main_call1_v10
def tcall1_v11 : IVec S256 1 := Tl V main_call1_v11
def tcall1_v12 : IVec S256 1 := Tl V main_call1_v12
def tcall1_v13 : IVec S256 32 := Tl V main_call1_v13
def tcall1_v14 : IVec S256 32 := Tl V main_call1_v14
def tv54 : IVec S256 32 := Tl V main_v54
def tv55 : FVec Ideal S256 .f32 := Tl V main_v55
def tcst_1 : FVec Ideal S_ .f32 := Tl V main_cst_1
def tv56 : FVec Ideal S256 .f32 := Tl V main_v56
def tv57 : FVec Ideal S256 .f32 := Tl V main_v57
def targ4 : FVec Ideal S675x2x128 .f32 := Tl V main_arg4
def tv58 : FVec Ideal S675x1x128 .f32 := Tl V main_v58
def tv59 : FVec Ideal S675x128 .f32 := Tl V main_v59
def tv60 : FVec Ideal S675x1x128 .f32 := Tl V main_v60
def tv61 : FVec Ideal S256x1 .f32 := Tl V main_v61
def tv62 : FVec Ideal S1x256x1 .f32 := Tl V main_v62
def tv63 : FVec Ideal S675x256x128 .f32 := Tl V main_v63
def tv64 : FVec Ideal S675x256x128 .f32 := Tl V main_v64
def tv65 : FVec Ideal S675x256x128 .f32 := Tl V main_v65
def tv66 : FVec Ideal S675x1x128 .f32 := Tl V main_v66
def tv67 : FVec Ideal S675x128 .f32 := Tl V main_v67
def tv68 : FVec Ideal S675x1x128 .f32 := Tl V main_v68
def tv69 : FVec Ideal S256x1 .f32 := Tl V main_v69
def tv70 : FVec Ideal S1x256x1 .f32 := Tl V main_v70
def tv71 : FVec Ideal S675x256x128 .f32 := Tl V main_v71
def tv72 : FVec Ideal S675x256x128 .f32 := Tl V main_v72
def tv73 : FVec Ideal S675x256x128 .f32 := Tl V main_v73
def tv74 : FVec Ideal S675x1x256x128 .f32 := Tl V main_v74
def tv17 : FVec Ideal S675x40x1x128 .f32 := Tl V main_v17
def tv75 : FVec Ideal S675x40x256x128 .f32 := Tl V main_v75
def tv76 : FVec Ideal S675x40x256x128 .f32 := Tl V main_v76
def tv77 : FVec Ideal S675x40x256x128 .f32 := Tl V main_v77
def tv78 : FVec Ideal S675x1x256x128 .f32 := Tl V main_v78
def tv20 : FVec Ideal S675x40x1x128 .f32 := Tl V main_v20
def tv79 : FVec Ideal S675x40x256x128 .f32 := Tl V main_v79
def tv80 : FVec Ideal S675x40x256x128 .f32 := Tl V main_v80
def tv81 : FVec Ideal S675x40x256x128 .f32 := Tl V main_v81
def tv23 : FVec Ideal S675x40x1x128 .f32 := Tl V main_v23
def tv82 : FVec Ideal S675x40x256x128 .f32 := Tl V main_v82
def tv83 : FVec Ideal S675x40x256x128 .f32 := Tl V main_v83
def tv84 : FVec Ideal S675x40x256x128 .f32 := Tl V main_v84
def tv29 : FVec Ideal S675x40x1x128 .f32 := Tl V main_v29
def tv85 : FVec Ideal S675x40x256x128 .f32 := Tl V main_v85
def tv86 : FVec Ideal S675x40x256x128 .f32 := Tl V main_v86
def tv87 : FVec Ideal S675x40x256x128 .f32 := Tl V main_v87
def tv88 : FVec Ideal S675x40x256x128 .f32 := Tl V main_v88
def tcst_2 : FVec Ideal S_ .f32 := Tl V main_cst_2
def tv89 : FVec Ideal S675x40x256x128 .f32 := Tl V main_v89
def tv90 : FVec Ideal S675x40x256x128 .f32 := Tl V main_v90
def tv26 : FVec Ideal S675x40x1x128 .f32 := Tl V main_v26
def tv91 : FVec Ideal S675x40x256x128 .f32 := Tl V main_v91
def tv92 : FVec Ideal S675x40x256x128 .f32 := Tl V main_v92
def tv93 : FVec Ideal S675x40x256x128 .f32 := Tl V main_v93
def tv94 : FVec Ideal S675x40x256x128 .f32 := Tl V main_v94
def tv95 : FVec Ideal S675x40x256x128 .f32 := Tl V main_v95
def tv96 : FVec Ideal S675x40x256x128 .f32 := Tl V main_v96
def tv7 : IVec S675x40 1 := Tl V main_v7
def tv97 : IVec S675x40x1x1 1 := Tl V main_v97
def tv98 : IVec S675x40x256x128 1 := Tl V main_v98
def tv32 : FVec Ideal S675x40x1x128 .f32 := Tl V main_v32
def tv99 : FVec Ideal S675x40x256x128 .f32 := Tl V main_v99
def tv100 : FVec Ideal S675x40x256x128 .f32 := Tl V main_v100
def tcst_3 : FVec Ideal S_ .f32 := Tl V main_cst_3
def tv101 : FVec Ideal S675x40x256x128 .f32 := Tl V main_v101
def tv102 : FVec Ideal S675x40x256x128 .f32 := Tl V main_v102
def tcst_4 : FVec Ideal S_ .f32 := Tl V main_cst_4
def tv103 : FVec Ideal S675x40x256x128 .f32 := Tl V main_v103
def tv104 : FVec Ideal S675x40x256x128 .f32 := Tl V main_v104
def tv105 : FVec Ideal S675x1x256x128 .f32 := Tl V main_v105
def tv106 : FVec Ideal S675x39x256x128 .f32 := Tl V main_v106
def tv107 : FVec Ideal S675x1x256x128 .f32 := Tl V main_v107
def tcst_5 : FVec Ideal S_ .f32 := Tl V main_cst_5
def tv108 : FVec Ideal S675x1x256x128 .f32 := Tl V main_v108
def tv109 : FVec Ideal S675x40x256x128 .f32 := Tl V main_v109
def tv110 : FVec Ideal S675x40x256x128 .f32 := Tl V main_v110
def tv111 : FVec Ideal S675x38x256x128 .f32 := Tl V main_v111
def tv112 : FVec Ideal S675x2x256x128 .f32 := Tl V main_v112
def tcst_6 : FVec Ideal S_ .f32 := Tl V main_cst_6
def tv113 : FVec Ideal S675x2x256x128 .f32 := Tl V main_v113
def tv114 : FVec Ideal S675x40x256x128 .f32 := Tl V main_v114
def tv115 : FVec Ideal S675x40x256x128 .f32 := Tl V main_v115
def tv116 : FVec Ideal S675x36x256x128 .f32 := Tl V main_v116
def tv117 : FVec Ideal S675x4x256x128 .f32 := Tl V main_v117
def tcst_7 : FVec Ideal S_ .f32 := Tl V main_cst_7
def tv118 : FVec Ideal S675x4x256x128 .f32 := Tl V main_v118
def tv119 : FVec Ideal S675x40x256x128 .f32 := Tl V main_v119
def tv120 : FVec Ideal S675x40x256x128 .f32 := Tl V main_v120
def tv121 : FVec Ideal S675x32x256x128 .f32 := Tl V main_v121
def tv122 : FVec Ideal S675x8x256x128 .f32 := Tl V main_v122
def tcst_8 : FVec Ideal S_ .f32 := Tl V main_cst_8
def tv123 : FVec Ideal S675x8x256x128 .f32 := Tl V main_v123
def tv124 : FVec Ideal S675x40x256x128 .f32 := Tl V main_v124
def tv125 : FVec Ideal S675x40x256x128 .f32 := Tl V main_v125
def tv126 : FVec Ideal S675x24x256x128 .f32 := Tl V main_v126
def tv127 : FVec Ideal S675x16x256x128 .f32 := Tl V main_v127
def tcst_9 : FVec Ideal S_ .f32 := Tl V main_cst_9
def tv128 : FVec Ideal S675x16x256x128 .f32 := Tl V main_v128
def tv129 : FVec Ideal S675x40x256x128 .f32 := Tl V main_v129
def tv130 : FVec Ideal S675x40x256x128 .f32 := Tl V main_v130
def tv131 : FVec Ideal S675x8x256x128 .f32 := Tl V main_v131
def tv132 : FVec Ideal S675x32x256x128 .f32 := Tl V main_v132
def tcst_10 : FVec Ideal S_ .f32 := Tl V main_cst_10
def tv133 : FVec Ideal S675x32x256x128 .f32 := Tl V main_v133
def tv134 : FVec Ideal S675x40x256x128 .f32 := Tl V main_v134
def tv135 : FVec Ideal S675x40x256x128 .f32 := Tl V main_v135
def tv136 : FVec Ideal S675x40x256x128 .f32 := Tl V main_v136
def tv137 : FVec Ideal S675x40x256x128 .f32 := Tl V main_v137
def tv138 : FVec Ideal S675x40x256x128 .f32 := Tl V main_v138
def tv139 : FVec Ideal S675x39x256x128 .f32 := Tl V main_v139
def tv140 : FVec Ideal S675x39x1x256x128 .f32 := Tl V main_v140
def tv141 : FVec Ideal S675x39x3x1x128 .f32 := Tl V main_v141
def tv142 : FVec Ideal S675x39x3x256x128 .f32 := Tl V main_v142
def tv143 : FVec Ideal S675x39x3x256x128 .f32 := Tl V main_v143
def tv144 : FVec Ideal S675x39x3x256x128 .f32 := Tl V main_v144
def tv145 : FVec Ideal S675x1x256x128 .f32 := Tl V main_v145
def tv146 : FVec Ideal S675x3x256x128 .f32 := Tl V main_v146
def tv10 : FVec Ideal S675x3x1x1 .f32 := Tl V main_v10
def tv147 : FVec Ideal S675x3x256x128 .f32 := Tl V main_v147
def tv148 : FVec Ideal S675x3x256x128 .f32 := Tl V main_v148
def tv149 : FVec Ideal S675x1x3x256x128 .f32 := Tl V main_v149
def tv150 : FVec Ideal S675x40x3x256x128 .f32 := Tl V main_v150
def tv151 : FVec Ideal S675x39x3x256x128 .f32 := Tl V main_v151
def tv152 : FVec Ideal S675x1x3x256x128 .f32 := Tl V main_v152
def tcst_11 : FVec Ideal S_ .f32 := Tl V main_cst_11
def tv153 : FVec Ideal S675x1x3x256x128 .f32 := Tl V main_v153
def tv154 : FVec Ideal S675x40x3x256x128 .f32 := Tl V main_v154
def tv155 : FVec Ideal S675x40x3x256x128 .f32 := Tl V main_v155
def tv156 : FVec Ideal S675x38x3x256x128 .f32 := Tl V main_v156
def tv157 : FVec Ideal S675x2x3x256x128 .f32 := Tl V main_v157
def tcst_12 : FVec Ideal S_ .f32 := Tl V main_cst_12
def tv158 : FVec Ideal S675x2x3x256x128 .f32 := Tl V main_v158
def tv159 : FVec Ideal S675x40x3x256x128 .f32 := Tl V main_v159
def tv160 : FVec Ideal S675x40x3x256x128 .f32 := Tl V main_v160
def tv161 : FVec Ideal S675x36x3x256x128 .f32 := Tl V main_v161
def tv162 : FVec Ideal S675x4x3x256x128 .f32 := Tl V main_v162
def tcst_13 : FVec Ideal S_ .f32 := Tl V main_cst_13
def tv163 : FVec Ideal S675x4x3x256x128 .f32 := Tl V main_v163
def tv164 : FVec Ideal S675x40x3x256x128 .f32 := Tl V main_v164
def tv165 : FVec Ideal S675x40x3x256x128 .f32 := Tl V main_v165
def tv166 : FVec Ideal S675x32x3x256x128 .f32 := Tl V main_v166
def tv167 : FVec Ideal S675x8x3x256x128 .f32 := Tl V main_v167
def tcst_14 : FVec Ideal S_ .f32 := Tl V main_cst_14
def tv168 : FVec Ideal S675x8x3x256x128 .f32 := Tl V main_v168
def tv169 : FVec Ideal S675x40x3x256x128 .f32 := Tl V main_v169
def tv170 : FVec Ideal S675x40x3x256x128 .f32 := Tl V main_v170
def tv171 : FVec Ideal S675x24x3x256x128 .f32 := Tl V main_v171
def tv172 : FVec Ideal S675x16x3x256x128 .f32 := Tl V main_v172
def tcst_15 : FVec Ideal S_ .f32 := Tl V main_cst_15
def tv173 : FVec Ideal S675x16x3x256x128 .f32 := Tl V main_v173
def tv174 : FVec Ideal S675x40x3x256x128 .f32 := Tl V main_v174
def tv175 : FVec Ideal S675x40x3x256x128 .f32 := Tl V main_v175
def tv176 : FVec Ideal S675x8x3x256x128 .f32 := Tl V main_v176
def tv177 : FVec Ideal S675x32x3x256x128 .f32 := Tl V main_v177
def tcst_16 : FVec Ideal S_ .f32 := Tl V main_cst_16
def tv178 : FVec Ideal S675x32x3x256x128 .f32 := Tl V main_v178
def tv179 : FVec Ideal S675x40x3x256x128 .f32 := Tl V main_v179
def tv180 : FVec Ideal S675x40x3x256x128 .f32 := Tl V main_v180
def tv181 : FVec Ideal S675x40x1x256x128 .f32 := Tl V main_v181
def tv182 : FVec Ideal S675x40x3x256x128 .f32 := Tl V main_v182
def tv183 : FVec Ideal S675x40x3x256x128 .f32 := Tl V main_v183
def tv184 : FVec Ideal S675x40x3x256x128 .f32 := Tl V main_v184
def tv185 : FVec Ideal S675x40x1x256x128 .f32 := Tl V main_v185
def tv186 : FVec Ideal S675x40x3x256x128 .f32 := Tl V main_v186
def tv187 : FVec Ideal S675x40x3x256x128 .f32 := Tl V main_v187
def tv188 : FVec Ideal S675x40x3x256x128 .f32 := Tl V main_v188
def tv189 : FVec Ideal S675x40x3x256x128 .f32 := Tl V main_v189
def tv190 : FVec Ideal S675x40x3x256x128 .f32 := Tl V main_v190
def tcst_17 : FVec Ideal S_ .f32 := Tl V main_cst_17
def tv191 : FVec Ideal S675x40x256x128 .f32 := Tl V main_v191
def tv192 : FVec Ideal S675x40x256x128 .f32 := Tl V main_v192
def tv193 : FVec Ideal S675x40x256x128 .f32 := Tl V main_v193
def tv194 : FVec Ideal S675x40x256x128 .f32 := Tl V main_v194
def tcst_18 : FVec Ideal S_ .f32 := Tl V main_cst_18
def tv195 : FVec Ideal S675x40x128 .f32 := Tl V main_v195
def tv196 : FVec Ideal S675x40x1x256x128 .f32 := Tl V main_v196
def tv197 : FVec Ideal S675x40x3x256x128 .f32 := Tl V main_v197
def tv198 : FVec Ideal S675x40x3x256x128 .f32 := Tl V main_v198
def tv199 : FVec Ideal S675x40x3x256x128 .f32 := Tl V main_v199
def tcst_19 : FVec Ideal S_ .f32 := Tl V main_cst_19
def tv200 : FVec Ideal S675x40x3x128 .f32 := Tl V main_v200
def tcst_20 : FVec Ideal S_ .f32 := Tl V main_cst_20
def tv201 : FVec Ideal S675x40x256x128 .f32 := Tl V main_v201
def tv202 : FVec Ideal S675x40x256x128 .f32 := Tl V main_v202
def tv203 : FVec Ideal S675x40x256x128 .f32 := Tl V main_v203
def tv204 : FVec Ideal S675x40x256x128 .f32 := Tl V main_v204
def tcst_21 : FVec Ideal S_ .f32 := Tl V main_cst_21
def tv205 : FVec Ideal S675x40x128 .f32 := Tl V main_v205
def tv206 : FVec Ideal S675x40x256x128 .f32 := Tl V main_v206
def tv207 : FVec Ideal S675x40x256x128 .f32 := Tl V main_v207
def tcst_22 : FVec Ideal S_ .f32 := Tl V main_cst_22
def tv208 : FVec Ideal S675x40x128 .f32 := Tl V main_v208
def tcst_23 : FVec Ideal S_ .f32 := Tl V main_cst_23
def tv209 : FVec Ideal S675x40x256x128 .f32 := Tl V main_v209
def tv210 : FVec Ideal S675x40x256x128 .f32 := Tl V main_v210
def tv211 : FVec Ideal S675x40x256x128 .f32 := Tl V main_v211
def tv212 : FVec Ideal S675x40x256x128 .f32 := Tl V main_v212
def tcst_24 : FVec Ideal S_ .f32 := Tl V main_cst_24
def tv213 : FVec Ideal S675x40x128 .f32 := Tl V main_v213
def tv214 : FVec Ideal S675x1x40x128 .f32 := Tl V main_v214
def tv215 : FVec Ideal S675x1x40x128 .f32 := Tl V main_v215
def tv216 : FVec Ideal S675x1x40x128 .f32 := Tl V main_v216
def tv217 : FVec Ideal S675x3x40x128 .f32 := Tl V main_v217
def tv218 : FVec Ideal S675x40x256x128 .f32 := Tl V main_v218
def tv219 : FVec Ideal S675x40x256x128 .f32 := Tl V main_v219
def tv220 : FVec Ideal S675x40x256x128 .f32 := Tl V main_v220
def tv221 : FVec Ideal S675x40x256x128 .f32 := Tl V main_v221
def tv222 : FVec Ideal S675x40x256x128 .f32 := Tl V main_v222
def tv223 : FVec Ideal S675x40x256x128 .f32 := Tl V main_v223
def tcst_25 : FVec Ideal S_ .f32 := Tl V main_cst_25
def tv224 : FVec Ideal S675x40x128 .f32 := Tl V main_v224
def tv225 : FVec Ideal S675x40x256x128 .f32 := Tl V main_v225
def tv226 : FVec Ideal S675x40x256x128 .f32 := Tl V main_v226
def tv227 : FVec Ideal S675x40x256x128 .f32 := Tl V main_v227
def tv228 : FVec Ideal S675x40x256x128 .f32 := Tl V main_v228
def tv229 : FVec Ideal S675x40x256x128 .f32 := Tl V main_v229
def tv230 : FVec Ideal S675x40x256x128 .f32 := Tl V main_v230
def tcst_26 : FVec Ideal S_ .f32 := Tl V main_cst_26
def tv231 : FVec Ideal S675x40x128 .f32 := Tl V main_v231
def tv232 : FVec Ideal S675x1x40x128 .f32 := Tl V main_v232
def tv233 : FVec Ideal S675x1x40x128 .f32 := Tl V main_v233
def tv234 : FVec Ideal S675x2x40x128 .f32 := Tl V main_v234
def tv235 : FVec Ideal S675x1x40x128 .f32 := Tl V main_v235
def tv236 : FVec Ideal S675x3x40x128 .f32 := Tl V main_v236
def tv237 : FVec Ideal S675x9x40x128 .f32 := Tl V main_v237
end Cert.ReferenceIdeal.Val
end
-- ==== Proof.RefLaunch.lean ====
/- The reference's one launch, which spreads the packed bytes out: what its two arrays hold, and where the line after it starts. -/
module

public import proofs.«01_k».proof.Proof.Gen.ReferenceIdeal.Frame
public import proofs.«01_k».proof.Proof.Trip
public import proofs.«01_k».proof.Proof.RefLines
public import Idealize.ShloMosaic.Lib.Pipeline.ValueKit
public import Idealize.ShloMosaic.Lib.Pointwise

@[expose] public section

set_option maxRecDepth 65536
set_option maxHeartbeats 4000000

noncomputable section

namespace Cert.ReferenceIdeal.Val

open Cert.ReferenceIdeal Cert.ReferenceIdeal.Gen Cert.Splat
open Idealize.ShloMosaic Idealize.ShloMosaic.TcCoe Idealize.ShloMosaic.Tactic Idealize.SL.Sem

/-- A word's rows of bytes, in a stack. -/
theorem bitcast_bytes3 {G R n : ℕ} (x : (⟨3, ![G, R, n]⟩ : Shape).Idx → BitVec 32)
    (h : (⟨3, ![G, R, n]⟩ : Shape).Bitcasts 32 ⟨3, ![G, 4 * R, n]⟩ 8) (g : Fin G) (k : Fin R) (c : Fin 4) (l : Fin n) (i : Fin (4 * R))
    (hi : i.val = 4 * k.val + c.val) :
    bitcast ⟨3, ![G, 4 * R, n]⟩ 8 x h (ix3 g i l) = (x (ix3 g k l)).extractLsb' (8 * c.val) 8 := by
  apply BitVec.eq_of_getLsbD_eq
  intro q hq
  have hr : (⟨3, ![G, 4 * R, n]⟩ : Shape).row (ix3 g i l) = i.val := rfl
  rw [bitcast_getLsbD x h _ q hq (by decide), BitVec.getLsbD_extractLsb']
  have ep : (i.val * 8 + q) / 32 = k.val := by omega
  have eq : (i.val * 8 + q) % 32 = 8 * c.val + q := by omega
  simp only [hr, eq, hq, decide_true, Bool.true_and]
  refine congrArg (fun j => (x j).getLsbD (8 * c.val + q)) (funext fun a => Fin.ext ?_)
  fin_cases a
  · rw [Shape.Bitcasts.srcIdx_other _ _ _ _ _ (by show ¬ (0 + 2 = 3); decide)]; rfl
  · rw [Shape.Bitcasts.srcIdx_row _ _ _ _ _ rfl]; exact ep
  · rw [Shape.Bitcasts.srcIdx_other _ _ _ _ _ (by show ¬ (2 + 2 = 3); decide)]; rfl

theorem bitcast_bytes4 {G C R n : ℕ} (x : (⟨4, ![G, C, R, n]⟩ : Shape).Idx → BitVec 32)
    (h : (⟨4, ![G, C, R, n]⟩ : Shape).Bitcasts 32 ⟨4, ![G, C, 4 * R, n]⟩ 8) (g : Fin G) (d : Fin C) (k : Fin R) (c : Fin 4) (l : Fin n)
    (i : Fin (4 * R)) (hi : i.val = 4 * k.val + c.val) :
    bitcast ⟨4, ![G, C, 4 * R, n]⟩ 8 x h (ix4 g d i l) = (x (ix4 g d k l)).extractLsb' (8 * c.val) 8 := by
  apply BitVec.eq_of_getLsbD_eq
  intro q hq
  have hr : (⟨4, ![G, C, 4 * R, n]⟩ : Shape).row (ix4 g d i l) = i.val := rfl
  rw [bitcast_getLsbD x h _ q hq (by decide), BitVec.getLsbD_extractLsb']
  have ep : (i.val * 8 + q) / 32 = k.val := by omega
  have eq : (i.val * 8 + q) % 32 = 8 * c.val + q := by omega
  simp only [hr, eq, hq, decide_true, Bool.true_and]
  refine congrArg (fun j => (x j).getLsbD (8 * c.val + q)) (funext fun a => Fin.ext ?_)
  fin_cases a
  · rw [Shape.Bitcasts.srcIdx_other _ _ _ _ _ (by show ¬ (0 + 2 = 4); decide)]; rfl
  · rw [Shape.Bitcasts.srcIdx_other _ _ _ _ _ (by show ¬ (1 + 2 = 4); decide)]; rfl
  · rw [Shape.Bitcasts.srcIdx_row _ _ _ _ _ rfl]; exact ep
  · rw [Shape.Bitcasts.srcIdx_other _ _ _ _ _ (by show ¬ (3 + 2 = 4); decide)]; rfl

variable (m : (ℓ : Loc nD τ sig) → Buf (Elt Ideal) ℓ) (c : Dev nD)

theorem iblk0_apply (t : Fin cfg0.N) : iblk m c 0 t = Gen.V m c main_arg5 := by
  funext j
  unfold iblk
  rw [View.read_apply]
  refine congrArg (Gen.V m c main_arg5) (funext fun a => Fin.ext ?_)
  fin_cases a
  · show 0 * 675 + 1 * (j 0).val = (j 0).val
    omega
  · show 0 * 3 + 1 * (j 1).val = (j 1).val
    omega
  · show 0 * 64 + 1 * (j 2).val = (j 2).val
    omega
  · show 0 * 128 + 1 * (j 3).val = (j 3).val
    omega

theorem iblk1_apply (t : Fin cfg0.N) : iblk m c 1 t = Gen.V m c main_v37 := by
  funext j
  unfold iblk
  rw [View.read_apply]
  refine congrArg (Gen.V m c main_v37) (funext fun a => Fin.ext ?_)
  fin_cases a
  · show 0 * 675 + 1 * (j 0).val = (j 0).val
    omega
  · show 0 * 40 + 1 * (j 1).val = (j 1).val
    omega
  · show 0 * 128 + 1 * (j 2).val = (j 2).val
    omega

theorem arr2 (g : Fin 675) (d : Fin 3) (p : Fin 256) (l : Fin 128) :
    ((dats m 0 c).arrAt 2 cfg0.N : FVec Ideal S675x3x256x128 .f32) (ix4 g d p l)
      = Ideal.ofBits .fp8e5m2 (((Gen.V m c main_arg5 : IVec S675x3x64x128 32) (ix4 g d ⟨p.val / 4, by omega⟩ l)).extractLsb' (8 * (p.val % 4)) 8) := by
  refine ((dats m 0 c).arrAt_emb_eq_after_last 2 t0_0 (by decide +kernel) (ix4 g d p l)).trans ?_
  show (dats m 0 c).after 2 t0_0 (ix4 g d p l) = _
  rw [after0_2, iblk0_apply]
  unfold out0_2
  rw [View.canon_cons_unit_lit _ _ _ (by decide), View.ld_unit_lit _ _ (by decide)]
  exact congrArg (Ideal.ofBits .fp8e5m2) (bitcast_bytes4 (R := 64) _ _ g d ⟨p.val / 4, by omega⟩ ⟨p.val % 4, by omega⟩ l p (by simp; omega))

theorem arr3 (g : Fin 675) (i : Fin 160) (l : Fin 128) :
    ((dats m 0 c).arrAt 3 cfg0.N : FVec Ideal S675x160x128 .f32) (ix3 g i l)
      = Ideal.ofBits .fp8e4m3 (((Gen.V m c main_v37 : IVec S675x40x128 32) (ix3 g ⟨i.val / 4, by omega⟩ l)).extractLsb' (8 * (i.val % 4)) 8) := by
  refine ((dats m 0 c).arrAt_emb_eq_after_last 3 t0_0 (by decide +kernel) (ix3 g i l)).trans ?_
  show (dats m 0 c).after 3 t0_0 (ix3 g i l) = _
  rw [after0_3, iblk1_apply]
  unfold out0_3
  rw [View.canon_cons_unit_lit _ _ _ (by decide), View.ld_unit_lit _ _ (by decide)]
  refine (congrArg (Ideal.ofBits .fp8e4m3) (bitcast_bytes3 (R := 40) _ _ g ⟨i.val / 4, by omega⟩ ⟨i.val % 4, by omega⟩ l i (by simp; omega))).trans ?_
  rw [show shapeCast S675x40x128 (Gen.V m c main_v37 : IVec S675x40x128 32) shapeCasts_S675x40x128_S675x40x128 = Gen.V m c main_v37 from
    shapeCast_self _ _]

/-- Where the line after the launch starts. -/
def W0 : Valuation τ sig (Elt Ideal) :=
  Pipeline.withArrays (cfgs 0).spec c (V0 m c) fun w => (dats m 0 c).arrAt w (cfgs 0).N

theorem W0_of_ne (b : Ref sig .tc) (h : ∀ w, Pipeline.arrRef spec0 w ≠ b) : W0 m c (Proc.devRef .tc b) = Hd (fun b => m (c, b)) b := by
  unfold W0
  rw [Pipeline.withArrays_of_ne _ c (V0 m c) _ b (by exact h)]
  rfl

theorem W0_arr2 : W0 m c (Proc.devRef .tc main_v38_0) = (dats m 0 c).arrAt 2 cfg0.N := by
  unfold W0
  exact Pipeline.withArrays_arr spec0 (by decide) c (V0 m c) _ 2

theorem W0_arr3 : W0 m c (Proc.devRef .tc main_v38_1) = (dats m 0 c).arrAt 3 cfg0.N := by
  unfold W0
  exact Pipeline.withArrays_arr spec0 (by decide) c (V0 m c) _ 3

/-- What the result buffer ends with. -/
theorem result {r : PUnit × MemSt nD τ sig (Elt Ideal)}
    (h : Pipeline.FramePost cfgs (dats m) 0 (Pipeline.afterTail₀ cfgs (dats m) 0 (V0 m) [hostOps1, hostOps1_1, hostOps1_2, hostOps1_3, hostOps1_4]) r) :
    r.2.mem ((c.tc : Thread nD τ).loc main_v237) = Tl (W0 m c) main_v237 := by
  refine ((h c).2 main_v237 (Pipeline.mem_restRefs_of main_v237 (by decide) (by decide))).trans ?_
  unfold Pipeline.afterTail₀
  rw [List.flatten_cons, List.flatten_cons, List.flatten_cons, List.flatten_cons, List.flatten_cons, List.flatten_nil, List.append_nil]
  rfl

end Cert.ReferenceIdeal.Val
end
end
-- ==== Proof.RefOps.lean ====
/- The operations of the reference's host lines, at an index. -/
module

public import proofs.«01_k».proof.Proof.Gen.ReferenceIdeal.Frame
public import proofs.«01_k».proof.Proof.Ssa
public import Idealize.ShloMosaic.Lib.Pointwise

@[expose] public section

set_option maxRecDepth 65536
set_option maxHeartbeats 4000000

noncomputable section

namespace Cert.ReferenceIdeal.Val

open Cert.ReferenceIdeal Cert.ReferenceIdeal.Gen Cert.Splat
open Idealize.ShloMosaic Idealize.ShloMosaic.TcCoe Idealize.ShloMosaic.Tactic

theorem p0 (a : IVec S720 32) (u : Fin 45) (k : Fin 16) :
    (shapeCast S45x16 a shapeCasts_S720_S45x16 : IVec S45x16 32) (ix2 u k) = a (ix1 ⟨u.val * 16 + k.val, by omega⟩) := by
  pointwise

theorem p1 (a : IVec S45x16 32) (u : Fin 45) (x : Fin 15) :
    (extractStridedSlice S45x15 ![0, 0] a slices_S45x16_S45x15_0_0 : IVec S45x15 32) (ix2 u x) = a (ix2 u ⟨x.val, by omega⟩) := by
  pointwise

theorem p2 (a : IVec S45x15 32) (g : Fin 675) :
    (shapeCast S675x1 a shapeCasts_S45x15_S675x1 : IVec S675x1 32) (ix2 g 0) = a (ix2 ⟨g.val / 15, by omega⟩ ⟨g.val % 15, by omega⟩) := by
  pointwise

theorem p3 (a : IVec S40 32) (k : Fin 40) :
    (broadcastInDim S1x40 ![1] bcast_S40_S1x40_1 a : IVec S1x40 32) (ix2 0 k) = a (ix1 k) := by
  pointwise

theorem p4 (a : IVec S1x40 32) (g : Fin 675) (k : Fin 40) :
    (broadcastInDim S675x40 ![0, 1] bcast_S1x40_S675x40_0_1 a : IVec S675x40 32) (ix2 g k) = a (ix2 0 k) := by
  pointwise

theorem p5 (a : IVec S675x1 32) (g : Fin 675) (k : Fin 40) :
    (broadcastInDim S675x40 ![0, 1] bcast_S675x1_S675x40_0_1 a : IVec S675x40 32) (ix2 g k) = a (ix2 g 0) := by
  pointwise

theorem p6 (a : IVec S675x40 32) (b : IVec S675x40 32) (g : Fin 675) (k : Fin 40) :
    (cmpi .slt a b : IVec S675x40 1) (ix2 g k) = BitVec.ofBool (BitVec.slt (a (ix2 g k)) (b (ix2 g k))) := by
  pointwise; rfl

theorem p7 (a : FVec Ideal S9x3 .f32) (q : Fin 9) (c : Fin 3) :
    (broadcastInDim S9x1x3 ![0, 2] bcast_S9x3_S9x1x3_0_2 a : FVec Ideal S9x1x3 .f32) (ix3 q 0 c) = a (ix2 q c) := by
  pointwise

theorem p8 (a : FVec Ideal S9x1x3 .f32) (q : Fin 9) (v : Fin 75) (c : Fin 3) :
    (broadcastInDim S9x75x3 ![0, 1, 2] bcast_S9x1x3_S9x75x3_0_1_2 a : FVec Ideal S9x75x3 .f32) (ix3 q v c) = a (ix3 q 0 c) := by
  pointwise

theorem p9 (a : FVec Ideal S9x75x3 .f32) (g : Fin 675) (c : Fin 3) :
    (shapeCast S675x3x1x1 a shapeCasts_S9x75x3_S675x3x1x1 : FVec Ideal S675x3x1x1 .f32) (ix4 g c 0 0) = a (ix3 ⟨g.val / 75, by omega⟩ ⟨g.val % 75, by omega⟩ c) := by
  pointwise

theorem p10 (a : FVec Ideal S9 .f32) (q : Fin 9) :
    (broadcastInDim S9x1 ![0] bcast_S9_S9x1_0 a : FVec Ideal S9x1 .f32) (ix2 q 0) = a (ix1 q) := by
  pointwise

theorem p11 (a : FVec Ideal S9x1 .f32) (q : Fin 9) (v : Fin 75) :
    (broadcastInDim S9x75 ![0, 1] bcast_S9x1_S9x75_0_1 a : FVec Ideal S9x75 .f32) (ix2 q v) = a (ix2 q 0) := by
  pointwise

theorem p12 (a : FVec Ideal S9x75 .f32) (g : Fin 675) :
    (shapeCast S675x1x1x1 a shapeCasts_S9x75_S675x1x1x1 : FVec Ideal S675x1x1x1 .f32) (ix4 g 0 0 0) = a (ix2 ⟨g.val / 75, by omega⟩ ⟨g.val % 75, by omega⟩) := by
  pointwise

theorem p13 (a : IVec S675x8x40x128 32) (g : Fin 675) (k : Fin 8) (k' : Fin 40) (l : Fin 128) :
    (bitcastToFloat .f32 a : FVec Ideal S675x8x40x128 .f32) (ix4 g k k' l) = Ideal.ofBits .f32 (a (ix4 g k k' l)) := by
  pointwise

theorem p14 (a : FVec Ideal S675x8x40x128 .f32) (g : Fin 675) (k : Fin 40) (l : Fin 128) :
    (extractStridedSlice S675x1x40x128 ![0, 0, 0, 0] a slices_S675x8x40x128_S675x1x40x128_0_0_0_0 : FVec Ideal S675x1x40x128 .f32) (ix4 g 0 k l) = a (ix4 g 0 k l) := by
  pointwise

theorem p15 (a : FVec Ideal S675x1x40x128 .f32) (g : Fin 675) (k : Fin 40) (l : Fin 128) :
    (shapeCast S675x40x128 a shapeCasts_S675x1x40x128_S675x40x128 : FVec Ideal S675x40x128 .f32) (ix3 g k l) = a (ix4 g 0 k l) := by
  pointwise

theorem p16 (a : FVec Ideal S675x40x128 .f32) (g : Fin 675) (k : Fin 40) (l : Fin 128) :
    (broadcastInDim S675x40x1x128 ![0, 1, 3] bcast_S675x40x128_S675x40x1x128_0_1_3 a : FVec Ideal S675x40x1x128 .f32) (ix4 g k 0 l) = a (ix3 g k l) := by
  pointwise

theorem p17 (a : FVec Ideal S675x8x40x128 .f32) (g : Fin 675) (k : Fin 40) (l : Fin 128) :
    (extractStridedSlice S675x1x40x128 ![0, 1, 0, 0] a slices_S675x8x40x128_S675x1x40x128_0_1_0_0 : FVec Ideal S675x1x40x128 .f32) (ix4 g 0 k l) = a (ix4 g 1 k l) := by
  pointwise

theorem p18 (a : FVec Ideal S675x8x40x128 .f32) (g : Fin 675) (k : Fin 40) (l : Fin 128) :
    (extractStridedSlice S675x1x40x128 ![0, 2, 0, 0] a slices_S675x8x40x128_S675x1x40x128_0_2_0_0 : FVec Ideal S675x1x40x128 .f32) (ix4 g 0 k l) = a (ix4 g 2 k l) := by
  pointwise

theorem p19 (a : FVec Ideal S675x8x40x128 .f32) (g : Fin 675) (k : Fin 40) (l : Fin 128) :
    (extractStridedSlice S675x1x40x128 ![0, 3, 0, 0] a slices_S675x8x40x128_S675x1x40x128_0_3_0_0 : FVec Ideal S675x1x40x128 .f32) (ix4 g 0 k l) = a (ix4 g 3 k l) := by
  pointwise

theorem p20 (a : FVec Ideal S675x8x40x128 .f32) (g : Fin 675) (k : Fin 40) (l : Fin 128) :
    (extractStridedSlice S675x1x40x128 ![0, 4, 0, 0] a slices_S675x8x40x128_S675x1x40x128_0_4_0_0 : FVec Ideal S675x1x40x128 .f32) (ix4 g 0 k l) = a (ix4 g 4 k l) := by
  pointwise

theorem p21 (a : FVec Ideal S675x8x40x128 .f32) (g : Fin 675) (k : Fin 40) (l : Fin 128) :
    (extractStridedSlice S675x1x40x128 ![0, 5, 0, 0] a slices_S675x8x40x128_S675x1x40x128_0_5_0_0 : FVec Ideal S675x1x40x128 .f32) (ix4 g 0 k l) = a (ix4 g 5 k l) := by
  pointwise

theorem p22 (a : FVec Ideal S675x8x40x128 .f32) (g : Fin 675) (k : Fin 40) (l : Fin 128) :
    (extractStridedSlice S675x1x40x128 ![0, 6, 0, 0] a slices_S675x8x40x128_S675x1x40x128_0_6_0_0 : FVec Ideal S675x1x40x128 .f32) (ix4 g 0 k l) = a (ix4 g 6 k l) := by
  pointwise

theorem p23 (a : IVec S675x8x40x128 32) (g : Fin 675) (k : Fin 40) (l : Fin 128) :
    (extractStridedSlice S675x1x40x128 ![0, 7, 0, 0] a slices_S675x8x40x128_S675x1x40x128_0_7_0_0 : IVec S675x1x40x128 32) (ix4 g 0 k l) = a (ix4 g 7 k l) := by
  pointwise

theorem p24 (a : IVec S675x1x40x128 32) (g : Fin 675) (k : Fin 40) (l : Fin 128) :
    (shapeCast S675x40x128 a shapeCasts_S675x1x40x128_S675x40x128 : IVec S675x40x128 32) (ix3 g k l) = a (ix4 g 0 k l) := by
  pointwise

theorem p25 (a : FVec Ideal S675x1x1x1 .f32) (g : Fin 675) (c : Fin 3) (p : Fin 256) (l : Fin 128) :
    (broadcastInDim S675x3x256x128 ![0, 1, 2, 3] bcast_S675x1x1x1_S675x3x256x128_0_1_2_3 a : FVec Ideal S675x3x256x128 .f32) (ix4 g c p l) = a (ix4 g 0 0 0) := by
  pointwise

theorem p26 (a : FVec Ideal S675x3x256x128 .f32) (b : FVec Ideal S675x3x256x128 .f32) (g : Fin 675) (c : Fin 3) (p : Fin 256) (l : Fin 128) :
    (mulf a b : FVec Ideal S675x3x256x128 .f32) (ix4 g c p l) = a (ix4 g c p l) * b (ix4 g c p l) := by
  pointwise

theorem p27 (a : FVec Ideal S675x3x256x128 .f32) (g : Fin 675) (c : Fin 3) (p : Fin 256) (l : Fin 128) :
    (broadcastInDim S675x1x3x256x128 ![0, 2, 3, 4] bcast_S675x3x256x128_S675x1x3x256x128_0_2_3_4 a : FVec Ideal S675x1x3x256x128 .f32) (ix5 g 0 c p l) = a (ix4 g c p l) := by
  pointwise

theorem p28 (a : FVec Ideal S675x160x128 .f32) (g : Fin 675) (k : Fin 40) (j : Fin 4) (l : Fin 128) :
    (shapeCast S675x40x4x128 a shapeCasts_S675x160x128_S675x40x4x128 : FVec Ideal S675x40x4x128 .f32) (ix4 g k j l) = a (ix3 g ⟨k.val * 4 + j.val, by omega⟩ l) := by
  pointwise

theorem p29 (a : FVec Ideal S675x40x4x128 .f32) (g : Fin 675) (k : Fin 40) (c : Fin 3) (l : Fin 128) :
    (extractStridedSlice S675x40x3x128 ![0, 0, 0, 0] a slices_S675x40x4x128_S675x40x3x128_0_0_0_0 : FVec Ideal S675x40x3x128 .f32) (ix4 g k c l) = a (ix4 g k ⟨c.val, by omega⟩ l) := by
  pointwise

theorem p30 (a : FVec Ideal S675x40x1x128 .f32) (g : Fin 675) (k : Fin 40) (c : Fin 3) (l : Fin 128) :
    (broadcastInDim S675x40x3x128 ![0, 1, 2, 3] bcast_S675x40x1x128_S675x40x3x128_0_1_2_3 a : FVec Ideal S675x40x3x128 .f32) (ix4 g k c l) = a (ix4 g k 0 l) := by
  pointwise

theorem p31 (a : FVec Ideal S675x40x3x128 .f32) (b : FVec Ideal S675x40x3x128 .f32) (g : Fin 675) (k : Fin 40) (c : Fin 3) (l : Fin 128) :
    (mulf a b : FVec Ideal S675x40x3x128 .f32) (ix4 g k c l) = a (ix4 g k c l) * b (ix4 g k c l) := by
  pointwise

theorem p32 (a : FVec Ideal S675x40x3x128 .f32) (g : Fin 675) (k : Fin 40) (c : Fin 3) (l : Fin 128) :
    (broadcastInDim S675x40x3x1x128 ![0, 1, 2, 4] bcast_S675x40x3x128_S675x40x3x1x128_0_1_2_4 a : FVec Ideal S675x40x3x1x128 .f32) (ix5 g k c 0 l) = a (ix4 g k c l) := by
  pointwise

theorem p33 (a : IVec S675x256x128 32) (g : Fin 675) (p : Fin 256) (l : Fin 128) :
    (bitcastToFloat .f32 a : FVec Ideal S675x256x128 .f32) (ix3 g p l) = Ideal.ofBits .f32 (a (ix3 g p l)) := by
  pointwise

theorem p34 (a : IVec S256 32) (p : Fin 256) :
    (sitofp .f32 a : FVec Ideal S256 .f32) (ix1 p) = (((a (ix1 p)).toInt : ℝ) : EReal) := by
  pointwise; rfl

theorem p35 (a : FVec Ideal S_ .f32) (p : Fin 256) :
    (broadcastInDim S256 ![] bcast_S_S256 a : FVec Ideal S256 .f32) (ix1 p) = a ix0 := by
  pointwise

theorem p36 (a : FVec Ideal S256 .f32) (b : FVec Ideal S256 .f32) (p : Fin 256) :
    (addf a b : FVec Ideal S256 .f32) (ix1 p) = a (ix1 p) + b (ix1 p) := by
  pointwise

theorem p37 (a : FVec Ideal S675x2x128 .f32) (g : Fin 675) (l : Fin 128) :
    (extractStridedSlice S675x1x128 ![0, 0, 0] a slices_S675x2x128_S675x1x128_0_0_0 : FVec Ideal S675x1x128 .f32) (ix3 g 0 l) = a (ix3 g 0 l) := by
  pointwise

theorem p38 (a : FVec Ideal S675x1x128 .f32) (g : Fin 675) (l : Fin 128) :
    (shapeCast S675x128 a shapeCasts_S675x1x128_S675x128 : FVec Ideal S675x128 .f32) (ix2 g l) = a (ix3 g 0 l) := by
  pointwise

theorem p39 (a : FVec Ideal S675x128 .f32) (g : Fin 675) (l : Fin 128) :
    (broadcastInDim S675x1x128 ![0, 2] bcast_S675x128_S675x1x128_0_2 a : FVec Ideal S675x1x128 .f32) (ix3 g 0 l) = a (ix2 g l) := by
  pointwise

theorem p40 (a : FVec Ideal S256 .f32) (p : Fin 256) :
    (broadcastInDim S256x1 ![0] bcast_S256_S256x1_0 a : FVec Ideal S256x1 .f32) (ix2 p 0) = a (ix1 p) := by
  pointwise

theorem p41 (a : FVec Ideal S256x1 .f32) (p : Fin 256) :
    (broadcastInDim S1x256x1 ![1, 2] bcast_S256x1_S1x256x1_1_2 a : FVec Ideal S1x256x1 .f32) (ix3 0 p 0) = a (ix2 p 0) := by
  pointwise

theorem p42 (a : FVec Ideal S675x1x128 .f32) (g : Fin 675) (p : Fin 256) (l : Fin 128) :
    (broadcastInDim S675x256x128 ![0, 1, 2] bcast_S675x1x128_S675x256x128_0_1_2 a : FVec Ideal S675x256x128 .f32) (ix3 g p l) = a (ix3 g 0 l) := by
  pointwise

theorem p43 (a : FVec Ideal S1x256x1 .f32) (g : Fin 675) (p : Fin 256) (l : Fin 128) :
    (broadcastInDim S675x256x128 ![0, 1, 2] bcast_S1x256x1_S675x256x128_0_1_2 a : FVec Ideal S675x256x128 .f32) (ix3 g p l) = a (ix3 0 p 0) := by
  pointwise

theorem p44 (a : FVec Ideal S675x256x128 .f32) (b : FVec Ideal S675x256x128 .f32) (g : Fin 675) (p : Fin 256) (l : Fin 128) :
    (addf a b : FVec Ideal S675x256x128 .f32) (ix3 g p l) = a (ix3 g p l) + b (ix3 g p l) := by
  pointwise

theorem p45 (a : FVec Ideal S675x2x128 .f32) (g : Fin 675) (l : Fin 128) :
    (extractStridedSlice S675x1x128 ![0, 1, 0] a slices_S675x2x128_S675x1x128_0_1_0 : FVec Ideal S675x1x128 .f32) (ix3 g 0 l) = a (ix3 g 1 l) := by
  pointwise

theorem p46 (a : FVec Ideal S675x256x128 .f32) (g : Fin 675) (p : Fin 256) (l : Fin 128) :
    (broadcastInDim S675x1x256x128 ![0, 2, 3] bcast_S675x256x128_S675x1x256x128_0_2_3 a : FVec Ideal S675x1x256x128 .f32) (ix4 g 0 p l) = a (ix3 g p l) := by
  pointwise

theorem p47 (a : FVec Ideal S675x40x1x128 .f32) (g : Fin 675) (k : Fin 40) (p : Fin 256) (l : Fin 128) :
    (broadcastInDim S675x40x256x128 ![0, 1, 2, 3] bcast_S675x40x1x128_S675x40x256x128_0_1_2_3 a : FVec Ideal S675x40x256x128 .f32) (ix4 g k p l) = a (ix4 g k 0 l) := by
  pointwise

theorem p48 (a : FVec Ideal S675x1x256x128 .f32) (g : Fin 675) (k : Fin 40) (p : Fin 256) (l : Fin 128) :
    (broadcastInDim S675x40x256x128 ![0, 1, 2, 3] bcast_S675x1x256x128_S675x40x256x128_0_1_2_3 a : FVec Ideal S675x40x256x128 .f32) (ix4 g k p l) = a (ix4 g 0 p l) := by
  pointwise

theorem p49 (a : FVec Ideal S675x40x256x128 .f32) (b : FVec Ideal S675x40x256x128 .f32) (g : Fin 675) (k : Fin 40) (p : Fin 256) (l : Fin 128) :
    (subf a b : FVec Ideal S675x40x256x128 .f32) (ix4 g k p l) = a (ix4 g k p l) - b (ix4 g k p l) := by
  pointwise

theorem p50 (a : FVec Ideal S675x40x256x128 .f32) (b : FVec Ideal S675x40x256x128 .f32) (g : Fin 675) (k : Fin 40) (p : Fin 256) (l : Fin 128) :
    (mulf a b : FVec Ideal S675x40x256x128 .f32) (ix4 g k p l) = a (ix4 g k p l) * b (ix4 g k p l) := by
  pointwise

theorem p51 (a : FVec Ideal S675x40x256x128 .f32) (b : FVec Ideal S675x40x256x128 .f32) (g : Fin 675) (k : Fin 40) (p : Fin 256) (l : Fin 128) :
    (addf a b : FVec Ideal S675x40x256x128 .f32) (ix4 g k p l) = a (ix4 g k p l) + b (ix4 g k p l) := by
  pointwise

theorem p52 (a : FVec Ideal S_ .f32) (g : Fin 675) (k : Fin 40) (p : Fin 256) (l : Fin 128) :
    (broadcastInDim S675x40x256x128 ![] bcast_S_S675x40x256x128 a : FVec Ideal S675x40x256x128 .f32) (ix4 g k p l) = a ix0 := by
  pointwise

theorem p53 (a : FVec Ideal S675x40x256x128 .f32) (g : Fin 675) (k : Fin 40) (p : Fin 256) (l : Fin 128) :
    (Host.negf a : FVec Ideal S675x40x256x128 .f32) (ix4 g k p l) = -(a (ix4 g k p l)) := by
  pointwise

theorem p54 (a : FVec Ideal S675x40x256x128 .f32) (g : Fin 675) (k : Fin 40) (p : Fin 256) (l : Fin 128) :
    (Host.exp a : FVec Ideal S675x40x256x128 .f32) (ix4 g k p l) = Ideal.exp (a (ix4 g k p l)) := by
  pointwise

theorem p55 (a : IVec S675x40 1) (g : Fin 675) (k : Fin 40) :
    (broadcastInDim S675x40x1x1 ![0, 1] bcast_S675x40_S675x40x1x1_0_1 a : IVec S675x40x1x1 1) (ix4 g k 0 0) = a (ix2 g k) := by
  pointwise

theorem p56 (a : IVec S675x40x1x1 1) (g : Fin 675) (k : Fin 40) (p : Fin 256) (l : Fin 128) :
    (broadcastInDim S675x40x256x128 ![0, 1, 2, 3] bcast_S675x40x1x1_S675x40x256x128_0_1_2_3 a : IVec S675x40x256x128 1) (ix4 g k p l) = a (ix4 g k 0 0) := by
  pointwise

theorem p57 (a : IVec S675x40x256x128 1) (b : FVec Ideal S675x40x256x128 .f32) (d : FVec Ideal S675x40x256x128 .f32) (g : Fin 675) (k : Fin 40) (p : Fin 256) (l : Fin 128) :
    (select a b d : FVec Ideal S675x40x256x128 .f32) (ix4 g k p l) = Scalar.select (a (ix4 g k p l)) (b (ix4 g k p l)) (d (ix4 g k p l)) := by
  pointwise

theorem p58 (a : FVec Ideal S675x40x256x128 .f32) (g : Fin 675) (k : Fin 39) (p : Fin 256) (l : Fin 128) :
    (extractStridedSlice S675x39x256x128 ![0, 1, 0, 0] a slices_S675x40x256x128_S675x39x256x128_0_1_0_0 : FVec Ideal S675x39x256x128 .f32) (ix4 g k p l) = a (ix4 g ⟨1 + k.val, by omega⟩ p l) := by
  pointwise

theorem p59 (a : FVec Ideal S675x40x256x128 .f32) (g : Fin 675) (p : Fin 256) (l : Fin 128) :
    (extractStridedSlice S675x1x256x128 ![0, 0, 0, 0] a slices_S675x40x256x128_S675x1x256x128_0_0_0_0 : FVec Ideal S675x1x256x128 .f32) (ix4 g 0 p l) = a (ix4 g 0 p l) := by
  pointwise

theorem p60 (a : FVec Ideal S_ .f32) (g : Fin 675) (p : Fin 256) (l : Fin 128) :
    (broadcastInDim S675x1x256x128 ![] bcast_S_S675x1x256x128 a : FVec Ideal S675x1x256x128 .f32) (ix4 g 0 p l) = a ix0 := by
  pointwise

theorem p61 (a : FVec Ideal S675x39x256x128 .f32) (b : FVec Ideal S675x1x256x128 .f32) (g : Fin 675) (k : Fin 40) (p : Fin 256) (l : Fin 128) :
    (concatenate S675x40x256x128 1 [⟨S675x39x256x128, a⟩, ⟨S675x1x256x128, b⟩] concatenates_S675x39x256x128_S675x1x256x128_S675x40x256x128_d1 : FVec Ideal S675x40x256x128 .f32) (ix4 g k p l) = if h0 : k.val < 39 then a (ix4 g ⟨k.val, by omega⟩ p l) else b (ix4 g ⟨k.val - 39, by omega⟩ p l) := by
  pointwise

theorem p62 (a : FVec Ideal S675x40x256x128 .f32) (g : Fin 675) (k : Fin 38) (p : Fin 256) (l : Fin 128) :
    (extractStridedSlice S675x38x256x128 ![0, 2, 0, 0] a slices_S675x40x256x128_S675x38x256x128_0_2_0_0 : FVec Ideal S675x38x256x128 .f32) (ix4 g k p l) = a (ix4 g ⟨2 + k.val, by omega⟩ p l) := by
  pointwise

theorem p63 (a : FVec Ideal S675x40x256x128 .f32) (g : Fin 675) (k : Fin 2) (p : Fin 256) (l : Fin 128) :
    (extractStridedSlice S675x2x256x128 ![0, 0, 0, 0] a slices_S675x40x256x128_S675x2x256x128_0_0_0_0 : FVec Ideal S675x2x256x128 .f32) (ix4 g k p l) = a (ix4 g ⟨k.val, by omega⟩ p l) := by
  pointwise

theorem p64 (a : FVec Ideal S_ .f32) (g : Fin 675) (k : Fin 2) (p : Fin 256) (l : Fin 128) :
    (broadcastInDim S675x2x256x128 ![] bcast_S_S675x2x256x128 a : FVec Ideal S675x2x256x128 .f32) (ix4 g k p l) = a ix0 := by
  pointwise

theorem p65 (a : FVec Ideal S675x38x256x128 .f32) (b : FVec Ideal S675x2x256x128 .f32) (g : Fin 675) (k : Fin 40) (p : Fin 256) (l : Fin 128) :
    (concatenate S675x40x256x128 1 [⟨S675x38x256x128, a⟩, ⟨S675x2x256x128, b⟩] concatenates_S675x38x256x128_S675x2x256x128_S675x40x256x128_d1 : FVec Ideal S675x40x256x128 .f32) (ix4 g k p l) = if h0 : k.val < 38 then a (ix4 g ⟨k.val, by omega⟩ p l) else b (ix4 g ⟨k.val - 38, by omega⟩ p l) := by
  pointwise

theorem p66 (a : FVec Ideal S675x40x256x128 .f32) (g : Fin 675) (k : Fin 36) (p : Fin 256) (l : Fin 128) :
    (extractStridedSlice S675x36x256x128 ![0, 4, 0, 0] a slices_S675x40x256x128_S675x36x256x128_0_4_0_0 : FVec Ideal S675x36x256x128 .f32) (ix4 g k p l) = a (ix4 g ⟨4 + k.val, by omega⟩ p l) := by
  pointwise

theorem p67 (a : FVec Ideal S675x40x256x128 .f32) (g : Fin 675) (j : Fin 4) (p : Fin 256) (l : Fin 128) :
    (extractStridedSlice S675x4x256x128 ![0, 0, 0, 0] a slices_S675x40x256x128_S675x4x256x128_0_0_0_0 : FVec Ideal S675x4x256x128 .f32) (ix4 g j p l) = a (ix4 g ⟨j.val, by omega⟩ p l) := by
  pointwise

theorem p68 (a : FVec Ideal S_ .f32) (g : Fin 675) (j : Fin 4) (p : Fin 256) (l : Fin 128) :
    (broadcastInDim S675x4x256x128 ![] bcast_S_S675x4x256x128 a : FVec Ideal S675x4x256x128 .f32) (ix4 g j p l) = a ix0 := by
  pointwise

theorem p69 (a : FVec Ideal S675x36x256x128 .f32) (b : FVec Ideal S675x4x256x128 .f32) (g : Fin 675) (k : Fin 40) (p : Fin 256) (l : Fin 128) :
    (concatenate S675x40x256x128 1 [⟨S675x36x256x128, a⟩, ⟨S675x4x256x128, b⟩] concatenates_S675x36x256x128_S675x4x256x128_S675x40x256x128_d1 : FVec Ideal S675x40x256x128 .f32) (ix4 g k p l) = if h0 : k.val < 36 then a (ix4 g ⟨k.val, by omega⟩ p l) else b (ix4 g ⟨k.val - 36, by omega⟩ p l) := by
  pointwise

theorem p70 (a : FVec Ideal S675x40x256x128 .f32) (g : Fin 675) (k : Fin 32) (p : Fin 256) (l : Fin 128) :
    (extractStridedSlice S675x32x256x128 ![0, 8, 0, 0] a slices_S675x40x256x128_S675x32x256x128_0_8_0_0 : FVec Ideal S675x32x256x128 .f32) (ix4 g k p l) = a (ix4 g ⟨8 + k.val, by omega⟩ p l) := by
  pointwise

theorem p71 (a : FVec Ideal S675x40x256x128 .f32) (g : Fin 675) (k : Fin 8) (p : Fin 256) (l : Fin 128) :
    (extractStridedSlice S675x8x256x128 ![0, 0, 0, 0] a slices_S675x40x256x128_S675x8x256x128_0_0_0_0 : FVec Ideal S675x8x256x128 .f32) (ix4 g k p l) = a (ix4 g ⟨k.val, by omega⟩ p l) := by
  pointwise

theorem p72 (a : FVec Ideal S_ .f32) (g : Fin 675) (k : Fin 8) (p : Fin 256) (l : Fin 128) :
    (broadcastInDim S675x8x256x128 ![] bcast_S_S675x8x256x128 a : FVec Ideal S675x8x256x128 .f32) (ix4 g k p l) = a ix0 := by
  pointwise

theorem p73 (a : FVec Ideal S675x32x256x128 .f32) (b : FVec Ideal S675x8x256x128 .f32) (g : Fin 675) (k : Fin 40) (p : Fin 256) (l : Fin 128) :
    (concatenate S675x40x256x128 1 [⟨S675x32x256x128, a⟩, ⟨S675x8x256x128, b⟩] concatenates_S675x32x256x128_S675x8x256x128_S675x40x256x128_d1 : FVec Ideal S675x40x256x128 .f32) (ix4 g k p l) = if h0 : k.val < 32 then a (ix4 g ⟨k.val, by omega⟩ p l) else b (ix4 g ⟨k.val - 32, by omega⟩ p l) := by
  pointwise

theorem p74 (a : FVec Ideal S675x40x256x128 .f32) (g : Fin 675) (k : Fin 24) (p : Fin 256) (l : Fin 128) :
    (extractStridedSlice S675x24x256x128 ![0, 16, 0, 0] a slices_S675x40x256x128_S675x24x256x128_0_16_0_0 : FVec Ideal S675x24x256x128 .f32) (ix4 g k p l) = a (ix4 g ⟨16 + k.val, by omega⟩ p l) := by
  pointwise

theorem p75 (a : FVec Ideal S675x40x256x128 .f32) (g : Fin 675) (k : Fin 16) (p : Fin 256) (l : Fin 128) :
    (extractStridedSlice S675x16x256x128 ![0, 0, 0, 0] a slices_S675x40x256x128_S675x16x256x128_0_0_0_0 : FVec Ideal S675x16x256x128 .f32) (ix4 g k p l) = a (ix4 g ⟨k.val, by omega⟩ p l) := by
  pointwise

theorem p76 (a : FVec Ideal S_ .f32) (g : Fin 675) (k : Fin 16) (p : Fin 256) (l : Fin 128) :
    (broadcastInDim S675x16x256x128 ![] bcast_S_S675x16x256x128 a : FVec Ideal S675x16x256x128 .f32) (ix4 g k p l) = a ix0 := by
  pointwise

theorem p77 (a : FVec Ideal S675x24x256x128 .f32) (b : FVec Ideal S675x16x256x128 .f32) (g : Fin 675) (k : Fin 40) (p : Fin 256) (l : Fin 128) :
    (concatenate S675x40x256x128 1 [⟨S675x24x256x128, a⟩, ⟨S675x16x256x128, b⟩] concatenates_S675x24x256x128_S675x16x256x128_S675x40x256x128_d1 : FVec Ideal S675x40x256x128 .f32) (ix4 g k p l) = if h0 : k.val < 24 then a (ix4 g ⟨k.val, by omega⟩ p l) else b (ix4 g ⟨k.val - 24, by omega⟩ p l) := by
  pointwise

theorem p78 (a : FVec Ideal S675x40x256x128 .f32) (g : Fin 675) (k : Fin 8) (p : Fin 256) (l : Fin 128) :
    (extractStridedSlice S675x8x256x128 ![0, 32, 0, 0] a slices_S675x40x256x128_S675x8x256x128_0_32_0_0 : FVec Ideal S675x8x256x128 .f32) (ix4 g k p l) = a (ix4 g ⟨32 + k.val, by omega⟩ p l) := by
  pointwise

theorem p79 (a : FVec Ideal S675x40x256x128 .f32) (g : Fin 675) (k : Fin 32) (p : Fin 256) (l : Fin 128) :
    (extractStridedSlice S675x32x256x128 ![0, 0, 0, 0] a slices_S675x40x256x128_S675x32x256x128_0_0_0_0 : FVec Ideal S675x32x256x128 .f32) (ix4 g k p l) = a (ix4 g ⟨k.val, by omega⟩ p l) := by
  pointwise

theorem p80 (a : FVec Ideal S_ .f32) (g : Fin 675) (k : Fin 32) (p : Fin 256) (l : Fin 128) :
    (broadcastInDim S675x32x256x128 ![] bcast_S_S675x32x256x128 a : FVec Ideal S675x32x256x128 .f32) (ix4 g k p l) = a ix0 := by
  pointwise

theorem p81 (a : FVec Ideal S675x8x256x128 .f32) (b : FVec Ideal S675x32x256x128 .f32) (g : Fin 675) (k : Fin 40) (p : Fin 256) (l : Fin 128) :
    (concatenate S675x40x256x128 1 [⟨S675x8x256x128, a⟩, ⟨S675x32x256x128, b⟩] concatenates_S675x8x256x128_S675x32x256x128_S675x40x256x128_d1 : FVec Ideal S675x40x256x128 .f32) (ix4 g k p l) = if h0 : k.val < 8 then a (ix4 g ⟨k.val, by omega⟩ p l) else b (ix4 g ⟨k.val - 8, by omega⟩ p l) := by
  pointwise

theorem p82 (a : FVec Ideal S675x40x256x128 .f32) (b : FVec Ideal S675x40x256x128 .f32) (g : Fin 675) (k : Fin 40) (p : Fin 256) (l : Fin 128) :
    (Host.divf a b : FVec Ideal S675x40x256x128 .f32) (ix4 g k p l) = Ideal.div (a (ix4 g k p l)) (b (ix4 g k p l)) := by
  pointwise

theorem p83 (a : FVec Ideal S675x39x256x128 .f32) (g : Fin 675) (k : Fin 39) (p : Fin 256) (l : Fin 128) :
    (broadcastInDim S675x39x1x256x128 ![0, 1, 3, 4] bcast_S675x39x256x128_S675x39x1x256x128_0_1_3_4 a : FVec Ideal S675x39x1x256x128 .f32) (ix5 g k 0 p l) = a (ix4 g k p l) := by
  pointwise

theorem p84 (a : FVec Ideal S675x40x3x1x128 .f32) (g : Fin 675) (k : Fin 39) (c : Fin 3) (l : Fin 128) :
    (extractStridedSlice S675x39x3x1x128 ![0, 1, 0, 0, 0] a slices_S675x40x3x1x128_S675x39x3x1x128_0_1_0_0_0 : FVec Ideal S675x39x3x1x128 .f32) (ix5 g k c 0 l) = a (ix5 g ⟨1 + k.val, by omega⟩ c 0 l) := by
  pointwise

theorem p85 (a : FVec Ideal S675x39x1x256x128 .f32) (g : Fin 675) (k : Fin 39) (c : Fin 3) (p : Fin 256) (l : Fin 128) :
    (broadcastInDim S675x39x3x256x128 ![0, 1, 2, 3, 4] bcast_S675x39x1x256x128_S675x39x3x256x128_0_1_2_3_4 a : FVec Ideal S675x39x3x256x128 .f32) (ix5 g k c p l) = a (ix5 g k 0 p l) := by
  pointwise

theorem p86 (a : FVec Ideal S675x39x3x1x128 .f32) (g : Fin 675) (k : Fin 39) (c : Fin 3) (p : Fin 256) (l : Fin 128) :
    (broadcastInDim S675x39x3x256x128 ![0, 1, 2, 3, 4] bcast_S675x39x3x1x128_S675x39x3x256x128_0_1_2_3_4 a : FVec Ideal S675x39x3x256x128 .f32) (ix5 g k c p l) = a (ix5 g k c 0 l) := by
  pointwise

theorem p87 (a : FVec Ideal S675x39x3x256x128 .f32) (b : FVec Ideal S675x39x3x256x128 .f32) (g : Fin 675) (k : Fin 39) (c : Fin 3) (p : Fin 256) (l : Fin 128) :
    (mulf a b : FVec Ideal S675x39x3x256x128 .f32) (ix5 g k c p l) = a (ix5 g k c p l) * b (ix5 g k c p l) := by
  pointwise

theorem p88 (a : FVec Ideal S675x1x256x128 .f32) (g : Fin 675) (c : Fin 3) (p : Fin 256) (l : Fin 128) :
    (broadcastInDim S675x3x256x128 ![0, 1, 2, 3] bcast_S675x1x256x128_S675x3x256x128_0_1_2_3 a : FVec Ideal S675x3x256x128 .f32) (ix4 g c p l) = a (ix4 g 0 p l) := by
  pointwise

theorem p89 (a : FVec Ideal S675x3x1x1 .f32) (g : Fin 675) (c : Fin 3) (p : Fin 256) (l : Fin 128) :
    (broadcastInDim S675x3x256x128 ![0, 1, 2, 3] bcast_S675x3x1x1_S675x3x256x128_0_1_2_3 a : FVec Ideal S675x3x256x128 .f32) (ix4 g c p l) = a (ix4 g c 0 0) := by
  pointwise

theorem p90 (a : FVec Ideal S675x39x3x256x128 .f32) (b : FVec Ideal S675x1x3x256x128 .f32) (g : Fin 675) (k : Fin 40) (c : Fin 3) (p : Fin 256) (l : Fin 128) :
    (concatenate S675x40x3x256x128 1 [⟨S675x39x3x256x128, a⟩, ⟨S675x1x3x256x128, b⟩] concatenates_S675x39x3x256x128_S675x1x3x256x128_S675x40x3x256x128_d1 : FVec Ideal S675x40x3x256x128 .f32) (ix5 g k c p l) = if h0 : k.val < 39 then a (ix5 g ⟨k.val, by omega⟩ c p l) else b (ix5 g ⟨k.val - 39, by omega⟩ c p l) := by
  pointwise

theorem p91 (a : FVec Ideal S675x40x3x256x128 .f32) (g : Fin 675) (k : Fin 39) (c : Fin 3) (p : Fin 256) (l : Fin 128) :
    (extractStridedSlice S675x39x3x256x128 ![0, 1, 0, 0, 0] a slices_S675x40x3x256x128_S675x39x3x256x128_0_1_0_0_0 : FVec Ideal S675x39x3x256x128 .f32) (ix5 g k c p l) = a (ix5 g ⟨1 + k.val, by omega⟩ c p l) := by
  pointwise

theorem p92 (a : FVec Ideal S675x40x3x256x128 .f32) (g : Fin 675) (c : Fin 3) (p : Fin 256) (l : Fin 128) :
    (extractStridedSlice S675x1x3x256x128 ![0, 0, 0, 0, 0] a slices_S675x40x3x256x128_S675x1x3x256x128_0_0_0_0_0 : FVec Ideal S675x1x3x256x128 .f32) (ix5 g 0 c p l) = a (ix5 g 0 c p l) := by
  pointwise

theorem p93 (a : FVec Ideal S_ .f32) (g : Fin 675) (c : Fin 3) (p : Fin 256) (l : Fin 128) :
    (broadcastInDim S675x1x3x256x128 ![] bcast_S_S675x1x3x256x128 a : FVec Ideal S675x1x3x256x128 .f32) (ix5 g 0 c p l) = a ix0 := by
  pointwise

theorem p94 (a : FVec Ideal S675x40x3x256x128 .f32) (b : FVec Ideal S675x40x3x256x128 .f32) (g : Fin 675) (k : Fin 40) (c : Fin 3) (p : Fin 256) (l : Fin 128) :
    (addf a b : FVec Ideal S675x40x3x256x128 .f32) (ix5 g k c p l) = a (ix5 g k c p l) + b (ix5 g k c p l) := by
  pointwise

theorem p95 (a : FVec Ideal S675x40x3x256x128 .f32) (g : Fin 675) (k : Fin 38) (c : Fin 3) (p : Fin 256) (l : Fin 128) :
    (extractStridedSlice S675x38x3x256x128 ![0, 2, 0, 0, 0] a slices_S675x40x3x256x128_S675x38x3x256x128_0_2_0_0_0 : FVec Ideal S675x38x3x256x128 .f32) (ix5 g k c p l) = a (ix5 g ⟨2 + k.val, by omega⟩ c p l) := by
  pointwise

theorem p96 (a : FVec Ideal S675x40x3x256x128 .f32) (g : Fin 675) (k : Fin 2) (c : Fin 3) (p : Fin 256) (l : Fin 128) :
    (extractStridedSlice S675x2x3x256x128 ![0, 0, 0, 0, 0] a slices_S675x40x3x256x128_S675x2x3x256x128_0_0_0_0_0 : FVec Ideal S675x2x3x256x128 .f32) (ix5 g k c p l) = a (ix5 g ⟨k.val, by omega⟩ c p l) := by
  pointwise

theorem p97 (a : FVec Ideal S_ .f32) (g : Fin 675) (k : Fin 2) (c : Fin 3) (p : Fin 256) (l : Fin 128) :
    (broadcastInDim S675x2x3x256x128 ![] bcast_S_S675x2x3x256x128 a : FVec Ideal S675x2x3x256x128 .f32) (ix5 g k c p l) = a ix0 := by
  pointwise

theorem p98 (a : FVec Ideal S675x38x3x256x128 .f32) (b : FVec Ideal S675x2x3x256x128 .f32) (g : Fin 675) (k : Fin 40) (c : Fin 3) (p : Fin 256) (l : Fin 128) :
    (concatenate S675x40x3x256x128 1 [⟨S675x38x3x256x128, a⟩, ⟨S675x2x3x256x128, b⟩] concatenates_S675x38x3x256x128_S675x2x3x256x128_S675x40x3x256x128_d1 : FVec Ideal S675x40x3x256x128 .f32) (ix5 g k c p l) = if h0 : k.val < 38 then a (ix5 g ⟨k.val, by omega⟩ c p l) else b (ix5 g ⟨k.val - 38, by omega⟩ c p l) := by
  pointwise

theorem p99 (a : FVec Ideal S675x40x3x256x128 .f32) (g : Fin 675) (k : Fin 36) (c : Fin 3) (p : Fin 256) (l : Fin 128) :
    (extractStridedSlice S675x36x3x256x128 ![0, 4, 0, 0, 0] a slices_S675x40x3x256x128_S675x36x3x256x128_0_4_0_0_0 : FVec Ideal S675x36x3x256x128 .f32) (ix5 g k c p l) = a (ix5 g ⟨4 + k.val, by omega⟩ c p l) := by
  pointwise

theorem p100 (a : FVec Ideal S675x40x3x256x128 .f32) (g : Fin 675) (j : Fin 4) (c : Fin 3) (p : Fin 256) (l : Fin 128) :
    (extractStridedSlice S675x4x3x256x128 ![0, 0, 0, 0, 0] a slices_S675x40x3x256x128_S675x4x3x256x128_0_0_0_0_0 : FVec Ideal S675x4x3x256x128 .f32) (ix5 g j c p l) = a (ix5 g ⟨j.val, by omega⟩ c p l) := by
  pointwise

theorem p101 (a : FVec Ideal S_ .f32) (g : Fin 675) (j : Fin 4) (c : Fin 3) (p : Fin 256) (l : Fin 128) :
    (broadcastInDim S675x4x3x256x128 ![] bcast_S_S675x4x3x256x128 a : FVec Ideal S675x4x3x256x128 .f32) (ix5 g j c p l) = a ix0 := by
  pointwise

theorem p102 (a : FVec Ideal S675x36x3x256x128 .f32) (b : FVec Ideal S675x4x3x256x128 .f32) (g : Fin 675) (k : Fin 40) (c : Fin 3) (p : Fin 256) (l : Fin 128) :
    (concatenate S675x40x3x256x128 1 [⟨S675x36x3x256x128, a⟩, ⟨S675x4x3x256x128, b⟩] concatenates_S675x36x3x256x128_S675x4x3x256x128_S675x40x3x256x128_d1 : FVec Ideal S675x40x3x256x128 .f32) (ix5 g k c p l) = if h0 : k.val < 36 then a (ix5 g ⟨k.val, by omega⟩ c p l) else b (ix5 g ⟨k.val - 36, by omega⟩ c p l) := by
  pointwise

theorem p103 (a : FVec Ideal S675x40x3x256x128 .f32) (g : Fin 675) (k : Fin 32) (c : Fin 3) (p : Fin 256) (l : Fin 128) :
    (extractStridedSlice S675x32x3x256x128 ![0, 8, 0, 0, 0] a slices_S675x40x3x256x128_S675x32x3x256x128_0_8_0_0_0 : FVec Ideal S675x32x3x256x128 .f32) (ix5 g k c p l) = a (ix5 g ⟨8 + k.val, by omega⟩ c p l) := by
  pointwise

theorem p104 (a : FVec Ideal S675x40x3x256x128 .f32) (g : Fin 675) (k : Fin 8) (c : Fin 3) (p : Fin 256) (l : Fin 128) :
    (extractStridedSlice S675x8x3x256x128 ![0, 0, 0, 0, 0] a slices_S675x40x3x256x128_S675x8x3x256x128_0_0_0_0_0 : FVec Ideal S675x8x3x256x128 .f32) (ix5 g k c p l) = a (ix5 g ⟨k.val, by omega⟩ c p l) := by
  pointwise

theorem p105 (a : FVec Ideal S_ .f32) (g : Fin 675) (k : Fin 8) (c : Fin 3) (p : Fin 256) (l : Fin 128) :
    (broadcastInDim S675x8x3x256x128 ![] bcast_S_S675x8x3x256x128 a : FVec Ideal S675x8x3x256x128 .f32) (ix5 g k c p l) = a ix0 := by
  pointwise

theorem p106 (a : FVec Ideal S675x32x3x256x128 .f32) (b : FVec Ideal S675x8x3x256x128 .f32) (g : Fin 675) (k : Fin 40) (c : Fin 3) (p : Fin 256) (l : Fin 128) :
    (concatenate S675x40x3x256x128 1 [⟨S675x32x3x256x128, a⟩, ⟨S675x8x3x256x128, b⟩] concatenates_S675x32x3x256x128_S675x8x3x256x128_S675x40x3x256x128_d1 : FVec Ideal S675x40x3x256x128 .f32) (ix5 g k c p l) = if h0 : k.val < 32 then a (ix5 g ⟨k.val, by omega⟩ c p l) else b (ix5 g ⟨k.val - 32, by omega⟩ c p l) := by
  pointwise

theorem p107 (a : FVec Ideal S675x40x3x256x128 .f32) (g : Fin 675) (k : Fin 24) (c : Fin 3) (p : Fin 256) (l : Fin 128) :
    (extractStridedSlice S675x24x3x256x128 ![0, 16, 0, 0, 0] a slices_S675x40x3x256x128_S675x24x3x256x128_0_16_0_0_0 : FVec Ideal S675x24x3x256x128 .f32) (ix5 g k c p l) = a (ix5 g ⟨16 + k.val, by omega⟩ c p l) := by
  pointwise

theorem p108 (a : FVec Ideal S675x40x3x256x128 .f32) (g : Fin 675) (k : Fin 16) (c : Fin 3) (p : Fin 256) (l : Fin 128) :
    (extractStridedSlice S675x16x3x256x128 ![0, 0, 0, 0, 0] a slices_S675x40x3x256x128_S675x16x3x256x128_0_0_0_0_0 : FVec Ideal S675x16x3x256x128 .f32) (ix5 g k c p l) = a (ix5 g ⟨k.val, by omega⟩ c p l) := by
  pointwise

theorem p109 (a : FVec Ideal S_ .f32) (g : Fin 675) (k : Fin 16) (c : Fin 3) (p : Fin 256) (l : Fin 128) :
    (broadcastInDim S675x16x3x256x128 ![] bcast_S_S675x16x3x256x128 a : FVec Ideal S675x16x3x256x128 .f32) (ix5 g k c p l) = a ix0 := by
  pointwise

theorem p110 (a : FVec Ideal S675x24x3x256x128 .f32) (b : FVec Ideal S675x16x3x256x128 .f32) (g : Fin 675) (k : Fin 40) (c : Fin 3) (p : Fin 256) (l : Fin 128) :
    (concatenate S675x40x3x256x128 1 [⟨S675x24x3x256x128, a⟩, ⟨S675x16x3x256x128, b⟩] concatenates_S675x24x3x256x128_S675x16x3x256x128_S675x40x3x256x128_d1 : FVec Ideal S675x40x3x256x128 .f32) (ix5 g k c p l) = if h0 : k.val < 24 then a (ix5 g ⟨k.val, by omega⟩ c p l) else b (ix5 g ⟨k.val - 24, by omega⟩ c p l) := by
  pointwise

theorem p111 (a : FVec Ideal S675x40x3x256x128 .f32) (g : Fin 675) (k : Fin 8) (c : Fin 3) (p : Fin 256) (l : Fin 128) :
    (extractStridedSlice S675x8x3x256x128 ![0, 32, 0, 0, 0] a slices_S675x40x3x256x128_S675x8x3x256x128_0_32_0_0_0 : FVec Ideal S675x8x3x256x128 .f32) (ix5 g k c p l) = a (ix5 g ⟨32 + k.val, by omega⟩ c p l) := by
  pointwise

theorem p112 (a : FVec Ideal S675x40x3x256x128 .f32) (g : Fin 675) (k : Fin 32) (c : Fin 3) (p : Fin 256) (l : Fin 128) :
    (extractStridedSlice S675x32x3x256x128 ![0, 0, 0, 0, 0] a slices_S675x40x3x256x128_S675x32x3x256x128_0_0_0_0_0 : FVec Ideal S675x32x3x256x128 .f32) (ix5 g k c p l) = a (ix5 g ⟨k.val, by omega⟩ c p l) := by
  pointwise

theorem p113 (a : FVec Ideal S_ .f32) (g : Fin 675) (k : Fin 32) (c : Fin 3) (p : Fin 256) (l : Fin 128) :
    (broadcastInDim S675x32x3x256x128 ![] bcast_S_S675x32x3x256x128 a : FVec Ideal S675x32x3x256x128 .f32) (ix5 g k c p l) = a ix0 := by
  pointwise

theorem p114 (a : FVec Ideal S675x8x3x256x128 .f32) (b : FVec Ideal S675x32x3x256x128 .f32) (g : Fin 675) (k : Fin 40) (c : Fin 3) (p : Fin 256) (l : Fin 128) :
    (concatenate S675x40x3x256x128 1 [⟨S675x8x3x256x128, a⟩, ⟨S675x32x3x256x128, b⟩] concatenates_S675x8x3x256x128_S675x32x3x256x128_S675x40x3x256x128_d1 : FVec Ideal S675x40x3x256x128 .f32) (ix5 g k c p l) = if h0 : k.val < 8 then a (ix5 g ⟨k.val, by omega⟩ c p l) else b (ix5 g ⟨k.val - 8, by omega⟩ c p l) := by
  pointwise

theorem p115 (a : FVec Ideal S675x40x256x128 .f32) (g : Fin 675) (k : Fin 40) (p : Fin 256) (l : Fin 128) :
    (broadcastInDim S675x40x1x256x128 ![0, 1, 3, 4] bcast_S675x40x256x128_S675x40x1x256x128_0_1_3_4 a : FVec Ideal S675x40x1x256x128 .f32) (ix5 g k 0 p l) = a (ix4 g k p l) := by
  pointwise

theorem p116 (a : FVec Ideal S675x40x1x256x128 .f32) (g : Fin 675) (k : Fin 40) (c : Fin 3) (p : Fin 256) (l : Fin 128) :
    (broadcastInDim S675x40x3x256x128 ![0, 1, 2, 3, 4] bcast_S675x40x1x256x128_S675x40x3x256x128_0_1_2_3_4 a : FVec Ideal S675x40x3x256x128 .f32) (ix5 g k c p l) = a (ix5 g k 0 p l) := by
  pointwise

theorem p117 (a : FVec Ideal S675x40x3x1x128 .f32) (g : Fin 675) (k : Fin 40) (c : Fin 3) (p : Fin 256) (l : Fin 128) :
    (broadcastInDim S675x40x3x256x128 ![0, 1, 2, 3, 4] bcast_S675x40x3x1x128_S675x40x3x256x128_0_1_2_3_4 a : FVec Ideal S675x40x3x256x128 .f32) (ix5 g k c p l) = a (ix5 g k c 0 l) := by
  pointwise

theorem p118 (a : FVec Ideal S675x40x3x256x128 .f32) (b : FVec Ideal S675x40x3x256x128 .f32) (g : Fin 675) (k : Fin 40) (c : Fin 3) (p : Fin 256) (l : Fin 128) :
    (mulf a b : FVec Ideal S675x40x3x256x128 .f32) (ix5 g k c p l) = a (ix5 g k c p l) * b (ix5 g k c p l) := by
  pointwise

theorem p119 (a : FVec Ideal S675x40x3x256x128 .f32) (b : FVec Ideal S675x40x3x256x128 .f32) (g : Fin 675) (k : Fin 40) (c : Fin 3) (p : Fin 256) (l : Fin 128) :
    (Host.divf a b : FVec Ideal S675x40x3x256x128 .f32) (ix5 g k c p l) = Ideal.div (a (ix5 g k c p l)) (b (ix5 g k c p l)) := by
  pointwise

theorem p120 (a : FVec Ideal S675x40x3x256x128 .f32) (b : FVec Ideal S675x40x3x256x128 .f32) (g : Fin 675) (k : Fin 40) (c : Fin 3) (p : Fin 256) (l : Fin 128) :
    (subf a b : FVec Ideal S675x40x3x256x128 .f32) (ix5 g k c p l) = a (ix5 g k c p l) - b (ix5 g k c p l) := by
  pointwise

theorem p121 (a : FVec Ideal S675x1x3x256x128 .f32) (g : Fin 675) (k : Fin 40) (c : Fin 3) (p : Fin 256) (l : Fin 128) :
    (broadcastInDim S675x40x3x256x128 ![0, 1, 2, 3, 4] bcast_S675x1x3x256x128_S675x40x3x256x128_0_1_2_3_4 a : FVec Ideal S675x40x3x256x128 .f32) (ix5 g k c p l) = a (ix5 g 0 c p l) := by
  pointwise

theorem p122 (a : FVec Ideal S675x40x3x256x128 .f32) (b : FVec Ideal S_ .f32) (g : Fin 675) (k : Fin 40) (p : Fin 256) (l : Fin 128) :
    (Host.reduceAdd a b reducesTo_S675x40x3x256x128_S675x40x256x128_d2 h_S_ : FVec Ideal S675x40x256x128 .f32) (ix4 g k p l) = b (Shape.Idx.first h_S_) + ∑ c, a (ix5 g k c p l) := by
  pointwise

theorem p123 (a : FVec Ideal S675x40x256x128 .f32) (b : FVec Ideal S_ .f32) (g : Fin 675) (k : Fin 40) (l : Fin 128) :
    (Host.reduceAdd a b reducesTo_S675x40x256x128_S675x40x128_d2 h_S_ : FVec Ideal S675x40x128 .f32) (ix3 g k l) = b (Shape.Idx.first h_S_) + ∑ p, a (ix4 g k p l) := by
  pointwise

theorem p124 (a : FVec Ideal S675x40x3x256x128 .f32) (b : FVec Ideal S_ .f32) (g : Fin 675) (k : Fin 40) (c : Fin 3) (l : Fin 128) :
    (Host.reduceAdd a b reducesTo_S675x40x3x256x128_S675x40x3x128_d3 h_S_ : FVec Ideal S675x40x3x128 .f32) (ix4 g k c l) = b (Shape.Idx.first h_S_) + ∑ p, a (ix5 g k c p l) := by
  pointwise

theorem p125 (a : FVec Ideal S675x40x128 .f32) (g : Fin 675) (k : Fin 40) (l : Fin 128) :
    (broadcastInDim S675x1x40x128 ![0, 2, 3] bcast_S675x40x128_S675x1x40x128_0_2_3 a : FVec Ideal S675x1x40x128 .f32) (ix4 g 0 k l) = a (ix3 g k l) := by
  pointwise

theorem p126 (a : FVec Ideal S675x1x40x128 .f32) (b : FVec Ideal S675x1x40x128 .f32) (d : FVec Ideal S675x1x40x128 .f32) (g : Fin 675) (c : Fin 3) (k : Fin 40) (l : Fin 128) :
    (concatenate S675x3x40x128 1 [⟨S675x1x40x128, a⟩, ⟨S675x1x40x128, b⟩, ⟨S675x1x40x128, d⟩] concatenates_S675x1x40x128_S675x1x40x128_S675x1x40x128_S675x3x40x128_d1 : FVec Ideal S675x3x40x128 .f32) (ix4 g c k l) = if h0 : c.val < 1 then a (ix4 g ⟨c.val, by omega⟩ k l) else if h1 : c.val - 1 < 1 then b (ix4 g ⟨c.val - 1, by omega⟩ k l) else d (ix4 g ⟨c.val - 1 - 1, by omega⟩ k l) := by
  pointwise

theorem p127 (a : FVec Ideal S675x1x40x128 .f32) (b : FVec Ideal S675x1x40x128 .f32) (g : Fin 675) (k : Fin 2) (k' : Fin 40) (l : Fin 128) :
    (concatenate S675x2x40x128 1 [⟨S675x1x40x128, a⟩, ⟨S675x1x40x128, b⟩] concatenates_S675x1x40x128_S675x1x40x128_S675x2x40x128_d1 : FVec Ideal S675x2x40x128 .f32) (ix4 g k k' l) = if h0 : k.val < 1 then a (ix4 g ⟨k.val, by omega⟩ k' l) else b (ix4 g ⟨k.val - 1, by omega⟩ k' l) := by
  pointwise

theorem p128 (a : FVec Ideal S675x40x3x128 .f32) (g : Fin 675) (c : Fin 3) (k : Fin 40) (l : Fin 128) :
    (transpose S675x3x40x128 [0, 2, 1, 3] a transposes_S675x40x3x128_S675x3x40x128_0_2_1_3 : FVec Ideal S675x3x40x128 .f32) (ix4 g c k l) = a (ix4 g k c l) := by
  pointwise

theorem p129 (a : FVec Ideal S675x2x40x128 .f32) (b : FVec Ideal S675x1x40x128 .f32) (d : FVec Ideal S675x3x40x128 .f32) (e : FVec Ideal S675x3x40x128 .f32) (g : Fin 675) (q : Fin 9) (k : Fin 40) (l : Fin 128) :
    (concatenate S675x9x40x128 1 [⟨S675x2x40x128, a⟩, ⟨S675x1x40x128, b⟩, ⟨S675x3x40x128, d⟩, ⟨S675x3x40x128, e⟩] concatenates_S675x2x40x128_S675x1x40x128_S675x3x40x128_S675x3x40x128_S675x9x40x128_d1 : FVec Ideal S675x9x40x128 .f32) (ix4 g q k l) = if h0 : q.val < 2 then a (ix4 g ⟨q.val, by omega⟩ k l) else if h1 : q.val - 2 < 1 then b (ix4 g ⟨q.val - 2, by omega⟩ k l) else if h2 : q.val - 2 - 1 < 3 then d (ix4 g ⟨q.val - 2 - 1, by omega⟩ k l) else e (ix4 g ⟨q.val - 2 - 1 - 3, by omega⟩ k l) := by
  pointwise

end Cert.ReferenceIdeal.Val
end
-- ==== Proof.RefEqsA.lean ====
/- The first buffers of the reference's second host line, read element by element: each buffer at an index is its operation of the
   buffers it reads, at their indices. -/
module

public import proofs.«01_k».proof.Proof.Gen.ReferenceIdeal.Frame
public import proofs.«01_k».proof.Proof.Ssa
public import proofs.«01_k».proof.Proof.RefLines
public import proofs.«01_k».proof.Proof.RefOps
public import Idealize.ShloMosaic.Lib.Pointwise

@[expose] public section

set_option maxRecDepth 65536
set_option maxHeartbeats 4000000

noncomputable section

namespace Cert.ReferenceIdeal.Val

open Cert.ReferenceIdeal Cert.ReferenceIdeal.Gen Cert.Splat
open Idealize.ShloMosaic Idealize.ShloMosaic.TcCoe Idealize.ShloMosaic.Tactic

variable (V : Valuation τ sig (Elt Ideal))

theorem q_tv39 (g : Fin 675) (c : Fin 3) (p : Fin 256) (l : Fin 128) : tv39 V (ix4 g c p l) = tv13 V (ix4 g 0 0 0) :=
  (congrFun (onceTail.unary V 0 rfl rfl (.of_not_mem (by decide +kernel))) _).trans (p25 _ g c p l)

theorem q_tv40 (g : Fin 675) (c : Fin 3) (p : Fin 256) (l : Fin 128) : tv40 V (ix4 g c p l) = tv38_0 V (ix4 g c p l) * tv39 V (ix4 g c p l) :=
  (congrFun (onceTail.binary V 1 rfl rfl (.of_not_mem (by decide +kernel)) (.of_get 0 onceTail.nodup rfl (by decide))) _).trans (p26 _ _ g c p l)

theorem q_tv41 (g : Fin 675) (c : Fin 3) (p : Fin 256) (l : Fin 128) : tv41 V (ix5 g 0 c p l) = tv40 V (ix4 g c p l) :=
  (congrFun (onceTail.unary V 2 rfl rfl (.of_get 1 onceTail.nodup rfl (by decide))) _).trans (p27 _ g c p l)

theorem q_tv42 (g : Fin 675) (k : Fin 40) (j : Fin 4) (l : Fin 128) : tv42 V (ix4 g k j l) = tv38_1 V (ix3 g ⟨k.val * 4 + j.val, by omega⟩ l) :=
  (congrFun (onceTail.reshape V 3 rfl rfl (.of_not_mem (by decide +kernel))) _).trans (p28 _ g k j l)

theorem q_tv43 (g : Fin 675) (k : Fin 40) (c : Fin 3) (l : Fin 128) : tv43 V (ix4 g k c l) = tv42 V (ix4 g k ⟨c.val, by omega⟩ l) :=
  (congrFun (onceTail.unary V 4 rfl rfl (.of_get 3 onceTail.nodup rfl (by decide))) _).trans (p29 _ g k c l)

theorem q_tv44 (g : Fin 675) (k : Fin 40) (c : Fin 3) (l : Fin 128) : tv44 V (ix4 g k c l) = tv35 V (ix4 g k 0 l) :=
  (congrFun (onceTail.unary V 5 rfl rfl (.of_not_mem (by decide +kernel))) _).trans (p30 _ g k c l)

theorem q_tv45 (g : Fin 675) (k : Fin 40) (c : Fin 3) (l : Fin 128) : tv45 V (ix4 g k c l) = tv43 V (ix4 g k c l) * tv44 V (ix4 g k c l) :=
  (congrFun (onceTail.binary V 6 rfl rfl (.of_get 4 onceTail.nodup rfl (by decide)) (.of_get 5 onceTail.nodup rfl (by decide))) _).trans (p31 _ _ g k c l)

theorem q_tv46 (g : Fin 675) (k : Fin 40) (c : Fin 3) (l : Fin 128) : tv46 V (ix5 g k c 0 l) = tv45 V (ix4 g k c l) :=
  (congrFun (onceTail.unary V 7 rfl rfl (.of_get 6 onceTail.nodup rfl (by decide))) _).trans (p32 _ g k c l)

theorem q_tv47 (g : Fin 675) (p : Fin 256) (l : Fin 128) : tv47 V (ix3 g p l) = Ideal.ofBits .f32 (targ6 V (ix3 g p l)) :=
  (congrFun (onceTail.unary V 8 rfl rfl (.of_not_mem (by decide +kernel))) _).trans (p33 _ g p l)

theorem e_tv48 : tv48 V = (iotaInDim S256 32 0) :=
  onceTail.nullary V 9 rfl rfl

theorem e_tc : tc V = (constantI S_ 32 16#32) :=
  onceTail.nullary V 10 rfl rfl

theorem e_tcall0_v0 : tcall0_v0 V = tc V :=
  onceTail.unary V 11 rfl rfl (.of_get 10 onceTail.nodup rfl (by decide))

theorem e_tcall0_v1 : tcall0_v1 V = (broadcastInDim S256 ![] bcast_S_S256) (tcall0_v0 V) :=
  onceTail.unary V 12 rfl rfl (.of_get 11 onceTail.nodup rfl (by decide))

theorem e_tcall0_v2 : tcall0_v2 V = Host.divsi (tv48 V) (tcall0_v1 V) :=
  onceTail.binary V 13 rfl rfl (.of_get 9 onceTail.nodup rfl (by decide)) (.of_get 12 onceTail.nodup rfl (by decide))

theorem e_tcall0_v3 : tcall0_v3 V = signi (tv48 V) :=
  onceTail.unary V 14 rfl rfl (.of_get 9 onceTail.nodup rfl (by decide))

theorem e_tcall0_v4 : tcall0_v4 V = signi (tcall0_v0 V) :=
  onceTail.unary V 15 rfl rfl (.of_get 11 onceTail.nodup rfl (by decide))

theorem e_tcall0_v5 : tcall0_v5 V = (broadcastInDim S256 ![] bcast_S_S256) (tcall0_v4 V) :=
  onceTail.unary V 16 rfl rfl (.of_get 15 onceTail.nodup rfl (by decide))

theorem e_tcall0_v6 : tcall0_v6 V = (cmpi .ne) (tcall0_v3 V) (tcall0_v5 V) :=
  onceTail.binary V 17 rfl rfl (.of_get 14 onceTail.nodup rfl (by decide)) (.of_get 16 onceTail.nodup rfl (by decide))

theorem e_tcall0_v7 : tcall0_v7 V = (broadcastInDim S256 ![] bcast_S_S256) (tcall0_v0 V) :=
  onceTail.unary V 18 rfl rfl (.of_get 11 onceTail.nodup rfl (by decide))

theorem e_tcall0_v8 : tcall0_v8 V = Host.remsi (tv48 V) (tcall0_v7 V) :=
  onceTail.binary V 19 rfl rfl (.of_get 9 onceTail.nodup rfl (by decide)) (.of_get 18 onceTail.nodup rfl (by decide))

theorem e_tcall0_c : tcall0_c V = (constantI S_ 32 0#32) :=
  onceTail.nullary V 20 rfl rfl

theorem e_tcall0_v9 : tcall0_v9 V = (broadcastInDim S256 ![] bcast_S_S256) (tcall0_c V) :=
  onceTail.unary V 21 rfl rfl (.of_get 20 onceTail.nodup rfl (by decide))

theorem e_tcall0_v10 : tcall0_v10 V = (cmpi .ne) (tcall0_v8 V) (tcall0_v9 V) :=
  onceTail.binary V 22 rfl rfl (.of_get 19 onceTail.nodup rfl (by decide)) (.of_get 21 onceTail.nodup rfl (by decide))

theorem e_tcall0_v11 : tcall0_v11 V = andi (tcall0_v6 V) (tcall0_v10 V) :=
  onceTail.binary V 23 rfl rfl (.of_get 17 onceTail.nodup rfl (by decide)) (.of_get 22 onceTail.nodup rfl (by decide))

theorem e_tcall0_c_0 : tcall0_c_0 V = (constantI S_ 32 1#32) :=
  onceTail.nullary V 24 rfl rfl

theorem e_tcall0_v12 : tcall0_v12 V = (broadcastInDim S256 ![] bcast_S_S256) (tcall0_c_0 V) :=
  onceTail.unary V 25 rfl rfl (.of_get 24 onceTail.nodup rfl (by decide))

theorem e_tcall0_v13 : tcall0_v13 V = subi (tcall0_v2 V) (tcall0_v12 V) :=
  onceTail.binary V 26 rfl rfl (.of_get 13 onceTail.nodup rfl (by decide)) (.of_get 25 onceTail.nodup rfl (by decide))

theorem e_tv49 : tv49 V = select (tcall0_v11 V) (tcall0_v13 V) (tcall0_v2 V) :=
  onceTail.ternary V 27 rfl rfl (.of_get 23 onceTail.nodup rfl (by decide)) (.of_get 26 onceTail.nodup rfl (by decide)) (.of_get 13 onceTail.nodup rfl (by decide))

theorem q_tv50 (p : Fin 256) : tv50 V (ix1 p) = (((tv49 V (ix1 p)).toInt : ℝ) : EReal) :=
  (congrFun (onceTail.unary V 28 rfl rfl (.of_get 27 onceTail.nodup rfl (by decide))) _).trans (p34 _ p)

theorem q_tcst (i : S_.Idx) : tcst V i = Ideal.ofBits .f32 0x3F000000#32 :=
  congrFun (onceTail.nullary V 29 rfl rfl) i

theorem q_tv51 (p : Fin 256) : tv51 V (ix1 p) = tcst V ix0 :=
  (congrFun (onceTail.unary V 30 rfl rfl (.of_get 29 onceTail.nodup rfl (by decide))) _).trans (p35 _ p)

theorem q_tv52 (p : Fin 256) : tv52 V (ix1 p) = tv50 V (ix1 p) + tv51 V (ix1 p) :=
  (congrFun (onceTail.binary V 31 rfl rfl (.of_get 28 onceTail.nodup rfl (by decide)) (.of_get 30 onceTail.nodup rfl (by decide))) _).trans (p36 _ _ p)

theorem e_tv53 : tv53 V = (iotaInDim S256 32 0) :=
  onceTail.nullary V 32 rfl rfl

theorem e_tc_0 : tc_0 V = (constantI S_ 32 16#32) :=
  onceTail.nullary V 33 rfl rfl

theorem e_tcall1_v0 : tcall1_v0 V = tc_0 V :=
  onceTail.unary V 34 rfl rfl (.of_get 33 onceTail.nodup rfl (by decide))

theorem e_tcall1_c : tcall1_c V = (constantI S_ 32 0#32) :=
  onceTail.nullary V 35 rfl rfl

theorem e_tcall1_v1 : tcall1_v1 V = (cmpi .eq) (tcall1_v0 V) (tcall1_c V) :=
  onceTail.binary V 36 rfl rfl (.of_get 34 onceTail.nodup rfl (by decide)) (.of_get 35 onceTail.nodup rfl (by decide))

theorem e_tcall1_c_0 : tcall1_c_0 V = (constantI S_ 32 1#32) :=
  onceTail.nullary V 37 rfl rfl

theorem e_tcall1_v2 : tcall1_v2 V = select (tcall1_v1 V) (tcall1_c_0 V) (tcall1_v0 V) :=
  onceTail.ternary V 38 rfl rfl (.of_get 36 onceTail.nodup rfl (by decide)) (.of_get 37 onceTail.nodup rfl (by decide)) (.of_get 34 onceTail.nodup rfl (by decide))

theorem e_tcall1_v3 : tcall1_v3 V = (broadcastInDim S256 ![] bcast_S_S256) (tcall1_v2 V) :=
  onceTail.unary V 39 rfl rfl (.of_get 38 onceTail.nodup rfl (by decide))

theorem e_tcall1_v4 : tcall1_v4 V = Host.remsi (tv53 V) (tcall1_v3 V) :=
  onceTail.binary V 40 rfl rfl (.of_get 32 onceTail.nodup rfl (by decide)) (.of_get 39 onceTail.nodup rfl (by decide))

theorem e_tcall1_c_1 : tcall1_c_1 V = (constantI S_ 32 0#32) :=
  onceTail.nullary V 41 rfl rfl

theorem e_tcall1_v5 : tcall1_v5 V = (broadcastInDim S256 ![] bcast_S_S256) (tcall1_c_1 V) :=
  onceTail.unary V 42 rfl rfl (.of_get 41 onceTail.nodup rfl (by decide))

theorem e_tcall1_v6 : tcall1_v6 V = (cmpi .ne) (tcall1_v4 V) (tcall1_v5 V) :=
  onceTail.binary V 43 rfl rfl (.of_get 40 onceTail.nodup rfl (by decide)) (.of_get 42 onceTail.nodup rfl (by decide))

theorem e_tcall1_c_2 : tcall1_c_2 V = (constantI S_ 32 0#32) :=
  onceTail.nullary V 44 rfl rfl

theorem e_tcall1_v7 : tcall1_v7 V = (broadcastInDim S256 ![] bcast_S_S256) (tcall1_c_2 V) :=
  onceTail.unary V 45 rfl rfl (.of_get 44 onceTail.nodup rfl (by decide))

theorem e_tcall1_v8 : tcall1_v8 V = (cmpi .slt) (tcall1_v4 V) (tcall1_v7 V) :=
  onceTail.binary V 46 rfl rfl (.of_get 40 onceTail.nodup rfl (by decide)) (.of_get 45 onceTail.nodup rfl (by decide))

theorem e_tcall1_c_3 : tcall1_c_3 V = (constantI S_ 32 0#32) :=
  onceTail.nullary V 47 rfl rfl

theorem e_tcall1_v9 : tcall1_v9 V = (cmpi .slt) (tcall1_v2 V) (tcall1_c_3 V) :=
  onceTail.binary V 48 rfl rfl (.of_get 38 onceTail.nodup rfl (by decide)) (.of_get 47 onceTail.nodup rfl (by decide))

theorem e_tcall1_v10 : tcall1_v10 V = (broadcastInDim S256 ![] bcast_S_S256) (tcall1_v9 V) :=
  onceTail.unary V 49 rfl rfl (.of_get 48 onceTail.nodup rfl (by decide))

theorem e_tcall1_v11 : tcall1_v11 V = (cmpi .ne) (tcall1_v8 V) (tcall1_v10 V) :=
  onceTail.binary V 50 rfl rfl (.of_get 46 onceTail.nodup rfl (by decide)) (.of_get 49 onceTail.nodup rfl (by decide))

theorem e_tcall1_v12 : tcall1_v12 V = andi (tcall1_v11 V) (tcall1_v6 V) :=
  onceTail.binary V 51 rfl rfl (.of_get 50 onceTail.nodup rfl (by decide)) (.of_get 43 onceTail.nodup rfl (by decide))

theorem e_tcall1_v13 : tcall1_v13 V = (broadcastInDim S256 ![] bcast_S_S256) (tcall1_v2 V) :=
  onceTail.unary V 52 rfl rfl (.of_get 38 onceTail.nodup rfl (by decide))

theorem e_tcall1_v14 : tcall1_v14 V = addi (tcall1_v4 V) (tcall1_v13 V) :=
  onceTail.binary V 53 rfl rfl (.of_get 40 onceTail.nodup rfl (by decide)) (.of_get 52 onceTail.nodup rfl (by decide))

theorem e_tv54 : tv54 V = select (tcall1_v12 V) (tcall1_v14 V) (tcall1_v4 V) :=
  onceTail.ternary V 54 rfl rfl (.of_get 51 onceTail.nodup rfl (by decide)) (.of_get 53 onceTail.nodup rfl (by decide)) (.of_get 40 onceTail.nodup rfl (by decide))

theorem q_tv55 (p : Fin 256) : tv55 V (ix1 p) = (((tv54 V (ix1 p)).toInt : ℝ) : EReal) :=
  (congrFun (onceTail.unary V 55 rfl rfl (.of_get 54 onceTail.nodup rfl (by decide))) _).trans (p34 _ p)

theorem q_tcst_1 (i : S_.Idx) : tcst_1 V i = Ideal.ofBits .f32 0x3F000000#32 :=
  congrFun (onceTail.nullary V 56 rfl rfl) i

theorem q_tv56 (p : Fin 256) : tv56 V (ix1 p) = tcst_1 V ix0 :=
  (congrFun (onceTail.unary V 57 rfl rfl (.of_get 56 onceTail.nodup rfl (by decide))) _).trans (p35 _ p)

theorem q_tv57 (p : Fin 256) : tv57 V (ix1 p) = tv55 V (ix1 p) + tv56 V (ix1 p) :=
  (congrFun (onceTail.binary V 58 rfl rfl (.of_get 55 onceTail.nodup rfl (by decide)) (.of_get 57 onceTail.nodup rfl (by decide))) _).trans (p36 _ _ p)

theorem q_tv58 (g : Fin 675) (l : Fin 128) : tv58 V (ix3 g 0 l) = targ4 V (ix3 g 0 l) :=
  (congrFun (onceTail.unary V 59 rfl rfl (.of_not_mem (by decide +kernel))) _).trans (p37 _ g l)

theorem q_tv59 (g : Fin 675) (l : Fin 128) : tv59 V (ix2 g l) = tv58 V (ix3 g 0 l) :=
  (congrFun (onceTail.reshape V 60 rfl rfl (.of_get 59 onceTail.nodup rfl (by decide))) _).trans (p38 _ g l)

theorem q_tv60 (g : Fin 675) (l : Fin 128) : tv60 V (ix3 g 0 l) = tv59 V (ix2 g l) :=
  (congrFun (onceTail.unary V 61 rfl rfl (.of_get 60 onceTail.nodup rfl (by decide))) _).trans (p39 _ g l)

theorem q_tv61 (p : Fin 256) : tv61 V (ix2 p 0) = tv52 V (ix1 p) :=
  (congrFun (onceTail.unary V 62 rfl rfl (.of_get 31 onceTail.nodup rfl (by decide))) _).trans (p40 _ p)

theorem q_tv62 (p : Fin 256) : tv62 V (ix3 0 p 0) = tv61 V (ix2 p 0) :=
  (congrFun (onceTail.unary V 63 rfl rfl (.of_get 62 onceTail.nodup rfl (by decide))) _).trans (p41 _ p)

theorem q_tv63 (g : Fin 675) (p : Fin 256) (l : Fin 128) : tv63 V (ix3 g p l) = tv60 V (ix3 g 0 l) :=
  (congrFun (onceTail.unary V 64 rfl rfl (.of_get 61 onceTail.nodup rfl (by decide))) _).trans (p42 _ g p l)

theorem q_tv64 (g : Fin 675) (p : Fin 256) (l : Fin 128) : tv64 V (ix3 g p l) = tv62 V (ix3 0 p 0) :=
  (congrFun (onceTail.unary V 65 rfl rfl (.of_get 63 onceTail.nodup rfl (by decide))) _).trans (p43 _ g p l)

theorem q_tv65 (g : Fin 675) (p : Fin 256) (l : Fin 128) : tv65 V (ix3 g p l) = tv63 V (ix3 g p l) + tv64 V (ix3 g p l) :=
  (congrFun (onceTail.binary V 66 rfl rfl (.of_get 64 onceTail.nodup rfl (by decide)) (.of_get 65 onceTail.nodup rfl (by decide))) _).trans (p44 _ _ g p l)

theorem q_tv66 (g : Fin 675) (l : Fin 128) : tv66 V (ix3 g 0 l) = targ4 V (ix3 g 1 l) :=
  (congrFun (onceTail.unary V 67 rfl rfl (.of_not_mem (by decide +kernel))) _).trans (p45 _ g l)

theorem q_tv67 (g : Fin 675) (l : Fin 128) : tv67 V (ix2 g l) = tv66 V (ix3 g 0 l) :=
  (congrFun (onceTail.reshape V 68 rfl rfl (.of_get 67 onceTail.nodup rfl (by decide))) _).trans (p38 _ g l)

theorem q_tv68 (g : Fin 675) (l : Fin 128) : tv68 V (ix3 g 0 l) = tv67 V (ix2 g l) :=
  (congrFun (onceTail.unary V 69 rfl rfl (.of_get 68 onceTail.nodup rfl (by decide))) _).trans (p39 _ g l)

theorem q_tv69 (p : Fin 256) : tv69 V (ix2 p 0) = tv57 V (ix1 p) :=
  (congrFun (onceTail.unary V 70 rfl rfl (.of_get 58 onceTail.nodup rfl (by decide))) _).trans (p40 _ p)

theorem q_tv70 (p : Fin 256) : tv70 V (ix3 0 p 0) = tv69 V (ix2 p 0) :=
  (congrFun (onceTail.unary V 71 rfl rfl (.of_get 70 onceTail.nodup rfl (by decide))) _).trans (p41 _ p)

theorem q_tv71 (g : Fin 675) (p : Fin 256) (l : Fin 128) : tv71 V (ix3 g p l) = tv68 V (ix3 g 0 l) :=
  (congrFun (onceTail.unary V 72 rfl rfl (.of_get 69 onceTail.nodup rfl (by decide))) _).trans (p42 _ g p l)

theorem q_tv72 (g : Fin 675) (p : Fin 256) (l : Fin 128) : tv72 V (ix3 g p l) = tv70 V (ix3 0 p 0) :=
  (congrFun (onceTail.unary V 73 rfl rfl (.of_get 71 onceTail.nodup rfl (by decide))) _).trans (p43 _ g p l)

theorem q_tv73 (g : Fin 675) (p : Fin 256) (l : Fin 128) : tv73 V (ix3 g p l) = tv71 V (ix3 g p l) + tv72 V (ix3 g p l) :=
  (congrFun (onceTail.binary V 74 rfl rfl (.of_get 72 onceTail.nodup rfl (by decide)) (.of_get 73 onceTail.nodup rfl (by decide))) _).trans (p44 _ _ g p l)

theorem q_tv74 (g : Fin 675) (p : Fin 256) (l : Fin 128) : tv74 V (ix4 g 0 p l) = tv65 V (ix3 g p l) :=
  (congrFun (onceTail.unary V 75 rfl rfl (.of_get 66 onceTail.nodup rfl (by decide))) _).trans (p46 _ g p l)

theorem q_tv75 (g : Fin 675) (k : Fin 40) (p : Fin 256) (l : Fin 128) : tv75 V (ix4 g k p l) = tv17 V (ix4 g k 0 l) :=
  (congrFun (onceTail.unary V 76 rfl rfl (.of_not_mem (by decide +kernel))) _).trans (p47 _ g k p l)

theorem q_tv76 (g : Fin 675) (k : Fin 40) (p : Fin 256) (l : Fin 128) : tv76 V (ix4 g k p l) = tv74 V (ix4 g 0 p l) :=
  (congrFun (onceTail.unary V 77 rfl rfl (.of_get 75 onceTail.nodup rfl (by decide))) _).trans (p48 _ g k p l)

theorem q_tv77 (g : Fin 675) (k : Fin 40) (p : Fin 256) (l : Fin 128) : tv77 V (ix4 g k p l) = tv75 V (ix4 g k p l) - tv76 V (ix4 g k p l) :=
  (congrFun (onceTail.binary V 78 rfl rfl (.of_get 76 onceTail.nodup rfl (by decide)) (.of_get 77 onceTail.nodup rfl (by decide))) _).trans (p49 _ _ g k p l)

theorem q_tv78 (g : Fin 675) (p : Fin 256) (l : Fin 128) : tv78 V (ix4 g 0 p l) = tv73 V (ix3 g p l) :=
  (congrFun (onceTail.unary V 79 rfl rfl (.of_get 74 onceTail.nodup rfl (by decide))) _).trans (p46 _ g p l)

theorem q_tv79 (g : Fin 675) (k : Fin 40) (p : Fin 256) (l : Fin 128) : tv79 V (ix4 g k p l) = tv20 V (ix4 g k 0 l) :=
  (congrFun (onceTail.unary V 80 rfl rfl (.of_not_mem (by decide +kernel))) _).trans (p47 _ g k p l)

theorem q_tv80 (g : Fin 675) (k : Fin 40) (p : Fin 256) (l : Fin 128) : tv80 V (ix4 g k p l) = tv78 V (ix4 g 0 p l) :=
  (congrFun (onceTail.unary V 81 rfl rfl (.of_get 79 onceTail.nodup rfl (by decide))) _).trans (p48 _ g k p l)

theorem q_tv81 (g : Fin 675) (k : Fin 40) (p : Fin 256) (l : Fin 128) : tv81 V (ix4 g k p l) = tv79 V (ix4 g k p l) - tv80 V (ix4 g k p l) :=
  (congrFun (onceTail.binary V 82 rfl rfl (.of_get 80 onceTail.nodup rfl (by decide)) (.of_get 81 onceTail.nodup rfl (by decide))) _).trans (p49 _ _ g k p l)

theorem q_tv82 (g : Fin 675) (k : Fin 40) (p : Fin 256) (l : Fin 128) : tv82 V (ix4 g k p l) = tv23 V (ix4 g k 0 l) :=
  (congrFun (onceTail.unary V 83 rfl rfl (.of_not_mem (by decide +kernel))) _).trans (p47 _ g k p l)

theorem q_tv83 (g : Fin 675) (k : Fin 40) (p : Fin 256) (l : Fin 128) : tv83 V (ix4 g k p l) = tv82 V (ix4 g k p l) * tv77 V (ix4 g k p l) :=
  (congrFun (onceTail.binary V 84 rfl rfl (.of_get 83 onceTail.nodup rfl (by decide)) (.of_get 78 onceTail.nodup rfl (by decide))) _).trans (p50 _ _ g k p l)

theorem q_tv84 (g : Fin 675) (k : Fin 40) (p : Fin 256) (l : Fin 128) : tv84 V (ix4 g k p l) = tv83 V (ix4 g k p l) * tv77 V (ix4 g k p l) :=
  (congrFun (onceTail.binary V 85 rfl rfl (.of_get 84 onceTail.nodup rfl (by decide)) (.of_get 78 onceTail.nodup rfl (by decide))) _).trans (p50 _ _ g k p l)

theorem q_tv85 (g : Fin 675) (k : Fin 40) (p : Fin 256) (l : Fin 128) : tv85 V (ix4 g k p l) = tv29 V (ix4 g k 0 l) :=
  (congrFun (onceTail.unary V 86 rfl rfl (.of_not_mem (by decide +kernel))) _).trans (p47 _ g k p l)

theorem q_tv86 (g : Fin 675) (k : Fin 40) (p : Fin 256) (l : Fin 128) : tv86 V (ix4 g k p l) = tv85 V (ix4 g k p l) * tv81 V (ix4 g k p l) :=
  (congrFun (onceTail.binary V 87 rfl rfl (.of_get 86 onceTail.nodup rfl (by decide)) (.of_get 82 onceTail.nodup rfl (by decide))) _).trans (p50 _ _ g k p l)

theorem q_tv87 (g : Fin 675) (k : Fin 40) (p : Fin 256) (l : Fin 128) : tv87 V (ix4 g k p l) = tv86 V (ix4 g k p l) * tv81 V (ix4 g k p l) :=
  (congrFun (onceTail.binary V 88 rfl rfl (.of_get 87 onceTail.nodup rfl (by decide)) (.of_get 82 onceTail.nodup rfl (by decide))) _).trans (p50 _ _ g k p l)

theorem q_tv88 (g : Fin 675) (k : Fin 40) (p : Fin 256) (l : Fin 128) : tv88 V (ix4 g k p l) = tv84 V (ix4 g k p l) + tv87 V (ix4 g k p l) :=
  (congrFun (onceTail.binary V 89 rfl rfl (.of_get 85 onceTail.nodup rfl (by decide)) (.of_get 88 onceTail.nodup rfl (by decide))) _).trans (p51 _ _ g k p l)

theorem q_tcst_2 (i : S_.Idx) : tcst_2 V i = Ideal.ofBits .f32 0x3F000000#32 :=
  congrFun (onceTail.nullary V 90 rfl rfl) i

theorem q_tv89 (g : Fin 675) (k : Fin 40) (p : Fin 256) (l : Fin 128) : tv89 V (ix4 g k p l) = tcst_2 V ix0 :=
  (congrFun (onceTail.unary V 91 rfl rfl (.of_get 90 onceTail.nodup rfl (by decide))) _).trans (p52 _ g k p l)

theorem q_tv90 (g : Fin 675) (k : Fin 40) (p : Fin 256) (l : Fin 128) : tv90 V (ix4 g k p l) = tv89 V (ix4 g k p l) * tv88 V (ix4 g k p l) :=
  (congrFun (onceTail.binary V 92 rfl rfl (.of_get 91 onceTail.nodup rfl (by decide)) (.of_get 89 onceTail.nodup rfl (by decide))) _).trans (p50 _ _ g k p l)

theorem q_tv91 (g : Fin 675) (k : Fin 40) (p : Fin 256) (l : Fin 128) : tv91 V (ix4 g k p l) = tv26 V (ix4 g k 0 l) :=
  (congrFun (onceTail.unary V 93 rfl rfl (.of_not_mem (by decide +kernel))) _).trans (p47 _ g k p l)

theorem q_tv92 (g : Fin 675) (k : Fin 40) (p : Fin 256) (l : Fin 128) : tv92 V (ix4 g k p l) = tv91 V (ix4 g k p l) * tv77 V (ix4 g k p l) :=
  (congrFun (onceTail.binary V 94 rfl rfl (.of_get 93 onceTail.nodup rfl (by decide)) (.of_get 78 onceTail.nodup rfl (by decide))) _).trans (p50 _ _ g k p l)

theorem q_tv93 (g : Fin 675) (k : Fin 40) (p : Fin 256) (l : Fin 128) : tv93 V (ix4 g k p l) = tv92 V (ix4 g k p l) * tv81 V (ix4 g k p l) :=
  (congrFun (onceTail.binary V 95 rfl rfl (.of_get 94 onceTail.nodup rfl (by decide)) (.of_get 82 onceTail.nodup rfl (by decide))) _).trans (p50 _ _ g k p l)

theorem q_tv94 (g : Fin 675) (k : Fin 40) (p : Fin 256) (l : Fin 128) : tv94 V (ix4 g k p l) = tv90 V (ix4 g k p l) + tv93 V (ix4 g k p l) :=
  (congrFun (onceTail.binary V 96 rfl rfl (.of_get 92 onceTail.nodup rfl (by decide)) (.of_get 95 onceTail.nodup rfl (by decide))) _).trans (p51 _ _ g k p l)

theorem q_tv95 (g : Fin 675) (k : Fin 40) (p : Fin 256) (l : Fin 128) : tv95 V (ix4 g k p l) = -(tv94 V (ix4 g k p l)) :=
  (congrFun (onceTail.unary V 97 rfl rfl (.of_get 96 onceTail.nodup rfl (by decide))) _).trans (p53 _ g k p l)

theorem q_tv96 (g : Fin 675) (k : Fin 40) (p : Fin 256) (l : Fin 128) : tv96 V (ix4 g k p l) = Ideal.exp (tv95 V (ix4 g k p l)) :=
  (congrFun (onceTail.unary V 98 rfl rfl (.of_get 97 onceTail.nodup rfl (by decide))) _).trans (p54 _ g k p l)

theorem q_tv97 (g : Fin 675) (k : Fin 40) : tv97 V (ix4 g k 0 0) = tv7 V (ix2 g k) :=
  (congrFun (onceTail.unary V 99 rfl rfl (.of_not_mem (by decide +kernel))) _).trans (p55 _ g k)

theorem q_tv98 (g : Fin 675) (k : Fin 40) (p : Fin 256) (l : Fin 128) : tv98 V (ix4 g k p l) = tv97 V (ix4 g k 0 0) :=
  (congrFun (onceTail.unary V 100 rfl rfl (.of_get 99 onceTail.nodup rfl (by decide))) _).trans (p56 _ g k p l)

theorem q_tv99 (g : Fin 675) (k : Fin 40) (p : Fin 256) (l : Fin 128) : tv99 V (ix4 g k p l) = tv32 V (ix4 g k 0 l) :=
  (congrFun (onceTail.unary V 101 rfl rfl (.of_not_mem (by decide +kernel))) _).trans (p47 _ g k p l)

theorem q_tv100 (g : Fin 675) (k : Fin 40) (p : Fin 256) (l : Fin 128) : tv100 V (ix4 g k p l) = tv99 V (ix4 g k p l) * tv96 V (ix4 g k p l) :=
  (congrFun (onceTail.binary V 102 rfl rfl (.of_get 101 onceTail.nodup rfl (by decide)) (.of_get 98 onceTail.nodup rfl (by decide))) _).trans (p50 _ _ g k p l)

theorem q_tcst_3 (i : S_.Idx) : tcst_3 V i = Ideal.ofBits .f32 0x00000000#32 :=
  congrFun (onceTail.nullary V 103 rfl rfl) i

theorem q_tv101 (g : Fin 675) (k : Fin 40) (p : Fin 256) (l : Fin 128) : tv101 V (ix4 g k p l) = tcst_3 V ix0 :=
  (congrFun (onceTail.unary V 104 rfl rfl (.of_get 103 onceTail.nodup rfl (by decide))) _).trans (p52 _ g k p l)

theorem q_tv102 (g : Fin 675) (k : Fin 40) (p : Fin 256) (l : Fin 128) : tv102 V (ix4 g k p l) = Scalar.select (tv98 V (ix4 g k p l)) (tv100 V (ix4 g k p l)) (tv101 V (ix4 g k p l)) :=
  (congrFun (onceTail.ternary V 105 rfl rfl (.of_get 100 onceTail.nodup rfl (by decide)) (.of_get 102 onceTail.nodup rfl (by decide)) (.of_get 104 onceTail.nodup rfl (by decide))) _).trans (p57 _ _ _ g k p l)

theorem q_tcst_4 (i : S_.Idx) : tcst_4 V i = Ideal.ofBits .f32 0x3F800000#32 :=
  congrFun (onceTail.nullary V 106 rfl rfl) i

theorem q_tv103 (g : Fin 675) (k : Fin 40) (p : Fin 256) (l : Fin 128) : tv103 V (ix4 g k p l) = tcst_4 V ix0 :=
  (congrFun (onceTail.unary V 107 rfl rfl (.of_get 106 onceTail.nodup rfl (by decide))) _).trans (p52 _ g k p l)

theorem q_tv104 (g : Fin 675) (k : Fin 40) (p : Fin 256) (l : Fin 128) : tv104 V (ix4 g k p l) = tv103 V (ix4 g k p l) - tv102 V (ix4 g k p l) :=
  (congrFun (onceTail.binary V 108 rfl rfl (.of_get 107 onceTail.nodup rfl (by decide)) (.of_get 105 onceTail.nodup rfl (by decide))) _).trans (p49 _ _ g k p l)

theorem q_tv105 (g : Fin 675) (p : Fin 256) (l : Fin 128) : tv105 V (ix4 g 0 p l) = tv47 V (ix3 g p l) :=
  (congrFun (onceTail.unary V 109 rfl rfl (.of_get 8 onceTail.nodup rfl (by decide))) _).trans (p46 _ g p l)

theorem q_tv106 (g : Fin 675) (k : Fin 39) (p : Fin 256) (l : Fin 128) : tv106 V (ix4 g k p l) = tv104 V (ix4 g ⟨1 + k.val, by omega⟩ p l) :=
  (congrFun (onceTail.unary V 110 rfl rfl (.of_get 108 onceTail.nodup rfl (by decide))) _).trans (p58 _ g k p l)

theorem q_tv107 (g : Fin 675) (p : Fin 256) (l : Fin 128) : tv107 V (ix4 g 0 p l) = tv104 V (ix4 g 0 p l) :=
  (congrFun (onceTail.unary V 111 rfl rfl (.of_get 108 onceTail.nodup rfl (by decide))) _).trans (p59 _ g p l)

end Cert.ReferenceIdeal.Val
end
-- ==== Proof.RefEqsB.lean ====
/- The last buffers of the reference's second host line, read element by element: each buffer at an index is its operation of the
   buffers it reads, at their indices. -/
module

public import proofs.«01_k».proof.Proof.Gen.ReferenceIdeal.Frame
public import proofs.«01_k».proof.Proof.Ssa
public import proofs.«01_k».proof.Proof.RefLines
public import proofs.«01_k».proof.Proof.RefOps
public import Idealize.ShloMosaic.Lib.Pointwise

@[expose] public section

set_option maxRecDepth 65536
set_option maxHeartbeats 4000000

noncomputable section

namespace Cert.ReferenceIdeal.Val

open Cert.ReferenceIdeal Cert.ReferenceIdeal.Gen Cert.Splat
open Idealize.ShloMosaic Idealize.ShloMosaic.TcCoe Idealize.ShloMosaic.Tactic

variable (V : Valuation τ sig (Elt Ideal))

theorem q_tcst_5 (i : S_.Idx) : tcst_5 V i = Ideal.ofBits .f32 0x3F800000#32 :=
  congrFun (onceTail.nullary V 112 rfl rfl) i

theorem q_tv108 (g : Fin 675) (p : Fin 256) (l : Fin 128) : tv108 V (ix4 g 0 p l) = tcst_5 V ix0 :=
  (congrFun (onceTail.unary V 113 rfl rfl (.of_get 112 onceTail.nodup rfl (by decide))) _).trans (p60 _ g p l)

theorem q_tv109 (g : Fin 675) (k : Fin 40) (p : Fin 256) (l : Fin 128) : tv109 V (ix4 g k p l) = if h0 : k.val < 39 then tv106 V (ix4 g ⟨k.val, by omega⟩ p l) else tv108 V (ix4 g ⟨k.val - 39, by omega⟩ p l) :=
  (congrFun (onceTail.binary V 114 rfl rfl (.of_get 110 onceTail.nodup rfl (by decide)) (.of_get 113 onceTail.nodup rfl (by decide))) _).trans (p61 _ _ g k p l)

theorem q_tv110 (g : Fin 675) (k : Fin 40) (p : Fin 256) (l : Fin 128) : tv110 V (ix4 g k p l) = tv104 V (ix4 g k p l) * tv109 V (ix4 g k p l) :=
  (congrFun (onceTail.binary V 115 rfl rfl (.of_get 108 onceTail.nodup rfl (by decide)) (.of_get 114 onceTail.nodup rfl (by decide))) _).trans (p50 _ _ g k p l)

theorem q_tv111 (g : Fin 675) (k : Fin 38) (p : Fin 256) (l : Fin 128) : tv111 V (ix4 g k p l) = tv110 V (ix4 g ⟨2 + k.val, by omega⟩ p l) :=
  (congrFun (onceTail.unary V 116 rfl rfl (.of_get 115 onceTail.nodup rfl (by decide))) _).trans (p62 _ g k p l)

theorem q_tv112 (g : Fin 675) (k : Fin 2) (p : Fin 256) (l : Fin 128) : tv112 V (ix4 g k p l) = tv110 V (ix4 g ⟨k.val, by omega⟩ p l) :=
  (congrFun (onceTail.unary V 117 rfl rfl (.of_get 115 onceTail.nodup rfl (by decide))) _).trans (p63 _ g k p l)

theorem q_tcst_6 (i : S_.Idx) : tcst_6 V i = Ideal.ofBits .f32 0x3F800000#32 :=
  congrFun (onceTail.nullary V 118 rfl rfl) i

theorem q_tv113 (g : Fin 675) (k : Fin 2) (p : Fin 256) (l : Fin 128) : tv113 V (ix4 g k p l) = tcst_6 V ix0 :=
  (congrFun (onceTail.unary V 119 rfl rfl (.of_get 118 onceTail.nodup rfl (by decide))) _).trans (p64 _ g k p l)

theorem q_tv114 (g : Fin 675) (k : Fin 40) (p : Fin 256) (l : Fin 128) : tv114 V (ix4 g k p l) = if h0 : k.val < 38 then tv111 V (ix4 g ⟨k.val, by omega⟩ p l) else tv113 V (ix4 g ⟨k.val - 38, by omega⟩ p l) :=
  (congrFun (onceTail.binary V 120 rfl rfl (.of_get 116 onceTail.nodup rfl (by decide)) (.of_get 119 onceTail.nodup rfl (by decide))) _).trans (p65 _ _ g k p l)

theorem q_tv115 (g : Fin 675) (k : Fin 40) (p : Fin 256) (l : Fin 128) : tv115 V (ix4 g k p l) = tv110 V (ix4 g k p l) * tv114 V (ix4 g k p l) :=
  (congrFun (onceTail.binary V 121 rfl rfl (.of_get 115 onceTail.nodup rfl (by decide)) (.of_get 120 onceTail.nodup rfl (by decide))) _).trans (p50 _ _ g k p l)

theorem q_tv116 (g : Fin 675) (k : Fin 36) (p : Fin 256) (l : Fin 128) : tv116 V (ix4 g k p l) = tv115 V (ix4 g ⟨4 + k.val, by omega⟩ p l) :=
  (congrFun (onceTail.unary V 122 rfl rfl (.of_get 121 onceTail.nodup rfl (by decide))) _).trans (p66 _ g k p l)

theorem q_tv117 (g : Fin 675) (j : Fin 4) (p : Fin 256) (l : Fin 128) : tv117 V (ix4 g j p l) = tv115 V (ix4 g ⟨j.val, by omega⟩ p l) :=
  (congrFun (onceTail.unary V 123 rfl rfl (.of_get 121 onceTail.nodup rfl (by decide))) _).trans (p67 _ g j p l)

theorem q_tcst_7 (i : S_.Idx) : tcst_7 V i = Ideal.ofBits .f32 0x3F800000#32 :=
  congrFun (onceTail.nullary V 124 rfl rfl) i

theorem q_tv118 (g : Fin 675) (j : Fin 4) (p : Fin 256) (l : Fin 128) : tv118 V (ix4 g j p l) = tcst_7 V ix0 :=
  (congrFun (onceTail.unary V 125 rfl rfl (.of_get 124 onceTail.nodup rfl (by decide))) _).trans (p68 _ g j p l)

theorem q_tv119 (g : Fin 675) (k : Fin 40) (p : Fin 256) (l : Fin 128) : tv119 V (ix4 g k p l) = if h0 : k.val < 36 then tv116 V (ix4 g ⟨k.val, by omega⟩ p l) else tv118 V (ix4 g ⟨k.val - 36, by omega⟩ p l) :=
  (congrFun (onceTail.binary V 126 rfl rfl (.of_get 122 onceTail.nodup rfl (by decide)) (.of_get 125 onceTail.nodup rfl (by decide))) _).trans (p69 _ _ g k p l)

theorem q_tv120 (g : Fin 675) (k : Fin 40) (p : Fin 256) (l : Fin 128) : tv120 V (ix4 g k p l) = tv115 V (ix4 g k p l) * tv119 V (ix4 g k p l) :=
  (congrFun (onceTail.binary V 127 rfl rfl (.of_get 121 onceTail.nodup rfl (by decide)) (.of_get 126 onceTail.nodup rfl (by decide))) _).trans (p50 _ _ g k p l)

theorem q_tv121 (g : Fin 675) (k : Fin 32) (p : Fin 256) (l : Fin 128) : tv121 V (ix4 g k p l) = tv120 V (ix4 g ⟨8 + k.val, by omega⟩ p l) :=
  (congrFun (onceTail.unary V 128 rfl rfl (.of_get 127 onceTail.nodup rfl (by decide))) _).trans (p70 _ g k p l)

theorem q_tv122 (g : Fin 675) (k : Fin 8) (p : Fin 256) (l : Fin 128) : tv122 V (ix4 g k p l) = tv120 V (ix4 g ⟨k.val, by omega⟩ p l) :=
  (congrFun (onceTail.unary V 129 rfl rfl (.of_get 127 onceTail.nodup rfl (by decide))) _).trans (p71 _ g k p l)

theorem q_tcst_8 (i : S_.Idx) : tcst_8 V i = Ideal.ofBits .f32 0x3F800000#32 :=
  congrFun (onceTail.nullary V 130 rfl rfl) i

theorem q_tv123 (g : Fin 675) (k : Fin 8) (p : Fin 256) (l : Fin 128) : tv123 V (ix4 g k p l) = tcst_8 V ix0 :=
  (congrFun (onceTail.unary V 131 rfl rfl (.of_get 130 onceTail.nodup rfl (by decide))) _).trans (p72 _ g k p l)

theorem q_tv124 (g : Fin 675) (k : Fin 40) (p : Fin 256) (l : Fin 128) : tv124 V (ix4 g k p l) = if h0 : k.val < 32 then tv121 V (ix4 g ⟨k.val, by omega⟩ p l) else tv123 V (ix4 g ⟨k.val - 32, by omega⟩ p l) :=
  (congrFun (onceTail.binary V 132 rfl rfl (.of_get 128 onceTail.nodup rfl (by decide)) (.of_get 131 onceTail.nodup rfl (by decide))) _).trans (p73 _ _ g k p l)

theorem q_tv125 (g : Fin 675) (k : Fin 40) (p : Fin 256) (l : Fin 128) : tv125 V (ix4 g k p l) = tv120 V (ix4 g k p l) * tv124 V (ix4 g k p l) :=
  (congrFun (onceTail.binary V 133 rfl rfl (.of_get 127 onceTail.nodup rfl (by decide)) (.of_get 132 onceTail.nodup rfl (by decide))) _).trans (p50 _ _ g k p l)

theorem q_tv126 (g : Fin 675) (k : Fin 24) (p : Fin 256) (l : Fin 128) : tv126 V (ix4 g k p l) = tv125 V (ix4 g ⟨16 + k.val, by omega⟩ p l) :=
  (congrFun (onceTail.unary V 134 rfl rfl (.of_get 133 onceTail.nodup rfl (by decide))) _).trans (p74 _ g k p l)

theorem q_tv127 (g : Fin 675) (k : Fin 16) (p : Fin 256) (l : Fin 128) : tv127 V (ix4 g k p l) = tv125 V (ix4 g ⟨k.val, by omega⟩ p l) :=
  (congrFun (onceTail.unary V 135 rfl rfl (.of_get 133 onceTail.nodup rfl (by decide))) _).trans (p75 _ g k p l)

theorem q_tcst_9 (i : S_.Idx) : tcst_9 V i = Ideal.ofBits .f32 0x3F800000#32 :=
  congrFun (onceTail.nullary V 136 rfl rfl) i

theorem q_tv128 (g : Fin 675) (k : Fin 16) (p : Fin 256) (l : Fin 128) : tv128 V (ix4 g k p l) = tcst_9 V ix0 :=
  (congrFun (onceTail.unary V 137 rfl rfl (.of_get 136 onceTail.nodup rfl (by decide))) _).trans (p76 _ g k p l)

theorem q_tv129 (g : Fin 675) (k : Fin 40) (p : Fin 256) (l : Fin 128) : tv129 V (ix4 g k p l) = if h0 : k.val < 24 then tv126 V (ix4 g ⟨k.val, by omega⟩ p l) else tv128 V (ix4 g ⟨k.val - 24, by omega⟩ p l) :=
  (congrFun (onceTail.binary V 138 rfl rfl (.of_get 134 onceTail.nodup rfl (by decide)) (.of_get 137 onceTail.nodup rfl (by decide))) _).trans (p77 _ _ g k p l)

theorem q_tv130 (g : Fin 675) (k : Fin 40) (p : Fin 256) (l : Fin 128) : tv130 V (ix4 g k p l) = tv125 V (ix4 g k p l) * tv129 V (ix4 g k p l) :=
  (congrFun (onceTail.binary V 139 rfl rfl (.of_get 133 onceTail.nodup rfl (by decide)) (.of_get 138 onceTail.nodup rfl (by decide))) _).trans (p50 _ _ g k p l)

theorem q_tv131 (g : Fin 675) (k : Fin 8) (p : Fin 256) (l : Fin 128) : tv131 V (ix4 g k p l) = tv130 V (ix4 g ⟨32 + k.val, by omega⟩ p l) :=
  (congrFun (onceTail.unary V 140 rfl rfl (.of_get 139 onceTail.nodup rfl (by decide))) _).trans (p78 _ g k p l)

theorem q_tv132 (g : Fin 675) (k : Fin 32) (p : Fin 256) (l : Fin 128) : tv132 V (ix4 g k p l) = tv130 V (ix4 g ⟨k.val, by omega⟩ p l) :=
  (congrFun (onceTail.unary V 141 rfl rfl (.of_get 139 onceTail.nodup rfl (by decide))) _).trans (p79 _ g k p l)

theorem q_tcst_10 (i : S_.Idx) : tcst_10 V i = Ideal.ofBits .f32 0x3F800000#32 :=
  congrFun (onceTail.nullary V 142 rfl rfl) i

theorem q_tv133 (g : Fin 675) (k : Fin 32) (p : Fin 256) (l : Fin 128) : tv133 V (ix4 g k p l) = tcst_10 V ix0 :=
  (congrFun (onceTail.unary V 143 rfl rfl (.of_get 142 onceTail.nodup rfl (by decide))) _).trans (p80 _ g k p l)

theorem q_tv134 (g : Fin 675) (k : Fin 40) (p : Fin 256) (l : Fin 128) : tv134 V (ix4 g k p l) = if h0 : k.val < 8 then tv131 V (ix4 g ⟨k.val, by omega⟩ p l) else tv133 V (ix4 g ⟨k.val - 8, by omega⟩ p l) :=
  (congrFun (onceTail.binary V 144 rfl rfl (.of_get 140 onceTail.nodup rfl (by decide)) (.of_get 143 onceTail.nodup rfl (by decide))) _).trans (p81 _ _ g k p l)

theorem q_tv135 (g : Fin 675) (k : Fin 40) (p : Fin 256) (l : Fin 128) : tv135 V (ix4 g k p l) = tv130 V (ix4 g k p l) * tv134 V (ix4 g k p l) :=
  (congrFun (onceTail.binary V 145 rfl rfl (.of_get 139 onceTail.nodup rfl (by decide)) (.of_get 144 onceTail.nodup rfl (by decide))) _).trans (p50 _ _ g k p l)

theorem q_tv136 (g : Fin 675) (k : Fin 40) (p : Fin 256) (l : Fin 128) : tv136 V (ix4 g k p l) = tv105 V (ix4 g 0 p l) :=
  (congrFun (onceTail.unary V 146 rfl rfl (.of_get 109 onceTail.nodup rfl (by decide))) _).trans (p48 _ g k p l)

theorem q_tv137 (g : Fin 675) (k : Fin 40) (p : Fin 256) (l : Fin 128) : tv137 V (ix4 g k p l) = Ideal.div (tv136 V (ix4 g k p l)) (tv135 V (ix4 g k p l)) :=
  (congrFun (onceTail.binary V 147 rfl rfl (.of_get 146 onceTail.nodup rfl (by decide)) (.of_get 145 onceTail.nodup rfl (by decide))) _).trans (p82 _ _ g k p l)

theorem q_tv138 (g : Fin 675) (k : Fin 40) (p : Fin 256) (l : Fin 128) : tv138 V (ix4 g k p l) = tv102 V (ix4 g k p l) * tv137 V (ix4 g k p l) :=
  (congrFun (onceTail.binary V 148 rfl rfl (.of_get 105 onceTail.nodup rfl (by decide)) (.of_get 147 onceTail.nodup rfl (by decide))) _).trans (p50 _ _ g k p l)

theorem q_tv139 (g : Fin 675) (k : Fin 39) (p : Fin 256) (l : Fin 128) : tv139 V (ix4 g k p l) = tv138 V (ix4 g ⟨1 + k.val, by omega⟩ p l) :=
  (congrFun (onceTail.unary V 149 rfl rfl (.of_get 148 onceTail.nodup rfl (by decide))) _).trans (p58 _ g k p l)

theorem q_tv140 (g : Fin 675) (k : Fin 39) (p : Fin 256) (l : Fin 128) : tv140 V (ix5 g k 0 p l) = tv139 V (ix4 g k p l) :=
  (congrFun (onceTail.unary V 150 rfl rfl (.of_get 149 onceTail.nodup rfl (by decide))) _).trans (p83 _ g k p l)

theorem q_tv141 (g : Fin 675) (k : Fin 39) (c : Fin 3) (l : Fin 128) : tv141 V (ix5 g k c 0 l) = tv46 V (ix5 g ⟨1 + k.val, by omega⟩ c 0 l) :=
  (congrFun (onceTail.unary V 151 rfl rfl (.of_get 7 onceTail.nodup rfl (by decide))) _).trans (p84 _ g k c l)

theorem q_tv142 (g : Fin 675) (k : Fin 39) (c : Fin 3) (p : Fin 256) (l : Fin 128) : tv142 V (ix5 g k c p l) = tv140 V (ix5 g k 0 p l) :=
  (congrFun (onceTail.unary V 152 rfl rfl (.of_get 150 onceTail.nodup rfl (by decide))) _).trans (p85 _ g k c p l)

theorem q_tv143 (g : Fin 675) (k : Fin 39) (c : Fin 3) (p : Fin 256) (l : Fin 128) : tv143 V (ix5 g k c p l) = tv141 V (ix5 g k c 0 l) :=
  (congrFun (onceTail.unary V 153 rfl rfl (.of_get 151 onceTail.nodup rfl (by decide))) _).trans (p86 _ g k c p l)

theorem q_tv144 (g : Fin 675) (k : Fin 39) (c : Fin 3) (p : Fin 256) (l : Fin 128) : tv144 V (ix5 g k c p l) = tv142 V (ix5 g k c p l) * tv143 V (ix5 g k c p l) :=
  (congrFun (onceTail.binary V 154 rfl rfl (.of_get 152 onceTail.nodup rfl (by decide)) (.of_get 153 onceTail.nodup rfl (by decide))) _).trans (p87 _ _ g k c p l)

theorem q_tv145 (g : Fin 675) (p : Fin 256) (l : Fin 128) : tv145 V (ix4 g 0 p l) = tv47 V (ix3 g p l) :=
  (congrFun (onceTail.unary V 155 rfl rfl (.of_get 8 onceTail.nodup rfl (by decide))) _).trans (p46 _ g p l)

theorem q_tv146 (g : Fin 675) (c : Fin 3) (p : Fin 256) (l : Fin 128) : tv146 V (ix4 g c p l) = tv145 V (ix4 g 0 p l) :=
  (congrFun (onceTail.unary V 156 rfl rfl (.of_get 155 onceTail.nodup rfl (by decide))) _).trans (p88 _ g c p l)

theorem q_tv147 (g : Fin 675) (c : Fin 3) (p : Fin 256) (l : Fin 128) : tv147 V (ix4 g c p l) = tv10 V (ix4 g c 0 0) :=
  (congrFun (onceTail.unary V 157 rfl rfl (.of_not_mem (by decide +kernel))) _).trans (p89 _ g c p l)

theorem q_tv148 (g : Fin 675) (c : Fin 3) (p : Fin 256) (l : Fin 128) : tv148 V (ix4 g c p l) = tv146 V (ix4 g c p l) * tv147 V (ix4 g c p l) :=
  (congrFun (onceTail.binary V 158 rfl rfl (.of_get 156 onceTail.nodup rfl (by decide)) (.of_get 157 onceTail.nodup rfl (by decide))) _).trans (p26 _ _ g c p l)

theorem q_tv149 (g : Fin 675) (c : Fin 3) (p : Fin 256) (l : Fin 128) : tv149 V (ix5 g 0 c p l) = tv148 V (ix4 g c p l) :=
  (congrFun (onceTail.unary V 159 rfl rfl (.of_get 158 onceTail.nodup rfl (by decide))) _).trans (p27 _ g c p l)

theorem q_tv150 (g : Fin 675) (k : Fin 40) (c : Fin 3) (p : Fin 256) (l : Fin 128) : tv150 V (ix5 g k c p l) = if h0 : k.val < 39 then tv144 V (ix5 g ⟨k.val, by omega⟩ c p l) else tv149 V (ix5 g ⟨k.val - 39, by omega⟩ c p l) :=
  (congrFun (onceTail.binary V 160 rfl rfl (.of_get 154 onceTail.nodup rfl (by decide)) (.of_get 159 onceTail.nodup rfl (by decide))) _).trans (p90 _ _ g k c p l)

theorem q_tv151 (g : Fin 675) (k : Fin 39) (c : Fin 3) (p : Fin 256) (l : Fin 128) : tv151 V (ix5 g k c p l) = tv150 V (ix5 g ⟨1 + k.val, by omega⟩ c p l) :=
  (congrFun (onceTail.unary V 161 rfl rfl (.of_get 160 onceTail.nodup rfl (by decide))) _).trans (p91 _ g k c p l)

theorem q_tv152 (g : Fin 675) (c : Fin 3) (p : Fin 256) (l : Fin 128) : tv152 V (ix5 g 0 c p l) = tv150 V (ix5 g 0 c p l) :=
  (congrFun (onceTail.unary V 162 rfl rfl (.of_get 160 onceTail.nodup rfl (by decide))) _).trans (p92 _ g c p l)

theorem q_tcst_11 (i : S_.Idx) : tcst_11 V i = Ideal.ofBits .f32 0x00000000#32 :=
  congrFun (onceTail.nullary V 163 rfl rfl) i

theorem q_tv153 (g : Fin 675) (c : Fin 3) (p : Fin 256) (l : Fin 128) : tv153 V (ix5 g 0 c p l) = tcst_11 V ix0 :=
  (congrFun (onceTail.unary V 164 rfl rfl (.of_get 163 onceTail.nodup rfl (by decide))) _).trans (p93 _ g c p l)

theorem q_tv154 (g : Fin 675) (k : Fin 40) (c : Fin 3) (p : Fin 256) (l : Fin 128) : tv154 V (ix5 g k c p l) = if h0 : k.val < 39 then tv151 V (ix5 g ⟨k.val, by omega⟩ c p l) else tv153 V (ix5 g ⟨k.val - 39, by omega⟩ c p l) :=
  (congrFun (onceTail.binary V 165 rfl rfl (.of_get 161 onceTail.nodup rfl (by decide)) (.of_get 164 onceTail.nodup rfl (by decide))) _).trans (p90 _ _ g k c p l)

theorem q_tv155 (g : Fin 675) (k : Fin 40) (c : Fin 3) (p : Fin 256) (l : Fin 128) : tv155 V (ix5 g k c p l) = tv150 V (ix5 g k c p l) + tv154 V (ix5 g k c p l) :=
  (congrFun (onceTail.binary V 166 rfl rfl (.of_get 160 onceTail.nodup rfl (by decide)) (.of_get 165 onceTail.nodup rfl (by decide))) _).trans (p94 _ _ g k c p l)

theorem q_tv156 (g : Fin 675) (k : Fin 38) (c : Fin 3) (p : Fin 256) (l : Fin 128) : tv156 V (ix5 g k c p l) = tv155 V (ix5 g ⟨2 + k.val, by omega⟩ c p l) :=
  (congrFun (onceTail.unary V 167 rfl rfl (.of_get 166 onceTail.nodup rfl (by decide))) _).trans (p95 _ g k c p l)

theorem q_tv157 (g : Fin 675) (k : Fin 2) (c : Fin 3) (p : Fin 256) (l : Fin 128) : tv157 V (ix5 g k c p l) = tv155 V (ix5 g ⟨k.val, by omega⟩ c p l) :=
  (congrFun (onceTail.unary V 168 rfl rfl (.of_get 166 onceTail.nodup rfl (by decide))) _).trans (p96 _ g k c p l)

theorem q_tcst_12 (i : S_.Idx) : tcst_12 V i = Ideal.ofBits .f32 0x00000000#32 :=
  congrFun (onceTail.nullary V 169 rfl rfl) i

theorem q_tv158 (g : Fin 675) (k : Fin 2) (c : Fin 3) (p : Fin 256) (l : Fin 128) : tv158 V (ix5 g k c p l) = tcst_12 V ix0 :=
  (congrFun (onceTail.unary V 170 rfl rfl (.of_get 169 onceTail.nodup rfl (by decide))) _).trans (p97 _ g k c p l)

theorem q_tv159 (g : Fin 675) (k : Fin 40) (c : Fin 3) (p : Fin 256) (l : Fin 128) : tv159 V (ix5 g k c p l) = if h0 : k.val < 38 then tv156 V (ix5 g ⟨k.val, by omega⟩ c p l) else tv158 V (ix5 g ⟨k.val - 38, by omega⟩ c p l) :=
  (congrFun (onceTail.binary V 171 rfl rfl (.of_get 167 onceTail.nodup rfl (by decide)) (.of_get 170 onceTail.nodup rfl (by decide))) _).trans (p98 _ _ g k c p l)

theorem q_tv160 (g : Fin 675) (k : Fin 40) (c : Fin 3) (p : Fin 256) (l : Fin 128) : tv160 V (ix5 g k c p l) = tv155 V (ix5 g k c p l) + tv159 V (ix5 g k c p l) :=
  (congrFun (onceTail.binary V 172 rfl rfl (.of_get 166 onceTail.nodup rfl (by decide)) (.of_get 171 onceTail.nodup rfl (by decide))) _).trans (p94 _ _ g k c p l)

theorem q_tv161 (g : Fin 675) (k : Fin 36) (c : Fin 3) (p : Fin 256) (l : Fin 128) : tv161 V (ix5 g k c p l) = tv160 V (ix5 g ⟨4 + k.val, by omega⟩ c p l) :=
  (congrFun (onceTail.unary V 173 rfl rfl (.of_get 172 onceTail.nodup rfl (by decide))) _).trans (p99 _ g k c p l)

theorem q_tv162 (g : Fin 675) (j : Fin 4) (c : Fin 3) (p : Fin 256) (l : Fin 128) : tv162 V (ix5 g j c p l) = tv160 V (ix5 g ⟨j.val, by omega⟩ c p l) :=
  (congrFun (onceTail.unary V 174 rfl rfl (.of_get 172 onceTail.nodup rfl (by decide))) _).trans (p100 _ g j c p l)

theorem q_tcst_13 (i : S_.Idx) : tcst_13 V i = Ideal.ofBits .f32 0x00000000#32 :=
  congrFun (onceTail.nullary V 175 rfl rfl) i

theorem q_tv163 (g : Fin 675) (j : Fin 4) (c : Fin 3) (p : Fin 256) (l : Fin 128) : tv163 V (ix5 g j c p l) = tcst_13 V ix0 :=
  (congrFun (onceTail.unary V 176 rfl rfl (.of_get 175 onceTail.nodup rfl (by decide))) _).trans (p101 _ g j c p l)

theorem q_tv164 (g : Fin 675) (k : Fin 40) (c : Fin 3) (p : Fin 256) (l : Fin 128) : tv164 V (ix5 g k c p l) = if h0 : k.val < 36 then tv161 V (ix5 g ⟨k.val, by omega⟩ c p l) else tv163 V (ix5 g ⟨k.val - 36, by omega⟩ c p l) :=
  (congrFun (onceTail.binary V 177 rfl rfl (.of_get 173 onceTail.nodup rfl (by decide)) (.of_get 176 onceTail.nodup rfl (by decide))) _).trans (p102 _ _ g k c p l)

theorem q_tv165 (g : Fin 675) (k : Fin 40) (c : Fin 3) (p : Fin 256) (l : Fin 128) : tv165 V (ix5 g k c p l) = tv160 V (ix5 g k c p l) + tv164 V (ix5 g k c p l) :=
  (congrFun (onceTail.binary V 178 rfl rfl (.of_get 172 onceTail.nodup rfl (by decide)) (.of_get 177 onceTail.nodup rfl (by decide))) _).trans (p94 _ _ g k c p l)

theorem q_tv166 (g : Fin 675) (k : Fin 32) (c : Fin 3) (p : Fin 256) (l : Fin 128) : tv166 V (ix5 g k c p l) = tv165 V (ix5 g ⟨8 + k.val, by omega⟩ c p l) :=
  (congrFun (onceTail.unary V 179 rfl rfl (.of_get 178 onceTail.nodup rfl (by decide))) _).trans (p103 _ g k c p l)

theorem q_tv167 (g : Fin 675) (k : Fin 8) (c : Fin 3) (p : Fin 256) (l : Fin 128) : tv167 V (ix5 g k c p l) = tv165 V (ix5 g ⟨k.val, by omega⟩ c p l) :=
  (congrFun (onceTail.unary V 180 rfl rfl (.of_get 178 onceTail.nodup rfl (by decide))) _).trans (p104 _ g k c p l)

theorem q_tcst_14 (i : S_.Idx) : tcst_14 V i = Ideal.ofBits .f32 0x00000000#32 :=
  congrFun (onceTail.nullary V 181 rfl rfl) i

theorem q_tv168 (g : Fin 675) (k : Fin 8) (c : Fin 3) (p : Fin 256) (l : Fin 128) : tv168 V (ix5 g k c p l) = tcst_14 V ix0 :=
  (congrFun (onceTail.unary V 182 rfl rfl (.of_get 181 onceTail.nodup rfl (by decide))) _).trans (p105 _ g k c p l)

theorem q_tv169 (g : Fin 675) (k : Fin 40) (c : Fin 3) (p : Fin 256) (l : Fin 128) : tv169 V (ix5 g k c p l) = if h0 : k.val < 32 then tv166 V (ix5 g ⟨k.val, by omega⟩ c p l) else tv168 V (ix5 g ⟨k.val - 32, by omega⟩ c p l) :=
  (congrFun (onceTail.binary V 183 rfl rfl (.of_get 179 onceTail.nodup rfl (by decide)) (.of_get 182 onceTail.nodup rfl (by decide))) _).trans (p106 _ _ g k c p l)

theorem q_tv170 (g : Fin 675) (k : Fin 40) (c : Fin 3) (p : Fin 256) (l : Fin 128) : tv170 V (ix5 g k c p l) = tv165 V (ix5 g k c p l) + tv169 V (ix5 g k c p l) :=
  (congrFun (onceTail.binary V 184 rfl rfl (.of_get 178 onceTail.nodup rfl (by decide)) (.of_get 183 onceTail.nodup rfl (by decide))) _).trans (p94 _ _ g k c p l)

theorem q_tv171 (g : Fin 675) (k : Fin 24) (c : Fin 3) (p : Fin 256) (l : Fin 128) : tv171 V (ix5 g k c p l) = tv170 V (ix5 g ⟨16 + k.val, by omega⟩ c p l) :=
  (congrFun (onceTail.unary V 185 rfl rfl (.of_get 184 onceTail.nodup rfl (by decide))) _).trans (p107 _ g k c p l)

theorem q_tv172 (g : Fin 675) (k : Fin 16) (c : Fin 3) (p : Fin 256) (l : Fin 128) : tv172 V (ix5 g k c p l) = tv170 V (ix5 g ⟨k.val, by omega⟩ c p l) :=
  (congrFun (onceTail.unary V 186 rfl rfl (.of_get 184 onceTail.nodup rfl (by decide))) _).trans (p108 _ g k c p l)

theorem q_tcst_15 (i : S_.Idx) : tcst_15 V i = Ideal.ofBits .f32 0x00000000#32 :=
  congrFun (onceTail.nullary V 187 rfl rfl) i

theorem q_tv173 (g : Fin 675) (k : Fin 16) (c : Fin 3) (p : Fin 256) (l : Fin 128) : tv173 V (ix5 g k c p l) = tcst_15 V ix0 :=
  (congrFun (onceTail.unary V 188 rfl rfl (.of_get 187 onceTail.nodup rfl (by decide))) _).trans (p109 _ g k c p l)

theorem q_tv174 (g : Fin 675) (k : Fin 40) (c : Fin 3) (p : Fin 256) (l : Fin 128) : tv174 V (ix5 g k c p l) = if h0 : k.val < 24 then tv171 V (ix5 g ⟨k.val, by omega⟩ c p l) else tv173 V (ix5 g ⟨k.val - 24, by omega⟩ c p l) :=
  (congrFun (onceTail.binary V 189 rfl rfl (.of_get 185 onceTail.nodup rfl (by decide)) (.of_get 188 onceTail.nodup rfl (by decide))) _).trans (p110 _ _ g k c p l)

theorem q_tv175 (g : Fin 675) (k : Fin 40) (c : Fin 3) (p : Fin 256) (l : Fin 128) : tv175 V (ix5 g k c p l) = tv170 V (ix5 g k c p l) + tv174 V (ix5 g k c p l) :=
  (congrFun (onceTail.binary V 190 rfl rfl (.of_get 184 onceTail.nodup rfl (by decide)) (.of_get 189 onceTail.nodup rfl (by decide))) _).trans (p94 _ _ g k c p l)

theorem q_tv176 (g : Fin 675) (k : Fin 8) (c : Fin 3) (p : Fin 256) (l : Fin 128) : tv176 V (ix5 g k c p l) = tv175 V (ix5 g ⟨32 + k.val, by omega⟩ c p l) :=
  (congrFun (onceTail.unary V 191 rfl rfl (.of_get 190 onceTail.nodup rfl (by decide))) _).trans (p111 _ g k c p l)

theorem q_tv177 (g : Fin 675) (k : Fin 32) (c : Fin 3) (p : Fin 256) (l : Fin 128) : tv177 V (ix5 g k c p l) = tv175 V (ix5 g ⟨k.val, by omega⟩ c p l) :=
  (congrFun (onceTail.unary V 192 rfl rfl (.of_get 190 onceTail.nodup rfl (by decide))) _).trans (p112 _ g k c p l)

theorem q_tcst_16 (i : S_.Idx) : tcst_16 V i = Ideal.ofBits .f32 0x00000000#32 :=
  congrFun (onceTail.nullary V 193 rfl rfl) i

theorem q_tv178 (g : Fin 675) (k : Fin 32) (c : Fin 3) (p : Fin 256) (l : Fin 128) : tv178 V (ix5 g k c p l) = tcst_16 V ix0 :=
  (congrFun (onceTail.unary V 194 rfl rfl (.of_get 193 onceTail.nodup rfl (by decide))) _).trans (p113 _ g k c p l)

theorem q_tv179 (g : Fin 675) (k : Fin 40) (c : Fin 3) (p : Fin 256) (l : Fin 128) : tv179 V (ix5 g k c p l) = if h0 : k.val < 8 then tv176 V (ix5 g ⟨k.val, by omega⟩ c p l) else tv178 V (ix5 g ⟨k.val - 8, by omega⟩ c p l) :=
  (congrFun (onceTail.binary V 195 rfl rfl (.of_get 191 onceTail.nodup rfl (by decide)) (.of_get 194 onceTail.nodup rfl (by decide))) _).trans (p114 _ _ g k c p l)

theorem q_tv180 (g : Fin 675) (k : Fin 40) (c : Fin 3) (p : Fin 256) (l : Fin 128) : tv180 V (ix5 g k c p l) = tv175 V (ix5 g k c p l) + tv179 V (ix5 g k c p l) :=
  (congrFun (onceTail.binary V 196 rfl rfl (.of_get 190 onceTail.nodup rfl (by decide)) (.of_get 195 onceTail.nodup rfl (by decide))) _).trans (p94 _ _ g k c p l)

theorem q_tv181 (g : Fin 675) (k : Fin 40) (p : Fin 256) (l : Fin 128) : tv181 V (ix5 g k 0 p l) = tv137 V (ix4 g k p l) :=
  (congrFun (onceTail.unary V 197 rfl rfl (.of_get 147 onceTail.nodup rfl (by decide))) _).trans (p115 _ g k p l)

theorem q_tv182 (g : Fin 675) (k : Fin 40) (c : Fin 3) (p : Fin 256) (l : Fin 128) : tv182 V (ix5 g k c p l) = tv181 V (ix5 g k 0 p l) :=
  (congrFun (onceTail.unary V 198 rfl rfl (.of_get 197 onceTail.nodup rfl (by decide))) _).trans (p116 _ g k c p l)

theorem q_tv183 (g : Fin 675) (k : Fin 40) (c : Fin 3) (p : Fin 256) (l : Fin 128) : tv183 V (ix5 g k c p l) = tv46 V (ix5 g k c 0 l) :=
  (congrFun (onceTail.unary V 199 rfl rfl (.of_get 7 onceTail.nodup rfl (by decide))) _).trans (p117 _ g k c p l)

theorem q_tv184 (g : Fin 675) (k : Fin 40) (c : Fin 3) (p : Fin 256) (l : Fin 128) : tv184 V (ix5 g k c p l) = tv182 V (ix5 g k c p l) * tv183 V (ix5 g k c p l) :=
  (congrFun (onceTail.binary V 200 rfl rfl (.of_get 198 onceTail.nodup rfl (by decide)) (.of_get 199 onceTail.nodup rfl (by decide))) _).trans (p118 _ _ g k c p l)

theorem q_tv185 (g : Fin 675) (k : Fin 40) (p : Fin 256) (l : Fin 128) : tv185 V (ix5 g k 0 p l) = tv104 V (ix4 g k p l) :=
  (congrFun (onceTail.unary V 201 rfl rfl (.of_get 108 onceTail.nodup rfl (by decide))) _).trans (p115 _ g k p l)

theorem q_tv186 (g : Fin 675) (k : Fin 40) (c : Fin 3) (p : Fin 256) (l : Fin 128) : tv186 V (ix5 g k c p l) = tv185 V (ix5 g k 0 p l) :=
  (congrFun (onceTail.unary V 202 rfl rfl (.of_get 201 onceTail.nodup rfl (by decide))) _).trans (p116 _ g k c p l)

theorem q_tv187 (g : Fin 675) (k : Fin 40) (c : Fin 3) (p : Fin 256) (l : Fin 128) : tv187 V (ix5 g k c p l) = Ideal.div (tv180 V (ix5 g k c p l)) (tv186 V (ix5 g k c p l)) :=
  (congrFun (onceTail.binary V 203 rfl rfl (.of_get 196 onceTail.nodup rfl (by decide)) (.of_get 202 onceTail.nodup rfl (by decide))) _).trans (p119 _ _ g k c p l)

theorem q_tv188 (g : Fin 675) (k : Fin 40) (c : Fin 3) (p : Fin 256) (l : Fin 128) : tv188 V (ix5 g k c p l) = tv184 V (ix5 g k c p l) - tv187 V (ix5 g k c p l) :=
  (congrFun (onceTail.binary V 204 rfl rfl (.of_get 200 onceTail.nodup rfl (by decide)) (.of_get 203 onceTail.nodup rfl (by decide))) _).trans (p120 _ _ g k c p l)

theorem q_tv189 (g : Fin 675) (k : Fin 40) (c : Fin 3) (p : Fin 256) (l : Fin 128) : tv189 V (ix5 g k c p l) = tv41 V (ix5 g 0 c p l) :=
  (congrFun (onceTail.unary V 205 rfl rfl (.of_get 2 onceTail.nodup rfl (by decide))) _).trans (p121 _ g k c p l)

theorem q_tv190 (g : Fin 675) (k : Fin 40) (c : Fin 3) (p : Fin 256) (l : Fin 128) : tv190 V (ix5 g k c p l) = tv189 V (ix5 g k c p l) * tv188 V (ix5 g k c p l) :=
  (congrFun (onceTail.binary V 206 rfl rfl (.of_get 205 onceTail.nodup rfl (by decide)) (.of_get 204 onceTail.nodup rfl (by decide))) _).trans (p118 _ _ g k c p l)

theorem q_tcst_17 (i : S_.Idx) : tcst_17 V i = Ideal.ofBits .f32 0x00000000#32 :=
  congrFun (onceTail.nullary V 207 rfl rfl) i

theorem q_tv191 (g : Fin 675) (k : Fin 40) (p : Fin 256) (l : Fin 128) : tv191 V (ix4 g k p l) = tcst_17 V (Shape.Idx.first h_S_) + ∑ c, tv190 V (ix5 g k c p l) :=
  (congrFun (onceTail.binary V 208 rfl rfl (.of_get 206 onceTail.nodup rfl (by decide)) (.of_get 207 onceTail.nodup rfl (by decide))) _).trans (p122 _ _ g k p l)

theorem q_tv192 (g : Fin 675) (k : Fin 40) (p : Fin 256) (l : Fin 128) : tv192 V (ix4 g k p l) = -(tv102 V (ix4 g k p l)) :=
  (congrFun (onceTail.unary V 209 rfl rfl (.of_get 105 onceTail.nodup rfl (by decide))) _).trans (p53 _ g k p l)

theorem q_tv193 (g : Fin 675) (k : Fin 40) (p : Fin 256) (l : Fin 128) : tv193 V (ix4 g k p l) = tv192 V (ix4 g k p l) * tv191 V (ix4 g k p l) :=
  (congrFun (onceTail.binary V 210 rfl rfl (.of_get 209 onceTail.nodup rfl (by decide)) (.of_get 208 onceTail.nodup rfl (by decide))) _).trans (p50 _ _ g k p l)

theorem q_tv194 (g : Fin 675) (k : Fin 40) (p : Fin 256) (l : Fin 128) : tv194 V (ix4 g k p l) = tv96 V (ix4 g k p l) * tv191 V (ix4 g k p l) :=
  (congrFun (onceTail.binary V 211 rfl rfl (.of_get 98 onceTail.nodup rfl (by decide)) (.of_get 208 onceTail.nodup rfl (by decide))) _).trans (p50 _ _ g k p l)

theorem q_tcst_18 (i : S_.Idx) : tcst_18 V i = Ideal.ofBits .f32 0x00000000#32 :=
  congrFun (onceTail.nullary V 212 rfl rfl) i

theorem q_tv195 (g : Fin 675) (k : Fin 40) (l : Fin 128) : tv195 V (ix3 g k l) = tcst_18 V (Shape.Idx.first h_S_) + ∑ p, tv194 V (ix4 g k p l) :=
  (congrFun (onceTail.binary V 213 rfl rfl (.of_get 211 onceTail.nodup rfl (by decide)) (.of_get 212 onceTail.nodup rfl (by decide))) _).trans (p123 _ _ g k l)

theorem q_tv196 (g : Fin 675) (k : Fin 40) (p : Fin 256) (l : Fin 128) : tv196 V (ix5 g k 0 p l) = tv138 V (ix4 g k p l) :=
  (congrFun (onceTail.unary V 214 rfl rfl (.of_get 148 onceTail.nodup rfl (by decide))) _).trans (p115 _ g k p l)

theorem q_tv197 (g : Fin 675) (k : Fin 40) (c : Fin 3) (p : Fin 256) (l : Fin 128) : tv197 V (ix5 g k c p l) = tv196 V (ix5 g k 0 p l) :=
  (congrFun (onceTail.unary V 215 rfl rfl (.of_get 214 onceTail.nodup rfl (by decide))) _).trans (p116 _ g k c p l)

theorem q_tv198 (g : Fin 675) (k : Fin 40) (c : Fin 3) (p : Fin 256) (l : Fin 128) : tv198 V (ix5 g k c p l) = tv41 V (ix5 g 0 c p l) :=
  (congrFun (onceTail.unary V 216 rfl rfl (.of_get 2 onceTail.nodup rfl (by decide))) _).trans (p121 _ g k c p l)

theorem q_tv199 (g : Fin 675) (k : Fin 40) (c : Fin 3) (p : Fin 256) (l : Fin 128) : tv199 V (ix5 g k c p l) = tv197 V (ix5 g k c p l) * tv198 V (ix5 g k c p l) :=
  (congrFun (onceTail.binary V 217 rfl rfl (.of_get 215 onceTail.nodup rfl (by decide)) (.of_get 216 onceTail.nodup rfl (by decide))) _).trans (p118 _ _ g k c p l)

theorem q_tcst_19 (i : S_.Idx) : tcst_19 V i = Ideal.ofBits .f32 0x00000000#32 :=
  congrFun (onceTail.nullary V 218 rfl rfl) i

theorem q_tv200 (g : Fin 675) (k : Fin 40) (c : Fin 3) (l : Fin 128) : tv200 V (ix4 g k c l) = tcst_19 V (Shape.Idx.first h_S_) + ∑ p, tv199 V (ix5 g k c p l) :=
  (congrFun (onceTail.binary V 219 rfl rfl (.of_get 217 onceTail.nodup rfl (by decide)) (.of_get 218 onceTail.nodup rfl (by decide))) _).trans (p124 _ _ g k c l)

theorem q_tcst_20 (i : S_.Idx) : tcst_20 V i = Ideal.ofBits .f32 0x3F000000#32 :=
  congrFun (onceTail.nullary V 220 rfl rfl) i

theorem q_tv201 (g : Fin 675) (k : Fin 40) (p : Fin 256) (l : Fin 128) : tv201 V (ix4 g k p l) = tcst_20 V ix0 :=
  (congrFun (onceTail.unary V 221 rfl rfl (.of_get 220 onceTail.nodup rfl (by decide))) _).trans (p52 _ g k p l)

theorem q_tv202 (g : Fin 675) (k : Fin 40) (p : Fin 256) (l : Fin 128) : tv202 V (ix4 g k p l) = tv201 V (ix4 g k p l) * tv193 V (ix4 g k p l) :=
  (congrFun (onceTail.binary V 222 rfl rfl (.of_get 221 onceTail.nodup rfl (by decide)) (.of_get 210 onceTail.nodup rfl (by decide))) _).trans (p50 _ _ g k p l)

theorem q_tv203 (g : Fin 675) (k : Fin 40) (p : Fin 256) (l : Fin 128) : tv203 V (ix4 g k p l) = tv202 V (ix4 g k p l) * tv77 V (ix4 g k p l) :=
  (congrFun (onceTail.binary V 223 rfl rfl (.of_get 222 onceTail.nodup rfl (by decide)) (.of_get 78 onceTail.nodup rfl (by decide))) _).trans (p50 _ _ g k p l)

theorem q_tv204 (g : Fin 675) (k : Fin 40) (p : Fin 256) (l : Fin 128) : tv204 V (ix4 g k p l) = tv203 V (ix4 g k p l) * tv77 V (ix4 g k p l) :=
  (congrFun (onceTail.binary V 224 rfl rfl (.of_get 223 onceTail.nodup rfl (by decide)) (.of_get 78 onceTail.nodup rfl (by decide))) _).trans (p50 _ _ g k p l)

theorem q_tcst_21 (i : S_.Idx) : tcst_21 V i = Ideal.ofBits .f32 0x00000000#32 :=
  congrFun (onceTail.nullary V 225 rfl rfl) i

theorem q_tv205 (g : Fin 675) (k : Fin 40) (l : Fin 128) : tv205 V (ix3 g k l) = tcst_21 V (Shape.Idx.first h_S_) + ∑ p, tv204 V (ix4 g k p l) :=
  (congrFun (onceTail.binary V 226 rfl rfl (.of_get 224 onceTail.nodup rfl (by decide)) (.of_get 225 onceTail.nodup rfl (by decide))) _).trans (p123 _ _ g k l)

theorem q_tv206 (g : Fin 675) (k : Fin 40) (p : Fin 256) (l : Fin 128) : tv206 V (ix4 g k p l) = tv193 V (ix4 g k p l) * tv77 V (ix4 g k p l) :=
  (congrFun (onceTail.binary V 227 rfl rfl (.of_get 210 onceTail.nodup rfl (by decide)) (.of_get 78 onceTail.nodup rfl (by decide))) _).trans (p50 _ _ g k p l)

theorem q_tv207 (g : Fin 675) (k : Fin 40) (p : Fin 256) (l : Fin 128) : tv207 V (ix4 g k p l) = tv206 V (ix4 g k p l) * tv81 V (ix4 g k p l) :=
  (congrFun (onceTail.binary V 228 rfl rfl (.of_get 227 onceTail.nodup rfl (by decide)) (.of_get 82 onceTail.nodup rfl (by decide))) _).trans (p50 _ _ g k p l)

theorem q_tcst_22 (i : S_.Idx) : tcst_22 V i = Ideal.ofBits .f32 0x00000000#32 :=
  congrFun (onceTail.nullary V 229 rfl rfl) i

theorem q_tv208 (g : Fin 675) (k : Fin 40) (l : Fin 128) : tv208 V (ix3 g k l) = tcst_22 V (Shape.Idx.first h_S_) + ∑ p, tv207 V (ix4 g k p l) :=
  (congrFun (onceTail.binary V 230 rfl rfl (.of_get 228 onceTail.nodup rfl (by decide)) (.of_get 229 onceTail.nodup rfl (by decide))) _).trans (p123 _ _ g k l)

theorem q_tcst_23 (i : S_.Idx) : tcst_23 V i = Ideal.ofBits .f32 0x3F000000#32 :=
  congrFun (onceTail.nullary V 231 rfl rfl) i

theorem q_tv209 (g : Fin 675) (k : Fin 40) (p : Fin 256) (l : Fin 128) : tv209 V (ix4 g k p l) = tcst_23 V ix0 :=
  (congrFun (onceTail.unary V 232 rfl rfl (.of_get 231 onceTail.nodup rfl (by decide))) _).trans (p52 _ g k p l)

theorem q_tv210 (g : Fin 675) (k : Fin 40) (p : Fin 256) (l : Fin 128) : tv210 V (ix4 g k p l) = tv209 V (ix4 g k p l) * tv193 V (ix4 g k p l) :=
  (congrFun (onceTail.binary V 233 rfl rfl (.of_get 232 onceTail.nodup rfl (by decide)) (.of_get 210 onceTail.nodup rfl (by decide))) _).trans (p50 _ _ g k p l)

theorem q_tv211 (g : Fin 675) (k : Fin 40) (p : Fin 256) (l : Fin 128) : tv211 V (ix4 g k p l) = tv210 V (ix4 g k p l) * tv81 V (ix4 g k p l) :=
  (congrFun (onceTail.binary V 234 rfl rfl (.of_get 233 onceTail.nodup rfl (by decide)) (.of_get 82 onceTail.nodup rfl (by decide))) _).trans (p50 _ _ g k p l)

theorem q_tv212 (g : Fin 675) (k : Fin 40) (p : Fin 256) (l : Fin 128) : tv212 V (ix4 g k p l) = tv211 V (ix4 g k p l) * tv81 V (ix4 g k p l) :=
  (congrFun (onceTail.binary V 235 rfl rfl (.of_get 234 onceTail.nodup rfl (by decide)) (.of_get 82 onceTail.nodup rfl (by decide))) _).trans (p50 _ _ g k p l)

theorem q_tcst_24 (i : S_.Idx) : tcst_24 V i = Ideal.ofBits .f32 0x00000000#32 :=
  congrFun (onceTail.nullary V 236 rfl rfl) i

theorem q_tv213 (g : Fin 675) (k : Fin 40) (l : Fin 128) : tv213 V (ix3 g k l) = tcst_24 V (Shape.Idx.first h_S_) + ∑ p, tv212 V (ix4 g k p l) :=
  (congrFun (onceTail.binary V 237 rfl rfl (.of_get 235 onceTail.nodup rfl (by decide)) (.of_get 236 onceTail.nodup rfl (by decide))) _).trans (p123 _ _ g k l)

theorem q_tv214 (g : Fin 675) (k : Fin 40) (l : Fin 128) : tv214 V (ix4 g 0 k l) = tv205 V (ix3 g k l) :=
  (congrFun (onceTail.unary V 238 rfl rfl (.of_get 226 onceTail.nodup rfl (by decide))) _).trans (p125 _ g k l)

theorem q_tv215 (g : Fin 675) (k : Fin 40) (l : Fin 128) : tv215 V (ix4 g 0 k l) = tv208 V (ix3 g k l) :=
  (congrFun (onceTail.unary V 239 rfl rfl (.of_get 230 onceTail.nodup rfl (by decide))) _).trans (p125 _ g k l)

theorem q_tv216 (g : Fin 675) (k : Fin 40) (l : Fin 128) : tv216 V (ix4 g 0 k l) = tv213 V (ix3 g k l) :=
  (congrFun (onceTail.unary V 240 rfl rfl (.of_get 237 onceTail.nodup rfl (by decide))) _).trans (p125 _ g k l)

theorem q_tv217 (g : Fin 675) (c : Fin 3) (k : Fin 40) (l : Fin 128) : tv217 V (ix4 g c k l) = if h0 : c.val < 1 then tv214 V (ix4 g ⟨c.val, by omega⟩ k l) else if h1 : c.val - 1 < 1 then tv215 V (ix4 g ⟨c.val - 1, by omega⟩ k l) else tv216 V (ix4 g ⟨c.val - 1 - 1, by omega⟩ k l) :=
  (congrFun (onceTail.nary V 241 rfl rfl (fun k => by fin_cases k <;> first | exact (.of_get 238 onceTail.nodup rfl (by decide)) | exact (.of_get 239 onceTail.nodup rfl (by decide)) | exact (.of_get 240 onceTail.nodup rfl (by decide)))) _).trans (p126 _ _ _ g c k l)

theorem q_tv218 (g : Fin 675) (k : Fin 40) (p : Fin 256) (l : Fin 128) : tv218 V (ix4 g k p l) = tv23 V (ix4 g k 0 l) :=
  (congrFun (onceTail.unary V 242 rfl rfl (.of_not_mem (by decide +kernel))) _).trans (p47 _ g k p l)

theorem q_tv219 (g : Fin 675) (k : Fin 40) (p : Fin 256) (l : Fin 128) : tv219 V (ix4 g k p l) = tv218 V (ix4 g k p l) * tv77 V (ix4 g k p l) :=
  (congrFun (onceTail.binary V 243 rfl rfl (.of_get 242 onceTail.nodup rfl (by decide)) (.of_get 78 onceTail.nodup rfl (by decide))) _).trans (p50 _ _ g k p l)

theorem q_tv220 (g : Fin 675) (k : Fin 40) (p : Fin 256) (l : Fin 128) : tv220 V (ix4 g k p l) = tv26 V (ix4 g k 0 l) :=
  (congrFun (onceTail.unary V 244 rfl rfl (.of_not_mem (by decide +kernel))) _).trans (p47 _ g k p l)

theorem q_tv221 (g : Fin 675) (k : Fin 40) (p : Fin 256) (l : Fin 128) : tv221 V (ix4 g k p l) = tv220 V (ix4 g k p l) * tv81 V (ix4 g k p l) :=
  (congrFun (onceTail.binary V 245 rfl rfl (.of_get 244 onceTail.nodup rfl (by decide)) (.of_get 82 onceTail.nodup rfl (by decide))) _).trans (p50 _ _ g k p l)

theorem q_tv222 (g : Fin 675) (k : Fin 40) (p : Fin 256) (l : Fin 128) : tv222 V (ix4 g k p l) = tv219 V (ix4 g k p l) + tv221 V (ix4 g k p l) :=
  (congrFun (onceTail.binary V 246 rfl rfl (.of_get 243 onceTail.nodup rfl (by decide)) (.of_get 245 onceTail.nodup rfl (by decide))) _).trans (p51 _ _ g k p l)

theorem q_tv223 (g : Fin 675) (k : Fin 40) (p : Fin 256) (l : Fin 128) : tv223 V (ix4 g k p l) = tv193 V (ix4 g k p l) * tv222 V (ix4 g k p l) :=
  (congrFun (onceTail.binary V 247 rfl rfl (.of_get 210 onceTail.nodup rfl (by decide)) (.of_get 246 onceTail.nodup rfl (by decide))) _).trans (p50 _ _ g k p l)

theorem q_tcst_25 (i : S_.Idx) : tcst_25 V i = Ideal.ofBits .f32 0x00000000#32 :=
  congrFun (onceTail.nullary V 248 rfl rfl) i

theorem q_tv224 (g : Fin 675) (k : Fin 40) (l : Fin 128) : tv224 V (ix3 g k l) = tcst_25 V (Shape.Idx.first h_S_) + ∑ p, tv223 V (ix4 g k p l) :=
  (congrFun (onceTail.binary V 249 rfl rfl (.of_get 247 onceTail.nodup rfl (by decide)) (.of_get 248 onceTail.nodup rfl (by decide))) _).trans (p123 _ _ g k l)

theorem q_tv225 (g : Fin 675) (k : Fin 40) (p : Fin 256) (l : Fin 128) : tv225 V (ix4 g k p l) = tv26 V (ix4 g k 0 l) :=
  (congrFun (onceTail.unary V 250 rfl rfl (.of_not_mem (by decide +kernel))) _).trans (p47 _ g k p l)

theorem q_tv226 (g : Fin 675) (k : Fin 40) (p : Fin 256) (l : Fin 128) : tv226 V (ix4 g k p l) = tv225 V (ix4 g k p l) * tv77 V (ix4 g k p l) :=
  (congrFun (onceTail.binary V 251 rfl rfl (.of_get 250 onceTail.nodup rfl (by decide)) (.of_get 78 onceTail.nodup rfl (by decide))) _).trans (p50 _ _ g k p l)

theorem q_tv227 (g : Fin 675) (k : Fin 40) (p : Fin 256) (l : Fin 128) : tv227 V (ix4 g k p l) = tv29 V (ix4 g k 0 l) :=
  (congrFun (onceTail.unary V 252 rfl rfl (.of_not_mem (by decide +kernel))) _).trans (p47 _ g k p l)

theorem q_tv228 (g : Fin 675) (k : Fin 40) (p : Fin 256) (l : Fin 128) : tv228 V (ix4 g k p l) = tv227 V (ix4 g k p l) * tv81 V (ix4 g k p l) :=
  (congrFun (onceTail.binary V 253 rfl rfl (.of_get 252 onceTail.nodup rfl (by decide)) (.of_get 82 onceTail.nodup rfl (by decide))) _).trans (p50 _ _ g k p l)

theorem q_tv229 (g : Fin 675) (k : Fin 40) (p : Fin 256) (l : Fin 128) : tv229 V (ix4 g k p l) = tv226 V (ix4 g k p l) + tv228 V (ix4 g k p l) :=
  (congrFun (onceTail.binary V 254 rfl rfl (.of_get 251 onceTail.nodup rfl (by decide)) (.of_get 253 onceTail.nodup rfl (by decide))) _).trans (p51 _ _ g k p l)

theorem q_tv230 (g : Fin 675) (k : Fin 40) (p : Fin 256) (l : Fin 128) : tv230 V (ix4 g k p l) = tv193 V (ix4 g k p l) * tv229 V (ix4 g k p l) :=
  (congrFun (onceTail.binary V 255 rfl rfl (.of_get 210 onceTail.nodup rfl (by decide)) (.of_get 254 onceTail.nodup rfl (by decide))) _).trans (p50 _ _ g k p l)

theorem q_tcst_26 (i : S_.Idx) : tcst_26 V i = Ideal.ofBits .f32 0x00000000#32 :=
  congrFun (onceTail.nullary V 256 rfl rfl) i

theorem q_tv231 (g : Fin 675) (k : Fin 40) (l : Fin 128) : tv231 V (ix3 g k l) = tcst_26 V (Shape.Idx.first h_S_) + ∑ p, tv230 V (ix4 g k p l) :=
  (congrFun (onceTail.binary V 257 rfl rfl (.of_get 255 onceTail.nodup rfl (by decide)) (.of_get 256 onceTail.nodup rfl (by decide))) _).trans (p123 _ _ g k l)

theorem q_tv232 (g : Fin 675) (k : Fin 40) (l : Fin 128) : tv232 V (ix4 g 0 k l) = tv224 V (ix3 g k l) :=
  (congrFun (onceTail.unary V 258 rfl rfl (.of_get 249 onceTail.nodup rfl (by decide))) _).trans (p125 _ g k l)

theorem q_tv233 (g : Fin 675) (k : Fin 40) (l : Fin 128) : tv233 V (ix4 g 0 k l) = tv231 V (ix3 g k l) :=
  (congrFun (onceTail.unary V 259 rfl rfl (.of_get 257 onceTail.nodup rfl (by decide))) _).trans (p125 _ g k l)

theorem q_tv234 (g : Fin 675) (k : Fin 2) (k' : Fin 40) (l : Fin 128) : tv234 V (ix4 g k k' l) = if h0 : k.val < 1 then tv232 V (ix4 g ⟨k.val, by omega⟩ k' l) else tv233 V (ix4 g ⟨k.val - 1, by omega⟩ k' l) :=
  (congrFun (onceTail.binary V 260 rfl rfl (.of_get 258 onceTail.nodup rfl (by decide)) (.of_get 259 onceTail.nodup rfl (by decide))) _).trans (p127 _ _ g k k' l)

theorem q_tv235 (g : Fin 675) (k : Fin 40) (l : Fin 128) : tv235 V (ix4 g 0 k l) = tv195 V (ix3 g k l) :=
  (congrFun (onceTail.unary V 261 rfl rfl (.of_get 213 onceTail.nodup rfl (by decide))) _).trans (p125 _ g k l)

theorem q_tv236 (g : Fin 675) (c : Fin 3) (k : Fin 40) (l : Fin 128) : tv236 V (ix4 g c k l) = tv200 V (ix4 g k c l) :=
  (congrFun (onceTail.unary V 262 rfl rfl (.of_get 219 onceTail.nodup rfl (by decide))) _).trans (p128 _ g c k l)

theorem q_tv237 (g : Fin 675) (q : Fin 9) (k : Fin 40) (l : Fin 128) : tv237 V (ix4 g q k l) = if h0 : q.val < 2 then tv234 V (ix4 g ⟨q.val, by omega⟩ k l) else if h1 : q.val - 2 < 1 then tv235 V (ix4 g ⟨q.val - 2, by omega⟩ k l) else if h2 : q.val - 2 - 1 < 3 then tv217 V (ix4 g ⟨q.val - 2 - 1, by omega⟩ k l) else tv236 V (ix4 g ⟨q.val - 2 - 1 - 3, by omega⟩ k l) :=
  (congrFun (onceTail.nary V 263 rfl rfl (fun k => by fin_cases k <;> first | exact (.of_get 260 onceTail.nodup rfl (by decide)) | exact (.of_get 261 onceTail.nodup rfl (by decide)) | exact (.of_get 241 onceTail.nodup rfl (by decide)) | exact (.of_get 262 onceTail.nodup rfl (by decide)))) _).trans (p129 _ _ _ _ g q k l)

end Cert.ReferenceIdeal.Val
end
-- ==== Proof.RefVal.lean ====
/- The reference's result at an entry that counts, in the reals: sums over the pixels of its closed forms. -/
module

public import proofs.«01_k».proof.Proof.RefEqsA
public import proofs.«01_k».proof.Proof.RefEqsB
public import proofs.«01_k».proof.Proof.Fold
public import proofs.«01_k».proof.Proof.Scalar

@[expose] public section

set_option maxRecDepth 65536
set_option maxHeartbeats 4000000

noncomputable section

namespace Cert.ReferenceIdeal.Val

open Cert.KernelIdeal.Run (div_real one_f32 zero_f32 half_f32)
open Cert.ReferenceIdeal Cert.ReferenceIdeal.Gen Cert.Splat
open Idealize.ShloMosaic Idealize.ShloMosaic.TcCoe Idealize.ShloMosaic.Tactic
open Finset

/-- A step of the doubling of products over the entries from one on. -/
theorem pcomb {f : ℕ → ℝ} (hf : ∀ j, 40 ≤ j → f j = 1) (s n k : ℕ) (hn : n + s = 40) {x y : EReal}
    (hx : x = ((∏ j ∈ range s, f (k + j) : ℝ) : EReal)) (h1 : k < n → y = ((∏ j ∈ range s, f (s + k + j) : ℝ) : EReal))
    (h2 : ¬ k < n → y = ((1 : ℝ) : EReal)) : x * y = ((∏ j ∈ range (s + s), f (k + j) : ℝ) : EReal) := by
  have e : ∀ j, k + (s + j) = s + k + j := fun j => by omega
  rw [hx, prod_range_add, EReal.coe_mul]
  refine congrArg _ ?_
  simp only [e]
  by_cases h : k < n
  · exact h1 h
  · rw [h2 h, prod_eq_one fun j _ => hf _ (by omega)]

/-- A step of the doubling of sums over the entries from one on. -/
theorem scomb {f : ℕ → ℝ} (hf : ∀ j, 40 ≤ j → f j = 0) (s n k : ℕ) (hn : n + s = 40) {x y : EReal}
    (hx : x = ((∑ j ∈ range s, f (k + j) : ℝ) : EReal)) (h1 : k < n → y = ((∑ j ∈ range s, f (s + k + j) : ℝ) : EReal))
    (h2 : ¬ k < n → y = ((0 : ℝ) : EReal)) : x + y = ((∑ j ∈ range (s + s), f (k + j) : ℝ) : EReal) := by
  have e : ∀ j, k + (s + j) = s + k + j := fun j => by omega
  rw [hx, sum_range_add, EReal.coe_add]
  refine congrArg _ ?_
  simp only [e]
  by_cases h : k < n
  · exact h1 h
  · rw [h2 h, sum_eq_zero fun j _ => hf _ (by omega)]

/-- A sum of reals over the pixels. -/
theorem csum (f : ℕ → ℝ) (n : ℕ) : ∑ p : Fin n, ((f p.val : ℝ) : EReal) = ((∑ p ∈ range n, f p : ℝ) : EReal) := by
  rw [Fin.sum_univ_eq_sum_range (fun p => ((f p : ℝ) : EReal)) n]
  induction n with
  | zero => rfl
  | succ n ih => rw [sum_range_succ, sum_range_succ, EReal.coe_add, ih]

variable (V : Valuation τ sig (Elt Ideal))

/-- What the last line finds for one block, in the reals. -/
structure RefIn (D : Lane) (kg : ℕ) (gs : ℝ) (b : ℕ → ℝ) (g : Fin 675) (l : Fin 128) : Prop where
  le : kg ≤ 40
  nz : ∀ k < kg, ∀ p < 256, 1 - (D.own k).al p ≠ 0
  live : ∀ k : Fin 40, tv7 V (ix2 g k) = BitVec.ofBool (decide (k.val < kg))
  gsv : tv13 V (ix4 g 0 0 0) = (gs : EReal)
  bg : ∀ c : Fin 3, tv10 V (ix4 g c 0 0) = (b c.val : EReal)
  row0 : ∀ k : Fin 40, k.val < kg → tv17 V (ix4 g k 0 l) = (D.prm 0 k.val : EReal)
  row1 : ∀ k : Fin 40, k.val < kg → tv20 V (ix4 g k 0 l) = (D.prm 1 k.val : EReal)
  row2 : ∀ k : Fin 40, k.val < kg → tv23 V (ix4 g k 0 l) = (D.prm 2 k.val : EReal)
  row3 : ∀ k : Fin 40, k.val < kg → tv26 V (ix4 g k 0 l) = (D.prm 3 k.val : EReal)
  row4 : ∀ k : Fin 40, k.val < kg → tv29 V (ix4 g k 0 l) = (D.prm 4 k.val : EReal)
  row5 : ∀ k : Fin 40, k.val < kg → tv32 V (ix4 g k 0 l) = (D.prm 5 k.val : EReal)
  col : ∀ k : Fin 40, k.val < kg → ∀ c : Fin 3, tv46 V (ix5 g k c 0 l) = (D.col k.val c.val : EReal)
  gr : ∀ (c : Fin 3) (p : Fin 256), tv38_0 V (ix4 g c p l) = (D.g c.val p.val : EReal)
  ft : ∀ p : Fin 256, tv47 V (ix3 g p l) = (D.ft p.val : EReal)
  px : ∀ p : Fin 256, tv65 V (ix3 g p l) = ((D.x0 + (((p.val / 16 : ℕ) : ℝ) + 1 / 2) : ℝ) : EReal)
  py : ∀ p : Fin 256, tv73 V (ix3 g p l) = ((D.y0 + (((p.val % 16 : ℕ) : ℝ) + 1 / 2) : ℝ) : EReal)

namespace RefIn

variable {V} {D : Lane} {kg : ℕ} {gs : ℝ} {b : ℕ → ℝ} {g : Fin 675} {l : Fin 128} (H : RefIn V D kg gs b g l)
include H

theorem dx {k : Fin 40} (hk : k.val < kg) (p : Fin 256) : tv77 V (ix4 g k p l) = ((D.own k.val).dx (p.val / 16) : EReal) := by
  rw [q_tv77, q_tv75, q_tv76, q_tv74, H.row0 k hk, H.px p, ← EReal.coe_sub]; rfl

theorem dy {k : Fin 40} (hk : k.val < kg) (p : Fin 256) : tv81 V (ix4 g k p l) = ((D.own k.val).dy (p.val % 16) : EReal) := by
  rw [q_tv81, q_tv79, q_tv80, q_tv78, H.row1 k hk, H.py p, ← EReal.coe_sub]; rfl

theorem vis {k : Fin 40} (hk : k.val < kg) (p : Fin 256) : tv96 V (ix4 g k p l) = ((D.own k.val).vis p.val : EReal) := by
  simp only [q_tv96, q_tv95, q_tv94, q_tv90, q_tv89, q_tcst_2, half_f32, q_tv88, q_tv84, q_tv83, q_tv82, H.row2 k hk, H.dx hk p,
    q_tv87, q_tv86, q_tv85, H.row4 k hk, H.dy hk p, q_tv93, q_tv92, q_tv91, H.row3 k hk, ← EReal.coe_mul, ← EReal.coe_add, ← EReal.coe_neg]
  rfl

theorem al (k : Fin 40) (p : Fin 256) : tv102 V (ix4 g k p l) = (D.A kg k.val p.val : EReal) := by
  rw [q_tv102, q_tv98, q_tv97, H.live k]
  by_cases hk : k.val < kg
  · rw [D.A_of_lt kg hk, decide_eq_true hk, q_tv100, q_tv99, H.row5 k hk, H.vis hk, ← EReal.coe_mul]; rfl
  · rw [D.A_of_le kg (by omega), decide_eq_false hk, q_tv101, q_tcst_3, zero_f32]; rfl

theorem om (k : Fin 40) (p : Fin 256) : tv104 V (ix4 g k p l) = ((1 - D.A kg k.val p.val : ℝ) : EReal) := by
  rw [q_tv104, q_tv103, q_tcst_4, one_f32, H.al, ← EReal.coe_sub]

theorem nz' (k p : ℕ) (hp : p < 256) : 1 - D.A kg k p ≠ 0 := by
  by_cases hk : k < kg
  · rw [D.A_of_lt kg hk]; exact H.nz k hk p hp
  · rw [D.A_of_le kg (by omega), sub_zero]; exact one_ne_zero

theorem one_past (p j : ℕ) (hj : 40 ≤ j) : 1 - D.A kg j p = 1 := by rw [D.A_of_le kg (le_trans H.le hj), sub_zero]

theorem prod1 (k : Fin 40) (p : Fin 256) : tv110 V (ix4 g k p l) = ((∏ j ∈ range (1 + 1), (1 - D.A kg (k.val + j) p.val) : ℝ) : EReal) :=
  (q_tv110 V g k p l).trans (pcomb (f := fun j => 1 - D.A kg j p.val) (H.one_past p.val) 1 39 k.val rfl (by rw [prod_range_one]; exact H.om k p)
    (fun h => by rw [q_tv109, dif_pos h, q_tv106, prod_range_one]; exact H.om ⟨1 + k.val, by omega⟩ p)
    (fun h => by rw [q_tv109, dif_neg h]; exact (congrArg (fun z : Fin 1 => tv108 V (ix4 g z p l)) (Subsingleton.elim _ 0)).trans (by rw [q_tv108, q_tcst_5, one_f32])))

theorem prod2 (k : Fin 40) (p : Fin 256) : tv115 V (ix4 g k p l) = ((∏ j ∈ range (2 + 2), (1 - D.A kg (k.val + j) p.val) : ℝ) : EReal) :=
  (q_tv115 V g k p l).trans (pcomb (f := fun j => 1 - D.A kg j p.val) (H.one_past p.val) 2 38 k.val rfl (H.prod1 k p)
    (fun h => by rw [q_tv114, dif_pos h, q_tv111]; exact H.prod1 ⟨2 + k.val, by omega⟩ p)
    (fun h => by rw [q_tv114, dif_neg h, q_tv113, q_tcst_6, one_f32]))

theorem prod4 (k : Fin 40) (p : Fin 256) : tv120 V (ix4 g k p l) = ((∏ j ∈ range (4 + 4), (1 - D.A kg (k.val + j) p.val) : ℝ) : EReal) :=
  (q_tv120 V g k p l).trans (pcomb (f := fun j => 1 - D.A kg j p.val) (H.one_past p.val) 4 36 k.val rfl (H.prod2 k p)
    (fun h => by rw [q_tv119, dif_pos h, q_tv116]; exact H.prod2 ⟨4 + k.val, by omega⟩ p)
    (fun h => by rw [q_tv119, dif_neg h, q_tv118, q_tcst_7, one_f32]))

theorem prod8 (k : Fin 40) (p : Fin 256) : tv125 V (ix4 g k p l) = ((∏ j ∈ range (8 + 8), (1 - D.A kg (k.val + j) p.val) : ℝ) : EReal) :=
  (q_tv125 V g k p l).trans (pcomb (f := fun j => 1 - D.A kg j p.val) (H.one_past p.val) 8 32 k.val rfl (H.prod4 k p)
    (fun h => by rw [q_tv124, dif_pos h, q_tv121]; exact H.prod4 ⟨8 + k.val, by omega⟩ p)
    (fun h => by rw [q_tv124, dif_neg h, q_tv123, q_tcst_8, one_f32]))

theorem prod16 (k : Fin 40) (p : Fin 256) : tv130 V (ix4 g k p l) = ((∏ j ∈ range (16 + 16), (1 - D.A kg (k.val + j) p.val) : ℝ) : EReal) :=
  (q_tv130 V g k p l).trans (pcomb (f := fun j => 1 - D.A kg j p.val) (H.one_past p.val) 16 24 k.val rfl (H.prod8 k p)
    (fun h => by rw [q_tv129, dif_pos h, q_tv126]; exact H.prod8 ⟨16 + k.val, by omega⟩ p)
    (fun h => by rw [q_tv129, dif_neg h, q_tv128, q_tcst_9, one_f32]))

theorem prod32 (k : Fin 40) (p : Fin 256) : tv135 V (ix4 g k p l) = ((∏ j ∈ range (32 + 32), (1 - D.A kg (k.val + j) p.val) : ℝ) : EReal) :=
  (q_tv135 V g k p l).trans (pcomb (f := fun j => 1 - D.A kg j p.val) (H.one_past p.val) 32 8 k.val rfl (H.prod16 k p)
    (fun h => by rw [q_tv134, dif_pos h, q_tv131]; exact H.prod16 ⟨32 + k.val, by omega⟩ p)
    (fun h => by rw [q_tv134, dif_neg h, q_tv133, q_tcst_10, one_f32]))

theorem T (k : Fin 40) (p : Fin 256) : tv137 V (ix4 g k p l) = (D.T kg k.val p.val : EReal) := by
  rw [q_tv137, q_tv136, q_tv105, H.ft, H.prod32, div_real _ _ (prod_ne_zero_iff.mpr fun j _ => H.nz' _ _ p.isLt), ← div_eq_mul_inv]; rfl

theorem W (k : Fin 40) (p : Fin 256) : tv138 V (ix4 g k p l) = (D.W kg k.val p.val : EReal) := by
  rw [q_tv138, H.al, H.T, ← EReal.coe_mul]; rfl

theorem B (k : Fin 40) (c : Fin 3) (p : Fin 256) : tv150 V (ix5 g k c p l) = (D.B kg b c.val k.val p.val : EReal) := by
  rw [q_tv150]
  unfold Lane.B
  by_cases hk : k.val < 39
  · rw [dif_pos hk, if_pos hk, q_tv144, q_tv142, q_tv140, q_tv139, H.W, q_tv143, q_tv141]
    have e : 1 + k.val = k.val + 1 := Nat.add_comm _ _
    by_cases h : 1 + k.val < kg
    · rw [H.col ⟨1 + k.val, by omega⟩ h, ← EReal.coe_mul]
      simp only [e]
    · have w0 : D.W kg (1 + k.val) p.val = 0 := by unfold Lane.W; rw [D.A_of_le kg (by omega), zero_mul]
      have w1 : D.W kg (k.val + 1) p.val = 0 := e ▸ w0
      rw [w1, zero_mul]
      show ((D.W kg (1 + k.val) p.val : ℝ) : EReal) * _ = _
      rw [w0, EReal.coe_zero, zero_mul]
  · rw [dif_neg hk, if_neg hk, if_pos (by omega)]
    refine (congrArg (fun z : Fin 1 => tv149 V (ix5 g z c p l)) (Subsingleton.elim _ 0)).trans ?_
    show tv149 V (ix5 g 0 c p l) = _
    rw [q_tv149, q_tv148, q_tv146, q_tv145, q_tv147, H.ft, H.bg, ← EReal.coe_mul]

theorem zero_past (c p j : ℕ) (hj : 40 ≤ j) : D.B kg b c j p = 0 := by
  unfold Lane.B; rw [if_neg (by omega), if_neg (by omega)]

theorem sum1 (k : Fin 40) (c : Fin 3) (p : Fin 256) : tv155 V (ix5 g k c p l) = ((∑ j ∈ range (1 + 1), D.B kg b c.val (k.val + j) p.val : ℝ) : EReal) :=
  (q_tv155 V g k c p l).trans (scomb (f := fun j => D.B kg b c.val j p.val) (H.zero_past c.val p.val) 1 39 k.val rfl (by rw [sum_range_one]; exact H.B k c p)
    (fun h => by rw [q_tv154, dif_pos h, q_tv151, sum_range_one]; exact H.B ⟨1 + k.val, by omega⟩ c p)
    (fun h => by rw [q_tv154, dif_neg h]; exact (congrArg (fun z : Fin 1 => tv153 V (ix5 g z c p l)) (Subsingleton.elim _ 0)).trans (by rw [q_tv153, q_tcst_11, zero_f32])))

theorem sum2 (k : Fin 40) (c : Fin 3) (p : Fin 256) : tv160 V (ix5 g k c p l) = ((∑ j ∈ range (2 + 2), D.B kg b c.val (k.val + j) p.val : ℝ) : EReal) :=
  (q_tv160 V g k c p l).trans (scomb (f := fun j => D.B kg b c.val j p.val) (H.zero_past c.val p.val) 2 38 k.val rfl (H.sum1 k c p)
    (fun h => by rw [q_tv159, dif_pos h, q_tv156]; exact H.sum1 ⟨2 + k.val, by omega⟩ c p)
    (fun h => by rw [q_tv159, dif_neg h, q_tv158, q_tcst_12, zero_f32]))

theorem sum4 (k : Fin 40) (c : Fin 3) (p : Fin 256) : tv165 V (ix5 g k c p l) = ((∑ j ∈ range (4 + 4), D.B kg b c.val (k.val + j) p.val : ℝ) : EReal) :=
  (q_tv165 V g k c p l).trans (scomb (f := fun j => D.B kg b c.val j p.val) (H.zero_past c.val p.val) 4 36 k.val rfl (H.sum2 k c p)
    (fun h => by rw [q_tv164, dif_pos h, q_tv161]; exact H.sum2 ⟨4 + k.val, by omega⟩ c p)
    (fun h => by rw [q_tv164, dif_neg h, q_tv163, q_tcst_13, zero_f32]))

theorem sum8 (k : Fin 40) (c : Fin 3) (p : Fin 256) : tv170 V (ix5 g k c p l) = ((∑ j ∈ range (8 + 8), D.B kg b c.val (k.val + j) p.val : ℝ) : EReal) :=
  (q_tv170 V g k c p l).trans (scomb (f := fun j => D.B kg b c.val j p.val) (H.zero_past c.val p.val) 8 32 k.val rfl (H.sum4 k c p)
    (fun h => by rw [q_tv169, dif_pos h, q_tv166]; exact H.sum4 ⟨8 + k.val, by omega⟩ c p)
    (fun h => by rw [q_tv169, dif_neg h, q_tv168, q_tcst_14, zero_f32]))

theorem sum16 (k : Fin 40) (c : Fin 3) (p : Fin 256) : tv175 V (ix5 g k c p l) = ((∑ j ∈ range (16 + 16), D.B kg b c.val (k.val + j) p.val : ℝ) : EReal) :=
  (q_tv175 V g k c p l).trans (scomb (f := fun j => D.B kg b c.val j p.val) (H.zero_past c.val p.val) 16 24 k.val rfl (H.sum8 k c p)
    (fun h => by rw [q_tv174, dif_pos h, q_tv171]; exact H.sum8 ⟨16 + k.val, by omega⟩ c p)
    (fun h => by rw [q_tv174, dif_neg h, q_tv173, q_tcst_15, zero_f32]))

theorem sum32 (k : Fin 40) (c : Fin 3) (p : Fin 256) : tv180 V (ix5 g k c p l) = ((∑ j ∈ range (32 + 32), D.B kg b c.val (k.val + j) p.val : ℝ) : EReal) :=
  (q_tv180 V g k c p l).trans (scomb (f := fun j => D.B kg b c.val j p.val) (H.zero_past c.val p.val) 32 8 k.val rfl (H.sum16 k c p)
    (fun h => by rw [q_tv179, dif_pos h, q_tv176]; exact H.sum16 ⟨32 + k.val, by omega⟩ c p)
    (fun h => by rw [q_tv179, dif_neg h, q_tv178, q_tcst_16, zero_f32]))

theorem S (k : Fin 40) (c : Fin 3) (p : Fin 256) : tv180 V (ix5 g k c p l) = (D.S kg b c.val k.val p.val : EReal) := H.sum32 k c p

theorem term {k : Fin 40} (hk : k.val < kg) (c : Fin 3) (p : Fin 256) : tv190 V (ix5 g k c p l)
    = ((D.g c.val p.val * gs * (D.T kg k.val p.val * D.col k.val c.val - D.S kg b c.val k.val p.val / (1 - D.A kg k.val p.val)) : ℝ) : EReal) := by
  rw [q_tv190, q_tv189, q_tv41, q_tv40, q_tv39, H.gr, H.gsv, q_tv188, q_tv184, q_tv182, q_tv181, H.T, q_tv183, H.col k hk, q_tv187, q_tv186, q_tv185,
    H.om, H.S, div_real _ _ (H.nz' _ _ p.isLt), ← div_eq_mul_inv]
  simp only [← EReal.coe_mul, ← EReal.coe_sub]

theorem L {k : Fin 40} (hk : k.val < kg) (p : Fin 256) : tv191 V (ix4 g k p l) = (D.L kg gs b k.val p.val : EReal) := by
  rw [q_tv191, q_tcst_17, zero_f32, Fin.sum_univ_three, H.term hk, H.term hk, H.term hk, EReal.coe_zero, zero_add]
  simp only [← EReal.coe_add]
  rfl

theorem Z {k : Fin 40} (hk : k.val < kg) (p : Fin 256) : tv193 V (ix4 g k p l) = (D.Z kg gs b k.val p.val : EReal) := by
  rw [q_tv193, q_tv192, H.al, H.L hk, ← EReal.coe_neg, ← EReal.coe_mul]; rfl

/-- A sum over the pixels of a result's summand. -/
theorem sums {f : Fin 256 → EReal} {n k : ℕ} (hf : ∀ p, f p = (D.summand kg gs b k n p.val : EReal)) :
    Ideal.ofBits .f32 0x00000000#32 + ∑ p, f p = ((∑ p ∈ range 256, D.summand kg gs b k n p : ℝ) : EReal) := by
  rw [zero_f32, EReal.coe_zero, zero_add, sum_congr rfl fun p _ => hf p, csum (fun p => D.summand kg gs b k n p)]

theorem r0 {k : Fin 40} (hk : k.val < kg) : tv224 V (ix3 g k l) = ((∑ p ∈ range 256, D.summand kg gs b k.val 0 p : ℝ) : EReal) := by
  rw [q_tv224, q_tcst_25]
  refine H.sums fun p => ?_
  rw [q_tv223, H.Z hk, q_tv222, q_tv219, q_tv218, H.row2 k hk, H.dx hk, q_tv221, q_tv220, H.row3 k hk, H.dy hk]
  simp only [← EReal.coe_add, ← EReal.coe_mul]; rfl

theorem r1 {k : Fin 40} (hk : k.val < kg) : tv231 V (ix3 g k l) = ((∑ p ∈ range 256, D.summand kg gs b k.val 1 p : ℝ) : EReal) := by
  rw [q_tv231, q_tcst_26]
  refine H.sums fun p => ?_
  rw [q_tv230, H.Z hk, q_tv229, q_tv226, q_tv225, H.row3 k hk, H.dx hk, q_tv228, q_tv227, H.row4 k hk, H.dy hk]
  simp only [← EReal.coe_add, ← EReal.coe_mul]; rfl

theorem r2 {k : Fin 40} (hk : k.val < kg) : tv195 V (ix3 g k l) = ((∑ p ∈ range 256, D.summand kg gs b k.val 2 p : ℝ) : EReal) := by
  rw [q_tv195, q_tcst_18]
  refine H.sums fun p => ?_
  rw [q_tv194, H.vis hk, H.L hk, ← EReal.coe_mul]; rfl

theorem r3 {k : Fin 40} (hk : k.val < kg) : tv205 V (ix3 g k l) = ((∑ p ∈ range 256, D.summand kg gs b k.val 3 p : ℝ) : EReal) := by
  rw [q_tv205, q_tcst_21]
  refine H.sums fun p => ?_
  rw [q_tv204, q_tv203, q_tv202, q_tv201, q_tcst_20, half_f32, H.Z hk, H.dx hk]
  simp only [← EReal.coe_mul]; rfl

theorem r4 {k : Fin 40} (hk : k.val < kg) : tv208 V (ix3 g k l) = ((∑ p ∈ range 256, D.summand kg gs b k.val 4 p : ℝ) : EReal) := by
  rw [q_tv208, q_tcst_22]
  refine H.sums fun p => ?_
  rw [q_tv207, q_tv206, H.Z hk, H.dx hk, H.dy hk]
  simp only [← EReal.coe_mul]; rfl

theorem r5 {k : Fin 40} (hk : k.val < kg) : tv213 V (ix3 g k l) = ((∑ p ∈ range 256, D.summand kg gs b k.val 5 p : ℝ) : EReal) := by
  rw [q_tv213, q_tcst_24]
  refine H.sums fun p => ?_
  rw [q_tv212, q_tv211, q_tv210, q_tv209, q_tcst_23, half_f32, H.Z hk, H.dy hk]
  simp only [← EReal.coe_mul]; rfl

theorem r6 {k : Fin 40} (hk : k.val < kg) (c : Fin 3) :
    tv200 V (ix4 g k c l) = ((∑ p ∈ range 256, D.summand kg gs b k.val (c.val + 6) p : ℝ) : EReal) := by
  rw [q_tv200, q_tcst_19]
  refine H.sums fun p => ?_
  rw [q_tv199, q_tv197, q_tv196, H.W, q_tv198, q_tv41, q_tv40, q_tv39, H.gr, H.gsv]
  simp only [← EReal.coe_mul]; rfl

/-- The result. -/
theorem out {k : Fin 40} (hk : k.val < kg) (q : Fin 9) :
    tv237 V (ix4 g q k l) = ((∑ p ∈ range 256, D.summand kg gs b k.val q.val p : ℝ) : EReal) := by
  rw [q_tv237]
  fin_cases q
  · exact (q_tv234 V g 0 k l).trans ((q_tv232 V g k l).trans (H.r0 hk))
  · exact (q_tv234 V g 1 k l).trans ((q_tv233 V g k l).trans (H.r1 hk))
  · exact (q_tv235 V g k l).trans (H.r2 hk)
  · exact (q_tv217 V g 0 k l).trans ((q_tv214 V g k l).trans (H.r3 hk))
  · exact (q_tv217 V g 1 k l).trans ((q_tv215 V g k l).trans (H.r4 hk))
  · exact (q_tv217 V g 2 k l).trans ((q_tv216 V g k l).trans (H.r5 hk))
  · exact (q_tv236 V g 0 k l).trans (H.r6 hk 0)
  · exact (q_tv236 V g 1 k l).trans (H.r6 hk 1)
  · exact (q_tv236 V g 2 k l).trans (H.r6 hk 2)

end RefIn

end Cert.ReferenceIdeal.Val
-- ==== Proof.RefEqsH.lean ====
/- The buffers of the reference's first host line, read element by element: each buffer at an index is its operation of the
   buffers it reads, at their indices. -/
module

public import proofs.«01_k».proof.Proof.Gen.ReferenceIdeal.Frame
public import proofs.«01_k».proof.Proof.Ssa
public import proofs.«01_k».proof.Proof.RefLines
public import proofs.«01_k».proof.Proof.RefOps
public import Idealize.ShloMosaic.Lib.Pointwise

@[expose] public section

set_option maxRecDepth 65536
set_option maxHeartbeats 4000000

noncomputable section

namespace Cert.ReferenceIdeal.Val

open Cert.ReferenceIdeal Cert.ReferenceIdeal.Gen Cert.Splat
open Idealize.ShloMosaic Idealize.ShloMosaic.TcCoe Idealize.ShloMosaic.Tactic

variable (V : Valuation τ sig (Elt Ideal))

theorem e_hv0 : hv0 V = (iotaInDim S40 32 0) :=
  onceHead.nullary V 0 rfl rfl

theorem q_hv1 (u : Fin 45) (k : Fin 16) : hv1 V (ix2 u k) = harg0 V (ix1 ⟨u.val * 16 + k.val, by omega⟩) :=
  (congrFun (onceHead.reshape V 1 rfl rfl (.of_not_mem (by decide +kernel))) _).trans (p0 _ u k)

theorem q_hv2 (u : Fin 45) (x : Fin 15) : hv2 V (ix2 u x) = hv1 V (ix2 u ⟨x.val, by omega⟩) :=
  (congrFun (onceHead.unary V 2 rfl rfl (.of_get 1 onceHead.nodup rfl (by decide))) _).trans (p1 _ u x)

theorem q_hv3 (g : Fin 675) : hv3 V (ix2 g 0) = hv2 V (ix2 ⟨g.val / 15, by omega⟩ ⟨g.val % 15, by omega⟩) :=
  (congrFun (onceHead.reshape V 3 rfl rfl (.of_get 2 onceHead.nodup rfl (by decide))) _).trans (p2 _ g)

theorem q_hv4 (k : Fin 40) : hv4 V (ix2 0 k) = hv0 V (ix1 k) :=
  (congrFun (onceHead.unary V 4 rfl rfl (.of_get 0 onceHead.nodup rfl (by decide))) _).trans (p3 _ k)

theorem q_hv5 (g : Fin 675) (k : Fin 40) : hv5 V (ix2 g k) = hv4 V (ix2 0 k) :=
  (congrFun (onceHead.unary V 5 rfl rfl (.of_get 4 onceHead.nodup rfl (by decide))) _).trans (p4 _ g k)

theorem q_hv6 (g : Fin 675) (k : Fin 40) : hv6 V (ix2 g k) = hv3 V (ix2 g 0) :=
  (congrFun (onceHead.unary V 6 rfl rfl (.of_get 3 onceHead.nodup rfl (by decide))) _).trans (p5 _ g k)

theorem q_hv7 (g : Fin 675) (k : Fin 40) : hv7 V (ix2 g k) = BitVec.ofBool (BitVec.slt (hv5 V (ix2 g k)) (hv6 V (ix2 g k))) :=
  (congrFun (onceHead.binary V 7 rfl rfl (.of_get 5 onceHead.nodup rfl (by decide)) (.of_get 6 onceHead.nodup rfl (by decide))) _).trans (p6 _ _ g k)

theorem q_hv8 (q : Fin 9) (c : Fin 3) : hv8 V (ix3 q 0 c) = harg1 V (ix2 q c) :=
  (congrFun (onceHead.unary V 8 rfl rfl (.of_not_mem (by decide +kernel))) _).trans (p7 _ q c)

theorem q_hv9 (q : Fin 9) (v : Fin 75) (c : Fin 3) : hv9 V (ix3 q v c) = hv8 V (ix3 q 0 c) :=
  (congrFun (onceHead.unary V 9 rfl rfl (.of_get 8 onceHead.nodup rfl (by decide))) _).trans (p8 _ q v c)

theorem q_hv10 (g : Fin 675) (c : Fin 3) : hv10 V (ix4 g c 0 0) = hv9 V (ix3 ⟨g.val / 75, by omega⟩ ⟨g.val % 75, by omega⟩ c) :=
  (congrFun (onceHead.reshape V 10 rfl rfl (.of_get 9 onceHead.nodup rfl (by decide))) _).trans (p9 _ g c)

theorem q_hv11 (q : Fin 9) : hv11 V (ix2 q 0) = harg2 V (ix1 q) :=
  (congrFun (onceHead.unary V 11 rfl rfl (.of_not_mem (by decide +kernel))) _).trans (p10 _ q)

theorem q_hv12 (q : Fin 9) (v : Fin 75) : hv12 V (ix2 q v) = hv11 V (ix2 q 0) :=
  (congrFun (onceHead.unary V 12 rfl rfl (.of_get 11 onceHead.nodup rfl (by decide))) _).trans (p11 _ q v)

theorem q_hv13 (g : Fin 675) : hv13 V (ix4 g 0 0 0) = hv12 V (ix2 ⟨g.val / 75, by omega⟩ ⟨g.val % 75, by omega⟩) :=
  (congrFun (onceHead.reshape V 13 rfl rfl (.of_get 12 onceHead.nodup rfl (by decide))) _).trans (p12 _ g)

theorem q_hv14 (g : Fin 675) (k : Fin 8) (k' : Fin 40) (l : Fin 128) : hv14 V (ix4 g k k' l) = Ideal.ofBits .f32 (harg3 V (ix4 g k k' l)) :=
  (congrFun (onceHead.unary V 14 rfl rfl (.of_not_mem (by decide +kernel))) _).trans (p13 _ g k k' l)

theorem q_hv15 (g : Fin 675) (k : Fin 40) (l : Fin 128) : hv15 V (ix4 g 0 k l) = hv14 V (ix4 g 0 k l) :=
  (congrFun (onceHead.unary V 15 rfl rfl (.of_get 14 onceHead.nodup rfl (by decide))) _).trans (p14 _ g k l)

theorem q_hv16 (g : Fin 675) (k : Fin 40) (l : Fin 128) : hv16 V (ix3 g k l) = hv15 V (ix4 g 0 k l) :=
  (congrFun (onceHead.reshape V 16 rfl rfl (.of_get 15 onceHead.nodup rfl (by decide))) _).trans (p15 _ g k l)

theorem q_hv17 (g : Fin 675) (k : Fin 40) (l : Fin 128) : hv17 V (ix4 g k 0 l) = hv16 V (ix3 g k l) :=
  (congrFun (onceHead.unary V 17 rfl rfl (.of_get 16 onceHead.nodup rfl (by decide))) _).trans (p16 _ g k l)

theorem q_hv18 (g : Fin 675) (k : Fin 40) (l : Fin 128) : hv18 V (ix4 g 0 k l) = hv14 V (ix4 g 1 k l) :=
  (congrFun (onceHead.unary V 18 rfl rfl (.of_get 14 onceHead.nodup rfl (by decide))) _).trans (p17 _ g k l)

theorem q_hv19 (g : Fin 675) (k : Fin 40) (l : Fin 128) : hv19 V (ix3 g k l) = hv18 V (ix4 g 0 k l) :=
  (congrFun (onceHead.reshape V 19 rfl rfl (.of_get 18 onceHead.nodup rfl (by decide))) _).trans (p15 _ g k l)

theorem q_hv20 (g : Fin 675) (k : Fin 40) (l : Fin 128) : hv20 V (ix4 g k 0 l) = hv19 V (ix3 g k l) :=
  (congrFun (onceHead.unary V 20 rfl rfl (.of_get 19 onceHead.nodup rfl (by decide))) _).trans (p16 _ g k l)

theorem q_hv21 (g : Fin 675) (k : Fin 40) (l : Fin 128) : hv21 V (ix4 g 0 k l) = hv14 V (ix4 g 2 k l) :=
  (congrFun (onceHead.unary V 21 rfl rfl (.of_get 14 onceHead.nodup rfl (by decide))) _).trans (p18 _ g k l)

theorem q_hv22 (g : Fin 675) (k : Fin 40) (l : Fin 128) : hv22 V (ix3 g k l) = hv21 V (ix4 g 0 k l) :=
  (congrFun (onceHead.reshape V 22 rfl rfl (.of_get 21 onceHead.nodup rfl (by decide))) _).trans (p15 _ g k l)

theorem q_hv23 (g : Fin 675) (k : Fin 40) (l : Fin 128) : hv23 V (ix4 g k 0 l) = hv22 V (ix3 g k l) :=
  (congrFun (onceHead.unary V 23 rfl rfl (.of_get 22 onceHead.nodup rfl (by decide))) _).trans (p16 _ g k l)

theorem q_hv24 (g : Fin 675) (k : Fin 40) (l : Fin 128) : hv24 V (ix4 g 0 k l) = hv14 V (ix4 g 3 k l) :=
  (congrFun (onceHead.unary V 24 rfl rfl (.of_get 14 onceHead.nodup rfl (by decide))) _).trans (p19 _ g k l)

theorem q_hv25 (g : Fin 675) (k : Fin 40) (l : Fin 128) : hv25 V (ix3 g k l) = hv24 V (ix4 g 0 k l) :=
  (congrFun (onceHead.reshape V 25 rfl rfl (.of_get 24 onceHead.nodup rfl (by decide))) _).trans (p15 _ g k l)

theorem q_hv26 (g : Fin 675) (k : Fin 40) (l : Fin 128) : hv26 V (ix4 g k 0 l) = hv25 V (ix3 g k l) :=
  (congrFun (onceHead.unary V 26 rfl rfl (.of_get 25 onceHead.nodup rfl (by decide))) _).trans (p16 _ g k l)

theorem q_hv27 (g : Fin 675) (k : Fin 40) (l : Fin 128) : hv27 V (ix4 g 0 k l) = hv14 V (ix4 g 4 k l) :=
  (congrFun (onceHead.unary V 27 rfl rfl (.of_get 14 onceHead.nodup rfl (by decide))) _).trans (p20 _ g k l)

theorem q_hv28 (g : Fin 675) (k : Fin 40) (l : Fin 128) : hv28 V (ix3 g k l) = hv27 V (ix4 g 0 k l) :=
  (congrFun (onceHead.reshape V 28 rfl rfl (.of_get 27 onceHead.nodup rfl (by decide))) _).trans (p15 _ g k l)

theorem q_hv29 (g : Fin 675) (k : Fin 40) (l : Fin 128) : hv29 V (ix4 g k 0 l) = hv28 V (ix3 g k l) :=
  (congrFun (onceHead.unary V 29 rfl rfl (.of_get 28 onceHead.nodup rfl (by decide))) _).trans (p16 _ g k l)

theorem q_hv30 (g : Fin 675) (k : Fin 40) (l : Fin 128) : hv30 V (ix4 g 0 k l) = hv14 V (ix4 g 5 k l) :=
  (congrFun (onceHead.unary V 30 rfl rfl (.of_get 14 onceHead.nodup rfl (by decide))) _).trans (p21 _ g k l)

theorem q_hv31 (g : Fin 675) (k : Fin 40) (l : Fin 128) : hv31 V (ix3 g k l) = hv30 V (ix4 g 0 k l) :=
  (congrFun (onceHead.reshape V 31 rfl rfl (.of_get 30 onceHead.nodup rfl (by decide))) _).trans (p15 _ g k l)

theorem q_hv32 (g : Fin 675) (k : Fin 40) (l : Fin 128) : hv32 V (ix4 g k 0 l) = hv31 V (ix3 g k l) :=
  (congrFun (onceHead.unary V 32 rfl rfl (.of_get 31 onceHead.nodup rfl (by decide))) _).trans (p16 _ g k l)

theorem q_hv33 (g : Fin 675) (k : Fin 40) (l : Fin 128) : hv33 V (ix4 g 0 k l) = hv14 V (ix4 g 6 k l) :=
  (congrFun (onceHead.unary V 33 rfl rfl (.of_get 14 onceHead.nodup rfl (by decide))) _).trans (p22 _ g k l)

theorem q_hv34 (g : Fin 675) (k : Fin 40) (l : Fin 128) : hv34 V (ix3 g k l) = hv33 V (ix4 g 0 k l) :=
  (congrFun (onceHead.reshape V 34 rfl rfl (.of_get 33 onceHead.nodup rfl (by decide))) _).trans (p15 _ g k l)

theorem q_hv35 (g : Fin 675) (k : Fin 40) (l : Fin 128) : hv35 V (ix4 g k 0 l) = hv34 V (ix3 g k l) :=
  (congrFun (onceHead.unary V 35 rfl rfl (.of_get 34 onceHead.nodup rfl (by decide))) _).trans (p16 _ g k l)

theorem q_hv36 (g : Fin 675) (k : Fin 40) (l : Fin 128) : hv36 V (ix4 g 0 k l) = harg3 V (ix4 g 7 k l) :=
  (congrFun (onceHead.unary V 36 rfl rfl (.of_not_mem (by decide +kernel))) _).trans (p23 _ g k l)

theorem q_hv37 (g : Fin 675) (k : Fin 40) (l : Fin 128) : hv37 V (ix3 g k l) = hv36 V (ix4 g 0 k l) :=
  (congrFun (onceHead.reshape V 37 rfl rfl (.of_get 36 onceHead.nodup rfl (by decide))) _).trans (p24 _ g k l)

end Cert.ReferenceIdeal.Val
end
-- ==== Proof.RefRun.lean ====
/- The reference's result from its arguments' words: what the last line finds for a block, and the nine gradients it leaves. -/
module

public import proofs.«01_k».proof.Proof.RefLaunch
public import proofs.«01_k».proof.Proof.RefVal
public import proofs.«01_k».proof.Proof.RefEqsH
public import proofs.«01_k».proof.Proof.At
public import proofs.«01_k».proof.Proof.Loop

@[expose] public section

set_option maxRecDepth 65536
set_option maxHeartbeats 4000000

noncomputable section

namespace Cert.ReferenceIdeal.Val

open Cert.KernelIdeal.Run (half_f32)
open Cert.ReferenceIdeal Cert.ReferenceIdeal.Gen Cert.Splat
open Idealize.ShloMosaic Idealize.ShloMosaic.TcCoe Idealize.ShloMosaic.Tactic Idealize.SL.Sem
open Finset

section Pixels

variable (V : Valuation τ sig (Elt Ideal))

theorem col_of (p : Fin 256) : (tv49 V (ix1 p)).toInt = ((p.val / 16 : ℕ) : ℤ) := by
  simp only [e_tv49, e_tcall0_v13, e_tcall0_v12, e_tcall0_c_0, e_tcall0_v11, e_tcall0_v10, e_tcall0_v9, e_tcall0_c, e_tcall0_v8,
    e_tcall0_v7, e_tcall0_v6, e_tcall0_v5, e_tcall0_v4, e_tcall0_v3, e_tcall0_v2, e_tcall0_v1, e_tcall0_v0, e_tc, e_tv48]
  revert p
  decide +kernel

theorem row_of (p : Fin 256) : (tv54 V (ix1 p)).toInt = ((p.val % 16 : ℕ) : ℤ) := by
  simp only [e_tv54, e_tcall1_v14, e_tcall1_v13, e_tcall1_v12, e_tcall1_v11, e_tcall1_v10, e_tcall1_v9, e_tcall1_c_3, e_tcall1_v8,
    e_tcall1_v7, e_tcall1_c_2, e_tcall1_v6, e_tcall1_v5, e_tcall1_c_1, e_tcall1_v4, e_tcall1_v3, e_tcall1_v2, e_tcall1_c_0,
    e_tcall1_v1, e_tcall1_c, e_tcall1_v0, e_tc_0, e_tv53]
  revert p
  decide +kernel

theorem half_col (p : Fin 256) : tv52 V (ix1 p) = ((((p.val / 16 : ℕ) : ℝ) + 1 / 2 : ℝ) : EReal) := by
  rw [q_tv52, q_tv50, q_tv51, q_tcst, half_f32, col_of, ← EReal.coe_add, Int.cast_natCast]

theorem half_row (p : Fin 256) : tv57 V (ix1 p) = ((((p.val % 16 : ℕ) : ℝ) + 1 / 2 : ℝ) : EReal) := by
  rw [q_tv57, q_tv55, q_tv56, q_tcst_1, half_f32, row_of, ← EReal.coe_add, Int.cast_natCast]

end Pixels

variable (m : (ℓ : Loc nD τ sig) → Buf (Elt Ideal) ℓ) (c : Dev nD)

/-- The words of one block of the arguments. -/
abbrev AtR (D : Lane) (kg : ℕ) (gs b0 b1 b2 : ℝ) (t : Fin 675) (l : Fin 128) : Prop :=
  At D kg gs b0 b1 b2
    ((m ((c : Thread nD τ).loc main_arg0) : IVec S720 32) (ix1 ⟨t.val / 15 * 16 + t.val % 15, by omega⟩))
    ((m ((c : Thread nD τ).loc main_arg2) : FVec Ideal S9 .f32) (ix1 ⟨t.val / 75, by omega⟩))
    (fun j => (m ((c : Thread nD τ).loc main_arg1) : FVec Ideal S9x3 .f32) (ix2 ⟨t.val / 75, by omega⟩ j))
    (fun j k => (m ((c : Thread nD τ).loc main_arg3) : IVec S675x8x40x128 32) (ix4 t j k l))
    (fun j => (m ((c : Thread nD τ).loc main_arg4) : FVec Ideal S675x2x128 .f32) (ix3 t j l))
    (fun j w => (m ((c : Thread nD τ).loc main_arg5) : IVec S675x3x64x128 32) (ix4 t j w l))
    (fun p => (m ((c : Thread nD τ).loc main_arg6) : IVec S675x256x128 32) (ix3 t p l))

/-- The launch's memory, as the first line finds it. -/
abbrev M : Valuation τ sig (Elt Ideal) := fun b => m (c, b)

theorem tl (b : Ref sig .tc) (h : b ∉ tailW) (h' : ∀ w, Pipeline.arrRef spec0 w ≠ b) : Tl (W0 m c) b = Hd (M m c) b :=
  (onceTail.input (V := W0 m c) h).trans (W0_of_ne m c b h')

theorem hd (b : Ref sig .tc) (h : b ∉ headW) : Hd (M m c) b = m ((c : Thread nD τ).loc b) := onceHead.input (V := M m c) h

theorem harg3_eq : harg3 (M m c) = m ((c : Thread nD τ).loc main_arg3) := hd m c main_arg3 (by decide +kernel)

theorem word7 (g : Fin 675) (k : Fin 40) (l : Fin 128) :
    (Gen.V m c main_v37 : IVec S675x40x128 32) (ix3 g k l) = (m ((c : Thread nD τ).loc main_arg3) : IVec S675x8x40x128 32) (ix4 g 7 k l) := by
  have e : (Gen.V m c main_v37 : IVec S675x40x128 32) = hv37 (M m c) := rfl
  rw [e, q_hv37, q_hv36, harg3_eq]

theorem refIn {D : Lane} {kg : ℕ} {gs : ℝ} {b : ℕ → ℝ} {g : Fin 675} {l : Fin 128} (hle : kg ≤ 40)
    (hA : AtR m c D kg gs (b 0) (b 1) (b 2) g l) (hlt : Cert.KernelIdeal.Run.Lets D kg) : RefIn (W0 m c) D kg gs b g l where
  le := hle
  nz := fun k hk p hp => hlt k hk _ _ p hp
  live := fun k => by
    have e : tv7 (W0 m c) = hv7 (M m c) := tl m c main_v7 (by decide +kernel) (by decide)
    have e0 : harg0 (M m c) = m ((c : Thread nD τ).loc main_arg0) := hd m c main_arg0 (by decide +kernel)
    rw [e, q_hv7, q_hv5, q_hv4, e_hv0, q_hv6, q_hv3, q_hv2, q_hv1, e0]
    have hc := hA.count
    refine congrArg BitVec.ofBool ?_
    refine (congrArg (BitVec.slt (BitVec.ofNat 32 k.val)) hc).trans ?_
    have := k.isLt
    simp only [BitVec.slt, BitVec.toInt, BitVec.toNat_ofNat, decide_eq_decide]
    omega
  gsv := by
    have e : tv13 (W0 m c) = hv13 (M m c) := tl m c main_v13 (by decide +kernel) (by decide)
    have e0 : harg2 (M m c) = m ((c : Thread nD τ).loc main_arg2) := hd m c main_arg2 (by decide +kernel)
    rw [e, q_hv13, q_hv12, q_hv11, e0]
    exact hA.scale
  bg := fun j => by
    have e : tv10 (W0 m c) = hv10 (M m c) := tl m c main_v10 (by decide +kernel) (by decide)
    have e0 : harg1 (M m c) = m ((c : Thread nD τ).loc main_arg1) := hd m c main_arg1 (by decide +kernel)
    rw [e, q_hv10, q_hv9, q_hv8, e0]
    fin_cases j
    · exact hA.back0
    · exact hA.back1
    · exact hA.back2
  row0 := fun k hk => by
    have e : tv17 (W0 m c) = hv17 (M m c) := tl m c main_v17 (by decide +kernel) (by decide)
    rw [e, q_hv17, q_hv16, q_hv15, q_hv14, harg3_eq]
    exact hA.prm 0 k (by decide) hk
  row1 := fun k hk => by
    have e : tv20 (W0 m c) = hv20 (M m c) := tl m c main_v20 (by decide +kernel) (by decide)
    rw [e, q_hv20, q_hv19, q_hv18, q_hv14, harg3_eq]
    exact hA.prm 1 k (by decide) hk
  row2 := fun k hk => by
    have e : tv23 (W0 m c) = hv23 (M m c) := tl m c main_v23 (by decide +kernel) (by decide)
    rw [e, q_hv23, q_hv22, q_hv21, q_hv14, harg3_eq]
    exact hA.prm 2 k (by decide) hk
  row3 := fun k hk => by
    have e : tv26 (W0 m c) = hv26 (M m c) := tl m c main_v26 (by decide +kernel) (by decide)
    rw [e, q_hv26, q_hv25, q_hv24, q_hv14, harg3_eq]
    exact hA.prm 3 k (by decide) hk
  row4 := fun k hk => by
    have e : tv29 (W0 m c) = hv29 (M m c) := tl m c main_v29 (by decide +kernel) (by decide)
    rw [e, q_hv29, q_hv28, q_hv27, q_hv14, harg3_eq]
    exact hA.prm 4 k (by decide) hk
  row5 := fun k hk => by
    have e : tv32 (W0 m c) = hv32 (M m c) := tl m c main_v32 (by decide +kernel) (by decide)
    rw [e, q_hv32, q_hv31, q_hv30, q_hv14, harg3_eq]
    exact hA.prm 5 k (by decide) hk
  col := fun k hk j => by
    have e : tv35 (W0 m c) = hv35 (M m c) := tl m c main_v35 (by decide +kernel) (by decide)
    have e1 : tv38_1 (W0 m c) = (dats m 0 c).arrAt 3 cfg0.N :=
      (onceTail.input (V := W0 m c) (a := main_v38_1) (by decide +kernel)).trans (W0_arr3 m c)
    have e2 := (congrFun e1 (ix3 g (⟨k.val * 4 + j.val, by omega⟩ : Fin 160) l)).trans (arr3 m c g ⟨k.val * 4 + j.val, by omega⟩ l)
    rw [q_tv46, q_tv45, q_tv43, q_tv42, q_tv44, e, q_hv35, q_hv34, q_hv33, q_hv14, harg3_eq]
    refine (congrArg₂ (fun a b : EReal => a * b) e2 (hA.prm 6 k (by decide) hk)).trans ?_
    rw [word7]
    have hj := j.isLt
    have ed : (⟨(k.val * 4 + j.val) / 4, by omega⟩ : Fin 40) = k := Fin.ext (by show (k.val * 4 + j.val) / 4 = k.val; omega)
    have em : (k.val * 4 + j.val) % 4 = j.val := by omega
    have h := hA.code k ⟨j.val, by omega⟩ hj hk
    dsimp only at h ⊢
    rw [ed, em, h, ← EReal.coe_mul]
    rfl
  gr := fun j p => by
    have e1 : tv38_0 (W0 m c) = (dats m 0 c).arrAt 2 cfg0.N :=
      (onceTail.input (V := W0 m c) (a := main_v38_0) (by decide +kernel)).trans (W0_arr2 m c)
    rw [e1]
    refine (arr2 m c g j p l).trans ?_
    rw [V_main_arg5]
    exact hA.g j p
  ft := fun p => by
    have e : targ6 (W0 m c) = m ((c : Thread nD τ).loc main_arg6) :=
      (tl m c main_arg6 (by decide +kernel) (by decide)).trans (hd m c main_arg6 (by decide +kernel))
    rw [q_tv47, e]
    exact hA.ft p
  px := fun p => by
    have e : targ4 (W0 m c) = m ((c : Thread nD τ).loc main_arg4) :=
      (tl m c main_arg4 (by decide +kernel) (by decide)).trans (hd m c main_arg4 (by decide +kernel))
    rw [q_tv65, q_tv63, q_tv60, q_tv59, q_tv58, q_tv64, q_tv62, q_tv61, half_col, e]
    refine (congrArg (· + _) hA.x0).trans ?_
    rw [← EReal.coe_add]
  py := fun p => by
    have e : targ4 (W0 m c) = m ((c : Thread nD τ).loc main_arg4) :=
      (tl m c main_arg4 (by decide +kernel) (by decide)).trans (hd m c main_arg4 (by decide +kernel))
    rw [q_tv73, q_tv71, q_tv68, q_tv67, q_tv66, q_tv72, q_tv70, q_tv69, half_row, e]
    refine (congrArg (· + _) hA.y0).trans ?_
    rw [← EReal.coe_add]

/-- The result after a run, at an entry that counts. -/
theorem array {r : PUnit × MemSt nD τ sig (Elt Ideal)}
    (h : Pipeline.FramePost cfgs (dats m) 0 (Pipeline.afterTail₀ cfgs (dats m) 0 (V0 m) [hostOps1, hostOps1_1, hostOps1_2, hostOps1_3, hostOps1_4]) r)
    {D : Lane} {kg : ℕ} {gs : ℝ} {b : ℕ → ℝ} {g : Fin 675} {l : Fin 128} (hle : kg ≤ 40)
    (hA : AtR m c D kg gs (b 0) (b 1) (b 2) g l) (hlt : Cert.KernelIdeal.Run.Lets D kg) (q : Fin 9) (k : Fin 40) (hk : k.val < kg) :
    (r.2.mem ((c.tc : Thread nD τ).loc main_v237) : FVec Ideal S675x9x40x128 .f32) (ix4 g q k l)
      = ((∑ p ∈ range 256, D.summand kg gs b k.val q.val p : ℝ) : EReal) := by
  rw [result m c h]
  exact (refIn m c hle hA hlt).out hk q

end Cert.ReferenceIdeal.Val
end
end
-- ==== Proof.Value.lean ====
/- The value claim: the kernel's and the reference's gradients are the same reals, at every entry that counts. -/
module

public import proofs.«01_k».proof.Defs
public import proofs.«01_k».proof.Proof.Arr
public import proofs.«01_k».proof.Proof.Fold
public import proofs.«01_k».proof.Proof.Fits
public import proofs.«01_k».proof.Proof.OkPre
public import proofs.«01_k».proof.Proof.RefRun
public import Idealize.ShloMosaic.Lib.Claim

@[expose] public section

set_option maxRecDepth 65536

noncomputable section

namespace Cert.Proof

open Idealize.ShloMosaic Idealize.ShloMosaic.TcCoe Idealize.ShloMosaic.Tactic Idealize.SL.Sem
open Cert.KernelIdeal Cert.Splat Finset

/-- The buffers of the kernel before its run. -/
abbrev Mem : Type := (ℓ : Loc nD τ sig) → Buf (Elt Ideal) ℓ

variable [Cert.Pre_blocks_valid.Facts] [Cert.On_entries_counted.Facts]

section

variable (m : Mem) (c : Dev nD)

abbrev a0 : IVec S720 32 := m ((c : Thread nD τ).loc main_arg0)
abbrev a1 : FVec Ideal S9x3 .f32 := m ((c : Thread nD τ).loc main_arg1)
abbrev a2 : FVec Ideal S9 .f32 := m ((c : Thread nD τ).loc main_arg2)
abbrev a3 : IVec S675x8x40x128 32 := m ((c : Thread nD τ).loc main_arg3)
abbrev a4 : FVec Ideal S675x2x128 .f32 := m ((c : Thread nD τ).loc main_arg4)
abbrev a5 : IVec S675x3x64x128 32 := m ((c : Thread nD τ).loc main_arg5)
abbrev a6 : IVec S675x256x128 32 := m ((c : Thread nD τ).loc main_arg6)

/-- A group's image. -/
def img (t : Fin 675) : Fin 9 := ⟨t.val / 75, by omega⟩

/-- The block of a group and a lane, in the reals. -/
def blk (t : Fin 675) (l : Fin 128) : Lane :=
  lane (fun j => a1 m c (ix2 (img t) j)) (fun j k => a3 m c (ix4 t j k l)) (fun j => a4 m c (ix3 t j l))
    (fun j w => a5 m c (ix4 t j w l)) (fun p => a6 m c (ix3 t p l))

/-- A group's count. -/
def num (t : Fin 675) : ℕ := Cert.Pre_blocks_valid.cnt (a0 m c) t

/-- An image's scale and background, in the reals. -/
def scl (t : Fin 675) : ℝ := (a2 m c (ix1 (img t))).toReal
def bck (t : Fin 675) (j : ℕ) : ℝ := (a1 m c (ix2 (img t) (Fin.ofNat 3 j))).toReal

/-- The result: the gradient of a quantity of an entry, summed over its block's pixels. -/
def value : FVec Ideal S675x9x40x128 .f32 := fun i =>
  ((∑ p ∈ range 256, (blk m c (i 0) (i 3)).summand (num m c (i 0)) (scl m c (i 0)) (bck m c (i 0)) (i 2).val (i 1).val p : ℝ) : EReal)

variable {m} (H : Pre_KernelIdeal_blocks_valid m)
include H

theorem holds : Cert.Pre_blocks_valid.Holds (a0 m c) (a1 m c) (a2 m c) (a3 m c) (a4 m c) (a5 m c) (a6 m c) := H c

theorem num_le (t : Fin 675) : num m c t ≤ 40 := Cert.Pre_blocks_valid.cnt_le (holds c H) t

theorem word (t : Fin 675) : a0 m c (ix1 ⟨t.val / 15 * 16 + t.val % 15, by omega⟩) = BitVec.ofNat 32 (num m c t) := by
  simp [num, Cert.Pre_blocks_valid.cnt]

theorem at_words (t : Fin 675) (l : Fin 128) :
    At (blk m c t l) (num m c t) (scl m c t) (bck m c t 0) (bck m c t 1) (bck m c t 2)
      (a0 m c (ix1 ⟨t.val / 15 * 16 + t.val % 15, by omega⟩)) (a2 m c (ix1 (img t))) (fun j => a1 m c (ix2 (img t) j))
      (fun j k => a3 m c (ix4 t j k l)) (fun j => a4 m c (ix3 t j l)) (fun j w => a5 m c (ix4 t j w l)) (fun p => a6 m c (ix3 t p l)) := by
  rw [word c H t]
  exact (Cert.Pre_blocks_valid.ok (holds c H) t l (img t)).at_

theorem lets (t : Fin 675) (l : Fin 128) : Cert.KernelIdeal.Run.Lets (blk m c t l) (num m c t) :=
  (Cert.Pre_blocks_valid.ok (holds c H) t l (img t)).lets

theorem counts : Cert.KernelIdeal.Run.Counts m :=
  Cert.KernelIdeal.Run.counts_of_fits m fun c j hj => by
    have := Cert.Pre_blocks_valid.count_le (holds c H) (j 0) hj
    rwa [show (ix1 (j 0) : S720.Idx) = j from funext fun a => by fin_cases a; rfl] at this

/-- An entry of the result that is looked at is below its block's count. -/
theorem live_of (i : S675x9x40x128.Idx)
    (h : Cert.On_entries_counted.fn (F := Ideal) (a0 m c) (a1 m c) (a2 m c) (a3 m c) (a4 m c) (a5 m c) (a6 m c) i = 1#1) :
    (i 2).val < num m c (i 0) := by
  have e : i = ix4 (i 0) (i 1) (i 2) (i 3) := funext fun a => by fin_cases a <;> rfl
  rw [e] at h
  have h' := (Cert.On_entries_counted.at_ix (a0 m c) (a1 m c) (a2 m c) (a3 m c) (a4 m c) (a5 m c) (a6 m c) (i 0) (i 1) (i 2) (i 3)).symm.trans h
  exact Cert.Pre_blocks_valid.of_ofBool ((Cert.Pre_blocks_valid.live_iff (holds c H) (i 0) (i 2)).symm.trans h')

theorem kernel_value {r : PUnit × MemSt nD τ sig (Elt Ideal)}
    (h : Pipeline.RDat.FramePost (cfgs 0) (Run.rdat m (counts H)) (Gen.V m) r) (i : S675x9x40x128.Idx) (hi : (i 2).val < num m c (i 0)) :
    r.2.mem ((c : Thread nD τ).loc main_v0) i = value m c i := by
  have e : i = ix4 (i 0) (i 1) (i 2) (i 3) := funext fun a => by fin_cases a <;> rfl
  have ha := Run.array m (counts H) h c (blk m c) (fun t => ⟨num m c t, Nat.lt_succ_of_le (num_le c H t)⟩) (scl m c)
    (fun t => bck m c t 0) (fun t => bck m c t 1) (fun t => bck m c t 2) (at_words c H) (lets c H) (i 0) (i 1) (i 2) (i 3) hi
  refine (congrArg (r.2.mem ((c : Thread nD τ).loc main_v0)) e).trans (ha.trans (congrArg _ ?_))
  exact Lane.out_eq (D := blk m c (i 0) (i 3)) (num_le c H (i 0)) (scl m c (i 0)) (bck m c (i 0)) (fun _ _ => rfl) hi (i 1).val (i 1).isLt

end

/-- The arguments' words of the reference are the kernel's. -/
abbrev Same (m : Mem) (m' : (ℓ : Loc Cert.ReferenceIdeal.nD Cert.ReferenceIdeal.τ Cert.ReferenceIdeal.sig) → Buf (Elt Ideal) ℓ)
    (c : Dev nD) : Prop :=
  m' ((c : Thread Cert.ReferenceIdeal.nD Cert.ReferenceIdeal.τ).loc Cert.ReferenceIdeal.main_arg0) = a0 m c
    ∧ m' ((c : Thread Cert.ReferenceIdeal.nD Cert.ReferenceIdeal.τ).loc Cert.ReferenceIdeal.main_arg1) = a1 m c
    ∧ m' ((c : Thread Cert.ReferenceIdeal.nD Cert.ReferenceIdeal.τ).loc Cert.ReferenceIdeal.main_arg2) = a2 m c
    ∧ m' ((c : Thread Cert.ReferenceIdeal.nD Cert.ReferenceIdeal.τ).loc Cert.ReferenceIdeal.main_arg3) = a3 m c
    ∧ m' ((c : Thread Cert.ReferenceIdeal.nD Cert.ReferenceIdeal.τ).loc Cert.ReferenceIdeal.main_arg4) = a4 m c
    ∧ m' ((c : Thread Cert.ReferenceIdeal.nD Cert.ReferenceIdeal.τ).loc Cert.ReferenceIdeal.main_arg5) = a5 m c
    ∧ m' ((c : Thread Cert.ReferenceIdeal.nD Cert.ReferenceIdeal.τ).loc Cert.ReferenceIdeal.main_arg6) = a6 m c

theorem reference_value {m : Mem} (H : Pre_KernelIdeal_blocks_valid m)
    (m' : (ℓ : Loc Cert.ReferenceIdeal.nD Cert.ReferenceIdeal.τ Cert.ReferenceIdeal.sig) → Buf (Elt Ideal) ℓ) (c : Dev nD) (hm : Same m m' c)
    {r : PUnit × MemSt Cert.ReferenceIdeal.nD Cert.ReferenceIdeal.τ Cert.ReferenceIdeal.sig (Elt Ideal)}
    (h : Pipeline.FramePost Cert.ReferenceIdeal.cfgs (Cert.ReferenceIdeal.Gen.dats m') 0
      (Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2,
          Cert.ReferenceIdeal.Gen.hostOps1_3, Cert.ReferenceIdeal.Gen.hostOps1_4]) r)
    (i : S675x9x40x128.Idx) (hi : (i 2).val < num m c (i 0)) :
    r.2.mem ((c.tc : Thread Cert.ReferenceIdeal.nD Cert.ReferenceIdeal.τ).loc Cert.ReferenceIdeal.main_v237) i = value m c i := by
  have e : i = ix4 (i 0) (i 1) (i 2) (i 3) := funext fun a => by fin_cases a <;> rfl
  obtain ⟨h0, h1, h2, h3, h4, h5, h6⟩ := hm
  have hA : Cert.ReferenceIdeal.Val.AtR m' c (blk m c (i 0) (i 3)) (num m c (i 0)) (scl m c (i 0)) (bck m c (i 0) 0) (bck m c (i 0) 1)
      (bck m c (i 0) 2) (i 0) (i 3) := by
    unfold Cert.ReferenceIdeal.Val.AtR
    rw [h0, h1, h2, h3, h4, h5, h6]
    exact at_words c H (i 0) (i 3)
  have ha := Cert.ReferenceIdeal.Val.array m' c h (b := bck m c (i 0)) (num_le c H (i 0)) hA (lets c H (i 0) (i 3)) (i 1) (i 2) hi
  exact (congrArg (r.2.mem ((c.tc : Thread Cert.ReferenceIdeal.nD Cert.ReferenceIdeal.τ).loc Cert.ReferenceIdeal.main_v237)) e).trans ha

theorem algebraic [Cert.KernelIdeal.Facts] [Cert.ReferenceIdeal.Facts] :
    algebraic_KernelIdeal_ReferenceIdeal_on_entries_counted_pre_blocks_valid := by
  intro m g m' g' H hm
  refine ⟨fun c => value m c, ?_, ?_⟩
  · refine (θ_run _ _ _).mono (fun r hr c => ⟨fun i hi => ?_, Run.unchanged m (counts H) r hr.1 c⟩) (Run.run_main m g (counts H))
    exact kernel_value c H hr.1 i (live_of c H i hi)
  · refine (θ_run _ _ _).mono (fun r hr c => ⟨fun i hi => ?_, hr.2 c⟩)
      (θ_run_and (Cert.ReferenceIdeal.Gen.run_main m' g') (Cert.ReferenceIdeal.Gen.unchanged m' g'))
    exact reference_value H m' c (hm c) hr.1 i (live_of c H i hi)

end Cert.Proof
end
end
-- ==== Proof.lean ====
/- The claims of the certificate, from the run of the kernel on both readings of floats and the run of the reference. -/
module

public import proofs.«01_k».proof.Defs
public import proofs.«01_k».proof.Proof.Fits
public import proofs.«01_k».proof.Proof.Value
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

theorem frame_bits : quiescent_Kernel := fun m g h =>
  Cert.Kernel.Run.frame_run m g (Cert.Kernel.Run.counts_of_fits m fun c => fits_of_pre _ _ _ _ _ _ _ (h c))

theorem frame_ideal : quiescent_KernelIdeal := fun m g h =>
  Cert.KernelIdeal.Run.frame_run m g (Cert.KernelIdeal.Run.counts_of_fits m fun c => fits_of_pre _ _ _ _ _ _ _ (h c))

theorem frame_ideal_valid : quiescent_KernelIdeal_pre_blocks_valid := fun m g h =>
  Cert.KernelIdeal.Run.frame_run m g (counts h)

theorem claim : Cert.Claim :=
  ⟨_, _, _, _, _, _, frame_bits, frame_ideal, frame_ideal_valid, fun m g _ => Cert.ReferenceIdeal.Gen.frame m g,
    fun m g _ => Cert.ReferenceIdeal.Gen.frame m g, trivial, algebraic⟩

end Cert.Proof
